-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_InQk (m : (ℓ : Loc Cert.InQk.nD Cert.InQk.τ Cert.InQk.sig) → Buf (Elt Bits) ℓ) : Prop :=
  True

def Pre_InQkIdeal (m : (ℓ : Loc Cert.InQkIdeal.nD Cert.InQkIdeal.τ Cert.InQkIdeal.sig) → Buf (Elt Ideal) ℓ) : Prop :=
  True

def Pre_InQkRefIdeal (m : (ℓ : Loc Cert.InQkRefIdeal.nD Cert.InQkRefIdeal.τ Cert.InQkRefIdeal.sig) → Buf (Elt Ideal) ℓ) : Prop :=
  True

def Pre_InV (m : (ℓ : Loc Cert.InV.nD Cert.InV.τ Cert.InV.sig) → Buf (Elt Bits) ℓ) : Prop :=
  True

def Pre_InVIdeal (m : (ℓ : Loc Cert.InVIdeal.nD Cert.InVIdeal.τ Cert.InVIdeal.sig) → Buf (Elt Ideal) ℓ) : Prop :=
  True

def Pre_InVRefIdeal (m : (ℓ : Loc Cert.InVRefIdeal.nD Cert.InVRefIdeal.τ Cert.InVRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_DsaOut (m : (ℓ : Loc Cert.DsaOut.nD Cert.DsaOut.τ Cert.DsaOut.sig) → Buf (Elt Bits) ℓ) : Prop :=
  True

def Pre_DsaOutIdeal (m : (ℓ : Loc Cert.DsaOutIdeal.nD Cert.DsaOutIdeal.τ Cert.DsaOutIdeal.sig) → Buf (Elt Ideal) ℓ) : Prop :=
  True

def Pre_DsaOutRefIdeal (m : (ℓ : Loc Cert.DsaOutRefIdeal.nD Cert.DsaOutRefIdeal.τ Cert.DsaOutRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def Pre_KeptRows (m : (ℓ : Loc Cert.KeptRows.nD Cert.KeptRows.τ Cert.KeptRows.sig) → Buf (Elt Bits) ℓ) : Prop :=
  True

def Pre_KeptRowsIdeal (m : (ℓ : Loc Cert.KeptRowsIdeal.nD Cert.KeptRowsIdeal.τ Cert.KeptRowsIdeal.sig) → Buf (Elt Ideal) ℓ) : Prop :=
  True

def Pre_KeptRowsRefIdeal (m : (ℓ : Loc Cert.KeptRowsRefIdeal.nD Cert.KeptRowsRefIdeal.τ Cert.KeptRowsRefIdeal.sig) → Buf (Elt Ideal) ℓ) : Prop :=
  True

def Pre_PrepS (m : (ℓ : Loc Cert.PrepS.nD Cert.PrepS.τ Cert.PrepS.sig) → Buf (Elt Bits) ℓ) : Prop :=
  True

def Pre_PrepSIdeal (m : (ℓ : Loc Cert.PrepSIdeal.nD Cert.PrepSIdeal.τ Cert.PrepSIdeal.sig) → Buf (Elt Ideal) ℓ) : Prop :=
  True

def Pre_PrepSRefIdeal (m : (ℓ : Loc Cert.PrepSRefIdeal.nD Cert.PrepSRefIdeal.τ Cert.PrepSRefIdeal.sig) → Buf (Elt Ideal) ℓ) : Prop :=
  True

def Pre_PrepP (m : (ℓ : Loc Cert.PrepP.nD Cert.PrepP.τ Cert.PrepP.sig) → Buf (Elt Bits) ℓ) : Prop :=
  True

def Pre_PrepPIdeal (m : (ℓ : Loc Cert.PrepPIdeal.nD Cert.PrepPIdeal.τ Cert.PrepPIdeal.sig) → Buf (Elt Ideal) ℓ) : Prop :=
  True

def Pre_PrepPRefIdeal (m : (ℓ : Loc Cert.PrepPRefIdeal.nD Cert.PrepPRefIdeal.τ Cert.PrepPRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3)
      ∧ r.2.mem ((c.tc : Thread Cert.GdnOutRefIdeal.nD Cert.GdnOutRefIdeal.τ).loc Cert.GdnOutRefIdeal.main_arg4) = m ((c.tc : Thread Cert.GdnOutRefIdeal.nD Cert.GdnOutRefIdeal.τ).loc Cert.GdnOutRefIdeal.main_arg4))
      ∧ r.2.sem = fun _ => 0)

def quiescent_InQk [hInQk : Cert.InQk.Facts] : Prop :=
  ∀ (m : (ℓ : Loc Cert.InQk.nD Cert.InQk.τ Cert.InQk.sig) → Buf (Elt Bits) ℓ) (g : Dev Cert.InQk.nD → PrngReg), Pre_InQk m →
    θ_run (Cert.InQk.defs (F := Bits)) (onTc (τ := Cert.InQk.τ) (Cert.InQk.main (F := Bits))) ⟨m, fun _ => 0, g⟩ (fun r => (∀ c : Dev Cert.InQk.nD,
      r.2.mem ((c.tc : Thread Cert.InQk.nD Cert.InQk.τ).loc Cert.InQk.main_arg0) = m ((c.tc : Thread Cert.InQk.nD Cert.InQk.τ).loc Cert.InQk.main_arg0)
      ∧ r.2.mem ((c.tc : Thread Cert.InQk.nD Cert.InQk.τ).loc Cert.InQk.main_arg1) = m ((c.tc : Thread Cert.InQk.nD Cert.InQk.τ).loc Cert.InQk.main_arg1)
      ∧ r.2.mem ((c.tc : Thread Cert.InQk.nD Cert.InQk.τ).loc Cert.InQk.main_arg2) = m ((c.tc : Thread Cert.InQk.nD Cert.InQk.τ).loc Cert.InQk.main_arg2)
      ∧ r.2.mem ((c.tc : Thread Cert.InQk.nD Cert.InQk.τ).loc Cert.InQk.main_arg3) = m ((c.tc : Thread Cert.InQk.nD Cert.InQk.τ).loc Cert.InQk.main_arg3)
      ∧ r.2.mem ((c.tc : Thread Cert.InQk.nD Cert.InQk.τ).loc Cert.InQk.main_arg4) = m ((c.tc : Thread Cert.InQk.nD Cert.InQk.τ).loc Cert.InQk.main_arg4)
      ∧ r.2.mem ((c.tc : Thread Cert.InQk.nD Cert.InQk.τ).loc Cert.InQk.main_arg5) = m ((c.tc : Thread Cert.InQk.nD Cert.InQk.τ).loc Cert.InQk.main_arg5))
      ∧ r.2.sem = fun _ => 0)

def quiescent_InQkIdeal [hInQkIdeal : Cert.InQkIdeal.Facts] : Prop :=
  ∀ (m : (ℓ : Loc Cert.InQkIdeal.nD Cert.InQkIdeal.τ Cert.InQkIdeal.sig) → Buf (Elt Ideal) ℓ) (g : Dev Cert.InQkIdeal.nD → PrngReg), Pre_InQkIdeal m →
    θ_run (Cert.InQkIdeal.defs (F := Ideal)) (onTc (τ := Cert.InQkIdeal.τ) (Cert.InQkIdeal.main (F := Ideal))) ⟨m, fun _ => 0, g⟩ (fun r => (∀ c : Dev Cert.InQkIdeal.nD,
      r.2.mem ((c.tc : Thread Cert.InQkIdeal.nD Cert.InQkIdeal.τ).loc Cert.InQkIdeal.main_arg0) = m ((c.tc : Thread Cert.InQkIdeal.nD Cert.InQkIdeal.τ).loc Cert.InQkIdeal.main_arg0)
      ∧ r.2.mem ((c.tc : Thread Cert.InQkIdeal.nD Cert.InQkIdeal.τ).loc Cert.InQkIdeal.main_arg1) = m ((c.tc : Thread Cert.InQkIdeal.nD Cert.InQkIdeal.τ).loc Cert.InQkIdeal.main_arg1)
      ∧ r.2.mem ((c.tc : Thread Cert.InQkIdeal.nD Cert.InQkIdeal.τ).loc Cert.InQkIdeal.main_arg2) = m ((c.tc : Thread Cert.InQkIdeal.nD Cert.InQkIdeal.τ).loc Cert.InQkIdeal.main_arg2)
      ∧ r.2.mem ((c.tc : Thread Cert.InQkIdeal.nD Cert.InQkIdeal.τ).loc Cert.InQkIdeal.main_arg3) = m ((c.tc : Thread Cert.InQkIdeal.nD Cert.InQkIdeal.τ).loc Cert.InQkIdeal.main_arg3)
      ∧ r.2.mem ((c.tc : Thread Cert.InQkIdeal.nD Cert.InQkIdeal.τ).loc Cert.InQkIdeal.main_arg4) = m ((c.tc : Thread Cert.InQkIdeal.nD Cert.InQkIdeal.τ).loc Cert.InQkIdeal.main_arg4)
      ∧ r.2.mem ((c.tc : Thread Cert.InQkIdeal.nD Cert.InQkIdeal.τ).loc Cert.InQkIdeal.main_arg5) = m ((c.tc : Thread Cert.InQkIdeal.nD Cert.InQkIdeal.τ).loc Cert.InQkIdeal.main_arg5))
      ∧ r.2.sem = fun _ => 0)

def quiescent_InQkRefIdeal [hInQkRefIdeal : Cert.InQkRefIdeal.Facts] : Prop :=
  ∀ (m : (ℓ : Loc Cert.InQkRefIdeal.nD Cert.InQkRefIdeal.τ Cert.InQkRefIdeal.sig) → Buf (Elt Ideal) ℓ) (g : Dev Cert.InQkRefIdeal.nD → PrngReg), Pre_InQkRefIdeal m →
    θ_run (Cert.InQkRefIdeal.defs (F := Ideal)) (onTc (τ := Cert.InQkRefIdeal.τ) (Cert.InQkRefIdeal.main (F := Ideal))) ⟨m, fun _ => 0, g⟩ (fun r => (∀ c : Dev Cert.InQkRefIdeal.nD,
      r.2.mem ((c.tc : Thread Cert.InQkRefIdeal.nD Cert.InQkRefIdeal.τ).loc Cert.InQkRefIdeal.main_arg0) = m ((c.tc : Thread Cert.InQkRefIdeal.nD Cert.InQkRefIdeal.τ).loc Cert.InQkRefIdeal.main_arg0)
      ∧ r.2.mem ((c.tc : Thread Cert.InQkRefIdeal.nD Cert.InQkRefIdeal.τ).loc Cert.InQkRefIdeal.main_arg1) = m ((c.tc : Thread Cert.InQkRefIdeal.nD Cert.InQkRefIdeal.τ).loc Cert.InQkRefIdeal.main_arg1)
      ∧ r.2.mem ((c.tc : Thread Cert.InQkRefIdeal.nD Cert.InQkRefIdeal.τ).loc Cert.InQkRefIdeal.main_arg2) = m ((c.tc : Thread Cert.InQkRefIdeal.nD Cert.InQkRefIdeal.τ).loc Cert.InQkRefIdeal.main_arg2)
      ∧ r.2.mem ((c.tc : Thread Cert.InQkRefIdeal.nD Cert.InQkRefIdeal.τ).loc Cert.InQkRefIdeal.main_arg3) = m ((c.tc : Thread Cert.InQkRefIdeal.nD Cert.InQkRefIdeal.τ).loc Cert.InQkRefIdeal.main_arg3)
      ∧ r.2.mem ((c.tc : Thread Cert.InQkRefIdeal.nD Cert.InQkRefIdeal.τ).loc Cert.InQkRefIdeal.main_arg4) = m ((c.tc : Thread Cert.InQkRefIdeal.nD Cert.InQkRefIdeal.τ).loc Cert.InQkRefIdeal.main_arg4)
      ∧ r.2.mem ((c.tc : Thread Cert.InQkRefIdeal.nD Cert.InQkRefIdeal.τ).loc Cert.InQkRefIdeal.main_arg5) = m ((c.tc : Thread Cert.InQkRefIdeal.nD Cert.InQkRefIdeal.τ).loc Cert.InQkRefIdeal.main_arg5))
      ∧ r.2.sem = fun _ => 0)

def quiescent_InV [hInV : Cert.InV.Facts] : Prop :=
  ∀ (m : (ℓ : Loc Cert.InV.nD Cert.InV.τ Cert.InV.sig) → Buf (Elt Bits) ℓ) (g : Dev Cert.InV.nD → PrngReg), Pre_InV m →
    θ_run (Cert.InV.defs (F := Bits)) (onTc (τ := Cert.InV.τ) (Cert.InV.main (F := Bits))) ⟨m, fun _ => 0, g⟩ (fun r => (∀ c : Dev Cert.InV.nD,
      r.2.mem ((c.tc : Thread Cert.InV.nD Cert.InV.τ).loc Cert.InV.main_arg0) = m ((c.tc : Thread Cert.InV.nD Cert.InV.τ).loc Cert.InV.main_arg0)
      ∧ r.2.mem ((c.tc : Thread Cert.InV.nD Cert.InV.τ).loc Cert.InV.main_arg1) = m ((c.tc : Thread Cert.InV.nD Cert.InV.τ).loc Cert.InV.main_arg1)
      ∧ r.2.mem ((c.tc : Thread Cert.InV.nD Cert.InV.τ).loc Cert.InV.main_arg2) = m ((c.tc : Thread Cert.InV.nD Cert.InV.τ).loc Cert.InV.main_arg2)
      ∧ r.2.mem ((c.tc : Thread Cert.InV.nD Cert.InV.τ).loc Cert.InV.main_arg3) = m ((c.tc : Thread Cert.InV.nD Cert.InV.τ).loc Cert.InV.main_arg3)
      ∧ r.2.mem ((c.tc : Thread Cert.InV.nD Cert.InV.τ).loc Cert.InV.main_arg4) = m ((c.tc : Thread Cert.InV.nD Cert.InV.τ).loc Cert.InV.main_arg4)
      ∧ r.2.mem ((c.tc : Thread Cert.InV.nD Cert.InV.τ).loc Cert.InV.main_arg5) = m ((c.tc : Thread Cert.InV.nD Cert.InV.τ).loc Cert.InV.main_arg5))
      ∧ r.2.sem = fun _ => 0)

def quiescent_InVIdeal [hInVIdeal : Cert.InVIdeal.Facts] : Prop :=
  ∀ (m : (ℓ : Loc Cert.InVIdeal.nD Cert.InVIdeal.τ Cert.InVIdeal.sig) → Buf (Elt Ideal) ℓ) (g : Dev Cert.InVIdeal.nD → PrngReg), Pre_InVIdeal m →
    θ_run (Cert.InVIdeal.defs (F := Ideal)) (onTc (τ := Cert.InVIdeal.τ) (Cert.InVIdeal.main (F := Ideal))) ⟨m, fun _ => 0, g⟩ (fun r => (∀ c : Dev Cert.InVIdeal.nD,
      r.2.mem ((c.tc : Thread Cert.InVIdeal.nD Cert.InVIdeal.τ).loc Cert.InVIdeal.main_arg0) = m ((c.tc : Thread Cert.InVIdeal.nD Cert.InVIdeal.τ).loc Cert.InVIdeal.main_arg0)
      ∧ r.2.mem ((c.tc : Thread Cert.InVIdeal.nD Cert.InVIdeal.τ).loc Cert.InVIdeal.main_arg1) = m ((c.tc : Thread Cert.InVIdeal.nD Cert.InVIdeal.τ).loc Cert.InVIdeal.main_arg1)
      ∧ r.2.mem ((c.tc : Thread Cert.InVIdeal.nD Cert.InVIdeal.τ).loc Cert.InVIdeal.main_arg2) = m ((c.tc : Thread Cert.InVIdeal.nD Cert.InVIdeal.τ).loc Cert.InVIdeal.main_arg2)
      ∧ r.2.mem ((c.tc : Thread Cert.InVIdeal.nD Cert.InVIdeal.τ).loc Cert.InVIdeal.main_arg3) = m ((c.tc : Thread Cert.InVIdeal.nD Cert.InVIdeal.τ).loc Cert.InVIdeal.main_arg3)
      ∧ r.2.mem ((c.tc : Thread Cert.InVIdeal.nD Cert.InVIdeal.τ).loc Cert.InVIdeal.main_arg4) = m ((c.tc : Thread Cert.InVIdeal.nD Cert.InVIdeal.τ).loc Cert.InVIdeal.main_arg4)
      ∧ r.2.mem ((c.tc : Thread Cert.InVIdeal.nD Cert.InVIdeal.τ).loc Cert.InVIdeal.main_arg5) = m ((c.tc : Thread Cert.InVIdeal.nD Cert.InVIdeal.τ).loc Cert.InVIdeal.main_arg5))
      ∧ r.2.sem = fun _ => 0)

def quiescent_InVRefIdeal [hInVRefIdeal : Cert.InVRefIdeal.Facts] : Prop :=
  ∀ (m : (ℓ : Loc Cert.InVRefIdeal.nD Cert.InVRefIdeal.τ Cert.InVRefIdeal.sig) → Buf (Elt Ideal) ℓ) (g : Dev Cert.InVRefIdeal.nD → PrngReg), Pre_InVRefIdeal m →
    θ_run (Cert.InVRefIdeal.defs (F := Ideal)) (onTc (τ := Cert.InVRefIdeal.τ) (Cert.InVRefIdeal.main (F := Ideal))) ⟨m, fun _ => 0, g⟩ (fun r => (∀ c : Dev Cert.InVRefIdeal.nD,
      r.2.mem ((c.tc : Thread Cert.InVRefIdeal.nD Cert.InVRefIdeal.τ).loc Cert.InVRefIdeal.main_arg0) = m ((c.tc : Thread Cert.InVRefIdeal.nD Cert.InVRefIdeal.τ).loc Cert.InVRefIdeal.main_arg0)
      ∧ r.2.mem ((c.tc : Thread Cert.InVRefIdeal.nD Cert.InVRefIdeal.τ).loc Cert.InVRefIdeal.main_arg1) = m ((c.tc : Thread Cert.InVRefIdeal.nD Cert.InVRefIdeal.τ).loc Cert.InVRefIdeal.main_arg1)
      ∧ r.2.mem ((c.tc : Thread Cert.InVRefIdeal.nD Cert.InVRefIdeal.τ).loc Cert.InVRefIdeal.main_arg2) = m ((c.tc : Thread Cert.InVRefIdeal.nD Cert.InVRefIdeal.τ).loc Cert.InVRefIdeal.main_arg2)
      ∧ r.2.mem ((c.tc : Thread Cert.InVRefIdeal.nD Cert.InVRefIdeal.τ).loc Cert.InVRefIdeal.main_arg3) = m ((c.tc : Thread Cert.InVRefIdeal.nD Cert.InVRefIdeal.τ).loc Cert.InVRefIdeal.main_arg3)
      ∧ r.2.mem ((c.tc : Thread Cert.InVRefIdeal.nD Cert.InVRefIdeal.τ).loc Cert.InVRefIdeal.main_arg4) = m ((c.tc : Thread Cert.InVRefIdeal.nD Cert.InVRefIdeal.τ).loc Cert.InVRefIdeal.main_arg4)
      ∧ r.2.mem ((c.tc : Thread Cert.InVRefIdeal.nD Cert.InVRefIdeal.τ).loc Cert.InVRefIdeal.main_arg5) = m ((c.tc : Thread Cert.InVRefIdeal.nD Cert.InVRefIdeal.τ).loc Cert.InVRefIdeal.main_arg5))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1)
      ∧ r.2.mem ((c.tc : Thread Cert.InZ.nD Cert.InZ.τ).loc Cert.InZ.main_arg2) = m ((c.tc : Thread Cert.InZ.nD Cert.InZ.τ).loc Cert.InZ.main_arg2)
      ∧ r.2.mem ((c.tc : Thread Cert.InZ.nD Cert.InZ.τ).loc Cert.InZ.main_arg3) = m ((c.tc : Thread Cert.InZ.nD Cert.InZ.τ).loc Cert.InZ.main_arg3)
      ∧ r.2.mem ((c.tc : Thread Cert.InZ.nD Cert.InZ.τ).loc Cert.InZ.main_arg4) = m ((c.tc : Thread Cert.InZ.nD Cert.InZ.τ).loc Cert.InZ.main_arg4)
      ∧ r.2.mem ((c.tc : Thread Cert.InZ.nD Cert.InZ.τ).loc Cert.InZ.main_arg5) = m ((c.tc : Thread Cert.InZ.nD Cert.InZ.τ).loc Cert.InZ.main_arg5))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1)
      ∧ r.2.mem ((c.tc : Thread Cert.InZIdeal.nD Cert.InZIdeal.τ).loc Cert.InZIdeal.main_arg2) = m ((c.tc : Thread Cert.InZIdeal.nD Cert.InZIdeal.τ).loc Cert.InZIdeal.main_arg2)
      ∧ r.2.mem ((c.tc : Thread Cert.InZIdeal.nD Cert.InZIdeal.τ).loc Cert.InZIdeal.main_arg3) = m ((c.tc : Thread Cert.InZIdeal.nD Cert.InZIdeal.τ).loc Cert.InZIdeal.main_arg3)
      ∧ r.2.mem ((c.tc : Thread Cert.InZIdeal.nD Cert.InZIdeal.τ).loc Cert.InZIdeal.main_arg4) = m ((c.tc : Thread Cert.InZIdeal.nD Cert.InZIdeal.τ).loc Cert.InZIdeal.main_arg4)
      ∧ r.2.mem ((c.tc : Thread Cert.InZIdeal.nD Cert.InZIdeal.τ).loc Cert.InZIdeal.main_arg5) = m ((c.tc : Thread Cert.InZIdeal.nD Cert.InZIdeal.τ).loc Cert.InZIdeal.main_arg5))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1)
      ∧ r.2.mem ((c.tc : Thread Cert.InZRefIdeal.nD Cert.InZRefIdeal.τ).loc Cert.InZRefIdeal.main_arg2) = m ((c.tc : Thread Cert.InZRefIdeal.nD Cert.InZRefIdeal.τ).loc Cert.InZRefIdeal.main_arg2)
      ∧ r.2.mem ((c.tc : Thread Cert.InZRefIdeal.nD Cert.InZRefIdeal.τ).loc Cert.InZRefIdeal.main_arg3) = m ((c.tc : Thread Cert.InZRefIdeal.nD Cert.InZRefIdeal.τ).loc Cert.InZRefIdeal.main_arg3)
      ∧ r.2.mem ((c.tc : Thread Cert.InZRefIdeal.nD Cert.InZRefIdeal.τ).loc Cert.InZRefIdeal.main_arg4) = m ((c.tc : Thread Cert.InZRefIdeal.nD Cert.InZRefIdeal.τ).loc Cert.InZRefIdeal.main_arg4)
      ∧ r.2.mem ((c.tc : Thread Cert.InZRefIdeal.nD Cert.InZRefIdeal.τ).loc Cert.InZRefIdeal.main_arg5) = m ((c.tc : Thread Cert.InZRefIdeal.nD Cert.InZRefIdeal.τ).loc Cert.InZRefIdeal.main_arg5))
      ∧ r.2.sem = fun _ => 0)

def quiescent_DsaOut [hDsaOut : Cert.DsaOut.Facts] : Prop :=
  ∀ (m : (ℓ : Loc Cert.DsaOut.nD Cert.DsaOut.τ Cert.DsaOut.sig) → Buf (Elt Bits) ℓ) (g : Dev Cert.DsaOut.nD → PrngReg), Pre_DsaOut m →
    θ_run (Cert.DsaOut.defs (F := Bits)) (onTc (τ := Cert.DsaOut.τ) (Cert.DsaOut.main (F := Bits))) ⟨m, fun _ => 0, g⟩ (fun r => (∀ c : Dev Cert.DsaOut.nD,
      r.2.mem ((c.tc : Thread Cert.DsaOut.nD Cert.DsaOut.τ).loc Cert.DsaOut.main_arg0) = m ((c.tc : Thread Cert.DsaOut.nD Cert.DsaOut.τ).loc Cert.DsaOut.main_arg0)
      ∧ r.2.mem ((c.tc : Thread Cert.DsaOut.nD Cert.DsaOut.τ).loc Cert.DsaOut.main_arg1) = m ((c.tc : Thread Cert.DsaOut.nD Cert.DsaOut.τ).loc Cert.DsaOut.main_arg1)
      ∧ r.2.mem ((c.tc : Thread Cert.DsaOut.nD Cert.DsaOut.τ).loc Cert.DsaOut.main_arg2) = m ((c.tc : Thread Cert.DsaOut.nD Cert.DsaOut.τ).loc Cert.DsaOut.main_arg2)
      ∧ r.2.mem ((c.tc : Thread Cert.DsaOut.nD Cert.DsaOut.τ).loc Cert.DsaOut.main_arg3) = m ((c.tc : Thread Cert.DsaOut.nD Cert.DsaOut.τ).loc Cert.DsaOut.main_arg3)
      ∧ r.2.mem ((c.tc : Thread Cert.DsaOut.nD Cert.DsaOut.τ).loc Cert.DsaOut.main_arg4) = m ((c.tc : Thread Cert.DsaOut.nD Cert.DsaOut.τ).loc Cert.DsaOut.main_arg4))
      ∧ r.2.sem = fun _ => 0)

def quiescent_DsaOutIdeal [hDsaOutIdeal : Cert.DsaOutIdeal.Facts] : Prop :=
  ∀ (m : (ℓ : Loc Cert.DsaOutIdeal.nD Cert.DsaOutIdeal.τ Cert.DsaOutIdeal.sig) → Buf (Elt Ideal) ℓ) (g : Dev Cert.DsaOutIdeal.nD → PrngReg), Pre_DsaOutIdeal m →
    θ_run (Cert.DsaOutIdeal.defs (F := Ideal)) (onTc (τ := Cert.DsaOutIdeal.τ) (Cert.DsaOutIdeal.main (F := Ideal))) ⟨m, fun _ => 0, g⟩ (fun r => (∀ c : Dev Cert.DsaOutIdeal.nD,
      r.2.mem ((c.tc : Thread Cert.DsaOutIdeal.nD Cert.DsaOutIdeal.τ).loc Cert.DsaOutIdeal.main_arg0) = m ((c.tc : Thread Cert.DsaOutIdeal.nD Cert.DsaOutIdeal.τ).loc Cert.DsaOutIdeal.main_arg0)
      ∧ r.2.mem ((c.tc : Thread Cert.DsaOutIdeal.nD Cert.DsaOutIdeal.τ).loc Cert.DsaOutIdeal.main_arg1) = m ((c.tc : Thread Cert.DsaOutIdeal.nD Cert.DsaOutIdeal.τ).loc Cert.DsaOutIdeal.main_arg1)
      ∧ r.2.mem ((c.tc : Thread Cert.DsaOutIdeal.nD Cert.DsaOutIdeal.τ).loc Cert.DsaOutIdeal.main_arg2) = m ((c.tc : Thread Cert.DsaOutIdeal.nD Cert.DsaOutIdeal.τ).loc Cert.DsaOutIdeal.main_arg2)
      ∧ r.2.mem ((c.tc : Thread Cert.DsaOutIdeal.nD Cert.DsaOutIdeal.τ).loc Cert.DsaOutIdeal.main_arg3) = m ((c.tc : Thread Cert.DsaOutIdeal.nD Cert.DsaOutIdeal.τ).loc Cert.DsaOutIdeal.main_arg3)
      ∧ r.2.mem ((c.tc : Thread Cert.DsaOutIdeal.nD Cert.DsaOutIdeal.τ).loc Cert.DsaOutIdeal.main_arg4) = m ((c.tc : Thread Cert.DsaOutIdeal.nD Cert.DsaOutIdeal.τ).loc Cert.DsaOutIdeal.main_arg4))
      ∧ r.2.sem = fun _ => 0)

def quiescent_DsaOutRefIdeal [hDsaOutRefIdeal : Cert.DsaOutRefIdeal.Facts] : Prop :=
  ∀ (m : (ℓ : Loc Cert.DsaOutRefIdeal.nD Cert.DsaOutRefIdeal.τ Cert.DsaOutRefIdeal.sig) → Buf (Elt Ideal) ℓ) (g : Dev Cert.DsaOutRefIdeal.nD → PrngReg), Pre_DsaOutRefIdeal m →
    θ_run (Cert.DsaOutRefIdeal.defs (F := Ideal)) (onTc (τ := Cert.DsaOutRefIdeal.τ) (Cert.DsaOutRefIdeal.main (F := Ideal))) ⟨m, fun _ => 0, g⟩ (fun r => (∀ c : Dev Cert.DsaOutRefIdeal.nD,
      r.2.mem ((c.tc : Thread Cert.DsaOutRefIdeal.nD Cert.DsaOutRefIdeal.τ).loc Cert.DsaOutRefIdeal.main_arg0) = m ((c.tc : Thread Cert.DsaOutRefIdeal.nD Cert.DsaOutRefIdeal.τ).loc Cert.DsaOutRefIdeal.main_arg0)
      ∧ r.2.mem ((c.tc : Thread Cert.DsaOutRefIdeal.nD Cert.DsaOutRefIdeal.τ).loc Cert.DsaOutRefIdeal.main_arg1) = m ((c.tc : Thread Cert.DsaOutRefIdeal.nD Cert.DsaOutRefIdeal.τ).loc Cert.DsaOutRefIdeal.main_arg1)
      ∧ r.2.mem ((c.tc : Thread Cert.DsaOutRefIdeal.nD Cert.DsaOutRefIdeal.τ).loc Cert.DsaOutRefIdeal.main_arg2) = m ((c.tc : Thread Cert.DsaOutRefIdeal.nD Cert.DsaOutRefIdeal.τ).loc Cert.DsaOutRefIdeal.main_arg2)
      ∧ r.2.mem ((c.tc : Thread Cert.DsaOutRefIdeal.nD Cert.DsaOutRefIdeal.τ).loc Cert.DsaOutRefIdeal.main_arg3) = m ((c.tc : Thread Cert.DsaOutRefIdeal.nD Cert.DsaOutRefIdeal.τ).loc Cert.DsaOutRefIdeal.main_arg3)
      ∧ r.2.mem ((c.tc : Thread Cert.DsaOutRefIdeal.nD Cert.DsaOutRefIdeal.τ).loc Cert.DsaOutRefIdeal.main_arg4) = m ((c.tc : Thread Cert.DsaOutRefIdeal.nD Cert.DsaOutRefIdeal.τ).loc Cert.DsaOutRefIdeal.main_arg4))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1)
      ∧ r.2.mem ((c.tc : Thread Cert.PeerQ.nD Cert.PeerQ.τ).loc Cert.PeerQ.main_arg2) = m ((c.tc : Thread Cert.PeerQ.nD Cert.PeerQ.τ).loc Cert.PeerQ.main_arg2)
      ∧ r.2.mem ((c.tc : Thread Cert.PeerQ.nD Cert.PeerQ.τ).loc Cert.PeerQ.main_arg3) = m ((c.tc : Thread Cert.PeerQ.nD Cert.PeerQ.τ).loc Cert.PeerQ.main_arg3)
      ∧ r.2.mem ((c.tc : Thread Cert.PeerQ.nD Cert.PeerQ.τ).loc Cert.PeerQ.main_arg4) = m ((c.tc : Thread Cert.PeerQ.nD Cert.PeerQ.τ).loc Cert.PeerQ.main_arg4)
      ∧ r.2.mem ((c.tc : Thread Cert.PeerQ.nD Cert.PeerQ.τ).loc Cert.PeerQ.main_arg5) = m ((c.tc : Thread Cert.PeerQ.nD Cert.PeerQ.τ).loc Cert.PeerQ.main_arg5))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
      ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3)
      ∧ r.2.mem ((c.tc : Thread Cert.PeerQIdeal.nD Cert.PeerQIdeal.τ).loc Cert.PeerQIdeal.main_arg4) = m ((c.tc : Thread Cert.PeerQIdeal.nD Cert.PeerQIdeal.τ).loc Cert.PeerQIdeal.main_arg4)
      ∧ r.2.mem ((c.tc : Thread Cert.PeerQIdeal.nD Cert.PeerQIdeal.τ).loc Cert.PeerQIdeal.main_arg5) = m ((c.tc : Thread Cert.PeerQIdeal.nD Cert.PeerQIdeal.τ).loc Cert.PeerQIdeal.main_arg5))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2)
      ∧ r.2.mem ((c.tc : Thread Cert.PeerQRefIdeal.nD Cert.PeerQRefIdeal.τ).loc Cert.PeerQRefIdeal.main_arg3) = m ((c.tc : Thread Cert.PeerQRefIdeal.nD Cert.PeerQRefIdeal.τ).loc Cert.PeerQRefIdeal.main_arg3)
      ∧ r.2.mem ((c.tc : Thread Cert.PeerQRefIdeal.nD Cert.PeerQRefIdeal.τ).loc Cert.PeerQRefIdeal.main_arg4) = m ((c.tc : Thread Cert.PeerQRefIdeal.nD Cert.PeerQRefIdeal.τ).loc Cert.PeerQRefIdeal.main_arg4)
      ∧ r.2.mem ((c.tc : Thread Cert.PeerQRefIdeal.nD Cert.PeerQRefIdeal.τ).loc Cert.PeerQRefIdeal.main_arg5) = m ((c.tc : Thread Cert.PeerQRefIdeal.nD Cert.PeerQRefIdeal.τ).loc Cert.PeerQRefIdeal.main_arg5))
      ∧ r.2.sem = fun _ => 0)

def quiescent_KeptRows [hKeptRows : Cert.KeptRows.Facts] : Prop :=
  ∀ (m : (ℓ : Loc Cert.KeptRows.nD Cert.KeptRows.τ Cert.KeptRows.sig) → Buf (Elt Bits) ℓ) (g : Dev Cert.KeptRows.nD → PrngReg), Pre_KeptRows m →
    θ_run (Cert.KeptRows.defs (F := Bits)) (onTc (τ := Cert.KeptRows.τ) (Cert.KeptRows.main (F := Bits))) ⟨m, fun _ => 0, g⟩ (fun r => (∀ c : Dev Cert.KeptRows.nD,
      r.2.mem ((c.tc : Thread Cert.KeptRows.nD Cert.KeptRows.τ).loc Cert.KeptRows.main_arg0) = m ((c.tc : Thread Cert.KeptRows.nD Cert.KeptRows.τ).loc Cert.KeptRows.main_arg0)
      ∧ r.2.mem ((c.tc : Thread Cert.KeptRows.nD Cert.KeptRows.τ).loc Cert.KeptRows.main_arg1) = m ((c.tc : Thread Cert.KeptRows.nD Cert.KeptRows.τ).loc Cert.KeptRows.main_arg1)
      ∧ r.2.mem ((c.tc : Thread Cert.KeptRows.nD Cert.KeptRows.τ).loc Cert.KeptRows.main_arg2) = m ((c.tc : Thread Cert.KeptRows.nD Cert.KeptRows.τ).loc Cert.KeptRows.main_arg2))
      ∧ r.2.sem = fun _ => 0)

def quiescent_KeptRowsIdeal [hKeptRowsIdeal : Cert.KeptRowsIdeal.Facts] : Prop :=
  ∀ (m : (ℓ : Loc Cert.KeptRowsIdeal.nD Cert.KeptRowsIdeal.τ Cert.KeptRowsIdeal.sig) → Buf (Elt Ideal) ℓ) (g : Dev Cert.KeptRowsIdeal.nD → PrngReg), Pre_KeptRowsIdeal m →
    θ_run (Cert.KeptRowsIdeal.defs (F := Ideal)) (onTc (τ := Cert.KeptRowsIdeal.τ) (Cert.KeptRowsIdeal.main (F := Ideal))) ⟨m, fun _ => 0, g⟩ (fun r => (∀ c : Dev Cert.KeptRowsIdeal.nD,
      r.2.mem ((c.tc : Thread Cert.KeptRowsIdeal.nD Cert.KeptRowsIdeal.τ).loc Cert.KeptRowsIdeal.main_arg0) = m ((c.tc : Thread Cert.KeptRowsIdeal.nD Cert.KeptRowsIdeal.τ).loc Cert.KeptRowsIdeal.main_arg0)
      ∧ r.2.mem ((c.tc : Thread Cert.KeptRowsIdeal.nD Cert.KeptRowsIdeal.τ).loc Cert.KeptRowsIdeal.main_arg1) = m ((c.tc : Thread Cert.KeptRowsIdeal.nD Cert.KeptRowsIdeal.τ).loc Cert.KeptRowsIdeal.main_arg1)
      ∧ r.2.mem ((c.tc : Thread Cert.KeptRowsIdeal.nD Cert.KeptRowsIdeal.τ).loc Cert.KeptRowsIdeal.main_arg2) = m ((c.tc : Thread Cert.KeptRowsIdeal.nD Cert.KeptRowsIdeal.τ).loc Cert.KeptRowsIdeal.main_arg2))
      ∧ r.2.sem = fun _ => 0)

def quiescent_KeptRowsRefIdeal [hKeptRowsRefIdeal : Cert.KeptRowsRefIdeal.Facts] : Prop :=
  ∀ (m : (ℓ : Loc Cert.KeptRowsRefIdeal.nD Cert.KeptRowsRefIdeal.τ Cert.KeptRowsRefIdeal.sig) → Buf (Elt Ideal) ℓ) (g : Dev Cert.KeptRowsRefIdeal.nD → PrngReg), Pre_KeptRowsRefIdeal m →
    θ_run (Cert.KeptRowsRefIdeal.defs (F := Ideal)) (onTc (τ := Cert.KeptRowsRefIdeal.τ) (Cert.KeptRowsRefIdeal.main (F := Ideal))) ⟨m, fun _ => 0, g⟩ (fun r => (∀ c : Dev Cert.KeptRowsRefIdeal.nD,
      r.2.mem ((c.tc : Thread Cert.KeptRowsRefIdeal.nD Cert.KeptRowsRefIdeal.τ).loc Cert.KeptRowsRefIdeal.main_arg0) = m ((c.tc : Thread Cert.KeptRowsRefIdeal.nD Cert.KeptRowsRefIdeal.τ).loc Cert.KeptRowsRefIdeal.main_arg0)
      ∧ r.2.mem ((c.tc : Thread Cert.KeptRowsRefIdeal.nD Cert.KeptRowsRefIdeal.τ).loc Cert.KeptRowsRefIdeal.main_arg1) = m ((c.tc : Thread Cert.KeptRowsRefIdeal.nD Cert.KeptRowsRefIdeal.τ).loc Cert.KeptRowsRefIdeal.main_arg1)
      ∧ r.2.mem ((c.tc : Thread Cert.KeptRowsRefIdeal.nD Cert.KeptRowsRefIdeal.τ).loc Cert.KeptRowsRefIdeal.main_arg2) = m ((c.tc : Thread Cert.KeptRowsRefIdeal.nD Cert.KeptRowsRefIdeal.τ).loc Cert.KeptRowsRefIdeal.main_arg2))
      ∧ r.2.sem = fun _ => 0)

def quiescent_PrepS [hPrepS : Cert.PrepS.Facts] : Prop :=
  ∀ (m : (ℓ : Loc Cert.PrepS.nD Cert.PrepS.τ Cert.PrepS.sig) → Buf (Elt Bits) ℓ) (g : Dev Cert.PrepS.nD → PrngReg), Pre_PrepS m →
    θ_run (Cert.PrepS.defs (F := Bits)) (onTc (τ := Cert.PrepS.τ) (Cert.PrepS.main (F := Bits))) ⟨m, fun _ => 0, g⟩ (fun r => (∀ c : Dev Cert.PrepS.nD,
      r.2.mem ((c.tc : Thread Cert.PrepS.nD Cert.PrepS.τ).loc Cert.PrepS.main_arg0) = m ((c.tc : Thread Cert.PrepS.nD Cert.PrepS.τ).loc Cert.PrepS.main_arg0)
      ∧ r.2.mem ((c.tc : Thread Cert.PrepS.nD Cert.PrepS.τ).loc Cert.PrepS.main_arg1) = m ((c.tc : Thread Cert.PrepS.nD Cert.PrepS.τ).loc Cert.PrepS.main_arg1))
      ∧ r.2.sem = fun _ => 0)

def quiescent_PrepSIdeal [hPrepSIdeal : Cert.PrepSIdeal.Facts] : Prop :=
  ∀ (m : (ℓ : Loc Cert.PrepSIdeal.nD Cert.PrepSIdeal.τ Cert.PrepSIdeal.sig) → Buf (Elt Ideal) ℓ) (g : Dev Cert.PrepSIdeal.nD → PrngReg), Pre_PrepSIdeal m →
    θ_run (Cert.PrepSIdeal.defs (F := Ideal)) (onTc (τ := Cert.PrepSIdeal.τ) (Cert.PrepSIdeal.main (F := Ideal))) ⟨m, fun _ => 0, g⟩ (fun r => (∀ c : Dev Cert.PrepSIdeal.nD,
      r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
      ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1))
      ∧ r.2.sem = fun _ => 0)

def quiescent_PrepSRefIdeal [hPrepSRefIdeal : Cert.PrepSRefIdeal.Facts] : Prop :=
  ∀ (m : (ℓ : Loc Cert.PrepSRefIdeal.nD Cert.PrepSRefIdeal.τ Cert.PrepSRefIdeal.sig) → Buf (Elt Ideal) ℓ) (g : Dev Cert.PrepSRefIdeal.nD → PrngReg), Pre_PrepSRefIdeal m →
    θ_run (Cert.PrepSRefIdeal.defs (F := Ideal)) (onTc (τ := Cert.PrepSRefIdeal.τ) (Cert.PrepSRefIdeal.main (F := Ideal))) ⟨m, fun _ => 0, g⟩ (fun r => (∀ c : Dev Cert.PrepSRefIdeal.nD,
      r.2.mem ((c.tc : Thread Cert.PrepSRefIdeal.nD Cert.PrepSRefIdeal.τ).loc Cert.PrepSRefIdeal.main_arg0) = m ((c.tc : Thread Cert.PrepSRefIdeal.nD Cert.PrepSRefIdeal.τ).loc Cert.PrepSRefIdeal.main_arg0)
      ∧ r.2.mem ((c.tc : Thread Cert.PrepSRefIdeal.nD Cert.PrepSRefIdeal.τ).loc Cert.PrepSRefIdeal.main_arg1) = m ((c.tc : Thread Cert.PrepSRefIdeal.nD Cert.PrepSRefIdeal.τ).loc Cert.PrepSRefIdeal.main_arg1))
      ∧ r.2.sem = fun _ => 0)

def quiescent_PrepP [hPrepP : Cert.PrepP.Facts] : Prop :=
  ∀ (m : (ℓ : Loc Cert.PrepP.nD Cert.PrepP.τ Cert.PrepP.sig) → Buf (Elt Bits) ℓ) (g : Dev Cert.PrepP.nD → PrngReg), Pre_PrepP m →
    θ_run (Cert.PrepP.defs (F := Bits)) (onTc (τ := Cert.PrepP.τ) (Cert.PrepP.main (F := Bits))) ⟨m, fun _ => 0, g⟩ (fun r => (∀ c : Dev Cert.PrepP.nD,
      r.2.mem ((c.tc : Thread Cert.PrepP.nD Cert.PrepP.τ).loc Cert.PrepP.main_arg0) = m ((c.tc : Thread Cert.PrepP.nD Cert.PrepP.τ).loc Cert.PrepP.main_arg0)
      ∧ r.2.mem ((c.tc : Thread Cert.PrepP.nD Cert.PrepP.τ).loc Cert.PrepP.main_arg1) = m ((c.tc : Thread Cert.PrepP.nD Cert.PrepP.τ).loc Cert.PrepP.main_arg1))
      ∧ r.2.sem = fun _ => 0)

def quiescent_PrepPIdeal [hPrepPIdeal : Cert.PrepPIdeal.Facts] : Prop :=
  ∀ (m : (ℓ : Loc Cert.PrepPIdeal.nD Cert.PrepPIdeal.τ Cert.PrepPIdeal.sig) → Buf (Elt Ideal) ℓ) (g : Dev Cert.PrepPIdeal.nD → PrngReg), Pre_PrepPIdeal m →
    θ_run (Cert.PrepPIdeal.defs (F := Ideal)) (onTc (τ := Cert.PrepPIdeal.τ) (Cert.PrepPIdeal.main (F := Ideal))) ⟨m, fun _ => 0, g⟩ (fun r => (∀ c : Dev Cert.PrepPIdeal.nD,
      r.2.mem ((c.tc : Thread Cert.PrepPIdeal.nD Cert.PrepPIdeal.τ).loc Cert.PrepPIdeal.main_arg0) = m ((c.tc : Thread Cert.PrepPIdeal.nD Cert.PrepPIdeal.τ).loc Cert.PrepPIdeal.main_arg0)
      ∧ r.2.mem ((c.tc : Thread Cert.PrepPIdeal.nD Cert.PrepPIdeal.τ).loc Cert.PrepPIdeal.main_arg1) = m ((c.tc : Thread Cert.PrepPIdeal.nD Cert.PrepPIdeal.τ).loc Cert.PrepPIdeal.main_arg1))
      ∧ r.2.sem = fun _ => 0)

def quiescent_PrepPRefIdeal [hPrepPRefIdeal : Cert.PrepPRefIdeal.Facts] : Prop :=
  ∀ (m : (ℓ : Loc Cert.PrepPRefIdeal.nD Cert.PrepPRefIdeal.τ Cert.PrepPRefIdeal.sig) → Buf (Elt Ideal) ℓ) (g : Dev Cert.PrepPRefIdeal.nD → PrngReg), Pre_PrepPRefIdeal m →
    θ_run (Cert.PrepPRefIdeal.defs (F := Ideal)) (onTc (τ := Cert.PrepPRefIdeal.τ) (Cert.PrepPRefIdeal.main (F := Ideal))) ⟨m, fun _ => 0, g⟩ (fun r => (∀ c : Dev Cert.PrepPRefIdeal.nD,
      r.2.mem ((c.tc : Thread Cert.PrepPRefIdeal.nD Cert.PrepPRefIdeal.τ).loc Cert.PrepPRefIdeal.main_arg0) = m ((c.tc : Thread Cert.PrepPRefIdeal.nD Cert.PrepPRefIdeal.τ).loc Cert.PrepPRefIdeal.main_arg0)
      ∧ r.2.mem ((c.tc : Thread Cert.PrepPRefIdeal.nD Cert.PrepPRefIdeal.τ).loc Cert.PrepPRefIdeal.main_arg1) = m ((c.tc : Thread Cert.PrepPRefIdeal.nD Cert.PrepPRefIdeal.τ).loc Cert.PrepPRefIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v132_14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)
      ∧ m' ((c.tc : Thread Cert.GdnOutRefIdeal.nD Cert.GdnOutRefIdeal.τ).loc Cert.GdnOutRefIdeal.main_arg4) = m ((c.tc : Thread Cert.GdnOutIdeal.nD Cert.GdnOutIdeal.τ).loc Cert.GdnOutIdeal.main_arg4)) →
    ∃ (v0 : (c : Dev Cert.GdnOutIdeal.nD) → Buf (Elt Ideal) ((c.tc : Thread Cert.GdnOutIdeal.nD Cert.GdnOutIdeal.τ).loc Cert.GdnOutIdeal.main_v13)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v13) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v20) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3)
          ∧ r.2.mem ((c.tc : Thread Cert.GdnOutRefIdeal.nD Cert.GdnOutRefIdeal.τ).loc Cert.GdnOutRefIdeal.main_arg4) = m' ((c.tc : Thread Cert.GdnOutRefIdeal.nD Cert.GdnOutRefIdeal.τ).loc Cert.GdnOutRefIdeal.main_arg4))

def preserves_InQk_InQkIdeal : Prop :=
  True

def algebraic_InQkIdeal_InQkRefIdeal [hInQkIdeal : Cert.InQkIdeal.Facts] [hInQkRefIdeal : Cert.InQkRefIdeal.Facts] : Prop :=
  ∀ (m : (ℓ : Loc Cert.InQkIdeal.nD Cert.InQkIdeal.τ Cert.InQkIdeal.sig) → Buf (Elt Ideal) ℓ) (g : Dev Cert.InQkIdeal.nD → PrngReg)
    (m' : (ℓ : Loc Cert.InQkRefIdeal.nD Cert.InQkRefIdeal.τ Cert.InQkRefIdeal.sig) → Buf (Elt Ideal) ℓ) (g' : Dev Cert.InQkRefIdeal.nD → PrngReg), Pre_InQkIdeal m →
    (∀ c : Dev Cert.InQkIdeal.nD,
      m' ((c.tc : Thread Cert.InQkRefIdeal.nD Cert.InQkRefIdeal.τ).loc Cert.InQkRefIdeal.main_arg0) = m ((c.tc : Thread Cert.InQkIdeal.nD Cert.InQkIdeal.τ).loc Cert.InQkIdeal.main_arg0)
      ∧ m' ((c.tc : Thread Cert.InQkRefIdeal.nD Cert.InQkRefIdeal.τ).loc Cert.InQkRefIdeal.main_arg1) = m ((c.tc : Thread Cert.InQkIdeal.nD Cert.InQkIdeal.τ).loc Cert.InQkIdeal.main_arg1)
      ∧ m' ((c.tc : Thread Cert.InQkRefIdeal.nD Cert.InQkRefIdeal.τ).loc Cert.InQkRefIdeal.main_arg2) = m ((c.tc : Thread Cert.InQkIdeal.nD Cert.InQkIdeal.τ).loc Cert.InQkIdeal.main_arg2)
      ∧ m' ((c.tc : Thread Cert.InQkRefIdeal.nD Cert.InQkRefIdeal.τ).loc Cert.InQkRefIdeal.main_arg3) = m ((c.tc : Thread Cert.InQkIdeal.nD Cert.InQkIdeal.τ).loc Cert.InQkIdeal.main_arg3)
      ∧ m' ((c.tc : Thread Cert.InQkRefIdeal.nD Cert.InQkRefIdeal.τ).loc Cert.InQkRefIdeal.main_arg4) = m ((c.tc : Thread Cert.InQkIdeal.nD Cert.InQkIdeal.τ).loc Cert.InQkIdeal.main_arg4)
      ∧ m' ((c.tc : Thread Cert.InQkRefIdeal.nD Cert.InQkRefIdeal.τ).loc Cert.InQkRefIdeal.main_arg5) = m ((c.tc : Thread Cert.InQkIdeal.nD Cert.InQkIdeal.τ).loc Cert.InQkIdeal.main_arg5)) →
    ∃ (v0 : (c : Dev Cert.InQkIdeal.nD) → Buf (Elt Ideal) ((c.tc : Thread Cert.InQkIdeal.nD Cert.InQkIdeal.τ).loc Cert.InQkIdeal.main_v15)),
      θ_run (Cert.InQkIdeal.defs (F := Ideal)) (onTc (τ := Cert.InQkIdeal.τ) (Cert.InQkIdeal.main (F := Ideal))) ⟨m, fun _ => 0, g⟩ (fun r => ∀ c : Dev Cert.InQkIdeal.nD,
          r.2.mem ((c.tc : Thread Cert.InQkIdeal.nD Cert.InQkIdeal.τ).loc Cert.InQkIdeal.main_v15) = v0 c
          ∧ r.2.mem ((c.tc : Thread Cert.InQkIdeal.nD Cert.InQkIdeal.τ).loc Cert.InQkIdeal.main_arg0) = m ((c.tc : Thread Cert.InQkIdeal.nD Cert.InQkIdeal.τ).loc Cert.InQkIdeal.main_arg0)
          ∧ r.2.mem ((c.tc : Thread Cert.InQkIdeal.nD Cert.InQkIdeal.τ).loc Cert.InQkIdeal.main_arg1) = m ((c.tc : Thread Cert.InQkIdeal.nD Cert.InQkIdeal.τ).loc Cert.InQkIdeal.main_arg1)
          ∧ r.2.mem ((c.tc : Thread Cert.InQkIdeal.nD Cert.InQkIdeal.τ).loc Cert.InQkIdeal.main_arg2) = m ((c.tc : Thread Cert.InQkIdeal.nD Cert.InQkIdeal.τ).loc Cert.InQkIdeal.main_arg2)
          ∧ r.2.mem ((c.tc : Thread Cert.InQkIdeal.nD Cert.InQkIdeal.τ).loc Cert.InQkIdeal.main_arg3) = m ((c.tc : Thread Cert.InQkIdeal.nD Cert.InQkIdeal.τ).loc Cert.InQkIdeal.main_arg3)
          ∧ r.2.mem ((c.tc : Thread Cert.InQkIdeal.nD Cert.InQkIdeal.τ).loc Cert.InQkIdeal.main_arg4) = m ((c.tc : Thread Cert.InQkIdeal.nD Cert.InQkIdeal.τ).loc Cert.InQkIdeal.main_arg4)
          ∧ r.2.mem ((c.tc : Thread Cert.InQkIdeal.nD Cert.InQkIdeal.τ).loc Cert.InQkIdeal.main_arg5) = m ((c.tc : Thread Cert.InQkIdeal.nD Cert.InQkIdeal.τ).loc Cert.InQkIdeal.main_arg5))
      ∧ θ_run (Cert.InQkRefIdeal.defs (F := Ideal)) (onTc (τ := Cert.InQkRefIdeal.τ) (Cert.InQkRefIdeal.main (F := Ideal))) ⟨m', fun _ => 0, g'⟩ (fun r => ∀ c : Dev Cert.InQkRefIdeal.nD,
          r.2.mem ((c.tc : Thread Cert.InQkRefIdeal.nD Cert.InQkRefIdeal.τ).loc Cert.InQkRefIdeal.main_v51) = v0 c
          ∧ r.2.mem ((c.tc : Thread Cert.InQkRefIdeal.nD Cert.InQkRefIdeal.τ).loc Cert.InQkRefIdeal.main_arg0) = m' ((c.tc : Thread Cert.InQkRefIdeal.nD Cert.InQkRefIdeal.τ).loc Cert.InQkRefIdeal.main_arg0)
          ∧ r.2.mem ((c.tc : Thread Cert.InQkRefIdeal.nD Cert.InQkRefIdeal.τ).loc Cert.InQkRefIdeal.main_arg1) = m' ((c.tc : Thread Cert.InQkRefIdeal.nD Cert.InQkRefIdeal.τ).loc Cert.InQkRefIdeal.main_arg1)
          ∧ r.2.mem ((c.tc : Thread Cert.InQkRefIdeal.nD Cert.InQkRefIdeal.τ).loc Cert.InQkRefIdeal.main_arg2) = m' ((c.tc : Thread Cert.InQkRefIdeal.nD Cert.InQkRefIdeal.τ).loc Cert.InQkRefIdeal.main_arg2)
          ∧ r.2.mem ((c.tc : Thread Cert.InQkRefIdeal.nD Cert.InQkRefIdeal.τ).loc Cert.InQkRefIdeal.main_arg3) = m' ((c.tc : Thread Cert.InQkRefIdeal.nD Cert.InQkRefIdeal.τ).loc Cert.InQkRefIdeal.main_arg3)
          ∧ r.2.mem ((c.tc : Thread Cert.InQkRefIdeal.nD Cert.InQkRefIdeal.τ).loc Cert.InQkRefIdeal.main_arg4) = m' ((c.tc : Thread Cert.InQkRefIdeal.nD Cert.InQkRefIdeal.τ).loc Cert.InQkRefIdeal.main_arg4)
          ∧ r.2.mem ((c.tc : Thread Cert.InQkRefIdeal.nD Cert.InQkRefIdeal.τ).loc Cert.InQkRefIdeal.main_arg5) = m' ((c.tc : Thread Cert.InQkRefIdeal.nD Cert.InQkRefIdeal.τ).loc Cert.InQkRefIdeal.main_arg5))

def preserves_InV_InVIdeal : Prop :=
  True

def algebraic_InVIdeal_InVRefIdeal [hInVIdeal : Cert.InVIdeal.Facts] [hInVRefIdeal : Cert.InVRefIdeal.Facts] : Prop :=
  ∀ (m : (ℓ : Loc Cert.InVIdeal.nD Cert.InVIdeal.τ Cert.InVIdeal.sig) → Buf (Elt Ideal) ℓ) (g : Dev Cert.InVIdeal.nD → PrngReg)
    (m' : (ℓ : Loc Cert.InVRefIdeal.nD Cert.InVRefIdeal.τ Cert.InVRefIdeal.sig) → Buf (Elt Ideal) ℓ) (g' : Dev Cert.InVRefIdeal.nD → PrngReg), Pre_InVIdeal m →
    (∀ c : Dev Cert.InVIdeal.nD,
      m' ((c.tc : Thread Cert.InVRefIdeal.nD Cert.InVRefIdeal.τ).loc Cert.InVRefIdeal.main_arg0) = m ((c.tc : Thread Cert.InVIdeal.nD Cert.InVIdeal.τ).loc Cert.InVIdeal.main_arg0)
      ∧ m' ((c.tc : Thread Cert.InVRefIdeal.nD Cert.InVRefIdeal.τ).loc Cert.InVRefIdeal.main_arg1) = m ((c.tc : Thread Cert.InVIdeal.nD Cert.InVIdeal.τ).loc Cert.InVIdeal.main_arg1)
      ∧ m' ((c.tc : Thread Cert.InVRefIdeal.nD Cert.InVRefIdeal.τ).loc Cert.InVRefIdeal.main_arg2) = m ((c.tc : Thread Cert.InVIdeal.nD Cert.InVIdeal.τ).loc Cert.InVIdeal.main_arg2)
      ∧ m' ((c.tc : Thread Cert.InVRefIdeal.nD Cert.InVRefIdeal.τ).loc Cert.InVRefIdeal.main_arg3) = m ((c.tc : Thread Cert.InVIdeal.nD Cert.InVIdeal.τ).loc Cert.InVIdeal.main_arg3)
      ∧ m' ((c.tc : Thread Cert.InVRefIdeal.nD Cert.InVRefIdeal.τ).loc Cert.InVRefIdeal.main_arg4) = m ((c.tc : Thread Cert.InVIdeal.nD Cert.InVIdeal.τ).loc Cert.InVIdeal.main_arg4)
      ∧ m' ((c.tc : Thread Cert.InVRefIdeal.nD Cert.InVRefIdeal.τ).loc Cert.InVRefIdeal.main_arg5) = m ((c.tc : Thread Cert.InVIdeal.nD Cert.InVIdeal.τ).loc Cert.InVIdeal.main_arg5)) →
    ∃ (v0 : (c : Dev Cert.InVIdeal.nD) → Buf (Elt Ideal) ((c.tc : Thread Cert.InVIdeal.nD Cert.InVIdeal.τ).loc Cert.InVIdeal.main_v15)),
      θ_run (Cert.InVIdeal.defs (F := Ideal)) (onTc (τ := Cert.InVIdeal.τ) (Cert.InVIdeal.main (F := Ideal))) ⟨m, fun _ => 0, g⟩ (fun r => ∀ c : Dev Cert.InVIdeal.nD,
          r.2.mem ((c.tc : Thread Cert.InVIdeal.nD Cert.InVIdeal.τ).loc Cert.InVIdeal.main_v15) = v0 c
          ∧ r.2.mem ((c.tc : Thread Cert.InVIdeal.nD Cert.InVIdeal.τ).loc Cert.InVIdeal.main_arg0) = m ((c.tc : Thread Cert.InVIdeal.nD Cert.InVIdeal.τ).loc Cert.InVIdeal.main_arg0)
          ∧ r.2.mem ((c.tc : Thread Cert.InVIdeal.nD Cert.InVIdeal.τ).loc Cert.InVIdeal.main_arg1) = m ((c.tc : Thread Cert.InVIdeal.nD Cert.InVIdeal.τ).loc Cert.InVIdeal.main_arg1)
          ∧ r.2.mem ((c.tc : Thread Cert.InVIdeal.nD Cert.InVIdeal.τ).loc Cert.InVIdeal.main_arg2) = m ((c.tc : Thread Cert.InVIdeal.nD Cert.InVIdeal.τ).loc Cert.InVIdeal.main_arg2)
          ∧ r.2.mem ((c.tc : Thread Cert.InVIdeal.nD Cert.InVIdeal.τ).loc Cert.InVIdeal.main_arg3) = m ((c.tc : Thread Cert.InVIdeal.nD Cert.InVIdeal.τ).loc Cert.InVIdeal.main_arg3)
          ∧ r.2.mem ((c.tc : Thread Cert.InVIdeal.nD Cert.InVIdeal.τ).loc Cert.InVIdeal.main_arg4) = m ((c.tc : Thread Cert.InVIdeal.nD Cert.InVIdeal.τ).loc Cert.InVIdeal.main_arg4)
          ∧ r.2.mem ((c.tc : Thread Cert.InVIdeal.nD Cert.InVIdeal.τ).loc Cert.InVIdeal.main_arg5) = m ((c.tc : Thread Cert.InVIdeal.nD Cert.InVIdeal.τ).loc Cert.InVIdeal.main_arg5))
      ∧ θ_run (Cert.InVRefIdeal.defs (F := Ideal)) (onTc (τ := Cert.InVRefIdeal.τ) (Cert.InVRefIdeal.main (F := Ideal))) ⟨m', fun _ => 0, g'⟩ (fun r => ∀ c : Dev Cert.InVRefIdeal.nD,
          r.2.mem ((c.tc : Thread Cert.InVRefIdeal.nD Cert.InVRefIdeal.τ).loc Cert.InVRefIdeal.main_v52) = v0 c
          ∧ r.2.mem ((c.tc : Thread Cert.InVRefIdeal.nD Cert.InVRefIdeal.τ).loc Cert.InVRefIdeal.main_arg0) = m' ((c.tc : Thread Cert.InVRefIdeal.nD Cert.InVRefIdeal.τ).loc Cert.InVRefIdeal.main_arg0)
          ∧ r.2.mem ((c.tc : Thread Cert.InVRefIdeal.nD Cert.InVRefIdeal.τ).loc Cert.InVRefIdeal.main_arg1) = m' ((c.tc : Thread Cert.InVRefIdeal.nD Cert.InVRefIdeal.τ).loc Cert.InVRefIdeal.main_arg1)
          ∧ r.2.mem ((c.tc : Thread Cert.InVRefIdeal.nD Cert.InVRefIdeal.τ).loc Cert.InVRefIdeal.main_arg2) = m' ((c.tc : Thread Cert.InVRefIdeal.nD Cert.InVRefIdeal.τ).loc Cert.InVRefIdeal.main_arg2)
          ∧ r.2.mem ((c.tc : Thread Cert.InVRefIdeal.nD Cert.InVRefIdeal.τ).loc Cert.InVRefIdeal.main_arg3) = m' ((c.tc : Thread Cert.InVRefIdeal.nD Cert.InVRefIdeal.τ).loc Cert.InVRefIdeal.main_arg3)
          ∧ r.2.mem ((c.tc : Thread Cert.InVRefIdeal.nD Cert.InVRefIdeal.τ).loc Cert.InVRefIdeal.main_arg4) = m' ((c.tc : Thread Cert.InVRefIdeal.nD Cert.InVRefIdeal.τ).loc Cert.InVRefIdeal.main_arg4)
          ∧ r.2.mem ((c.tc : Thread Cert.InVRefIdeal.nD Cert.InVRefIdeal.τ).loc Cert.InVRefIdeal.main_arg5) = m' ((c.tc : Thread Cert.InVRefIdeal.nD Cert.InVRefIdeal.τ).loc Cert.InVRefIdeal.main_arg5))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)
      ∧ m' ((c.tc : Thread Cert.InZRefIdeal.nD Cert.InZRefIdeal.τ).loc Cert.InZRefIdeal.main_arg2) = m ((c.tc : Thread Cert.InZIdeal.nD Cert.InZIdeal.τ).loc Cert.InZIdeal.main_arg2)
      ∧ m' ((c.tc : Thread Cert.InZRefIdeal.nD Cert.InZRefIdeal.τ).loc Cert.InZRefIdeal.main_arg3) = m ((c.tc : Thread Cert.InZIdeal.nD Cert.InZIdeal.τ).loc Cert.InZIdeal.main_arg3)
      ∧ m' ((c.tc : Thread Cert.InZRefIdeal.nD Cert.InZRefIdeal.τ).loc Cert.InZRefIdeal.main_arg4) = m ((c.tc : Thread Cert.InZIdeal.nD Cert.InZIdeal.τ).loc Cert.InZIdeal.main_arg4)
      ∧ m' ((c.tc : Thread Cert.InZRefIdeal.nD Cert.InZRefIdeal.τ).loc Cert.InZRefIdeal.main_arg5) = m ((c.tc : Thread Cert.InZIdeal.nD Cert.InZIdeal.τ).loc Cert.InZIdeal.main_arg5)) →
    ∃ (v0 : (c : Dev Cert.InZIdeal.nD) → Buf (Elt Ideal) ((c.tc : Thread Cert.InZIdeal.nD Cert.InZIdeal.τ).loc Cert.InZIdeal.main_v15)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v15) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1)
          ∧ r.2.mem ((c.tc : Thread Cert.InZIdeal.nD Cert.InZIdeal.τ).loc Cert.InZIdeal.main_arg2) = m ((c.tc : Thread Cert.InZIdeal.nD Cert.InZIdeal.τ).loc Cert.InZIdeal.main_arg2)
          ∧ r.2.mem ((c.tc : Thread Cert.InZIdeal.nD Cert.InZIdeal.τ).loc Cert.InZIdeal.main_arg3) = m ((c.tc : Thread Cert.InZIdeal.nD Cert.InZIdeal.τ).loc Cert.InZIdeal.main_arg3)
          ∧ r.2.mem ((c.tc : Thread Cert.InZIdeal.nD Cert.InZIdeal.τ).loc Cert.InZIdeal.main_arg4) = m ((c.tc : Thread Cert.InZIdeal.nD Cert.InZIdeal.τ).loc Cert.InZIdeal.main_arg4)
          ∧ r.2.mem ((c.tc : Thread Cert.InZIdeal.nD Cert.InZIdeal.τ).loc Cert.InZIdeal.main_arg5) = m ((c.tc : Thread Cert.InZIdeal.nD Cert.InZIdeal.τ).loc Cert.InZIdeal.main_arg5))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v53) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1)
          ∧ r.2.mem ((c.tc : Thread Cert.InZRefIdeal.nD Cert.InZRefIdeal.τ).loc Cert.InZRefIdeal.main_arg2) = m' ((c.tc : Thread Cert.InZRefIdeal.nD Cert.InZRefIdeal.τ).loc Cert.InZRefIdeal.main_arg2)
          ∧ r.2.mem ((c.tc : Thread Cert.InZRefIdeal.nD Cert.InZRefIdeal.τ).loc Cert.InZRefIdeal.main_arg3) = m' ((c.tc : Thread Cert.InZRefIdeal.nD Cert.InZRefIdeal.τ).loc Cert.InZRefIdeal.main_arg3)
          ∧ r.2.mem ((c.tc : Thread Cert.InZRefIdeal.nD Cert.InZRefIdeal.τ).loc Cert.InZRefIdeal.main_arg4) = m' ((c.tc : Thread Cert.InZRefIdeal.nD Cert.InZRefIdeal.τ).loc Cert.InZRefIdeal.main_arg4)
          ∧ r.2.mem ((c.tc : Thread Cert.InZRefIdeal.nD Cert.InZRefIdeal.τ).loc Cert.InZRefIdeal.main_arg5) = m' ((c.tc : Thread Cert.InZRefIdeal.nD Cert.InZRefIdeal.τ).loc Cert.InZRefIdeal.main_arg5))

def preserves_DsaOut_DsaOutIdeal : Prop :=
  True

def algebraic_DsaOutIdeal_DsaOutRefIdeal [hDsaOutIdeal : Cert.DsaOutIdeal.Facts] [hDsaOutRefIdeal : Cert.DsaOutRefIdeal.Facts] : Prop :=
  ∀ (m : (ℓ : Loc Cert.DsaOutIdeal.nD Cert.DsaOutIdeal.τ Cert.DsaOutIdeal.sig) → Buf (Elt Ideal) ℓ) (g : Dev Cert.DsaOutIdeal.nD → PrngReg)
    (m' : (ℓ : Loc Cert.DsaOutRefIdeal.nD Cert.DsaOutRefIdeal.τ Cert.DsaOutRefIdeal.sig) → Buf (Elt Ideal) ℓ) (g' : Dev Cert.DsaOutRefIdeal.nD → PrngReg), Pre_DsaOutIdeal m →
    (∀ c : Dev Cert.DsaOutIdeal.nD,
      m' ((c.tc : Thread Cert.DsaOutRefIdeal.nD Cert.DsaOutRefIdeal.τ).loc Cert.DsaOutRefIdeal.main_arg0) = m ((c.tc : Thread Cert.DsaOutIdeal.nD Cert.DsaOutIdeal.τ).loc Cert.DsaOutIdeal.main_arg0)
      ∧ m' ((c.tc : Thread Cert.DsaOutRefIdeal.nD Cert.DsaOutRefIdeal.τ).loc Cert.DsaOutRefIdeal.main_arg1) = m ((c.tc : Thread Cert.DsaOutIdeal.nD Cert.DsaOutIdeal.τ).loc Cert.DsaOutIdeal.main_arg1)
      ∧ m' ((c.tc : Thread Cert.DsaOutRefIdeal.nD Cert.DsaOutRefIdeal.τ).loc Cert.DsaOutRefIdeal.main_arg2) = m ((c.tc : Thread Cert.DsaOutIdeal.nD Cert.DsaOutIdeal.τ).loc Cert.DsaOutIdeal.main_arg2)
      ∧ m' ((c.tc : Thread Cert.DsaOutRefIdeal.nD Cert.DsaOutRefIdeal.τ).loc Cert.DsaOutRefIdeal.main_arg3) = m ((c.tc : Thread Cert.DsaOutIdeal.nD Cert.DsaOutIdeal.τ).loc Cert.DsaOutIdeal.main_arg3)
      ∧ m' ((c.tc : Thread Cert.DsaOutRefIdeal.nD Cert.DsaOutRefIdeal.τ).loc Cert.DsaOutRefIdeal.main_arg4) = m ((c.tc : Thread Cert.DsaOutIdeal.nD Cert.DsaOutIdeal.τ).loc Cert.DsaOutIdeal.main_arg4)) →
    ∃ (v0 : (c : Dev Cert.DsaOutIdeal.nD) → Buf (Elt Ideal) ((c.tc : Thread Cert.DsaOutIdeal.nD Cert.DsaOutIdeal.τ).loc Cert.DsaOutIdeal.main_v13)),
      θ_run (Cert.DsaOutIdeal.defs (F := Ideal)) (onTc (τ := Cert.DsaOutIdeal.τ) (Cert.DsaOutIdeal.main (F := Ideal))) ⟨m, fun _ => 0, g⟩ (fun r => ∀ c : Dev Cert.DsaOutIdeal.nD,
          r.2.mem ((c.tc : Thread Cert.DsaOutIdeal.nD Cert.DsaOutIdeal.τ).loc Cert.DsaOutIdeal.main_v13) = v0 c
          ∧ r.2.mem ((c.tc : Thread Cert.DsaOutIdeal.nD Cert.DsaOutIdeal.τ).loc Cert.DsaOutIdeal.main_arg0) = m ((c.tc : Thread Cert.DsaOutIdeal.nD Cert.DsaOutIdeal.τ).loc Cert.DsaOutIdeal.main_arg0)
          ∧ r.2.mem ((c.tc : Thread Cert.DsaOutIdeal.nD Cert.DsaOutIdeal.τ).loc Cert.DsaOutIdeal.main_arg1) = m ((c.tc : Thread Cert.DsaOutIdeal.nD Cert.DsaOutIdeal.τ).loc Cert.DsaOutIdeal.main_arg1)
          ∧ r.2.mem ((c.tc : Thread Cert.DsaOutIdeal.nD Cert.DsaOutIdeal.τ).loc Cert.DsaOutIdeal.main_arg2) = m ((c.tc : Thread Cert.DsaOutIdeal.nD Cert.DsaOutIdeal.τ).loc Cert.DsaOutIdeal.main_arg2)
          ∧ r.2.mem ((c.tc : Thread Cert.DsaOutIdeal.nD Cert.DsaOutIdeal.τ).loc Cert.DsaOutIdeal.main_arg3) = m ((c.tc : Thread Cert.DsaOutIdeal.nD Cert.DsaOutIdeal.τ).loc Cert.DsaOutIdeal.main_arg3)
          ∧ r.2.mem ((c.tc : Thread Cert.DsaOutIdeal.nD Cert.DsaOutIdeal.τ).loc Cert.DsaOutIdeal.main_arg4) = m ((c.tc : Thread Cert.DsaOutIdeal.nD Cert.DsaOutIdeal.τ).loc Cert.DsaOutIdeal.main_arg4))
      ∧ θ_run (Cert.DsaOutRefIdeal.defs (F := Ideal)) (onTc (τ := Cert.DsaOutRefIdeal.τ) (Cert.DsaOutRefIdeal.main (F := Ideal))) ⟨m', fun _ => 0, g'⟩ (fun r => ∀ c : Dev Cert.DsaOutRefIdeal.nD,
          r.2.mem ((c.tc : Thread Cert.DsaOutRefIdeal.nD Cert.DsaOutRefIdeal.τ).loc Cert.DsaOutRefIdeal.main_v20) = v0 c
          ∧ r.2.mem ((c.tc : Thread Cert.DsaOutRefIdeal.nD Cert.DsaOutRefIdeal.τ).loc Cert.DsaOutRefIdeal.main_arg0) = m' ((c.tc : Thread Cert.DsaOutRefIdeal.nD Cert.DsaOutRefIdeal.τ).loc Cert.DsaOutRefIdeal.main_arg0)
          ∧ r.2.mem ((c.tc : Thread Cert.DsaOutRefIdeal.nD Cert.DsaOutRefIdeal.τ).loc Cert.DsaOutRefIdeal.main_arg1) = m' ((c.tc : Thread Cert.DsaOutRefIdeal.nD Cert.DsaOutRefIdeal.τ).loc Cert.DsaOutRefIdeal.main_arg1)
          ∧ r.2.mem ((c.tc : Thread Cert.DsaOutRefIdeal.nD Cert.DsaOutRefIdeal.τ).loc Cert.DsaOutRefIdeal.main_arg2) = m' ((c.tc : Thread Cert.DsaOutRefIdeal.nD Cert.DsaOutRefIdeal.τ).loc Cert.DsaOutRefIdeal.main_arg2)
          ∧ r.2.mem ((c.tc : Thread Cert.DsaOutRefIdeal.nD Cert.DsaOutRefIdeal.τ).loc Cert.DsaOutRefIdeal.main_arg3) = m' ((c.tc : Thread Cert.DsaOutRefIdeal.nD Cert.DsaOutRefIdeal.τ).loc Cert.DsaOutRefIdeal.main_arg3)
          ∧ r.2.mem ((c.tc : Thread Cert.DsaOutRefIdeal.nD Cert.DsaOutRefIdeal.τ).loc Cert.DsaOutRefIdeal.main_arg4) = m' ((c.tc : Thread Cert.DsaOutRefIdeal.nD Cert.DsaOutRefIdeal.τ).loc Cert.DsaOutRefIdeal.main_arg4))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)
      ∧ m' ((c.tc : Thread Cert.PeerQRefIdeal.nD Cert.PeerQRefIdeal.τ).loc Cert.PeerQRefIdeal.main_arg2) = m ((c.tc : Thread Cert.PeerQIdeal.nD Cert.PeerQIdeal.τ).loc Cert.PeerQIdeal.main_arg2)
      ∧ m' ((c.tc : Thread Cert.PeerQRefIdeal.nD Cert.PeerQRefIdeal.τ).loc Cert.PeerQRefIdeal.main_arg3) = m ((c.tc : Thread Cert.PeerQIdeal.nD Cert.PeerQIdeal.τ).loc Cert.PeerQIdeal.main_arg3)
      ∧ m' ((c.tc : Thread Cert.PeerQRefIdeal.nD Cert.PeerQRefIdeal.τ).loc Cert.PeerQRefIdeal.main_arg4) = m ((c.tc : Thread Cert.PeerQIdeal.nD Cert.PeerQIdeal.τ).loc Cert.PeerQIdeal.main_arg4)
      ∧ m' ((c.tc : Thread Cert.PeerQRefIdeal.nD Cert.PeerQRefIdeal.τ).loc Cert.PeerQRefIdeal.main_arg5) = m ((c.tc : Thread Cert.PeerQIdeal.nD Cert.PeerQIdeal.τ).loc Cert.PeerQIdeal.main_arg5)) →
    ∃ (v0 : (c : Dev Cert.PeerQIdeal.nD) → Buf (Elt Ideal) ((c.tc : Thread Cert.PeerQIdeal.nD Cert.PeerQIdeal.τ).loc Cert.PeerQIdeal.main_v14)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v14) = v0 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
          ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
          ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3)
          ∧ r.2.mem ((c.tc : Thread Cert.PeerQIdeal.nD Cert.PeerQIdeal.τ).loc Cert.PeerQIdeal.main_arg4) = m ((c.tc : Thread Cert.PeerQIdeal.nD Cert.PeerQIdeal.τ).loc Cert.PeerQIdeal.main_arg4)
          ∧ r.2.mem ((c.tc : Thread Cert.PeerQIdeal.nD Cert.PeerQIdeal.τ).loc Cert.PeerQIdeal.main_arg5) = m ((c.tc : Thread Cert.PeerQIdeal.nD Cert.PeerQIdeal.τ).loc Cert.PeerQIdeal.main_arg5))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v50) = v0 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1)
          ∧ r.2.mem ((c.tc : Thread Cert.PeerQRefIdeal.nD Cert.PeerQRefIdeal.τ).loc Cert.PeerQRefIdeal.main_arg2) = m' ((c.tc : Thread Cert.PeerQRefIdeal.nD Cert.PeerQRefIdeal.τ).loc Cert.PeerQRefIdeal.main_arg2)
          ∧ r.2.mem ((c.tc : Thread Cert.PeerQRefIdeal.nD Cert.PeerQRefIdeal.τ).loc Cert.PeerQRefIdeal.main_arg3) = m' ((c.tc : Thread Cert.PeerQRefIdeal.nD Cert.PeerQRefIdeal.τ).loc Cert.PeerQRefIdeal.main_arg3)
          ∧ r.2.mem ((c.tc : Thread Cert.PeerQRefIdeal.nD Cert.PeerQRefIdeal.τ).loc Cert.PeerQRefIdeal.main_arg4) = m' ((c.tc : Thread Cert.PeerQRefIdeal.nD Cert.PeerQRefIdeal.τ).loc Cert.PeerQRefIdeal.main_arg4)
          ∧ r.2.mem ((c.tc : Thread Cert.PeerQRefIdeal.nD Cert.PeerQRefIdeal.τ).loc Cert.PeerQRefIdeal.main_arg5) = m' ((c.tc : Thread Cert.PeerQRefIdeal.nD Cert.PeerQRefIdeal.τ).loc Cert.PeerQRefIdeal.main_arg5))

def preserves_KeptRows_KeptRowsIdeal : Prop :=
  True

def algebraic_KeptRowsIdeal_KeptRowsRefIdeal [hKeptRowsIdeal : Cert.KeptRowsIdeal.Facts] [hKeptRowsRefIdeal : Cert.KeptRowsRefIdeal.Facts] : Prop :=
  ∀ (m : (ℓ : Loc Cert.KeptRowsIdeal.nD Cert.KeptRowsIdeal.τ Cert.KeptRowsIdeal.sig) → Buf (Elt Ideal) ℓ) (g : Dev Cert.KeptRowsIdeal.nD → PrngReg)
    (m' : (ℓ : Loc Cert.KeptRowsRefIdeal.nD Cert.KeptRowsRefIdeal.τ Cert.KeptRowsRefIdeal.sig) → Buf (Elt Ideal) ℓ) (g' : Dev Cert.KeptRowsRefIdeal.nD → PrngReg), Pre_KeptRowsIdeal m →
    (∀ c : Dev Cert.KeptRowsIdeal.nD,
      m' ((c.tc : Thread Cert.KeptRowsRefIdeal.nD Cert.KeptRowsRefIdeal.τ).loc Cert.KeptRowsRefIdeal.main_arg0) = m ((c.tc : Thread Cert.KeptRowsIdeal.nD Cert.KeptRowsIdeal.τ).loc Cert.KeptRowsIdeal.main_arg0)
      ∧ m' ((c.tc : Thread Cert.KeptRowsRefIdeal.nD Cert.KeptRowsRefIdeal.τ).loc Cert.KeptRowsRefIdeal.main_arg1) = m ((c.tc : Thread Cert.KeptRowsIdeal.nD Cert.KeptRowsIdeal.τ).loc Cert.KeptRowsIdeal.main_arg1)
      ∧ m' ((c.tc : Thread Cert.KeptRowsRefIdeal.nD Cert.KeptRowsRefIdeal.τ).loc Cert.KeptRowsRefIdeal.main_arg2) = m ((c.tc : Thread Cert.KeptRowsIdeal.nD Cert.KeptRowsIdeal.τ).loc Cert.KeptRowsIdeal.main_arg2)) →
    ∃ (v0 : (c : Dev Cert.KeptRowsIdeal.nD) → Buf (Elt Ideal) ((c.tc : Thread Cert.KeptRowsIdeal.nD Cert.KeptRowsIdeal.τ).loc Cert.KeptRowsIdeal.main_v11)) (v1 : (c : Dev Cert.KeptRowsIdeal.nD) → Buf (Elt Ideal) ((c.tc : Thread Cert.KeptRowsIdeal.nD Cert.KeptRowsIdeal.τ).loc Cert.KeptRowsIdeal.main_v46)),
      θ_run (Cert.KeptRowsIdeal.defs (F := Ideal)) (onTc (τ := Cert.KeptRowsIdeal.τ) (Cert.KeptRowsIdeal.main (F := Ideal))) ⟨m, fun _ => 0, g⟩ (fun r => ∀ c : Dev Cert.KeptRowsIdeal.nD,
          r.2.mem ((c.tc : Thread Cert.KeptRowsIdeal.nD Cert.KeptRowsIdeal.τ).loc Cert.KeptRowsIdeal.main_v11) = v0 c
          ∧ r.2.mem ((c.tc : Thread Cert.KeptRowsIdeal.nD Cert.KeptRowsIdeal.τ).loc Cert.KeptRowsIdeal.main_v46) = v1 c
          ∧ r.2.mem ((c.tc : Thread Cert.KeptRowsIdeal.nD Cert.KeptRowsIdeal.τ).loc Cert.KeptRowsIdeal.main_arg0) = m ((c.tc : Thread Cert.KeptRowsIdeal.nD Cert.KeptRowsIdeal.τ).loc Cert.KeptRowsIdeal.main_arg0)
          ∧ r.2.mem ((c.tc : Thread Cert.KeptRowsIdeal.nD Cert.KeptRowsIdeal.τ).loc Cert.KeptRowsIdeal.main_arg1) = m ((c.tc : Thread Cert.KeptRowsIdeal.nD Cert.KeptRowsIdeal.τ).loc Cert.KeptRowsIdeal.main_arg1)
          ∧ r.2.mem ((c.tc : Thread Cert.KeptRowsIdeal.nD Cert.KeptRowsIdeal.τ).loc Cert.KeptRowsIdeal.main_arg2) = m ((c.tc : Thread Cert.KeptRowsIdeal.nD Cert.KeptRowsIdeal.τ).loc Cert.KeptRowsIdeal.main_arg2))
      ∧ θ_run (Cert.KeptRowsRefIdeal.defs (F := Ideal)) (onTc (τ := Cert.KeptRowsRefIdeal.τ) (Cert.KeptRowsRefIdeal.main (F := Ideal))) ⟨m', fun _ => 0, g'⟩ (fun r => ∀ c : Dev Cert.KeptRowsRefIdeal.nD,
          r.2.mem ((c.tc : Thread Cert.KeptRowsRefIdeal.nD Cert.KeptRowsRefIdeal.τ).loc Cert.KeptRowsRefIdeal.main_v8) = v0 c
          ∧ r.2.mem ((c.tc : Thread Cert.KeptRowsRefIdeal.nD Cert.KeptRowsRefIdeal.τ).loc Cert.KeptRowsRefIdeal.main_v9) = v1 c
          ∧ r.2.mem ((c.tc : Thread Cert.KeptRowsRefIdeal.nD Cert.KeptRowsRefIdeal.τ).loc Cert.KeptRowsRefIdeal.main_arg0) = m' ((c.tc : Thread Cert.KeptRowsRefIdeal.nD Cert.KeptRowsRefIdeal.τ).loc Cert.KeptRowsRefIdeal.main_arg0)
          ∧ r.2.mem ((c.tc : Thread Cert.KeptRowsRefIdeal.nD Cert.KeptRowsRefIdeal.τ).loc Cert.KeptRowsRefIdeal.main_arg1) = m' ((c.tc : Thread Cert.KeptRowsRefIdeal.nD Cert.KeptRowsRefIdeal.τ).loc Cert.KeptRowsRefIdeal.main_arg1)
          ∧ r.2.mem ((c.tc : Thread Cert.KeptRowsRefIdeal.nD Cert.KeptRowsRefIdeal.τ).loc Cert.KeptRowsRefIdeal.main_arg2) = m' ((c.tc : Thread Cert.KeptRowsRefIdeal.nD Cert.KeptRowsRefIdeal.τ).loc Cert.KeptRowsRefIdeal.main_arg2))

def preserves_PrepS_PrepSIdeal : Prop :=
  True

def algebraic_PrepSIdeal_PrepSRefIdeal [hPrepSIdeal : Cert.PrepSIdeal.Facts] [hPrepSRefIdeal : Cert.PrepSRefIdeal.Facts] : Prop :=
  ∀ (m : (ℓ : Loc Cert.PrepSIdeal.nD Cert.PrepSIdeal.τ Cert.PrepSIdeal.sig) → Buf (Elt Ideal) ℓ) (g : Dev Cert.PrepSIdeal.nD → PrngReg)
    (m' : (ℓ : Loc Cert.PrepSRefIdeal.nD Cert.PrepSRefIdeal.τ Cert.PrepSRefIdeal.sig) → Buf (Elt Ideal) ℓ) (g' : Dev Cert.PrepSRefIdeal.nD → PrngReg), Pre_PrepSIdeal m →
    (∀ c : Dev Cert.PrepSIdeal.nD,
      m' ((c.tc : Thread Cert.PrepSRefIdeal.nD Cert.PrepSRefIdeal.τ).loc Cert.PrepSRefIdeal.main_arg0) = m ((c.tc : Thread Cert.PrepSIdeal.nD Cert.PrepSIdeal.τ).loc Cert.PrepSIdeal.main_arg0)
      ∧ m' ((c.tc : Thread Cert.PrepSRefIdeal.nD Cert.PrepSRefIdeal.τ).loc Cert.PrepSRefIdeal.main_arg1) = m ((c.tc : Thread Cert.PrepSIdeal.nD Cert.PrepSIdeal.τ).loc Cert.PrepSIdeal.main_arg1)) →
    ∃ (v0 : (c : Dev Cert.PrepSIdeal.nD) → Buf (Elt Ideal) ((c.tc : Thread Cert.PrepSIdeal.nD Cert.PrepSIdeal.τ).loc Cert.PrepSIdeal.main_v73_1)) (v1 : (c : Dev Cert.PrepSIdeal.nD) → Buf (Elt Ideal) ((c.tc : Thread Cert.PrepSIdeal.nD Cert.PrepSIdeal.τ).loc Cert.PrepSIdeal.main_v73_2)) (v2 : (c : Dev Cert.PrepSIdeal.nD) → Buf (Elt Ideal) ((c.tc : Thread Cert.PrepSIdeal.nD Cert.PrepSIdeal.τ).loc Cert.PrepSIdeal.main_v73_3)),
      θ_run (Cert.PrepSIdeal.defs (F := Ideal)) (onTc (τ := Cert.PrepSIdeal.τ) (Cert.PrepSIdeal.main (F := Ideal))) ⟨m, fun _ => 0, g⟩ (fun r => ∀ c : Dev Cert.PrepSIdeal.nD,
          r.2.mem ((c.tc : Thread Cert.PrepSIdeal.nD Cert.PrepSIdeal.τ).loc Cert.PrepSIdeal.main_v73_1) = v0 c
          ∧ r.2.mem ((c.tc : Thread Cert.PrepSIdeal.nD Cert.PrepSIdeal.τ).loc Cert.PrepSIdeal.main_v73_2) = v1 c
          ∧ r.2.mem ((c.tc : Thread Cert.PrepSIdeal.nD Cert.PrepSIdeal.τ).loc Cert.PrepSIdeal.main_v73_3) = v2 c
          ∧ r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
          ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1))
      ∧ θ_run (Cert.PrepSRefIdeal.defs (F := Ideal)) (onTc (τ := Cert.PrepSRefIdeal.τ) (Cert.PrepSRefIdeal.main (F := Ideal))) ⟨m', fun _ => 0, g'⟩ (fun r => ∀ c : Dev Cert.PrepSRefIdeal.nD,
          r.2.mem ((c.tc : Thread Cert.PrepSRefIdeal.nD Cert.PrepSRefIdeal.τ).loc Cert.PrepSRefIdeal.main_v38) = v0 c
          ∧ r.2.mem ((c.tc : Thread Cert.PrepSRefIdeal.nD Cert.PrepSRefIdeal.τ).loc Cert.PrepSRefIdeal.main_v40) = v1 c
          ∧ r.2.mem ((c.tc : Thread Cert.PrepSRefIdeal.nD Cert.PrepSRefIdeal.τ).loc Cert.PrepSRefIdeal.main_v77) = v2 c
          ∧ r.2.mem ((c.tc : Thread Cert.PrepSRefIdeal.nD Cert.PrepSRefIdeal.τ).loc Cert.PrepSRefIdeal.main_arg0) = m' ((c.tc : Thread Cert.PrepSRefIdeal.nD Cert.PrepSRefIdeal.τ).loc Cert.PrepSRefIdeal.main_arg0)
          ∧ r.2.mem ((c.tc : Thread Cert.PrepSRefIdeal.nD Cert.PrepSRefIdeal.τ).loc Cert.PrepSRefIdeal.main_arg1) = m' ((c.tc : Thread Cert.PrepSRefIdeal.nD Cert.PrepSRefIdeal.τ).loc Cert.PrepSRefIdeal.main_arg1))

def preserves_PrepP_PrepPIdeal : Prop :=
  True

def algebraic_PrepPIdeal_PrepPRefIdeal [hPrepPIdeal : Cert.PrepPIdeal.Facts] [hPrepPRefIdeal : Cert.PrepPRefIdeal.Facts] : Prop :=
  ∀ (m : (ℓ : Loc Cert.PrepPIdeal.nD Cert.PrepPIdeal.τ Cert.PrepPIdeal.sig) → Buf (Elt Ideal) ℓ) (g : Dev Cert.PrepPIdeal.nD → PrngReg)
    (m' : (ℓ : Loc Cert.PrepPRefIdeal.nD Cert.PrepPRefIdeal.τ Cert.PrepPRefIdeal.sig) → Buf (Elt Ideal) ℓ) (g' : Dev Cert.PrepPRefIdeal.nD → PrngReg), Pre_PrepPIdeal m →
    (∀ c : Dev Cert.PrepPIdeal.nD,
      m' ((c.tc : Thread Cert.PrepPRefIdeal.nD Cert.PrepPRefIdeal.τ).loc Cert.PrepPRefIdeal.main_arg0) = m ((c.tc : Thread Cert.PrepPIdeal.nD Cert.PrepPIdeal.τ).loc Cert.PrepPIdeal.main_arg0)
      ∧ m' ((c.tc : Thread Cert.PrepPRefIdeal.nD Cert.PrepPRefIdeal.τ).loc Cert.PrepPRefIdeal.main_arg1) = m ((c.tc : Thread Cert.PrepPIdeal.nD Cert.PrepPIdeal.τ).loc Cert.PrepPIdeal.main_arg1)) →
    ∃ (v0 : (c : Dev Cert.PrepPIdeal.nD) → Buf (Elt Ideal) ((c.tc : Thread Cert.PrepPIdeal.nD Cert.PrepPIdeal.τ).loc Cert.PrepPIdeal.main_v73_1)) (v1 : (c : Dev Cert.PrepPIdeal.nD) → Buf (Elt Ideal) ((c.tc : Thread Cert.PrepPIdeal.nD Cert.PrepPIdeal.τ).loc Cert.PrepPIdeal.main_v73_2)) (v2 : (c : Dev Cert.PrepPIdeal.nD) → Buf (Elt Ideal) ((c.tc : Thread Cert.PrepPIdeal.nD Cert.PrepPIdeal.τ).loc Cert.PrepPIdeal.main_v73_3)),
      θ_run (Cert.PrepPIdeal.defs (F := Ideal)) (onTc (τ := Cert.PrepPIdeal.τ) (Cert.PrepPIdeal.main (F := Ideal))) ⟨m, fun _ => 0, g⟩ (fun r => ∀ c : Dev Cert.PrepPIdeal.nD,
          r.2.mem ((c.tc : Thread Cert.PrepPIdeal.nD Cert.PrepPIdeal.τ).loc Cert.PrepPIdeal.main_v73_1) = v0 c
          ∧ r.2.mem ((c.tc : Thread Cert.PrepPIdeal.nD Cert.PrepPIdeal.τ).loc Cert.PrepPIdeal.main_v73_2) = v1 c
          ∧ r.2.mem ((c.tc : Thread Cert.PrepPIdeal.nD Cert.PrepPIdeal.τ).loc Cert.PrepPIdeal.main_v73_3) = v2 c
          ∧ r.2.mem ((c.tc : Thread Cert.PrepPIdeal.nD Cert.PrepPIdeal.τ).loc Cert.PrepPIdeal.main_arg0) = m ((c.tc : Thread Cert.PrepPIdeal.nD Cert.PrepPIdeal.τ).loc Cert.PrepPIdeal.main_arg0)
          ∧ r.2.mem ((c.tc : Thread Cert.PrepPIdeal.nD Cert.PrepPIdeal.τ).loc Cert.PrepPIdeal.main_arg1) = m ((c.tc : Thread Cert.PrepPIdeal.nD Cert.PrepPIdeal.τ).loc Cert.PrepPIdeal.main_arg1))
      ∧ θ_run (Cert.PrepPRefIdeal.defs (F := Ideal)) (onTc (τ := Cert.PrepPRefIdeal.τ) (Cert.PrepPRefIdeal.main (F := Ideal))) ⟨m', fun _ => 0, g'⟩ (fun r => ∀ c : Dev Cert.PrepPRefIdeal.nD,
          r.2.mem ((c.tc : Thread Cert.PrepPRefIdeal.nD Cert.PrepPRefIdeal.τ).loc Cert.PrepPRefIdeal.main_v38) = v0 c
          ∧ r.2.mem ((c.tc : Thread Cert.PrepPRefIdeal.nD Cert.PrepPRefIdeal.τ).loc Cert.PrepPRefIdeal.main_v40) = v1 c
          ∧ r.2.mem ((c.tc : Thread Cert.PrepPRefIdeal.nD Cert.PrepPRefIdeal.τ).loc Cert.PrepPRefIdeal.main_v77) = v2 c
          ∧ r.2.mem ((c.tc : Thread Cert.PrepPRefIdeal.nD Cert.PrepPRefIdeal.τ).loc Cert.PrepPRefIdeal.main_arg0) = m' ((c.tc : Thread Cert.PrepPRefIdeal.nD Cert.PrepPRefIdeal.τ).loc Cert.PrepPRefIdeal.main_arg0)
          ∧ r.2.mem ((c.tc : Thread Cert.PrepPRefIdeal.nD Cert.PrepPRefIdeal.τ).loc Cert.PrepPRefIdeal.main_arg1) = m' ((c.tc : Thread Cert.PrepPRefIdeal.nD Cert.PrepPRefIdeal.τ).loc Cert.PrepPRefIdeal.main_arg1))

def Claim : Prop :=
  ∃ (hKernel : Cert.Kernel.Facts) (hKernelIdeal : Cert.KernelIdeal.Facts) (hReferenceIdeal : Cert.ReferenceIdeal.Facts) (hGdnOut : Cert.GdnOut.Facts) (hGdnOutIdeal : Cert.GdnOutIdeal.Facts) (hGdnOutRefIdeal : Cert.GdnOutRefIdeal.Facts) (hInQk : Cert.InQk.Facts) (hInQkIdeal : Cert.InQkIdeal.Facts) (hInQkRefIdeal : Cert.InQkRefIdeal.Facts) (hInV : Cert.InV.Facts) (hInVIdeal : Cert.InVIdeal.Facts) (hInVRefIdeal : Cert.InVRefIdeal.Facts) (hInZ : Cert.InZ.Facts) (hInZIdeal : Cert.InZIdeal.Facts) (hInZRefIdeal : Cert.InZRefIdeal.Facts) (hDsaOut : Cert.DsaOut.Facts) (hDsaOutIdeal : Cert.DsaOutIdeal.Facts) (hDsaOutRefIdeal : Cert.DsaOutRefIdeal.Facts) (hPeerQ : Cert.PeerQ.Facts) (hPeerQIdeal : Cert.PeerQIdeal.Facts) (hPeerQRefIdeal : Cert.PeerQRefIdeal.Facts) (hKeptRows : Cert.KeptRows.Facts) (hKeptRowsIdeal : Cert.KeptRowsIdeal.Facts) (hKeptRowsRefIdeal : Cert.KeptRowsRefIdeal.Facts) (hPrepS : Cert.PrepS.Facts) (hPrepSIdeal : Cert.PrepSIdeal.Facts) (hPrepSRefIdeal : Cert.PrepSRefIdeal.Facts) (hPrepP : Cert.PrepP.Facts) (hPrepPIdeal : Cert.PrepPIdeal.Facts) (hPrepPRefIdeal : Cert.PrepPRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_InQk (hInQk := hInQk)
    ∧ quiescent_InQkIdeal (hInQkIdeal := hInQkIdeal)
    ∧ quiescent_InQkRefIdeal (hInQkRefIdeal := hInQkRefIdeal)
    ∧ quiescent_InV (hInV := hInV)
    ∧ quiescent_InVIdeal (hInVIdeal := hInVIdeal)
    ∧ quiescent_InVRefIdeal (hInVRefIdeal := hInVRefIdeal)
    ∧ quiescent_InZ (hInZ := hInZ)
    ∧ quiescent_InZIdeal (hInZIdeal := hInZIdeal)
    ∧ quiescent_InZRefIdeal (hInZRefIdeal := hInZRefIdeal)
    ∧ quiescent_DsaOut (hDsaOut := hDsaOut)
    ∧ quiescent_DsaOutIdeal (hDsaOutIdeal := hDsaOutIdeal)
    ∧ quiescent_DsaOutRefIdeal (hDsaOutRefIdeal := hDsaOutRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ quiescent_KeptRows (hKeptRows := hKeptRows)
    ∧ quiescent_KeptRowsIdeal (hKeptRowsIdeal := hKeptRowsIdeal)
    ∧ quiescent_KeptRowsRefIdeal (hKeptRowsRefIdeal := hKeptRowsRefIdeal)
    ∧ quiescent_PrepS (hPrepS := hPrepS)
    ∧ quiescent_PrepSIdeal (hPrepSIdeal := hPrepSIdeal)
    ∧ quiescent_PrepSRefIdeal (hPrepSRefIdeal := hPrepSRefIdeal)
    ∧ quiescent_PrepP (hPrepP := hPrepP)
    ∧ quiescent_PrepPIdeal (hPrepPIdeal := hPrepPIdeal)
    ∧ quiescent_PrepPRefIdeal (hPrepPRefIdeal := hPrepPRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_GdnOut_GdnOutIdeal
    ∧ algebraic_GdnOutIdeal_GdnOutRefIdeal (hGdnOutIdeal := hGdnOutIdeal) (hGdnOutRefIdeal := hGdnOutRefIdeal)
    ∧ preserves_InQk_InQkIdeal
    ∧ algebraic_InQkIdeal_InQkRefIdeal (hInQkIdeal := hInQkIdeal) (hInQkRefIdeal := hInQkRefIdeal)
    ∧ preserves_InV_InVIdeal
    ∧ algebraic_InVIdeal_InVRefIdeal (hInVIdeal := hInVIdeal) (hInVRefIdeal := hInVRefIdeal)
    ∧ preserves_InZ_InZIdeal
    ∧ algebraic_InZIdeal_InZRefIdeal (hInZIdeal := hInZIdeal) (hInZRefIdeal := hInZRefIdeal)
    ∧ preserves_DsaOut_DsaOutIdeal
    ∧ algebraic_DsaOutIdeal_DsaOutRefIdeal (hDsaOutIdeal := hDsaOutIdeal) (hDsaOutRefIdeal := hDsaOutRefIdeal)
    ∧ preserves_PeerQ_PeerQIdeal
    ∧ algebraic_PeerQIdeal_PeerQRefIdeal (hPeerQIdeal := hPeerQIdeal) (hPeerQRefIdeal := hPeerQRefIdeal)
    ∧ preserves_KeptRows_KeptRowsIdeal
    ∧ algebraic_KeptRowsIdeal_KeptRowsRefIdeal (hKeptRowsIdeal := hKeptRowsIdeal) (hKeptRowsRefIdeal := hKeptRowsRefIdeal)
    ∧ preserves_PrepS_PrepSIdeal
    ∧ algebraic_PrepSIdeal_PrepSRefIdeal (hPrepSIdeal := hPrepSIdeal) (hPrepSRefIdeal := hPrepSRefIdeal)
    ∧ preserves_PrepP_PrepPIdeal
    ∧ algebraic_PrepPIdeal_PrepPRefIdeal (hPrepPIdeal := hPrepPIdeal) (hPrepPRefIdeal := hPrepPRefIdeal)
-- ==== Pre_finite_inputs.lean ====
abbrev S8704x4096 : Shape := ⟨2, ![8704, 4096]⟩
abbrev S4x8192 : Shape := ⟨2, ![4, 8192]⟩
abbrev S8x3x8192 : Shape := ⟨3, ![8, 3, 8192]⟩
abbrev S8x64x32 : Shape := ⟨3, ![8, 64, 32]⟩
abbrev S32 : Shape := ⟨1, ![32]⟩
abbrev S128 : Shape := ⟨1, ![128]⟩
abbrev S8x32x128x128 : Shape := ⟨4, ![8, 32, 128, 128]⟩
abbrev S_ : Shape := ⟨0, ![]⟩

class Facts : Prop where
  bcast_S_S8704x4096 : S_.BroadcastsInDim S8704x4096 (![] : Fin 0 → Fin S8704x4096.rank)
  reducesTo_S8704x4096_S_d0_1 : S8704x4096.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_
  bcast_S_S8x3x8192 : S_.BroadcastsInDim S8x3x8192 (![] : Fin 0 → Fin S8x3x8192.rank)
  reducesTo_S8x3x8192_S_d0_1_2 : S8x3x8192.ReducesTo [0, 1, 2] S_
  bcast_S_S8x64x32 : S_.BroadcastsInDim S8x64x32 (![] : Fin 0 → Fin S8x64x32.rank)
  reducesTo_S8x64x32_S_d0_1_2 : S8x64x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S8x64x32 .f32) (main_arg7 : FVec F S32 .f32) (main_arg8 : FVec F S32 .f32) (main_v13 : IVec S_ 1) (main_v16 : IVec S8x3x8192 1) : IVec S_ 1 :=
  let main_c_5 : IVec S_ 1 := constantI S_ 1 1#1
  let main_v17 : IVec S_ 1 := (fun x v => Host.reduce IntOp.andi x v reducesTo_S8x3x8192_S_d0_1_2 h_S_) main_v16 main_c_5
  let main_v18 : IVec S_ 1 := andi main_v13 main_v17
  let main_v19 : FVec F S8x64x32 .f32 := Host.absf main_arg6
  let main_cst_6 : FVec F S_ .f32 := constant S_ .f32 0x7F800000#32
  let main_v20 : FVec F S8x64x32 .f32 := broadcastInDim S8x64x32 ![] bcast_S_S8x64x32 main_cst_6
  let main_v21 : IVec S8x64x32 1 := cmpf .olt main_v19 main_v20
  let main_c_7 : IVec S_ 1 := constantI S_ 1 1#1
  let main_v22 : IVec S_ 1 := (fun x v => Host.reduce IntOp.andi x v reducesTo_S8x64x32_S_d0_1_2 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S8704x4096 .f32) (main_arg1 : FVec F S8704x4096 .f32) (main_arg2 : FVec F S8704x4096 .f32) (main_arg3 : FVec F S4x8192 .f32) (main_arg4 : FVec F S8x3x8192 .f32) (main_arg5 : FVec F S8x64x32 .f32) (main_arg6 : FVec F S8x64x32 .f32) (main_arg7 : FVec F S32 .f32) (main_arg8 : FVec F S32 .f32) (main_arg9 : FVec F S128 .f32) (main_arg10 : FVec F S8x32x128x128 .f32) (main_arg11 : FVec F S8704x4096 .bf16) : IVec S_ 1 :=
  let main_v0 : FVec F S8704x4096 .f32 := Host.absf main_arg0
  let main_cst : FVec F S_ .f32 := constant S_ .f32 0x7F800000#32
  let main_v1 : FVec F S8704x4096 .f32 := broadcastInDim S8704x4096 ![] bcast_S_S8704x4096 main_cst
  let main_v2 : IVec S8704x4096 1 := cmpf .olt main_v0 main_v1
  let main_c : IVec S_ 1 := constantI S_ 1 1#1
  let main_v3 : IVec S_ 1 := (fun x v => Host.reduce IntOp.andi x v reducesTo_S8704x4096_S_d0_1 h_S_) main_v2 main_c
  let main_v4 : FVec F S8704x4096 .f32 := Host.absf main_arg1
  let main_cst_0 : FVec F S_ .f32 := constant S_ .f32 0x7F800000#32
  let main_v5 : FVec F S8704x4096 .f32 := broadcastInDim S8704x4096 ![] bcast_S_S8704x4096 main_cst_0
  let main_v6 : IVec S8704x4096 1 := cmpf .olt main_v4 main_v5
  let main_c_1 : IVec S_ 1 := constantI S_ 1 1#1
  let main_v7 : IVec S_ 1 := (fun x v => Host.reduce IntOp.andi x v reducesTo_S8704x4096_S_d0_1 h_S_) main_v6 main_c_1
  let main_v8 : IVec S_ 1 := andi main_v3 main_v7
  let main_v9 : FVec F S4x8192 .f32 := Host.absf main_arg3
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  let main_v14 : FVec F S8x3x8192 .f32 := Host.absf main_arg4
  let main_cst_4 : FVec F S_ .f32 := constant S_ .f32 0x7F800000#32
  let main_v15 : FVec F S8x3x8192 .f32 := broadcastInDim S8x3x8192 ![] bcast_S_S8x3x8192 main_cst_4
  let main_v16 : IVec S8x3x8192 1 := cmpf .olt main_v14 main_v15
  fn_part1 (F := F) main_arg6 main_arg7 main_arg8 main_v13 main_v16
-- ==== Kernel.lean ====
abbrev S8704x4096 : Shape := ⟨2, ![8704, 4096]⟩
abbrev S4x8192 : Shape := ⟨2, ![4, 8192]⟩
abbrev S8x3x8192 : Shape := ⟨3, ![8, 3, 8192]⟩
abbrev S8x64x32 : Shape := ⟨3, ![8, 64, 32]⟩
abbrev S32 : Shape := ⟨1, ![32]⟩
abbrev S128 : Shape := ⟨1, ![128]⟩
abbrev S8x32x128x128 : Shape := ⟨4, ![8, 32, 128, 128]⟩
abbrev S_ : Shape := ⟨0, ![]⟩
abbrev S1x1x32 : Shape := ⟨3, ![1, 1, 32]⟩
abbrev S8x64x1x32 : Shape := ⟨4, ![8, 64, 1, 32]⟩
abbrev S8x1x64x32 : Shape := ⟨4, ![8, 1, 64, 32]⟩
abbrev S8x1x1x64x32 : Shape := ⟨5, ![8, 1, 1, 64, 32]⟩
abbrev S8x1x1x32x64 : Shape := ⟨5, ![8, 1, 1, 32, 64]⟩
abbrev S1x128 : Shape := ⟨2, ![1, 128]⟩
abbrev S64x2048 : Shape := ⟨2, ![64, 2048]⟩
abbrev S64x4096 : Shape := ⟨2, ![64, 4096]⟩
abbrev S4x2048 : Shape := ⟨2, ![4, 2048]⟩
abbrev S4x4096 : Shape := ⟨2, ![4, 4096]⟩
abbrev S1x3x2048 : Shape := ⟨3, ![1, 3, 2048]⟩
abbrev S1x3x4096 : Shape := ⟨3, ![1, 3, 4096]⟩
abbrev S1x1x64x32 : Shape := ⟨4, ![1, 1, 64, 32]⟩
abbrev S1x1x1x32x64 : Shape := ⟨5, ![1, 1, 1, 32, 64]⟩
abbrev S1x32x128x128 : Shape := ⟨4, ![1, 32, 128, 128]⟩
abbrev S32x128x128 : Shape := ⟨3, ![32, 128, 128]⟩
abbrev S72x2048 : Shape := ⟨2, ![72, 2048]⟩
abbrev S72x4096 : Shape := ⟨2, ![72, 4096]⟩
abbrev S8x2048 : Shape := ⟨2, ![8, 2048]⟩
abbrev S3x2048 : Shape := ⟨2, ![3, 2048]⟩
abbrev S8x4096 : Shape := ⟨2, ![8, 4096]⟩
abbrev S3x4096 : Shape := ⟨2, ![3, 4096]⟩
abbrev S1x2048 : Shape := ⟨2, ![1, 2048]⟩
abbrev S1x4096 : Shape := ⟨2, ![1, 4096]⟩
abbrev S64x128 : Shape := ⟨2, ![64, 128]⟩
abbrev S64 : Shape := ⟨1, ![64]⟩
abbrev S64x1 : Shape := ⟨2, ![64, 1]⟩
abbrev S64x64 : Shape := ⟨2, ![64, 64]⟩
abbrev S64x32 : Shape := ⟨2, ![64, 32]⟩
abbrev S32x64 : Shape := ⟨2, ![32, 64]⟩
abbrev S1x64 : Shape := ⟨2, ![1, 64]⟩
abbrev S64x256 : Shape := ⟨2, ![64, 256]⟩
abbrev S128x128 : Shape := ⟨2, ![128, 128]⟩
abbrev S1x1 : Shape := ⟨2, ![1, 1]⟩
abbrev S1x128x128 : Shape := ⟨3, ![1, 128, 128]⟩
abbrev S128x64 : Shape := ⟨2, ![128, 64]⟩

abbrev nBuf : Space → Nat
  | .hbm => 51
  | .vmem => 34
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S8704x4096, .f32⟩
  | .hbm, ⟨3, _⟩ => ⟨S4x8192, .f32⟩
  | .hbm, ⟨4, _⟩ => ⟨S8x3x8192, .f32⟩
  | .hbm, ⟨5, _⟩ => ⟨S8x64x32, .f32⟩
  | .hbm, ⟨6, _⟩ => ⟨S8x64x32, .f32⟩
  | .hbm, ⟨7, _⟩ => ⟨S32, .f32⟩
  | .hbm, ⟨8, _⟩ => ⟨S32, .f32⟩
  | .hbm, ⟨9, _⟩ => ⟨S128, .f32⟩
  | .hbm, ⟨10, _⟩ => ⟨S8x32x128x128, .f32⟩
  | .hbm, ⟨11, _⟩ => ⟨S8704x4096, .bf16⟩
  | .hbm, ⟨12, _⟩ => ⟨S8x64x32, .f32⟩
  | .hbm, ⟨13, _⟩ => ⟨S8x64x32, .f32⟩
  | .hbm, ⟨14, _⟩ => ⟨S_, .f32⟩
  | .hbm, ⟨15, _⟩ => ⟨S8x64x32, .f32⟩
  | .hbm, ⟨16, _⟩ => ⟨S8x64x32, .f32⟩
  | .hbm, ⟨17, _⟩ => ⟨S_, .f32⟩
  | .hbm, ⟨18, _⟩ => ⟨S8x64x32, .f32⟩
  | .hbm, ⟨19, _⟩ => ⟨S8x64x32, .f32⟩
  | .hbm, ⟨20, _⟩ => ⟨S32, .f32⟩
  | .hbm, ⟨21, _⟩ => ⟨S32, .f32⟩
  | .hbm, ⟨22, _⟩ => ⟨S1x1x32, .f32⟩
  | .hbm, ⟨23, _⟩ => ⟨S8x64x32, .f32⟩
  | .hbm, ⟨24, _⟩ => ⟨S8x64x32, .f32⟩
  | .hbm, ⟨25, _⟩ => ⟨S_, .f32⟩
  | .hbm, ⟨26, _⟩ => ⟨S8x64x32, .f32⟩
  | .hbm, ⟨27, _⟩ => ⟨S8x64x32, .f32⟩
  | .hbm, ⟨28, _⟩ => ⟨S8x64x32, .f32⟩
  | .hbm, ⟨29, _⟩ => ⟨S8x64x32, .f32⟩
  | .hbm, ⟨30, _⟩ => ⟨S8x64x32, .i1⟩
  | .hbm, ⟨31, _⟩ => ⟨S8x64x32, .f32⟩
  | .hbm, ⟨32, _⟩ => ⟨S8x64x32, .f32⟩
  | .hbm, ⟨33, _⟩ => ⟨S8x64x32, .f32⟩
  | .hbm, ⟨34, _⟩ => ⟨S8x64x32, .f32⟩
  | .hbm, ⟨35, _⟩ => ⟨S8x64x32, .f32⟩
  | .hbm, ⟨36, _⟩ => ⟨S8x64x32, .f32⟩
  | .hbm, ⟨37, _⟩ => ⟨S8x64x32, .f32⟩
  | .hbm, ⟨38, _⟩ => ⟨S8x64x32, .f32⟩
  | .hbm, ⟨39, _⟩ => ⟨S1x1x32, .f32⟩
  | .hbm, ⟨40, _⟩ => ⟨S8x64x32, .f32⟩
  | .hbm, ⟨41, _⟩ => ⟨S8x64x32, .f32⟩
  | .hbm, ⟨42, _⟩ => ⟨S8x64x1x32, .f32⟩
  | .hbm, ⟨43, _⟩ => ⟨S8x1x64x32, .f32⟩
  | .hbm, ⟨44, _⟩ => ⟨S8x64x1x32, .f32⟩
  | .hbm, ⟨45, _⟩ => ⟨S8x1x64x32, .f32⟩
  | .hbm, ⟨46, _⟩ => ⟨S8x1x1x64x32, .f32⟩
  | .hbm, ⟨47, _⟩ => ⟨S8x1x1x32x64, .f32⟩
  | .hbm, ⟨48, _⟩ => ⟨S1x128, .f32⟩
  | .hbm, ⟨49, _⟩ => ⟨S8704x4096, .bf16⟩
  | .hbm, ⟨50, _⟩ => ⟨S8x32x128x128, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x4096, .f32⟩
  | .local _ .vmem, ⟨5, _⟩ => ⟨S64x4096, .f32⟩
  | .local _ .vmem, ⟨6, _⟩ => ⟨S4x2048, .f32⟩
  | .local _ .vmem, ⟨7, _⟩ => ⟨S4x2048, .f32⟩
  | .local _ .vmem, ⟨8, _⟩ => ⟨S4x4096, .f32⟩
  | .local _ .vmem, ⟨9, _⟩ => ⟨S1x3x2048, .f32⟩
  | .local _ .vmem, ⟨10, _⟩ => ⟨S1x3x2048, .f32⟩
  | .local _ .vmem, ⟨11, _⟩ => ⟨S1x3x2048, .f32⟩
  | .local _ .vmem, ⟨12, _⟩ => ⟨S1x3x2048, .f32⟩
  | .local _ .vmem, ⟨13, _⟩ => ⟨S1x3x4096, .f32⟩
  | .local _ .vmem, ⟨14, _⟩ => ⟨S1x3x4096, .f32⟩
  | .local _ .vmem, ⟨15, _⟩ => ⟨S64x4096, .f32⟩
  | .local _ .vmem, ⟨16, _⟩ => ⟨S64x4096, .f32⟩
  | .local _ .vmem, ⟨17, _⟩ => ⟨S1x1x64x32, .f32⟩
  | .local _ .vmem, ⟨18, _⟩ => ⟨S1x1x64x32, .f32⟩
  | .local _ .vmem, ⟨19, _⟩ => ⟨S1x1x1x32x64, .f32⟩
  | .local _ .vmem, ⟨20, _⟩ => ⟨S1x1x1x32x64, .f32⟩
  | .local _ .vmem, ⟨21, _⟩ => ⟨S1x1x64x32, .f32⟩
  | .local _ .vmem, ⟨22, _⟩ => ⟨S1x1x64x32, .f32⟩
  | .local _ .vmem, ⟨23, _⟩ => ⟨S1x128, .f32⟩
  | .local _ .vmem, ⟨24, _⟩ => ⟨S1x32x128x128, .f32⟩
  | .local _ .vmem, ⟨25, _⟩ => ⟨S1x32x128x128, .f32⟩
  | .local _ .vmem, ⟨26, _⟩ => ⟨S64x4096, .bf16⟩
  | .local _ .vmem, ⟨27, _⟩ => ⟨S64x4096, .bf16⟩
  | .local _ .vmem, ⟨28, _⟩ => ⟨S1x32x128x128, .f32⟩
  | .local _ .vmem, ⟨29, _⟩ => ⟨S1x32x128x128, .f32⟩
  | .local _ .vmem, ⟨30, _⟩ => ⟨S32x128x128, .f32⟩
  | .local _ .vmem, ⟨31, _⟩ => ⟨S72x2048, .f32⟩
  | .local _ .vmem, ⟨32, _⟩ => ⟨S72x2048, .f32⟩
  | .local _ .vmem, ⟨33, _⟩ => ⟨S72x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22_0 : Ref sig .tc := ⟨.hbm, 49, rfl⟩
abbrev main_v22_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_1428 : BitVec 32 := 0#32
  let v6176 : BitVec 1 := Scalar.cmpi .eq arg2 c0_i32_1428
  let v6177 : BitVec 32 := Scalar.extui v6176
  let c0_i32_1429 : BitVec 32 := 0#32
  let v6178 : BitVec 1 := Scalar.cmpi .ne v6177 c0_i32_1429
  v6178

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c1_i32_0 : BitVec 32 := 1#32
  let v3 : BitVec 32 := Scalar.addi c1_i32_0 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c0_i32 : BitVec 32 := 0#32
  ![v2.toNat, arg1.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1x3x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x3x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x3x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x64x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x32x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x64x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S1x32x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S64x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x32x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]
-- ==== ReferenceIdeal.lean ====
abbrev S8704x4096 : Shape := ⟨2, ![8704, 4096]⟩
abbrev S4x8192 : Shape := ⟨2, ![4, 8192]⟩
abbrev S8x3x8192 : Shape := ⟨3, ![8, 3, 8192]⟩
abbrev S8x64x32 : Shape := ⟨3, ![8, 64, 32]⟩
abbrev S32 : Shape := ⟨1, ![32]⟩
abbrev S128 : Shape := ⟨1, ![128]⟩
abbrev S8x32x128x128 : Shape := ⟨4, ![8, 32, 128, 128]⟩
abbrev S512x4096 : Shape := ⟨2, ![512, 4096]⟩
abbrev S512x8192 : Shape := ⟨2, ![512, 8192]⟩
abbrev S8x64x8192 : Shape := ⟨3, ![8, 64, 8192]⟩
abbrev S8x67x8192 : Shape := ⟨3, ![8, 67, 8192]⟩
abbrev S1x8192 : Shape := ⟨2, ![1, 8192]⟩
abbrev S8192 : Shape := ⟨1, ![8192]⟩
abbrev S1x1x8192 : Shape := ⟨3, ![1, 1, 8192]⟩
abbrev S_ : Shape := ⟨0, ![]⟩
abbrev S8x64x2048 : Shape := ⟨3, ![8, 64, 2048]⟩
abbrev S8x64x4096 : Shape := ⟨3, ![8, 64, 4096]⟩
abbrev S8x64x16x128 : Shape := ⟨4, ![8, 64, 16, 128]⟩
abbrev S8x64x16 : Shape := ⟨3, ![8, 64, 16]⟩
abbrev S8x64x16x1 : Shape := ⟨4, ![8, 64, 16, 1]⟩
abbrev S8x64x16x2x128 : Shape := ⟨5, ![8, 64, 16, 2, 128]⟩
abbrev S8x64x32x128 : Shape := ⟨4, ![8, 64, 32, 128]⟩
abbrev S1x1x32 : Shape := ⟨3, ![1, 1, 32]⟩
abbrev S8x32x64x128 : Shape := ⟨4, ![8, 32, 64, 128]⟩
abbrev S8x32x64 : Shape := ⟨3, ![8, 32, 64]⟩
abbrev S64x64 : Shape := ⟨2, ![64, 64]⟩
abbrev S8x32x64x1 : Shape := ⟨4, ![8, 32, 64, 1]⟩
abbrev S8x32x1x64 : Shape := ⟨4, ![8, 32, 1, 64]⟩
abbrev S8x32x64x64 : Shape := ⟨4, ![8, 32, 64, 64]⟩
abbrev S64 : Shape := ⟨1, ![64]⟩
abbrev S64x1 : Shape := ⟨2, ![64, 1]⟩
abbrev S1x64 : Shape := ⟨2, ![1, 64]⟩
abbrev S8x32x1 : Shape := ⟨3, ![8, 32, 1]⟩
abbrev S8x32 : Shape := ⟨2, ![8, 32]⟩
abbrev S8x32x1x1 : Shape := ⟨4, ![8, 32, 1, 1]⟩
abbrev S8x64x32x1 : Shape := ⟨4, ![8, 64, 32, 1]⟩
abbrev S1x1x1x128 : Shape := ⟨4, ![1, 1, 1, 128]⟩
abbrev S8192x4096 : Shape := ⟨2, ![8192, 4096]⟩

abbrev nBuf : Space → Nat
  | .hbm => 272
  | .vmem => 0
  | .smem => 0
  | _ => 0

abbrev hbmTy0_0 (i : Nat) : BufTy := match i % 128 with
  | 0 => ⟨S8704x4096, .f32⟩
  | 1 => ⟨S8704x4096, .f32⟩
  | 2 => ⟨S8704x4096, .f32⟩
  | 3 => ⟨S4x8192, .f32⟩
  | 4 => ⟨S8x3x8192, .f32⟩
  | 5 => ⟨S8x64x32, .f32⟩
  | 6 => ⟨S8x64x32, .f32⟩
  | 7 => ⟨S32, .f32⟩
  | 8 => ⟨S32, .f32⟩
  | 9 => ⟨S128, .f32⟩
  | 10 => ⟨S8x32x128x128, .f32⟩
  | 11 => ⟨S8704x4096, .bf16⟩
  | 12 => ⟨S512x4096, .f32⟩
  | 13 => ⟨S512x4096, .f32⟩
  | 14 => ⟨S512x8192, .f32⟩
  | 15 => ⟨S8x64x8192, .f32⟩
  | 16 => ⟨S8x67x8192, .f32⟩
  | 17 => ⟨S8x64x8192, .f32⟩
  | 18 => ⟨S1x8192, .f32⟩
  | 19 => ⟨S8192, .f32⟩
  | 20 => ⟨S1x1x8192, .f32⟩
  | 21 => ⟨S8x64x8192, .f32⟩
  | 22 => ⟨S8x64x8192, .f32⟩
  | 23 => ⟨S8x64x8192, .f32⟩
  | 24 => ⟨S1x8192, .f32⟩
  | 25 => ⟨S8192, .f32⟩
  | 26 => ⟨S1x1x8192, .f32⟩
  | 27 => ⟨S8x64x8192, .f32⟩
  | 28 => ⟨S8x64x8192, .f32⟩
  | 29 => ⟨S8x64x8192, .f32⟩
  | 30 => ⟨S8x64x8192, .f32⟩
  | 31 => ⟨S1x8192, .f32⟩
  | 32 => ⟨S8192, .f32⟩
  | 33 => ⟨S1x1x8192, .f32⟩
  | 34 => ⟨S8x64x8192, .f32⟩
  | 35 => ⟨S8x64x8192, .f32⟩
  | 36 => ⟨S8x64x8192, .f32⟩
  | 37 => ⟨S8x64x8192, .f32⟩
  | 38 => ⟨S1x8192, .f32⟩
  | 39 => ⟨S8192, .f32⟩
  | 40 => ⟨S1x1x8192, .f32⟩
  | 41 => ⟨S8x64x8192, .f32⟩
  | 42 => ⟨S8x64x8192, .f32⟩
  | 43 => ⟨S8x64x8192, .f32⟩
  | 44 => ⟨S8x64x8192, .f32⟩
  | 45 => ⟨S8x64x8192, .f32⟩
  | 46 => ⟨S_, .f32⟩
  | 47 => ⟨S8x64x8192, .f32⟩
  | 48 => ⟨S8x64x8192, .f32⟩
  | 49 => ⟨S_, .f32⟩
  | 50 => ⟨S8x64x8192, .f32⟩
  | 51 => ⟨S8x64x8192, .f32⟩
  | 52 => ⟨S8x64x8192, .f32⟩
  | 53 => ⟨S8x64x2048, .f32⟩
  | 54 => ⟨S8x64x2048, .f32⟩
  | 55 => ⟨S8x64x4096, .f32⟩
  | 56 => ⟨S8x64x16x128, .f32⟩
  | 57 => ⟨S8x64x16x128, .f32⟩
  | 58 => ⟨S8x64x16x128, .f32⟩
  | 59 => ⟨S_, .f32⟩
  | 60 => ⟨S8x64x16, .f32⟩
  | 61 => ⟨S8x64x16x1, .f32⟩
  | 62 => ⟨S_, .f32⟩
  | 63 => ⟨S8x64x16x1, .f32⟩
  | 64 => ⟨S8x64x16x1, .f32⟩
  | 65 => ⟨S8x64x16x1, .f32⟩
  | 66 => ⟨S8x64x16x128, .f32⟩
  | 67 => ⟨S8x64x16x128, .f32⟩
  | 68 => ⟨S_, .f32⟩
  | 69 => ⟨S8x64x16x128, .f32⟩
  | 70 => ⟨S8x64x16x128, .f32⟩
  | 71 => ⟨S8x64x16x128, .f32⟩
  | 72 => ⟨S_, .f32⟩
  | 73 => ⟨S8x64x16, .f32⟩
  | 74 => ⟨S8x64x16x1, .f32⟩
  | 75 => ⟨S_, .f32⟩
  | 76 => ⟨S8x64x16x1, .f32⟩
  | 77 => ⟨S8x64x16x1, .f32⟩
  | 78 => ⟨S8x64x16x1, .f32⟩
  | 79 => ⟨S8x64x16x128, .f32⟩
  | 80 => ⟨S8x64x16x128, .f32⟩
  | 81 => ⟨S8x64x16x2x128, .f32⟩
  | 82 => ⟨S8x64x32x128, .f32⟩
  | 83 => ⟨S8x64x16x2x128, .f32⟩
  | 84 => ⟨S8x64x32x128, .f32⟩
  | 85 => ⟨S8x64x32x128, .f32⟩
  | 86 => ⟨S8x64x32, .f32⟩
  | 87 => ⟨S8x64x32, .f32⟩
  | 88 => ⟨S_, .f32⟩
  | 89 => ⟨S8x64x32, .f32⟩
  | 90 => ⟨S8x64x32, .f32⟩
  | 91 => ⟨S_, .f32⟩
  | 92 => ⟨S8x64x32, .f32⟩
  | 93 => ⟨S8x64x32, .f32⟩
  | 94 => ⟨S32, .f32⟩
  | 95 => ⟨S32, .f32⟩
  | 96 => ⟨S1x1x32, .f32⟩
  | 97 => ⟨S8x64x32, .f32⟩
  | 98 => ⟨S8x64x32, .f32⟩
  | 99 => ⟨S_, .f32⟩
  | 100 => ⟨S8x64x32, .f32⟩
  | 101 => ⟨S8x64x32, .f32⟩
  | 102 => ⟨S8x64x32, .f32⟩
  | 103 => ⟨S8x64x32, .f32⟩
  | 104 => ⟨S8x64x32, .i1⟩
  | 105 => ⟨S8x64x32, .f32⟩
  | 106 => ⟨S8x64x32, .f32⟩
  | 107 => ⟨S8x64x32, .f32⟩
  | 108 => ⟨S8x64x32, .f32⟩
  | 109 => ⟨S8x64x32, .f32⟩
  | 110 => ⟨S8x64x32, .f32⟩
  | 111 => ⟨S8x64x32, .f32⟩
  | 112 => ⟨S8x64x32, .f32⟩
  | 113 => ⟨S1x1x32, .f32⟩
  | 114 => ⟨S8x64x32, .f32⟩
  | 115 => ⟨S8x64x32, .f32⟩
  | 116 => ⟨S8x32x64x128, .f32⟩
  | 117 => ⟨S8x32x64x128, .f32⟩
  | 118 => ⟨S8x32x64x128, .f32⟩
  | 119 => ⟨S8x32x64, .f32⟩
  | 120 => ⟨S8x32x64, .f32⟩
  | 121 => ⟨S_, .f32⟩
  | 122 => ⟨S_, .f32⟩
  | 123 => ⟨S8x32x64, .f32⟩
  | 124 => ⟨S_, .i1⟩
  | 125 => ⟨S64x64, .i1⟩
  | 126 => ⟨S64x64, .i32⟩
  | 127 => ⟨S_, .i32⟩
  | _ => ⟨S8704x4096, .f32⟩

abbrev hbmTy0_1 (i : Nat) : BufTy := match i % 128 with
  | 0 => ⟨S64x64, .i32⟩
  | 1 => ⟨S64x64, .i32⟩
  | 2 => ⟨S64x64, .i32⟩
  | 3 => ⟨S64x64, .i1⟩
  | 4 => ⟨S_, .i1⟩
  | 5 => ⟨S64x64, .i1⟩
  | 6 => ⟨S64x64, .i1⟩
  | 7 => ⟨S8x32x64x1, .f32⟩
  | 8 => ⟨S8x32x1x64, .f32⟩
  | 9 => ⟨S8x32x64x64, .f32⟩
  | 10 => ⟨S8x32x64x64, .f32⟩
  | 11 => ⟨S8x32x64x64, .f32⟩
  | 12 => ⟨S_, .f32⟩
  | 13 => ⟨S_, .f32⟩
  | 14 => ⟨S8x32x64x64, .i1⟩
  | 15 => ⟨S8x32x64x64, .f32⟩
  | 16 => ⟨S8x32x64x64, .f32⟩
  | 17 => ⟨S8x32x64x64, .f32⟩
  | 18 => ⟨S8x32x64x1, .f32⟩
  | 19 => ⟨S8x32x64x128, .f32⟩
  | 20 => ⟨S8x32x64x128, .f32⟩
  | 21 => ⟨S64, .i32⟩
  | 22 => ⟨S64x1, .i32⟩
  | 23 => ⟨S8x32x64x64, .f32⟩
  | 24 => ⟨S1x64, .i32⟩
  | 25 => ⟨S64x64, .i32⟩
  | 26 => ⟨S64x64, .i32⟩
  | 27 => ⟨S64x64, .i1⟩
  | 28 => ⟨S8x32x64x64, .i1⟩
  | 29 => ⟨S_, .f32⟩
  | 30 => ⟨S8x32x64x64, .f32⟩
  | 31 => ⟨S8x32x64x64, .f32⟩
  | 32 => ⟨S8x32x64x64, .f32⟩
  | 33 => ⟨S8x32x64x1, .f32⟩
  | 34 => ⟨S8x32x64x128, .f32⟩
  | 35 => ⟨S8x32x64x128, .f32⟩
  | 36 => ⟨S8x32x64, .f32⟩
  | 37 => ⟨S8x32x64x1, .f32⟩
  | 38 => ⟨S8x32x64x128, .f32⟩
  | 39 => ⟨S8x32x64x128, .f32⟩
  | 40 => ⟨S8x32x64x64, .f32⟩
  | 41 => ⟨S8x32x64x64, .f32⟩
  | 42 => ⟨S8x32x64, .f32⟩
  | 43 => ⟨S8x32x64x1, .f32⟩
  | 44 => ⟨S8x32x64x128, .f32⟩
  | 45 => ⟨S8x32x64x128, .f32⟩
  | 46 => ⟨S8x32x1, .f32⟩
  | 47 => ⟨S8x32x64, .f32⟩
  | 48 => ⟨S8x32x64, .f32⟩
  | 49 => ⟨S8x32x64, .f32⟩
  | 50 => ⟨S8x32x64x1, .f32⟩
  | 51 => ⟨S8x32x64x128, .f32⟩
  | 52 => ⟨S8x32x64x128, .f32⟩
  | 53 => ⟨S8x32x1, .f32⟩
  | 54 => ⟨S8x32, .f32⟩
  | 55 => ⟨S8x32, .f32⟩
  | 56 => ⟨S_, .f32⟩
  | 57 => ⟨S8x32x64x128, .f32⟩
  | 58 => ⟨S_, .f32⟩
  | 59 => ⟨S8x32x64x128, .f32⟩
  | 60 => ⟨S_, .f32⟩
  | 61 => ⟨S8x32x64x128, .f32⟩
  | 62 => ⟨S_, .f32⟩
  | 63 => ⟨S8x32x128x128, .f32⟩
  | 64 => ⟨S_, .i32⟩
  | 65 => ⟨S_, .i32⟩
  | 66 => ⟨S64x1, .i32⟩
  | 67 => ⟨S8x32x64x64, .f32⟩
  | 68 => ⟨S8x32x64x128, .f32⟩
  | 69 => ⟨S8x32x64x128, .f32⟩
  | 70 => ⟨S8x32x128x128, .f32⟩
  | 71 => ⟨S8x32x64x128, .f32⟩
  | 72 => ⟨S8x32x64x64, .f32⟩
  | 73 => ⟨S8x32, .f32⟩
  | 74 => ⟨S8x32x64x128, .f32⟩
  | 75 => ⟨S_, .i32⟩
  | 76 => ⟨S_, .i32⟩
  | 77 => ⟨S8x32x64x128, .f32⟩
  | 78 => ⟨S8x32x64x128, .f32⟩
  | 79 => ⟨S8x32x64x128, .f32⟩
  | 80 => ⟨S8x32x128x128, .f32⟩
  | 81 => ⟨S_, .i32⟩
  | 82 => ⟨S_, .i1⟩
  | 83 => ⟨S_, .i32⟩
  | 84 => ⟨S_, .i32⟩
  | 85 => ⟨S_, .i32⟩
  | 86 => ⟨S64x1, .i32⟩
  | 87 => ⟨S64x1, .i1⟩
  | 88 => ⟨S8x32x64x128, .f32⟩
  | 89 => ⟨S8x32x64x128, .f32⟩
  | 90 => ⟨S8x32x64x128, .i1⟩
  | 91 => ⟨S8x32x64x128, .f32⟩
  | 92 => ⟨S_, .i32⟩
  | 93 => ⟨S64x1, .i32⟩
  | 94 => ⟨S64x1, .i1⟩
  | 95 => ⟨S8x32x64x128, .f32⟩
  | 96 => ⟨S8x32x64x128, .f32⟩
  | 97 => ⟨S8x32x64x128, .i1⟩
  | 98 => ⟨S8x32x64x128, .f32⟩
  | 99 => ⟨S8x32x64x128, .f32⟩
  | 100 => ⟨S8x32x64x128, .f32⟩
  | 101 => ⟨S8x32x64x128, .f32⟩
  | 102 => ⟨S8x32x64x128, .f32⟩
  | 103 => ⟨S8x32x64x128, .f32⟩
  | 104 => ⟨S8x32x1x1, .f32⟩
  | 105 => ⟨S8x32x128x128, .f32⟩
  | 106 => ⟨S8x32x128x128, .f32⟩
  | 107 => ⟨S8x32x128x128, .f32⟩
  | 108 => ⟨S8x32x128x128, .f32⟩
  | 109 => ⟨S_, .i32⟩
  | 110 => ⟨S_, .i32⟩
  | 111 => ⟨S8x64x32x128, .f32⟩
  | 112 => ⟨S8x64x32x128, .f32⟩
  | 113 => ⟨S_, .f32⟩
  | 114 => ⟨S8x64x32, .f32⟩
  | 115 => ⟨S8x64x32x1, .f32⟩
  | 116 => ⟨S_, .f32⟩
  | 117 => ⟨S8x64x32x1, .f32⟩
  | 118 => ⟨S8x64x32x1, .f32⟩
  | 119 => ⟨S_, .f32⟩
  | 120 => ⟨S8x64x32x1, .f32⟩
  | 121 => ⟨S8x64x32x1, .f32⟩
  | 122 => ⟨S8x64x32x1, .f32⟩
  | 123 => ⟨S8x64x32x128, .f32⟩
  | 124 => ⟨S8x64x32x128, .f32⟩
  | 125 => ⟨S1x1x1x128, .f32⟩
  | 126 => ⟨S8x64x32x128, .f32⟩
  | 127 => ⟨S8x64x32x128, .f32⟩
  | _ => ⟨S8704x4096, .f32⟩

abbrev hbmTy0_2 (i : Nat) : BufTy := match i % 128 with
  | 0 => ⟨S512x4096, .f32⟩
  | 1 => ⟨S8x64x32x128, .f32⟩
  | 2 => ⟨S8x64x32x128, .f32⟩
  | 3 => ⟨S8x64x32x128, .f32⟩
  | 4 => ⟨S_, .f32⟩
  | 5 => ⟨S8x64x32x128, .f32⟩
  | 6 => ⟨S8x64x32x128, .f32⟩
  | 7 => ⟨S_, .f32⟩
  | 8 => ⟨S8x64x32x128, .f32⟩
  | 9 => ⟨S8x64x32x128, .f32⟩
  | 10 => ⟨S8x64x32x128, .f32⟩
  | 11 => ⟨S8x64x32x128, .f32⟩
  | 12 => ⟨S512x4096, .f32⟩
  | 13 => ⟨S512x4096, .bf16⟩
  | 14 => ⟨S8192x4096, .bf16⟩
  | 15 => ⟨S8704x4096, .bf16⟩
  | _ => ⟨S8704x4096, .f32⟩

abbrev hbmTy (i : Nat) : BufTy := match i / 128 with
  | 0 => hbmTy0_0 i
  | 1 => hbmTy0_1 i
  | 2 => hbmTy0_2 i
  | _ => ⟨S8704x4096, .f32⟩

abbrev bufTy : (tb : Table) → Fin (tcTables nBuf tb) → BufTy
  | .hbm, ⟨i, _⟩ => hbmTy i
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_cst_0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_1 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_2 : Ref sig .tc := ⟨.hbm, 72, rfl⟩
abbrev main_v49 : Ref sig .tc := ⟨.hbm, 73, rfl⟩
abbrev main_v50 : Ref sig .tc := ⟨.hbm, 74, rfl⟩
abbrev main_cst_3 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_4 : Ref sig .tc := ⟨.hbm, 88, rfl⟩
abbrev main_v63 : Ref sig .tc := ⟨.hbm, 89, rfl⟩
abbrev main_v64 : Ref sig .tc := ⟨.hbm, 90, rfl⟩
abbrev main_cst_5 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call2_call0_cst : Ref sig .tc := ⟨.hbm, 121, rfl⟩
abbrev main_call2_call0_v0 : Ref sig .tc := ⟨.hbm, 122, rfl⟩
abbrev main_v81 : Ref sig .tc := ⟨.hbm, 123, rfl⟩
abbrev main_c : Ref sig .tc := ⟨.hbm, 124, rfl⟩
abbrev main_v82 : Ref sig .tc := ⟨.hbm, 125, rfl⟩
abbrev main_call3_v0 : Ref sig .tc := ⟨.hbm, 126, rfl⟩
abbrev main_call3_c : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_c_0 : Ref sig .tc := ⟨.hbm, 132, rfl⟩
abbrev main_call3_v5 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_6 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_7 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_8 : Ref sig .tc := ⟨.hbm, 184, rfl⟩
abbrev main_v128 : Ref sig .tc := ⟨.hbm, 185, rfl⟩
abbrev main_cst_9 : Ref sig .tc := ⟨.hbm, 186, rfl⟩
abbrev main_v129 : Ref sig .tc := ⟨.hbm, 187, rfl⟩
abbrev main_cst_10 : Ref sig .tc := ⟨.hbm, 188, rfl⟩
abbrev main_v130 : Ref sig .tc := ⟨.hbm, 189, rfl⟩
abbrev main_cst_11 : Ref sig .tc := ⟨.hbm, 190, rfl⟩
abbrev main_v131 : Ref sig .tc := ⟨.hbm, 191, rfl⟩
abbrev main_c_12 : Ref sig .tc := ⟨.hbm, 192, rfl⟩
abbrev main_c_13 : Ref sig .tc := ⟨.hbm, 193, rfl⟩
abbrev main_v132_0 : Ref sig .tc := ⟨.hbm, 194, rfl⟩
abbrev main_v132_1 : Ref sig .tc := ⟨.hbm, 195, rfl⟩
abbrev main_v132_2 : Ref sig .tc := ⟨.hbm, 196, rfl⟩
abbrev main_v132_3 : Ref sig .tc := ⟨.hbm, 197, rfl⟩
abbrev main_v132_4 : Ref sig .tc := ⟨.hbm, 198, rfl⟩
abbrev main_v132_5 : Ref sig .tc := ⟨.hbm, 199, rfl⟩
abbrev main_v132_6 : Ref sig .tc := ⟨.hbm, 200, rfl⟩
abbrev main_v132_7 : Ref sig .tc := ⟨.hbm, 201, rfl⟩
abbrev main_v132_8 : Ref sig .tc := ⟨.hbm, 202, rfl⟩
abbrev main_v132_9 : Ref sig .tc := ⟨.hbm, 203, rfl⟩
abbrev main_v132_10 : Ref sig .tc := ⟨.hbm, 204, rfl⟩
abbrev main_v132_11 : Ref sig .tc := ⟨.hbm, 205, rfl⟩
abbrev main_v132_12 : Ref sig .tc := ⟨.hbm, 206, rfl⟩
abbrev main_v132_13 : Ref sig .tc := ⟨.hbm, 207, rfl⟩
abbrev main_v132_14 : Ref sig .tc := ⟨.hbm, 208, rfl⟩
abbrev main_while0c_c_31 : Ref sig .tc := ⟨.hbm, 209, rfl⟩
abbrev main_while0c_v155 : Ref sig .tc := ⟨.hbm, 210, rfl⟩
abbrev main_while0b_c_31 : Ref sig .tc := ⟨.hbm, 211, rfl⟩
abbrev main_while0b_v155 : Ref sig .tc := ⟨.hbm, 212, rfl⟩
abbrev main_while0b_v156 : Ref sig .tc := ⟨.hbm, 213, rfl⟩
abbrev main_while0b_v157 : Ref sig .tc := ⟨.hbm, 214, rfl⟩
abbrev main_while0b_v158 : Ref sig .tc := ⟨.hbm, 215, rfl⟩
abbrev main_while0b_v159 : Ref sig .tc := ⟨.hbm, 216, rfl⟩
abbrev main_while0b_v160 : Ref sig .tc := ⟨.hbm, 217, rfl⟩
abbrev main_while0b_call5_v0 : Ref sig .tc := ⟨.hbm, 218, rfl⟩
abbrev main_while0b_v161 : Ref sig .tc := ⟨.hbm, 219, rfl⟩
abbrev main_while0b_v162 : Ref sig .tc := ⟨.hbm, 220, rfl⟩
abbrev main_while0b_v163 : Ref sig .tc := ⟨.hbm, 221, rfl⟩
abbrev main_while0b_v164 : Ref sig .tc := ⟨.hbm, 222, rfl⟩
abbrev main_while0b_v165 : Ref sig .tc := ⟨.hbm, 223, rfl⟩
abbrev main_while0b_v166 : Ref sig .tc := ⟨.hbm, 224, rfl⟩
abbrev main_while0b_call6_v0 : Ref sig .tc := ⟨.hbm, 225, rfl⟩
abbrev main_while0b_v167 : Ref sig .tc := ⟨.hbm, 226, rfl⟩
abbrev main_while0b_v168 : Ref sig .tc := ⟨.hbm, 227, rfl⟩
abbrev main_while0b_v169 : Ref sig .tc := ⟨.hbm, 228, rfl⟩
abbrev main_while0b_v170 : Ref sig .tc := ⟨.hbm, 229, rfl⟩
abbrev main_while0b_v171 : Ref sig .tc := ⟨.hbm, 230, rfl⟩
abbrev main_while0b_v172 : Ref sig .tc := ⟨.hbm, 231, rfl⟩
abbrev main_while0b_v173 : Ref sig .tc := ⟨.hbm, 232, rfl⟩
abbrev main_while0b_v174 : Ref sig .tc := ⟨.hbm, 233, rfl⟩
abbrev main_while0b_v175 : Ref sig .tc := ⟨.hbm, 234, rfl⟩
abbrev main_while0b_v176 : Ref sig .tc := ⟨.hbm, 235, rfl⟩
abbrev main_while0b_v177 : Ref sig .tc := ⟨.hbm, 236, rfl⟩
abbrev main_while0b_c_32 : Ref sig .tc := ⟨.hbm, 237, rfl⟩
abbrev main_while0b_v178 : Ref sig .tc := ⟨.hbm, 238, rfl⟩
abbrev main_v133 : Ref sig .tc := ⟨.hbm, 239, rfl⟩
abbrev main_v134 : Ref sig .tc := ⟨.hbm, 240, rfl⟩
abbrev main_cst_14 : Ref sig .tc := ⟨.hbm, 241, rfl⟩
abbrev main_v135 : Ref sig .tc := ⟨.hbm, 242, rfl⟩
abbrev main_v136 : Ref sig .tc := ⟨.hbm, 243, rfl⟩
abbrev main_cst_15 : Ref sig .tc := ⟨.hbm, 244, rfl⟩
abbrev main_v137 : Ref sig .tc := ⟨.hbm, 245, rfl⟩
abbrev main_v138 : Ref sig .tc := ⟨.hbm, 246, rfl⟩
abbrev main_cst_16 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_call7_v0 : Ref sig .tc := ⟨.hbm, 258, rfl⟩
abbrev main_call7_v1 : Ref sig .tc := ⟨.hbm, 259, rfl⟩
abbrev main_call7_cst : Ref sig .tc := ⟨.hbm, 260, rfl⟩
abbrev main_call7_v2 : Ref sig .tc := ⟨.hbm, 261, rfl⟩
abbrev main_call7_v3 : Ref sig .tc := ⟨.hbm, 262, rfl⟩
abbrev main_call7_cst_0 : Ref sig .tc := ⟨.hbm, 263, rfl⟩
abbrev main_call7_v4 : Ref sig .tc := ⟨.hbm, 264, rfl⟩
abbrev main_call7_v5 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩

abbrev nD : Nat := 1
abbrev τ : Topo := Topo.v7x

variable {F : FTy → Type} [FloatOps F]

abbrev main_while0_count : Scf.Loop 32 := ⟨0#32, 64#32, 1#32⟩
-- ==== GdnOut.lean ====
abbrev S8704x4096 : Shape := ⟨2, ![8704, 4096]⟩
abbrev S4096x2048 : Shape := ⟨2, ![4096, 2048]⟩
abbrev S2x4096x2048 : Shape := ⟨3, ![2, 4096, 2048]⟩
abbrev S8x64x2048 : Shape := ⟨3, ![8, 64, 2048]⟩
abbrev S10x2048 : Shape := ⟨2, ![10, 2048]⟩
abbrev S8192x2048 : Shape := ⟨2, ![8192, 2048]⟩
abbrev S512x2048 : Shape := ⟨2, ![512, 2048]⟩
abbrev S8704x2048 : Shape := ⟨2, ![8704, 2048]⟩
abbrev S2 : Shape := ⟨1, ![2]⟩
abbrev S2x64 : Shape := ⟨2, ![2, 64]⟩
abbrev S128 : Shape := ⟨1, ![128]⟩
abbrev S8 : Shape := ⟨1, ![8]⟩
abbrev S8x1 : Shape := ⟨2, ![8, 1]⟩
abbrev S_ : Shape := ⟨0, ![]⟩
abbrev S136 : Shape := ⟨1, ![136]⟩
abbrev S256x4096 : Shape := ⟨2, ![256, 4096]⟩
abbrev S256x2048 : Shape := ⟨2, ![256, 2048]⟩
abbrev S1 : Shape := ⟨1, ![1]⟩
abbrev S1x2048 : Shape := ⟨2, ![1, 2048]⟩
abbrev S64x2048 : Shape := ⟨2, ![64, 2048]⟩

abbrev nBuf : Space → Nat
  | .hbm => 19
  | .vmem => 9
  | .smem => 1
  | _ => 0

abbrev bufTy : (tb : Table) → Fin (tcTables nBuf tb) → BufTy
  | .hbm, ⟨0, _⟩ => ⟨S8704x4096, .bf16⟩
  | .hbm, ⟨1, _⟩ => ⟨S4096x2048, .f32⟩
  | .hbm, ⟨2, _⟩ => ⟨S2x4096x2048, .f32⟩
  | .hbm, ⟨3, _⟩ => ⟨S8x64x2048, .f32⟩
  | .hbm, ⟨4, _⟩ => ⟨S10x2048, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S2, .i32⟩
  | .hbm, ⟨9, _⟩ => ⟨S2x64, .i32⟩
  | .hbm, ⟨10, _⟩ => ⟨S128, .i32⟩
  | .hbm, ⟨11, _⟩ => ⟨S8, .i32⟩
  | .hbm, ⟨12, _⟩ => ⟨S8x1, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S4096x2048, .bf16⟩
  | .hbm, ⟨18, _⟩ => ⟨S8704x2048, .f32⟩
  | .local _ .vmem, ⟨0, _⟩ => ⟨S256x4096, .bf16⟩
  | .local _ .vmem, ⟨1, _⟩ => ⟨S256x4096, .bf16⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S10x2048, .f32⟩
  | .local _ .vmem, ⟨6, _⟩ => ⟨S256x2048, .f32⟩
  | .local _ .vmem, ⟨7, _⟩ => ⟨S256x2048, .f32⟩
  | .local _ .vmem, ⟨8, _⟩ => ⟨S256x4096, .bf16⟩
  | .local _ .smem, ⟨0, _⟩ => ⟨S136, .i32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v13 : Ref sig .tc := ⟨.hbm, 18, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![34, 1], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32_4 : BitVec 32 := 0#32
  let v8 : BitVec 32 := Scalar.addi v0 c0_i32_4
  let v9 : Index := Scalar.indexCast v8
  ![v9.toNat]
def k0_off2 (v10 : BitVec 32) : Fin 2 → Nat :=
  let v11 : Index := Scalar.indexCast v10
  let c0_5 : Index := 0#32
  ![v11.toNat, 0]

def k0_chk1 (v10 : BitVec 32) : Prop :=
  (∀ a, (k0_off2 v10) a + S1x2048.size a ≤ S10x2048.size a)
theorem k0_off2_inb : ∀ (v10 : BitVec 32) (k0_hw1 : k0_chk1 v10), ∀ a, (k0_off2 v10) a + S1x2048.size a ≤ S10x2048.size a := fun v10 k0_hw1 => k0_hw1

def k0_off3 (i : grid0.Coords) : Fin 1 → Nat :=
  let arg0 : BitVec 32 := BitVec.ofNat 32 (i 0).val
  let c4_i32 : BitVec 32 := 4#32
  let v0 : BitVec 32 := Scalar.muli arg0 c4_i32
  let c1_i32 : BitVec 32 := 1#32
  let v20 : BitVec 32 := Scalar.addi v0 c1_i32
  let v21 : Index := Scalar.indexCast v20
  ![v21.toNat]
def k0_off4 (v22 : BitVec 32) : Fin 2 → Nat :=
  let v23 : Index := Scalar.indexCast v22
  let c0_10 : Index := 0#32
  ![v23.toNat, 0]

def k0_chk2 (v22 : BitVec 32) : Prop :=
  (∀ a, (k0_off4 v22) a + S1x2048.size a ≤ S10x2048.size a)
theorem k0_off4_inb : ∀ (v22 : BitVec 32) (k0_hw2 : k0_chk2 v22), ∀ a, (k0_off4 v22) a + S1x2048.size a ≤ S10x2048.size a := fun v22 k0_hw2 => k0_hw2

def k0_off5 (i : grid0.Coords) : Fin 1 → Nat :=
  let arg0 : BitVec 32 := BitVec.ofNat 32 (i 0).val
  let c4_i32 : BitVec 32 := 4#32
  let v0 : BitVec 32 := Scalar.muli arg0 c4_i32
  let c2_i32 : BitVec 32 := 2#32
  let v32 : BitVec 32 := Scalar.addi v0 c2_i32
  let v33 : Index := Scalar.indexCast v32
  ![v33.toNat]
def k0_off6 (v34 : BitVec 32) : Fin 2 → Nat :=
  let v35 : Index := Scalar.indexCast v34
  let c0_14 : Index := 0#32
  ![v35.toNat, 0]

def k0_chk3 (v34 : BitVec 32) : Prop :=
  (∀ a, (k0_off6 v34) a + S1x2048.size a ≤ S10x2048.size a)
theorem k0_off6_inb : ∀ (v34 : BitVec 32) (k0_hw3 : k0_chk3 v34), ∀ a, (k0_off6 v34) a + S1x2048.size a ≤ S10x2048.size a := fun v34 k0_hw3 => k0_hw3

def k0_off7 (i : grid0.Coords) : Fin 1 → Nat :=
  let arg0 : BitVec 32 := BitVec.ofNat 32 (i 0).val
  let c4_i32 : BitVec 32 := 4#32
  let v0 : BitVec 32 := Scalar.muli arg0 c4_i32
  let c3_i32 : BitVec 32 := 3#32
  let v44 : BitVec 32 := Scalar.addi v0 c3_i32
  let v45 : Index := Scalar.indexCast v44
  ![v45.toNat]
def k0_off8 (v46 : BitVec 32) : Fin 2 → Nat :=
  let v47 : Index := Scalar.indexCast v46
  let c0_18 : Index := 0#32
  ![v47.toNat, 0]

def k0_chk4 (v46 : BitVec 32) : Prop :=
  (∀ a, (k0_off8 v46) a + S1x2048.size a ≤ S10x2048.size a)
theorem k0_off8_inb : ∀ (v46 : BitVec 32) (k0_hw4 : k0_chk4 v46), ∀ a, (k0_off8 v46) a + S1x2048.size a ≤ S10x2048.size a := fun v46 k0_hw4 => k0_hw4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GdnOutRefIdeal.lean ====
abbrev S8704x4096 : Shape := ⟨2, ![8704, 4096]⟩
abbrev S4096x2048 : Shape := ⟨2, ![4096, 2048]⟩
abbrev S2x4096x2048 : Shape := ⟨3, ![2, 4096, 2048]⟩
abbrev S8x64x2048 : Shape := ⟨3, ![8, 64, 2048]⟩
abbrev S10x2048 : Shape := ⟨2, ![10, 2048]⟩
abbrev S8192x4096 : Shape := ⟨2, ![8192, 4096]⟩
abbrev S2x4096x4096 : Shape := ⟨3, ![2, 4096, 4096]⟩
abbrev S512x4096 : Shape := ⟨2, ![512, 4096]⟩
abbrev S8x64x4096 : Shape := ⟨3, ![8, 64, 4096]⟩
abbrev S2x2048 : Shape := ⟨2, ![2, 2048]⟩
abbrev S2x1x2048 : Shape := ⟨3, ![2, 1, 2048]⟩
abbrev S8x2048 : Shape := ⟨2, ![8, 2048]⟩
abbrev S8x1x2048 : Shape := ⟨3, ![8, 1, 2048]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x2048, .f32⟩
  | .hbm, ⟨2, _⟩ => ⟨S2x4096x2048, .f32⟩
  | .hbm, ⟨3, _⟩ => ⟨S8x64x2048, .f32⟩
  | .hbm, ⟨4, _⟩ => ⟨S10x2048, .f32⟩
  | .hbm, ⟨5, _⟩ => ⟨S8192x4096, .bf16⟩
  | .hbm, ⟨6, _⟩ => ⟨S2x4096x4096, .bf16⟩
  | .hbm, ⟨7, _⟩ => ⟨S2x4096x4096, .f32⟩
  | .hbm, ⟨8, _⟩ => ⟨S512x4096, .bf16⟩
  | .hbm, ⟨9, _⟩ => ⟨S8x64x4096, .bf16⟩
  | .hbm, ⟨10, _⟩ => ⟨S8x64x4096, .f32⟩
  | .hbm, ⟨11, _⟩ => ⟨S2x2048, .f32⟩
  | .hbm, ⟨12, _⟩ => ⟨S2x1x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S8x2048, .f32⟩
  | .hbm, ⟨18, _⟩ => ⟨S8x1x2048, .f32⟩
  | .hbm, ⟨19, _⟩ => ⟨S8x64x2048, .f32⟩
  | .hbm, ⟨20, _⟩ => ⟨S8x64x2048, .f32⟩
  | .hbm, ⟨21, _⟩ => ⟨S8x64x2048, .f32⟩
  | .hbm, ⟨22, _⟩ => ⟨S8x64x2048, .f32⟩
  | .hbm, ⟨23, _⟩ => ⟨S8192x2048, .f32⟩
  | .hbm, ⟨24, _⟩ => ⟨S512x2048, .f32⟩
  | .hbm, ⟨25, _⟩ => ⟨S8704x2048, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== InQk.lean ====
abbrev S2x4096x2048 : Shape := ⟨3, ![2, 4096, 2048]⟩
abbrev S8x64x2048 : Shape := ⟨3, ![8, 64, 2048]⟩
abbrev S2048 : Shape := ⟨1, ![2048]⟩
abbrev S10x2048 : Shape := ⟨2, ![10, 2048]⟩
abbrev S2048x12352 : Shape := ⟨2, ![2048, 12352]⟩
abbrev S8192x2048 : Shape := ⟨2, ![8192, 2048]⟩
abbrev S512x2048 : Shape := ⟨2, ![512, 2048]⟩
abbrev S8704x2048 : Shape := ⟨2, ![8704, 2048]⟩
abbrev S2 : Shape := ⟨1, ![2]⟩
abbrev S2x64 : Shape := ⟨2, ![2, 64]⟩
abbrev S128 : Shape := ⟨1, ![128]⟩
abbrev S8 : Shape := ⟨1, ![8]⟩
abbrev S8x1 : Shape := ⟨2, ![8, 1]⟩
abbrev S_ : Shape := ⟨0, ![]⟩
abbrev S136 : Shape := ⟨1, ![136]⟩
abbrev S1x2048 : Shape := ⟨2, ![1, 2048]⟩
abbrev S2048x12288 : Shape := ⟨2, ![2048, 12288]⟩
abbrev S8704x4096 : Shape := ⟨2, ![8704, 4096]⟩
abbrev S256x2048 : Shape := ⟨2, ![256, 2048]⟩
abbrev S2048x4096 : Shape := ⟨2, ![2048, 4096]⟩
abbrev S256x4096 : Shape := ⟨2, ![256, 4096]⟩
abbrev S64x2048 : Shape := ⟨2, ![64, 2048]⟩
abbrev S1 : Shape := ⟨1, ![1]⟩
abbrev S64 : Shape := ⟨1, ![64]⟩
abbrev S64x1 : Shape := ⟨2, ![64, 1]⟩

abbrev nBuf : Space → Nat
  | .hbm => 22
  | .vmem => 9
  | .smem => 1
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S2048, .f32⟩
  | .hbm, ⟨3, _⟩ => ⟨S10x2048, .f32⟩
  | .hbm, ⟨4, _⟩ => ⟨S10x2048, .f32⟩
  | .hbm, ⟨5, _⟩ => ⟨S2048x12352, .f32⟩
  | .hbm, ⟨6, _⟩ => ⟨S8192x2048, .f32⟩
  | .hbm, ⟨7, _⟩ => ⟨S512x2048, .f32⟩
  | .hbm, ⟨8, _⟩ => ⟨S8704x2048, .f32⟩
  | .hbm, ⟨9, _⟩ => ⟨S2, .i32⟩
  | .hbm, ⟨10, _⟩ => ⟨S2x64, .i32⟩
  | .hbm, ⟨11, _⟩ => ⟨S128, .i32⟩
  | .hbm, ⟨12, _⟩ => ⟨S8, .i32⟩
  | .hbm, ⟨13, _⟩ => ⟨S8x1, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S1x2048, .f32⟩
  | .hbm, ⟨19, _⟩ => ⟨S2048x12288, .f32⟩
  | .hbm, ⟨20, _⟩ => ⟨S2048x12288, .bf16⟩
  | .hbm, ⟨21, _⟩ => ⟨S8704x4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S10x2048, .f32⟩
  | .local _ .vmem, ⟨4, _⟩ => ⟨S10x2048, .f32⟩
  | .local _ .vmem, ⟨5, _⟩ => ⟨S2048x4096, .bf16⟩
  | .local _ .vmem, ⟨6, _⟩ => ⟨S256x4096, .f32⟩
  | .local _ .vmem, ⟨7, _⟩ => ⟨S256x4096, .f32⟩
  | .local _ .vmem, ⟨8, _⟩ => ⟨S256x2048, .bf16⟩
  | .local _ .smem, ⟨0, _⟩ => ⟨S136, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![34, 1], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32_10 : BitVec 32 := 0#32
  let v13 : BitVec 32 := Scalar.addi v0 c0_i32_10
  let v14 : Index := Scalar.indexCast v13
  ![v14.toNat]
def k0_off2 (v15 : BitVec 32) : Fin 2 → Nat :=
  let v28 : Index := Scalar.indexCast v15
  let c0_14 : Index := 0#32
  ![v28.toNat, 0]

def k0_chk1 (i : grid0.Coords) (v15 : BitVec 32) : Prop :=
  (∀ (k0_h1 : k0_cond1 i = 1#1), ∀ a, (k0_off2 v15) a + S1x2048.size a ≤ S10x2048.size a)
theorem k0_off2_inb : ∀ (i : grid0.Coords) (v15 : BitVec 32) (k0_hw1 : k0_chk1 i v15), ∀ (k0_h1 : k0_cond1 i = 1#1), ∀ a, (k0_off2 v15) a + S1x2048.size a ≤ S10x2048.size a := fun i v15 k0_hw1 k0_h1 => k0_hw1 k0_h1

def k0_off3 (i : grid0.Coords) : Fin 1 → Nat :=
  let arg0 : BitVec 32 := BitVec.ofNat 32 (i 0).val
  let c4_i32 : BitVec 32 := 4#32
  let v0 : BitVec 32 := Scalar.muli arg0 c4_i32
  let c1_i32 : BitVec 32 := 1#32
  let v46 : BitVec 32 := Scalar.addi v0 c1_i32
  let v47 : Index := Scalar.indexCast v46
  ![v47.toNat]
def k0_off4 (v48 : BitVec 32) : Fin 2 → Nat :=
  let v61 : Index := Scalar.indexCast v48
  let c0_25 : Index := 0#32
  ![v61.toNat, 0]

def k0_chk2 (i : grid0.Coords) (v48 : BitVec 32) : Prop :=
  (∀ (k0_h1 : k0_cond1 i = 1#1), ∀ a, (k0_off4 v48) a + S1x2048.size a ≤ S10x2048.size a)
theorem k0_off4_inb : ∀ (i : grid0.Coords) (v48 : BitVec 32) (k0_hw2 : k0_chk2 i v48), ∀ (k0_h1 : k0_cond1 i = 1#1), ∀ a, (k0_off4 v48) a + S1x2048.size a ≤ S10x2048.size a := fun i v48 k0_hw2 k0_h1 => k0_hw2 k0_h1

def k0_off5 (i : grid0.Coords) : Fin 1 → Nat :=
  let arg0 : BitVec 32 := BitVec.ofNat 32 (i 0).val
  let c4_i32 : BitVec 32 := 4#32
  let v0 : BitVec 32 := Scalar.muli arg0 c4_i32
  let c2_i32 : BitVec 32 := 2#32
  let v79 : BitVec 32 := Scalar.addi v0 c2_i32
  let v80 : Index := Scalar.indexCast v79
  ![v80.toNat]
def k0_off6 (v81 : BitVec 32) : Fin 2 → Nat :=
  let v94 : Index := Scalar.indexCast v81
  let c0_36 : Index := 0#32
  ![v94.toNat, 0]

def k0_chk3 (i : grid0.Coords) (v81 : BitVec 32) : Prop :=
  (∀ (k0_h1 : k0_cond1 i = 1#1), ∀ a, (k0_off6 v81) a + S1x2048.size a ≤ S10x2048.size a)
theorem k0_off6_inb : ∀ (i : grid0.Coords) (v81 : BitVec 32) (k0_hw3 : k0_chk3 i v81), ∀ (k0_h1 : k0_cond1 i = 1#1), ∀ a, (k0_off6 v81) a + S1x2048.size a ≤ S10x2048.size a := fun i v81 k0_hw3 k0_h1 => k0_hw3 k0_h1

def k0_off7 (i : grid0.Coords) : Fin 1 → Nat :=
  let arg0 : BitVec 32 := BitVec.ofNat 32 (i 0).val
  let c4_i32 : BitVec 32 := 4#32
  let v0 : BitVec 32 := Scalar.muli arg0 c4_i32
  let c3_i32 : BitVec 32 := 3#32
  let v112 : BitVec 32 := Scalar.addi v0 c3_i32
  let v113 : Index := Scalar.indexCast v112
  ![v113.toNat]
def k0_off8 (v114 : BitVec 32) : Fin 2 → Nat :=
  let v127 : Index := Scalar.indexCast v114
  let c0_47 : Index := 0#32
  ![v127.toNat, 0]

def k0_chk4 (i : grid0.Coords) (v114 : BitVec 32) : Prop :=
  (∀ (k0_h1 : k0_cond1 i = 1#1), ∀ a, (k0_off8 v114) a + S1x2048.size a ≤ S10x2048.size a)
theorem k0_off8_inb : ∀ (i : grid0.Coords) (v114 : BitVec 32) (k0_hw4 : k0_chk4 i v114), ∀ (k0_h1 : k0_cond1 i = 1#1), ∀ a, (k0_off8 v114) a + S1x2048.size a ≤ S10x2048.size a := fun i v114 k0_hw4 k0_h1 => k0_hw4 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S10x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InQkRefIdeal.lean ====
abbrev S2x4096x2048 : Shape := ⟨3, ![2, 4096, 2048]⟩
abbrev S8x64x2048 : Shape := ⟨3, ![8, 64, 2048]⟩
abbrev S2048 : Shape := ⟨1, ![2048]⟩
abbrev S10x2048 : Shape := ⟨2, ![10, 2048]⟩
abbrev S2048x12352 : Shape := ⟨2, ![2048, 12352]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x12352 : Shape := ⟨3, ![2, 4096, 12352]⟩
abbrev S8x2048 : Shape := ⟨2, ![8, 2048]⟩
abbrev S8x64 : Shape := ⟨2, ![8, 64]⟩
abbrev S8x64x1 : Shape := ⟨3, ![8, 64, 1]⟩
abbrev S8x1x2048 : Shape := ⟨3, ![8, 1, 2048]⟩
abbrev S8x64x12352 : Shape := ⟨3, ![8, 64, 12352]⟩
abbrev S8192x12352 : Shape := ⟨2, ![8192, 12352]⟩
abbrev S512x12352 : Shape := ⟨2, ![512, 12352]⟩
abbrev S8704x12352 : Shape := ⟨2, ![8704, 12352]⟩
abbrev S8704x4096 : Shape := ⟨2, ![8704, 4096]⟩

abbrev nBuf : Space → Nat
  | .hbm => 68
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S2048, .f32⟩
  | .hbm, ⟨3, _⟩ => ⟨S10x2048, .f32⟩
  | .hbm, ⟨4, _⟩ => ⟨S10x2048, .f32⟩
  | .hbm, ⟨5, _⟩ => ⟨S2048x12352, .f32⟩
  | .hbm, ⟨6, _⟩ => ⟨S2x2048, .f32⟩
  | .hbm, ⟨7, _⟩ => ⟨S2x2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x4096x2048, .f32⟩
  | .hbm, ⟨29, _⟩ => ⟨S2x4096x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x12352, .f32⟩
  | .hbm, ⟨34, _⟩ => ⟨S8x2048, .f32⟩
  | .hbm, ⟨35, _⟩ => ⟨S8x2048, .f32⟩
  | .hbm, ⟨36, _⟩ => ⟨S8x64x2048, .f32⟩
  | .hbm, ⟨37, _⟩ => ⟨S_, .f32⟩
  | .hbm, ⟨38, _⟩ => ⟨S8x64, .f32⟩
  | .hbm, ⟨39, _⟩ => ⟨S8x64x1, .f32⟩
  | .hbm, ⟨40, _⟩ => ⟨S_, .f32⟩
  | .hbm, ⟨41, _⟩ => ⟨S8x64x1, .f32⟩
  | .hbm, ⟨42, _⟩ => ⟨S8x64x1, .f32⟩
  | .hbm, ⟨43, _⟩ => ⟨S_, .f32⟩
  | .hbm, ⟨44, _⟩ => ⟨S8x64x1, .f32⟩
  | .hbm, ⟨45, _⟩ => ⟨S8x64x1, .f32⟩
  | .hbm, ⟨46, _⟩ => ⟨S8x64x1, .f32⟩
  | .hbm, ⟨47, _⟩ => ⟨S8x64x2048, .f32⟩
  | .hbm, ⟨48, _⟩ => ⟨S8x64x2048, .f32⟩
  | .hbm, ⟨49, _⟩ => ⟨S1x1x2048, .f32⟩
  | .hbm, ⟨50, _⟩ => ⟨S8x64x2048, .f32⟩
  | .hbm, ⟨51, _⟩ => ⟨S8x64x2048, .f32⟩
  | .hbm, ⟨52, _⟩ => ⟨S8x1x2048, .f32⟩
  | .hbm, ⟨53, _⟩ => ⟨S_, .f32⟩
  | .hbm, ⟨54, _⟩ => ⟨S8x1x2048, .f32⟩
  | .hbm, ⟨55, _⟩ => ⟨S8x1x2048, .f32⟩
  | .hbm, ⟨56, _⟩ => ⟨S8x64x2048, .f32⟩
  | .hbm, ⟨57, _⟩ => ⟨S8x64x2048, .f32⟩
  | .hbm, ⟨58, _⟩ => ⟨S8x1x2048, .f32⟩
  | .hbm, ⟨59, _⟩ => ⟨S8x64x2048, .f32⟩
  | .hbm, ⟨60, _⟩ => ⟨S8x64x2048, .f32⟩
  | .hbm, ⟨61, _⟩ => ⟨S8x64x12352, .f32⟩
  | .hbm, ⟨62, _⟩ => ⟨S8192x12352, .f32⟩
  | .hbm, ⟨63, _⟩ => ⟨S512x12352, .f32⟩
  | .hbm, ⟨64, _⟩ => ⟨S8704x12352, .f32⟩
  | .hbm, ⟨65, _⟩ => ⟨S8704x4096, .f32⟩
  | .hbm, ⟨66, _⟩ => ⟨S8704x4096, .f32⟩
  | .hbm, ⟨67, _⟩ => ⟨S8704x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== InV.lean ====
abbrev S2x4096x2048 : Shape := ⟨3, ![2, 4096, 2048]⟩
abbrev S8x64x2048 : Shape := ⟨3, ![8, 64, 2048]⟩
abbrev S2048 : Shape := ⟨1, ![2048]⟩
abbrev S10x2048 : Shape := ⟨2, ![10, 2048]⟩
abbrev S2048x12352 : Shape := ⟨2, ![2048, 12352]⟩
abbrev S8192x2048 : Shape := ⟨2, ![8192, 2048]⟩
abbrev S512x2048 : Shape := ⟨2, ![512, 2048]⟩
abbrev S8704x2048 : Shape := ⟨2, ![8704, 2048]⟩
abbrev S2 : Shape := ⟨1, ![2]⟩
abbrev S2x64 : Shape := ⟨2, ![2, 64]⟩
abbrev S128 : Shape := ⟨1, ![128]⟩
abbrev S8 : Shape := ⟨1, ![8]⟩
abbrev S8x1 : Shape := ⟨2, ![8, 1]⟩
abbrev S_ : Shape := ⟨0, ![]⟩
abbrev S136 : Shape := ⟨1, ![136]⟩
abbrev S1x2048 : Shape := ⟨2, ![1, 2048]⟩
abbrev S2048x12288 : Shape := ⟨2, ![2048, 12288]⟩
abbrev S8704x4096 : Shape := ⟨2, ![8704, 4096]⟩
abbrev S256x2048 : Shape := ⟨2, ![256, 2048]⟩
abbrev S2048x4096 : Shape := ⟨2, ![2048, 4096]⟩
abbrev S256x4096 : Shape := ⟨2, ![256, 4096]⟩
abbrev S64x2048 : Shape := ⟨2, ![64, 2048]⟩
abbrev S1 : Shape := ⟨1, ![1]⟩
abbrev S64 : Shape := ⟨1, ![64]⟩
abbrev S64x1 : Shape := ⟨2, ![64, 1]⟩

abbrev nBuf : Space → Nat
  | .hbm => 22
  | .vmem => 9
  | .smem => 1
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S2048, .f32⟩
  | .hbm, ⟨3, _⟩ => ⟨S10x2048, .f32⟩
  | .hbm, ⟨4, _⟩ => ⟨S10x2048, .f32⟩
  | .hbm, ⟨5, _⟩ => ⟨S2048x12352, .f32⟩
  | .hbm, ⟨6, _⟩ => ⟨S8192x2048, .f32⟩
  | .hbm, ⟨7, _⟩ => ⟨S512x2048, .f32⟩
  | .hbm, ⟨8, _⟩ => ⟨S8704x2048, .f32⟩
  | .hbm, ⟨9, _⟩ => ⟨S2, .i32⟩
  | .hbm, ⟨10, _⟩ => ⟨S2x64, .i32⟩
  | .hbm, ⟨11, _⟩ => ⟨S128, .i32⟩
  | .hbm, ⟨12, _⟩ => ⟨S8, .i32⟩
  | .hbm, ⟨13, _⟩ => ⟨S8x1, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S1x2048, .f32⟩
  | .hbm, ⟨19, _⟩ => ⟨S2048x12288, .f32⟩
  | .hbm, ⟨20, _⟩ => ⟨S2048x12288, .bf16⟩
  | .hbm, ⟨21, _⟩ => ⟨S8704x4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S10x2048, .f32⟩
  | .local _ .vmem, ⟨4, _⟩ => ⟨S10x2048, .f32⟩
  | .local _ .vmem, ⟨5, _⟩ => ⟨S2048x4096, .bf16⟩
  | .local _ .vmem, ⟨6, _⟩ => ⟨S256x4096, .f32⟩
  | .local _ .vmem, ⟨7, _⟩ => ⟨S256x4096, .f32⟩
  | .local _ .vmem, ⟨8, _⟩ => ⟨S256x2048, .bf16⟩
  | .local _ .smem, ⟨0, _⟩ => ⟨S136, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![34, 1], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32_10 : BitVec 32 := 0#32
  let v13 : BitVec 32 := Scalar.addi v0 c0_i32_10
  let v14 : Index := Scalar.indexCast v13
  ![v14.toNat]
def k0_off2 (v15 : BitVec 32) : Fin 2 → Nat :=
  let v28 : Index := Scalar.indexCast v15
  let c0_14 : Index := 0#32
  ![v28.toNat, 0]

def k0_chk1 (i : grid0.Coords) (v15 : BitVec 32) : Prop :=
  (∀ (k0_h1 : k0_cond1 i = 1#1), ∀ a, (k0_off2 v15) a + S1x2048.size a ≤ S10x2048.size a)
theorem k0_off2_inb : ∀ (i : grid0.Coords) (v15 : BitVec 32) (k0_hw1 : k0_chk1 i v15), ∀ (k0_h1 : k0_cond1 i = 1#1), ∀ a, (k0_off2 v15) a + S1x2048.size a ≤ S10x2048.size a := fun i v15 k0_hw1 k0_h1 => k0_hw1 k0_h1

def k0_off3 (i : grid0.Coords) : Fin 1 → Nat :=
  let arg0 : BitVec 32 := BitVec.ofNat 32 (i 0).val
  let c4_i32 : BitVec 32 := 4#32
  let v0 : BitVec 32 := Scalar.muli arg0 c4_i32
  let c1_i32 : BitVec 32 := 1#32
  let v46 : BitVec 32 := Scalar.addi v0 c1_i32
  let v47 : Index := Scalar.indexCast v46
  ![v47.toNat]
def k0_off4 (v48 : BitVec 32) : Fin 2 → Nat :=
  let v61 : Index := Scalar.indexCast v48
  let c0_25 : Index := 0#32
  ![v61.toNat, 0]

def k0_chk2 (i : grid0.Coords) (v48 : BitVec 32) : Prop :=
  (∀ (k0_h1 : k0_cond1 i = 1#1), ∀ a, (k0_off4 v48) a + S1x2048.size a ≤ S10x2048.size a)
theorem k0_off4_inb : ∀ (i : grid0.Coords) (v48 : BitVec 32) (k0_hw2 : k0_chk2 i v48), ∀ (k0_h1 : k0_cond1 i = 1#1), ∀ a, (k0_off4 v48) a + S1x2048.size a ≤ S10x2048.size a := fun i v48 k0_hw2 k0_h1 => k0_hw2 k0_h1

def k0_off5 (i : grid0.Coords) : Fin 1 → Nat :=
  let arg0 : BitVec 32 := BitVec.ofNat 32 (i 0).val
  let c4_i32 : BitVec 32 := 4#32
  let v0 : BitVec 32 := Scalar.muli arg0 c4_i32
  let c2_i32 : BitVec 32 := 2#32
  let v79 : BitVec 32 := Scalar.addi v0 c2_i32
  let v80 : Index := Scalar.indexCast v79
  ![v80.toNat]
def k0_off6 (v81 : BitVec 32) : Fin 2 → Nat :=
  let v94 : Index := Scalar.indexCast v81
  let c0_36 : Index := 0#32
  ![v94.toNat, 0]

def k0_chk3 (i : grid0.Coords) (v81 : BitVec 32) : Prop :=
  (∀ (k0_h1 : k0_cond1 i = 1#1), ∀ a, (k0_off6 v81) a + S1x2048.size a ≤ S10x2048.size a)
theorem k0_off6_inb : ∀ (i : grid0.Coords) (v81 : BitVec 32) (k0_hw3 : k0_chk3 i v81), ∀ (k0_h1 : k0_cond1 i = 1#1), ∀ a, (k0_off6 v81) a + S1x2048.size a ≤ S10x2048.size a := fun i v81 k0_hw3 k0_h1 => k0_hw3 k0_h1

def k0_off7 (i : grid0.Coords) : Fin 1 → Nat :=
  let arg0 : BitVec 32 := BitVec.ofNat 32 (i 0).val
  let c4_i32 : BitVec 32 := 4#32
  let v0 : BitVec 32 := Scalar.muli arg0 c4_i32
  let c3_i32 : BitVec 32 := 3#32
  let v112 : BitVec 32 := Scalar.addi v0 c3_i32
  let v113 : Index := Scalar.indexCast v112
  ![v113.toNat]
def k0_off8 (v114 : BitVec 32) : Fin 2 → Nat :=
  let v127 : Index := Scalar.indexCast v114
  let c0_47 : Index := 0#32
  ![v127.toNat, 0]

def k0_chk4 (i : grid0.Coords) (v114 : BitVec 32) : Prop :=
  (∀ (k0_h1 : k0_cond1 i = 1#1), ∀ a, (k0_off8 v114) a + S1x2048.size a ≤ S10x2048.size a)
theorem k0_off8_inb : ∀ (i : grid0.Coords) (v114 : BitVec 32) (k0_hw4 : k0_chk4 i v114), ∀ (k0_h1 : k0_cond1 i = 1#1), ∀ a, (k0_off8 v114) a + S1x2048.size a ≤ S10x2048.size a := fun i v114 k0_hw4 k0_h1 => k0_hw4 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S10x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InVRefIdeal.lean ====
abbrev S2x4096x2048 : Shape := ⟨3, ![2, 4096, 2048]⟩
abbrev S8x64x2048 : Shape := ⟨3, ![8, 64, 2048]⟩
abbrev S2048 : Shape := ⟨1, ![2048]⟩
abbrev S10x2048 : Shape := ⟨2, ![10, 2048]⟩
abbrev S2048x12352 : Shape := ⟨2, ![2048, 12352]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x12352 : Shape := ⟨3, ![2, 4096, 12352]⟩
abbrev S8x2048 : Shape := ⟨2, ![8, 2048]⟩
abbrev S8x64 : Shape := ⟨2, ![8, 64]⟩
abbrev S8x64x1 : Shape := ⟨3, ![8, 64, 1]⟩
abbrev S8x1x2048 : Shape := ⟨3, ![8, 1, 2048]⟩
abbrev S8x64x12352 : Shape := ⟨3, ![8, 64, 12352]⟩
abbrev S8192x12352 : Shape := ⟨2, ![8192, 12352]⟩
abbrev S512x12352 : Shape := ⟨2, ![512, 12352]⟩
abbrev S8704x12352 : Shape := ⟨2, ![8704, 12352]⟩
abbrev S8704x4096 : Shape := ⟨2, ![8704, 4096]⟩

abbrev nBuf : Space → Nat
  | .hbm => 68
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S2048, .f32⟩
  | .hbm, ⟨3, _⟩ => ⟨S10x2048, .f32⟩
  | .hbm, ⟨4, _⟩ => ⟨S10x2048, .f32⟩
  | .hbm, ⟨5, _⟩ => ⟨S2048x12352, .f32⟩
  | .hbm, ⟨6, _⟩ => ⟨S2x2048, .f32⟩
  | .hbm, ⟨7, _⟩ => ⟨S2x2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x4096x2048, .f32⟩
  | .hbm, ⟨29, _⟩ => ⟨S2x4096x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x12352, .f32⟩
  | .hbm, ⟨34, _⟩ => ⟨S8x2048, .f32⟩
  | .hbm, ⟨35, _⟩ => ⟨S8x2048, .f32⟩
  | .hbm, ⟨36, _⟩ => ⟨S8x64x2048, .f32⟩
  | .hbm, ⟨37, _⟩ => ⟨S_, .f32⟩
  | .hbm, ⟨38, _⟩ => ⟨S8x64, .f32⟩
  | .hbm, ⟨39, _⟩ => ⟨S8x64x1, .f32⟩
  | .hbm, ⟨40, _⟩ => ⟨S_, .f32⟩
  | .hbm, ⟨41, _⟩ => ⟨S8x64x1, .f32⟩
  | .hbm, ⟨42, _⟩ => ⟨S8x64x1, .f32⟩
  | .hbm, ⟨43, _⟩ => ⟨S_, .f32⟩
  | .hbm, ⟨44, _⟩ => ⟨S8x64x1, .f32⟩
  | .hbm, ⟨45, _⟩ => ⟨S8x64x1, .f32⟩
  | .hbm, ⟨46, _⟩ => ⟨S8x64x1, .f32⟩
  | .hbm, ⟨47, _⟩ => ⟨S8x64x2048, .f32⟩
  | .hbm, ⟨48, _⟩ => ⟨S8x64x2048, .f32⟩
  | .hbm, ⟨49, _⟩ => ⟨S1x1x2048, .f32⟩
  | .hbm, ⟨50, _⟩ => ⟨S8x64x2048, .f32⟩
  | .hbm, ⟨51, _⟩ => ⟨S8x64x2048, .f32⟩
  | .hbm, ⟨52, _⟩ => ⟨S8x1x2048, .f32⟩
  | .hbm, ⟨53, _⟩ => ⟨S_, .f32⟩
  | .hbm, ⟨54, _⟩ => ⟨S8x1x2048, .f32⟩
  | .hbm, ⟨55, _⟩ => ⟨S8x1x2048, .f32⟩
  | .hbm, ⟨56, _⟩ => ⟨S8x64x2048, .f32⟩
  | .hbm, ⟨57, _⟩ => ⟨S8x64x2048, .f32⟩
  | .hbm, ⟨58, _⟩ => ⟨S8x1x2048, .f32⟩
  | .hbm, ⟨59, _⟩ => ⟨S8x64x2048, .f32⟩
  | .hbm, ⟨60, _⟩ => ⟨S8x64x2048, .f32⟩
  | .hbm, ⟨61, _⟩ => ⟨S8x64x12352, .f32⟩
  | .hbm, ⟨62, _⟩ => ⟨S8192x12352, .f32⟩
  | .hbm, ⟨63, _⟩ => ⟨S512x12352, .f32⟩
  | .hbm, ⟨64, _⟩ => ⟨S8704x12352, .f32⟩
  | .hbm, ⟨65, _⟩ => ⟨S8704x4096, .f32⟩
  | .hbm, ⟨66, _⟩ => ⟨S8704x4096, .f32⟩
  | .hbm, ⟨67, _⟩ => ⟨S8704x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== InZ.lean ====
abbrev S2x4096x2048 : Shape := ⟨3, ![2, 4096, 2048]⟩
abbrev S8x64x2048 : Shape := ⟨3, ![8, 64, 2048]⟩
abbrev S2048 : Shape := ⟨1, ![2048]⟩
abbrev S10x2048 : Shape := ⟨2, ![10, 2048]⟩
abbrev S2048x12352 : Shape := ⟨2, ![2048, 12352]⟩
abbrev S8192x2048 : Shape := ⟨2, ![8192, 2048]⟩
abbrev S512x2048 : Shape := ⟨2, ![512, 2048]⟩
abbrev S8704x2048 : Shape := ⟨2, ![8704, 2048]⟩
abbrev S2 : Shape := ⟨1, ![2]⟩
abbrev S2x64 : Shape := ⟨2, ![2, 64]⟩
abbrev S128 : Shape := ⟨1, ![128]⟩
abbrev S8 : Shape := ⟨1, ![8]⟩
abbrev S8x1 : Shape := ⟨2, ![8, 1]⟩
abbrev S_ : Shape := ⟨0, ![]⟩
abbrev S136 : Shape := ⟨1, ![136]⟩
abbrev S1x2048 : Shape := ⟨2, ![1, 2048]⟩
abbrev S2048x12288 : Shape := ⟨2, ![2048, 12288]⟩
abbrev S8704x4096 : Shape := ⟨2, ![8704, 4096]⟩
abbrev S256x2048 : Shape := ⟨2, ![256, 2048]⟩
abbrev S2048x4096 : Shape := ⟨2, ![2048, 4096]⟩
abbrev S256x4096 : Shape := ⟨2, ![256, 4096]⟩
abbrev S64x2048 : Shape := ⟨2, ![64, 2048]⟩
abbrev S1 : Shape := ⟨1, ![1]⟩
abbrev S64 : Shape := ⟨1, ![64]⟩
abbrev S64x1 : Shape := ⟨2, ![64, 1]⟩

abbrev nBuf : Space → Nat
  | .hbm => 22
  | .vmem => 9
  | .smem => 1
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S2048, .f32⟩
  | .hbm, ⟨3, _⟩ => ⟨S10x2048, .f32⟩
  | .hbm, ⟨4, _⟩ => ⟨S10x2048, .f32⟩
  | .hbm, ⟨5, _⟩ => ⟨S2048x12352, .f32⟩
  | .hbm, ⟨6, _⟩ => ⟨S8192x2048, .f32⟩
  | .hbm, ⟨7, _⟩ => ⟨S512x2048, .f32⟩
  | .hbm, ⟨8, _⟩ => ⟨S8704x2048, .f32⟩
  | .hbm, ⟨9, _⟩ => ⟨S2, .i32⟩
  | .hbm, ⟨10, _⟩ => ⟨S2x64, .i32⟩
  | .hbm, ⟨11, _⟩ => ⟨S128, .i32⟩
  | .hbm, ⟨12, _⟩ => ⟨S8, .i32⟩
  | .hbm, ⟨13, _⟩ => ⟨S8x1, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S1x2048, .f32⟩
  | .hbm, ⟨19, _⟩ => ⟨S2048x12288, .f32⟩
  | .hbm, ⟨20, _⟩ => ⟨S2048x12288, .bf16⟩
  | .hbm, ⟨21, _⟩ => ⟨S8704x4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S10x2048, .f32⟩
  | .local _ .vmem, ⟨4, _⟩ => ⟨S10x2048, .f32⟩
  | .local _ .vmem, ⟨5, _⟩ => ⟨S2048x4096, .bf16⟩
  | .local _ .vmem, ⟨6, _⟩ => ⟨S256x4096, .f32⟩
  | .local _ .vmem, ⟨7, _⟩ => ⟨S256x4096, .f32⟩
  | .local _ .vmem, ⟨8, _⟩ => ⟨S256x2048, .bf16⟩
  | .local _ .smem, ⟨0, _⟩ => ⟨S136, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![34, 1], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32_10 : BitVec 32 := 0#32
  let v13 : BitVec 32 := Scalar.addi v0 c0_i32_10
  let v14 : Index := Scalar.indexCast v13
  ![v14.toNat]
def k0_off2 (v15 : BitVec 32) : Fin 2 → Nat :=
  let v28 : Index := Scalar.indexCast v15
  let c0_14 : Index := 0#32
  ![v28.toNat, 0]

def k0_chk1 (i : grid0.Coords) (v15 : BitVec 32) : Prop :=
  (∀ (k0_h1 : k0_cond1 i = 1#1), ∀ a, (k0_off2 v15) a + S1x2048.size a ≤ S10x2048.size a)
theorem k0_off2_inb : ∀ (i : grid0.Coords) (v15 : BitVec 32) (k0_hw1 : k0_chk1 i v15), ∀ (k0_h1 : k0_cond1 i = 1#1), ∀ a, (k0_off2 v15) a + S1x2048.size a ≤ S10x2048.size a := fun i v15 k0_hw1 k0_h1 => k0_hw1 k0_h1

def k0_off3 (i : grid0.Coords) : Fin 1 → Nat :=
  let arg0 : BitVec 32 := BitVec.ofNat 32 (i 0).val
  let c4_i32 : BitVec 32 := 4#32
  let v0 : BitVec 32 := Scalar.muli arg0 c4_i32
  let c1_i32 : BitVec 32 := 1#32
  let v46 : BitVec 32 := Scalar.addi v0 c1_i32
  let v47 : Index := Scalar.indexCast v46
  ![v47.toNat]
def k0_off4 (v48 : BitVec 32) : Fin 2 → Nat :=
  let v61 : Index := Scalar.indexCast v48
  let c0_25 : Index := 0#32
  ![v61.toNat, 0]

def k0_chk2 (i : grid0.Coords) (v48 : BitVec 32) : Prop :=
  (∀ (k0_h1 : k0_cond1 i = 1#1), ∀ a, (k0_off4 v48) a + S1x2048.size a ≤ S10x2048.size a)
theorem k0_off4_inb : ∀ (i : grid0.Coords) (v48 : BitVec 32) (k0_hw2 : k0_chk2 i v48), ∀ (k0_h1 : k0_cond1 i = 1#1), ∀ a, (k0_off4 v48) a + S1x2048.size a ≤ S10x2048.size a := fun i v48 k0_hw2 k0_h1 => k0_hw2 k0_h1

def k0_off5 (i : grid0.Coords) : Fin 1 → Nat :=
  let arg0 : BitVec 32 := BitVec.ofNat 32 (i 0).val
  let c4_i32 : BitVec 32 := 4#32
  let v0 : BitVec 32 := Scalar.muli arg0 c4_i32
  let c2_i32 : BitVec 32 := 2#32
  let v79 : BitVec 32 := Scalar.addi v0 c2_i32
  let v80 : Index := Scalar.indexCast v79
  ![v80.toNat]
def k0_off6 (v81 : BitVec 32) : Fin 2 → Nat :=
  let v94 : Index := Scalar.indexCast v81
  let c0_36 : Index := 0#32
  ![v94.toNat, 0]

def k0_chk3 (i : grid0.Coords) (v81 : BitVec 32) : Prop :=
  (∀ (k0_h1 : k0_cond1 i = 1#1), ∀ a, (k0_off6 v81) a + S1x2048.size a ≤ S10x2048.size a)
theorem k0_off6_inb : ∀ (i : grid0.Coords) (v81 : BitVec 32) (k0_hw3 : k0_chk3 i v81), ∀ (k0_h1 : k0_cond1 i = 1#1), ∀ a, (k0_off6 v81) a + S1x2048.size a ≤ S10x2048.size a := fun i v81 k0_hw3 k0_h1 => k0_hw3 k0_h1

def k0_off7 (i : grid0.Coords) : Fin 1 → Nat :=
  let arg0 : BitVec 32 := BitVec.ofNat 32 (i 0).val
  let c4_i32 : BitVec 32 := 4#32
  let v0 : BitVec 32 := Scalar.muli arg0 c4_i32
  let c3_i32 : BitVec 32 := 3#32
  let v112 : BitVec 32 := Scalar.addi v0 c3_i32
  let v113 : Index := Scalar.indexCast v112
  ![v113.toNat]
def k0_off8 (v114 : BitVec 32) : Fin 2 → Nat :=
  let v127 : Index := Scalar.indexCast v114
  let c0_47 : Index := 0#32
  ![v127.toNat, 0]

def k0_chk4 (i : grid0.Coords) (v114 : BitVec 32) : Prop :=
  (∀ (k0_h1 : k0_cond1 i = 1#1), ∀ a, (k0_off8 v114) a + S1x2048.size a ≤ S10x2048.size a)
theorem k0_off8_inb : ∀ (i : grid0.Coords) (v114 : BitVec 32) (k0_hw4 : k0_chk4 i v114), ∀ (k0_h1 : k0_cond1 i = 1#1), ∀ a, (k0_off8 v114) a + S1x2048.size a ≤ S10x2048.size a := fun i v114 k0_hw4 k0_h1 => k0_hw4 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S10x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InZRefIdeal.lean ====
abbrev S2x4096x2048 : Shape := ⟨3, ![2, 4096, 2048]⟩
abbrev S8x64x2048 : Shape := ⟨3, ![8, 64, 2048]⟩
abbrev S2048 : Shape := ⟨1, ![2048]⟩
abbrev S10x2048 : Shape := ⟨2, ![10, 2048]⟩
abbrev S2048x12352 : Shape := ⟨2, ![2048, 12352]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x12352 : Shape := ⟨3, ![2, 4096, 12352]⟩
abbrev S8x2048 : Shape := ⟨2, ![8, 2048]⟩
abbrev S8x64 : Shape := ⟨2, ![8, 64]⟩
abbrev S8x64x1 : Shape := ⟨3, ![8, 64, 1]⟩
abbrev S8x1x2048 : Shape := ⟨3, ![8, 1, 2048]⟩
abbrev S8x64x12352 : Shape := ⟨3, ![8, 64, 12352]⟩
abbrev S8192x12352 : Shape := ⟨2, ![8192, 12352]⟩
abbrev S512x12352 : Shape := ⟨2, ![512, 12352]⟩
abbrev S8704x12352 : Shape := ⟨2, ![8704, 12352]⟩
abbrev S8704x4096 : Shape := ⟨2, ![8704, 4096]⟩

abbrev nBuf : Space → Nat
  | .hbm => 68
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S2048, .f32⟩
  | .hbm, ⟨3, _⟩ => ⟨S10x2048, .f32⟩
  | .hbm, ⟨4, _⟩ => ⟨S10x2048, .f32⟩
  | .hbm, ⟨5, _⟩ => ⟨S2048x12352, .f32⟩
  | .hbm, ⟨6, _⟩ => ⟨S2x2048, .f32⟩
  | .hbm, ⟨7, _⟩ => ⟨S2x2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x4096x2048, .f32⟩
  | .hbm, ⟨29, _⟩ => ⟨S2x4096x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x12352, .f32⟩
  | .hbm, ⟨34, _⟩ => ⟨S8x2048, .f32⟩
  | .hbm, ⟨35, _⟩ => ⟨S8x2048, .f32⟩
  | .hbm, ⟨36, _⟩ => ⟨S8x64x2048, .f32⟩
  | .hbm, ⟨37, _⟩ => ⟨S_, .f32⟩
  | .hbm, ⟨38, _⟩ => ⟨S8x64, .f32⟩
  | .hbm, ⟨39, _⟩ => ⟨S8x64x1, .f32⟩
  | .hbm, ⟨40, _⟩ => ⟨S_, .f32⟩
  | .hbm, ⟨41, _⟩ => ⟨S8x64x1, .f32⟩
  | .hbm, ⟨42, _⟩ => ⟨S8x64x1, .f32⟩
  | .hbm, ⟨43, _⟩ => ⟨S_, .f32⟩
  | .hbm, ⟨44, _⟩ => ⟨S8x64x1, .f32⟩
  | .hbm, ⟨45, _⟩ => ⟨S8x64x1, .f32⟩
  | .hbm, ⟨46, _⟩ => ⟨S8x64x1, .f32⟩
  | .hbm, ⟨47, _⟩ => ⟨S8x64x2048, .f32⟩
  | .hbm, ⟨48, _⟩ => ⟨S8x64x2048, .f32⟩
  | .hbm, ⟨49, _⟩ => ⟨S1x1x2048, .f32⟩
  | .hbm, ⟨50, _⟩ => ⟨S8x64x2048, .f32⟩
  | .hbm, ⟨51, _⟩ => ⟨S8x64x2048, .f32⟩
  | .hbm, ⟨52, _⟩ => ⟨S8x1x2048, .f32⟩
  | .hbm, ⟨53, _⟩ => ⟨S_, .f32⟩
  | .hbm, ⟨54, _⟩ => ⟨S8x1x2048, .f32⟩
  | .hbm, ⟨55, _⟩ => ⟨S8x1x2048, .f32⟩
  | .hbm, ⟨56, _⟩ => ⟨S8x64x2048, .f32⟩
  | .hbm, ⟨57, _⟩ => ⟨S8x64x2048, .f32⟩
  | .hbm, ⟨58, _⟩ => ⟨S8x1x2048, .f32⟩
  | .hbm, ⟨59, _⟩ => ⟨S8x64x2048, .f32⟩
  | .hbm, ⟨60, _⟩ => ⟨S8x64x2048, .f32⟩
  | .hbm, ⟨61, _⟩ => ⟨S8x64x12352, .f32⟩
  | .hbm, ⟨62, _⟩ => ⟨S8192x12352, .f32⟩
  | .hbm, ⟨63, _⟩ => ⟨S512x12352, .f32⟩
  | .hbm, ⟨64, _⟩ => ⟨S8704x12352, .f32⟩
  | .hbm, ⟨65, _⟩ => ⟨S8704x4096, .f32⟩
  | .hbm, ⟨66, _⟩ => ⟨S8704x4096, .f32⟩
  | .hbm, ⟨67, _⟩ => ⟨S8704x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== DsaOut.lean ====
abbrev S8704x2048 : Shape := ⟨2, ![8704, 2048]⟩
abbrev S2048x2048 : Shape := ⟨2, ![2048, 2048]⟩
abbrev S2x4096x2048 : Shape := ⟨3, ![2, 4096, 2048]⟩
abbrev S8x64x2048 : Shape := ⟨3, ![8, 64, 2048]⟩
abbrev S10x2048 : Shape := ⟨2, ![10, 2048]⟩
abbrev S8192x2048 : Shape := ⟨2, ![8192, 2048]⟩
abbrev S512x2048 : Shape := ⟨2, ![512, 2048]⟩
abbrev S2 : Shape := ⟨1, ![2]⟩
abbrev S2x64 : Shape := ⟨2, ![2, 64]⟩
abbrev S128 : Shape := ⟨1, ![128]⟩
abbrev S8 : Shape := ⟨1, ![8]⟩
abbrev S8x1 : Shape := ⟨2, ![8, 1]⟩
abbrev S_ : Shape := ⟨0, ![]⟩
abbrev S136 : Shape := ⟨1, ![136]⟩
abbrev S1 : Shape := ⟨1, ![1]⟩
abbrev S1x2048 : Shape := ⟨2, ![1, 2048]⟩
abbrev S64x2048 : Shape := ⟨2, ![64, 2048]⟩

abbrev nBuf : Space → Nat
  | .hbm => 19
  | .vmem => 9
  | .smem => 1
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S2x4096x2048, .f32⟩
  | .hbm, ⟨3, _⟩ => ⟨S8x64x2048, .f32⟩
  | .hbm, ⟨4, _⟩ => ⟨S10x2048, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S2, .i32⟩
  | .hbm, ⟨9, _⟩ => ⟨S2x64, .i32⟩
  | .hbm, ⟨10, _⟩ => ⟨S128, .i32⟩
  | .hbm, ⟨11, _⟩ => ⟨S8, .i32⟩
  | .hbm, ⟨12, _⟩ => ⟨S8x1, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S2048x2048, .bf16⟩
  | .hbm, ⟨18, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S10x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .smem, ⟨0, _⟩ => ⟨S136, .i32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v13 : Ref sig .tc := ⟨.hbm, 18, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![17, 1], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32_4 : BitVec 32 := 0#32
  let v8 : BitVec 32 := Scalar.addi v0 c0_i32_4
  let v9 : Index := Scalar.indexCast v8
  ![v9.toNat]
def k0_off2 (v10 : BitVec 32) : Fin 2 → Nat :=
  let v11 : Index := Scalar.indexCast v10
  let c0_5 : Index := 0#32
  ![v11.toNat, 0]

def k0_chk1 (v10 : BitVec 32) : Prop :=
  (∀ a, (k0_off2 v10) a + S1x2048.size a ≤ S10x2048.size a)
theorem k0_off2_inb : ∀ (v10 : BitVec 32) (k0_hw1 : k0_chk1 v10), ∀ a, (k0_off2 v10) a + S1x2048.size a ≤ S10x2048.size a := fun v10 k0_hw1 => k0_hw1

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v20 : BitVec 32 := Scalar.addi v0 c1_i32
  let v21 : Index := Scalar.indexCast v20
  ![v21.toNat]
def k0_off4 (v22 : BitVec 32) : Fin 2 → Nat :=
  let v23 : Index := Scalar.indexCast v22
  let c0_10 : Index := 0#32
  ![v23.toNat, 0]

def k0_chk2 (v22 : BitVec 32) : Prop :=
  (∀ a, (k0_off4 v22) a + S1x2048.size a ≤ S10x2048.size a)
theorem k0_off4_inb : ∀ (v22 : BitVec 32) (k0_hw2 : k0_chk2 v22), ∀ a, (k0_off4 v22) a + S1x2048.size a ≤ S10x2048.size a := fun v22 k0_hw2 => k0_hw2

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v32 : BitVec 32 := Scalar.addi v0 c2_i32
  let v33 : Index := Scalar.indexCast v32
  ![v33.toNat]
def k0_off6 (v34 : BitVec 32) : Fin 2 → Nat :=
  let v35 : Index := Scalar.indexCast v34
  let c0_14 : Index := 0#32
  ![v35.toNat, 0]

def k0_chk3 (v34 : BitVec 32) : Prop :=
  (∀ a, (k0_off6 v34) a + S1x2048.size a ≤ S10x2048.size a)
theorem k0_off6_inb : ∀ (v34 : BitVec 32) (k0_hw3 : k0_chk3 v34), ∀ a, (k0_off6 v34) a + S1x2048.size a ≤ S10x2048.size a := fun v34 k0_hw3 => k0_hw3

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v44 : BitVec 32 := Scalar.addi v0 c3_i32
  let v45 : Index := Scalar.indexCast v44
  ![v45.toNat]
def k0_off8 (v46 : BitVec 32) : Fin 2 → Nat :=
  let v47 : Index := Scalar.indexCast v46
  let c0_18 : Index := 0#32
  ![v47.toNat, 0]

def k0_chk4 (v46 : BitVec 32) : Prop :=
  (∀ a, (k0_off8 v46) a + S1x2048.size a ≤ S10x2048.size a)
theorem k0_off8_inb : ∀ (v46 : BitVec 32) (k0_hw4 : k0_chk4 v46), ∀ a, (k0_off8 v46) a + S1x2048.size a ≤ S10x2048.size a := fun v46 k0_hw4 => k0_hw4

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v56 : BitVec 32 := Scalar.addi v0 c4_i32
  let v57 : Index := Scalar.indexCast v56
  ![v57.toNat]
def k0_off10 (v58 : BitVec 32) : Fin 2 → Nat :=
  let v59 : Index := Scalar.indexCast v58
  let c0_22 : Index := 0#32
  ![v59.toNat, 0]

def k0_chk5 (v58 : BitVec 32) : Prop :=
  (∀ a, (k0_off10 v58) a + S1x2048.size a ≤ S10x2048.size a)
theorem k0_off10_inb : ∀ (v58 : BitVec 32) (k0_hw5 : k0_chk5 v58), ∀ a, (k0_off10 v58) a + S1x2048.size a ≤ S10x2048.size a := fun v58 k0_hw5 => k0_hw5

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v68 : BitVec 32 := Scalar.addi v0 c5_i32
  let v69 : Index := Scalar.indexCast v68
  ![v69.toNat]
def k0_off12 (v70 : BitVec 32) : Fin 2 → Nat :=
  let v71 : Index := Scalar.indexCast v70
  let c0_26 : Index := 0#32
  ![v71.toNat, 0]

def k0_chk6 (v70 : BitVec 32) : Prop :=
  (∀ a, (k0_off12 v70) a + S1x2048.size a ≤ S10x2048.size a)
theorem k0_off12_inb : ∀ (v70 : BitVec 32) (k0_hw6 : k0_chk6 v70), ∀ a, (k0_off12 v70) a + S1x2048.size a ≤ S10x2048.size a := fun v70 k0_hw6 => k0_hw6

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v80 : BitVec 32 := Scalar.addi v0 c6_i32
  let v81 : Index := Scalar.indexCast v80
  ![v81.toNat]
def k0_off14 (v82 : BitVec 32) : Fin 2 → Nat :=
  let v83 : Index := Scalar.indexCast v82
  let c0_30 : Index := 0#32
  ![v83.toNat, 0]

def k0_chk7 (v82 : BitVec 32) : Prop :=
  (∀ a, (k0_off14 v82) a + S1x2048.size a ≤ S10x2048.size a)
theorem k0_off14_inb : ∀ (v82 : BitVec 32) (k0_hw7 : k0_chk7 v82), ∀ a, (k0_off14 v82) a + S1x2048.size a ≤ S10x2048.size a := fun v82 k0_hw7 => k0_hw7

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v92 : BitVec 32 := Scalar.addi v0 c7_i32
  let v93 : Index := Scalar.indexCast v92
  ![v93.toNat]
def k0_off16 (v94 : BitVec 32) : Fin 2 → Nat :=
  let v95 : Index := Scalar.indexCast v94
  let c0_34 : Index := 0#32
  ![v95.toNat, 0]

def k0_chk8 (v94 : BitVec 32) : Prop :=
  (∀ a, (k0_off16 v94) a + S1x2048.size a ≤ S10x2048.size a)
theorem k0_off16_inb : ∀ (v94 : BitVec 32) (k0_hw8 : k0_chk8 v94), ∀ a, (k0_off16 v94) a + S1x2048.size a ≤ S10x2048.size a := fun v94 k0_hw8 => k0_hw8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DsaOutRefIdeal.lean ====
abbrev S8704x2048 : Shape := ⟨2, ![8704, 2048]⟩
abbrev S2048x2048 : Shape := ⟨2, ![2048, 2048]⟩
abbrev S2x4096x2048 : Shape := ⟨3, ![2, 4096, 2048]⟩
abbrev S8x64x2048 : Shape := ⟨3, ![8, 64, 2048]⟩
abbrev S10x2048 : Shape := ⟨2, ![10, 2048]⟩
abbrev S8192x2048 : Shape := ⟨2, ![8192, 2048]⟩
abbrev S512x2048 : Shape := ⟨2, ![512, 2048]⟩
abbrev S2x2048 : Shape := ⟨2, ![2, 2048]⟩
abbrev S2x1x2048 : Shape := ⟨3, ![2, 1, 2048]⟩
abbrev S8x2048 : Shape := ⟨2, ![8, 2048]⟩
abbrev S8x1x2048 : Shape := ⟨3, ![8, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S2x4096x2048, .f32⟩
  | .hbm, ⟨3, _⟩ => ⟨S8x64x2048, .f32⟩
  | .hbm, ⟨4, _⟩ => ⟨S10x2048, .f32⟩
  | .hbm, ⟨5, _⟩ => ⟨S8192x2048, .bf16⟩
  | .hbm, ⟨6, _⟩ => ⟨S2x4096x2048, .bf16⟩
  | .hbm, ⟨7, _⟩ => ⟨S2x4096x2048, .f32⟩
  | .hbm, ⟨8, _⟩ => ⟨S512x2048, .bf16⟩
  | .hbm, ⟨9, _⟩ => ⟨S8x64x2048, .bf16⟩
  | .hbm, ⟨10, _⟩ => ⟨S8x64x2048, .f32⟩
  | .hbm, ⟨11, _⟩ => ⟨S2x2048, .f32⟩
  | .hbm, ⟨12, _⟩ => ⟨S2x1x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S8x2048, .f32⟩
  | .hbm, ⟨18, _⟩ => ⟨S8x1x2048, .f32⟩
  | .hbm, ⟨19, _⟩ => ⟨S8x64x2048, .f32⟩
  | .hbm, ⟨20, _⟩ => ⟨S8x64x2048, .f32⟩
  | .hbm, ⟨21, _⟩ => ⟨S8x64x2048, .f32⟩
  | .hbm, ⟨22, _⟩ => ⟨S8x64x2048, .f32⟩
  | .hbm, ⟨23, _⟩ => ⟨S8192x2048, .f32⟩
  | .hbm, ⟨24, _⟩ => ⟨S512x2048, .f32⟩
  | .hbm, ⟨25, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== PeerQ.lean ====
abbrev S2x4096x2048 : Shape := ⟨3, ![2, 4096, 2048]⟩
abbrev S8x64x2048 : Shape := ⟨3, ![8, 64, 2048]⟩
abbrev S2048 : Shape := ⟨1, ![2048]⟩
abbrev S10x2048 : Shape := ⟨2, ![10, 2048]⟩
abbrev S2048x2048 : Shape := ⟨2, ![2048, 2048]⟩
abbrev S8192x2048 : Shape := ⟨2, ![8192, 2048]⟩
abbrev S512x2048 : Shape := ⟨2, ![512, 2048]⟩
abbrev S8704x2048 : Shape := ⟨2, ![8704, 2048]⟩
abbrev S2 : Shape := ⟨1, ![2]⟩
abbrev S2x64 : Shape := ⟨2, ![2, 64]⟩
abbrev S128 : Shape := ⟨1, ![128]⟩
abbrev S8 : Shape := ⟨1, ![8]⟩
abbrev S8x1 : Shape := ⟨2, ![8, 1]⟩
abbrev S_ : Shape := ⟨0, ![]⟩
abbrev S136 : Shape := ⟨1, ![136]⟩
abbrev S1x2048 : Shape := ⟨2, ![1, 2048]⟩
abbrev S64x2048 : Shape := ⟨2, ![64, 2048]⟩
abbrev S1 : Shape := ⟨1, ![1]⟩
abbrev S64 : Shape := ⟨1, ![64]⟩
abbrev S64x1 : Shape := ⟨2, ![64, 1]⟩

abbrev nBuf : Space → Nat
  | .hbm => 21
  | .vmem => 9
  | .smem => 1
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S2048, .f32⟩
  | .hbm, ⟨3, _⟩ => ⟨S10x2048, .f32⟩
  | .hbm, ⟨4, _⟩ => ⟨S10x2048, .f32⟩
  | .hbm, ⟨5, _⟩ => ⟨S2048x2048, .f32⟩
  | .hbm, ⟨6, _⟩ => ⟨S8192x2048, .f32⟩
  | .hbm, ⟨7, _⟩ => ⟨S512x2048, .f32⟩
  | .hbm, ⟨8, _⟩ => ⟨S8704x2048, .f32⟩
  | .hbm, ⟨9, _⟩ => ⟨S2, .i32⟩
  | .hbm, ⟨10, _⟩ => ⟨S2x64, .i32⟩
  | .hbm, ⟨11, _⟩ => ⟨S128, .i32⟩
  | .hbm, ⟨12, _⟩ => ⟨S8, .i32⟩
  | .hbm, ⟨13, _⟩ => ⟨S8x1, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S1x2048, .f32⟩
  | .hbm, ⟨19, _⟩ => ⟨S2048x2048, .bf16⟩
  | .hbm, ⟨20, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S10x2048, .f32⟩
  | .local _ .vmem, ⟨4, _⟩ => ⟨S10x2048, .f32⟩
  | .local _ .vmem, ⟨5, _⟩ => ⟨S2048x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .smem, ⟨0, _⟩ => ⟨S136, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![17, 1], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32_10 : BitVec 32 := 0#32
  let v13 : BitVec 32 := Scalar.addi v0 c0_i32_10
  let v14 : Index := Scalar.indexCast v13
  ![v14.toNat]
def k0_off2 (v15 : BitVec 32) : Fin 2 → Nat :=
  let v28 : Index := Scalar.indexCast v15
  let c0_14 : Index := 0#32
  ![v28.toNat, 0]

def k0_chk1 (i : grid0.Coords) (v15 : BitVec 32) : Prop :=
  (∀ (k0_h1 : k0_cond1 i = 1#1), ∀ a, (k0_off2 v15) a + S1x2048.size a ≤ S10x2048.size a)
theorem k0_off2_inb : ∀ (i : grid0.Coords) (v15 : BitVec 32) (k0_hw1 : k0_chk1 i v15), ∀ (k0_h1 : k0_cond1 i = 1#1), ∀ a, (k0_off2 v15) a + S1x2048.size a ≤ S10x2048.size a := fun i v15 k0_hw1 k0_h1 => k0_hw1 k0_h1

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v46 : BitVec 32 := Scalar.addi v0 c1_i32
  let v47 : Index := Scalar.indexCast v46
  ![v47.toNat]
def k0_off4 (v48 : BitVec 32) : Fin 2 → Nat :=
  let v61 : Index := Scalar.indexCast v48
  let c0_25 : Index := 0#32
  ![v61.toNat, 0]

def k0_chk2 (i : grid0.Coords) (v48 : BitVec 32) : Prop :=
  (∀ (k0_h1 : k0_cond1 i = 1#1), ∀ a, (k0_off4 v48) a + S1x2048.size a ≤ S10x2048.size a)
theorem k0_off4_inb : ∀ (i : grid0.Coords) (v48 : BitVec 32) (k0_hw2 : k0_chk2 i v48), ∀ (k0_h1 : k0_cond1 i = 1#1), ∀ a, (k0_off4 v48) a + S1x2048.size a ≤ S10x2048.size a := fun i v48 k0_hw2 k0_h1 => k0_hw2 k0_h1

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v79 : BitVec 32 := Scalar.addi v0 c2_i32
  let v80 : Index := Scalar.indexCast v79
  ![v80.toNat]
def k0_off6 (v81 : BitVec 32) : Fin 2 → Nat :=
  let v94 : Index := Scalar.indexCast v81
  let c0_36 : Index := 0#32
  ![v94.toNat, 0]

def k0_chk3 (i : grid0.Coords) (v81 : BitVec 32) : Prop :=
  (∀ (k0_h1 : k0_cond1 i = 1#1), ∀ a, (k0_off6 v81) a + S1x2048.size a ≤ S10x2048.size a)
theorem k0_off6_inb : ∀ (i : grid0.Coords) (v81 : BitVec 32) (k0_hw3 : k0_chk3 i v81), ∀ (k0_h1 : k0_cond1 i = 1#1), ∀ a, (k0_off6 v81) a + S1x2048.size a ≤ S10x2048.size a := fun i v81 k0_hw3 k0_h1 => k0_hw3 k0_h1

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v112 : BitVec 32 := Scalar.addi v0 c3_i32
  let v113 : Index := Scalar.indexCast v112
  ![v113.toNat]
def k0_off8 (v114 : BitVec 32) : Fin 2 → Nat :=
  let v127 : Index := Scalar.indexCast v114
  let c0_47 : Index := 0#32
  ![v127.toNat, 0]

def k0_chk4 (i : grid0.Coords) (v114 : BitVec 32) : Prop :=
  (∀ (k0_h1 : k0_cond1 i = 1#1), ∀ a, (k0_off8 v114) a + S1x2048.size a ≤ S10x2048.size a)
theorem k0_off8_inb : ∀ (i : grid0.Coords) (v114 : BitVec 32) (k0_hw4 : k0_chk4 i v114), ∀ (k0_h1 : k0_cond1 i = 1#1), ∀ a, (k0_off8 v114) a + S1x2048.size a ≤ S10x2048.size a := fun i v114 k0_hw4 k0_h1 => k0_hw4 k0_h1

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v145 : BitVec 32 := Scalar.addi v0 c4_i32
  let v146 : Index := Scalar.indexCast v145
  ![v146.toNat]
def k0_off10 (v147 : BitVec 32) : Fin 2 → Nat :=
  let v160 : Index := Scalar.indexCast v147
  let c0_58 : Index := 0#32
  ![v160.toNat, 0]

def k0_chk5 (i : grid0.Coords) (v147 : BitVec 32) : Prop :=
  (∀ (k0_h1 : k0_cond1 i = 1#1), ∀ a, (k0_off10 v147) a + S1x2048.size a ≤ S10x2048.size a)
theorem k0_off10_inb : ∀ (i : grid0.Coords) (v147 : BitVec 32) (k0_hw5 : k0_chk5 i v147), ∀ (k0_h1 : k0_cond1 i = 1#1), ∀ a, (k0_off10 v147) a + S1x2048.size a ≤ S10x2048.size a := fun i v147 k0_hw5 k0_h1 => k0_hw5 k0_h1

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v178 : BitVec 32 := Scalar.addi v0 c5_i32
  let v179 : Index := Scalar.indexCast v178
  ![v179.toNat]
def k0_off12 (v180 : BitVec 32) : Fin 2 → Nat :=
  let v193 : Index := Scalar.indexCast v180
  let c0_69 : Index := 0#32
  ![v193.toNat, 0]

def k0_chk6 (i : grid0.Coords) (v180 : BitVec 32) : Prop :=
  (∀ (k0_h1 : k0_cond1 i = 1#1), ∀ a, (k0_off12 v180) a + S1x2048.size a ≤ S10x2048.size a)
theorem k0_off12_inb : ∀ (i : grid0.Coords) (v180 : BitVec 32) (k0_hw6 : k0_chk6 i v180), ∀ (k0_h1 : k0_cond1 i = 1#1), ∀ a, (k0_off12 v180) a + S1x2048.size a ≤ S10x2048.size a := fun i v180 k0_hw6 k0_h1 => k0_hw6 k0_h1

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v211 : BitVec 32 := Scalar.addi v0 c6_i32
  let v212 : Index := Scalar.indexCast v211
  ![v212.toNat]
def k0_off14 (v213 : BitVec 32) : Fin 2 → Nat :=
  let v226 : Index := Scalar.indexCast v213
  let c0_80 : Index := 0#32
  ![v226.toNat, 0]

def k0_chk7 (i : grid0.Coords) (v213 : BitVec 32) : Prop :=
  (∀ (k0_h1 : k0_cond1 i = 1#1), ∀ a, (k0_off14 v213) a + S1x2048.size a ≤ S10x2048.size a)
theorem k0_off14_inb : ∀ (i : grid0.Coords) (v213 : BitVec 32) (k0_hw7 : k0_chk7 i v213), ∀ (k0_h1 : k0_cond1 i = 1#1), ∀ a, (k0_off14 v213) a + S1x2048.size a ≤ S10x2048.size a := fun i v213 k0_hw7 k0_h1 => k0_hw7 k0_h1

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v244 : BitVec 32 := Scalar.addi v0 c7_i32
  let v245 : Index := Scalar.indexCast v244
  ![v245.toNat]
def k0_off16 (v246 : BitVec 32) : Fin 2 → Nat :=
  let v259 : Index := Scalar.indexCast v246
  let c0_91 : Index := 0#32
  ![v259.toNat, 0]

def k0_chk8 (i : grid0.Coords) (v246 : BitVec 32) : Prop :=
  (∀ (k0_h1 : k0_cond1 i = 1#1), ∀ a, (k0_off16 v246) a + S1x2048.size a ≤ S10x2048.size a)
theorem k0_off16_inb : ∀ (i : grid0.Coords) (v246 : BitVec 32) (k0_hw8 : k0_chk8 i v246), ∀ (k0_h1 : k0_cond1 i = 1#1), ∀ a, (k0_off16 v246) a + S1x2048.size a ≤ S10x2048.size a := fun i v246 k0_hw8 k0_h1 => k0_hw8 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S10x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PeerQRefIdeal.lean ====
abbrev S2x4096x2048 : Shape := ⟨3, ![2, 4096, 2048]⟩
abbrev S8x64x2048 : Shape := ⟨3, ![8, 64, 2048]⟩
abbrev S2048 : Shape := ⟨1, ![2048]⟩
abbrev S10x2048 : Shape := ⟨2, ![10, 2048]⟩
abbrev S2048x2048 : Shape := ⟨2, ![2048, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S8x2048 : Shape := ⟨2, ![8, 2048]⟩
abbrev S8x64 : Shape := ⟨2, ![8, 64]⟩
abbrev S8x64x1 : Shape := ⟨3, ![8, 64, 1]⟩
abbrev S8x1x2048 : Shape := ⟨3, ![8, 1, 2048]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S2048, .f32⟩
  | .hbm, ⟨3, _⟩ => ⟨S10x2048, .f32⟩
  | .hbm, ⟨4, _⟩ => ⟨S10x2048, .f32⟩
  | .hbm, ⟨5, _⟩ => ⟨S2048x2048, .f32⟩
  | .hbm, ⟨6, _⟩ => ⟨S2x2048, .f32⟩
  | .hbm, ⟨7, _⟩ => ⟨S2x2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x4096x2048, .f32⟩
  | .hbm, ⟨29, _⟩ => ⟨S2x4096x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S8x2048, .f32⟩
  | .hbm, ⟨35, _⟩ => ⟨S8x2048, .f32⟩
  | .hbm, ⟨36, _⟩ => ⟨S8x64x2048, .f32⟩
  | .hbm, ⟨37, _⟩ => ⟨S_, .f32⟩
  | .hbm, ⟨38, _⟩ => ⟨S8x64, .f32⟩
  | .hbm, ⟨39, _⟩ => ⟨S8x64x1, .f32⟩
  | .hbm, ⟨40, _⟩ => ⟨S_, .f32⟩
  | .hbm, ⟨41, _⟩ => ⟨S8x64x1, .f32⟩
  | .hbm, ⟨42, _⟩ => ⟨S8x64x1, .f32⟩
  | .hbm, ⟨43, _⟩ => ⟨S_, .f32⟩
  | .hbm, ⟨44, _⟩ => ⟨S8x64x1, .f32⟩
  | .hbm, ⟨45, _⟩ => ⟨S8x64x1, .f32⟩
  | .hbm, ⟨46, _⟩ => ⟨S8x64x1, .f32⟩
  | .hbm, ⟨47, _⟩ => ⟨S8x64x2048, .f32⟩
  | .hbm, ⟨48, _⟩ => ⟨S8x64x2048, .f32⟩
  | .hbm, ⟨49, _⟩ => ⟨S1x1x2048, .f32⟩
  | .hbm, ⟨50, _⟩ => ⟨S8x64x2048, .f32⟩
  | .hbm, ⟨51, _⟩ => ⟨S8x64x2048, .f32⟩
  | .hbm, ⟨52, _⟩ => ⟨S8x1x2048, .f32⟩
  | .hbm, ⟨53, _⟩ => ⟨S_, .f32⟩
  | .hbm, ⟨54, _⟩ => ⟨S8x1x2048, .f32⟩
  | .hbm, ⟨55, _⟩ => ⟨S8x1x2048, .f32⟩
  | .hbm, ⟨56, _⟩ => ⟨S8x64x2048, .f32⟩
  | .hbm, ⟨57, _⟩ => ⟨S8x64x2048, .f32⟩
  | .hbm, ⟨58, _⟩ => ⟨S8x1x2048, .f32⟩
  | .hbm, ⟨59, _⟩ => ⟨S8x64x2048, .f32⟩
  | .hbm, ⟨60, _⟩ => ⟨S8x64x2048, .f32⟩
  | .hbm, ⟨61, _⟩ => ⟨S8x64x2048, .f32⟩
  | .hbm, ⟨62, _⟩ => ⟨S8192x2048, .f32⟩
  | .hbm, ⟨63, _⟩ => ⟨S512x2048, .f32⟩
  | .hbm, ⟨64, _⟩ => ⟨S8704x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== KeptRows.lean ====
abbrev S8704x4096 : Shape := ⟨2, ![8704, 4096]⟩
abbrev S8x3x8192 : Shape := ⟨3, ![8, 3, 8192]⟩
abbrev S_ : Shape := ⟨0, ![]⟩
abbrev S2x3x8192 : Shape := ⟨3, ![2, 3, 8192]⟩
abbrev S3x4096 : Shape := ⟨2, ![3, 4096]⟩
abbrev S3x8192 : Shape := ⟨2, ![3, 8192]⟩
abbrev S1x3x8192 : Shape := ⟨3, ![1, 3, 8192]⟩
abbrev S2x6x8192 : Shape := ⟨3, ![2, 6, 8192]⟩
abbrev S8x6x8192 : Shape := ⟨3, ![8, 6, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S8x3x8192, .f32⟩
  | .hbm, ⟨3, _⟩ => ⟨S_, .f32⟩
  | .hbm, ⟨4, _⟩ => ⟨S2x3x8192, .f32⟩
  | .hbm, ⟨5, _⟩ => ⟨S3x4096, .f32⟩
  | .hbm, ⟨6, _⟩ => ⟨S3x4096, .f32⟩
  | .hbm, ⟨7, _⟩ => ⟨S3x8192, .f32⟩
  | .hbm, ⟨8, _⟩ => ⟨S3x4096, .f32⟩
  | .hbm, ⟨9, _⟩ => ⟨S3x4096, .f32⟩
  | .hbm, ⟨10, _⟩ => ⟨S3x8192, .f32⟩
  | .hbm, ⟨11, _⟩ => ⟨S1x3x8192, .f32⟩
  | .hbm, ⟨12, _⟩ => ⟨S1x3x8192, .f32⟩
  | .hbm, ⟨13, _⟩ => ⟨S2x3x8192, .f32⟩
  | .hbm, ⟨14, _⟩ => ⟨S2x6x8192, .f32⟩
  | .hbm, ⟨15, _⟩ => ⟨S2x3x8192, .f32⟩
  | .hbm, ⟨16, _⟩ => ⟨S3x4096, .f32⟩
  | .hbm, ⟨17, _⟩ => ⟨S3x4096, .f32⟩
  | .hbm, ⟨18, _⟩ => ⟨S3x8192, .f32⟩
  | .hbm, ⟨19, _⟩ => ⟨S3x4096, .f32⟩
  | .hbm, ⟨20, _⟩ => ⟨S3x4096, .f32⟩
  | .hbm, ⟨21, _⟩ => ⟨S3x8192, .f32⟩
  | .hbm, ⟨22, _⟩ => ⟨S3x4096, .f32⟩
  | .hbm, ⟨23, _⟩ => ⟨S3x4096, .f32⟩
  | .hbm, ⟨24, _⟩ => ⟨S3x8192, .f32⟩
  | .hbm, ⟨25, _⟩ => ⟨S3x4096, .f32⟩
  | .hbm, ⟨26, _⟩ => ⟨S3x4096, .f32⟩
  | .hbm, ⟨27, _⟩ => ⟨S3x8192, .f32⟩
  | .hbm, ⟨28, _⟩ => ⟨S3x4096, .f32⟩
  | .hbm, ⟨29, _⟩ => ⟨S3x4096, .f32⟩
  | .hbm, ⟨30, _⟩ => ⟨S3x8192, .f32⟩
  | .hbm, ⟨31, _⟩ => ⟨S3x4096, .f32⟩
  | .hbm, ⟨32, _⟩ => ⟨S3x4096, .f32⟩
  | .hbm, ⟨33, _⟩ => ⟨S3x8192, .f32⟩
  | .hbm, ⟨34, _⟩ => ⟨S3x4096, .f32⟩
  | .hbm, ⟨35, _⟩ => ⟨S3x4096, .f32⟩
  | .hbm, ⟨36, _⟩ => ⟨S3x8192, .f32⟩
  | .hbm, ⟨37, _⟩ => ⟨S3x4096, .f32⟩
  | .hbm, ⟨38, _⟩ => ⟨S3x4096, .f32⟩
  | .hbm, ⟨39, _⟩ => ⟨S3x8192, .f32⟩
  | .hbm, ⟨40, _⟩ => ⟨S1x3x8192, .f32⟩
  | .hbm, ⟨41, _⟩ => ⟨S1x3x8192, .f32⟩
  | .hbm, ⟨42, _⟩ => ⟨S1x3x8192, .f32⟩
  | .hbm, ⟨43, _⟩ => ⟨S1x3x8192, .f32⟩
  | .hbm, ⟨44, _⟩ => ⟨S1x3x8192, .f32⟩
  | .hbm, ⟨45, _⟩ => ⟨S1x3x8192, .f32⟩
  | .hbm, ⟨46, _⟩ => ⟨S1x3x8192, .f32⟩
  | .hbm, ⟨47, _⟩ => ⟨S1x3x8192, .f32⟩
  | .hbm, ⟨48, _⟩ => ⟨S8x3x8192, .f32⟩
  | .hbm, ⟨49, _⟩ => ⟨S8x6x8192, .f32⟩
  | .hbm, ⟨50, _⟩ => ⟨S8x3x8192, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩

abbrev nD : Nat := 1
abbrev τ : Topo := Topo.v7x

variable {F : FTy → Type} [FloatOps F]
-- ==== KeptRowsRefIdeal.lean ====
abbrev S8704x4096 : Shape := ⟨2, ![8704, 4096]⟩
abbrev S8x3x8192 : Shape := ⟨3, ![8, 3, 8192]⟩
abbrev S8704x8192 : Shape := ⟨2, ![8704, 8192]⟩
abbrev S8192x8192 : Shape := ⟨2, ![8192, 8192]⟩
abbrev S2x4096x8192 : Shape := ⟨3, ![2, 4096, 8192]⟩
abbrev S512x8192 : Shape := ⟨2, ![512, 8192]⟩
abbrev S8x64x8192 : Shape := ⟨3, ![8, 64, 8192]⟩
abbrev S_ : Shape := ⟨0, ![]⟩
abbrev S2x3x8192 : Shape := ⟨3, ![2, 3, 8192]⟩
abbrev S2x4099x8192 : Shape := ⟨3, ![2, 4099, 8192]⟩
abbrev S8x67x8192 : Shape := ⟨3, ![8, 67, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S8x3x8192, .f32⟩
  | .hbm, ⟨3, _⟩ => ⟨S8704x8192, .f32⟩
  | .hbm, ⟨4, _⟩ => ⟨S8192x8192, .f32⟩
  | .hbm, ⟨5, _⟩ => ⟨S2x4096x8192, .f32⟩
  | .hbm, ⟨6, _⟩ => ⟨S512x8192, .f32⟩
  | .hbm, ⟨7, _⟩ => ⟨S8x64x8192, .f32⟩
  | .hbm, ⟨8, _⟩ => ⟨S_, .f32⟩
  | .hbm, ⟨9, _⟩ => ⟨S2x3x8192, .f32⟩
  | .hbm, ⟨10, _⟩ => ⟨S2x4099x8192, .f32⟩
  | .hbm, ⟨11, _⟩ => ⟨S8x67x8192, .f32⟩
  | .hbm, ⟨12, _⟩ => ⟨S2x3x8192, .f32⟩
  | .hbm, ⟨13, _⟩ => ⟨S8x3x8192, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== PrepS.lean ====
abbrev S8704x3072 : Shape := ⟨2, ![8704, 3072]⟩
abbrev S8704x640 : Shape := ⟨2, ![8704, 640]⟩
abbrev S64 : Shape := ⟨1, ![64]⟩
abbrev S_ : Shape := ⟨0, ![]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S64x96 : Shape := ⟨2, ![64, 96]⟩
abbrev S64x128 : Shape := ⟨2, ![64, 128]⟩
abbrev S64x112 : Shape := ⟨2, ![64, 112]⟩
abbrev S1x64x1x128 : Shape := ⟨4, ![1, 64, 1, 128]⟩
abbrev S1x64x128 : Shape := ⟨3, ![1, 64, 128]⟩
abbrev S3x64x128 : Shape := ⟨3, ![3, 64, 128]⟩
abbrev S8 : Shape := ⟨1, ![8]⟩
abbrev S1x8 : Shape := ⟨2, ![1, 8]⟩
abbrev S64x8 : Shape := ⟨2, ![64, 8]⟩
abbrev S64x48 : Shape := ⟨2, ![64, 48]⟩
abbrev S64x64 : Shape := ⟨2, ![64, 64]⟩
abbrev S64x56 : Shape := ⟨2, ![64, 56]⟩
abbrev S1x64x1x64 : Shape := ⟨4, ![1, 64, 1, 64]⟩
abbrev S1x64x2x64 : Shape := ⟨4, ![1, 64, 2, 64]⟩
abbrev S8x64x2048 : Shape := ⟨3, ![8, 64, 2048]⟩
abbrev S8x64x4x128 : Shape := ⟨4, ![8, 64, 4, 128]⟩
abbrev S8x64x64 : Shape := ⟨3, ![8, 64, 64]⟩
abbrev S8x64x512 : Shape := ⟨3, ![8, 64, 512]⟩
abbrev S8x1x512x256 : Shape := ⟨4, ![8, 1, 512, 256]⟩
abbrev S8x64x256 : Shape := ⟨3, ![8, 64, 256]⟩
abbrev S8x64x8 : Shape := ⟨3, ![8, 64, 8]⟩
abbrev S64x2048 : Shape := ⟨2, ![64, 2048]⟩
abbrev S64x1024 : Shape := ⟨2, ![64, 1024]⟩
abbrev S64x640 : Shape := ⟨2, ![64, 640]⟩
abbrev S1x64x2048 : Shape := ⟨3, ![1, 64, 2048]⟩
abbrev S1x64x4x128 : Shape := ⟨4, ![1, 64, 4, 128]⟩
abbrev S1x64x64 : Shape := ⟨3, ![1, 64, 64]⟩
abbrev S1x64x512 : Shape := ⟨3, ![1, 64, 512]⟩
abbrev S1x1x512x256 : Shape := ⟨4, ![1, 1, 512, 256]⟩
abbrev S1x64x256 : Shape := ⟨3, ![1, 64, 256]⟩
abbrev S1x64x8 : Shape := ⟨3, ![1, 64, 8]⟩
abbrev S64x512 : Shape := ⟨2, ![64, 512]⟩
abbrev S64x256 : Shape := ⟨2, ![64, 256]⟩
abbrev S1x1x64x256 : Shape := ⟨4, ![1, 1, 64, 256]⟩

abbrev nBuf : Space → Nat
  | .hbm => 97
  | .vmem => 26
  | .smem => 0
  | _ => 0

abbrev bufTy : (tb : Table) → Fin (tcTables nBuf tb) → BufTy
  | .hbm, ⟨0, _⟩ => ⟨S8704x3072, .f32⟩
  | .hbm, ⟨1, _⟩ => ⟨S8704x640, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S64, .f32⟩
  | .hbm, ⟨15, _⟩ => ⟨S64x1, .f32⟩
  | .hbm, ⟨16, _⟩ => ⟨S1x16, .f32⟩
  | .hbm, ⟨17, _⟩ => ⟨S64x16, .f32⟩
  | .hbm, ⟨18, _⟩ => ⟨S64x16, .f32⟩
  | .hbm, ⟨19, _⟩ => ⟨S64x16, .f32⟩
  | .hbm, ⟨20, _⟩ => ⟨S64x16, .f32⟩
  | .hbm, ⟨21, _⟩ => ⟨S64x16, .f32⟩
  | .hbm, ⟨22, _⟩ => ⟨S_, .f32⟩
  | .hbm, ⟨23, _⟩ => ⟨S64x96, .f32⟩
  | .hbm, ⟨24, _⟩ => ⟨S64x128, .f32⟩
  | .hbm, ⟨25, _⟩ => ⟨S64x16, .f32⟩
  | .hbm, ⟨26, _⟩ => ⟨S_, .f32⟩
  | .hbm, ⟨27, _⟩ => ⟨S64x112, .f32⟩
  | .hbm, ⟨28, _⟩ => ⟨S64x128, .f32⟩
  | .hbm, ⟨29, _⟩ => ⟨S_, .f32⟩
  | .hbm, ⟨30, _⟩ => ⟨S64x16, .f32⟩
  | .hbm, ⟨31, _⟩ => ⟨S_, .f32⟩
  | .hbm, ⟨32, _⟩ => ⟨S64x96, .f32⟩
  | .hbm, ⟨33, _⟩ => ⟨S64x128, .f32⟩
  | .hbm, ⟨34, _⟩ => ⟨S1x64x1x128, .f32⟩
  | .hbm, ⟨35, _⟩ => ⟨S1x64x1x128, .f32⟩
  | .hbm, ⟨36, _⟩ => ⟨S64x128, .f32⟩
  | .hbm, ⟨37, _⟩ => ⟨S1x64x1x128, .f32⟩
  | .hbm, ⟨38, _⟩ => ⟨S1x64x1x128, .f32⟩
  | .hbm, ⟨39, _⟩ => ⟨S64x128, .f32⟩
  | .hbm, ⟨40, _⟩ => ⟨S1x64x1x128, .f32⟩
  | .hbm, ⟨41, _⟩ => ⟨S1x64x1x128, .f32⟩
  | .hbm, ⟨42, _⟩ => ⟨S64x128, .f32⟩
  | .hbm, ⟨43, _⟩ => ⟨S1x64x128, .f32⟩
  | .hbm, ⟨44, _⟩ => ⟨S1x64x128, .f32⟩
  | .hbm, ⟨45, _⟩ => ⟨S1x64x128, .f32⟩
  | .hbm, ⟨46, _⟩ => ⟨S3x64x128, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S64, .f32⟩
  | .hbm, ⟨56, _⟩ => ⟨S64x1, .f32⟩
  | .hbm, ⟨57, _⟩ => ⟨S1x8, .f32⟩
  | .hbm, ⟨58, _⟩ => ⟨S64x8, .f32⟩
  | .hbm, ⟨59, _⟩ => ⟨S64x8, .f32⟩
  | .hbm, ⟨60, _⟩ => ⟨S64x8, .f32⟩
  | .hbm, ⟨61, _⟩ => ⟨S64x8, .f32⟩
  | .hbm, ⟨62, _⟩ => ⟨S64x8, .f32⟩
  | .hbm, ⟨63, _⟩ => ⟨S_, .f32⟩
  | .hbm, ⟨64, _⟩ => ⟨S64x48, .f32⟩
  | .hbm, ⟨65, _⟩ => ⟨S64x64, .f32⟩
  | .hbm, ⟨66, _⟩ => ⟨S64x8, .f32⟩
  | .hbm, ⟨67, _⟩ => ⟨S_, .f32⟩
  | .hbm, ⟨68, _⟩ => ⟨S64x56, .f32⟩
  | .hbm, ⟨69, _⟩ => ⟨S64x64, .f32⟩
  | .hbm, ⟨70, _⟩ => ⟨S_, .f32⟩
  | .hbm, ⟨71, _⟩ => ⟨S64x8, .f32⟩
  | .hbm, ⟨72, _⟩ => ⟨S_, .f32⟩
  | .hbm, ⟨73, _⟩ => ⟨S64x48, .f32⟩
  | .hbm, ⟨74, _⟩ => ⟨S64x64, .f32⟩
  | .hbm, ⟨75, _⟩ => ⟨S1x64x1x64, .f32⟩
  | .hbm, ⟨76, _⟩ => ⟨S1x64x2x64, .f32⟩
  | .hbm, ⟨77, _⟩ => ⟨S64x128, .f32⟩
  | .hbm, ⟨78, _⟩ => ⟨S1x64x1x64, .f32⟩
  | .hbm, ⟨79, _⟩ => ⟨S1x64x2x64, .f32⟩
  | .hbm, ⟨80, _⟩ => ⟨S64x128, .f32⟩
  | .hbm, ⟨81, _⟩ => ⟨S1x64x1x64, .f32⟩
  | .hbm, ⟨82, _⟩ => ⟨S1x64x2x64, .f32⟩
  | .hbm, ⟨83, _⟩ => ⟨S64x128, .f32⟩
  | .hbm, ⟨84, _⟩ => ⟨S1x64x128, .f32⟩
  | .hbm, ⟨85, _⟩ => ⟨S1x64x128, .f32⟩
  | .hbm, ⟨86, _⟩ => ⟨S1x64x128, .f32⟩
  | .hbm, ⟨87, _⟩ => ⟨S3x64x128, .f32⟩
  | .hbm, ⟨88, _⟩ => ⟨S8x64x2048, .bf16⟩
  | .hbm, ⟨89, _⟩ => ⟨S8x64x4x128, .f32⟩
  | .hbm, ⟨90, _⟩ => ⟨S8x64x4x128, .f32⟩
  | .hbm, ⟨91, _⟩ => ⟨S8x64x64, .f32⟩
  | .hbm, ⟨92, _⟩ => ⟨S8x64x512, .bf16⟩
  | .hbm, ⟨93, _⟩ => ⟨S8x64x512, .bf16⟩
  | .hbm, ⟨94, _⟩ => ⟨S8x1x512x256, .bf16⟩
  | .hbm, ⟨95, _⟩ => ⟨S8x64x256, .bf16⟩
  | .hbm, ⟨96, _⟩ => ⟨S8x64x8, .f32⟩
  | .local _ .vmem, ⟨0, _⟩ => ⟨S64x2048, .f32⟩
  | .local _ .vmem, ⟨1, _⟩ => ⟨S64x2048, .f32⟩
  | .local _ .vmem, ⟨2, _⟩ => ⟨S64x1024, .f32⟩
  | .local _ .vmem, ⟨3, _⟩ => ⟨S64x1024, .f32⟩
  | .local _ .vmem, ⟨4, _⟩ => ⟨S64x640, .f32⟩
  | .local _ .vmem, ⟨5, _⟩ => ⟨S64x640, .f32⟩
  | .local _ .vmem, ⟨6, _⟩ => ⟨S3x64x128, .f32⟩
  | .local _ .vmem, ⟨7, _⟩ => ⟨S3x64x128, .f32⟩
  | .local _ .vmem, ⟨8, _⟩ => ⟨S1x64x2048, .bf16⟩
  | .local _ .vmem, ⟨9, _⟩ => ⟨S1x64x2048, .bf16⟩
  | .local _ .vmem, ⟨10, _⟩ => ⟨S1x64x4x128, .f32⟩
  | .local _ .vmem, ⟨11, _⟩ => ⟨S1x64x4x128, .f32⟩
  | .local _ .vmem, ⟨12, _⟩ => ⟨S1x64x4x128, .f32⟩
  | .local _ .vmem, ⟨13, _⟩ => ⟨S1x64x4x128, .f32⟩
  | .local _ .vmem, ⟨14, _⟩ => ⟨S1x64x64, .f32⟩
  | .local _ .vmem, ⟨15, _⟩ => ⟨S1x64x64, .f32⟩
  | .local _ .vmem, ⟨16, _⟩ => ⟨S1x64x512, .bf16⟩
  | .local _ .vmem, ⟨17, _⟩ => ⟨S1x64x512, .bf16⟩
  | .local _ .vmem, ⟨18, _⟩ => ⟨S1x64x512, .bf16⟩
  | .local _ .vmem, ⟨19, _⟩ => ⟨S1x64x512, .bf16⟩
  | .local _ .vmem, ⟨20, _⟩ => ⟨S1x1x512x256, .bf16⟩
  | .local _ .vmem, ⟨21, _⟩ => ⟨S1x1x512x256, .bf16⟩
  | .local _ .vmem, ⟨22, _⟩ => ⟨S1x64x256, .bf16⟩
  | .local _ .vmem, ⟨23, _⟩ => ⟨S1x64x256, .bf16⟩
  | .local _ .vmem, ⟨24, _⟩ => ⟨S1x64x8, .f32⟩
  | .local _ .vmem, ⟨25, _⟩ => ⟨S1x64x8, .f32⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73_0 : Ref sig .tc := ⟨.hbm, 88, rfl⟩
abbrev main_v73_1 : Ref sig .tc := ⟨.hbm, 89, rfl⟩
abbrev main_v73_2 : Ref sig .tc := ⟨.hbm, 90, rfl⟩
abbrev main_v73_3 : Ref sig .tc := ⟨.hbm, 91, rfl⟩
abbrev main_v73_4 : Ref sig .tc := ⟨.hbm, 92, rfl⟩
abbrev main_v73_5 : Ref sig .tc := ⟨.hbm, 93, rfl⟩
abbrev main_v73_6 : Ref sig .tc := ⟨.hbm, 94, rfl⟩
abbrev main_v73_7 : Ref sig .tc := ⟨.hbm, 95, rfl⟩
abbrev main_v73_8 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c2_i32 : BitVec 32 := 2#32
  let c0_i32 : BitVec 32 := 0#32
  ![v2.toNat, c2_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S3x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepSRefIdeal.lean ====
abbrev S8704x3072 : Shape := ⟨2, ![8704, 3072]⟩
abbrev S8704x640 : Shape := ⟨2, ![8704, 640]⟩
abbrev S64 : Shape := ⟨1, ![64]⟩
abbrev S_ : Shape := ⟨0, ![]⟩
abbrev S512x512 : Shape := ⟨2, ![512, 512]⟩
abbrev S8x64x4x128 : Shape := ⟨4, ![8, 64, 4, 128]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S64x1x16 : Shape := ⟨3, ![64, 1, 16]⟩
abbrev S8x64x4x16 : Shape := ⟨4, ![8, 64, 4, 16]⟩
abbrev S8x64x4x96 : Shape := ⟨4, ![8, 64, 4, 96]⟩
abbrev S1x64x1x16 : Shape := ⟨4, ![1, 64, 1, 16]⟩
abbrev S512x64 : Shape := ⟨2, ![512, 64]⟩
abbrev S8x64x1x64 : Shape := ⟨4, ![8, 64, 1, 64]⟩
abbrev S8 : Shape := ⟨1, ![8]⟩
abbrev S1x8 : Shape := ⟨2, ![1, 8]⟩
abbrev S64x8 : Shape := ⟨2, ![64, 8]⟩
abbrev S64x1x8 : Shape := ⟨3, ![64, 1, 8]⟩
abbrev S8x64x1x8 : Shape := ⟨4, ![8, 64, 1, 8]⟩
abbrev S8x64x1x48 : Shape := ⟨4, ![8, 64, 1, 48]⟩
abbrev S1x64x1x8 : Shape := ⟨4, ![1, 64, 1, 8]⟩
abbrev S8x64x64 : Shape := ⟨3, ![8, 64, 64]⟩

abbrev nBuf : Space → Nat
  | .hbm => 85
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S8704x640, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S512x512, .f32⟩
  | .hbm, ⟨7, _⟩ => ⟨S8x64x4x128, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S64, .f32⟩
  | .hbm, ⟨17, _⟩ => ⟨S64x1, .f32⟩
  | .hbm, ⟨18, _⟩ => ⟨S1x16, .f32⟩
  | .hbm, ⟨19, _⟩ => ⟨S64x16, .f32⟩
  | .hbm, ⟨20, _⟩ => ⟨S64x16, .f32⟩
  | .hbm, ⟨21, _⟩ => ⟨S64x16, .f32⟩
  | .hbm, ⟨22, _⟩ => ⟨S64x16, .f32⟩
  | .hbm, ⟨23, _⟩ => ⟨S64x1x16, .f32⟩
  | .hbm, ⟨24, _⟩ => ⟨S64x16, .f32⟩
  | .hbm, ⟨25, _⟩ => ⟨S64x1x16, .f32⟩
  | .hbm, ⟨26, _⟩ => ⟨S8x64x4x16, .f32⟩
  | .hbm, ⟨27, _⟩ => ⟨S8x64x4x16, .f32⟩
  | .hbm, ⟨28, _⟩ => ⟨S8x64x4x96, .f32⟩
  | .hbm, ⟨29, _⟩ => ⟨S1x64x1x16, .f32⟩
  | .hbm, ⟨30, _⟩ => ⟨S8x64x4x16, .f32⟩
  | .hbm, ⟨31, _⟩ => ⟨S8x64x4x16, .f32⟩
  | .hbm, ⟨32, _⟩ => ⟨S1x64x1x16, .f32⟩
  | .hbm, ⟨33, _⟩ => ⟨S8x64x4x16, .f32⟩
  | .hbm, ⟨34, _⟩ => ⟨S8x64x4x16, .f32⟩
  | .hbm, ⟨35, _⟩ => ⟨S8x64x4x16, .f32⟩
  | .hbm, ⟨36, _⟩ => ⟨S1x64x1x16, .f32⟩
  | .hbm, ⟨37, _⟩ => ⟨S8x64x4x16, .f32⟩
  | .hbm, ⟨38, _⟩ => ⟨S8x64x4x16, .f32⟩
  | .hbm, ⟨39, _⟩ => ⟨S1x64x1x16, .f32⟩
  | .hbm, ⟨40, _⟩ => ⟨S8x64x4x16, .f32⟩
  | .hbm, ⟨41, _⟩ => ⟨S8x64x4x16, .f32⟩
  | .hbm, ⟨42, _⟩ => ⟨S8x64x4x16, .f32⟩
  | .hbm, ⟨43, _⟩ => ⟨S8x64x4x128, .f32⟩
  | .hbm, ⟨44, _⟩ => ⟨S512x512, .f32⟩
  | .hbm, ⟨45, _⟩ => ⟨S8x64x4x128, .f32⟩
  | .hbm, ⟨46, _⟩ => ⟨S512x64, .f32⟩
  | .hbm, ⟨47, _⟩ => ⟨S8x64x1x64, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S64, .f32⟩
  | .hbm, ⟨57, _⟩ => ⟨S64x1, .f32⟩
  | .hbm, ⟨58, _⟩ => ⟨S1x8, .f32⟩
  | .hbm, ⟨59, _⟩ => ⟨S64x8, .f32⟩
  | .hbm, ⟨60, _⟩ => ⟨S64x8, .f32⟩
  | .hbm, ⟨61, _⟩ => ⟨S64x8, .f32⟩
  | .hbm, ⟨62, _⟩ => ⟨S64x8, .f32⟩
  | .hbm, ⟨63, _⟩ => ⟨S64x1x8, .f32⟩
  | .hbm, ⟨64, _⟩ => ⟨S64x8, .f32⟩
  | .hbm, ⟨65, _⟩ => ⟨S64x1x8, .f32⟩
  | .hbm, ⟨66, _⟩ => ⟨S8x64x1x8, .f32⟩
  | .hbm, ⟨67, _⟩ => ⟨S8x64x1x8, .f32⟩
  | .hbm, ⟨68, _⟩ => ⟨S8x64x1x48, .f32⟩
  | .hbm, ⟨69, _⟩ => ⟨S1x64x1x8, .f32⟩
  | .hbm, ⟨70, _⟩ => ⟨S8x64x1x8, .f32⟩
  | .hbm, ⟨71, _⟩ => ⟨S8x64x1x8, .f32⟩
  | .hbm, ⟨72, _⟩ => ⟨S1x64x1x8, .f32⟩
  | .hbm, ⟨73, _⟩ => ⟨S8x64x1x8, .f32⟩
  | .hbm, ⟨74, _⟩ => ⟨S8x64x1x8, .f32⟩
  | .hbm, ⟨75, _⟩ => ⟨S8x64x1x8, .f32⟩
  | .hbm, ⟨76, _⟩ => ⟨S1x64x1x8, .f32⟩
  | .hbm, ⟨77, _⟩ => ⟨S8x64x1x8, .f32⟩
  | .hbm, ⟨78, _⟩ => ⟨S8x64x1x8, .f32⟩
  | .hbm, ⟨79, _⟩ => ⟨S1x64x1x8, .f32⟩
  | .hbm, ⟨80, _⟩ => ⟨S8x64x1x8, .f32⟩
  | .hbm, ⟨81, _⟩ => ⟨S8x64x1x8, .f32⟩
  | .hbm, ⟨82, _⟩ => ⟨S8x64x1x8, .f32⟩
  | .hbm, ⟨83, _⟩ => ⟨S8x64x1x64, .f32⟩
  | .hbm, ⟨84, _⟩ => ⟨S8x64x64, .f32⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩

abbrev nD : Nat := 1
abbrev τ : Topo := Topo.v7x

variable {F : FTy → Type} [FloatOps F]
-- ==== PrepP.lean ====
abbrev S8704x3072 : Shape := ⟨2, ![8704, 3072]⟩
abbrev S8704x640 : Shape := ⟨2, ![8704, 640]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S1x4096x1x128 : Shape := ⟨4, ![1, 4096, 1, 128]⟩
abbrev S1x4096x128 : Shape := ⟨3, ![1, 4096, 128]⟩
abbrev S3x4096x128 : Shape := ⟨3, ![3, 4096, 128]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S2x4096x2048 : Shape := ⟨3, ![2, 4096, 2048]⟩
abbrev S2x4096x4x128 : Shape := ⟨4, ![2, 4096, 4, 128]⟩
abbrev S2x4096x64 : Shape := ⟨3, ![2, 4096, 64]⟩
abbrev S2x4096x512 : Shape := ⟨3, ![2, 4096, 512]⟩
abbrev S2x16x2048x256 : Shape := ⟨4, ![2, 16, 2048, 256]⟩
abbrev S2x4096x256 : Shape := ⟨3, ![2, 4096, 256]⟩
abbrev S2x4096x8 : Shape := ⟨3, ![2, 4096, 8]⟩
abbrev S256x2048 : Shape := ⟨2, ![256, 2048]⟩
abbrev S256x1024 : Shape := ⟨2, ![256, 1024]⟩
abbrev S256x640 : Shape := ⟨2, ![256, 640]⟩
abbrev S3x256x128 : Shape := ⟨3, ![3, 256, 128]⟩
abbrev S1x256x2048 : Shape := ⟨3, ![1, 256, 2048]⟩
abbrev S1x256x4x128 : Shape := ⟨4, ![1, 256, 4, 128]⟩
abbrev S1x256x64 : Shape := ⟨3, ![1, 256, 64]⟩
abbrev S1x256x512 : Shape := ⟨3, ![1, 256, 512]⟩
abbrev S1x1x2048x256 : Shape := ⟨4, ![1, 1, 2048, 256]⟩
abbrev S1x256x256 : Shape := ⟨3, ![1, 256, 256]⟩
abbrev S1x256x8 : Shape := ⟨3, ![1, 256, 8]⟩
abbrev S256x128 : Shape := ⟨2, ![256, 128]⟩
abbrev S1x256x128 : Shape := ⟨3, ![1, 256, 128]⟩
abbrev S1x256x1x128 : Shape := ⟨4, ![1, 256, 1, 128]⟩
abbrev S256x512 : Shape := ⟨2, ![256, 512]⟩
abbrev S256x256 : Shape := ⟨2, ![256, 256]⟩
abbrev S1x1x256x256 : Shape := ⟨4, ![1, 1, 256, 256]⟩
abbrev S256x64 : Shape := ⟨2, ![256, 64]⟩
abbrev S256x8 : Shape := ⟨2, ![256, 8]⟩

abbrev nBuf : Space → Nat
  | .hbm => 97
  | .vmem => 28
  | .smem => 0
  | _ => 0

abbrev bufTy : (tb : Table) → Fin (tcTables nBuf tb) → BufTy
  | .hbm, ⟨0, _⟩ => ⟨S8704x3072, .f32⟩
  | .hbm, ⟨1, _⟩ => ⟨S8704x640, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S4096, .f32⟩
  | .hbm, ⟨15, _⟩ => ⟨S4096x1, .f32⟩
  | .hbm, ⟨16, _⟩ => ⟨S1x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x96, .f32⟩
  | .hbm, ⟨24, _⟩ => ⟨S4096x128, .f32⟩
  | .hbm, ⟨25, _⟩ => ⟨S4096x16, .f32⟩
  | .hbm, ⟨26, _⟩ => ⟨S_, .f32⟩
  | .hbm, ⟨27, _⟩ => ⟨S4096x112, .f32⟩
  | .hbm, ⟨28, _⟩ => ⟨S4096x128, .f32⟩
  | .hbm, ⟨29, _⟩ => ⟨S_, .f32⟩
  | .hbm, ⟨30, _⟩ => ⟨S4096x16, .f32⟩
  | .hbm, ⟨31, _⟩ => ⟨S_, .f32⟩
  | .hbm, ⟨32, _⟩ => ⟨S4096x96, .f32⟩
  | .hbm, ⟨33, _⟩ => ⟨S4096x128, .f32⟩
  | .hbm, ⟨34, _⟩ => ⟨S1x4096x1x128, .f32⟩
  | .hbm, ⟨35, _⟩ => ⟨S1x4096x1x128, .f32⟩
  | .hbm, ⟨36, _⟩ => ⟨S4096x128, .f32⟩
  | .hbm, ⟨37, _⟩ => ⟨S1x4096x1x128, .f32⟩
  | .hbm, ⟨38, _⟩ => ⟨S1x4096x1x128, .f32⟩
  | .hbm, ⟨39, _⟩ => ⟨S4096x128, .f32⟩
  | .hbm, ⟨40, _⟩ => ⟨S1x4096x1x128, .f32⟩
  | .hbm, ⟨41, _⟩ => ⟨S1x4096x1x128, .f32⟩
  | .hbm, ⟨42, _⟩ => ⟨S4096x128, .f32⟩
  | .hbm, ⟨43, _⟩ => ⟨S1x4096x128, .f32⟩
  | .hbm, ⟨44, _⟩ => ⟨S1x4096x128, .f32⟩
  | .hbm, ⟨45, _⟩ => ⟨S1x4096x128, .f32⟩
  | .hbm, ⟨46, _⟩ => ⟨S3x4096x128, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S4096, .f32⟩
  | .hbm, ⟨56, _⟩ => ⟨S4096x1, .f32⟩
  | .hbm, ⟨57, _⟩ => ⟨S1x8, .f32⟩
  | .hbm, ⟨58, _⟩ => ⟨S4096x8, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S_, .f32⟩
  | .hbm, ⟨64, _⟩ => ⟨S4096x48, .f32⟩
  | .hbm, ⟨65, _⟩ => ⟨S4096x64, .f32⟩
  | .hbm, ⟨66, _⟩ => ⟨S4096x8, .f32⟩
  | .hbm, ⟨67, _⟩ => ⟨S_, .f32⟩
  | .hbm, ⟨68, _⟩ => ⟨S4096x56, .f32⟩
  | .hbm, ⟨69, _⟩ => ⟨S4096x64, .f32⟩
  | .hbm, ⟨70, _⟩ => ⟨S_, .f32⟩
  | .hbm, ⟨71, _⟩ => ⟨S4096x8, .f32⟩
  | .hbm, ⟨72, _⟩ => ⟨S_, .f32⟩
  | .hbm, ⟨73, _⟩ => ⟨S4096x48, .f32⟩
  | .hbm, ⟨74, _⟩ => ⟨S4096x64, .f32⟩
  | .hbm, ⟨75, _⟩ => ⟨S1x4096x1x64, .f32⟩
  | .hbm, ⟨76, _⟩ => ⟨S1x4096x2x64, .f32⟩
  | .hbm, ⟨77, _⟩ => ⟨S4096x128, .f32⟩
  | .hbm, ⟨78, _⟩ => ⟨S1x4096x1x64, .f32⟩
  | .hbm, ⟨79, _⟩ => ⟨S1x4096x2x64, .f32⟩
  | .hbm, ⟨80, _⟩ => ⟨S4096x128, .f32⟩
  | .hbm, ⟨81, _⟩ => ⟨S1x4096x1x64, .f32⟩
  | .hbm, ⟨82, _⟩ => ⟨S1x4096x2x64, .f32⟩
  | .hbm, ⟨83, _⟩ => ⟨S4096x128, .f32⟩
  | .hbm, ⟨84, _⟩ => ⟨S1x4096x128, .f32⟩
  | .hbm, ⟨85, _⟩ => ⟨S1x4096x128, .f32⟩
  | .hbm, ⟨86, _⟩ => ⟨S1x4096x128, .f32⟩
  | .hbm, ⟨87, _⟩ => ⟨S3x4096x128, .f32⟩
  | .hbm, ⟨88, _⟩ => ⟨S2x4096x2048, .bf16⟩
  | .hbm, ⟨89, _⟩ => ⟨S2x4096x4x128, .f32⟩
  | .hbm, ⟨90, _⟩ => ⟨S2x4096x4x128, .f32⟩
  | .hbm, ⟨91, _⟩ => ⟨S2x4096x64, .f32⟩
  | .hbm, ⟨92, _⟩ => ⟨S2x4096x512, .bf16⟩
  | .hbm, ⟨93, _⟩ => ⟨S2x4096x512, .bf16⟩
  | .hbm, ⟨94, _⟩ => ⟨S2x16x2048x256, .bf16⟩
  | .hbm, ⟨95, _⟩ => ⟨S2x4096x256, .bf16⟩
  | .hbm, ⟨96, _⟩ => ⟨S2x4096x8, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x640, .f32⟩
  | .local _ .vmem, ⟨5, _⟩ => ⟨S256x640, .f32⟩
  | .local _ .vmem, ⟨6, _⟩ => ⟨S3x256x128, .f32⟩
  | .local _ .vmem, ⟨7, _⟩ => ⟨S3x256x128, .f32⟩
  | .local _ .vmem, ⟨8, _⟩ => ⟨S3x256x128, .f32⟩
  | .local _ .vmem, ⟨9, _⟩ => ⟨S3x256x128, .f32⟩
  | .local _ .vmem, ⟨10, _⟩ => ⟨S1x256x2048, .bf16⟩
  | .local _ .vmem, ⟨11, _⟩ => ⟨S1x256x2048, .bf16⟩
  | .local _ .vmem, ⟨12, _⟩ => ⟨S1x256x4x128, .f32⟩
  | .local _ .vmem, ⟨13, _⟩ => ⟨S1x256x4x128, .f32⟩
  | .local _ .vmem, ⟨14, _⟩ => ⟨S1x256x4x128, .f32⟩
  | .local _ .vmem, ⟨15, _⟩ => ⟨S1x256x4x128, .f32⟩
  | .local _ .vmem, ⟨16, _⟩ => ⟨S1x256x64, .f32⟩
  | .local _ .vmem, ⟨17, _⟩ => ⟨S1x256x64, .f32⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x1x2048x256, .bf16⟩
  | .local _ .vmem, ⟨23, _⟩ => ⟨S1x1x2048x256, .bf16⟩
  | .local _ .vmem, ⟨24, _⟩ => ⟨S1x256x256, .bf16⟩
  | .local _ .vmem, ⟨25, _⟩ => ⟨S1x256x256, .bf16⟩
  | .local _ .vmem, ⟨26, _⟩ => ⟨S1x256x8, .f32⟩
  | .local _ .vmem, ⟨27, _⟩ => ⟨S1x256x8, .f32⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73_0 : Ref sig .tc := ⟨.hbm, 88, rfl⟩
abbrev main_v73_1 : Ref sig .tc := ⟨.hbm, 89, rfl⟩
abbrev main_v73_2 : Ref sig .tc := ⟨.hbm, 90, rfl⟩
abbrev main_v73_3 : Ref sig .tc := ⟨.hbm, 91, rfl⟩
abbrev main_v73_4 : Ref sig .tc := ⟨.hbm, 92, rfl⟩
abbrev main_v73_5 : Ref sig .tc := ⟨.hbm, 93, rfl⟩
abbrev main_v73_6 : Ref sig .tc := ⟨.hbm, 94, rfl⟩
abbrev main_v73_7 : Ref sig .tc := ⟨.hbm, 95, rfl⟩
abbrev main_v73_8 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepPRefIdeal.lean ====
abbrev S8704x3072 : Shape := ⟨2, ![8704, 3072]⟩
abbrev S8704x640 : Shape := ⟨2, ![8704, 640]⟩
abbrev S4096 : Shape := ⟨1, ![4096]⟩
abbrev S_ : Shape := ⟨0, ![]⟩
abbrev S8192x512 : Shape := ⟨2, ![8192, 512]⟩
abbrev S2x4096x4x128 : Shape := ⟨4, ![2, 4096, 4, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S2x4096x4x16 : Shape := ⟨4, ![2, 4096, 4, 16]⟩
abbrev S2x4096x4x96 : Shape := ⟨4, ![2, 4096, 4, 96]⟩
abbrev S1x4096x1x16 : Shape := ⟨4, ![1, 4096, 1, 16]⟩
abbrev S8192x64 : Shape := ⟨2, ![8192, 64]⟩
abbrev S2x4096x1x64 : Shape := ⟨4, ![2, 4096, 1, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S2x4096x1x8 : Shape := ⟨4, ![2, 4096, 1, 8]⟩
abbrev S2x4096x1x48 : Shape := ⟨4, ![2, 4096, 1, 48]⟩
abbrev S1x4096x1x8 : Shape := ⟨4, ![1, 4096, 1, 8]⟩
abbrev S2x4096x64 : Shape := ⟨3, ![2, 4096, 64]⟩

abbrev nBuf : Space → Nat
  | .hbm => 85
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S8704x640, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S8192x512, .f32⟩
  | .hbm, ⟨7, _⟩ => ⟨S2x4096x4x128, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S4096, .f32⟩
  | .hbm, ⟨17, _⟩ => ⟨S4096x1, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x1x16, .f32⟩
  | .hbm, ⟨24, _⟩ => ⟨S4096x16, .f32⟩
  | .hbm, ⟨25, _⟩ => ⟨S4096x1x16, .f32⟩
  | .hbm, ⟨26, _⟩ => ⟨S2x4096x4x16, .f32⟩
  | .hbm, ⟨27, _⟩ => ⟨S2x4096x4x16, .f32⟩
  | .hbm, ⟨28, _⟩ => ⟨S2x4096x4x96, .f32⟩
  | .hbm, ⟨29, _⟩ => ⟨S1x4096x1x16, .f32⟩
  | .hbm, ⟨30, _⟩ => ⟨S2x4096x4x16, .f32⟩
  | .hbm, ⟨31, _⟩ => ⟨S2x4096x4x16, .f32⟩
  | .hbm, ⟨32, _⟩ => ⟨S1x4096x1x16, .f32⟩
  | .hbm, ⟨33, _⟩ => ⟨S2x4096x4x16, .f32⟩
  | .hbm, ⟨34, _⟩ => ⟨S2x4096x4x16, .f32⟩
  | .hbm, ⟨35, _⟩ => ⟨S2x4096x4x16, .f32⟩
  | .hbm, ⟨36, _⟩ => ⟨S1x4096x1x16, .f32⟩
  | .hbm, ⟨37, _⟩ => ⟨S2x4096x4x16, .f32⟩
  | .hbm, ⟨38, _⟩ => ⟨S2x4096x4x16, .f32⟩
  | .hbm, ⟨39, _⟩ => ⟨S1x4096x1x16, .f32⟩
  | .hbm, ⟨40, _⟩ => ⟨S2x4096x4x16, .f32⟩
  | .hbm, ⟨41, _⟩ => ⟨S2x4096x4x16, .f32⟩
  | .hbm, ⟨42, _⟩ => ⟨S2x4096x4x16, .f32⟩
  | .hbm, ⟨43, _⟩ => ⟨S2x4096x4x128, .f32⟩
  | .hbm, ⟨44, _⟩ => ⟨S8192x512, .f32⟩
  | .hbm, ⟨45, _⟩ => ⟨S2x4096x4x128, .f32⟩
  | .hbm, ⟨46, _⟩ => ⟨S8192x64, .f32⟩
  | .hbm, ⟨47, _⟩ => ⟨S2x4096x1x64, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S4096, .f32⟩
  | .hbm, ⟨57, _⟩ => ⟨S4096x1, .f32⟩
  | .hbm, ⟨58, _⟩ => ⟨S1x8, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S4096x1x8, .f32⟩
  | .hbm, ⟨64, _⟩ => ⟨S4096x8, .f32⟩
  | .hbm, ⟨65, _⟩ => ⟨S4096x1x8, .f32⟩
  | .hbm, ⟨66, _⟩ => ⟨S2x4096x1x8, .f32⟩
  | .hbm, ⟨67, _⟩ => ⟨S2x4096x1x8, .f32⟩
  | .hbm, ⟨68, _⟩ => ⟨S2x4096x1x48, .f32⟩
  | .hbm, ⟨69, _⟩ => ⟨S1x4096x1x8, .f32⟩
  | .hbm, ⟨70, _⟩ => ⟨S2x4096x1x8, .f32⟩
  | .hbm, ⟨71, _⟩ => ⟨S2x4096x1x8, .f32⟩
  | .hbm, ⟨72, _⟩ => ⟨S1x4096x1x8, .f32⟩
  | .hbm, ⟨73, _⟩ => ⟨S2x4096x1x8, .f32⟩
  | .hbm, ⟨74, _⟩ => ⟨S2x4096x1x8, .f32⟩
  | .hbm, ⟨75, _⟩ => ⟨S2x4096x1x8, .f32⟩
  | .hbm, ⟨76, _⟩ => ⟨S1x4096x1x8, .f32⟩
  | .hbm, ⟨77, _⟩ => ⟨S2x4096x1x8, .f32⟩
  | .hbm, ⟨78, _⟩ => ⟨S2x4096x1x8, .f32⟩
  | .hbm, ⟨79, _⟩ => ⟨S1x4096x1x8, .f32⟩
  | .hbm, ⟨80, _⟩ => ⟨S2x4096x1x8, .f32⟩
  | .hbm, ⟨81, _⟩ => ⟨S2x4096x1x8, .f32⟩
  | .hbm, ⟨82, _⟩ => ⟨S2x4096x1x8, .f32⟩
  | .hbm, ⟨83, _⟩ => ⟨S2x4096x1x64, .f32⟩
  | .hbm, ⟨84, _⟩ => ⟨S2x4096x64, .f32⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩

abbrev nD : Nat := 1
abbrev τ : Topo := Topo.v7x

variable {F : FTy → Type} [FloatOps F]
-- ==== Proof.Head.lean ====
/- What the kernel's body computes for one value head, as functions over whole vectors: the 32 heads of the body are
   these functions at 32 places. Heads 2i and 2i+1 share the query and key head i, and their triangular systems are
   solved side by side in one 64 × 128 matrix. -/
module

public import proofs.«01_k».proof.Proof.Gen.KernelIdeal

@[expose] public section

noncomputable section

namespace Cert.KernelIdeal.Head

open Idealize.ShloMosaic Cert.KernelIdeal Cert.KernelIdeal.Gen

variable {F : FTy → Type} [FloatOps F]

theorem slicesQk (i : Fin 16) : S64x2048.Slices ![0, 128 * i.val] S64x128 := by
  refine ⟨rfl, fun a => ?_⟩; match a with
  | ⟨0, _⟩ => show 0 + 64 ≤ 64; omega
  | ⟨1, _⟩ => show 128 * i.val + 128 ≤ 2048; omega
theorem slicesV (i : Fin 16) (e : Fin 2) : S64x4096.Slices ![0, 128 * (2 * i.val + e.val)] S64x128 := by
  refine ⟨rfl, fun a => ?_⟩; match a with
  | ⟨0, _⟩ => show 0 + 64 ≤ 64; omega
  | ⟨1, _⟩ => show 128 * (2 * i.val + e.val) + 128 ≤ 4096; omega
theorem slicesCol (i : Fin 16) (e : Fin 2) : S64x32.Slices ![0, 2 * i.val + e.val] S64x1 := by
  refine ⟨rfl, fun a => ?_⟩; match a with
  | ⟨0, _⟩ => show 0 + 64 ≤ 64; omega
  | ⟨1, _⟩ => show 2 * i.val + e.val + 1 ≤ 32; omega
theorem slicesRow (i : Fin 16) (e : Fin 2) : S32x64.Slices ![2 * i.val + e.val, 0] S1x64 := by
  refine ⟨rfl, fun a => ?_⟩; match a with
  | ⟨0, _⟩ => show 2 * i.val + e.val + 1 ≤ 32; omega
  | ⟨1, _⟩ => show 0 + 64 ≤ 64; omega
theorem slicesHalf (e : Fin 2) : S64x128.Slices ![0, 64 * e.val] S64x64 := by
  refine ⟨rfl, fun a => ?_⟩; match a with
  | ⟨0, _⟩ => show 0 + 64 ≤ 64; omega
  | ⟨1, _⟩ => show 64 * e.val + 64 ≤ 128; omega

/-- The bf16 part of a vector, and what it leaves. -/
def hi {s : Shape} (x : FVec F s .f32) : FVec F s .bf16 := truncf .bf16 x bitsLt_bf16_f32
def lo {s : Shape} (x : FVec F s .f32) : FVec F s .bf16 := truncf .bf16 (subf x (extf .f32 (hi x) bitsLt_bf16_f32)) bitsLt_bf16_f32

/-- A convolution over four rows with SiLU, of the four shifted inputs and the four taps. -/
def conv2048 (x0 : Vec F S64x2048 .f32) (w0 : Vec F S1x2048 .f32) (x1 : Vec F S64x2048 .f32) (w1 : Vec F S1x2048 .f32)
    (x2 : Vec F S64x2048 .f32) (w2 : Vec F S1x2048 .f32) (x3 : Vec F S64x2048 .f32) (w3 : Vec F S1x2048 .f32) : FVec F S64x2048 .f32 :=
  let a := addf (addf (addf (mulf x0 (broadcastTo S64x2048 w0 broadcasts_S1x2048_S64x2048)) (mulf x1 (broadcastTo S64x2048 w1 broadcasts_S1x2048_S64x2048)))
    (mulf x2 (broadcastTo S64x2048 w2 broadcasts_S1x2048_S64x2048))) (mulf x3 (broadcastTo S64x2048 w3 broadcasts_S1x2048_S64x2048))
  mulf a (logistic a)
def conv4096 (x0 : Vec F S64x4096 .f32) (w0 : Vec F S1x4096 .f32) (x1 : Vec F S64x4096 .f32) (w1 : Vec F S1x4096 .f32)
    (x2 : Vec F S64x4096 .f32) (w2 : Vec F S1x4096 .f32) (x3 : Vec F S64x4096 .f32) (w3 : Vec F S1x4096 .f32) : FVec F S64x4096 .f32 :=
  let a := addf (addf (addf (mulf x0 (broadcastTo S64x4096 w0 broadcasts_S1x4096_S64x4096)) (mulf x1 (broadcastTo S64x4096 w1 broadcasts_S1x4096_S64x4096)))
    (mulf x2 (broadcastTo S64x4096 w2 broadcasts_S1x4096_S64x4096))) (mulf x3 (broadcastTo S64x4096 w3 broadcasts_S1x4096_S64x4096))
  mulf a (logistic a)

/-- The reciprocal length of each row. -/
def rlen (x : FVec F S64x128 .f32) : FVec F S64x1 .f32 :=
  rsqrt (addf (shapeCast S64x1 (multiReduction .add [1] S64 (mulf x x) 0x00000000#32 reduces_S64x128_S64 (.inl rfl) rfl) shapeCasts_S64_S64x1)
    (broadcast S64x1 (Scalar.ofBits .f32 0x358637BD#32)))
/-- A head's keys, and its queries. -/
def keys (c : FVec F S64x2048 .f32) (i : Fin 16) : FVec F S64x128 .f32 :=
  let x := extractStridedSlice S64x128 ![0, 128 * i.val] c (slicesQk i)
  mulf x (broadcastTo S64x128 (rlen x) broadcasts_S64x1_S64x128)
def queries (c : FVec F S64x2048 .f32) (i : Fin 16) : FVec F S64x128 .f32 :=
  let x := extractStridedSlice S64x128 ![0, 128 * i.val] c (slicesQk i)
  mulf x (broadcastTo S64x128 (mulf (rlen x) (broadcast S64x1 (Scalar.ofBits .f32 0x3DB504F3#32))) broadcasts_S64x1_S64x128)

def rowNo : IVec S64x64 32 := iota .tc S64x64 32 [0] iota_S64x64_d0_w32
def colNo : IVec S64x64 32 := iota .tc S64x64 32 [1] iota_S64x64_d1_w32
def causal : IVec S64x64 1 := cmpi .sge rowNo colNo
def strict : IVec S64x64 1 := cmpi .sgt rowNo colNo
def mask (b : IVec S64x64 1) : FVec F S64x64 .f32 :=
  select b (broadcast S64x64 (Scalar.ofBits .f32 0x3F800000#32)) (broadcast S64x64 (Scalar.ofBits .f32 0x00000000#32))

/-- The running sums of the log decays, down the columns and along the rows of the transpose. -/
def sumDown (g : FVec F S64x32 .f32) : FVec F S64x32 .f32 :=
  addf (addf (matmul dot_S64x64_S64x32_S64x32_1_0_0_1_n_n none (hi (mask causal)) (hi g) (constant S64x32 .f32 0x00000000#32))
    (matmul dot_S64x64_S64x32_S64x32_1_0_0_1_n_n none (hi (mask causal)) (lo g) (constant S64x32 .f32 0x00000000#32)))
    (matmul dot_S64x64_S64x32_S64x32_1_0_0_1_n_n none (lo (mask causal)) (hi g) (constant S64x32 .f32 0x00000000#32))
def sumAlong (g : FVec F S32x64 .f32) : FVec F S32x64 .f32 :=
  addf (addf (matmul dot_S32x64_S64x64_S32x64_1_0_0_1_n_n none (hi g) (hi (mask (cmpi .sle rowNo colNo))) (constant S32x64 .f32 0x00000000#32))
    (matmul dot_S32x64_S64x64_S32x64_1_0_0_1_n_n none (hi g) (lo (mask (cmpi .sle rowNo colNo))) (constant S32x64 .f32 0x00000000#32)))
    (matmul dot_S32x64_S64x64_S32x64_1_0_0_1_n_n none (lo g) (hi (mask (cmpi .sle rowNo colNo))) (constant S32x64 .f32 0x00000000#32))

def col (x : FVec F S64x32 .f32) (i : Fin 16) (e : Fin 2) : FVec F S64x1 .f32 :=
  extractStridedSlice S64x1 ![0, 2 * i.val + e.val] x (slicesCol i e)
def row (x : FVec F S32x64 .f32) (i : Fin 16) (e : Fin 2) : FVec F S1x64 .f32 :=
  extractStridedSlice S1x64 ![2 * i.val + e.val, 0] x (slicesRow i e)

/-- The decay from one row to a later one. -/
def decay (gc : FVec F S64x1 .f32) (gr : FVec F S1x64 .f32) : FVec F S64x64 .f32 :=
  select causal (exp (select causal (subf (broadcastTo S64x64 gc broadcasts_S64x1_S64x64) (broadcastTo S64x64 gr broadcasts_S1x64_S64x64))
    (broadcast S64x64 (Scalar.ofBits .f32 0x00000000#32)))) (broadcast S64x64 (Scalar.ofBits .f32 0x00000000#32))

def wide (x : FVec F S64x1 .f32) : FVec F S64x128 .f32 := broadcastTo S64x128 x broadcasts_S64x1_S64x128

/-- A product of two matrices by rows, rounded to bf16. -/
def rowsDot (a b : FVec F S64x128 .f32) : FVec F S64x64 .f32 :=
  matmul dot_S64x128_S64x128_S64x64_1_1_0_0_n_n none (hi a) (hi b) (constant S64x64 .f32 0x00000000#32)

/-- Minus the strictly lower part of the head's system. -/
def bmat (k : FVec F S64x128 .f32) (beta : FVec F S64x1 .f32) (d : FVec F S64x64 .f32) : FVec F S64x64 .f32 :=
  select strict (subf (broadcast S64x64 (Scalar.ofBits .f32 0x00000000#32)) (mulf (rowsDot (mulf k (wide beta)) k) d))
    (broadcast S64x64 (Scalar.ofBits .f32 0x00000000#32))

/-- The head's right-hand sides. -/
def rhs (k v : FVec F S64x128 .f32) (beta gc : FVec F S64x1 .f32) : FVec F S64x256 .f32 :=
  concatenate S64x256 1 [⟨S64x128, mulf v (wide beta)⟩, ⟨S64x128, mulf (mulf k (wide beta)) (wide (exp gc))⟩] concatenates_S64x128_S64x128_S64x256_d1

def left : IVec S64x128 1 := cmpi .slt (iota .tc S64x128 32 [1] iota_S64x128_d1_w32) (broadcast S64x128 64#32)
def zero16 : FVec F S64x128 .bf16 := broadcast S64x128 (Scalar.ofBits .bf16 0x0000#16)
def blockdiag (x : FVec F S64x128 .bf16) : FVec F S128x128 .bf16 :=
  concatenate S128x128 0 [⟨S64x128, select left x zero16⟩, ⟨S64x128, select left zero16 x⟩] concatenates_S64x128_S64x128_S128x128_d0

/-- Two products of 64 × 64 matrices side by side. -/
def pairDot (x y : FVec F S64x128 .f32) : FVec F S64x128 .f32 :=
  addf (addf (matmul dot_S64x128_S128x128_S64x128_1_0_0_1_n_n none (hi x) (blockdiag (hi y)) (constant S64x128 .f32 0x00000000#32))
    (matmul dot_S64x128_S128x128_S64x128_1_0_0_1_n_n none (hi x) (blockdiag (lo y)) (constant S64x128 .f32 0x00000000#32)))
    (matmul dot_S64x128_S128x128_S64x128_1_0_0_1_n_n none (lo x) (blockdiag (hi y)) (constant S64x128 .f32 0x00000000#32))

def sideBySide (a b : FVec F S64x64 .f32) : FVec F S64x128 .f32 :=
  concatenate S64x128 1 [⟨S64x64, a⟩, ⟨S64x64, b⟩] concatenates_S64x64_S64x64_S64x128_d1

/-- The powers of the pair's matrices, and the products that invert the two systems. -/
def power : ℕ → FVec F S64x128 .f32 → FVec F S64x128 .f32
  | 0, b => b
  | k + 1, b => pairDot (power k b) (power k b)
def inverse : ℕ → FVec F S64x128 .f32 → FVec F S64x128 .f32
  | 0, b => addf (sideBySide (mask (cmpi .eq rowNo colNo)) (mask (cmpi .eq rowNo colNo))) b
  | k + 1, b => addf (inverse k b) (pairDot (inverse k b) (power (k + 1) b))

/-- The head's solution. -/
def solved (p : FVec F S64x128 .f32) (e : Fin 2) (r : FVec F S64x256 .f32) : FVec F S64x256 .f32 :=
  let a := extractStridedSlice S64x64 ![0, 64 * e.val] p (slicesHalf e)
  addf (addf (matmul dot_S64x64_S64x256_S64x256_1_0_0_1_n_n none (hi a) (hi r) (constant S64x256 .f32 0x00000000#32))
    (matmul dot_S64x64_S64x256_S64x256_1_0_0_1_n_n none (hi a) (lo r) (constant S64x256 .f32 0x00000000#32)))
    (matmul dot_S64x64_S64x256_S64x256_1_0_0_1_n_n none (lo a) (hi r) (constant S64x256 .f32 0x00000000#32))

def byState (a : FVec F S64x128 .f32) (s : FVec F S128x128 .f32) : FVec F S64x128 .f32 :=
  matmul dot_S64x128_S128x128_S64x128_1_0_0_1_n_n none (hi a) (hi s) (constant S64x128 .f32 0x00000000#32)

/-- The head's corrected values. -/
def upd (w : FVec F S64x256 .f32) (s : FVec F S128x128 .f32) : FVec F S64x128 .f32 :=
  subf (extractStridedSlice S64x128 ![0, 0] w slices_S64x256_o0_0_S64x128)
    (byState (extractStridedSlice S64x128 ![0, 128] w slices_S64x256_o0_128_S64x128) s)

/-- The head's output before its norm. -/
def out (q k : FVec F S64x128 .f32) (gc : FVec F S64x1 .f32) (d : FVec F S64x64 .f32) (s : FVec F S128x128 .f32) (u : FVec F S64x128 .f32) :
    FVec F S64x128 .f32 :=
  addf (byState (mulf q (wide (exp gc))) s)
    (matmul dot_S64x64_S64x128_S64x128_1_0_0_1_n_n none (hi (mulf (rowsDot q k) d)) (hi u) (constant S64x128 .f32 0x00000000#32))

/-- The head's next state. -/
def next (k : FVec F S64x128 .f32) (gc : FVec F S64x1 .f32) (s : FVec F S128x128 .f32) (u : FVec F S64x128 .f32) : FVec F S128x128 .f32 :=
  let gl := extractStridedSlice S1x1 ![63, 0] gc slices_S64x1_o63_0_S1x1
  addf (mulf s (broadcastTo S128x128 (exp gl) broadcasts_S1x1_S128x128))
    (matmul dot_S128x64_S64x128_S128x128_1_0_0_1_n_n none
      (hi (transpose S128x64 [1, 0] (mulf k (wide (exp (subf (broadcastTo S64x1 gl broadcasts_S1x1_S64x1) gc)))) transposes_S64x128_p1_0_S128x64))
      (hi u) (constant S128x128 .f32 0x00000000#32))

/-- The head's output: its norm, its gain and its gate. -/
def gated (o : FVec F S64x128 .f32) (nw : FVec F S1x128 .f32) (z : FVec F S64x128 .f32) : FVec F S64x128 .bf16 :=
  hi (mulf (mulf (mulf o (wide (rsqrt (addf (divf (shapeCast S64x1 (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32))))))
    (broadcastTo S64x128 nw broadcasts_S1x128_S64x128)) (mulf z (logistic z)))

/-- The pair's matrices, from the keys' convolution and the gates. -/
def pairB (kc : FVec F S64x2048 .f32) (gd : FVec F S64x32 .f32) (ga : FVec F S32x64 .f32) (beta : FVec F S64x32 .f32) (i : Fin 16) (e : Fin 2) :
    FVec F S64x64 .f32 :=
  bmat (keys kc i) (col beta i e) (decay (col gd i e) (row ga i e))
def pairP (kc : FVec F S64x2048 .f32) (gd : FVec F S64x32 .f32) (ga : FVec F S32x64 .f32) (beta : FVec F S64x32 .f32) (i : Fin 16) : FVec F S64x128 .f32 :=
  inverse 5 (sideBySide (pairB kc gd ga beta i 0) (pairB kc gd ga beta i 1))

/-- Head 2i + e's corrected values, output and next state. -/
def headU (kc : FVec F S64x2048 .f32) (vc : FVec F S64x4096 .f32) (gd : FVec F S64x32 .f32) (ga : FVec F S32x64 .f32) (beta : FVec F S64x32 .f32)
    (i : Fin 16) (e : Fin 2) (s : FVec F S128x128 .f32) : FVec F S64x128 .f32 :=
  upd (solved (pairP kc gd ga beta i) e
    (rhs (keys kc i) (extractStridedSlice S64x128 ![0, 128 * (2 * i.val + e.val)] vc (slicesV i e)) (col beta i e) (col gd i e))) s
def headO (qc kc : FVec F S64x2048 .f32) (vc : FVec F S64x4096 .f32) (gd : FVec F S64x32 .f32) (ga : FVec F S32x64 .f32) (beta : FVec F S64x32 .f32)
    (i : Fin 16) (e : Fin 2) (s : FVec F S128x128 .f32) : FVec F S64x128 .f32 :=
  out (queries qc i) (keys kc i) (col gd i e) (decay (col gd i e) (row ga i e)) s (headU kc vc gd ga beta i e s)
def headS (kc : FVec F S64x2048 .f32) (vc : FVec F S64x4096 .f32) (gd : FVec F S64x32 .f32) (ga : FVec F S32x64 .f32) (beta : FVec F S64x32 .f32)
    (i : Fin 16) (e : Fin 2) (s : FVec F S128x128 .f32) : FVec F S128x128 .f32 :=
  next (keys kc i) (col gd i e) s (headU kc vc gd ga beta i e s)

end Cert.KernelIdeal.Head

end
-- ==== Proof.Pieces.lean ====
/- What the kernel's body leaves in its two results at one step of the grid, as lists of stored pieces: 32 pieces of the
   state, one a head, and 32 pieces of the output, each the head's function of the same few values. -/
module

public import proofs.«01_k».proof.Proof.Gen.KernelIdeal.Frame
public import proofs.«01_k».proof.Proof.Head

@[expose] public section

set_option maxRecDepth 16384

noncomputable section

namespace Cert.KernelIdeal.Pieces

open Idealize.ShloMosaic Idealize.ShloMosaic.TcCoe
open Cert.KernelIdeal Cert.KernelIdeal.Gen

variable {F : FTy → Type} [FloatOps F]

theorem inState (h : Fin 32) : ∀ a, (![h.val, 0, 0] : Fin 3 → ℕ) a + S1x128x128.size a ≤ S32x128x128.size a := by
  intro a; match a with
  | ⟨0, _⟩ => show h.val + 1 ≤ 32; omega
  | ⟨1, _⟩ => show 0 + 128 ≤ 128; omega
  | ⟨2, _⟩ => show 0 + 128 ≤ 128; omega
theorem inOut (h : Fin 32) : ∀ a, (![0, 128 * h.val] : Fin 2 → ℕ) a + S64x128.size a ≤ S64x4096.size a := by
  intro a; match a with
  | ⟨0, _⟩ => show 0 + 64 ≤ 64; omega
  | ⟨1, _⟩ => show 128 * h.val + 128 ≤ 4096; omega

/-- A head's place in the state, and its columns of the output. -/
abbrev stateRect (h : Fin 32) : Rect S32x128x128 := Rect.unit ![h.val, 0, 0] S1x128x128.size (inState h)
abbrev outRect (h : Fin 32) : Rect S64x4096 := Rect.unit ![0, 128 * h.val] S64x128.size (inOut h)

/-- The query head of a value head, and which of its two value heads it is. -/
abbrev pair (h : Fin 32) : Fin 16 := ⟨h.val / 2, by omega⟩
abbrev side (h : Fin 32) : Fin 2 := ⟨h.val % 2, by omega⟩

section lists
variable (qc kc : FVec F S64x2048 .f32) (vc : FVec F S64x4096 .f32) (gd : FVec F S64x32 .f32) (ga : FVec F S32x64 .f32)
  (beta : FVec F S64x32 .f32) (st : Fin 32 → FVec F S128x128 .f32)

/-- The stores of the first n heads' states over the pieces already there, last first. -/
def stateParts (L : List (View.Piece (Elt F) S32x128x128 .f32)) : (n : ℕ) → n ≤ 32 → List (View.Piece (Elt F) S32x128x128 .f32)
  | 0, _ => L
  | n + 1, hn => ⟨stateRect ⟨n, hn⟩, shapeCast S1x128x128 (Head.headS kc vc gd ga beta (pair ⟨n, hn⟩) (side ⟨n, hn⟩) (st ⟨n, hn⟩))
      shapeCasts_S128x128_S1x128x128⟩ :: stateParts L n (by omega)

/-- The stores of the first n heads' outputs, last first. -/
def outParts (nw : FVec F S1x128 .f32) (z : Fin 32 → FVec F S64x128 .f32) : (n : ℕ) → n ≤ 32 → List (View.Piece (Elt F) S64x4096 .bf16)
  | 0, _ => []
  | n + 1, hn => ⟨outRect ⟨n, hn⟩, Head.gated (Head.headO qc kc vc gd ga beta (pair ⟨n, hn⟩) (side ⟨n, hn⟩) (st ⟨n, hn⟩)) nw (z ⟨n, hn⟩)⟩ ::
      outParts nw z n (by omega)
end lists

variable (c : Dev nD) (i : grid0.Coords) (arg3 : Memref sig .tc .vmem S64x2048 .f32) (harg3 : arg3.IsWhole) (arg4 : Memref sig .tc .vmem S64x2048 .f32) (harg4 : arg4.IsWhole) (arg5 : Memref sig .tc .vmem S64x4096 .f32) (harg5 : arg5.IsWhole) (arg6 : Memref sig .tc .vmem S4x2048 .f32) (harg6 : arg6.IsWhole) (arg7 : Memref sig .tc .vmem S4x2048 .f32) (harg7 : arg7.IsWhole) (arg8 : Memref sig .tc .vmem S4x4096 .f32) (harg8 : arg8.IsWhole) (arg9 : Memref sig .tc .vmem S1x3x2048 .f32) (harg9 : arg9.IsWhole) (arg10 : Memref sig .tc .vmem S1x3x2048 .f32) (harg10 : arg10.IsWhole) (arg11 : Memref sig .tc .vmem S1x3x4096 .f32) (harg11 : arg11.IsWhole) (arg12 : Memref sig .tc .vmem S64x4096 .f32) (harg12 : arg12.IsWhole) (arg13 : Memref sig .tc .vmem S1x1x64x32 .f32) (harg13 : arg13.IsWhole) (arg14 : Memref sig .tc .vmem S1x1x1x32x64 .f32) (harg14 : arg14.IsWhole) (arg15 : Memref sig .tc .vmem S1x1x64x32 .f32) (harg15 : arg15.IsWhole) (arg16 : Memref sig .tc .vmem S1x128 .f32) (harg16 : arg16.IsWhole) (arg17 : Memref sig .tc .vmem S1x32x128x128 .f32) (harg17 : arg17.IsWhole) (arg19 : Memref sig .tc .vmem S64x4096 .bf16) (harg19 : arg19.IsWhole) (arg20 : Memref sig .tc .vmem S1x32x128x128 .f32) (harg20 : arg20.IsWhole) (arg21 : Memref sig .tc .vmem S32x128x128 .f32) (harg21 : arg21.IsWhole) (arg22 : Memref sig .tc .vmem S72x2048 .f32) (harg22 : arg22.IsWhole) (arg23 : Memref sig .tc .vmem S72x2048 .f32) (harg23 : arg23.IsWhole) (arg24 : Memref sig .tc .vmem S72x4096 .f32) (harg24 : arg24.IsWhole) (hc0 : cond0_0 i) (hc1 : cond0_1 i)
    (x0 : Vec F S64x2048 .f32) (x1 : Vec F S64x2048 .f32) (x2 : Vec F S64x4096 .f32) (x3 : Vec F S4x2048 .f32) (x4 : Vec F S4x2048 .f32) (x5 : Vec F S4x4096 .f32) (x6 : Vec F S1x3x2048 .f32) (x7 : Vec F S1x3x2048 .f32) (x8 : Vec F S1x3x4096 .f32) (x9 : Vec F S64x4096 .f32) (x10 : Vec F S1x1x64x32 .f32) (x11 : Vec F S1x1x1x32x64 .f32) (x12 : Vec F S1x1x64x32 .f32) (x13 : Vec F S1x128 .f32) (x14 : Vec F S1x32x128x128 .f32)

/-- The three convolutions as the run leaves them. -/
abbrev qc := kernelRun0_A.sl.r_1 c arg3 harg3 arg6 harg6 arg9 harg9 arg22 x0 x3 x6
abbrev kc := kernelRun0_A.sl.r_2 c arg4 harg4 arg7 harg7 arg10 harg10 arg23 x1 x4 x7
abbrev vc := kernelRun0_A.sl.r_3 c arg5 harg5 arg8 harg8 arg11 harg11 arg24 x2 x5 x8
/-- The log decays, twice, and the step sizes, as loaded. -/
abbrev gd0 := shapeCast S64x32 (View.readAt (Elt F) arg13.view (Rect.unit ![0, 0, 0, 0] S1x1x64x32.size inb_S1x1x64x32_S1x1x64x32_0_0_0_0).toLoadRect (harg13.unread x10)) shapeCasts_S1x1x64x32_S64x32
abbrev ga0 := shapeCast S32x64 (View.readAt (Elt F) arg14.view (Rect.unit ![0, 0, 0, 0, 0] S1x1x1x32x64.size inb_S1x1x1x32x64_S1x1x1x32x64_0_0_0_0_0).toLoadRect (harg14.unread x11)) shapeCasts_S1x1x1x32x64_S32x64
abbrev be := shapeCast S64x32 (View.readAt (Elt F) arg15.view (Rect.unit ![0, 0, 0, 0] S1x1x64x32.size inb_S1x1x64x32_S1x1x64x32_0_0_0_0).toLoadRect (harg15.unread x12)) shapeCasts_S1x1x64x32_S64x32
abbrev nw := shapeCast S1x128 (View.readAt (Elt F) arg16.view (Rect.unit ![0, 0] S1x128.size inb_S1x128_S1x128_0_0).toLoadRect (harg16.unread x13)) shapeCasts_S1x128_S1x128
/-- A head's state before the step, and its gate. -/
def st (h : Fin 32) : FVec F S128x128 .f32 := shapeCast S128x128 (arg21.view.readCov (kernelRun0_A.sl.HS0_1 c arg17 harg17 x14) (stateRect h).toLoadRect) shapeCasts_S1x128x128_S128x128
def zs (h : Fin 32) : FVec F S64x128 .f32 := View.readAt (Elt F) arg12.view (outRect h).toLoadRect (harg12.unread x9)

set_option maxHeartbeats 4000000 in
/-- The scratch state after the body's 32 heads. -/
theorem state_parts : kernelRun0_A.sl.HS0_33 c arg4 harg4 arg5 harg5 arg7 harg7 arg8 harg8 arg10 harg10 arg11 harg11 arg13 harg13 arg14 harg14 arg15 harg15 arg17 harg17 arg21 arg23 arg24 x1 x2 x4 x5 x7 x8 x10 x11 x12 x14
    = stateParts (kc c arg4 harg4 arg7 harg7 arg10 harg10 arg23 x1 x4 x7) (vc c arg5 harg5 arg8 harg8 arg11 harg11 arg24 x2 x5 x8) (Head.sumDown (gd0 arg13 harg13 x10)) (Head.sumAlong (ga0 arg14 harg14 x11)) (be arg15 harg15 x12)
      (st c arg17 harg17 arg21 x14) (kernelRun0_A.sl.HS0_1 c arg17 harg17 x14) 32 le_rfl := rfl

set_option maxHeartbeats 4000000 in
/-- The output after the body's 32 heads. -/
theorem out_parts : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 x9 x10 x11 x12 x13 x14).1
    = outParts (qc c arg3 harg3 arg6 harg6 arg9 harg9 arg22 x0 x3 x6) (kc c arg4 harg4 arg7 harg7 arg10 harg10 arg23 x1 x4 x7) (vc c arg5 harg5 arg8 harg8 arg11 harg11 arg24 x2 x5 x8) (Head.sumDown (gd0 arg13 harg13 x10)) (Head.sumAlong (ga0 arg14 harg14 x11)) (be arg15 harg15 x12)
      (st c arg17 harg17 arg21 x14) (nw arg16 harg16 x13) (zs arg12 harg12 x9) 32 le_rfl := rfl

/-- The state's result is the scratch state. -/
theorem state_result : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 x9 x10 x11 x12 x13 x14).2.1
    = [⟨Rect.unit ![0, 0, 0, 0] S1x32x128x128.size inb_S1x32x128x128_S1x32x128x128_0_0_0_0, shapeCast S1x32x128x128 (arg21.view.readCov (kernelRun0_A.sl.HS0_33 c arg4 harg4 arg5 harg5 arg7 harg7 arg8 harg8 arg10 harg10 arg11 harg11 arg13 harg13 arg14 harg14 arg15 harg15 arg17 harg17 arg21 arg23 arg24 x1 x2 x4 x5 x7 x8 x10 x11 x12 x14)
      (Rect.unit ![0, 0, 0] S32x128x128.size inb_S32x128x128_S32x128x128_0_0_0).toLoadRect) shapeCasts_S32x128x128_S1x32x128x128⟩] := rfl

end Cert.KernelIdeal.Pieces

end
-- ==== Proof.Solve.lean ====
/- The mathematics of the triangular solve, apart from any program: a unit lower triangular system
   (I + A) W = R over the reals has one solution, forward substitution finds it row by row, and so does the
   product (I + B)(I + B²)(I + B⁴)⋯ with B = -A, because a strictly lower triangular matrix is nilpotent. -/
module

public import Mathlib.Data.EReal.Inv
public import Mathlib.Data.Matrix.Basic
public import Mathlib.Data.Matrix.Mul
public import Mathlib.Algebra.BigOperators.Fin
public import Mathlib.Tactic.NoncommRing
public import Mathlib.Tactic.Linarith

@[expose] public section

noncomputable section

namespace Cert.Solve

open scoped BigOperators

/-- Strictly lower triangular. -/
def Strict {n : ℕ} (A : Matrix (Fin n) (Fin n) ℝ) : Prop := ∀ i j, i ≤ j → A i j = 0

/-- The `k`-th power of a strictly lower triangular matrix lies at least `k` places below the diagonal. -/
theorem Strict.pow_eq_zero {n : ℕ} {A : Matrix (Fin n) (Fin n) ℝ} (h : Strict A) (k : ℕ) :
    ∀ i j : Fin n, i.val < j.val + k → (A ^ k) i j = 0 := by
  induction k with
  | zero =>
    intro i j hij
    rw [pow_zero, Matrix.one_apply, if_neg]
    rintro rfl; omega
  | succ k ih =>
    intro i j hij
    rw [pow_succ, Matrix.mul_apply]
    refine Finset.sum_eq_zero fun l _ => ?_
    by_cases hl : l.val ≤ j.val
    · rw [h l j hl, mul_zero]
    · rw [ih i l (by omega), zero_mul]

/-- A strictly lower triangular matrix is nilpotent. -/
theorem Strict.pow_size {n : ℕ} {A : Matrix (Fin n) (Fin n) ℝ} (h : Strict A) : A ^ n = 0 := by
  ext i j
  exact h.pow_eq_zero n i j (by omega)

/-- One round of doubling: the pair (B^m, (I + B)⋯) becomes (B^2m, the product times I + B^2m). -/
def dbl {n : ℕ} (s : Matrix (Fin n) (Fin n) ℝ × Matrix (Fin n) (Fin n) ℝ) :
    Matrix (Fin n) (Fin n) ℝ × Matrix (Fin n) (Fin n) ℝ :=
  (s.1 * s.1, s.2 + s.2 * (s.1 * s.1))

/-- What `k` rounds of doubling keep: the first part is a power of B, and I - B times the second is I minus the square of it. -/
theorem dbl_iter {n : ℕ} (B : Matrix (Fin n) (Fin n) ℝ) (k : ℕ) :
    (dbl^[k] (B, 1 + B)).1 = B ^ 2 ^ k ∧
      (1 - B) * (dbl^[k] (B, 1 + B)).2 = 1 - B ^ 2 ^ (k + 1) := by
  induction k with
  | zero =>
    refine ⟨by simp, ?_⟩
    simp only [Function.iterate_zero, id, zero_add, pow_one]
    rw [pow_two]
    noncomm_ring
  | succ k ih =>
    rw [Function.iterate_succ_apply']
    obtain ⟨h1, h2⟩ := ih
    refine ⟨?_, ?_⟩
    · simp only [dbl]
      rw [h1, ← pow_add]; congr 1; ring
    · simp only [dbl]
      have e : B ^ 2 ^ k * B ^ 2 ^ k = B ^ 2 ^ (k + 1) := by rw [← pow_add]; congr 1; ring
      have e2 : B ^ 2 ^ (k + 1) * B ^ 2 ^ (k + 1) = B ^ 2 ^ (k + 1 + 1) := by rw [← pow_add]; congr 1; ring
      rw [h1, e, mul_add, ← mul_assoc, h2, sub_mul, one_mul, e2]
      abel

/-- The product of five doublings solves the system of 64 unknowns: (I + A) P = I, for B = -A. -/
theorem dbl_solves {A : Matrix (Fin 64) (Fin 64) ℝ} (h : Strict A) :
    (1 + A) * (dbl^[5] (-A, 1 + -A)).2 = 1 := by
  have := (dbl_iter (-A) 5).2
  rw [show (2 : ℕ) ^ (5 + 1) = 64 from rfl,
    Strict.pow_size (A := -A) (fun i j hij => by simp [h i j hij]), sub_zero, sub_neg_eq_add] at this
  exact this

/-- The solution that the doublings give, for a right-hand side of any width. -/
def sol {κ : Type} (A : Matrix (Fin 64) (Fin 64) ℝ) (r : Fin 64 → κ → ℝ) (i : Fin 64) (c : κ) : ℝ :=
  ∑ j, (dbl^[5] (-A, 1 + -A)).2 i j * r j c

/-- It satisfies the equation in the form that forward substitution uses. -/
theorem sol_eq {κ : Type} {A : Matrix (Fin 64) (Fin 64) ℝ} (h : Strict A) (r : Fin 64 → κ → ℝ) (i : Fin 64) (c : κ) :
    r i c - ∑ j, A i j * sol A r j c = sol A r i c := by
  have e := congrArg (fun M : Matrix (Fin 64) (Fin 64) ℝ => (M.mulVec fun j => r j c) i) (dbl_solves h)
  simp only [← Matrix.mulVec_mulVec, Matrix.add_mulVec, Matrix.one_mulVec] at e
  have : (dbl^[5] (-A, 1 + -A)).2.mulVec (fun j => r j c) = fun j => sol A r j c := by
    ext j; rfl
  rw [this] at e
  change sol A r i c + ∑ j, A i j * sol A r j c = r i c at e
  linarith

/-- A product of two real numbers among the extended reals. -/
theorem coe_sum {ι : Type} [Fintype ι] (f : ι → ℝ) : ∑ k, ((f k : ℝ) : EReal) = ((∑ k, f k : ℝ) : EReal) := by
  classical
  induction (Finset.univ : Finset ι) using Finset.induction_on with
  | empty => simp
  | insert a s ha ih => rw [Finset.sum_insert ha, Finset.sum_insert ha, ih, EReal.coe_add]

theorem coe_sum_mul {ι : Type} [Fintype ι] (f g : ι → ℝ) :
    ∑ k, ((f k : ℝ) : EReal) * ((g k : ℝ) : EReal) = ((∑ k, f k * g k : ℝ) : EReal) := by
  rw [← coe_sum]; exact Finset.sum_congr rfl fun k _ => (EReal.coe_mul _ _).symm

/-- Rows below `n` solved, the others still zero: the state of forward substitution before row `n`. -/
def upTo {κ : Type} (A : Matrix (Fin 64) (Fin 64) ℝ) (r : Fin 64 → κ → ℝ) (n : ℕ) (i : Fin 64) (c : κ) : EReal :=
  if i.val < n then ((sol A r i c : ℝ) : EReal) else 0

/-- One step of forward substitution. -/
theorem upTo_succ {κ : Type} {A : Matrix (Fin 64) (Fin 64) ℝ} (h : Strict A) (r : Fin 64 → κ → ℝ) (n : ℕ) (i : Fin 64) (c : κ) :
    (if i.val = n then ((r i c : ℝ) : EReal) - ∑ j, ((A i j : ℝ) : EReal) * upTo A r n j c else upTo A r n i c)
      = upTo A r (n + 1) i c := by
  by_cases hi : i.val = n
  · rw [if_pos hi, show upTo A r (n + 1) i c = ((sol A r i c : ℝ) : EReal) from if_pos (by omega)]
    have : ∀ j, ((A i j : ℝ) : EReal) * upTo A r n j c = ((A i j : ℝ) : EReal) * ((sol A r j c : ℝ) : EReal) := by
      intro j
      unfold upTo
      by_cases hj : j.val < n
      · rw [if_pos hj]
      · rw [if_neg hj, h i j (by rw [Fin.le_def]; omega)]; simp
    rw [Finset.sum_congr rfl fun j _ => this j, coe_sum_mul, ← EReal.coe_sub, sol_eq h]
  · rw [if_neg hi]
    unfold upTo
    by_cases hn : i.val < n
    · rw [if_pos hn, if_pos (by omega)]
    · rw [if_neg hn, if_neg (by omega)]

end Cert.Solve

end
-- ==== Proof.Real.lean ====
/- Which extended reals are real numbers, and that the operations of the layer keep them real. -/
module

public import proofs.«01_k».proof.Proof.Solve
public import Idealize.ShloMosaic.Lib.Pointwise
public import Idealize.ShloMosaic.Lib.WordCmp

@[expose] public section

noncomputable section

namespace Cert.Real

open Idealize.ShloMosaic Idealize.ShloMosaic.WordCmp
open scoped BigOperators

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.toReal {x : EReal} (h : IsR x) : ((x.toReal : ℝ) : EReal) = x := by
  obtain ⟨r, rfl⟩ := h; rw [EReal.toReal_coe]
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.sub_self {x : EReal} (hx : IsR x) : x - x = 0 := by
  obtain ⟨a, rfl⟩ := hx; rw [← EReal.coe_sub, _root_.sub_self]; rfl
theorem IsR.sum {ι : Type} [Fintype ι] {f : ι → EReal} (h : ∀ k, IsR (f k)) : IsR (∑ k, f k) := by
  choose r hr using h
  exact ⟨∑ k, r k, by rw [← Cert.Solve.coe_sum]; exact Finset.sum_congr rfl fun k _ => hr k⟩
theorem IsR.ite {p : Prop} [Decidable p] {x y : EReal} (hx : IsR x) (hy : IsR y) : IsR (if p then x else y) := by
  by_cases h : p
  · rw [if_pos h]; exact hx
  · rw [if_neg h]; exact hy
theorem IsR.max {x y : EReal} (hx : IsR x) (hy : IsR y) : IsR (max x y) := by
  rcases max_choice x y with h | h <;> rw [h] <;> assumption
theorem IsR.exp {x : EReal} (hx : IsR x) : IsR (Ideal.exp x) := by
  obtain ⟨a, rfl⟩ := hx; exact ⟨Real.exp a, rfl⟩

/-- log(1 + e^x) is real for every real x. -/
theorem IsR.log1p_exp {x : EReal} (hx : IsR x) : IsR (Ideal.log1p (Ideal.exp x)) := by
  obtain ⟨a, rfl⟩ := hx
  refine ⟨Real.log (1 + Real.exp a), ?_⟩
  have h : (1 : EReal) + Ideal.exp (a : EReal) = ((1 + Real.exp a : ℝ) : EReal) := by
    rw [EReal.coe_add]; rfl
  unfold Ideal.log1p
  rw [h]
  have hp : ¬ (1 + Real.exp a ≤ 0) := by have := Real.exp_pos a; linarith
  show (if 1 + Real.exp a ≤ 0 then (⊥ : EReal) else _) = _
  rw [if_neg hp]

/-- The logistic function is real everywhere, at the infinities too. -/
theorem IsR.logistic (x : EReal) : IsR (Ideal.div 1 (1 + Ideal.exp (-x))) := by
  have key : ∀ y : EReal, (y = ⊤ ∨ ∃ r : ℝ, 0 < r ∧ y = (r : EReal)) → IsR (Ideal.div 1 y) := by
    intro y hy
    unfold Ideal.div
    rcases hy with rfl | ⟨r, hr, rfl⟩
    · rw [if_neg EReal.top_ne_zero]; exact ⟨0, by rw [EReal.inv_top, mul_zero]; rfl⟩
    · rw [if_neg (by exact_mod_cast hr.ne')]
      exact ⟨r⁻¹, by rw [one_mul, EReal.coe_inv]⟩
  apply key
  induction x using EReal.rec with
  | bot => left; rw [EReal.neg_bot]; rfl
  | top => right; refine ⟨1, one_pos, ?_⟩; rw [EReal.neg_top]; show (1 : EReal) + 0 = 1; rw [add_zero]
  | coe a =>
    right
    refine ⟨1 + Real.exp (-a), by have := Real.exp_pos (-a); linarith, ?_⟩
    rw [← EReal.coe_neg, EReal.coe_add]; rfl

/-- The reciprocal root of a sum of squares and a positive number is real. -/
theorem IsR.rsqrt_sq {ι : Type} [Fintype ι] {f : ι → EReal} (h : ∀ k, IsR (f k)) {e : EReal} (he : ∃ r : ℝ, 0 < r ∧ e = (r : EReal)) :
    IsR (Ideal.rsqrt (∑ k, f k * f k + e)) := by
  choose r hr using h
  obtain ⟨s, hs, rfl⟩ := he
  have hsum : ∑ k, f k * f k = ((∑ k, r k * r k : ℝ) : EReal) := by
    rw [← Cert.Solve.coe_sum_mul]; exact Finset.sum_congr rfl fun k _ => by rw [hr k]
  have hp : 0 < ∑ k, r k * r k + s := add_pos_of_nonneg_of_pos (Finset.sum_nonneg fun k _ => mul_self_nonneg _) hs
  rw [hsum, ← EReal.coe_add]
  refine ⟨(Real.sqrt (∑ k, r k * r k + s))⁻¹, ?_⟩
  show (if _ < (0 : ℝ) then (⊥ : EReal) else if _ = (0 : ℝ) then ⊤ else _) = _
  rw [if_neg (not_lt.mpr hp.le), if_neg hp.ne']

/-- The small number added under the roots: the nearest single-precision number to 10⁻⁶. -/
def eps : EReal := Ideal.ofBits .f32 897988541#32
theorem eps_pos : ∃ r : ℝ, 0 < r ∧ eps = (r : EReal) := by
  refine ⟨(2 ^ 23 + 407485 : ℕ) * (2 : ℝ) ^ ((107 : ℤ) - 127 - 23), by positivity, ?_⟩
  unfold eps
  simp [Ideal.ofBits, Ideal.ieee, -EReal.coe_mul]

/-- A choice by a comparison of two indices, for each comparison that occurs. -/
theorem select_bool (p : Prop) [Decidable p] (x y : EReal) :
    Scalar.select (BitVec.ofBool (decide p)) x y = if p then x else y := by
  by_cases h : p
  · rw [decide_eq_true h, if_pos h]; rfl
  · rw [decide_eq_false h, if_neg h]; rfl
theorem select_sge {n m : ℕ} (hn : n < 2 ^ 31) (hm : m < 2 ^ 31) (x y : EReal) :
    Scalar.select (IntOp.cmpi .sge (BitVec.ofNat 32 n) (BitVec.ofNat 32 m)) x y = if m ≤ n then x else y := by
  rw [cmpi_sge_ofNat hn hm, select_bool]
theorem select_sle {n m : ℕ} (hn : n < 2 ^ 31) (hm : m < 2 ^ 31) (x y : EReal) :
    Scalar.select (IntOp.cmpi .sle (BitVec.ofNat 32 n) (BitVec.ofNat 32 m)) x y = if n ≤ m then x else y := by
  rw [cmpi_sle_ofNat hn hm, select_bool]
theorem select_sgt {n m : ℕ} (hn : n < 2 ^ 31) (hm : m < 2 ^ 31) (x y : EReal) :
    Scalar.select (IntOp.cmpi .sgt (BitVec.ofNat 32 n) (BitVec.ofNat 32 m)) x y = if m < n then x else y := by
  rw [cmpi_sgt_ofNat hn hm, select_bool]
theorem select_slt {n m : ℕ} (hn : n < 2 ^ 31) (hm : m < 2 ^ 31) (x y : EReal) :
    Scalar.select (IntOp.cmpi .slt (BitVec.ofNat 32 n) (BitVec.ofNat 32 m)) x y = if n < m then x else y := by
  rw [cmpi_slt_ofNat hn hm, select_bool]
theorem select_eq {n m : ℕ} (hn : n < 2 ^ 31) (hm : m < 2 ^ 31) (x y : EReal) :
    Scalar.select (IntOp.cmpi .eq (BitVec.ofNat 32 n) (BitVec.ofNat 32 m)) x y = if n = m then x else y := by
  rw [cmpi_eq_ofNat (by omega) (by omega), select_bool]

end Cert.Real

end
-- ==== Proof.Spec.lean ====
/- What one value head of the layer computes from its convolved rows, its gates and its state, as plain
   formulas over the extended reals. The kernel's heads and the reference's heads are both shown to be these. -/
module

public import proofs.«01_k».proof.Proof.Real

@[expose] public section

noncomputable section

namespace Cert.Spec

open Idealize.ShloMosaic Cert.Real
open scoped BigOperators

/-- 128 to the power -1/2, as a single-precision number. -/
def scale : EReal := Ideal.ofBits .f32 0x3DB504F3#32

/-- SiLU. -/
def silu (x : EReal) : EReal := x * Ideal.div 1 (1 + Ideal.exp (-x))

/-- Softplus. -/
def softplus (x : EReal) : EReal := max x 0 + Ideal.log1p (Ideal.exp (-(FloatOps.absf (show Ideal .f32 from x) : Ideal .f32)))

/-- A column of 64 values with the three values before it. -/
def tap (before : Fin 3 → EReal) (x : Fin 64 → EReal) (n : ℕ) (hn : n < 67) : EReal :=
  if h : n < 3 then before ⟨n, h⟩ else x ⟨n - 3, by omega⟩

/-- The causal convolution of width four of a column, with SiLU. -/
def conv (w : Fin 4 → EReal) (before : Fin 3 → EReal) (x : Fin 64 → EReal) (t : Fin 64) : EReal :=
  silu (tap before x t.val (by omega) * w 0 + tap before x (t.val + 1) (by omega) * w 1
    + tap before x (t.val + 2) (by omega) * w 2 + tap before x (t.val + 3) (by omega) * w 3)

/-- The reciprocal length of a row. -/
def len (x : Fin 128 → EReal) : EReal := Ideal.rsqrt (∑ d, x d * x d + eps)

/-- A key, and a query, from its convolved row. -/
def key (x : Fin 64 → Fin 128 → EReal) (t : Fin 64) (d : Fin 128) : EReal := x t d * len (x t)
def qry (x : Fin 64 → Fin 128 → EReal) (t : Fin 64) (d : Fin 128) : EReal := x t d * len (x t) * scale

/-- The running sum of the log decays. -/
def cum (g : Fin 64 → EReal) (t : Fin 64) : EReal := ∑ u : Fin 64, if u.val ≤ t.val then g u else 0

/-- The decay from row u to row t. -/
def dec (g : Fin 64 → EReal) (t u : Fin 64) : EReal :=
  if u.val ≤ t.val then Ideal.exp (cum g t - cum g u) else 0

/-- The strictly lower triangular part of the head's system. -/
def sys (k : Fin 64 → Fin 128 → EReal) (beta g : Fin 64 → EReal) (t u : Fin 64) : EReal :=
  if u.val < t.val then (∑ d, k t d * beta t * k u d) * dec g t u else 0

/-- The right-hand sides: 128 columns for the values and 128 for the keys. -/
def rhs (k v : Fin 64 → Fin 128 → EReal) (beta g : Fin 64 → EReal) (t : Fin 64) (c : Fin 256) : EReal :=
  if h : c.val < 128 then v t ⟨c.val, h⟩ * beta t
  else k t ⟨c.val - 128, by omega⟩ * beta t * Ideal.exp (cum g t)

/-- The solution of the system. -/
def w (A : Fin 64 → Fin 64 → EReal) (R : Fin 64 → Fin 256 → EReal) (t : Fin 64) (c : Fin 256) : EReal :=
  ((Cert.Solve.sol (fun i j => (A i j).toReal) (fun i c => (R i c).toReal) t c : ℝ) : EReal)

/-- The corrected values, for the state s before the chunk. -/
def upd (W : Fin 64 → Fin 256 → EReal) (s : Fin 128 → Fin 128 → EReal) (t : Fin 64) (e : Fin 128) : EReal :=
  W t ⟨e.val, by omega⟩ - ∑ d : Fin 128, W t ⟨128 + d.val, by omega⟩ * s d e

/-- The output before its norm, from the corrected values u. -/
def out (q k : Fin 64 → Fin 128 → EReal) (g : Fin 64 → EReal) (s : Fin 128 → Fin 128 → EReal) (u : Fin 64 → Fin 128 → EReal)
    (t : Fin 64) (e : Fin 128) : EReal :=
  ∑ d, q t d * Ideal.exp (cum g t) * s d e + ∑ j, (∑ d, q t d * k j d) * dec g t j * u j e

/-- The state after the chunk. -/
def next (k : Fin 64 → Fin 128 → EReal) (g : Fin 64 → EReal) (s : Fin 128 → Fin 128 → EReal) (u : Fin 64 → Fin 128 → EReal)
    (d e : Fin 128) : EReal :=
  s d e * Ideal.exp (cum g 63) + ∑ t, k t d * Ideal.exp (cum g 63 - cum g t) * u t e

/-- The norm, the gain and the gate of the output. -/
def gated (o : Fin 64 → Fin 128 → EReal) (nw : Fin 128 → EReal) (z : Fin 64 → Fin 128 → EReal) (t : Fin 64) (e : Fin 128) : EReal :=
  o t e * Ideal.rsqrt (Ideal.div (∑ d, o t d * o t d) (Ideal.ofBits .f32 0x43000000#32) + eps) * nw e * silu (z t e)

/-- The corrected values of a head from its convolved keys and values. -/
def headU (kc vc : Fin 64 → Fin 128 → EReal) (beta g : Fin 64 → EReal) (s : Fin 128 → Fin 128 → EReal) : Fin 64 → Fin 128 → EReal :=
  upd (w (sys (key kc) beta g) (rhs (key kc) vc beta g)) s
/-- Its output before the norm. -/
def headO (qc kc vc : Fin 64 → Fin 128 → EReal) (beta g : Fin 64 → EReal) (s : Fin 128 → Fin 128 → EReal) : Fin 64 → Fin 128 → EReal :=
  out (qry qc) (key kc) g s (headU kc vc beta g s)
/-- Its next state. -/
def headS (kc vc : Fin 64 → Fin 128 → EReal) (beta g : Fin 64 → EReal) (s : Fin 128 → Fin 128 → EReal) : Fin 128 → Fin 128 → EReal :=
  next (key kc) g s (headU kc vc beta g s)

/-! ### What is real -/

theorem silu_real {x : EReal} (h : IsR x) : IsR (silu x) := h.mul (IsR.logistic x)
theorem softplus_real {x : EReal} (h : IsR x) : IsR (softplus x) := by
  refine (h.max .zero).add (IsR.log1p_exp (IsR.neg ?_))
  exact h.max h.neg
theorem tap_real {before : Fin 3 → EReal} {x : Fin 64 → EReal} (hb : ∀ j, IsR (before j)) (hx : ∀ t, IsR (x t)) (n : ℕ) (hn : n < 67) :
    IsR (tap before x n hn) := by
  unfold tap; split
  · exact hb _
  · exact hx _
theorem conv_real {w : Fin 4 → EReal} {before : Fin 3 → EReal} {x : Fin 64 → EReal} (hw : ∀ j, IsR (w j)) (hb : ∀ j, IsR (before j))
    (hx : ∀ t, IsR (x t)) (t : Fin 64) : IsR (conv w before x t) := by
  have h : ∀ (n : ℕ) (hn : n < 67) (j : Fin 4), IsR (tap before x n hn * w j) := fun n hn j => (tap_real hb hx n hn).mul (hw j)
  have hs := (((h t.val (by omega) 0).add (h (t.val + 1) (by omega) 1)).add (h (t.val + 2) (by omega) 2)).add (h (t.val + 3) (by omega) 3)
  exact silu_real hs

theorem len_real {x : Fin 128 → EReal} (h : ∀ d, IsR (x d)) : IsR (len x) := IsR.rsqrt_sq h eps_pos
theorem key_real {x : Fin 64 → Fin 128 → EReal} (h : ∀ t d, IsR (x t d)) (t : Fin 64) (d : Fin 128) : IsR (key x t d) :=
  (h t d).mul (len_real (h t))
theorem cum_real {g : Fin 64 → EReal} (h : ∀ t, IsR (g t)) (t : Fin 64) : IsR (cum g t) := IsR.sum fun u => (h u).ite .zero
theorem dec_real {g : Fin 64 → EReal} (h : ∀ t, IsR (g t)) (t u : Fin 64) : IsR (dec g t u) :=
  (((cum_real h t).sub (cum_real h u)).exp).ite .zero
theorem sys_real {k : Fin 64 → Fin 128 → EReal} {beta g : Fin 64 → EReal} (hk : ∀ t d, IsR (k t d)) (hb : ∀ t, IsR (beta t))
    (hg : ∀ t, IsR (g t)) (t u : Fin 64) : IsR (sys k beta g t u) :=
  ((IsR.sum fun d => ((hk t d).mul (hb t)).mul (hk u d)).mul (dec_real hg t u)).ite .zero
theorem rhs_real {k v : Fin 64 → Fin 128 → EReal} {beta g : Fin 64 → EReal} (hk : ∀ t d, IsR (k t d)) (hv : ∀ t d, IsR (v t d))
    (hb : ∀ t, IsR (beta t)) (hg : ∀ t, IsR (g t)) (t : Fin 64) (c : Fin 256) : IsR (rhs k v beta g t c) := by
  unfold rhs
  by_cases h : c.val < 128
  · rw [dif_pos h]; exact (hv _ _).mul (hb _)
  · rw [dif_neg h]; exact ((hk _ _).mul (hb _)).mul (cum_real hg t).exp

/-- The system is strictly lower triangular. -/
theorem sys_strict (k : Fin 64 → Fin 128 → EReal) (beta g : Fin 64 → EReal) :
    Cert.Solve.Strict (fun i j => (sys k beta g i j).toReal) := by
  intro i j h
  show (sys k beta g i j).toReal = 0
  unfold sys
  rw [if_neg (by rw [Fin.le_def] at h; omega)]; rfl

end Cert.Spec

end
-- ==== Proof.HeadIdeal.lean ====
/- The functions of one head of the kernel read at an index, over the extended reals. -/
module

public import proofs.«01_k».proof.Proof.Head
public import proofs.«01_k».proof.Proof.Spec
public import Idealize.ShloMosaic.Lib.Pointwise.Tactic

@[expose] public section

noncomputable section

namespace Cert.KernelIdeal.Head

open Idealize.ShloMosaic Cert.KernelIdeal Cert.KernelIdeal.Gen Cert.Real
open scoped BigOperators

/-- A head's 128 columns of a matrix. -/
def rowsQk (c : FVec Ideal S64x2048 .f32) (i : Fin 16) (t : Fin 64) (d : Fin 128) : EReal := c (ix2 t ⟨128 * i.val + d.val, by omega⟩)
def rowsV (c : FVec Ideal S64x4096 .f32) (i : Fin 16) (e : Fin 2) (t : Fin 64) (d : Fin 128) : EReal :=
  c (ix2 t ⟨128 * (2 * i.val + e.val) + d.val, by omega⟩)
/-- The number of a head. -/
def no (i : Fin 16) (e : Fin 2) : Fin 32 := ⟨2 * i.val + e.val, by omega⟩

theorem keys_apply (c : FVec Ideal S64x2048 .f32) (i : Fin 16) (t : Fin 64) (d : Fin 128) :
    keys c i (ix2 t d) = Spec.key (rowsQk c i) t d := by
  unfold keys rlen Spec.key Spec.len rowsQk eps
  pointwise

theorem queries_apply (c : FVec Ideal S64x2048 .f32) (i : Fin 16) (t : Fin 64) (d : Fin 128) :
    queries c i (ix2 t d) = Spec.qry (rowsQk c i) t d := by
  unfold queries rlen Spec.qry Spec.len rowsQk eps Spec.scale
  pointwise
  rw [mul_assoc]

theorem idx (t : Fin 64) : t.val < 2 ^ 31 := by omega
theorem one_real : IsR 1 := ⟨1, rfl⟩

theorem sumDown_apply (g : FVec Ideal S64x32 .f32) (hg : ∀ t h, IsR (g (ix2 t h))) (t : Fin 64) (h : Fin 32) :
    sumDown g (ix2 t h) = Spec.cum (fun u => g (ix2 u h)) t := by
  unfold sumDown mask causal rowNo colNo lo hi Spec.cum
  pointwise [dot_S64x64_S64x32_S64x32_1_0_0_1_n_n]
  simp only [(hg _ h).sub_self, select_sge (idx t) (idx _), ite_self, Finset.sum_const_zero, add_zero]
  rw [Finset.sum_eq_zero (s := Finset.univ) (f := fun x : Fin 64 => _ * g (ix2 x h)), add_zero]
  intro x _
  rw [IsR.sub_self (IsR.ite one_real .zero), zero_mul]

theorem sumAlong_apply (g : FVec Ideal S32x64 .f32) (hg : ∀ h t, IsR (g (ix2 h t))) (t : Fin 64) (h : Fin 32) :
    sumAlong g (ix2 h t) = Spec.cum (fun u => g (ix2 h u)) t := by
  unfold sumAlong mask rowNo colNo lo hi Spec.cum
  pointwise [dot_S32x64_S64x64_S32x64_1_0_0_1_n_n]
  simp only [(hg h _).sub_self, select_sle (idx _) (idx t), ite_self, Finset.sum_const_zero, add_zero]
  rw [Finset.sum_eq_zero (s := Finset.univ) (f := fun x : Fin 64 => g (ix2 h x) * _), add_zero]
  intro x _
  rw [IsR.sub_self (IsR.ite one_real .zero), mul_zero]

theorem decay_apply (gc : FVec Ideal S64x1 .f32) (gr : FVec Ideal S1x64 .f32) (t u : Fin 64) :
    decay gc gr (ix2 t u) = if u.val ≤ t.val then Ideal.exp (gc (ix2 t 0) - gr (ix2 0 u)) else 0 := by
  unfold decay causal rowNo colNo
  pointwise
  simp only [select_sge (idx t) (idx u)]
  by_cases h : u.val ≤ t.val
  · rw [if_pos h, if_pos h, if_pos h]
  · rw [if_neg h, if_neg h]

theorem bmat_apply (k : FVec Ideal S64x128 .f32) (beta : FVec Ideal S64x1 .f32) (d : FVec Ideal S64x64 .f32) (t u : Fin 64) :
    bmat k beta d (ix2 t u) = if u.val < t.val then -((∑ x, k (ix2 t x) * beta (ix2 t 0) * k (ix2 u x)) * d (ix2 t u)) else 0 := by
  unfold bmat strict rowNo colNo rowsDot wide hi
  pointwise [dot_S64x128_S64x128_S64x64_1_1_0_0_n_n]
  rw [select_sgt (idx t) (idx u), zero_sub]

theorem rhs_apply (k v : FVec Ideal S64x128 .f32) (beta gc : FVec Ideal S64x1 .f32) (t : Fin 64) (c : Fin 256) :
    rhs k v beta gc (ix2 t c) = if h : c.val < 128 then v (ix2 t ⟨c.val, h⟩) * beta (ix2 t 0)
      else k (ix2 t ⟨c.val - 128, by omega⟩) * beta (ix2 t 0) * Ideal.exp (gc (ix2 t 0)) := by
  unfold rhs wide
  pointwise

theorem upd_apply (w : FVec Ideal S64x256 .f32) (s : FVec Ideal S128x128 .f32) (t : Fin 64) (e : Fin 128) :
    upd w s (ix2 t e) = Spec.upd (fun t c => w (ix2 t c)) (fun d e => s (ix2 d e)) t e := by
  unfold upd byState hi Spec.upd
  pointwise [dot_S64x128_S128x128_S64x128_1_0_0_1_n_n]

theorem out_apply (q k : FVec Ideal S64x128 .f32) (gc : FVec Ideal S64x1 .f32) (d : FVec Ideal S64x64 .f32) (s : FVec Ideal S128x128 .f32)
    (u : FVec Ideal S64x128 .f32) (t : Fin 64) (e : Fin 128) :
    out q k gc d s u (ix2 t e) = ∑ x, q (ix2 t x) * Ideal.exp (gc (ix2 t 0)) * s (ix2 x e)
      + ∑ j, (∑ x, q (ix2 t x) * k (ix2 j x)) * d (ix2 t j) * u (ix2 j e) := by
  unfold out byState rowsDot wide hi
  pointwise [dot_S64x128_S128x128_S64x128_1_0_0_1_n_n, dot_S64x128_S64x128_S64x64_1_1_0_0_n_n, dot_S64x64_S64x128_S64x128_1_0_0_1_n_n]

theorem next_apply (k : FVec Ideal S64x128 .f32) (gc : FVec Ideal S64x1 .f32) (s : FVec Ideal S128x128 .f32) (u : FVec Ideal S64x128 .f32)
    (d e : Fin 128) :
    next k gc s u (ix2 d e) = s (ix2 d e) * Ideal.exp (gc (ix2 63 0))
      + ∑ t, k (ix2 t d) * Ideal.exp (gc (ix2 63 0) - gc (ix2 t 0)) * u (ix2 t e) := by
  unfold next wide hi
  pointwise [dot_S128x64_S64x128_S128x128_1_0_0_1_n_n]

theorem gated_apply (o : FVec Ideal S64x128 .f32) (nw : FVec Ideal S1x128 .f32) (z : FVec Ideal S64x128 .f32) (t : Fin 64) (e : Fin 128) :
    gated o nw z (ix2 t e) = Spec.gated (fun t e => o (ix2 t e)) (fun e => nw (ix2 0 e)) (fun t e => z (ix2 t e)) t e := by
  unfold gated wide hi Spec.gated Spec.silu eps
  pointwise
  rfl

theorem conv2048_apply (x0 : Vec Ideal S64x2048 .f32) (w0 : Vec Ideal S1x2048 .f32) (x1 : Vec Ideal S64x2048 .f32) (w1 : Vec Ideal S1x2048 .f32)
    (x2 : Vec Ideal S64x2048 .f32) (w2 : Vec Ideal S1x2048 .f32) (x3 : Vec Ideal S64x2048 .f32) (w3 : Vec Ideal S1x2048 .f32) (t : Fin 64) (c : Fin 2048) :
    conv2048 x0 w0 x1 w1 x2 w2 x3 w3 (ix2 t c) = Spec.silu (x0 (ix2 t c) * w0 (ix2 0 c) + x1 (ix2 t c) * w1 (ix2 0 c)
      + x2 (ix2 t c) * w2 (ix2 0 c) + x3 (ix2 t c) * w3 (ix2 0 c)) := by
  unfold conv2048 Spec.silu
  pointwise
  rfl

theorem conv4096_apply (x0 : Vec Ideal S64x4096 .f32) (w0 : Vec Ideal S1x4096 .f32) (x1 : Vec Ideal S64x4096 .f32) (w1 : Vec Ideal S1x4096 .f32)
    (x2 : Vec Ideal S64x4096 .f32) (w2 : Vec Ideal S1x4096 .f32) (x3 : Vec Ideal S64x4096 .f32) (w3 : Vec Ideal S1x4096 .f32) (t : Fin 64) (c : Fin 4096) :
    conv4096 x0 w0 x1 w1 x2 w2 x3 w3 (ix2 t c) = Spec.silu (x0 (ix2 t c) * w0 (ix2 0 c) + x1 (ix2 t c) * w1 (ix2 0 c)
      + x2 (ix2 t c) * w2 (ix2 0 c) + x3 (ix2 t c) * w3 (ix2 0 c)) := by
  unfold conv4096 Spec.silu
  pointwise
  rfl

/-- The halves of a pair's 64 × 128 matrix are real matrices. -/
def Half (x : FVec Ideal S64x128 .f32) (M : Fin 2 → Matrix (Fin 64) (Fin 64) ℝ) : Prop :=
  ∀ (e : Fin 2) (t u : Fin 64), x (ix2 t ⟨64 * e.val + u.val, by omega⟩) = ((M e t u : ℝ) : EReal)

theorem Half.real {x : FVec Ideal S64x128 .f32} {M : Fin 2 → Matrix (Fin 64) (Fin 64) ℝ} (h : Half x M) (t : Fin 64) (d : Fin 128) :
    IsR (x (ix2 t d)) := by
  have := h ⟨d.val / 64, by omega⟩ t ⟨d.val % 64, by omega⟩
  rw [show (⟨64 * (d.val / 64) + d.val % 64, by omega⟩ : Fin 128) = d from Fin.ext (by show 64 * (d.val / 64) + d.val % 64 = d.val; omega)] at this
  exact ⟨_, this⟩

theorem pairDot_half {x y : FVec Ideal S64x128 .f32} {M N : Fin 2 → Matrix (Fin 64) (Fin 64) ℝ} (hx : Half x M) (hy : Half y N) :
    Half (pairDot x y) (fun e => M e * N e) := by
  intro e t u
  unfold pairDot blockdiag left zero16 lo hi
  pointwise [dot_S64x128_S128x128_S64x128_1_0_0_1_n_n]
  have hd : 64 * e.val + u.val < 2 ^ 31 := by omega
  simp only [(hy.real _ _).sub_self, (hx.real _ _).sub_self, mul_zero, zero_mul, select_slt hd (show 64 < 2 ^ 31 by norm_num), ite_self,
    Finset.sum_const_zero, add_zero]
  rw [Matrix.mul_apply, ← Solve.coe_sum_mul]
  match e with
  | 0 =>
    have h0 : (64 * (0 : Fin 2).val + u.val < 64) := by show 64 * 0 + u.val < 64; omega
    simp only [if_pos h0, Finset.sum_const_zero, add_zero]
    refine Finset.sum_congr rfl fun j _ => ?_
    rw [← hx 0 t j, ← hy 0 j u]
    simp only [Fin.val_zero, Nat.mul_zero, Nat.zero_add]
  | 1 =>
    have h1 : ¬ (64 * (1 : Fin 2).val + u.val < 64) := by show ¬ (64 * 1 + u.val < 64); omega
    simp only [if_neg h1, Finset.sum_const_zero, zero_add]
    refine Finset.sum_congr rfl fun j _ => ?_
    rw [← hx 1 t j, ← hy 1 j u]
    rfl

theorem addf_half {x y : FVec Ideal S64x128 .f32} {M N : Fin 2 → Matrix (Fin 64) (Fin 64) ℝ} (hx : Half x M) (hy : Half y N) :
    Half (addf x y) (fun e => M e + N e) := by
  intro e t u
  show x _ + y _ = _
  rw [hx, hy, ← EReal.coe_add]; rfl

theorem side_half (a b : FVec Ideal S64x64 .f32) (M : Fin 2 → Matrix (Fin 64) (Fin 64) ℝ) (ha : ∀ t u, a (ix2 t u) = ((M 0 t u : ℝ) : EReal))
    (hb : ∀ t u, b (ix2 t u) = ((M 1 t u : ℝ) : EReal)) : Half (sideBySide a b) M := by
  intro e t u
  match e with
  | 0 =>
    unfold sideBySide
    pointwise
    exact ha t u
  | 1 =>
    unfold sideBySide
    pointwise
    exact hb t u

theorem eye_apply (t u : Fin 64) : mask (F := Ideal) (cmpi .eq rowNo colNo) (ix2 t u) = (((1 : Matrix (Fin 64) (Fin 64) ℝ) t u : ℝ) : EReal) := by
  unfold mask rowNo colNo
  pointwise
  rw [select_eq (idx t) (idx u), Matrix.one_apply]
  by_cases h : t = u
  · rw [if_pos (congrArg Fin.val h), if_pos h]; rfl
  · rw [if_neg (fun h' => h (Fin.ext h')), if_neg h]; rfl

theorem power_half {b : FVec Ideal S64x128 .f32} {B : Fin 2 → Matrix (Fin 64) (Fin 64) ℝ} (hb : Half b B) (k : ℕ) :
    Half (power k b) (fun e => (Solve.dbl^[k] (B e, 1 + B e)).1) := by
  induction k with
  | zero => exact hb
  | succ k ih =>
    simp only [Function.iterate_succ_apply']
    exact pairDot_half ih ih

theorem inverse_half {b : FVec Ideal S64x128 .f32} {B : Fin 2 → Matrix (Fin 64) (Fin 64) ℝ} (hb : Half b B) (k : ℕ) :
    Half (inverse k b) (fun e => (Solve.dbl^[k] (B e, 1 + B e)).2) := by
  induction k with
  | zero => exact addf_half (side_half _ _ (fun _ => 1) eye_apply eye_apply) hb
  | succ k ih =>
    have hp := power_half hb (k + 1)
    simp only [Function.iterate_succ_apply'] at hp ⊢
    exact addf_half ih (pairDot_half ih hp)

theorem solved_apply {p : FVec Ideal S64x128 .f32} {M : Fin 2 → Matrix (Fin 64) (Fin 64) ℝ} (hp : Half p M) (e : Fin 2)
    (r : FVec Ideal S64x256 .f32) (hr : ∀ t c, IsR (r (ix2 t c))) (t : Fin 64) (c : Fin 256) :
    solved p e r (ix2 t c) = ((∑ j, M e t j * (r (ix2 j c)).toReal : ℝ) : EReal) := by
  unfold solved lo hi
  pointwise [dot_S64x64_S64x256_S64x256_1_0_0_1_n_n]
  simp only [(hp.real _ _).sub_self, (hr _ _).sub_self, mul_zero, zero_mul, Finset.sum_const_zero, add_zero]
  rw [← Solve.coe_sum_mul]
  refine Finset.sum_congr rfl fun j _ => ?_
  rw [hp e t j, (hr j c).toReal]

/-- The three facts that a head needs of the running sums and the gates. -/
structure Gates (gd : FVec Ideal S64x32 .f32) (ga : FVec Ideal S32x64 .f32) (g : Fin 32 → Fin 64 → EReal) : Prop where
  down : ∀ t h, gd (ix2 t h) = Spec.cum (g h) t
  along : ∀ t h, ga (ix2 h t) = Spec.cum (g h) t

theorem col_apply (x : FVec Ideal S64x32 .f32) (i : Fin 16) (e : Fin 2) (t : Fin 64) : col x i e (ix2 t 0) = x (ix2 t (no i e)) := by
  unfold col no
  pointwise
theorem row_apply (x : FVec Ideal S32x64 .f32) (i : Fin 16) (e : Fin 2) (t : Fin 64) : row x i e (ix2 0 t) = x (ix2 (no i e) t) := by
  unfold row no
  pointwise

section
variable {qc kc : FVec Ideal S64x2048 .f32} {vc : FVec Ideal S64x4096 .f32} {gd : FVec Ideal S64x32 .f32} {ga : FVec Ideal S32x64 .f32}
  {beta : FVec Ideal S64x32 .f32} {g : Fin 32 → Fin 64 → EReal}

theorem decay_dec (G : Gates gd ga g) (i : Fin 16) (e : Fin 2) (t u : Fin 64) :
    decay (col gd i e) (row ga i e) (ix2 t u) = Spec.dec (g (no i e)) t u := by
  rw [decay_apply, col_apply, row_apply, G.down, G.along]; rfl

/-- The numbers of head 2i + e that the specification takes. -/
def gate (beta : FVec Ideal S64x32 .f32) (i : Fin 16) (e : Fin 2) (t : Fin 64) : EReal := beta (ix2 t (no i e))

theorem pairB_apply (G : Gates gd ga g) (hk : ∀ t c, IsR (kc (ix2 t c))) (hb : ∀ t h, IsR (beta (ix2 t h))) (hg : ∀ h t, IsR (g h t))
    (i : Fin 16) (e : Fin 2) (t u : Fin 64) :
    pairB kc gd ga beta i e (ix2 t u)
      = (((-(Matrix.of fun a b => (Spec.sys (Spec.key (rowsQk kc i)) (gate beta i e) (g (no i e)) a b).toReal) : Matrix (Fin 64) (Fin 64) ℝ) t u : ℝ) : EReal) := by
  unfold pairB
  rw [bmat_apply]
  simp only [keys_apply, col_apply, decay_dec G]
  rw [Matrix.neg_apply, EReal.coe_neg, Matrix.of_apply,
    IsR.toReal (Spec.sys_real (k := Spec.key (rowsQk kc i)) (beta := gate beta i e) (Spec.key_real fun t d => hk _ _) (fun t => hb _ _) (hg _) t u)]
  unfold Spec.sys
  by_cases h : u.val < t.val
  · rw [if_pos h, if_pos h]; rfl
  · rw [if_neg h, if_neg h, neg_zero]

theorem headU_apply (G : Gates gd ga g) (hk : ∀ t c, IsR (kc (ix2 t c))) (hv : ∀ t c, IsR (vc (ix2 t c))) (hb : ∀ t h, IsR (beta (ix2 t h)))
    (hg : ∀ h t, IsR (g h t)) (i : Fin 16) (e : Fin 2) (s : FVec Ideal S128x128 .f32) (t : Fin 64) (d : Fin 128) :
    headU kc vc gd ga beta i e s (ix2 t d)
      = Spec.headU (rowsQk kc i) (rowsV vc i e) (gate beta i e) (g (no i e)) (fun a b => s (ix2 a b)) t d := by
  unfold headU Spec.headU
  rw [upd_apply]
  congr 1
  funext t c
  have hr : ∀ t c, rhs (keys kc i) (extractStridedSlice S64x128 ![0, 128 * (2 * i.val + e.val)] vc (slicesV i e)) (col beta i e) (col gd i e) (ix2 t c)
      = Spec.rhs (Spec.key (rowsQk kc i)) (rowsV vc i e) (gate beta i e) (g (no i e)) t c := by
    intro t c
    rw [rhs_apply]
    simp only [keys_apply, col_apply, G.down]
    unfold Spec.rhs rowsV gate
    pointwise
  have hreal := Spec.rhs_real (k := Spec.key (rowsQk kc i)) (v := rowsV vc i e) (beta := gate beta i e) (g := g (no i e))
    (Spec.key_real fun t d => hk _ _) (fun t d => hv _ _) (fun t => hb _ _) (hg _)
  unfold pairP
  rw [solved_apply (M := fun e => (Solve.dbl^[5] (-(Matrix.of fun a b => (Spec.sys (Spec.key (rowsQk kc i)) (gate beta i e) (g (no i e)) a b).toReal),
      1 + -(Matrix.of fun a b => (Spec.sys (Spec.key (rowsQk kc i)) (gate beta i e) (g (no i e)) a b).toReal))).2)
    (inverse_half (side_half _ _ _ (pairB_apply G hk hb hg i 0) (pairB_apply G hk hb hg i 1)) 5) e _ (fun t c => by rw [hr]; exact hreal t c)]
  simp only [hr]
  rfl

theorem headO_apply (G : Gates gd ga g) (hk : ∀ t c, IsR (kc (ix2 t c))) (hv : ∀ t c, IsR (vc (ix2 t c))) (hb : ∀ t h, IsR (beta (ix2 t h)))
    (hg : ∀ h t, IsR (g h t)) (i : Fin 16) (e : Fin 2) (s : FVec Ideal S128x128 .f32) (t : Fin 64) (d : Fin 128) :
    headO qc kc vc gd ga beta i e s (ix2 t d)
      = Spec.headO (rowsQk qc i) (rowsQk kc i) (rowsV vc i e) (gate beta i e) (g (no i e)) (fun a b => s (ix2 a b)) t d := by
  unfold headO Spec.headO Spec.out
  rw [out_apply]
  simp only [keys_apply, queries_apply, col_apply, G.down, decay_dec G, headU_apply G hk hv hb hg]

theorem headS_apply (G : Gates gd ga g) (hk : ∀ t c, IsR (kc (ix2 t c))) (hv : ∀ t c, IsR (vc (ix2 t c))) (hb : ∀ t h, IsR (beta (ix2 t h)))
    (hg : ∀ h t, IsR (g h t)) (i : Fin 16) (e : Fin 2) (s : FVec Ideal S128x128 .f32) (a b : Fin 128) :
    headS kc vc gd ga beta i e s (ix2 a b)
      = Spec.headS (rowsQk kc i) (rowsV vc i e) (gate beta i e) (g (no i e)) (fun a b => s (ix2 a b)) a b := by
  unfold headS Spec.headS Spec.next
  rw [next_apply]
  simp only [keys_apply, col_apply, G.down, headU_apply G hk hv hb hg]
end

end Cert.KernelIdeal.Head

end
-- ==== Proof.Loads.lean ====
/- What the kernel's body loads at one step of the grid: the three convolutions read a scratch buffer that holds the three
   rows before the step's 64 rows, the state is read back from the scratch state. -/
module

public import proofs.«01_k».proof.Proof.Pieces
public import proofs.«01_k».proof.Proof.HeadIdeal
public import Idealize.ShloMosaic.Lib.WholeRead
public import Idealize.ShloMosaic.Lib.Pointwise
public import Idealize.ShloMosaic.Lib.Pointwise.Tactic

@[expose] public section

set_option maxRecDepth 16384

noncomputable section

namespace Cert.KernelIdeal.Pieces

open Idealize.ShloMosaic Idealize.ShloMosaic.TcCoe
open Cert.KernelIdeal Cert.KernelIdeal.Gen

theorem same2 {n0 n1 : ℕ} {x y : (⟨2, ![n0, n1]⟩ : Shape).Idx} (h0 : (x 0).val = (y 0).val) (h1 : (x 1).val = (y 1).val) : x = y :=
  funext fun a => match a with | ⟨0, _⟩ => Fin.ext h0 | ⟨1, _⟩ => Fin.ext h1
theorem same3 {n0 n1 n2 : ℕ} {x y : (⟨3, ![n0, n1, n2]⟩ : Shape).Idx} (h0 : (x 0).val = (y 0).val) (h1 : (x 1).val = (y 1).val)
    (h2 : (x 2).val = (y 2).val) : x = y :=
  funext fun a => match a with | ⟨0, _⟩ => Fin.ext h0 | ⟨1, _⟩ => Fin.ext h1 | ⟨2, _⟩ => Fin.ext h2

theorem same4 {n0 n1 n2 n3 : ℕ} {x y : (⟨4, ![n0, n1, n2, n3]⟩ : Shape).Idx} (h0 : (x 0).val = (y 0).val) (h1 : (x 1).val = (y 1).val)
    (h2 : (x 2).val = (y 2).val) (h3 : (x 3).val = (y 3).val) : x = y :=
  funext fun a => match a with | ⟨0, _⟩ => Fin.ext h0 | ⟨1, _⟩ => Fin.ext h1 | ⟨2, _⟩ => Fin.ext h2 | ⟨3, _⟩ => Fin.ext h3
theorem same5 {n0 n1 n2 n3 n4 : ℕ} {x y : (⟨5, ![n0, n1, n2, n3, n4]⟩ : Shape).Idx} (h0 : (x 0).val = (y 0).val) (h1 : (x 1).val = (y 1).val)
    (h2 : (x 2).val = (y 2).val) (h3 : (x 3).val = (y 3).val) (h4 : (x 4).val = (y 4).val) : x = y :=
  funext fun a => match a with | ⟨0, _⟩ => Fin.ext h0 | ⟨1, _⟩ => Fin.ext h1 | ⟨2, _⟩ => Fin.ext h2 | ⟨3, _⟩ => Fin.ext h3 | ⟨4, _⟩ => Fin.ext h4

/-- Rows n, …, n + 63 of a scratch buffer that holds 64 rows from row 8 and the three rows before them from row 5. -/
theorem shifted {W : ℕ} {sp : Space} (v : View sig .tc sp ⟨2, ![72, W]⟩ .f32)
    (i1 : ∀ a, (![8, 0] : Fin 2 → ℕ) a + (![64, W] : Fin 2 → ℕ) a ≤ (![72, W] : Fin 2 → ℕ) a)
    (i2 : ∀ a, (![5, 0] : Fin 2 → ℕ) a + (![3, W] : Fin 2 → ℕ) a ≤ (![72, W] : Fin 2 → ℕ) a)
    (i3 : ∀ a, (![0, 0] : Fin 2 → ℕ) a + (![8, W] : Fin 2 → ℕ) a ≤ (![72, W] : Fin 2 → ℕ) a)
    (x : (⟨2, ![64, W]⟩ : Shape).Idx → EReal) (b : (⟨2, ![3, W]⟩ : Shape).Idx → EReal) (o : (⟨2, ![8, W]⟩ : Shape).Idx → EReal)
    (j : ℕ) (hj : j < 4) (i4 : ∀ a, (![5 + j, 0] : Fin 2 → ℕ) a + (![64, W] : Fin 2 → ℕ) a ≤ (![72, W] : Fin 2 → ℕ) a) (t : Fin 64) (c : Fin W) :
    v.readCov (Val := Elt Ideal) [⟨Rect.unit (s := ⟨2, ![72, W]⟩) ![8, 0] ![64, W] i1, x⟩, ⟨Rect.unit (s := ⟨2, ![72, W]⟩) ![5, 0] ![3, W] i2, b⟩, ⟨Rect.unit (s := ⟨2, ![72, W]⟩) ![0, 0] ![8, W] i3, o⟩]
        (Rect.unit (s := ⟨2, ![72, W]⟩) ![5 + j, 0] ![64, W] i4).toLoadRect (ix2 t c)
      = Spec.tap (fun a => b (ix2 a c)) (fun u => x (ix2 u c)) (t.val + j) (by omega) := by
  unfold View.readCov
  rw [View.readAt_writes_junk_eq_canon]
  show View.canon _ ((Rect.unit (s := ⟨2, ![72, W]⟩) ![5 + j, 0] ![64, W] i4).idx (ix2 t c)) = _
  unfold Spec.tap
  split
  · rename_i h
    refine (View.canon_cons_of_not_mem _ _ ?_).trans ?_
    · intro hm
      have : 8 ≤ 5 + j + 1 * t.val := ((Rect.mem_set_unit (s := ⟨2, ![72, W]⟩) (inb := i1)).1 hm 0).1
      omega
    · refine Eq.trans ?_ (View.canon_cons_emb (Val := Elt Ideal) (e := .f32) (Rect.unit (s := ⟨2, ![72, W]⟩) ![5, 0] ![3, W] i2) b [⟨Rect.unit (s := ⟨2, ![72, W]⟩) ![0, 0] ![8, W] i3, o⟩] (ix2 ⟨t.val + j, h⟩ c))
      exact congrArg _ (same2 (show 5 + j + 1 * t.val = 5 + 1 * (t.val + j) by omega) (show 0 + 1 * c.val = 0 + 1 * c.val from rfl))
  · rename_i h
    refine Eq.trans ?_ (View.canon_cons_emb (Val := Elt Ideal) (e := .f32) (Rect.unit (s := ⟨2, ![72, W]⟩) ![8, 0] ![64, W] i1) x [⟨Rect.unit (s := ⟨2, ![72, W]⟩) ![5, 0] ![3, W] i2, b⟩, ⟨Rect.unit (s := ⟨2, ![72, W]⟩) ![0, 0] ![8, W] i3, o⟩] (ix2 ⟨t.val + j - 3, by omega⟩ c))
    exact congrArg _ (same2 (show 5 + j + 1 * t.val = 8 + 1 * (t.val + j - 3) by omega) (show 0 + 1 * c.val = 0 + 1 * c.val from rfl))

theorem load2 {n0 n1 k0 k1 : ℕ} {a : Memref sig .tc .vmem ⟨2, ![n0, n1]⟩ .f32} (h : a.IsWhole) (X : Vec Ideal ⟨2, ![n0, n1]⟩ .f32) {p q : ℕ} {hi}
    (i : Fin k0) (c : Fin k1) (i' : Fin n0) (c' : Fin n1) (hi' : i'.val = p + i.val) (hc' : c'.val = q + c.val) :
    View.readAt (Elt Ideal) a.view (Rect.unit (s := ⟨2, ![n0, n1]⟩) ![p, q] ![k0, k1] hi).toLoadRect (h.unread X) (ix2 i c) = X (ix2 i' c') := by
  rw [Memref.IsWhole.readAt_unread]
  exact congrArg X (same2 (show p + 1 * i.val = i'.val by omega) (show q + 1 * c.val = c'.val by omega))

/-- Four shifted readings, weighted: a convolution. -/
theorem taps {W : ℕ} {sp : Space} (v : View sig .tc sp ⟨2, ![72, W]⟩ .f32) {aw : Memref sig .tc .vmem ⟨2, ![4, W]⟩ .f32} (hw : aw.IsWhole)
    (Y : Vec Ideal ⟨2, ![4, W]⟩ .f32) (i1 i2 i3 a0 a1 a2 a3 b0 b1 b2 b3)
    (x : (⟨2, ![64, W]⟩ : Shape).Idx → EReal) (b : (⟨2, ![3, W]⟩ : Shape).Idx → EReal) (o : (⟨2, ![8, W]⟩ : Shape).Idx → EReal)
    (x' : Fin 64 → EReal) (b' : Fin 3 → EReal) (t : Fin 64) (d : Fin W) (hx : ∀ u, x (ix2 u d) = x' u) (hb : ∀ j, b (ix2 j d) = b' j)
    (L : List (View.Piece (Elt Ideal) (⟨2, ![72, W]⟩ : Shape) .f32))
    (hL : L = [⟨Rect.unit (s := ⟨2, ![72, W]⟩) ![8, 0] ![64, W] i1, x⟩, ⟨Rect.unit (s := ⟨2, ![72, W]⟩) ![5, 0] ![3, W] i2, b⟩, ⟨Rect.unit (s := ⟨2, ![72, W]⟩) ![0, 0] ![8, W] i3, o⟩]) :
    Spec.silu (v.readCov L (Rect.unit (s := ⟨2, ![72, W]⟩) ![5, 0] ![64, W] a0).toLoadRect (ix2 t d)
        * View.readAt (Elt Ideal) aw.view (Rect.unit (s := ⟨2, ![4, W]⟩) ![0, 0] ![1, W] b0).toLoadRect (hw.unread Y) (ix2 0 d)
      + v.readCov L (Rect.unit (s := ⟨2, ![72, W]⟩) ![6, 0] ![64, W] a1).toLoadRect (ix2 t d)
        * View.readAt (Elt Ideal) aw.view (Rect.unit (s := ⟨2, ![4, W]⟩) ![1, 0] ![1, W] b1).toLoadRect (hw.unread Y) (ix2 0 d)
      + v.readCov L (Rect.unit (s := ⟨2, ![72, W]⟩) ![7, 0] ![64, W] a2).toLoadRect (ix2 t d)
        * View.readAt (Elt Ideal) aw.view (Rect.unit (s := ⟨2, ![4, W]⟩) ![2, 0] ![1, W] b2).toLoadRect (hw.unread Y) (ix2 0 d)
      + v.readCov L (Rect.unit (s := ⟨2, ![72, W]⟩) ![8, 0] ![64, W] a3).toLoadRect (ix2 t d)
        * View.readAt (Elt Ideal) aw.view (Rect.unit (s := ⟨2, ![4, W]⟩) ![3, 0] ![1, W] b3).toLoadRect (hw.unread Y) (ix2 0 d))
      = Spec.conv (fun j => Y (ix2 j d)) b' x' t := by
  obtain rfl : (fun u => x (ix2 u d)) = x' := funext hx
  obtain rfl : (fun j => b (ix2 j d)) = b' := funext hb
  subst hL
  unfold Spec.conv
  refine congrArg Spec.silu ?_
  exact congrArg₂ (· + ·) (congrArg₂ (· + ·) (congrArg₂ (· + ·)
      (congrArg₂ (· * ·) (shifted v i1 i2 i3 x b o 0 (by omega) a0 t d) (load2 hw Y 0 d 0 d rfl (by omega)))
      (congrArg₂ (· * ·) (shifted v i1 i2 i3 x b o 1 (by omega) a1 t d) (load2 hw Y 0 d 1 d rfl (by omega))))
      (congrArg₂ (· * ·) (shifted v i1 i2 i3 x b o 2 (by omega) a2 t d) (load2 hw Y 0 d 2 d rfl (by omega))))
      (congrArg₂ (· * ·) (shifted v i1 i2 i3 x b o 3 (by omega) a3 t d) (load2 hw Y 0 d 3 d rfl (by omega)))

theorem first3 {n W : ℕ} {a : Memref sig .tc .vmem ⟨3, ![1, n, W]⟩ .f32} (h : a.IsWhole) (X : Vec Ideal ⟨3, ![1, n, W]⟩ .f32) {hi} (j : Fin n) (d : Fin W) :
    View.readAt (Elt Ideal) a.view (Rect.unit (s := ⟨3, ![1, n, W]⟩) ![0, 0, 0] ![1, n, W] hi).toLoadRect (h.unread X) (ix3 0 j d) = X (ix3 0 j d) := by
  rw [Memref.IsWhole.readAt_unread]
  exact congrArg X (same3 rfl (show 0 + 1 * j.val = j.val by omega) (show 0 + 1 * d.val = d.val by omega))

/-- A leading axis of one, taken away and put in front. -/
theorem front_apply (X : Vec Ideal S1x128x128 .f32) (hc) (a b : Fin 128) : shapeCast S128x128 X hc (ix2 a b) = X (ix3 0 a b) := by
  pointwise
theorem back_apply (X : Vec Ideal S128x128 .f32) (hc) (a b : Fin 128) : shapeCast S1x128x128 X hc (ix3 0 a b) = X (ix2 a b) := by
  pointwise

variable (c : Dev nD) (i : grid0.Coords) (arg3 : Memref sig .tc .vmem S64x2048 .f32) (harg3 : arg3.IsWhole) (arg4 : Memref sig .tc .vmem S64x2048 .f32) (harg4 : arg4.IsWhole) (arg5 : Memref sig .tc .vmem S64x4096 .f32) (harg5 : arg5.IsWhole) (arg6 : Memref sig .tc .vmem S4x2048 .f32) (harg6 : arg6.IsWhole) (arg7 : Memref sig .tc .vmem S4x2048 .f32) (harg7 : arg7.IsWhole) (arg8 : Memref sig .tc .vmem S4x4096 .f32) (harg8 : arg8.IsWhole) (arg9 : Memref sig .tc .vmem S1x3x2048 .f32) (harg9 : arg9.IsWhole) (arg10 : Memref sig .tc .vmem S1x3x2048 .f32) (harg10 : arg10.IsWhole) (arg11 : Memref sig .tc .vmem S1x3x4096 .f32) (harg11 : arg11.IsWhole) (arg12 : Memref sig .tc .vmem S64x4096 .f32) (harg12 : arg12.IsWhole) (arg13 : Memref sig .tc .vmem S1x1x64x32 .f32) (harg13 : arg13.IsWhole) (arg14 : Memref sig .tc .vmem S1x1x1x32x64 .f32) (harg14 : arg14.IsWhole) (arg15 : Memref sig .tc .vmem S1x1x64x32 .f32) (harg15 : arg15.IsWhole) (arg16 : Memref sig .tc .vmem S1x128 .f32) (harg16 : arg16.IsWhole) (arg17 : Memref sig .tc .vmem S1x32x128x128 .f32) (harg17 : arg17.IsWhole) (arg19 : Memref sig .tc .vmem S64x4096 .bf16) (harg19 : arg19.IsWhole) (arg20 : Memref sig .tc .vmem S1x32x128x128 .f32) (harg20 : arg20.IsWhole) (arg21 : Memref sig .tc .vmem S32x128x128 .f32) (harg21 : arg21.IsWhole) (arg22 : Memref sig .tc .vmem S72x2048 .f32) (harg22 : arg22.IsWhole) (arg23 : Memref sig .tc .vmem S72x2048 .f32) (harg23 : arg23.IsWhole) (arg24 : Memref sig .tc .vmem S72x4096 .f32) (harg24 : arg24.IsWhole) (hc0 : cond0_0 i) (hc1 : cond0_1 i)
    (x0 : Vec Ideal S64x2048 .f32) (x1 : Vec Ideal S64x2048 .f32) (x2 : Vec Ideal S64x4096 .f32) (x3 : Vec Ideal S4x2048 .f32) (x4 : Vec Ideal S4x2048 .f32) (x5 : Vec Ideal S4x4096 .f32) (x6 : Vec Ideal S1x3x2048 .f32) (x7 : Vec Ideal S1x3x2048 .f32) (x8 : Vec Ideal S1x3x4096 .f32) (x9 : Vec Ideal S64x4096 .f32) (x10 : Vec Ideal S1x1x64x32 .f32) (x11 : Vec Ideal S1x1x1x32x64 .f32) (x12 : Vec Ideal S1x1x64x32 .f32) (x13 : Vec Ideal S1x128 .f32) (x14 : Vec Ideal S1x32x128x128 .f32)

/-- The keys' convolution. -/
theorem kc_apply (t : Fin 64) (d : Fin 2048) : kc c arg4 harg4 arg7 harg7 arg10 harg10 arg23 x1 x4 x7 (ix2 t d)
    = Spec.conv (fun j => x4 (ix2 j d)) (fun j => x7 (ix3 0 j d)) (fun u => x1 (ix2 u d)) t := by
  refine (Head.conv2048_apply _ _ _ _ _ _ _ _ t d).trans ?_
  refine taps _ harg7 x4 _ _ _ _ _ _ _ _ _ _ _ _ _ _ _ _ t d ?_ ?_ _ rfl
  · intro u; unfold k0_pay14; pointwise; exact load2 harg4 x1 u d u d (by omega) (by omega)
  · intro j; unfold k0_pay7; pointwise; exact first3 harg10 x7 j d

/-- The queries' convolution. -/
theorem qc_apply (t : Fin 64) (d : Fin 2048) : qc c arg3 harg3 arg6 harg6 arg9 harg9 arg22 x0 x3 x6 (ix2 t d)
    = Spec.conv (fun j => x3 (ix2 j d)) (fun j => x6 (ix3 0 j d)) (fun u => x0 (ix2 u d)) t := by
  refine (Head.conv2048_apply _ _ _ _ _ _ _ _ t d).trans ?_
  refine taps _ harg6 x3 _ _ _ _ _ _ _ _ _ _ _ _ _ _ _ _ t d ?_ ?_ _ rfl
  · intro u; unfold k0_pay10; pointwise; exact load2 harg3 x0 u d u d (by omega) (by omega)
  · intro j; unfold k0_pay5; pointwise; exact first3 harg9 x6 j d

/-- The values' convolution. -/
theorem vc_apply (t : Fin 64) (d : Fin 4096) : vc c arg5 harg5 arg8 harg8 arg11 harg11 arg24 x2 x5 x8 (ix2 t d)
    = Spec.conv (fun j => x5 (ix2 j d)) (fun j => x8 (ix3 0 j d)) (fun u => x2 (ix2 u d)) t := by
  refine (Head.conv4096_apply _ _ _ _ _ _ _ _ t d).trans ?_
  refine taps _ harg8 x5 _ _ _ _ _ _ _ _ _ _ _ _ _ _ _ _ t d ?_ ?_ _ rfl
  · intro u; unfold k0_pay17; pointwise; exact load2 harg5 x2 u d u d (by omega) (by omega)
  · intro j; unfold k0_pay9; pointwise; exact first3 harg11 x8 j d

/-- The log decays down a column and along a row, the step sizes and the norm's weights. -/
theorem gd0_apply (t : Fin 64) (h : Fin 32) : gd0 arg13 harg13 x10 (ix2 t h) = x10 (ix4 0 0 t h) := by
  unfold gd0; pointwise
  rw [Memref.IsWhole.readAt_unread]
  exact congrArg x10 (same4 rfl rfl (show 0 + 1 * t.val = t.val by omega) (show 0 + 1 * h.val = h.val by omega))
theorem be_apply (t : Fin 64) (h : Fin 32) : be arg15 harg15 x12 (ix2 t h) = x12 (ix4 0 0 t h) := by
  unfold be; pointwise
  rw [Memref.IsWhole.readAt_unread]
  exact congrArg x12 (same4 rfl rfl (show 0 + 1 * t.val = t.val by omega) (show 0 + 1 * h.val = h.val by omega))
theorem ga0_apply (h : Fin 32) (t : Fin 64) : ga0 arg14 harg14 x11 (ix2 h t) = x11 (ix5 0 0 0 h t) := by
  unfold ga0; pointwise
  rw [Memref.IsWhole.readAt_unread]
  exact congrArg x11 (same5 rfl rfl rfl (show 0 + 1 * h.val = h.val by omega) (show 0 + 1 * t.val = t.val by omega))
theorem nw_apply (d : Fin 128) : nw arg16 harg16 x13 (ix2 0 d) = x13 (ix2 0 d) := by
  unfold nw; pointwise
  exact load2 harg16 x13 0 d 0 d rfl (by omega)
/-- A head's gate and its state before the step. -/
theorem zs_apply (h : Fin 32) (t : Fin 64) (d : Fin 128) : zs arg12 harg12 x9 h (ix2 t d) = x9 (ix2 t ⟨128 * h.val + d.val, by omega⟩) := by
  unfold zs
  exact load2 harg12 x9 t d t ⟨128 * h.val + d.val, by omega⟩ (by omega) rfl
theorem st_apply (h : Fin 32) (a b : Fin 128) : st c arg17 harg17 arg21 x14 h (ix2 a b) = x14 (ix4 0 h a b) := by
  unfold st
  refine (front_apply _ _ a b).trans ?_
  unfold kernelRun0_A.sl.HS0_1 View.readCov
  rw [View.readAt_writes_junk_eq_canon]
  show View.canon _ ((stateRect h).idx (ix3 0 a b)) = _
  refine Eq.trans (congrArg _ ?_) ((View.canon_cons_emb (Val := Elt Ideal) (e := .f32) (Rect.unit (s := S32x128x128) ![0, 0, 0] S32x128x128.size inb_S32x128x128_S32x128x128_0_0_0) _ _ (ix3 h a b)).trans ?_)
  · exact same3 (show h.val + 1 * 0 = 0 + 1 * h.val by omega) (show 0 + 1 * a.val = 0 + 1 * a.val from rfl) (show 0 + 1 * b.val = 0 + 1 * b.val from rfl)
  · unfold k0_pay3; pointwise
    rw [Memref.IsWhole.readAt_unread]
    exact congrArg x14 (same4 rfl (show 0 + 1 * h.val = h.val by omega) (show 0 + 1 * a.val = a.val by omega) (show 0 + 1 * b.val = b.val by omega))

end Cert.KernelIdeal.Pieces

end
-- ==== Proof.Block.lean ====
/- What the kernel's body leaves in its two results at one step of the grid, entry by entry, as plain formulas of the
   blocks it was given. -/
module

public import proofs.«01_k».proof.Proof.Loads

@[expose] public section

set_option maxRecDepth 16384

noncomputable section

namespace Cert.KernelIdeal.Pieces

open Idealize.ShloMosaic Idealize.ShloMosaic.TcCoe
open Cert.KernelIdeal Cert.KernelIdeal.Gen Cert.Real

section lists
variable (qc kc : FVec Ideal S64x2048 .f32) (vc : FVec Ideal S64x4096 .f32) (gd : FVec Ideal S64x32 .f32) (ga : FVec Ideal S32x64 .f32)
  (beta : FVec Ideal S64x32 .f32) (st : Fin 32 → FVec Ideal S128x128 .f32)

/-- A head's state among the stores of the first n heads: a later head's store leaves it. -/
theorem stateParts_apply (L : List (View.Piece (Elt Ideal) S32x128x128 .f32)) (n : ℕ) (hn : n ≤ 32) (h : Fin 32) (hh : h.val < n) (a b : Fin 128) :
    View.canon (stateParts kc vc gd ga beta st L n hn) (ix3 h a b) = Head.headS kc vc gd ga beta (pair h) (side h) (st h) (ix2 a b) := by
  induction n with
  | zero => omega
  | succ n ih =>
    unfold stateParts
    by_cases e : h.val = n
    · obtain rfl : h = ⟨n, hn⟩ := Fin.ext e
      refine Eq.trans (congrArg _ ?_) ((View.canon_cons_emb (Val := Elt Ideal) (e := .f32) (stateRect ⟨n, hn⟩) _ _ (ix3 0 a b)).trans (back_apply _ _ a b))
      exact same3 (show n = n + 1 * 0 by omega) (show a.val = 0 + 1 * a.val by omega) (show b.val = 0 + 1 * b.val by omega)
    · refine (View.canon_cons_of_not_mem _ _ ?_).trans (ih (by omega) (by omega))
      intro hm
      have : n ≤ h.val := ((Rect.mem_set_unit (s := S32x128x128) (inb := inState ⟨n, hn⟩)).1 hm 0).1
      omega

/-- A head's output among the stores of the first n heads. -/
theorem outParts_apply (nw : FVec Ideal S1x128 .f32) (z : Fin 32 → FVec Ideal S64x128 .f32) (n : ℕ) (hn : n ≤ 32) (h : Fin 32) (hh : h.val < n)
    (t : Fin 64) (d : Fin 128) :
    View.canon (outParts qc kc vc gd ga beta st nw z n hn) (ix2 t ⟨128 * h.val + d.val, by omega⟩)
      = Head.gated (Head.headO qc kc vc gd ga beta (pair h) (side h) (st h)) nw (z h) (ix2 t d) := by
  induction n with
  | zero => omega
  | succ n ih =>
    unfold outParts
    by_cases e : h.val = n
    · obtain rfl : h = ⟨n, hn⟩ := Fin.ext e
      refine Eq.trans (congrArg _ ?_) (View.canon_cons_emb (Val := Elt Ideal) (e := .bf16) (outRect ⟨n, hn⟩) _ _ (ix2 t d))
      exact same2 (show t.val = 0 + 1 * t.val by omega) (show 128 * n + d.val = 128 * n + 1 * d.val by omega)
    · refine (View.canon_cons_of_not_mem _ _ ?_).trans (ih (by omega) (by omega))
      intro hm
      have : 128 * n ≤ 128 * h.val + d.val := ((Rect.mem_set_unit (s := S64x4096) (inb := inOut ⟨n, hn⟩)).1 hm 1).1
      omega
end lists

theorem no_pair (h : Fin 32) : Head.no (pair h) (side h) = h := Fin.ext (show 2 * (h.val / 2) + h.val % 2 = h.val by omega)

/-- A column of the keys or queries, and of the values, that a head reads. -/
abbrev colQk (h : Fin 32) (d : Fin 128) : Fin 2048 := ⟨128 * (h.val / 2) + d.val, by omega⟩
abbrev colV (h : Fin 32) (d : Fin 128) : Fin 4096 := ⟨128 * h.val + d.val, by omega⟩
/-- A head's convolved queries or keys, and values, of one step. -/
def stepQk (x : Vec Ideal S64x2048 .f32) (w : Vec Ideal S4x2048 .f32) (b : Vec Ideal S1x3x2048 .f32) (h : Fin 32) (t : Fin 64) (d : Fin 128) : EReal :=
  Spec.conv (fun j => w (ix2 j (colQk h d))) (fun j => b (ix3 0 j (colQk h d))) (fun u => x (ix2 u (colQk h d))) t
def stepV (x : Vec Ideal S64x4096 .f32) (w : Vec Ideal S4x4096 .f32) (b : Vec Ideal S1x3x4096 .f32) (h : Fin 32) (t : Fin 64) (d : Fin 128) : EReal :=
  Spec.conv (fun j => w (ix2 j (colV h d))) (fun j => b (ix3 0 j (colV h d))) (fun u => x (ix2 u (colV h d))) t

theorem whole_apply (X : Vec Ideal S32x128x128 .f32) (hc) (h : Fin 32) (a b : Fin 128) : shapeCast S1x32x128x128 X hc (ix4 0 h a b) = X (ix3 h a b) := by
  pointwise

variable (c : Dev nD) (i : grid0.Coords) (arg3 : Memref sig .tc .vmem S64x2048 .f32) (harg3 : arg3.IsWhole) (arg4 : Memref sig .tc .vmem S64x2048 .f32) (harg4 : arg4.IsWhole) (arg5 : Memref sig .tc .vmem S64x4096 .f32) (harg5 : arg5.IsWhole) (arg6 : Memref sig .tc .vmem S4x2048 .f32) (harg6 : arg6.IsWhole) (arg7 : Memref sig .tc .vmem S4x2048 .f32) (harg7 : arg7.IsWhole) (arg8 : Memref sig .tc .vmem S4x4096 .f32) (harg8 : arg8.IsWhole) (arg9 : Memref sig .tc .vmem S1x3x2048 .f32) (harg9 : arg9.IsWhole) (arg10 : Memref sig .tc .vmem S1x3x2048 .f32) (harg10 : arg10.IsWhole) (arg11 : Memref sig .tc .vmem S1x3x4096 .f32) (harg11 : arg11.IsWhole) (arg12 : Memref sig .tc .vmem S64x4096 .f32) (harg12 : arg12.IsWhole) (arg13 : Memref sig .tc .vmem S1x1x64x32 .f32) (harg13 : arg13.IsWhole) (arg14 : Memref sig .tc .vmem S1x1x1x32x64 .f32) (harg14 : arg14.IsWhole) (arg15 : Memref sig .tc .vmem S1x1x64x32 .f32) (harg15 : arg15.IsWhole) (arg16 : Memref sig .tc .vmem S1x128 .f32) (harg16 : arg16.IsWhole) (arg17 : Memref sig .tc .vmem S1x32x128x128 .f32) (harg17 : arg17.IsWhole) (arg19 : Memref sig .tc .vmem S64x4096 .bf16) (harg19 : arg19.IsWhole) (arg20 : Memref sig .tc .vmem S1x32x128x128 .f32) (harg20 : arg20.IsWhole) (arg21 : Memref sig .tc .vmem S32x128x128 .f32) (harg21 : arg21.IsWhole) (arg22 : Memref sig .tc .vmem S72x2048 .f32) (harg22 : arg22.IsWhole) (arg23 : Memref sig .tc .vmem S72x2048 .f32) (harg23 : arg23.IsWhole) (arg24 : Memref sig .tc .vmem S72x4096 .f32) (harg24 : arg24.IsWhole) (hc0 : cond0_0 i) (hc1 : cond0_1 i)
    (x0 : Vec Ideal S64x2048 .f32) (x1 : Vec Ideal S64x2048 .f32) (x2 : Vec Ideal S64x4096 .f32) (x3 : Vec Ideal S4x2048 .f32) (x4 : Vec Ideal S4x2048 .f32) (x5 : Vec Ideal S4x4096 .f32) (x6 : Vec Ideal S1x3x2048 .f32) (x7 : Vec Ideal S1x3x2048 .f32) (x8 : Vec Ideal S1x3x4096 .f32) (x9 : Vec Ideal S64x4096 .f32) (x10 : Vec Ideal S1x1x64x32 .f32) (x11 : Vec Ideal S1x1x1x32x64 .f32) (x12 : Vec Ideal S1x1x64x32 .f32) (x13 : Vec Ideal S1x128 .f32) (x14 : Vec Ideal S1x32x128x128 .f32)

variable (hx1 : ∀ t d, IsR (x1 (ix2 t d))) (hx2 : ∀ t d, IsR (x2 (ix2 t d))) (hx4 : ∀ t d, IsR (x4 (ix2 t d))) (hx5 : ∀ t d, IsR (x5 (ix2 t d)))
  (hx7 : ∀ j d, IsR (x7 (ix3 0 j d))) (hx8 : ∀ j d, IsR (x8 (ix3 0 j d))) (hx10 : ∀ t h, IsR (x10 (ix4 0 0 t h)))
  (hx12 : ∀ t h, IsR (x12 (ix4 0 0 t h))) (h11 : ∀ t h, x11 (ix5 0 0 0 h t) = x10 (ix4 0 0 t h))

include hx10 h11 in
theorem gates : Head.Gates (Head.sumDown (gd0 arg13 harg13 x10)) (Head.sumAlong (ga0 arg14 harg14 x11)) (fun h t => x10 (ix4 0 0 t h)) where
  down t h := by
    refine (Head.sumDown_apply _ (fun t h => ?_) t h).trans (congrArg (Spec.cum · t) (funext fun u => gd0_apply arg13 harg13 x10 u h))
    exact (congrArg IsR (gd0_apply arg13 harg13 x10 t h)).mpr (hx10 t h)
  along t h := by
    refine (Head.sumAlong_apply _ (fun h t => ?_) t h).trans (congrArg (Spec.cum · t) (funext fun u => (ga0_apply arg14 harg14 x11 h u).trans (h11 u h)))
    exact (congrArg IsR ((ga0_apply arg14 harg14 x11 h t).trans (h11 t h))).mpr (hx10 t h)

include hx1 hx4 hx7 in
theorem kc_real (t : Fin 64) (d : Fin 2048) : IsR (kc c arg4 harg4 arg7 harg7 arg10 harg10 arg23 x1 x4 x7 (ix2 t d)) :=
  (congrArg IsR (kc_apply c arg4 harg4 arg7 harg7 arg10 harg10 arg23 x1 x4 x7 t d)).mpr
    (Spec.conv_real (fun j => hx4 j d) (fun j => hx7 j d) (fun u => hx1 u d) t)
include hx2 hx5 hx8 in
theorem vc_real (t : Fin 64) (d : Fin 4096) : IsR (vc c arg5 harg5 arg8 harg8 arg11 harg11 arg24 x2 x5 x8 (ix2 t d)) :=
  (congrArg IsR (vc_apply c arg5 harg5 arg8 harg8 arg11 harg11 arg24 x2 x5 x8 t d)).mpr
    (Spec.conv_real (fun j => hx5 j d) (fun j => hx8 j d) (fun u => hx2 u d) t)

theorem rows_q (h : Fin 32) : Head.rowsQk (qc c arg3 harg3 arg6 harg6 arg9 harg9 arg22 x0 x3 x6) (pair h) = stepQk x0 x3 x6 h :=
  funext fun t => funext fun d => qc_apply c arg3 harg3 arg6 harg6 arg9 harg9 arg22 x0 x3 x6 t (colQk h d)
theorem rows_k (h : Fin 32) : Head.rowsQk (kc c arg4 harg4 arg7 harg7 arg10 harg10 arg23 x1 x4 x7) (pair h) = stepQk x1 x4 x7 h :=
  funext fun t => funext fun d => kc_apply c arg4 harg4 arg7 harg7 arg10 harg10 arg23 x1 x4 x7 t (colQk h d)
theorem rows_v (h : Fin 32) : Head.rowsV (vc c arg5 harg5 arg8 harg8 arg11 harg11 arg24 x2 x5 x8) (pair h) (side h) = stepV x2 x5 x8 h :=
  funext fun t => funext fun d => (vc_apply c arg5 harg5 arg8 harg8 arg11 harg11 arg24 x2 x5 x8 t _).trans (by
    have e : (⟨128 * (2 * (pair h).val + (side h).val) + d.val, by have := (pair h).isLt; have := (side h).isLt; omega⟩ : Fin 4096) = colV h d :=
      Fin.ext (show 128 * (2 * (h.val / 2) + h.val % 2) + d.val = 128 * h.val + d.val by omega)
    rw [e]; rfl)
theorem gate_be (h : Fin 32) : Head.gate (be arg15 harg15 x12) (pair h) (side h) = fun t => x12 (ix4 0 0 t h) :=
  funext fun t => by unfold Head.gate; rw [no_pair]; exact be_apply arg15 harg15 x12 t h

include hx1 hx2 hx4 hx5 hx7 hx8 hx10 hx12 h11 in
/-- The state of a head after the step. -/
theorem state_apply (h : Fin 32) (a b : Fin 128) :
    View.canon (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 x9 x10 x11 x12 x13 x14).2.1 (ix4 0 h a b)
      = Spec.headS (stepQk x1 x4 x7 h) (stepV x2 x5 x8 h) (fun t => x12 (ix4 0 0 t h)) (fun t => x10 (ix4 0 0 t h)) (fun p q => x14 (ix4 0 h p q)) a b := by
  rw [state_result, state_parts]
  refine Eq.trans (congrArg _ ?_) ((View.canon_cons_emb (Val := Elt Ideal) (e := .f32) (Rect.unit (s := S1x32x128x128) ![0, 0, 0, 0] S1x32x128x128.size inb_S1x32x128x128_S1x32x128x128_0_0_0_0) _ _ (ix4 0 h a b)).trans ?_)
  · exact same4 rfl (show h.val = 0 + 1 * h.val by omega) (show a.val = 0 + 1 * a.val by omega) (show b.val = 0 + 1 * b.val by omega)
  refine (whole_apply _ _ h a b).trans ?_
  unfold View.readCov
  rw [View.readAt_writes_junk_eq_canon]
  show View.canon _ ((Rect.unit (s := S32x128x128) ![0, 0, 0] S32x128x128.size inb_S32x128x128_S32x128x128_0_0_0).idx (ix3 h a b)) = _
  refine Eq.trans (congrArg _ ?_) ((stateParts_apply _ _ _ _ _ _ _ 32 le_rfl h h.isLt a b).trans ?_)
  · exact same3 (show 0 + 1 * h.val = h.val by omega) (show 0 + 1 * a.val = a.val by omega) (show 0 + 1 * b.val = b.val by omega)
  refine (Head.headS_apply (gates arg13 harg13 arg14 harg14 x10 x11 hx10 h11)
    (kc_real c arg4 harg4 arg7 harg7 arg10 harg10 arg23 x1 x4 x7 hx1 hx4 hx7) (vc_real c arg5 harg5 arg8 harg8 arg11 harg11 arg24 x2 x5 x8 hx2 hx5 hx8)
    (fun t h => (congrArg IsR (be_apply arg15 harg15 x12 t h)).mpr (hx12 t h)) (fun h t => hx10 t h) (pair h) (side h) _ a b).trans ?_
  rw [rows_k, rows_v, gate_be, no_pair]
  congr 1
  exact funext fun p => funext fun q => st_apply c arg17 harg17 arg21 x14 h p q

include hx1 hx2 hx4 hx5 hx7 hx8 hx10 hx12 h11 in
/-- The output of a head at the step. -/
theorem out_apply (h : Fin 32) (t : Fin 64) (d : Fin 128) :
    View.canon (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 x9 x10 x11 x12 x13 x14).1 (ix2 t (colV h d))
      = Spec.gated (Spec.headO (stepQk x0 x3 x6 h) (stepQk x1 x4 x7 h) (stepV x2 x5 x8 h) (fun t => x12 (ix4 0 0 t h)) (fun t => x10 (ix4 0 0 t h)) (fun p q => x14 (ix4 0 h p q)))
          (fun e => x13 (ix2 0 e)) (fun t e => x9 (ix2 t (colV h e))) t d := by
  rw [out_parts]
  refine (outParts_apply _ _ _ _ _ _ _ _ _ 32 le_rfl h h.isLt t d).trans ?_
  refine (Head.gated_apply _ _ _ t d).trans ?_
  have e1 : (fun (t : Fin 64) (e : Fin 128) => zs arg12 harg12 x9 h (ix2 t e)) = fun t e => x9 (ix2 t (colV h e)) := funext fun t => funext fun e => zs_apply arg12 harg12 x9 h t e
  have e2 : (fun e : Fin 128 => nw arg16 harg16 x13 (ix2 0 e)) = fun e => x13 (ix2 0 e) := funext fun e => nw_apply arg16 harg16 x13 e
  rw [e1, e2]
  congr 1
  funext t e
  refine (Head.headO_apply (gates arg13 harg13 arg14 harg14 x10 x11 hx10 h11)
    (kc_real c arg4 harg4 arg7 harg7 arg10 harg10 arg23 x1 x4 x7 hx1 hx4 hx7) (vc_real c arg5 harg5 arg8 harg8 arg11 harg11 arg24 x2 x5 x8 hx2 hx5 hx8)
    (fun t h => (congrArg IsR (be_apply arg15 harg15 x12 t h)).mpr (hx12 t h)) (fun h t => hx10 t h) (pair h) (side h) _ t e).trans ?_
  rw [rows_q, rows_k, rows_v, gate_be, no_pair]
  congr 1
  exact funext fun p => funext fun q => st_apply c arg17 harg17 arg21 x14 h p q

end Cert.KernelIdeal.Pieces

end
-- ==== Proof.HostIdeal.lean ====
/- What the host code before the kernel's call prepares: the step sizes, the log decays (twice) and the norm's weights. -/
module

public import proofs.«01_k».proof.Proof.Gen.KernelIdeal.Frame
public import proofs.«01_k».proof.Proof.Spec
public import Idealize.ShloMosaic.Lib.StableHlo.RunRead
public import Idealize.ShloMosaic.Lib.Pointwise
public import Idealize.ShloMosaic.Lib.Pointwise.Tactic

@[expose] public section

set_option maxRecDepth 16384

noncomputable section

namespace Cert.KernelIdeal.HostCode

open Idealize.ShloMosaic Idealize.ShloMosaic.TcCoe
open Cert.KernelIdeal Cert.KernelIdeal.Gen Cert.Real

variable (m : (ℓ : Loc nD τ sig) → Buf (Elt Ideal) ℓ) (c : Dev nD)

/-- The arguments as launched. -/
abbrev a0 : FVec Ideal S8704x4096 .f32 := m ((c : Thread nD τ).loc main_arg0)
abbrev a1 : FVec Ideal S8704x4096 .f32 := m ((c : Thread nD τ).loc main_arg1)
abbrev a2 : FVec Ideal S8704x4096 .f32 := m ((c : Thread nD τ).loc main_arg2)
abbrev a3 : FVec Ideal S4x8192 .f32 := m ((c : Thread nD τ).loc main_arg3)
abbrev a4 : FVec Ideal S8x3x8192 .f32 := m ((c : Thread nD τ).loc main_arg4)
abbrev a5 : FVec Ideal S8x64x32 .f32 := m ((c : Thread nD τ).loc main_arg5)
abbrev a6 : FVec Ideal S8x64x32 .f32 := m ((c : Thread nD τ).loc main_arg6)
abbrev a7 : FVec Ideal S32 .f32 := m ((c : Thread nD τ).loc main_arg7)
abbrev a8 : FVec Ideal S32 .f32 := m ((c : Thread nD τ).loc main_arg8)
abbrev a9 : FVec Ideal S128 .f32 := m ((c : Thread nD τ).loc main_arg9)
abbrev a10 : FVec Ideal S8x32x128x128 .f32 := m ((c : Thread nD τ).loc main_arg10)

/-- The softplus of the host code. -/
def softplus (x : FVec Ideal S8x64x32 .f32) : FVec Ideal S8x64x32 .f32 :=
  have Z : FVec Ideal S8x64x32 .f32 := broadcastInDim S8x64x32 ![] bcast_S_S8x64x32 (constant S_ .f32 0x00000000#32)
  select (cmpf .une (subf x Z) (subf x Z)) (addf x Z)
    (addf (maximumf x Z) (Host.log1p (Host.exp (Host.negf (Host.absf (subf x Z))))) : FVec Ideal S8x64x32 .f32)

theorem softplus_apply (x : FVec Ideal S8x64x32 .f32) (b : Fin 8) (t : Fin 64) (h : Fin 32) : softplus x (ix3 b t h) = Spec.softplus (x (ix3 b t h)) := by
  unfold softplus
  pointwise
  rw [if_neg (fun h => h rfl)]
  rfl

/-- The log decays of the host code. -/
def gVec : FVec Ideal S8x64x32 .f32 :=
  mulf (broadcastInDim S8x64x32 ![0, 1, 2] bcast_S1x1x32_S8x64x32_0_1_2 (broadcastInDim S1x1x32 ![2] bcast_S32_S1x1x32_2 (Host.negf (Host.exp (a7 m c)))))
      (softplus (addf (a6 m c) (broadcastInDim S8x64x32 ![0, 1, 2] bcast_S1x1x32_S8x64x32_0_1_2
                            (broadcastInDim S1x1x32 ![2] bcast_S32_S1x1x32_2 (a8 m c)))))
theorem gVec_apply (b : Fin 8) (t : Fin 64) (h : Fin 32) : gVec m c (ix3 b t h)
    = -Ideal.exp (a7 m c (ix1 h)) * Spec.softplus (a6 m c (ix3 b t h) + a8 m c (ix1 h)) := by
  unfold gVec
  pointwise
  rw [softplus_apply]
  pointwise

theorem v18 (b : Fin 8) (t : Fin 64) (h : Fin 32) : (V m c main_v18 : FVec Ideal S8x1x64x32 .f32) (ix4 b 0 t h) = Ideal.div 1 (1 + Ideal.exp (-(a5 m c (ix3 b t h)))) := by
  unfold V
  after_reads_simp
  pointwise
theorem v16 (b : Fin 8) (t : Fin 64) (h : Fin 32) : (V m c main_v16 : FVec Ideal S8x1x64x32 .f32) (ix4 b 0 t h) = gVec m c (ix3 b t h) := by
  have e : V m c main_v14 = gVec m c := by
    unfold V
    after_reads_simp
    rfl
  rw [← e]
  unfold V
  after_reads_simp
  pointwise
theorem v20 (b : Fin 8) (t : Fin 64) (h : Fin 32) : (V m c main_v20 : FVec Ideal S8x1x1x32x64 .f32) (ix5 b 0 0 h t) = (V m c main_v16 : FVec Ideal S8x1x64x32 .f32) (ix4 b 0 t h) := by
  unfold V
  after_reads_simp
  pointwise
theorem v21 (e : Fin 128) : (V m c main_v21 : FVec Ideal S1x128 .f32) (ix2 0 e) = a9 m c (ix1 e) := by
  unfold V
  after_reads_simp
  pointwise
theorem v22 : V m c main_v22_0 = m ((c : Thread nD τ).loc main_arg11) := by
  unfold V
  after_reads_simp
  rfl
end Cert.KernelIdeal.HostCode

end
-- ==== Proof.Streams.lean ====
/- What the layer computes for the eight sample streams, entry by entry, from its arguments: the next states and the rows of
   the output. The kernel's results and the reference's results are both shown to be these. -/
module

public import proofs.«01_k».proof.Proof.Spec
public import Idealize.ShloMosaic.Lib.Pointwise

@[expose] public section

noncomputable section

namespace Cert.Streams

open Idealize.ShloMosaic Cert.Real

/-- The arguments. -/
structure In where
  qk : (⟨2, ![8704, 4096]⟩ : Shape).Idx → EReal
  v : (⟨2, ![8704, 4096]⟩ : Shape).Idx → EReal
  z : (⟨2, ![8704, 4096]⟩ : Shape).Idx → EReal
  w : (⟨2, ![4, 8192]⟩ : Shape).Idx → EReal
  past : (⟨3, ![8, 3, 8192]⟩ : Shape).Idx → EReal
  braw : (⟨3, ![8, 64, 32]⟩ : Shape).Idx → EReal
  araw : (⟨3, ![8, 64, 32]⟩ : Shape).Idx → EReal
  alog : (⟨1, ![32]⟩ : Shape).Idx → EReal
  dt : (⟨1, ![32]⟩ : Shape).Idx → EReal
  nw : (⟨1, ![128]⟩ : Shape).Idx → EReal
  s0 : (⟨4, ![8, 32, 128, 128]⟩ : Shape).Idx → EReal

/-- Row t of stream b among all rows. -/
abbrev row (b : Fin 8) (t : Fin 64) : Fin 8704 := ⟨8192 + 64 * b.val + t.val, by omega⟩
/-- A head's columns of the queries, keys and values among the 8192 convolved columns. -/
abbrev qCol (h : Fin 32) (d : Fin 128) : Fin 8192 := ⟨128 * (h.val / 2) + d.val, by omega⟩
abbrev kCol (h : Fin 32) (d : Fin 128) : Fin 8192 := ⟨2048 + (128 * (h.val / 2) + d.val), by omega⟩
abbrev vCol (h : Fin 32) (d : Fin 128) : Fin 8192 := ⟨4096 + (128 * h.val + d.val), by omega⟩

variable (I : In)

/-- A head's convolved queries, keys and values. -/
def q (b : Fin 8) (h : Fin 32) (t : Fin 64) (d : Fin 128) : EReal :=
  Spec.conv (fun j => I.w (ix2 j (qCol h d))) (fun j => I.past (ix3 b j (qCol h d))) (fun u => I.qk (ix2 (row b u) ⟨128 * (h.val / 2) + d.val, by omega⟩)) t
def k (b : Fin 8) (h : Fin 32) (t : Fin 64) (d : Fin 128) : EReal :=
  Spec.conv (fun j => I.w (ix2 j (kCol h d))) (fun j => I.past (ix3 b j (kCol h d))) (fun u => I.qk (ix2 (row b u) ⟨2048 + (128 * (h.val / 2) + d.val), by omega⟩)) t
def v (b : Fin 8) (h : Fin 32) (t : Fin 64) (d : Fin 128) : EReal :=
  Spec.conv (fun j => I.w (ix2 j (vCol h d))) (fun j => I.past (ix3 b j (vCol h d))) (fun u => I.v (ix2 (row b u) ⟨128 * h.val + d.val, by omega⟩)) t
/-- Its step sizes and log decays. -/
def beta (b : Fin 8) (h : Fin 32) (t : Fin 64) : EReal := Ideal.div 1 (1 + Ideal.exp (-(I.braw (ix3 b t h))))
def g (b : Fin 8) (h : Fin 32) (t : Fin 64) : EReal := -Ideal.exp (I.alog (ix1 h)) * Spec.softplus (I.araw (ix3 b t h) + I.dt (ix1 h))
/-- Its state before the step. -/
def s (b : Fin 8) (h : Fin 32) (a e : Fin 128) : EReal := I.s0 (ix4 b h a e)

/-- Its next state. -/
def S (b : Fin 8) (h : Fin 32) (a e : Fin 128) : EReal := Spec.headS (k I b h) (v I b h) (beta I b h) (g I b h) (s I b h) a e
/-- Its part of the stream's output. -/
def O (b : Fin 8) (h : Fin 32) (t : Fin 64) (d : Fin 128) : EReal :=
  Spec.gated (Spec.headO (q I b h) (k I b h) (v I b h) (beta I b h) (g I b h) (s I b h)) (fun e => I.nw (ix1 e))
    (fun t e => I.z (ix2 (row b t) ⟨128 * h.val + e.val, by omega⟩)) t d

/-- Every argument that the system is built from is real. -/
structure Finite : Prop where
  qk : ∀ i, IsR (I.qk i)
  v : ∀ i, IsR (I.v i)
  w : ∀ i, IsR (I.w i)
  past : ∀ i, IsR (I.past i)
  araw : ∀ i, IsR (I.araw i)
  alog : ∀ i, IsR (I.alog i)
  dt : ∀ i, IsR (I.dt i)

variable {I}

theorem k_real (H : Finite I) (b : Fin 8) (h : Fin 32) (t : Fin 64) (d : Fin 128) : IsR (k I b h t d) :=
  Spec.conv_real (fun _ => H.w _) (fun _ => H.past _) (fun _ => H.qk _) t
theorem v_real (H : Finite I) (b : Fin 8) (h : Fin 32) (t : Fin 64) (d : Fin 128) : IsR (v I b h t d) :=
  Spec.conv_real (fun _ => H.w _) (fun _ => H.past _) (fun _ => H.v _) t
theorem beta_real (b : Fin 8) (h : Fin 32) (t : Fin 64) : IsR (beta I b h t) := IsR.logistic _
theorem g_real (H : Finite I) (b : Fin 8) (h : Fin 32) (t : Fin 64) : IsR (g I b h t) :=
  (H.alog _).exp.neg.mul (Spec.softplus_real ((H.araw _).add (H.dt _)))

end Cert.Streams

end
-- ==== Proof.KernelRun.lean ====
/- The kernel's run: what its two result arrays hold after it. -/
module

public import proofs.«01_k».proof.Proof.Block
public import proofs.«01_k».proof.Proof.HostIdeal
public import proofs.«01_k».proof.Proof.Streams
public import proofs.«01_k».proof.Proof.Gen.KernelIdeal.Value

@[expose] public section

set_option maxRecDepth 16384

noncomputable section

namespace Cert.KernelIdeal.Results

open Idealize.ShloMosaic Idealize.ShloMosaic.TcCoe
open Cert.KernelIdeal Cert.KernelIdeal.Gen Cert.Real Cert.KernelIdeal.HostCode Cert.KernelIdeal.Pieces

variable (m : (ℓ : Loc nD τ sig) → Buf (Elt Ideal) ℓ) (c : Dev nD)

/-- The kernel's arguments. -/
def args : Streams.In where
  qk := a0 m c
  v := a1 m c
  z := a2 m c
  w := a3 m c
  past := a4 m c
  braw := a5 m c
  araw := a6 m c
  alog := a7 m c
  dt := a8 m c
  nw := a9 m c
  s0 := a10 m c

/-- The stream of a point of the grid. -/
abbrev strm (t : Fin cfg0.N) : Fin 8 := ⟨t.val, t.isLt⟩

/-! ### The blocks of the arguments -/

theorem ix_0 : ∀ t : Fin cfg0.N, win0_0.index t 0 = 128 + t.val ∧ win0_0.index t 1 = 0 :=
  (by decide +kernel : ∀ t : Fin grid0.N, win0_0.index t 0 = 128 + t.val ∧ win0_0.index t 1 = 0)
theorem blk_0 (t : Fin cfg0.N) (u : Fin 64) (d : Fin 2048) : (iblk m c 0 t : FVec Ideal S64x2048 .f32) (ix2 u d) = a0 m c (ix2 (Streams.row (strm t) u) ⟨d.val, by omega⟩) := by
  unfold iblk
  rw [View.read_apply]
  show V m c main_arg0 _ = _
  rw [V_main_arg0]
  refine congrArg (a0 m c) (same2 ?_ ?_)
  · show win0_0.index t 0 * 64 + 1 * u.val = 8192 + 64 * t.val + u.val; rw [(ix_0 t).1]; omega
  · show win0_0.index t 1 * 2048 + 1 * d.val = d.val; rw [(ix_0 t).2]; omega
theorem ix_1 : ∀ t : Fin cfg0.N, win0_1.index t 0 = 128 + t.val ∧ win0_1.index t 1 = 1 :=
  (by decide +kernel : ∀ t : Fin grid0.N, win0_1.index t 0 = 128 + t.val ∧ win0_1.index t 1 = 1)
theorem blk_1 (t : Fin cfg0.N) (u : Fin 64) (d : Fin 2048) : (iblk m c 1 t : FVec Ideal S64x2048 .f32) (ix2 u d) = a0 m c (ix2 (Streams.row (strm t) u) ⟨2048 + d.val, by omega⟩) := by
  unfold iblk
  rw [View.read_apply]
  show V m c main_arg0 _ = _
  rw [V_main_arg0]
  refine congrArg (a0 m c) (same2 ?_ ?_)
  · show win0_1.index t 0 * 64 + 1 * u.val = 8192 + 64 * t.val + u.val; rw [(ix_1 t).1]; omega
  · show win0_1.index t 1 * 2048 + 1 * d.val = 2048 + d.val; rw [(ix_1 t).2]; omega
theorem ix_2 : ∀ t : Fin cfg0.N, win0_2.index t 0 = 128 + t.val ∧ win0_2.index t 1 = 0 :=
  (by decide +kernel : ∀ t : Fin grid0.N, win0_2.index t 0 = 128 + t.val ∧ win0_2.index t 1 = 0)
theorem blk_2 (t : Fin cfg0.N) (u : Fin 64) (d : Fin 4096) : (iblk m c 2 t : FVec Ideal S64x4096 .f32) (ix2 u d) = a1 m c (ix2 (Streams.row (strm t) u) ⟨d.val, by omega⟩) := by
  unfold iblk
  rw [View.read_apply]
  show V m c main_arg1 _ = _
  rw [V_main_arg1]
  refine congrArg (a1 m c) (same2 ?_ ?_)
  · show win0_2.index t 0 * 64 + 1 * u.val = 8192 + 64 * t.val + u.val; rw [(ix_2 t).1]; omega
  · show win0_2.index t 1 * 4096 + 1 * d.val = d.val; rw [(ix_2 t).2]; omega
theorem ix_3 : ∀ t : Fin cfg0.N, win0_3.index t 0 = 0 ∧ win0_3.index t 1 = 0 :=
  (by decide +kernel : ∀ t : Fin grid0.N, win0_3.index t 0 = 0 ∧ win0_3.index t 1 = 0)
theorem blk_3 (t : Fin cfg0.N) (j : Fin 4) (d : Fin 2048) : (iblk m c 3 t : FVec Ideal S4x2048 .f32) (ix2 j d) = a3 m c (ix2 j ⟨d.val, by omega⟩) := by
  unfold iblk
  rw [View.read_apply]
  show V m c main_arg3 _ = _
  rw [V_main_arg3]
  refine congrArg (a3 m c) (same2 ?_ ?_)
  · show win0_3.index t 0 * 4 + 1 * j.val = j.val; rw [(ix_3 t).1]; omega
  · show win0_3.index t 1 * 2048 + 1 * d.val = d.val; rw [(ix_3 t).2]; omega
theorem ix_4 : ∀ t : Fin cfg0.N, win0_4.index t 0 = 0 ∧ win0_4.index t 1 = 1 :=
  (by decide +kernel : ∀ t : Fin grid0.N, win0_4.index t 0 = 0 ∧ win0_4.index t 1 = 1)
theorem blk_4 (t : Fin cfg0.N) (j : Fin 4) (d : Fin 2048) : (iblk m c 4 t : FVec Ideal S4x2048 .f32) (ix2 j d) = a3 m c (ix2 j ⟨2048 + d.val, by omega⟩) := by
  unfold iblk
  rw [View.read_apply]
  show V m c main_arg3 _ = _
  rw [V_main_arg3]
  refine congrArg (a3 m c) (same2 ?_ ?_)
  · show win0_4.index t 0 * 4 + 1 * j.val = j.val; rw [(ix_4 t).1]; omega
  · show win0_4.index t 1 * 2048 + 1 * d.val = 2048 + d.val; rw [(ix_4 t).2]; omega
theorem ix_5 : ∀ t : Fin cfg0.N, win0_5.index t 0 = 0 ∧ win0_5.index t 1 = 1 :=
  (by decide +kernel : ∀ t : Fin grid0.N, win0_5.index t 0 = 0 ∧ win0_5.index t 1 = 1)
theorem blk_5 (t : Fin cfg0.N) (j : Fin 4) (d : Fin 4096) : (iblk m c 5 t : FVec Ideal S4x4096 .f32) (ix2 j d) = a3 m c (ix2 j ⟨4096 + d.val, by omega⟩) := by
  unfold iblk
  rw [View.read_apply]
  show V m c main_arg3 _ = _
  rw [V_main_arg3]
  refine congrArg (a3 m c) (same2 ?_ ?_)
  · show win0_5.index t 0 * 4 + 1 * j.val = j.val; rw [(ix_5 t).1]; omega
  · show win0_5.index t 1 * 4096 + 1 * d.val = 4096 + d.val; rw [(ix_5 t).2]; omega
theorem ix_6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem blk_6 (t : Fin cfg0.N) (j : Fin 3) (d : Fin 2048) : (iblk m c 6 t : FVec Ideal S1x3x2048 .f32) (ix3 0 j d) = a4 m c (ix3 (strm t) j ⟨d.val, by omega⟩) := by
  unfold iblk
  rw [View.read_apply]
  show V m c main_arg4 _ = _
  rw [V_main_arg4]
  refine congrArg (a4 m c) (same3 ?_ ?_ ?_)
  · show win0_6.index t 0 * 1 + 1 * 0 = t.val; rw [(ix_6 t).1]; omega
  · show win0_6.index t 1 * 3 + 1 * j.val = j.val; rw [(ix_6 t).2.1]; omega
  · show win0_6.index t 2 * 2048 + 1 * d.val = d.val; rw [(ix_6 t).2.2]; omega
theorem ix_7 : ∀ t : Fin cfg0.N, win0_7.index t 0 = t.val ∧ win0_7.index t 1 = 0 ∧ win0_7.index t 2 = 1 :=
  (by decide +kernel : ∀ t : Fin grid0.N, win0_7.index t 0 = t.val ∧ win0_7.index t 1 = 0 ∧ win0_7.index t 2 = 1)
theorem blk_7 (t : Fin cfg0.N) (j : Fin 3) (d : Fin 2048) : (iblk m c 7 t : FVec Ideal S1x3x2048 .f32) (ix3 0 j d) = a4 m c (ix3 (strm t) j ⟨2048 + d.val, by omega⟩) := by
  unfold iblk
  rw [View.read_apply]
  show V m c main_arg4 _ = _
  rw [V_main_arg4]
  refine congrArg (a4 m c) (same3 ?_ ?_ ?_)
  · show win0_7.index t 0 * 1 + 1 * 0 = t.val; rw [(ix_7 t).1]; omega
  · show win0_7.index t 1 * 3 + 1 * j.val = j.val; rw [(ix_7 t).2.1]; omega
  · show win0_7.index t 2 * 2048 + 1 * d.val = 2048 + d.val; rw [(ix_7 t).2.2]; omega
theorem ix_8 : ∀ t : Fin cfg0.N, win0_8.index t 0 = t.val ∧ win0_8.index t 1 = 0 ∧ win0_8.index t 2 = 1 :=
  (by decide +kernel : ∀ t : Fin grid0.N, win0_8.index t 0 = t.val ∧ win0_8.index t 1 = 0 ∧ win0_8.index t 2 = 1)
theorem blk_8 (t : Fin cfg0.N) (j : Fin 3) (d : Fin 4096) : (iblk m c 8 t : FVec Ideal S1x3x4096 .f32) (ix3 0 j d) = a4 m c (ix3 (strm t) j ⟨4096 + d.val, by omega⟩) := by
  unfold iblk
  rw [View.read_apply]
  show V m c main_arg4 _ = _
  rw [V_main_arg4]
  refine congrArg (a4 m c) (same3 ?_ ?_ ?_)
  · show win0_8.index t 0 * 1 + 1 * 0 = t.val; rw [(ix_8 t).1]; omega
  · show win0_8.index t 1 * 3 + 1 * j.val = j.val; rw [(ix_8 t).2.1]; omega
  · show win0_8.index t 2 * 4096 + 1 * d.val = 4096 + d.val; rw [(ix_8 t).2.2]; omega
theorem ix_9 : ∀ t : Fin cfg0.N, win0_9.index t 0 = 128 + t.val ∧ win0_9.index t 1 = 0 :=
  (by decide +kernel : ∀ t : Fin grid0.N, win0_9.index t 0 = 128 + t.val ∧ win0_9.index t 1 = 0)
theorem blk_9 (t : Fin cfg0.N) (u : Fin 64) (d : Fin 4096) : (iblk m c 9 t : FVec Ideal S64x4096 .f32) (ix2 u d) = a2 m c (ix2 (Streams.row (strm t) u) ⟨d.val, by omega⟩) := by
  unfold iblk
  rw [View.read_apply]
  show V m c main_arg2 _ = _
  rw [V_main_arg2]
  refine congrArg (a2 m c) (same2 ?_ ?_)
  · show win0_9.index t 0 * 64 + 1 * u.val = 8192 + 64 * t.val + u.val; rw [(ix_9 t).1]; omega
  · show win0_9.index t 1 * 4096 + 1 * d.val = d.val; rw [(ix_9 t).2]; omega
theorem ix_10 : ∀ t : Fin cfg0.N, win0_10.index t 0 = t.val ∧ win0_10.index t 1 = 0 ∧ win0_10.index t 2 = 0 ∧ win0_10.index t 3 = 0 :=
  (by decide +kernel : ∀ t : Fin grid0.N, win0_10.index t 0 = t.val ∧ win0_10.index t 1 = 0 ∧ win0_10.index t 2 = 0 ∧ win0_10.index t 3 = 0)
theorem blk_10 (t : Fin cfg0.N) (u : Fin 64) (h : Fin 32) : (iblk m c 10 t : FVec Ideal S1x1x64x32 .f32) (ix4 0 0 u h) = (V m c main_v16 : FVec Ideal S8x1x64x32 .f32) (ix4 (strm t) 0 u h) := by
  unfold iblk
  rw [View.read_apply]
  show V m c main_v16 _ = _
  refine congrArg (V m c main_v16 : FVec Ideal S8x1x64x32 .f32) (same4 ?_ ?_ ?_ ?_)
  · show win0_10.index t 0 * 1 + 1 * 0 = t.val; rw [(ix_10 t).1]; omega
  · show win0_10.index t 1 * 1 + 1 * 0 = 0; rw [(ix_10 t).2.1]
  · show win0_10.index t 2 * 64 + 1 * u.val = u.val; rw [(ix_10 t).2.2.1]; omega
  · show win0_10.index t 3 * 32 + 1 * h.val = h.val; rw [(ix_10 t).2.2.2]; omega
theorem ix_12 : ∀ t : Fin cfg0.N, win0_12.index t 0 = t.val ∧ win0_12.index t 1 = 0 ∧ win0_12.index t 2 = 0 ∧ win0_12.index t 3 = 0 :=
  (by decide +kernel : ∀ t : Fin grid0.N, win0_12.index t 0 = t.val ∧ win0_12.index t 1 = 0 ∧ win0_12.index t 2 = 0 ∧ win0_12.index t 3 = 0)
theorem blk_12 (t : Fin cfg0.N) (u : Fin 64) (h : Fin 32) : (iblk m c 12 t : FVec Ideal S1x1x64x32 .f32) (ix4 0 0 u h) = (V m c main_v18 : FVec Ideal S8x1x64x32 .f32) (ix4 (strm t) 0 u h) := by
  unfold iblk
  rw [View.read_apply]
  show V m c main_v18 _ = _
  refine congrArg (V m c main_v18 : FVec Ideal S8x1x64x32 .f32) (same4 ?_ ?_ ?_ ?_)
  · show win0_12.index t 0 * 1 + 1 * 0 = t.val; rw [(ix_12 t).1]; omega
  · show win0_12.index t 1 * 1 + 1 * 0 = 0; rw [(ix_12 t).2.1]
  · show win0_12.index t 2 * 64 + 1 * u.val = u.val; rw [(ix_12 t).2.2.1]; omega
  · show win0_12.index t 3 * 32 + 1 * h.val = h.val; rw [(ix_12 t).2.2.2]; omega
theorem ix_11 : ∀ t : Fin cfg0.N, win0_11.index t 0 = t.val ∧ win0_11.index t 1 = 0 ∧ win0_11.index t 2 = 0 ∧ win0_11.index t 3 = 0 ∧ win0_11.index t 4 = 0 :=
  (by decide +kernel : ∀ t : Fin grid0.N, win0_11.index t 0 = t.val ∧ win0_11.index t 1 = 0 ∧ win0_11.index t 2 = 0 ∧ win0_11.index t 3 = 0 ∧ win0_11.index t 4 = 0)
theorem blk_11 (t : Fin cfg0.N) (u : Fin 64) (h : Fin 32) : (iblk m c 11 t : FVec Ideal S1x1x1x32x64 .f32) (ix5 0 0 0 h u) = (V m c main_v20 : FVec Ideal S8x1x1x32x64 .f32) (ix5 (strm t) 0 0 h u) := by
  unfold iblk
  rw [View.read_apply]
  show V m c main_v20 _ = _
  refine congrArg (V m c main_v20 : FVec Ideal S8x1x1x32x64 .f32) (same5 ?_ ?_ ?_ ?_ ?_)
  · show win0_11.index t 0 * 1 + 1 * 0 = t.val; rw [(ix_11 t).1]; omega
  · show win0_11.index t 1 * 1 + 1 * 0 = 0; rw [(ix_11 t).2.1]
  · show win0_11.index t 2 * 1 + 1 * 0 = 0; rw [(ix_11 t).2.2.1]
  · show win0_11.index t 3 * 32 + 1 * h.val = h.val; rw [(ix_11 t).2.2.2.1]; omega
  · show win0_11.index t 4 * 64 + 1 * u.val = u.val; rw [(ix_11 t).2.2.2.2]; omega
theorem ix_13 : ∀ t : Fin cfg0.N, win0_13.index t 0 = 0 ∧ win0_13.index t 1 = 0 :=
  (by decide +kernel : ∀ t : Fin grid0.N, win0_13.index t 0 = 0 ∧ win0_13.index t 1 = 0)
theorem blk_13 (t : Fin cfg0.N) (e : Fin 128) : (iblk m c 13 t : FVec Ideal S1x128 .f32) (ix2 0 e) = (V m c main_v21 : FVec Ideal S1x128 .f32) (ix2 0 e) := by
  unfold iblk
  rw [View.read_apply]
  show V m c main_v21 _ = _
  refine congrArg (V m c main_v21 : FVec Ideal S1x128 .f32) (same2 ?_ ?_)
  · show win0_13.index t 0 * 1 + 1 * 0 = 0; rw [(ix_13 t).1]
  · show win0_13.index t 1 * 128 + 1 * e.val = e.val; rw [(ix_13 t).2]; omega
theorem ix_14 : ∀ t : Fin cfg0.N, win0_14.index t 0 = t.val ∧ win0_14.index t 1 = 0 ∧ win0_14.index t 2 = 0 ∧ win0_14.index t 3 = 0 :=
  (by decide +kernel : ∀ t : Fin grid0.N, win0_14.index t 0 = t.val ∧ win0_14.index t 1 = 0 ∧ win0_14.index t 2 = 0 ∧ win0_14.index t 3 = 0)
theorem blk_14 (t : Fin cfg0.N) (h : Fin 32) (p q : Fin 128) : (iblk m c 14 t : FVec Ideal S1x32x128x128 .f32) (ix4 0 h p q) = a10 m c (ix4 (strm t) h p q) := by
  unfold iblk
  rw [View.read_apply]
  show V m c main_arg10 _ = _
  rw [V_main_arg10]
  refine congrArg (a10 m c) (same4 ?_ ?_ ?_ ?_)
  · show win0_14.index t 0 * 1 + 1 * 0 = t.val; rw [(ix_14 t).1]; omega
  · show win0_14.index t 1 * 32 + 1 * h.val = h.val; rw [(ix_14 t).2.1]; omega
  · show win0_14.index t 2 * 128 + 1 * p.val = p.val; rw [(ix_14 t).2.2.1]; omega
  · show win0_14.index t 3 * 128 + 1 * q.val = q.val; rw [(ix_14 t).2.2.2]; omega

/-! ### What a step writes -/

variable {m c} in
/-- The run's values of one step, from the arguments. -/
theorem step_q (t : Fin cfg0.N) (h : Fin 32) : stepQk (iblk m c 0 t) (iblk m c 3 t) (iblk m c 6 t) h = Streams.q (args m c) (strm t) h := by
  funext u d
  unfold stepQk Streams.q
  simp only [blk_0, blk_3, blk_6]
  rfl
variable {m c} in
theorem step_k (t : Fin cfg0.N) (h : Fin 32) : stepQk (iblk m c 1 t) (iblk m c 4 t) (iblk m c 7 t) h = Streams.k (args m c) (strm t) h := by
  funext u d
  unfold stepQk Streams.k
  simp only [blk_1, blk_4, blk_7]
  rfl
variable {m c} in
theorem step_v (t : Fin cfg0.N) (h : Fin 32) : stepV (iblk m c 2 t) (iblk m c 5 t) (iblk m c 8 t) h = Streams.v (args m c) (strm t) h := by
  funext u d
  unfold stepV Streams.v
  simp only [blk_2, blk_5, blk_8]
  rfl
variable {m c} in
theorem step_beta (t : Fin cfg0.N) (h : Fin 32) : (fun u => (iblk m c 12 t : FVec Ideal S1x1x64x32 .f32) (ix4 0 0 u h)) = Streams.beta (args m c) (strm t) h :=
  funext fun u => (blk_12 m c t u h).trans (v18 m c (strm t) u h)
variable {m c} in
theorem step_g (t : Fin cfg0.N) (h : Fin 32) : (fun u => (iblk m c 10 t : FVec Ideal S1x1x64x32 .f32) (ix4 0 0 u h)) = Streams.g (args m c) (strm t) h :=
  funext fun u => (blk_10 m c t u h).trans ((v16 m c (strm t) u h).trans (gVec_apply m c (strm t) u h))
variable {m c} in
theorem step_s (t : Fin cfg0.N) (h : Fin 32) : (fun p q => (iblk m c 14 t : FVec Ideal S1x32x128x128 .f32) (ix4 0 h p q)) = Streams.s (args m c) (strm t) h :=
  funext fun p => funext fun q => blk_14 m c t h p q
variable {m c} in
theorem step_g2 (t : Fin cfg0.N) (u : Fin 64) (h : Fin 32) : (iblk m c 11 t : FVec Ideal S1x1x1x32x64 .f32) (ix5 0 0 0 h u) = (iblk m c 10 t : FVec Ideal S1x1x64x32 .f32) (ix4 0 0 u h) :=
  (blk_11 m c t u h).trans ((v20 m c (strm t) u h).trans (blk_10 m c t u h).symm)

variable (H : Streams.Finite (args m c))
include H

theorem hx1 (t : Fin cfg0.N) (u : Fin 64) (d : Fin 2048) : IsR ((iblk m c 1 t : FVec Ideal S64x2048 .f32) (ix2 u d)) := by
  rw [blk_1]; exact H.qk _
theorem hx2 (t : Fin cfg0.N) (u : Fin 64) (d : Fin 4096) : IsR ((iblk m c 2 t : FVec Ideal S64x4096 .f32) (ix2 u d)) := by
  rw [blk_2]; exact H.v _
theorem hx4 (t : Fin cfg0.N) (j : Fin 4) (d : Fin 2048) : IsR ((iblk m c 4 t : FVec Ideal S4x2048 .f32) (ix2 j d)) := by
  rw [blk_4]; exact H.w _
theorem hx5 (t : Fin cfg0.N) (j : Fin 4) (d : Fin 4096) : IsR ((iblk m c 5 t : FVec Ideal S4x4096 .f32) (ix2 j d)) := by
  rw [blk_5]; exact H.w _
theorem hx7 (t : Fin cfg0.N) (j : Fin 3) (d : Fin 2048) : IsR ((iblk m c 7 t : FVec Ideal S1x3x2048 .f32) (ix3 0 j d)) := by
  rw [blk_7]; exact H.past _
theorem hx8 (t : Fin cfg0.N) (j : Fin 3) (d : Fin 4096) : IsR ((iblk m c 8 t : FVec Ideal S1x3x4096 .f32) (ix3 0 j d)) := by
  rw [blk_8]; exact H.past _
theorem hx10 (t : Fin cfg0.N) (u : Fin 64) (h : Fin 32) : IsR ((iblk m c 10 t : FVec Ideal S1x1x64x32 .f32) (ix4 0 0 u h)) :=
  (congrArg IsR (congrFun (step_g (m := m) (c := c) t h) u)).mpr (Streams.g_real H _ _ _)
omit H in
theorem hx12 (t : Fin cfg0.N) (u : Fin 64) (h : Fin 32) : IsR ((iblk m c 12 t : FVec Ideal S1x1x64x32 .f32) (ix4 0 0 u h)) :=
  (congrArg IsR (congrFun (step_beta (m := m) (c := c) t h) u)).mpr (Streams.beta_real _ _ _)

/-- The state that a step writes. -/
theorem flushed_S (t : Fin cfg0.N) (h : Fin 32) (a e : Fin 128) :
    ((dats m 0 c).flushed 16 t : FVec Ideal S1x32x128x128 .f32) (ix4 0 h a e) = Streams.S (args m c) (strm t) h a e := by
  rw [Value.flushed16_A]
  unfold out0_A_16
  refine (View.read_writes_junk_apply_eq_canon _ _ _).trans ?_
  refine (state_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ (hx1 m c H t) (hx2 m c H t) (hx4 m c H t) (hx5 m c H t) (hx7 m c H t) (hx8 m c H t) (hx10 m c H t) (hx12 m c t) (step_g2 t) h a e).trans ?_
  rw [step_k, step_v, step_beta, step_g, step_s]
  rfl

/-- The output that a step writes. -/
theorem flushed_O (t : Fin cfg0.N) (h : Fin 32) (u : Fin 64) (d : Fin 128) :
    ((dats m 0 c).flushed 15 t : FVec Ideal S64x4096 .bf16) (ix2 u (colV h d)) = Streams.O (args m c) (strm t) h u d := by
  rw [Value.flushed15_A]
  unfold out0_A_15
  refine (View.read_writes_junk_apply_eq_canon _ _ _).trans ?_
  refine (out_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ (hx1 m c H t) (hx2 m c H t) (hx4 m c H t) (hx5 m c H t) (hx7 m c H t) (hx8 m c H t) (hx10 m c H t) (hx12 m c t) (step_g2 t) h u d).trans ?_
  rw [step_q, step_k, step_v, step_beta, step_g, step_s]
  unfold Streams.O
  have e1 : (fun e : Fin 128 => (iblk m c 13 t : FVec Ideal S1x128 .f32) (ix2 0 e)) = fun e => a9 m c (ix1 e) :=
    funext fun e => (blk_13 m c t e).trans (v21 m c e)
  have e2 : (fun (u : Fin 64) (e : Fin 128) => (iblk m c 9 t : FVec Ideal S64x4096 .f32) (ix2 u (colV h e)))
      = fun u e => a2 m c (ix2 (Streams.row (strm t) u) ⟨128 * h.val + e.val, by omega⟩) :=
    funext fun u => funext fun e => blk_9 m c t u (colV h e)
  rw [e1, e2]
  rfl

/-! ### The result arrays -/

omit H in
theorem ix_16 : ∀ t : Fin cfg0.N, win0_16.index t 0 = t.val ∧ win0_16.index t 1 = 0 ∧ win0_16.index t 2 = 0 ∧ win0_16.index t 3 = 0 :=
  (by decide +kernel : ∀ t : Fin grid0.N, win0_16.index t 0 = t.val ∧ win0_16.index t 1 = 0 ∧ win0_16.index t 2 = 0 ∧ win0_16.index t 3 = 0)
omit H in
theorem ix_15 : ∀ t : Fin cfg0.N, win0_15.index t 0 = 128 + t.val ∧ win0_15.index t 1 = 0 :=
  (by decide +kernel : ∀ t : Fin grid0.N, win0_15.index t 0 = 128 + t.val ∧ win0_15.index t 1 = 0)

/-- The states after the run. -/
theorem state_entry (b : Fin 8) (h : Fin 32) (a e : Fin 128) :
    ((dats m 0 c).arrAt 16 cfg0.N : FVec Ideal S8x32x128x128 .f32) (ix4 b h a e) = Streams.S (args m c) b h a e := by
  have hb := congrFun (Value.blocks16 m c ⟨b.val, b.isLt⟩ (flush0_16 _)) (ix4 0 h a e)
  refine Eq.trans ?_ (hb.trans (flushed_S m c H ⟨b.val, b.isLt⟩ h a e))
  rw [View.read_apply]
  refine congrArg ((dats m 0 c).arrAt 16 cfg0.N : FVec Ideal S8x32x128x128 .f32) (same4 ?_ ?_ ?_ ?_)
  · show b.val = win0_16.index ⟨b.val, b.isLt⟩ 0 * 1 + 1 * 0; rw [(ix_16 _).1]; show _ = b.val * 1 + 1 * 0; omega
  · show h.val = win0_16.index ⟨b.val, b.isLt⟩ 1 * 32 + 1 * h.val; rw [(ix_16 _).2.1]; omega
  · show a.val = win0_16.index ⟨b.val, b.isLt⟩ 2 * 128 + 1 * a.val; rw [(ix_16 _).2.2.1]; omega
  · show e.val = win0_16.index ⟨b.val, b.isLt⟩ 3 * 128 + 1 * e.val; rw [(ix_16 _).2.2.2]; omega

/-- The rows of the output after the run: those of the streams. -/
theorem out_entry (b : Fin 8) (h : Fin 32) (u : Fin 64) (d : Fin 128) :
    ((dats m 0 c).arrAt 15 cfg0.N : FVec Ideal S8704x4096 .bf16) (ix2 (Streams.row b u) (colV h d)) = Streams.O (args m c) b h u d := by
  have hb := congrFun (Value.blocks15 m c ⟨b.val, b.isLt⟩ (flush0_15 _)) (ix2 u (colV h d))
  refine Eq.trans ?_ (hb.trans (flushed_O m c H ⟨b.val, b.isLt⟩ h u d))
  rw [View.read_apply]
  refine congrArg ((dats m 0 c).arrAt 15 cfg0.N : FVec Ideal S8704x4096 .bf16) (same2 ?_ ?_)
  · show 8192 + 64 * b.val + u.val = win0_15.index ⟨b.val, b.isLt⟩ 0 * 64 + 1 * u.val; rw [(ix_15 _).1]; show _ = (128 + b.val) * 64 + 1 * u.val; omega
  · show (colV h d).val = win0_15.index ⟨b.val, b.isLt⟩ 1 * 4096 + 1 * (colV h d).val; rw [(ix_15 _).2]; omega

omit H in
/-- The rows of the output after the run: those before the streams are kept. -/
theorem out_kept (r : Fin 8704) (hr : r.val < 8192) (x : Fin 4096) :
    ((dats m 0 c).arrAt 15 cfg0.N : FVec Ideal S8704x4096 .bf16) (ix2 r x) = (m ((c : Thread nD τ).loc main_arg11) : FVec Ideal S8704x4096 .bf16) (ix2 r x) := by
  refine (Value.entry15 m c (ix2 r x) fun t _ hm => ?_).trans (congrFun (v22 m c) _)
  obtain ⟨y, hy⟩ := View.exists_emb_of_mem_set _ hm
  have h0 : r.val = win0_15.index t 0 * 64 + 1 * (y 0).val := congrArg (fun i : S8704x4096.Idx => (i 0).val) hy.symm
  rw [(ix_15 t).1] at h0
  omega

end Cert.KernelIdeal.Results

end
-- ==== Proof.Finite.lean ====
/- What the precondition says: the arguments that the system is built from are real. -/
module

public import proofs.«01_k».proof.Defs
public import proofs.«01_k».proof.Proof.Gen.Pre_finite_inputs
public import proofs.«01_k».proof.Proof.KernelRun
public import Idealize.ShloMosaic.Lib.ReduceAll

@[expose] public section

noncomputable section

namespace Cert.Pre_finite_inputs.Read

open Idealize.ShloMosaic
open Cert.Pre_finite_inputs Cert.Real

instance : Subsingleton S_.Idx := ⟨fun a b => funext fun i => i.elim0⟩

theorem both {a b : BitVec 1} (h : IntOp.andi a b = 1#1) : a = 1#1 ∧ b = 1#1 := by
  revert a b
  decide

/-- An extended real whose absolute value is below infinity is real. -/
theorem real_of_abs_lt {x : EReal} (h : max x (-x) < ⊤) : IsR x := by
  induction x using EReal.rec with
  | bot => exact absurd h (by simp)
  | coe r => exact ⟨r, rfl⟩
  | top => exact absurd h (by simp)

/-- A test of every element's absolute value against infinity. -/
theorem finite_of {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    IsR (x i) := by
  have h : BitVec.ofBool (decide (max (x i) (-(x i)) < Ideal.ofBits .f32 0x7F800000#32)) = 1#1 := Host.reduce_andi_all _ _ hr hu j e i
  rw [show Ideal.ofBits .f32 0x7F800000#32 = ⊤ by simp [Ideal.ofBits, Ideal.ieee]] at h
  refine real_of_abs_lt ?_
  by_contra hn
  rw [decide_eq_false hn] at h
  exact absurd h (by decide)

/-- The precondition of the kernel's arguments. -/
theorem finite (m : (ℓ : Loc Cert.KernelIdeal.nD Cert.KernelIdeal.τ Cert.KernelIdeal.sig) → Buf (Elt Ideal) ℓ) (h : Pre_KernelIdeal_finite_inputs m)
    (c : Dev Cert.KernelIdeal.nD) : Streams.Finite (Cert.KernelIdeal.Results.args m c) := by
  have e := congrFun (h c) ix0
  unfold fn fn_part1 at e
  obtain ⟨e, e8⟩ := both e
  obtain ⟨e, e7⟩ := both e
  obtain ⟨e, e6⟩ := both e
  obtain ⟨e, e4⟩ := both e
  obtain ⟨e, e3⟩ := both e
  obtain ⟨e0, e1⟩ := both e
  exact ⟨finite_of _ _ _ _ _ e0, finite_of _ _ _ _ _ e1, finite_of _ _ _ _ _ e3, finite_of _ _ _ _ _ e4, finite_of _ _ _ _ _ e6, finite_of _ _ _ _ _ e7,
    finite_of _ _ _ _ _ e8⟩

end Cert.Pre_finite_inputs.Read
-- ==== Proof.RefConv.lean ====
/- The reference's convolution, read at an entry: its queries, keys and values are those of `Cert.Streams`. -/
module

public import proofs.«01_k».proof.Proof.Gen.ReferenceIdeal.Step
public import proofs.«01_k».proof.Proof.Streams
public import Idealize.ShloMosaic.Lib.Pointwise
public import Idealize.ShloMosaic.Lib.Pointwise.Tactic

@[expose] public section

set_option maxRecDepth 16384

noncomputable section

namespace Cert.ReferenceIdeal.Read

open Idealize.ShloMosaic
open Cert.ReferenceIdeal Cert.ReferenceIdeal.Step Cert.Real Cert.Streams

variable (I : Streams.In)

/-- The new rows of a stream before the convolution: the columns of the queries and keys, then those of the values. -/
theorem fresh (b : Fin 8) (t : Fin 64) (x : Fin 8192) :
    (A_main_v3 (F := Ideal) I.qk I.v I.w I.past I.braw I.araw I.alog I.dt : FVec Ideal S8x64x8192 .f32) (ix3 b t x)
      = if h : x.val < 4096 then I.qk (ix2 (row b t) ⟨x.val, h⟩) else I.v (ix2 (row b t) ⟨x.val - 4096, by omega⟩) := by
  unfold A_main_v3 A_main_v2 A_main_v1 A_main_v0
  pointwise
  have e : ∀ y : Fin 4096, (ix2 (⟨8192 + (b.val * 64 + t.val), by omega⟩ : Fin 8704) y : (⟨2, ![8704, 4096]⟩ : Shape).Idx) = ix2 (row b t) y :=
    fun y => congrArg (fun r => ix2 r y) (Fin.ext (show 8192 + (b.val * 64 + t.val) = 8192 + 64 * b.val + t.val by omega))
  by_cases h : x.val < 4096
  · rw [dif_pos h, dif_pos h]
    exact congrArg I.qk (e _)
  · rw [dif_neg h, dif_neg h]
    exact congrArg I.v (e _)

/-- The rows with the three kept rows before them. -/
theorem taps (b : Fin 8) (x : Fin 8192) (n : ℕ) (hn : n < 67) :
    (A_main_v4 (F := Ideal) I.qk I.v I.w I.past I.braw I.araw I.alog I.dt : FVec Ideal S8x67x8192 .f32) (ix3 b ⟨n, hn⟩ x)
      = Spec.tap (fun j => I.past (ix3 b j x))
          (fun u => (A_main_v3 (F := Ideal) I.qk I.v I.w I.past I.braw I.araw I.alog I.dt : FVec Ideal S8x64x8192 .f32) (ix3 b u x)) n hn := by
  unfold A_main_v4
  pointwise
  rfl

/-- The convolved rows. -/
theorem conv (b : Fin 8) (t : Fin 64) (x : Fin 8192) :
    (A_main_v32 (F := Ideal) I.qk I.v I.w I.past I.braw I.araw I.alog I.dt : FVec Ideal S8x64x8192 .f32) (ix3 b t x)
      = Spec.conv (fun j => I.w (ix2 j x)) (fun j => I.past (ix3 b j x))
          (fun u => (A_main_v3 (F := Ideal) I.qk I.v I.w I.past I.braw I.araw I.alog I.dt : FVec Ideal S8x64x8192 .f32) (ix3 b u x)) t := by
  have e1 : (⟨1 + t.val, by omega⟩ : Fin 67) = ⟨t.val + 1, by omega⟩ := Fin.ext (Nat.add_comm _ _)
  have e2 : (⟨2 + t.val, by omega⟩ : Fin 67) = ⟨t.val + 2, by omega⟩ := Fin.ext (Nat.add_comm _ _)
  have e3 : (⟨3 + t.val, by omega⟩ : Fin 67) = ⟨t.val + 3, by omega⟩ := Fin.ext (Nat.add_comm _ _)
  have hs : (A_main_v31 (F := Ideal) I.qk I.v I.w I.past I.braw I.araw I.alog I.dt : FVec Ideal S8x64x8192 .f32) (ix3 b t x)
      = (A_main_v4 (F := Ideal) I.qk I.v I.w I.past I.braw I.araw I.alog I.dt : FVec Ideal S8x67x8192 .f32) (ix3 b ⟨t.val, by omega⟩ x) * I.w (ix2 0 x)
        + (A_main_v4 (F := Ideal) I.qk I.v I.w I.past I.braw I.araw I.alog I.dt : FVec Ideal S8x67x8192 .f32) (ix3 b ⟨1 + t.val, by omega⟩ x) * I.w (ix2 1 x)
        + (A_main_v4 (F := Ideal) I.qk I.v I.w I.past I.braw I.araw I.alog I.dt : FVec Ideal S8x67x8192 .f32) (ix3 b ⟨2 + t.val, by omega⟩ x) * I.w (ix2 2 x)
        + (A_main_v4 (F := Ideal) I.qk I.v I.w I.past I.braw I.araw I.alog I.dt : FVec Ideal S8x67x8192 .f32) (ix3 b ⟨3 + t.val, by omega⟩ x) * I.w (ix2 3 x) := by
    unfold A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v12 A_main_v11 A_main_v10 A_main_v9 A_main_v8 A_main_v7 A_main_v6 A_main_v5
    pointwise
  rw [e1, e2, e3, taps, taps, taps, taps] at hs
  unfold A_main_v32 A_main_call0_v5 A_main_call0_v3 A_main_call0_v1 A_main_call0_v0 K_main_call0_v4 K_main_call0_v2 K_main_call0_cst K_main_call0_cst_0
  pointwise
  rw [hs]
  rfl

/-- The queries, keys and values of a head, convolved. -/
theorem q_conv (b : Fin 8) (h : Fin 32) (t : Fin 64) (d : Fin 128) (x : Fin 8192) (hx : x = qCol h d) :
    (A_main_v32 (F := Ideal) I.qk I.v I.w I.past I.braw I.araw I.alog I.dt : FVec Ideal S8x64x8192 .f32) (ix3 b t x) = Streams.q I b h t d := by
  subst hx
  rw [conv]
  unfold Streams.q
  congr 1
  funext u
  rw [fresh, dif_pos (show 128 * (h.val / 2) + d.val < 4096 by omega)]
theorem k_conv (b : Fin 8) (h : Fin 32) (t : Fin 64) (d : Fin 128) (x : Fin 8192) (hx : x = kCol h d) :
    (A_main_v32 (F := Ideal) I.qk I.v I.w I.past I.braw I.araw I.alog I.dt : FVec Ideal S8x64x8192 .f32) (ix3 b t x) = Streams.k I b h t d := by
  subst hx
  rw [conv]
  unfold Streams.k
  congr 1
  funext u
  rw [fresh, dif_pos (show 2048 + (128 * (h.val / 2) + d.val) < 4096 by omega)]
theorem v_conv (b : Fin 8) (h : Fin 32) (t : Fin 64) (d : Fin 128) (x : Fin 8192) (hx : x = vCol h d) :
    (A_main_v32 (F := Ideal) I.qk I.v I.w I.past I.braw I.araw I.alog I.dt : FVec Ideal S8x64x8192 .f32) (ix3 b t x) = Streams.v I b h t d := by
  subst hx
  rw [conv]
  unfold Streams.v
  congr 1
  funext u
  rw [fresh, dif_neg (show ¬ 4096 + (128 * h.val + d.val) < 4096 by omega)]
  exact congrArg (fun y : Fin 4096 => I.v (ix2 (row b u) y)) (Fin.ext (show 4096 + (128 * h.val + d.val) - 4096 = 128 * h.val + d.val by omega))

/-- The values. -/
theorem values (b : Fin 8) (h : Fin 32) (t : Fin 64) (d : Fin 128) :
    (A_main_v78 (F := Ideal) I.qk I.v I.w I.past I.braw I.araw I.alog I.dt : FVec Ideal S8x32x64x128 .f32) (ix4 b h t d) = Streams.v I b h t d := by
  unfold A_main_v78 A_main_v60 A_main_v35
  pointwise
  exact v_conv I b h t d _ (Fin.ext (show 4096 + (h.val * 128 + d.val) = 4096 + (128 * h.val + d.val) by omega))

/-- The keys. -/
theorem keys (b : Fin 8) (h : Fin 32) (t : Fin 64) (d : Fin 128) :
    (A_main_v77 (F := Ideal) I.qk I.v I.w I.past I.braw I.araw I.alog I.dt : FVec Ideal S8x32x64x128 .f32) (ix4 b h t d) = Spec.key (Streams.k I b h) t d := by
  have hk : ∀ x : Fin 128, (A_main_v32 (F := Ideal) I.qk I.v I.w I.past I.braw I.araw I.alog I.dt : FVec Ideal S8x64x8192 .f32)
      (ix3 b t ⟨2048 + (h.val / 2 * 128 + x.val), by omega⟩) = Streams.k I b h t x :=
    fun x => k_conv I b h t x _ (Fin.ext (show 2048 + (h.val / 2 * 128 + x.val) = 2048 + (128 * (h.val / 2) + x.val) by omega))
  unfold A_main_v77 A_main_v59 A_main_v58 A_main_v55 A_main_v54 A_main_v53 A_main_v52 A_main_v50 A_main_v49 A_main_v48 A_main_v37 A_main_v34 K_main_v51 K_main_cst_3 K_main_cst_2
  pointwise
  refine congrArg₂ (· * ·) (hk d) (congrArg (fun s => Ideal.rsqrt (s + eps)) (Finset.sum_congr rfl fun x _ => congrArg₂ (· * ·) (hk x) (hk x)))

/-- The queries. -/
theorem queries (b : Fin 8) (h : Fin 32) (t : Fin 64) (d : Fin 128) :
    (A_main_v76 (F := Ideal) I.qk I.v I.w I.past I.braw I.araw I.alog I.dt : FVec Ideal S8x32x64x128 .f32) (ix4 b h t d) = Spec.qry (Streams.q I b h) t d := by
  have hq : ∀ x : Fin 128, (A_main_v32 (F := Ideal) I.qk I.v I.w I.past I.braw I.araw I.alog I.dt : FVec Ideal S8x64x8192 .f32)
      (ix3 b t ⟨h.val / 2 * 128 + x.val, by omega⟩) = Streams.q I b h t x :=
    fun x => q_conv I b h t x _ (Fin.ext (show h.val / 2 * 128 + x.val = 128 * (h.val / 2) + x.val by omega))
  unfold A_main_v76 A_main_v57 A_main_v56 A_main_v47 A_main_v45 A_main_v44 A_main_v43 A_main_v42 A_main_v40 A_main_v39 A_main_v38 A_main_v36 A_main_v33 K_main_v46 K_main_v41 K_main_cst_1 K_main_cst_0 K_main_cst
  pointwise
  refine congrArg (· * Spec.scale) (congrArg₂ (· * ·) (hq d) (congrArg (fun s => Ideal.rsqrt (s + eps)) (Finset.sum_congr rfl fun x _ => congrArg₂ (· * ·) (hq x) (hq x))))

end Cert.ReferenceIdeal.Read
-- ==== Proof.RefGate.lean ====
/- The reference's step sizes, decays and systems, read at an entry. -/
module

public import proofs.«01_k».proof.Proof.Gen.ReferenceIdeal.Step
public import proofs.«01_k».proof.Proof.Streams
public import proofs.«01_k».proof.Proof.Loads
public import Idealize.ShloMosaic.Lib.Pointwise
public import Idealize.ShloMosaic.Lib.Pointwise.Tactic

@[expose] public section

set_option maxRecDepth 16384

noncomputable section

namespace Cert.ReferenceIdeal.Read

open Idealize.ShloMosaic
open Cert.ReferenceIdeal Cert.ReferenceIdeal.Step Cert.Real Cert.Streams Cert.ReferenceIdeal.Gen
open Cert.KernelIdeal.Pieces (same3)

variable (I : Streams.In)

/-- The step sizes. -/
theorem steps (b : Fin 8) (h : Fin 32) (t : Fin 64) :
    (A_main_v80 (F := Ideal) I.qk I.v I.w I.past I.braw I.araw I.alog I.dt : FVec Ideal S8x32x64 .f32) (ix3 b h t) = Streams.beta I b h t := by
  unfold A_main_v80 A_main_v66 A_main_v64 A_main_v62 A_main_v61 K_main_v65 K_main_v63 K_main_cst_4 K_main_cst_5
  pointwise
  rfl

/-- The log decays. -/
theorem decays (b : Fin 8) (h : Fin 32) (t : Fin 64) :
    (A_main_v79 (F := Ideal) I.qk I.v I.w I.past I.braw I.araw I.alog I.dt : FVec Ideal S8x32x64 .f32) (ix3 b h t) = Streams.g I b h t := by
  unfold A_main_v79 A_main_v75 A_main_v74 A_main_v73 A_main_v72 A_main_call1_v11 A_main_call1_v10 A_main_call1_v9 A_main_call1_v8 A_main_call1_v7 A_main_call1_v6 A_main_call1_v4 A_main_call1_v3 A_main_call1_v1 A_main_v71 A_main_v70 A_main_v69 A_main_v68 A_main_v67 K_main_call1_v0 K_main_call1_v2 K_main_call1_v5 K_main_call1_cst
  pointwise
  rw [if_neg (fun h => h rfl)]
  rfl

/-- The positions of a window of 64 along the last of three axes. -/
def places : Fin 64 ≃ (⟨3, ![1, 1, 64]⟩ : Shape).Idx where
  toFun u := ix3 0 0 u
  invFun i := i 2
  left_inv _ := rfl
  right_inv i := same3 (congrArg Fin.val (Subsingleton.elim (α := Fin 1) _ _)) (congrArg Fin.val (Subsingleton.elim (α := Fin 1) _ _)) rfl

/-- A fold that adds is a sum. -/
theorem foldl_add {n : ℕ} (f : Fin n → EReal) : (List.finRange n).foldl (fun r i => r + f i) 0 = ∑ i, f i := by
  rw [← List.foldl_map (f := f) (g := fun r x => r + x), ← List.sum_eq_foldl, ← List.ofFn_eq_map, List.sum_ofFn]

/-- A window of 64 behind each place, padded with zeros, sums what lies at or before that place. -/
theorem window_sum (x : FVec Ideal S8x32x64 .f32) (z : EReal) (hz : z = 0) (b : Fin 8) (h : Fin 32) (t : Fin 64) :
    Ideal.hostReduceWindowAdd ![1, 1, 64] ![1, 1, 1] ![0, 0, 63] ![0, 0, 0] reduceWindows_S8x32x64_S8x32x64_w1s1p0_0_w1s1p0_0_w64s1p63_0 x z (ix3 b h t)
      = Spec.cum (fun u => x (ix3 b h u)) t := by
  subst hz
  unfold Ideal.hostReduceWindowAdd Host.reduceWindow
  dsimp only
  rw [foldl_add]
  refine (Equiv.sum_comp (places.trans (⟨3, ![1, 1, 64]⟩ : Shape).rowMajor) _).symm.trans ?_
  have hp : ∀ k : Fin 64, (⟨3, ![1, 1, 64]⟩ : Shape).rowMajor.symm ((places.trans (⟨3, ![1, 1, 64]⟩ : Shape).rowMajor) k) = ix3 0 0 k :=
    fun k => Equiv.symm_apply_apply _ _
  refine Eq.trans ?_ (Equiv.sum_comp (Equiv.addRight (t + 1)) fun u : Fin 64 => if u.val ≤ t.val then x (ix3 b h u) else 0)
  refine Finset.sum_congr rfl fun k _ => ?_
  have h0 : ((⟨3, ![1, 1, 64]⟩ : Shape).rowMajor.symm ((places.trans (⟨3, ![1, 1, 64]⟩ : Shape).rowMajor) k) 0).val = 0 := congrArg (fun i => (i 0).val) (hp k)
  have h1 : ((⟨3, ![1, 1, 64]⟩ : Shape).rowMajor.symm ((places.trans (⟨3, ![1, 1, 64]⟩ : Shape).rowMajor) k) 1).val = 0 := congrArg (fun i => (i 1).val) (hp k)
  have h2 : ((⟨3, ![1, 1, 64]⟩ : Shape).rowMajor.symm ((places.trans (⟨3, ![1, 1, 64]⟩ : Shape).rowMajor) k) 2).val = k.val := congrArg (fun i => (i 2).val) (hp k)
  have hv : ((Equiv.addRight (t + 1)) k).val = (k.val + (t.val + 1)) % 64 := by
    show (k.val + (t.val + 1) % 64) % 64 = _
    omega
  have ht := t.isLt
  have hk := k.isLt
  by_cases hc : 63 ≤ t.val + k.val
  · rw [dif_pos, if_pos (by omega)]
    · refine congrArg x (same3 ?_ ?_ ?_)
      · show b.val * 1 + ((⟨3, ![1, 1, 64]⟩ : Shape).rowMajor.symm ((places.trans (⟨3, ![1, 1, 64]⟩ : Shape).rowMajor) k) 0).val - 0 = b.val
        rw [h0]; omega
      · show h.val * 1 + ((⟨3, ![1, 1, 64]⟩ : Shape).rowMajor.symm ((places.trans (⟨3, ![1, 1, 64]⟩ : Shape).rowMajor) k) 1).val - 0 = h.val
        rw [h1]; omega
      · show t.val * 1 + ((⟨3, ![1, 1, 64]⟩ : Shape).rowMajor.symm ((places.trans (⟨3, ![1, 1, 64]⟩ : Shape).rowMajor) k) 2).val - 63 = ((Equiv.addRight (t + 1)) k).val
        rw [h2]; omega
    · intro a
      match a with
      | ⟨0, _⟩ =>
        show 0 ≤ _ ∧ b.val * 1 + ((⟨3, ![1, 1, 64]⟩ : Shape).rowMajor.symm ((places.trans (⟨3, ![1, 1, 64]⟩ : Shape).rowMajor) k) 0).val - 0 < 8
        rw [h0]; omega
      | ⟨1, _⟩ =>
        show 0 ≤ _ ∧ h.val * 1 + ((⟨3, ![1, 1, 64]⟩ : Shape).rowMajor.symm ((places.trans (⟨3, ![1, 1, 64]⟩ : Shape).rowMajor) k) 1).val - 0 < 32
        rw [h1]; omega
      | ⟨2, _⟩ =>
        show 63 ≤ t.val * 1 + ((⟨3, ![1, 1, 64]⟩ : Shape).rowMajor.symm ((places.trans (⟨3, ![1, 1, 64]⟩ : Shape).rowMajor) k) 2).val ∧ t.val * 1 + ((⟨3, ![1, 1, 64]⟩ : Shape).rowMajor.symm ((places.trans (⟨3, ![1, 1, 64]⟩ : Shape).rowMajor) k) 2).val - 63 < 64
        rw [h2]; omega
  · rw [dif_neg, if_neg (by omega)]
    intro hin
    have := (hin 2).1
    change 63 ≤ t.val * 1 + ((⟨3, ![1, 1, 64]⟩ : Shape).rowMajor.symm ((places.trans (⟨3, ![1, 1, 64]⟩ : Shape).rowMajor) k) 2).val at this
    rw [h2] at this
    omega

/-- The running sums. -/
theorem sums (b : Fin 8) (h : Fin 32) (t : Fin 64) :
    (A_main_v81 (F := Ideal) I.qk I.v I.w I.past I.braw I.araw I.alog I.dt : FVec Ideal S8x32x64 .f32) (ix3 b h t) = Spec.cum (Streams.g I b h) t := by
  unfold A_main_v81 K_main_call2_call0_v0 K_main_call2_call0_cst
  refine (window_sum _ _ ?_ b h t).trans ?_
  · pointwise
  · exact congrArg (fun f => Spec.cum f t) (funext fun u => decays I b h u)

/-- The decays between rows. -/
theorem between (b : Fin 8) (h : Fin 32) (t u : Fin 64) :
    (A_main_v90 (F := Ideal) I.qk I.v I.w I.past I.braw I.araw I.alog I.dt : FVec Ideal S8x32x64x64 .f32) (ix4 b h t u) = Spec.dec (Streams.g I b h) t u := by
  unfold A_main_v90 A_main_v89 A_main_v88 A_main_v87 A_main_v86 A_main_v85 A_main_v84 K_main_call4_v1 K_main_call4_v2 K_main_call4_v0 K_main_cst_6 K_main_v83 K_main_call3_v5 K_main_call3_c_0 K_main_call3_v4 K_main_call3_v3 K_main_call3_v2 K_main_call3_v1 K_main_call3_c K_main_call3_v0 K_main_v82 K_main_c
  pointwise
  simp only [sums]
  have e : IntOp.addi (BitVec.ofNat 32 t.val) 0#32 = BitVec.ofNat 32 t.val := BitVec.add_zero _
  rw [e, WordCmp.cmpi_sge_ofNat (by omega) (by omega)]
  unfold Spec.dec
  by_cases hc : u.val ≤ t.val
  · rw [if_pos hc, decide_eq_true hc]
    rfl
  · rw [if_neg hc, decide_eq_false hc]
    show Ideal.exp (Ideal.ofBits .f32 0xFF800000#32) = 0
    rw [show Ideal.ofBits .f32 0xFF800000#32 = ⊥ by simp [Ideal.ofBits, Ideal.ieee]]
    exact Ideal.exp_bot

/-- The strict triangle of the reference: a later row against an earlier one. -/
theorem triangle (b : Fin 8) (h : Fin 32) (t u : Fin 64) : (K_main_v101 (F := Ideal) : IVec S8x32x64x64 1) (ix4 b h t u) = BitVec.ofBool (decide (u.val < t.val)) := by
  unfold K_main_v101 K_main_v100 K_main_v99 K_main_v98 K_main_v97 K_main_v95 K_main_v94
  pointwise
  exact WordCmp.cmpi_sgt_ofNat (by omega) (by omega)

end Cert.ReferenceIdeal.Read
-- ==== Proof.RefHead.lean ====
/- What the reference's loop starts from, read at an entry: each head's system, its right-hand sides and its weights. -/
module

public import proofs.«01_k».proof.Proof.RefConv
public import proofs.«01_k».proof.Proof.RefGate

@[expose] public section

set_option maxRecDepth 16384

noncomputable section

namespace Cert.ReferenceIdeal.Read

open Idealize.ShloMosaic
open Cert.ReferenceIdeal Cert.ReferenceIdeal.Step Cert.Real Cert.Streams Cert.ReferenceIdeal.Gen

variable (I : Streams.In) (b : Fin 8) (h : Fin 32)

/-- The keys by their step sizes. -/
theorem weighted (t : Fin 64) (d : Fin 128) :
    (A_main_v93 (F := Ideal) I.qk I.v I.w I.past I.braw I.araw I.alog I.dt : FVec Ideal S8x32x64x128 .f32) (ix4 b h t d)
      = Spec.key (Streams.k I b h) t d * Streams.beta I b h t := by
  unfold A_main_v93 A_main_v92 A_main_v91
  pointwise
  rw [keys, steps]

/-- The head's system. -/
theorem system (t u : Fin 64) :
    (A_main_v104 (F := Ideal) I.qk I.v I.w I.past I.braw I.araw I.alog I.dt : FVec Ideal S8x32x64x64 .f32) (ix4 b h t u)
      = Spec.sys (Spec.key (Streams.k I b h)) (Streams.beta I b h) (Streams.g I b h) t u := by
  unfold A_main_v104 A_main_v103 A_main_v96 K_main_v102 K_main_cst_7
  pointwise [dot_S8x32x64x128_S8x32x64x128_S8x32x64x64_3_3_2_2_01_01]
  rw [triangle, select_bool, between]
  simp only [weighted, keys]
  unfold Spec.sys
  split
  · rfl
  · rfl

/-- The right-hand sides. -/
theorem right_v (t : Fin 64) (e : Fin 128) :
    (A_main_v107 (F := Ideal) I.qk I.v I.w I.past I.braw I.araw I.alog I.dt : FVec Ideal S8x32x64x128 .f32) (ix4 b h t e)
      = Streams.v I b h t e * Streams.beta I b h t := by
  unfold A_main_v107 A_main_v106 A_main_v105
  pointwise
  rw [values, steps]
theorem right_k (t : Fin 64) (e : Fin 128) :
    (A_main_v111 (F := Ideal) I.qk I.v I.w I.past I.braw I.araw I.alog I.dt : FVec Ideal S8x32x64x128 .f32) (ix4 b h t e)
      = Spec.key (Streams.k I b h) t e * Streams.beta I b h t * Ideal.exp (Spec.cum (Streams.g I b h) t) := by
  unfold A_main_v111 A_main_v110 A_main_v109 A_main_v108
  pointwise
  rw [weighted, sums]

/-- The weights of the rows on each other, and of the state, in the output. -/
theorem attend (t u : Fin 64) :
    (A_main_v113 (F := Ideal) I.qk I.v I.w I.past I.braw I.araw I.alog I.dt : FVec Ideal S8x32x64x64 .f32) (ix4 b h t u)
      = (∑ d, Spec.qry (Streams.q I b h) t d * Spec.key (Streams.k I b h) u d) * Spec.dec (Streams.g I b h) t u := by
  unfold A_main_v113 A_main_v112
  pointwise [dot_S8x32x64x128_S8x32x64x128_S8x32x64x64_3_3_2_2_01_01]
  rw [between]
  simp only [queries, keys]
theorem recall (t : Fin 64) (d : Fin 128) :
    (A_main_v117 (F := Ideal) I.qk I.v I.w I.past I.braw I.araw I.alog I.dt : FVec Ideal S8x32x64x128 .f32) (ix4 b h t d)
      = Spec.qry (Streams.q I b h) t d * Ideal.exp (Spec.cum (Streams.g I b h) t) := by
  unfold A_main_v117 A_main_v116 A_main_v115 A_main_v114
  pointwise
  rw [queries, sums]

/-- The weights of the old state and of the rows in the next state. -/
theorem fade : (A_main_v127 (F := Ideal) I.qk I.v I.w I.past I.braw I.araw I.alog I.dt : FVec Ideal S8x32 .f32) (ix2 b h)
      = Ideal.exp (Spec.cum (Streams.g I b h) 63) := by
  unfold A_main_v127 A_main_v126 A_main_v125
  pointwise
  rw [sums]
theorem write (t : Fin 64) (d : Fin 128) :
    (A_main_v124 (F := Ideal) I.qk I.v I.w I.past I.braw I.araw I.alog I.dt : FVec Ideal S8x32x64x128 .f32) (ix4 b h t d)
      = Spec.key (Streams.k I b h) t d * Ideal.exp (Spec.cum (Streams.g I b h) 63 - Spec.cum (Streams.g I b h) t) := by
  unfold A_main_v124 A_main_v123 A_main_v122 A_main_v121 A_main_v120 A_main_v119 A_main_v118
  pointwise
  rw [keys, sums, sums]

end Cert.ReferenceIdeal.Read
-- ==== Proof.RefLoop.lean ====
/- The reference's loop: forward substitution row by row, and what its last trip leaves. -/
module

public import proofs.«01_k».proof.Proof.Gen.ReferenceIdeal.Step
public import proofs.«01_k».proof.Proof.Streams
public import proofs.«01_k».proof.Proof.Loads
public import Idealize.ShloMosaic.Lib.Pointwise
public import Idealize.ShloMosaic.Lib.Pointwise.Tactic

@[expose] public section

set_option maxRecDepth 16384

noncomputable section

namespace Cert.ReferenceIdeal.Read

open Idealize.ShloMosaic
open Cert.ReferenceIdeal Cert.ReferenceIdeal.Step Cert.Real Cert.Streams Cert.ReferenceIdeal.Gen
open Cert.KernelIdeal.Pieces (same2 same4)

variable (I : Streams.In)

/-- A head's system and right-hand sides. -/
abbrev sysOf (b : Fin 8) (h : Fin 32) : Fin 64 → Fin 64 → EReal := Spec.sys (Spec.key (Streams.k I b h)) (Streams.beta I b h) (Streams.g I b h)
abbrev rhsOf (b : Fin 8) (h : Fin 32) : Fin 64 → Fin 256 → EReal := Spec.rhs (Spec.key (Streams.k I b h)) (Streams.v I b h) (Streams.beta I b h) (Streams.g I b h)

/-- What every trip finds as the first did. -/
structure Fixed (s : State Ideal) : Prop where
  sys : ∀ b h t u, (s.main_v132_1 : FVec Ideal S8x32x64x64 .f32) (ix4 b h t u) = sysOf I b h t u
  rhs_v : ∀ b h t (e : Fin 128), (s.main_v132_2 : FVec Ideal S8x32x64x128 .f32) (ix4 b h t e) = rhsOf I b h t ⟨e.val, by omega⟩
  rhs_k : ∀ b h t (e : Fin 128), (s.main_v132_3 : FVec Ideal S8x32x64x128 .f32) (ix4 b h t e) = rhsOf I b h t ⟨128 + e.val, by omega⟩
  s0 : ∀ b h a e, (s.main_v132_4 : FVec Ideal S8x32x128x128 .f32) (ix4 b h a e) = Streams.s I b h a e
  recall : ∀ b h t d, (s.main_v132_5 : FVec Ideal S8x32x64x128 .f32) (ix4 b h t d) = Spec.qry (Streams.q I b h) t d * Ideal.exp (Spec.cum (Streams.g I b h) t)
  attend : ∀ b h t u, (s.main_v132_6 : FVec Ideal S8x32x64x64 .f32) (ix4 b h t u)
    = (∑ d, Spec.qry (Streams.q I b h) t d * Spec.key (Streams.k I b h) u d) * Spec.dec (Streams.g I b h) t u
  fade : ∀ b h, (s.main_v132_7 : FVec Ideal S8x32 .f32) (ix2 b h) = Ideal.exp (Spec.cum (Streams.g I b h) 63)
  write : ∀ b h t d, (s.main_v132_8 : FVec Ideal S8x32x64x128 .f32) (ix4 b h t d)
    = Spec.key (Streams.k I b h) t d * Ideal.exp (Spec.cum (Streams.g I b h) 63 - Spec.cum (Streams.g I b h) t)

/-- The rows below n solved, the others zero. -/
structure Solved (n : ℕ) (s : State Ideal) : Prop where
  v : ∀ b h t (e : Fin 128), (s.main_v132_11 : FVec Ideal S8x32x64x128 .f32) (ix4 b h t e)
    = Cert.Solve.upTo (fun i j => (sysOf I b h i j).toReal) (fun i c => (rhsOf I b h i c).toReal) n t (⟨e.val, by omega⟩ : Fin 256)
  k : ∀ b h t (e : Fin 128), (s.main_v132_12 : FVec Ideal S8x32x64x128 .f32) (ix4 b h t e)
    = Cert.Solve.upTo (fun i j => (sysOf I b h i j).toReal) (fun i c => (rhsOf I b h i c).toReal) n t (⟨128 + e.val, by omega⟩ : Fin 256)

variable {I}

theorem Fixed.step {s : State Ideal} (H : Fixed I s) (n : ℕ) : Fixed I (Step.step n s) :=
  ⟨H.sys, H.rhs_v, H.rhs_k, H.s0, H.recall, H.attend, H.fade, H.write⟩

/-- One row against the rows before it. -/
theorem row_v (n : ℕ) (s : State Ideal) (hn : n < 64) (b : Fin 8) (h : Fin 32) (t : Fin 64) (e : Fin 128) :
    (b8 n s : FVec Ideal S8x32x64x128 .f32) (ix4 b h t e)
      = if t.val = n then (s.main_v132_2 : FVec Ideal S8x32x64x128 .f32) (ix4 b h t e)
            - ∑ u : Fin 64, (s.main_v132_1 : FVec Ideal S8x32x64x64 .f32) (ix4 b h t u) * (s.main_v132_11 : FVec Ideal S8x32x64x128 .f32) (ix4 b h u e)
        else (s.main_v132_11 : FVec Ideal S8x32x64x128 .f32) (ix4 b h t e) := by
  unfold b8 b7 b6 b5 b4 b3 b2 K_main_v95 K_main_v94
  pointwise [dot_S8x32x64x64_S8x32x64x128_S8x32x64x128_3_2_2_3_01_01]
  exact select_eq (by omega) (by omega) _ _
theorem row_k (n : ℕ) (s : State Ideal) (hn : n < 64) (b : Fin 8) (h : Fin 32) (t : Fin 64) (e : Fin 128) :
    (b15 n s : FVec Ideal S8x32x64x128 .f32) (ix4 b h t e)
      = if t.val = n then (s.main_v132_3 : FVec Ideal S8x32x64x128 .f32) (ix4 b h t e)
            - ∑ u : Fin 64, (s.main_v132_1 : FVec Ideal S8x32x64x64 .f32) (ix4 b h t u) * (s.main_v132_12 : FVec Ideal S8x32x64x128 .f32) (ix4 b h u e)
        else (s.main_v132_12 : FVec Ideal S8x32x64x128 .f32) (ix4 b h t e) := by
  unfold b15 b14 b13 b12 b11 b10 b9 K_main_v95 K_main_v94
  pointwise [dot_S8x32x64x64_S8x32x64x128_S8x32x64x128_3_2_2_3_01_01]
  exact select_eq (by omega) (by omega) _ _

theorem sysOf_real (H : Streams.Finite I) (b : Fin 8) (h : Fin 32) (t u : Fin 64) : IsR (sysOf I b h t u) :=
  Spec.sys_real (Spec.key_real (k_real H b h)) (beta_real b h) (g_real H b h) t u
theorem rhsOf_real (H : Streams.Finite I) (b : Fin 8) (h : Fin 32) (t : Fin 64) (c : Fin 256) : IsR (rhsOf I b h t c) :=
  Spec.rhs_real (Spec.key_real (k_real H b h)) (v_real H b h) (beta_real b h) (g_real H b h) t c

/-- One trip solves one more row. -/
theorem Solved.step (R : Streams.Finite I) {n : ℕ} (hn : n < 64) {s : State Ideal} (F : Fixed I s) (H : Solved I n s) : Solved I (n + 1) (Step.step n s) := by
  constructor
  · intro b h t e
    rw [← Cert.Solve.upTo_succ (Spec.sys_strict _ _ _)]
    refine (row_v n s hn b h t e).trans ?_
    simp only [H.v, F.sys, F.rhs_v, (sysOf_real R b h _ _).toReal, (rhsOf_real R b h _ _).toReal]
  · intro b h t e
    rw [← Cert.Solve.upTo_succ (Spec.sys_strict _ _ _)]
    refine (row_k n s hn b h t e).trans ?_
    simp only [H.k, F.sys, F.rhs_k, (sysOf_real R b h _ _).toReal, (rhsOf_real R b h _ _).toReal]

/-- All rows solved. -/
theorem upTo_all (b : Fin 8) (h : Fin 32) (t : Fin 64) (c : Fin 256) :
    Cert.Solve.upTo (fun i j => (sysOf I b h i j).toReal) (fun i c => (rhsOf I b h i c).toReal) 64 t c = Spec.w (sysOf I b h) (rhsOf I b h) t c := by
  unfold Cert.Solve.upTo
  rw [if_pos t.isLt]
  rfl

/-- The corrected values of the last trip. -/
theorem corrected {s : State Ideal} (F : Fixed I s) (n : ℕ) (H : Solved I 64 (Step.step n s)) (b : Fin 8) (h : Fin 32) (t : Fin 64) (e : Fin 128) :
    (b17 n s : FVec Ideal S8x32x64x128 .f32) (ix4 b h t e) = Spec.headU (Streams.k I b h) (Streams.v I b h) (Streams.beta I b h) (Streams.g I b h) (Streams.s I b h) t e := by
  have hv : ∀ e : Fin 128, (b8 n s : FVec Ideal S8x32x64x128 .f32) (ix4 b h t e) = Spec.w (sysOf I b h) (rhsOf I b h) t ⟨e.val, by omega⟩ :=
    fun e => (H.v b h t e).trans (upTo_all b h t _)
  have hk : ∀ e : Fin 128, (b15 n s : FVec Ideal S8x32x64x128 .f32) (ix4 b h t e) = Spec.w (sysOf I b h) (rhsOf I b h) t ⟨128 + e.val, by omega⟩ :=
    fun e => (H.k b h t e).trans (upTo_all b h t _)
  unfold b17 b16
  pointwise [dot_S8x32x64x128_S8x32x128x128_S8x32x64x128_3_2_2_3_01_01]
  simp only [hv, hk, F.s0]
  rfl

/-- The output before its norm, and the next state. -/
theorem last_o {s : State Ideal} (F : Fixed I s) (n : ℕ) (H : Solved I 64 (Step.step n s)) (b : Fin 8) (h : Fin 32) (t : Fin 64) (e : Fin 128) :
    (b20 n s : FVec Ideal S8x32x64x128 .f32) (ix4 b h t e)
      = Spec.headO (Streams.q I b h) (Streams.k I b h) (Streams.v I b h) (Streams.beta I b h) (Streams.g I b h) (Streams.s I b h) t e := by
  unfold b20 b19 b18
  pointwise [dot_S8x32x64x128_S8x32x128x128_S8x32x64x128_3_2_2_3_01_01, dot_S8x32x64x64_S8x32x64x128_S8x32x64x128_3_2_2_3_01_01]
  simp only [corrected F n H, F.recall, F.attend, F.s0]
  rfl
theorem last_s {s : State Ideal} (F : Fixed I s) (n : ℕ) (H : Solved I 64 (Step.step n s)) (b : Fin 8) (h : Fin 32) (d e : Fin 128) :
    (b25 n s : FVec Ideal S8x32x128x128 .f32) (ix4 b h d e) = Streams.S I b h d e := by
  unfold b25 b24 b23 b22 b21
  pointwise [dot_S8x32x64x128_S8x32x64x128_S8x32x128x128_2_2_3_3_01_01]
  simp only [corrected F n H, F.write, F.fade, F.s0]
  rfl

/-- The rows of the result: the kept ones, then the new ones. -/
theorem rows_apply (Y : FVec Ideal S8192x4096 .bf16) (X : FVec Ideal S512x4096 .bf16) (r : Fin 8704) (x : Fin 4096) :
    (concatenate S8704x4096 0 [⟨S8192x4096, Y⟩, ⟨S512x4096, X⟩] concatenates_S8192x4096_S512x4096_S8704x4096_d0 : FVec Ideal S8704x4096 .bf16) (ix2 r x)
      = if h : r.val < 8192 then Y (ix2 ⟨r.val, h⟩ x) else X (ix2 ⟨r.val - 8192, by omega⟩ x) := by
  pointwise
theorem kept_apply (old : FVec Ideal S8704x4096 .bf16) (r : Fin 8192) (x : Fin 4096) :
    (extractStridedSlice S8192x4096 ![0, 0] old slices_S8704x4096_S8192x4096_0_0 : FVec Ideal S8192x4096 .bf16) (ix2 r x) = old (ix2 ⟨r.val, by omega⟩ x) := by
  pointwise

/-- The gate's argument by streams and heads. -/
theorem split_apply (z : FVec Ideal S8704x4096 .f32) (b : Fin 8) (t : Fin 64) (h : Fin 32) (d : Fin 128) :
    (shapeCast _ (extractStridedSlice S512x4096 ![8192, 0] z slices_S8704x4096_S512x4096_8192_0) shapeCasts_S512x4096_S8x64x32x128 : FVec Ideal S8x64x32x128 .f32) (ix4 b t h d)
      = z (ix2 (row b t) ⟨128 * h.val + d.val, by omega⟩) := by
  pointwise
  exact congrArg z (same2 (show 8192 + (b.val * 64 + t.val) = 8192 + 64 * b.val + t.val by omega) (show h.val * 128 + d.val = 128 * h.val + d.val by omega))
/-- Streams and heads put together. -/
theorem join_apply (X : FVec Ideal S8x64x32x128 .f32) (b : Fin 8) (t : Fin 64) (h : Fin 32) (d : Fin 128) (r : Fin 512) (x : Fin 4096)
    (hr : r.val = 64 * b.val + t.val) (hx : x.val = 128 * h.val + d.val) :
    (shapeCast _ X shapeCasts_S8x64x32x128_S512x4096 : FVec Ideal S512x4096 .f32) (ix2 r x) = X (ix4 b t h d) := by
  pointwise
  exact congrArg X (same4 (show _ = b.val by simp; omega) (show _ = t.val by simp; omega) (show _ = h.val by simp; omega) (show _ = d.val by simp; omega))

/-- The norm, the gain and the gate. -/
def normed (o : FVec Ideal S8x32x64x128 .f32) (nw : FVec Ideal S128 .f32) (z : FVec Ideal S8x64x32x128 .f32) : FVec Ideal S8x64x32x128 .f32 :=
  mulf (mulf (mulf (transpose S8x64x32x128 [0, 2, 1, 3] o transposes_S8x32x64x128_S8x64x32x128_0_2_1_3) (broadcastInDim S8x64x32x128 ![0, 1, 2, 3] bcast_S8x64x32x1_S8x64x32x128_0_1_2_3 (Host.rsqrt (addf (Host.divf (broadcastInDim S8x64x32x1 ![0, 1, 2] bcast_S8x64x32_S8x64x32x1_0_1_2 (Host.reduceAdd (mulf (transpose S8x64x32x128 [0, 2, 1, 3] o transposes_S8x32x64x128_S8x64x32x128_0_2_1_3) (transpose S8x64x32x128 [0, 2, 1, 3] o transposes_S8x32x64x128_S8x64x32x128_0_2_1_3)) (constant S_ .f32 0x00000000#32) reducesTo_S8x64x32x128_S8x64x32_d3 h_S_)) (broadcastInDim S8x64x32x1 ![] bcast_S_S8x64x32x1 (constant S_ .f32 0x43000000#32))) (broadcastInDim S8x64x32x1 ![] bcast_S_S8x64x32x1 (constant S_ .f32 0x358637BD#32)))))) (broadcastInDim S8x64x32x128 ![0, 1, 2, 3] bcast_S1x1x1x128_S8x64x32x128_0_1_2_3 (broadcastInDim S1x1x1x128 ![3] bcast_S128_S1x1x1x128_3 nw))) (mulf z (Host.divf (broadcastInDim S8x64x32x128 ![] bcast_S_S8x64x32x128 (constant S_ .f32 0x3F800000#32)) (addf (broadcastInDim S8x64x32x128 ![] bcast_S_S8x64x32x128 (constant S_ .f32 0x3F800000#32)) (Host.exp (Host.negf z)))))
theorem normed_apply (o : FVec Ideal S8x32x64x128 .f32) (nw : FVec Ideal S128 .f32) (z : FVec Ideal S8x64x32x128 .f32) (b : Fin 8) (t : Fin 64) (h : Fin 32) (d : Fin 128) :
    normed o nw z (ix4 b t h d) = Spec.gated (fun t e => o (ix4 b h t e)) (fun e => nw (ix1 e)) (fun t e => z (ix4 b t h e)) t d := by
  unfold normed
  pointwise
  rfl

/-- The rows that the operations after the loop make of its output. -/
theorem rows_new (s : State Ideal) (z : FVec Ideal S8704x4096 .f32) (nw : FVec Ideal S128 .f32) (old : FVec Ideal S8704x4096 .bf16)
    (b : Fin 8) (h : Fin 32) (t : Fin 64) (d : Fin 128) (x : Fin 4096) (hx : x.val = 128 * h.val + d.val) :
    (R_main_v154 s z nw old : FVec Ideal S8704x4096 .bf16) (ix2 (row b t) x)
      = Spec.gated (fun t e => (s.main_v132_13 : FVec Ideal S8x32x64x128 .f32) (ix4 b h t e)) (fun e => nw (ix1 e))
          (fun t e => z (ix2 (row b t) ⟨128 * h.val + e.val, by omega⟩)) t d := by
  have hr : (row b t).val = 8192 + 64 * b.val + t.val := rfl
  unfold R_main_v154
  refine (rows_apply _ _ _ _).trans ?_
  rw [dif_neg (by omega)]
  refine (join_apply (normed s.main_v132_13 nw (shapeCast _ (extractStridedSlice S512x4096 ![8192, 0] z slices_S8704x4096_S512x4096_8192_0) shapeCasts_S512x4096_S8x64x32x128))
    b t h d ⟨(row b t).val - 8192, by omega⟩ x (by show (row b t).val - 8192 = _; omega) hx).trans ?_
  refine (normed_apply _ _ _ b t h d).trans ?_
  exact congrArg (fun f => Spec.gated _ _ f t d) (funext fun t => funext fun e => split_apply z b t h e)
theorem rows_kept (s : State Ideal) (z : FVec Ideal S8704x4096 .f32) (nw : FVec Ideal S128 .f32) (old : FVec Ideal S8704x4096 .bf16)
    (r : Fin 8704) (hr : r.val < 8192) (x : Fin 4096) :
    (R_main_v154 s z nw old : FVec Ideal S8704x4096 .bf16) (ix2 r x) = old (ix2 r x) := by
  unfold R_main_v154
  refine (rows_apply _ _ _ _).trans ?_
  rw [dif_pos hr]
  exact kept_apply old ⟨r.val, hr⟩ x

end Cert.ReferenceIdeal.Read
-- ==== Proof.RefRun.lean ====
/- What the reference leaves: the rows and states of `Cert.Streams`. -/
module

public import proofs.«01_k».proof.Proof.RefHead
public import proofs.«01_k».proof.Proof.RefLoop
public import proofs.«01_k».proof.Proof.Gen.ReferenceIdeal.StepRun

@[expose] public section

set_option maxRecDepth 16384

noncomputable section

namespace Cert.ReferenceIdeal.Read

open Idealize.ShloMosaic Idealize.ShloMosaic.TcCoe Idealize.SL.Sem
open Cert.ReferenceIdeal Cert.ReferenceIdeal.Step Cert.ReferenceIdeal.StepRun Cert.Real Cert.Streams Cert.ReferenceIdeal.Gen

variable (I : Streams.In)

/-- The loop's first state. -/
abbrev start : State Ideal := init (F := Ideal) I.s0 I.qk I.v I.w I.past I.braw I.araw I.alog I.dt

theorem start_fixed : Fixed I (start I) where
  sys b h t u := system I b h t u
  rhs_v b h t e := by
    refine (right_v I b h t e).trans ?_
    unfold rhsOf Spec.rhs
    rw [dif_pos e.isLt]
  rhs_k b h t e := by
    refine (right_k I b h t e).trans ?_
    unfold rhsOf Spec.rhs
    rw [dif_neg (by show ¬ 128 + e.val < 128; omega)]
    have : (⟨128 + e.val - 128, by omega⟩ : Fin 128) = e := Fin.ext (Nat.add_sub_cancel_left _ _)
    rw [this]
  s0 _ _ _ _ := rfl
  recall b h t d := recall I b h t d
  attend b h t u := attend I b h t u
  fade b h := fade I b h
  write b h t d := write I b h t d

theorem start_solved : Solved I 0 (start I) where
  v b h t e := by
    show (K_main_v128 (F := Ideal) : FVec Ideal S8x32x64x128 .f32) (ix4 b h t e) = 0
    unfold K_main_v128 K_main_cst_8
    pointwise
  k b h t e := by
    show (K_main_v129 (F := Ideal) : FVec Ideal S8x32x64x128 .f32) (ix4 b h t e) = 0
    unfold K_main_v129 K_main_cst_9
    pointwise

/-- The loop's states. -/
def iter : ℕ → State Ideal
  | 0 => start I
  | n + 1 => Step.step n (iter n)

variable {I}

theorem iter_holds (R : Streams.Finite I) : ∀ n, n ≤ 64 → Fixed I (iter I n) ∧ Solved I n (iter I n)
  | 0, _ => ⟨start_fixed I, start_solved I⟩
  | n + 1, h =>
    have p := iter_holds R n (by omega)
    ⟨p.1.step n, p.2.step R (by omega) p.1⟩

/-- The results at an entry. -/
theorem state_entry (R : Streams.Finite I) (b : Fin 8) (h : Fin 32) (a e : Fin 128) :
    ((iter I 64).main_v132_14 : FVec Ideal S8x32x128x128 .f32) (ix4 b h a e) = Streams.S I b h a e :=
  last_s (iter_holds R 63 (by omega)).1 63 (iter_holds R 64 le_rfl).2 b h a e
theorem out_entry (R : Streams.Finite I) (old : FVec Ideal S8704x4096 .bf16) (b : Fin 8) (h : Fin 32) (t : Fin 64) (d : Fin 128) (x : Fin 4096)
    (hx : x.val = 128 * h.val + d.val) :
    (R_main_v154 (iter I 64) I.z I.nw old : FVec Ideal S8704x4096 .bf16) (ix2 (row b t) x) = Streams.O I b h t d := by
  refine (rows_new _ _ _ _ b h t d x hx).trans ?_
  exact congrArg (fun f => Spec.gated f _ _ t d)
    (funext fun t => funext fun e => last_o (iter_holds R 63 (by omega)).1 63 (iter_holds R 64 le_rfl).2 b h t e)

end Cert.ReferenceIdeal.Read
-- ==== Proof.Same.lean ====
/- The kernel's results and the reference's, entry by entry. -/
module

public import proofs.«01_k».proof.Proof.RefRun
public import proofs.«01_k».proof.Proof.KernelRun

@[expose] public section

set_option maxRecDepth 16384

noncomputable section

namespace Cert.Same

open Idealize.ShloMosaic Idealize.ShloMosaic.TcCoe
open Cert.KernelIdeal Cert.KernelIdeal.Gen Cert.KernelIdeal.Results Cert.KernelIdeal.Pieces

variable (m : (ℓ : Loc nD τ sig) → Buf (Elt Ideal) ℓ) (c : Dev nD) (H : Streams.Finite (args m c))

include H in
/-- The next states. -/
theorem states : (Cert.ReferenceIdeal.Read.iter (args m c) 64).main_v132_14 = ((dats m 0 c).arrAt 16 cfg0.N : FVec Ideal S8x32x128x128 .f32) := by
  funext i
  have hi : i = ix4 (i 0) (i 1) (i 2) (i 3) := same4 rfl rfl rfl rfl
  rw [hi]
  exact (Cert.ReferenceIdeal.Read.state_entry H _ _ _ _).trans (state_entry m c H _ _ _ _).symm

include H in
/-- The rows of the output. -/
theorem rows : Cert.ReferenceIdeal.Step.R_main_v154 (Cert.ReferenceIdeal.Read.iter (args m c) 64) (args m c).z (args m c).nw (m ((c : Thread nD τ).loc main_arg11))
    = ((dats m 0 c).arrAt 15 cfg0.N : FVec Ideal S8704x4096 .bf16) := by
  funext i
  obtain ⟨r, x, rfl⟩ : ∃ (r : Fin 8704) (x : Fin 4096), i = ix2 r x := ⟨i 0, i 1, same2 rfl rfl⟩
  by_cases hr : r.val < 8192
  · exact (Cert.ReferenceIdeal.Read.rows_kept _ _ _ _ r hr x).trans (out_kept m c r hr x).symm
  · have hr' := r.isLt
    have hx' := x.isLt
    obtain ⟨b, t, rfl⟩ : ∃ (b : Fin 8) (t : Fin 64), r = Streams.row b t :=
      ⟨⟨(r.val - 8192) / 64, by omega⟩, ⟨(r.val - 8192) % 64, by omega⟩, Fin.ext (by show r.val = 8192 + 64 * ((r.val - 8192) / 64) + (r.val - 8192) % 64; omega)⟩
    obtain ⟨h, d, rfl⟩ : ∃ (h : Fin 32) (d : Fin 128), x = colV h d :=
      ⟨⟨x.val / 128, by omega⟩, ⟨x.val % 128, by omega⟩, Fin.ext (by show x.val = 128 * (x.val / 128) + x.val % 128; omega)⟩
    exact (Cert.ReferenceIdeal.Read.out_entry H _ b h t d _ rfl).trans (out_entry m c H b h t d).symm

end Cert.Same
-- ==== Proof.OutTable.lean ====
/- The stream table of the output projection: which of the ten rows of gates a chunk of 64 rows takes. -/
module

public import proofs.«01_k».proof.Proof.Gen.GdnOutIdeal.Frame
public import Idealize.ShloMosaic.Lib.StableHlo.RunRead
public import Idealize.ShloMosaic.Lib.Pointwise
public import Idealize.ShloMosaic.Lib.Pointwise.Tactic

@[expose] public section

set_option maxRecDepth 16384

noncomputable section

namespace Cert.GdnOutIdeal.Table

open Idealize.ShloMosaic Idealize.ShloMosaic.TcCoe
open Cert.GdnOutIdeal Cert.GdnOutIdeal.Gen

variable {F : FTy → Type} [FloatOps F] (m : (ℓ : Loc nD τ sig) → Buf (Elt F) ℓ)

/-- The stream of a chunk of 64 rows: two prompts of 64 chunks each, then eight samples of one chunk each. -/
def stream (n : ℕ) : ℕ := if n < 128 then n / 64 else n - 126

theorem stream_le (n : ℕ) (h : n < 136) : stream n < 10 := by unfold stream; split <;> omega

/-- The table holds the streams. -/
theorem word (n : Fin 136) : (V m 0 main_v11 : IVec S136 32) (ix1 n) = BitVec.ofNat 32 (stream n.val) := by
  unfold V
  after_reads_simp
  pointwise
  unfold stream
  split
  · rfl
  · rename_i h
    show BitVec.ofNat 32 2 + BitVec.ofNat 32 (n.val - 128) = _
    rw [← BitVec.ofNat_add]
    exact congrArg (BitVec.ofNat 32) (by omega)

theorem chk (n : ℕ) (h : n < 136) : k0_chk1 (BitVec.ofNat 32 (stream n)) := by
  have hs := stream_le n h
  intro a
  match a with
  | ⟨0, _⟩ => show (BitVec.ofNat 32 (stream n)).toNat + 1 ≤ 10; rw [BitVec.toNat_ofNat]; omega
  | ⟨1, _⟩ => show 0 + 2048 ≤ 2048; omega

/-- The entries of the table that a step reads. -/
theorem off (t : Fin grid0.N) : k0_off1 (grid0.coords t) 0 = 4 * t.val ∧ k0_off3 (grid0.coords t) 0 = 4 * t.val + 1
    ∧ k0_off5 (grid0.coords t) 0 = 4 * t.val + 2 ∧ k0_off7 (grid0.coords t) 0 = 4 * t.val + 3 :=
  (by decide +kernel : ∀ t : Fin grid0.N, k0_off1 (grid0.coords t) 0 = 4 * t.val ∧ k0_off3 (grid0.coords t) 0 = 4 * t.val + 1
    ∧ k0_off5 (grid0.coords t) 0 = 4 * t.val + 2 ∧ k0_off7 (grid0.coords t) 0 = 4 * t.val + 3) t

theorem read (o : Fin 1 → ℕ) (h : ∀ a, o a + S1.size a ≤ S136.size a) (x : S1.Idx) (n : Fin 136) (hn : o 0 = n.val) :
    tbM0_0.view.readAt (Elt F) (Rect.unit (s := S136) o S1.size h).toLoadRect (tbl m 0) x = BitVec.ofNat 32 (stream n.val) := by
  refine Eq.trans ?_ (word m n)
  show (V m 0 main_v11 : IVec S136 32) ((Rect.unit (s := S136) o S1.size h).toLoadRect.idx x) = (V m 0 main_v11 : IVec S136 32) (ix1 n)
  refine congrArg (V m 0 main_v11 : IVec S136 32) (funext fun a => match a with | ⟨0, _⟩ => Fin.ext ?_)
  show o 0 + 1 * (x 0).val = n.val
  have : (x 0).val < 1 := (x 0).isLt
  omega

theorem ok : Ok m := trivial

/-- Every entry that a step reads is a row of the gates. -/
theorem hyps : Hyps m (ok m) := by
  refine Hyps.of (fun c t => ?_) (fun c t => ?_) (fun c t => ?_) (fun c t => ?_) <;>
    have ht : t.val < 34 := lt_of_lt_of_eq t.isLt N_0
  · show k0_chk1 _
    rw [read m _ _ _ ⟨4 * t.val, by omega⟩ (off t).1]
    exact chk _ (by omega)
  · show k0_chk1 _
    rw [read m _ _ _ ⟨4 * t.val + 1, by omega⟩ (off t).2.1]
    exact chk _ (by omega)
  · show k0_chk1 _
    rw [read m _ _ _ ⟨4 * t.val + 2, by omega⟩ (off t).2.2.1]
    exact chk _ (by omega)
  · show k0_chk1 _
    rw [read m _ _ _ ⟨4 * t.val + 3, by omega⟩ (off t).2.2.2]
    exact chk _ (by omega)

end Cert.GdnOutIdeal.Table

end
-- ==== Proof.Rows.lean ====
/- An array of rows filled by stores of whole rows: which store an entry comes from. -/
module

public import Idealize.ShloMosaic.Lib.Pipeline.FrameBody
public import Idealize.ShloMosaic.Lib.Pointwise
public import Idealize.ShloMosaic.PureOps.Ideal

@[expose] public section

noncomputable section

namespace Cert.Rows

open Idealize.ShloMosaic

/-- Two indices of a matrix with the same coordinates. -/
theorem at2 {n0 n1 : ℕ} {x y : (⟨2, ![n0, n1]⟩ : Shape).Idx} (h0 : (x 0).val = (y 0).val) (h1 : (x 1).val = (y 1).val) : x = y :=
  funext fun a => match a with | ⟨0, _⟩ => Fin.ext h0 | ⟨1, _⟩ => Fin.ext h1

variable {F : FTy → Type} [FloatOps F] {e : EltTy} {N W k o : ℕ}
  (hi : ∀ a, (![o, 0] : Fin 2 → ℕ) a + (![k, W] : Fin 2 → ℕ) a ≤ (![N, W] : Fin 2 → ℕ) a)
  (w : (⟨2, ![k, W]⟩ : Shape).Idx → Elt F e) (L : List (View.Piece (Elt F) (⟨2, ![N, W]⟩ : Shape) e))

/-- An entry of the rows stored last is the stored one. -/
theorem canon_here (r : Fin N) (c : Fin W) (u : Fin k) (h : r.val = o + u.val) :
    View.canon (⟨Rect.unit (s := ⟨2, ![N, W]⟩) ![o, 0] ![k, W] hi, w⟩ :: L) (ix2 r c) = w (ix2 u c) := by
  refine Eq.trans ?_ (View.canon_cons_emb (Val := Elt F) (e := e) (Rect.unit (s := ⟨2, ![N, W]⟩) ![o, 0] ![k, W] hi) w L (ix2 u c))
  exact congrArg _ (at2 (show r.val = o + 1 * u.val by omega) (show c.val = 0 + 1 * c.val by omega))

/-- An entry of another row is what was there before. -/
theorem canon_before (r : Fin N) (c : Fin W) (h : r.val < o ∨ o + k ≤ r.val) :
    View.canon (⟨Rect.unit (s := ⟨2, ![N, W]⟩) ![o, 0] ![k, W] hi, w⟩ :: L) (ix2 r c) = View.canon L (ix2 r c) := by
  refine View.canon_cons_of_not_mem _ _ fun hm => ?_
  have := (Rect.mem_set_unit (s := ⟨2, ![N, W]⟩) (inb := hi)).1 hm 0
  have h1 : o ≤ r.val := this.1
  have h2 : r.val < o + k := this.2
  omega

/-- Eight stores of 64 rows each: an entry is in the store its row falls into. -/
theorem eight {h0 h1 h2 h3 h4 h5 h6 h7} (w0 w1 w2 w3 w4 w5 w6 w7 : (⟨2, ![64, W]⟩ : Shape).Idx → Elt F e) (r : Fin 512) (c : Fin W) (v : Elt F e)
    (e0 : ∀ u : Fin 64, r.val = 64 * 0 + u.val → w0 (ix2 u c) = v) (e1 : ∀ u : Fin 64, r.val = 64 * 1 + u.val → w1 (ix2 u c) = v)
    (e2 : ∀ u : Fin 64, r.val = 64 * 2 + u.val → w2 (ix2 u c) = v) (e3 : ∀ u : Fin 64, r.val = 64 * 3 + u.val → w3 (ix2 u c) = v)
    (e4 : ∀ u : Fin 64, r.val = 64 * 4 + u.val → w4 (ix2 u c) = v) (e5 : ∀ u : Fin 64, r.val = 64 * 5 + u.val → w5 (ix2 u c) = v)
    (e6 : ∀ u : Fin 64, r.val = 64 * 6 + u.val → w6 (ix2 u c) = v) (e7 : ∀ u : Fin 64, r.val = 64 * 7 + u.val → w7 (ix2 u c) = v) :
    View.canon [⟨Rect.unit (s := ⟨2, ![512, W]⟩) ![448, 0] ![64, W] h7, w7⟩, ⟨Rect.unit (s := ⟨2, ![512, W]⟩) ![384, 0] ![64, W] h6, w6⟩,
      ⟨Rect.unit (s := ⟨2, ![512, W]⟩) ![320, 0] ![64, W] h5, w5⟩, ⟨Rect.unit (s := ⟨2, ![512, W]⟩) ![256, 0] ![64, W] h4, w4⟩,
      ⟨Rect.unit (s := ⟨2, ![512, W]⟩) ![192, 0] ![64, W] h3, w3⟩, ⟨Rect.unit (s := ⟨2, ![512, W]⟩) ![128, 0] ![64, W] h2, w2⟩,
      ⟨Rect.unit (s := ⟨2, ![512, W]⟩) ![64, 0] ![64, W] h1, w1⟩, ⟨Rect.unit (s := ⟨2, ![512, W]⟩) ![0, 0] ![64, W] h0, w0⟩] (ix2 r c) = v := by
  have key : ∀ {o : ℕ} {hi} {w : (⟨2, ![64, W]⟩ : Shape).Idx → Elt F e} {L : List (View.Piece (Elt F) (⟨2, ![512, W]⟩ : Shape) e)},
      (∀ u : Fin 64, r.val = o + u.val → w (ix2 u c) = v) → (r.val < o → View.canon L (ix2 r c) = v) → r.val < o + 64 →
      View.canon (⟨Rect.unit (s := ⟨2, ![512, W]⟩) ![o, 0] ![64, W] hi, w⟩ :: L) (ix2 r c) = v := fun {o} _ _ _ hw hL hr => by
    by_cases ho : r.val < o
    · exact (canon_before _ _ _ r c (.inl ho)).trans (hL ho)
    · exact (canon_here _ _ _ r c ⟨r.val - o, by omega⟩ (show r.val = o + (r.val - o) by omega)).trans (hw _ (show r.val = o + (r.val - o) by omega))
  exact key e7 (key e6 (key e5 (key e4 (key e3 (key e2 (key e1 (key e0 fun h => absurd h (Nat.not_lt_zero _))))))))
    (lt_of_lt_of_eq r.isLt rfl)

end Cert.Rows

end
-- ==== Proof.OutBlock.lean ====
/- One step of the output projection: a block of 256 rows is the block of the residual stream plus, chunk by chunk, a row of
   gates times the product of the block of attention outputs with the weights. -/
module

public import proofs.«01_k».proof.Proof.OutTable
public import proofs.«01_k».proof.Proof.Rows
public import Idealize.ShloMosaic.Lib.WholeRead

@[expose] public section

set_option maxRecDepth 16384

noncomputable section

namespace Cert.GdnOutIdeal.Block

open Idealize.ShloMosaic Idealize.ShloMosaic.TcCoe
open Cert.GdnOutIdeal Cert.GdnOutIdeal.Gen

/-- The product, entry by entry. -/
theorem product (x : FVec Ideal S256x4096 .bf16) (w : FVec Ideal S4096x2048 .bf16) (r : Fin 256) (j : Fin 2048) :
    (k0_pay4 (F := Ideal) x w (ix2 r j) : EReal) = ∑ k : Fin 4096, (x (ix2 r k) : EReal) * w (ix2 k j) := by
  unfold k0_pay4
  pointwise [dot_S256x4096_S4096x2048_S256x2048_1_0_0_1_n_n]

theorem copied (x : FVec Ideal S256x4096 .bf16) : k0_pay3 x = x := by
  funext i
  have hi : i = ix2 (i 0) (i 1) := Rows.at2 rfl rfl
  rw [hi]
  unfold k0_pay3
  pointwise

theorem chunk0 (x : FVec Ideal S256x4096 .bf16) (w : FVec Ideal S4096x2048 .bf16) (g : FVec Ideal S1x2048 .f32) (y : FVec Ideal S64x2048 .f32) (u : Fin 64) (j : Fin 2048) :
    k0_pay5 (F := Ideal) x w g y (ix2 u j) = y (ix2 u j) + g (ix2 0 j) * k0_pay4 (F := Ideal) x w (ix2 ⟨u.val, by omega⟩ j) := by
  unfold k0_pay5
  pointwise
theorem chunk1 (x : FVec Ideal S256x4096 .bf16) (w : FVec Ideal S4096x2048 .bf16) (g : FVec Ideal S1x2048 .f32) (y : FVec Ideal S64x2048 .f32) (u : Fin 64) (j : Fin 2048) :
    k0_pay6 (F := Ideal) x w g y (ix2 u j) = y (ix2 u j) + g (ix2 0 j) * k0_pay4 (F := Ideal) x w (ix2 ⟨64 + u.val, by omega⟩ j) := by
  unfold k0_pay6
  pointwise
theorem chunk2 (v : FVec Ideal S256x2048 .f32) (g : FVec Ideal S1x2048 .f32) (y : FVec Ideal S64x2048 .f32) (u : Fin 64) (j : Fin 2048) :
    k0_pay1 (F := Ideal) v g y (ix2 u j) = y (ix2 u j) + g (ix2 0 j) * v (ix2 ⟨128 + u.val, by omega⟩ j) := by
  unfold k0_pay1
  pointwise
theorem chunk3 (v : FVec Ideal S256x2048 .f32) (g : FVec Ideal S1x2048 .f32) (y : FVec Ideal S64x2048 .f32) (u : Fin 64) (j : Fin 2048) :
    k0_pay2 (F := Ideal) v g y (ix2 u j) = y (ix2 u j) + g (ix2 0 j) * v (ix2 ⟨192 + u.val, by omega⟩ j) := by
  unfold k0_pay2
  pointwise

/-- A load of rows from a whole buffer. -/
theorem load {sp : Space} {e : EltTy} {N W k o : ℕ} {a : Memref sig .tc sp ⟨2, ![N, W]⟩ e} (h : a.IsWhole) (X : Vec Ideal ⟨2, ![N, W]⟩ e)
    {off : Fin 2 → ℕ} {hi} (ho : off 0 = o) (hz : off 1 = 0) (u : Fin k) (j : Fin W) (r : Fin N) (hr : r.val = o + u.val) :
    View.readAt (Elt Ideal) a.view (Rect.unit (s := ⟨2, ![N, W]⟩) off ![k, W] hi).toLoadRect (h.unread X) (ix2 u j) = X (ix2 r j) := by
  rw [Memref.IsWhole.readAt_unread]
  exact congrArg X (Rows.at2 (show off 0 + 1 * u.val = r.val by omega) (show off 1 + 1 * j.val = j.val by omega))

section entry
variable (c : Dev nD) (i : grid0.Coords) (arg3 : Memref sig .tc .vmem S256x4096 .bf16) (harg3 : arg3.IsWhole) (arg4 : Memref sig .tc .vmem S4096x2048 .bf16) (harg4 : arg4.IsWhole) (arg5 : Memref sig .tc .vmem S256x2048 .f32) (harg5 : arg5.IsWhole) (arg6 : Memref sig .tc .vmem S10x2048 .f32) (harg6 : arg6.IsWhole) (arg7 : Memref sig .tc .vmem S256x2048 .f32) (harg7 : arg7.IsWhole) (arg8 : Memref sig .tc .vmem S256x4096 .bf16) (harg8 : arg8.IsWhole) (hc0 : cond0_0 i)
  (x0 : Vec Ideal S256x4096 .bf16) (x1 : Vec Ideal S4096x2048 .bf16) (x2 : Vec Ideal S256x2048 .f32) (x3 : Vec Ideal S10x2048 .f32) (xt0 : TbBuf0 (F := Ideal) c tbM0_0) (k0_hw1) (k0_hw2) (k0_hw3) (k0_hw4)

/-- The attention outputs, read back from the buffer they are copied to. -/
theorem operand : kernelRun0_A.sl.v4 c arg3 harg3 arg8 x0 = x0 := by
  funext y
  have hy : y = ix2 (y 0) (y 1) := Rows.at2 rfl rfl
  rw [hy]
  unfold kernelRun0_A.sl.v4 kernelRun0_A.sl.HS0_1 View.readCov
  rw [View.readAt_writes_junk_eq_canon]
  refine (congrArg (View.canon _) (Rows.at2 (y := ix2 (y 0) (y 1)) (show 0 + 1 * (y 0).val = (y 0).val by omega) (show 0 + 1 * (y 1).val = (y 1).val by omega))).trans ?_
  refine (Rows.canon_here _ _ _ (y 0) (y 1) (y 0) (by omega)).trans ?_
  rw [copied]
  exact load (o := 0) harg3 x0 rfl rfl (y 0) (y 1) (y 0) (Nat.zero_add _).symm

theorem weights : View.readAt (Elt Ideal) arg4.view (Rect.unit (s := S4096x2048) ![0, 0] S4096x2048.size inb_S4096x2048_S4096x2048_0_0).toLoadRect (harg4.unread x1) = x1 := by
  funext y
  have hy : y = ix2 (y 0) (y 1) := Rows.at2 rfl rfl
  rw [hy]
  exact load (o := 0) harg4 x1 rfl rfl (y 0) (y 1) (y 0) (Nat.zero_add _).symm

/-- An entry of the step's output, given the rows of gates its four chunks take. -/
theorem entry (g : Fin 4 → Fin 10) (h0 : k0_off2 (kernelRun0_A.sl.r c i xt0) 0 = (g 0).val) (h1 : k0_off4 (kernelRun0_A.sl.r_1 c i xt0) 0 = (g 1).val)
    (h2 : k0_off6 (kernelRun0_A.sl.r_3 c i xt0) 0 = (g 2).val) (h3 : k0_off8 (kernelRun0_A.sl.r_4 c i xt0) 0 = (g 3).val)
    (q : Fin 4) (u : Fin 64) (j : Fin 2048) (r : Fin 256) (hr : r.val = 64 * q.val + u.val) :
    (out0_A_4 c i arg3 harg3 arg4 harg4 arg5 harg5 arg6 harg6 arg7 harg7 arg8 harg8 hc0 x0 x1 x2 x3 xt0 k0_hw1 k0_hw2 k0_hw3 k0_hw4 (ix2 r j) : EReal)
      = x2 (ix2 r j) + x3 (ix2 (g q) j) * ∑ k : Fin 4096, (x0 (ix2 r k) : EReal) * x1 (ix2 k j) := by
  unfold out0_A_4
  refine (View.read_writes_junk_apply_eq_canon _ _ _).trans ?_
  unfold kernelRun0_A
  have hu := u.isLt
  match q with
  | 3 =>
    have hr' : r.val = 192 + u.val := hr
    refine (Rows.canon_here _ _ _ r j u hr').trans ((chunk3 _ _ _ u j).trans ?_)
    rw [← product]
    have er : r = ⟨192 + u.val, by omega⟩ := Fin.ext hr'
    unfold kernelRun0_A.sl.r_2
    rw [operand, weights]
    exact congrArg₂ _ (load harg5 x2 rfl rfl u j r hr') (congrArg₂ _ (load harg6 x3 h3 rfl 0 j (g 3) rfl) (by rw [er]))
  | 2 =>
    have hr' : r.val = 128 + u.val := hr
    refine (Rows.canon_before _ _ _ r j (by omega)).trans ?_
    refine (Rows.canon_here _ _ _ r j u hr').trans ((chunk2 _ _ _ u j).trans ?_)
    rw [← product]
    have er : r = ⟨128 + u.val, by omega⟩ := Fin.ext hr'
    unfold kernelRun0_A.sl.r_2
    rw [operand, weights]
    exact congrArg₂ _ (load harg5 x2 rfl rfl u j r hr') (congrArg₂ _ (load harg6 x3 h2 rfl 0 j (g 2) rfl) (by rw [er]))
  | 1 =>
    have hr' : r.val = 64 + u.val := hr
    refine (Rows.canon_before _ _ _ r j (by omega)).trans ((Rows.canon_before _ _ _ r j (by omega)).trans ?_)
    refine (Rows.canon_here _ _ _ r j u hr').trans ((chunk1 _ _ _ _ u j).trans ?_)
    rw [← product]
    have er : r = ⟨64 + u.val, by omega⟩ := Fin.ext hr'
    rw [operand, weights]
    exact congrArg₂ _ (load harg5 x2 rfl rfl u j r hr') (congrArg₂ _ (load harg6 x3 h1 rfl 0 j (g 1) rfl) (by rw [er]))
  | 0 =>
    have hr' : r.val = 0 + u.val := hr
    refine (Rows.canon_before _ _ _ r j (by omega)).trans ((Rows.canon_before _ _ _ r j (by omega)).trans ((Rows.canon_before _ _ _ r j (by omega)).trans ?_))
    refine (Rows.canon_here _ _ _ r j u hr').trans ((chunk0 _ _ _ _ u j).trans ?_)
    rw [← product]
    have er : r = ⟨u.val, by omega⟩ := Fin.ext (show r.val = u.val by omega)
    rw [operand, weights]
    exact congrArg₂ _ (load harg5 x2 rfl rfl u j r hr') (congrArg₂ _ (load harg6 x3 h0 rfl 0 j (g 0) rfl) (by rw [er]))

end entry

end Cert.GdnOutIdeal.Block

end
-- ==== Proof.OutRun.lean ====
/- The output projection's run: what its result array holds. -/
module

public import proofs.«01_k».proof.Proof.OutBlock

@[expose] public section

set_option maxRecDepth 16384

noncomputable section

namespace Cert.GdnOutIdeal.Results

open Idealize.ShloMosaic Idealize.ShloMosaic.TcCoe Idealize.SL.Sem
open Cert.GdnOutIdeal Cert.GdnOutIdeal.Gen Cert.GdnOutIdeal.Table

variable (m : (ℓ : Loc nD τ sig) → Buf (Elt Ideal) ℓ) (ρ : Dev nD → PrngReg) (c : Dev nD)

/-- The arguments as launched. -/
abbrev a0 : FVec Ideal S8704x4096 .bf16 := m ((c : Thread nD τ).loc main_arg0)
abbrev a1 : FVec Ideal S4096x2048 .f32 := m ((c : Thread nD τ).loc main_arg1)
abbrev a2 : FVec Ideal S2x4096x2048 .f32 := m ((c : Thread nD τ).loc main_arg2)
abbrev a3 : FVec Ideal S8x64x2048 .f32 := m ((c : Thread nD τ).loc main_arg3)
abbrev a4 : FVec Ideal S10x2048 .f32 := m ((c : Thread nD τ).loc main_arg4)

/-- The residual stream, prompts then samples, by rows. -/
def resid (r : Fin 8704) (j : Fin 2048) : EReal :=
  if h : r.val < 8192 then a2 m c (ix3 ⟨r.val / 4096, by omega⟩ ⟨r.val % 4096, by omega⟩ j)
  else a3 m c (ix3 ⟨(r.val - 8192) / 64, by omega⟩ ⟨(r.val - 8192) % 64, by omega⟩ j)

/-- What an entry of the result is. -/
def value (r : Fin 8704) (j : Fin 2048) : EReal :=
  resid m c r j + a4 m c (ix2 ⟨stream (r.val / 64), stream_le _ (by omega)⟩ j) * ∑ k : Fin 4096, (a0 m c (ix2 r k) : EReal) * a1 m c (ix2 k j)

theorem rows_v2 (r : Fin 8704) (j : Fin 2048) : (V m c main_v2 : FVec Ideal S8704x2048 .f32) (ix2 r j) = resid m c r j := by
  have e : V m c main_v2 = concatenate S8704x2048 0 [⟨S8192x2048, shapeCast S8192x2048 (a2 m c) shapeCasts_S2x4096x2048_S8192x2048⟩,
      ⟨S512x2048, shapeCast S512x2048 (a3 m c) shapeCasts_S8x64x2048_S512x2048⟩] concatenates_S8192x2048_S512x2048_S8704x2048_d0 := by
    unfold V
    after_results <;> rfl
  rw [e]
  unfold resid
  pointwise
theorem weights_v12 (k : Fin 4096) (j : Fin 2048) : (V m c main_v12 : FVec Ideal S4096x2048 .bf16) (ix2 k j) = a1 m c (ix2 k j) := by
  unfold V
  after_reads_simp
  pointwise

abbrev cfgT := cfgM m (ok m)
abbrev datT := dats m (ok m) (hyps m) 0 c

/-! ### The blocks -/

theorem ix_0 (t : Fin grid0.N) : cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0) t
theorem ix_1 (t : Fin grid0.N) : cc0_transform_1 (grid0.coords t) 0 = 0 ∧ cc0_transform_1 (grid0.coords t) 1 = 0 :=
  (by decide +kernel : ∀ t : Fin grid0.N, cc0_transform_1 (grid0.coords t) 0 = 0 ∧ cc0_transform_1 (grid0.coords t) 1 = 0) t
theorem ix_2 (t : Fin grid0.N) : cc0_transform_2 (grid0.coords t) 0 = t.val ∧ cc0_transform_2 (grid0.coords t) 1 = 0 :=
  (by decide +kernel : ∀ t : Fin grid0.N, cc0_transform_2 (grid0.coords t) 0 = t.val ∧ cc0_transform_2 (grid0.coords t) 1 = 0) t
theorem ix_3 (t : Fin grid0.N) : cc0_transform_3 (grid0.coords t) 0 = 0 ∧ cc0_transform_3 (grid0.coords t) 1 = 0 :=
  (by decide +kernel : ∀ t : Fin grid0.N, cc0_transform_3 (grid0.coords t) 0 = 0 ∧ cc0_transform_3 (grid0.coords t) 1 = 0) t
theorem ix_4 (t : Fin grid0.N) : cc0_transform_4 (grid0.coords t) 0 = t.val ∧ cc0_transform_4 (grid0.coords t) 1 = 0 :=
  (by decide +kernel : ∀ t : Fin grid0.N, cc0_transform_4 (grid0.coords t) 0 = t.val ∧ cc0_transform_4 (grid0.coords t) 1 = 0) t

/-- A row of a step's block in the whole array. -/
abbrev row (t : Fin grid0.N) (r : Fin 256) : Fin 8704 := ⟨256 * t.val + r.val, by have := lt_of_lt_of_eq t.isLt N_0; omega⟩

theorem blk_0 (t : Fin grid0.N) (r : Fin 256) (k : Fin 4096) : (iblk m (ok m) c 0 t : FVec Ideal S256x4096 .bf16) (ix2 r k) = a0 m c (ix2 (row t r) k) := by
  unfold iblk
  refine (View.read_apply ..).trans ?_
  show V m c main_arg0 _ = _
  rw [V_main_arg0]
  refine congrArg (a0 m c) (Rows.at2 ?_ ?_)
  · show cc0_transform_0 (grid0.coords t) 0 * 256 + 1 * r.val = 256 * t.val + r.val; rw [(ix_0 t).1]; omega
  · show cc0_transform_0 (grid0.coords t) 1 * 4096 + 1 * k.val = k.val; rw [(ix_0 t).2]; omega
theorem blk_1 (t : Fin grid0.N) (k : Fin 4096) (j : Fin 2048) : (iblk m (ok m) c 1 t : FVec Ideal S4096x2048 .bf16) (ix2 k j) = a1 m c (ix2 k j) := by
  unfold iblk
  refine (View.read_apply ..).trans ?_
  refine Eq.trans ?_ (weights_v12 m c k j)
  show (V m c main_v12 : FVec Ideal S4096x2048 .bf16) _ = _
  refine congrArg (V m c main_v12 : FVec Ideal S4096x2048 .bf16) (Rows.at2 ?_ ?_)
  · show cc0_transform_1 (grid0.coords t) 0 * 4096 + 1 * k.val = k.val; rw [(ix_1 t).1]; omega
  · show cc0_transform_1 (grid0.coords t) 1 * 2048 + 1 * j.val = j.val; rw [(ix_1 t).2]; omega
theorem blk_2 (t : Fin grid0.N) (r : Fin 256) (j : Fin 2048) : (iblk m (ok m) c 2 t : FVec Ideal S256x2048 .f32) (ix2 r j) = resid m c (row t r) j := by
  unfold iblk
  refine (View.read_apply ..).trans ?_
  refine Eq.trans ?_ (rows_v2 m c (row t r) j)
  show (V m c main_v2 : FVec Ideal S8704x2048 .f32) _ = _
  refine congrArg (V m c main_v2 : FVec Ideal S8704x2048 .f32) (Rows.at2 ?_ ?_)
  · show cc0_transform_2 (grid0.coords t) 0 * 256 + 1 * r.val = 256 * t.val + r.val; rw [(ix_2 t).1]; omega
  · show cc0_transform_2 (grid0.coords t) 1 * 2048 + 1 * j.val = j.val; rw [(ix_2 t).2]; omega
theorem blk_3 (t : Fin grid0.N) (b : Fin 10) (j : Fin 2048) : (iblk m (ok m) c 3 t : FVec Ideal S10x2048 .f32) (ix2 b j) = a4 m c (ix2 b j) := by
  unfold iblk
  refine (View.read_apply ..).trans ?_
  show V m c main_arg4 _ = _
  rw [V_main_arg4]
  refine congrArg (a4 m c) (Rows.at2 ?_ ?_)
  · show cc0_transform_3 (grid0.coords t) 0 * 10 + 1 * b.val = b.val; rw [(ix_3 t).1]; omega
  · show cc0_transform_3 (grid0.coords t) 1 * 2048 + 1 * j.val = j.val; rw [(ix_3 t).2]; omega

/-- The row of gates that a word of the table names. -/
theorem gates (n : ℕ) (h : n < 136) : k0_off2 (BitVec.ofNat 32 (stream n)) 0 = stream n := by
  show (BitVec.ofNat 32 (stream n)).toNat = stream n
  have := stream_le n h
  rw [BitVec.toNat_ofNat]
  omega

/-- What a step writes. -/
theorem flushed (t : Fin grid0.N) (r : Fin 256) (j : Fin 2048) :
    ((datT m c).flushed 4 t : FVec Ideal S256x2048 .f32) (ix2 r j) = value m c (row t r) j := by
  have ht : t.val < 34 := lt_of_lt_of_eq t.isLt N_0
  have e : (datT m c).flushed 4 t = ((cfgT m).win 4).cut (grid0.coords t) (outsAt0 m (ok m) (hyps m) c t) := by
    show ((cfgT m).win 4).cut (grid0.coords t) ((datT m c).after 4 t) = _
    rw [after0_4]
  rw [e]
  show (outsAt0 m (ok m) (hyps m) c t : FVec Ideal S256x2048 .f32) (ix2 r j) = _
  unfold outsAt0
  refine (Block.entry c _ _ _ _ _ _ _ _ _ _ _ _ _ _ _ _ _ _ _ _ _ _ _ (fun q => ⟨stream (4 * t.val + q.val), stream_le _ (by omega)⟩) ?_ ?_ ?_ ?_
    ⟨r.val / 64, by omega⟩ ⟨r.val % 64, by omega⟩ j r (show r.val = 64 * (r.val / 64) + r.val % 64 by omega)).trans ?_
  · exact (congrArg (fun w => k0_off2 w 0) (Table.read m _ _ _ ⟨4 * t.val, by omega⟩ (off t).1)).trans (gates _ (by omega))
  · exact (congrArg (fun w => k0_off2 w 0) (Table.read m _ _ _ ⟨4 * t.val + 1, by omega⟩ (off t).2.1)).trans (gates _ (by omega))
  · exact (congrArg (fun w => k0_off2 w 0) (Table.read m _ _ _ ⟨4 * t.val + 2, by omega⟩ (off t).2.2.1)).trans (gates _ (by omega))
  · exact (congrArg (fun w => k0_off2 w 0) (Table.read m _ _ _ ⟨4 * t.val + 3, by omega⟩ (off t).2.2.2)).trans (gates _ (by omega))
  rw [blk_2, blk_3]
  unfold value
  have es : (⟨stream (4 * t.val + r.val / 64), stream_le _ (by omega)⟩ : Fin 10) = ⟨stream ((row t r).val / 64), stream_le _ (by omega)⟩ :=
    Fin.ext (congrArg stream (show 4 * t.val + r.val / 64 = (256 * t.val + r.val) / 64 by omega))
  rw [← es]
  refine congrArg₂ _ rfl (congrArg₂ _ rfl (Finset.sum_congr rfl fun k _ => ?_))
  rw [blk_0, blk_1]

/-- Every block of the result is written once. -/
theorem disjoint (t t' : Fin grid0.N) (h : t ≠ t') : Disjoint (((cfgT m).win 4).blk t).view.set (((cfgT m).win 4).blk t').view.set := by
  refine ((cfgT m).win 4).disjoint_blk fun e => h (Fin.ext ?_)
  have h1 : cc0_transform_4 (grid0.coords t) 0 = cc0_transform_4 (grid0.coords t') 0 := congrFun e (0 : Fin 2)
  rw [(ix_4 t).1, (ix_4 t').1] at h1
  exact h1

theorem blocks (t : Fin (cfgT m).N) (hf : ((cfgT m).win 4).flush t = true) :
    (((cfgT m).win 4).blk t).view.read (Elt Ideal) ((datT m c).arrAt 4 (cfgT m).N) = (datT m c).flushed 4 t :=
  (datT m c).read_blk_arrAt_eq_flushed 4 (fun t t' _ _ h => disjoint m t t' h) (cfgT m).N t t.isLt hf

theorem block_entry (t : Fin grid0.N) (u : Fin 256) (j : Fin 2048) :
    ((((cfgT m).win 4).blk t).view.read (Elt Ideal) ((datT m c).arrAt 4 (cfgT m).N) : FVec Ideal S256x2048 .f32) (ix2 u j) = value m c (row t u) j :=
  (congrFun (blocks m c t (flush0_4 _ t)) (ix2 u j)).trans (flushed m c t u j)

theorem block_read (t : Fin grid0.N) (u : Fin 256) (j : Fin 2048) (A : FVec Ideal S8704x2048 .f32) :
    ((((cfgT m).win 4).blk t).view.read (Elt Ideal) A : FVec Ideal S256x2048 .f32) (ix2 u j) = A (ix2 (row t u) j) := by
  refine (View.read_apply ..).trans ?_
  refine congrArg A (Rows.at2 ?_ ?_)
  · show cc0_transform_4 (grid0.coords t) 0 * 256 + 1 * u.val = 256 * t.val + u.val; rw [(ix_4 t).1]; omega
  · show cc0_transform_4 (grid0.coords t) 1 * 2048 + 1 * j.val = j.val; rw [(ix_4 t).2]; omega

/-- The result array after the run. -/
def result : FVec Ideal S8704x2048 .f32 := (datT m c).arrAt 4 (cfgT m).N

theorem entry (r : Fin 8704) (j : Fin 2048) : result m c (ix2 r j) = value m c r j := by
  obtain ⟨t, u, h⟩ : ∃ (t : Fin grid0.N) (u : Fin 256), r = row t u :=
    ⟨⟨r.val / 256, lt_of_lt_of_eq (by omega : r.val / 256 < 34) N_0.symm⟩, ⟨r.val % 256, by omega⟩, Fin.ext (show r.val = 256 * (r.val / 256) + r.val % 256 by omega)⟩
  rw [h]
  exact (block_read m t u j (result m c)).symm.trans (block_entry m c t u j)

end Cert.GdnOutIdeal.Results

end
-- ==== Proof.OutSame.lean ====
/- The output projection's claims: both programs run and keep their arguments, and the kernel's result is the reference's. -/
module

public import proofs.«01_k».proof.Defs
public import proofs.«01_k».proof.Proof.OutRun
public import proofs.«01_k».proof.Proof.Gen.GdnOut.Frame
public import proofs.«01_k».proof.Proof.Gen.GdnOutRefIdeal.Run
public import proofs.«01_k».proof.Proof.Gen.GdnOutRefIdeal.Read
public import Idealize.ShloMosaic.Adequacy

@[expose] public section

set_option maxRecDepth 16384

noncomputable section

namespace Cert.OutSame

open Idealize.ShloMosaic Idealize.ShloMosaic.TcCoe Idealize.SL.Sem

section kernel
open Cert.GdnOutIdeal Cert.GdnOutIdeal.Gen Cert.GdnOutIdeal.Table Cert.GdnOutIdeal.Results

/-- The kernel's run: its result array and its arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 4, h.2 c⟩)
    (θ_run_and (run_main m ρ (ok m) (hyps m)) (unchanged m ρ (ok m) (hyps m)))
end kernel

theorem frame : @quiescent_GdnOut Cert.GdnOut.Gen.facts :=
  fun m ρ _ => Cert.GdnOut.Gen.frame m ρ trivial (Cert.GdnOutIdeal.Table.hyps m)
theorem frame_ideal : @quiescent_GdnOutIdeal Cert.GdnOutIdeal.Gen.facts :=
  fun m ρ _ => Cert.GdnOutIdeal.Gen.frame m ρ (Cert.GdnOutIdeal.Table.ok m) (Cert.GdnOutIdeal.Table.hyps m)
theorem frame_reference : @quiescent_GdnOutRefIdeal Cert.GdnOutRefIdeal.Gen.facts := fun m ρ _ =>
  (θ_run _ _ _).mono (fun r h => ⟨fun c => (h c).2, sem_eq_zero_of_no_sems rfl r.2⟩) (Cert.GdnOutRefIdeal.Value.run m ρ)

section reference
open Cert.GdnOutRefIdeal Cert.GdnOutRefIdeal.Read

variable (x0 : FVec Ideal S8704x4096 .bf16) (x1 : FVec Ideal S4096x2048 .f32) (x2 : FVec Ideal S2x4096x2048 .f32) (x3 : FVec Ideal S8x64x2048 .f32) (x4 : FVec Ideal S10x2048 .f32)

theorem prompt (b : Fin 2) (s : Fin 4096) (j : Fin 2048) : (val_main_v11 (F := Ideal) x0 x1 x2 x4 (ix3 b s j) : EReal)
    = x2 (ix3 b s j) + x4 (ix2 ⟨b.val, by omega⟩ j) * ∑ k : Fin 4096, (x0 (ix2 ⟨b.val * 4096 + s.val, by omega⟩ k) : EReal) * x1 (ix2 k j) := by
  unfold val_main_v11 val_main_v10 val_main_v9 val_main_v8 val_main_v7 val_main_v6 val_main_v2 val_main_v1 val_main_v0
  pointwise [dot_S2x4096x4096_S4096x2048_S2x4096x2048_2_0_01_1_n_n]
theorem sample (b : Fin 8) (s : Fin 64) (j : Fin 2048) : (val_main_v17 (F := Ideal) x0 x1 x3 x4 (ix3 b s j) : EReal)
    = x3 (ix3 b s j) + x4 (ix2 ⟨2 + b.val, by omega⟩ j) * ∑ k : Fin 4096, (x0 (ix2 ⟨8192 + (b.val * 64 + s.val), by omega⟩ k) : EReal) * x1 (ix2 k j) := by
  unfold val_main_v17 val_main_v16 val_main_v15 val_main_v14 val_main_v13 val_main_v12 val_main_v5 val_main_v4 val_main_v3
  pointwise [dot_S8x64x4096_S4096x2048_S8x64x2048_2_0_01_1_n_n]
theorem joined (r : Fin 8704) (j : Fin 2048) : (val_main_v20 (F := Ideal) x0 x1 x2 x3 x4 (ix2 r j) : EReal)
    = if h : r.val < 8192 then val_main_v11 (F := Ideal) x0 x1 x2 x4 (ix3 ⟨r.val / 4096, by omega⟩ ⟨r.val % 4096, by omega⟩ j)
      else val_main_v17 (F := Ideal) x0 x1 x3 x4 (ix3 ⟨(r.val - 8192) / 64, by omega⟩ ⟨(r.val - 8192) % 64, by omega⟩ j) := by
  unfold val_main_v20 val_main_v19 val_main_v18
  pointwise

/-- The reference's entry is the kernel's. -/
theorem entry (m : (ℓ : Loc Cert.GdnOutIdeal.nD Cert.GdnOutIdeal.τ Cert.GdnOutIdeal.sig) → Buf (Elt Ideal) ℓ) (c : Dev Cert.GdnOutIdeal.nD) (r : Fin 8704) (j : Fin 2048) :
    (val_main_v20 (F := Ideal) (GdnOutIdeal.Results.a0 m c) (GdnOutIdeal.Results.a1 m c) (GdnOutIdeal.Results.a2 m c) (GdnOutIdeal.Results.a3 m c) (GdnOutIdeal.Results.a4 m c) (ix2 r j) : EReal)
      = GdnOutIdeal.Results.value m c r j := by
  have hr := r.isLt
  rw [joined]
  unfold GdnOutIdeal.Results.value GdnOutIdeal.Results.resid
  split
  · rename_i h
    rw [prompt]
    have e1 : (⟨r.val / 4096 * 4096 + r.val % 4096, by omega⟩ : Fin 8704) = r := Fin.ext (show r.val / 4096 * 4096 + r.val % 4096 = r.val by omega)
    have e2 : (⟨r.val / 4096, by omega⟩ : Fin 10) = ⟨GdnOutIdeal.Table.stream (r.val / 64), GdnOutIdeal.Table.stream_le _ (by omega)⟩ :=
      Fin.ext (by show r.val / 4096 = GdnOutIdeal.Table.stream (r.val / 64); unfold GdnOutIdeal.Table.stream; rw [if_pos (by omega)]; omega)
    refine congrArg₂ _ rfl (congrArg₂ _ (congrArg (fun b : Fin 10 => GdnOutIdeal.Results.a4 m c (ix2 b j)) e2) (Finset.sum_congr rfl fun k _ => ?_))
    exact congrArg₂ _ (congrArg (fun q : Fin 8704 => GdnOutIdeal.Results.a0 m c (ix2 q k)) e1) rfl
  · rename_i h
    rw [sample]
    have e1 : (⟨8192 + ((r.val - 8192) / 64 * 64 + (r.val - 8192) % 64), by omega⟩ : Fin 8704) = r :=
      Fin.ext (show 8192 + ((r.val - 8192) / 64 * 64 + (r.val - 8192) % 64) = r.val by omega)
    have e2 : (⟨2 + (r.val - 8192) / 64, by omega⟩ : Fin 10) = ⟨GdnOutIdeal.Table.stream (r.val / 64), GdnOutIdeal.Table.stream_le _ (by omega)⟩ :=
      Fin.ext (by show 2 + (r.val - 8192) / 64 = GdnOutIdeal.Table.stream (r.val / 64); unfold GdnOutIdeal.Table.stream; rw [if_neg (by omega)]; omega)
    refine congrArg₂ _ rfl (congrArg₂ _ (congrArg (fun b : Fin 10 => GdnOutIdeal.Results.a4 m c (ix2 b j)) e2) (Finset.sum_congr rfl fun k _ => ?_))
    exact congrArg₂ _ (congrArg (fun q : Fin 8704 => GdnOutIdeal.Results.a0 m c (ix2 q k)) e1) rfl
end reference

/-- The kernel's result is the reference's. -/
theorem same : @algebraic_GdnOutIdeal_GdnOutRefIdeal Cert.GdnOutIdeal.Gen.facts Cert.GdnOutRefIdeal.Gen.facts := by
  intro m ρ m' ρ' _ hm
  refine ⟨GdnOutIdeal.Results.result m, run m ρ, ?_⟩
  refine (θ_run _ _ _).mono (fun r h c => ⟨(h c).1.trans ?_, (h c).2⟩) (Cert.GdnOutRefIdeal.Value.run m' ρ')
  obtain ⟨e0, e1, e2, e3, e4⟩ := hm c
  refine (Cert.GdnOutRefIdeal.Read.val_main_v20_eq _ _ _ _ _).trans ?_
  rw [e0, e1, e2, e3, e4]
  funext i
  obtain ⟨r, j, rfl⟩ : ∃ (r : Fin 8704) (j : Fin 2048), i = ix2 r j := ⟨i 0, i 1, Rows.at2 rfl rfl⟩
  exact (entry m c r j).trans (GdnOutIdeal.Results.entry m c r j).symm

end Cert.OutSame

end
-- ==== Proof.InBody.lean ====
/- One step of a projection into the mixer, as a program: on whole buffers it runs, keeps what it reads, and leaves its stores.
   The three projections have this one body. -/
module

public import proofs.«01_k».proof.Proof.Gen.InQkIdeal.Launch
public import proofs.«01_k».proof.Proof.Gen.InQkIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InQkIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InQkIdeal Cert.InQkIdeal.Gen

variable {F : FTy → Type} [FloatOps F]

local notation "𝕄" => MT nD τ sig Unit (Elt F) ℕ (UR sig nD τ) ℕ

/-- The table of streams as the body is handed it. -/
abbrev tab : Memref sig .tc .smem S136 .i32 := Memref.whole main_v11
abbrev htab : tab.IsWhole := Memref.isWhole_whole _
abbrev TabBuf (c : Dev nD) {S : Shape} {e : EltTy} (M : Memref sig .tc .smem S e) : Type := Buf (Elt F) (M.view.loc (c : Thread nD τ))
/-- The table held for reading: the pipeline keeps the other half. -/
abbrev tabHeld (c : Dev nD) {S : Shape} {e : EltTy} (M : Memref sig .tc .smem S e) (f : TabBuf (F := F) c M) : sProp 𝕄 :=
  M.view.loc (c : Thread nD τ) ↦{fullShare.right} f

/-- The word of the table that a load reads. -/
abbrev word (c : Dev nD) (xt : TabBuf (F := F) c tab) (o : Fin 1 → ℕ) (h : ∀ a, o a + S1.size a ≤ S136.size a) : BitVec 32 :=
  tab.view.readAt (Elt F) (Rect.unit (s := S136) o S1.size h).toLoadRect xt (Shape.Idx.first (numel1_S1.symm ▸ Nat.one_pos))

set_option maxHeartbeats 4000000 in
/-- The body's run at a point where it norms and modulates the rows, with what it stores in the result's buffer and in the
    buffer of the normed rows. -/
def run (c : Dev nD) (i : grid0.Coords) (arg3 : Memref sig .tc .vmem S256x2048 .f32) (harg3 : arg3.IsWhole) (arg4 : Memref sig .tc .vmem S1x2048 .f32) (harg4 : arg4.IsWhole)
    (arg5 : Memref sig .tc .vmem S10x2048 .f32) (harg5 : arg5.IsWhole) (arg6 : Memref sig .tc .vmem S10x2048 .f32) (harg6 : arg6.IsWhole)
    (arg7 : Memref sig .tc .vmem S2048x4096 .bf16) (harg7 : arg7.IsWhole) (arg8 : Memref sig .tc .vmem S256x4096 .f32) (harg8 : arg8.IsWhole)
    (arg9 : Memref sig .tc .vmem S256x2048 .bf16) (harg9 : arg9.IsWhole) (hc : k0_cond1 i = 1#1)
    (x0 : Vec F S256x2048 .f32) (x1 : Vec F S1x2048 .f32) (x2 x3 : Vec F S10x2048 .f32) (x4 : Vec F S2048x4096 .bf16) (xt : TabBuf (F := F) c tab)
    (w1 : k0_chk1 i (word c xt (k0_off1 i) (k0_off1_inb i hc))) (w2 : k0_chk2 i (word c xt (k0_off3 i) (k0_off3_inb i hc)))
    (w3 : k0_chk3 i (word c xt (k0_off5 i) (k0_off5_inb i hc))) (w4 : k0_chk4 i (word c xt (k0_off7 i) (k0_off7_inb i hc))) :
    Σ' (L : List (View.Piece (Elt F) S256x4096 .f32)), { LS : List (View.Piece (Elt F) S256x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ (∃ d, owns (c : Thread nD τ) arg8 fullShare d) ∗ (∃ d, owns (c : Thread nD τ) arg9 fullShare d) ∗ tabHeld c tab xt
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare x4 ∗ (∃ f, arg8.view.loc (c : Thread nD τ) ↦[arg8.view.set]{fullShare} arg8.view.writes (Elt F) f L)
                ∗ (∃ f, arg9.view.loc (c : Thread nD τ) ↦[arg9.view.set]{fullShare} arg9.view.writes (Elt F) f LS) ∗ tabHeld c tab xt) -∗ K ⟨⟩))
          ⊢ wp frame (wpE (defs₀ (F := F)) Variants.none c none) E (cc0_matmul i tab htab arg3 harg3 arg4 harg4 arg5 harg5 arg6 harg6 arg7 harg7 arg8 harg8 arg9 harg9) K } := by
  refine ⟨?_, ?_, fun E K => ?body⟩
  case body =>
    simp only [cc0_matmul_eq_skeleton]; unfold cc0_matmul_skel
    simp only [k0_part1_eq_skeleton, k0_part2_eq_skeleton, k0_part3_eq_skeleton]
    unfold owns
    iintro ⟨⟨%f0, %h0, H0⟩, ⟨%f1, %h1, H1⟩, ⟨%f2, %h2, H2⟩, ⟨%f3, %h3, H3⟩, ⟨%f4, %h4, H4⟩, ⟨%d5, %f5, -, H5⟩, ⟨%ds, %fs, -, HS⟩, HT, Hk⟩
    obtain rfl := harg3.eq_unread h0; obtain rfl := harg4.eq_unread h1; obtain rfl := harg5.eq_unread h2
    obtain rfl := harg6.eq_unread h3; obtain rfl := harg7.eq_unread h4
    sl_exec (disch := first | sl_exact hc | sl_exact w1 | sl_exact w2 | sl_exact w3 | sl_exact w4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS]; · iexists _; iexact HS
    iexact HT

end Cert.InQkIdeal.Body

end
-- ==== Proof.InFrame.lean ====
/- The projections into the mixer as one family of programs: they differ only in which columns of the weights the call takes.
   Each of them runs, and keeps its arguments. -/
module

public import proofs.«01_k».proof.Proof.InBody
public import Idealize.ShloMosaic.Lib.Claim
public import Idealize.ShloMosaic.Lib.StableHlo.RunRead
public import Idealize.ShloMosaic.Lib.Pointwise
public import Idealize.ShloMosaic.Lib.Pointwise.Tactic

@[expose] public section

set_option maxRecDepth 16384

noncomputable section

namespace Cert.InQkIdeal.Cut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InQkIdeal Cert.InQkIdeal.Gen Cert.InQkIdeal.Body

/-- Which block of the weights a point of the grid takes, with what the call asks of it. -/
structure Cut where
  ix : grid0.Coords → Fin 2 → ℕ
  reads : ∀ i i' : grid0.Coords, (∀ a, reads0_4 a = true → i a = i' a) → ix i = ix i'
  inb : ∀ (i : grid0.Coords) a, (ix i a + 1) * S2048x4096.size a ≤ S2048x12288.size a
  wx : ∀ i : grid0.Coords, EltTy.bits .bf16 = 32 ∨ (Rect.block (s := S2048x12288) S2048x4096.size (ix i) (inb i)).WholeWords (EltTy.packing .bf16)

variable {F : FTy → Type} [FloatOps F] (T : Cut)

local notation "𝕄" => MT nD τ sig Unit (Elt F) ℕ (UR sig nD τ) ℕ

/-! ### The programs -/

abbrev ixs (pf : pre0.Contents (Elt F)) : (w : Fin 6) → grid0.Coords → Fin (spec0 w).shape.rank → Nat := fun | 0 => cc0_transform_0 | 1 => cc0_transform_1 | 2 => cc0_transform_2 | 3 => cc0_transform_3 | 4 => T.ix | 5 => cc0_transform_5 | ⟨_ + 6, h⟩ => absurd h (Nat.not_lt.2 (Nat.le_add_left _ _))
theorem reads : ∀ (pf : pre0.Contents (Elt F)) w (i i' : grid0.Coords), (∀ a, (spec0 w).reads a = true → i a = i' a) → ixs T pf w i = ixs T pf w i' := fun pf => fun | 0 => hreads0_0 | 1 => hreads0_1 | 2 => hreads0_2 | 3 => hreads0_3 | 4 => T.reads | 5 => hreads0_5 | ⟨_ + 6, h⟩ => absurd h (Nat.not_lt.2 (Nat.le_add_left _ _))
theorem inb : ∀ (pf : pre0.Contents (Elt F)), ok0 pf → ∀ w (i : grid0.Coords) a, (ixs T pf w i a + 1) * (spec0 w).size a ≤ (spec0 w).shape.size a :=
  fun _ _ => fun | 0 => hinb0_0 | 1 => hinb0_1 | 2 => hinb0_2 | 3 => hinb0_3 | 4 => T.inb | 5 => hinb0_5 | ⟨_ + 6, h⟩ => absurd h (Nat.not_lt.2 (Nat.le_add_left _ _))
theorem wx : ∀ (pf : pre0.Contents (Elt F)) (hok : ok0 pf) w (i : grid0.Coords), (spec0 w).elt.bits = 32 ∨ (Rect.block (spec0 w).size (ixs T pf w i) (inb T pf hok w i)).WholeWords (spec0 w).elt.packing :=
  fun _ _ => fun | 0 => hwx0_0 | 1 => hwx0_1 | 2 => hwx0_2 | 3 => hwx0_3 | 4 => T.wx | 5 => hwx0_5 | ⟨_ + 6, h⟩ => absurd h (Nat.not_lt.2 (Nat.le_add_left _ _))

/-- The call whose weights' blocks are `T`'s. -/
abbrev call : Pipeline.PCfg sig Λ₀ (Elt F) :=
  Pipeline.PCfg.ofSpecs pre0 grid0 hrank0 (fun _ => grid0.bound) (fun _ _ _ => rfl)
    6 spec0 hcount0 harr0 (ixs T) (reads T) ok0 (inb T) (wx T) 0 (fun _ _ t s => (t, s))
abbrev calls : Fin 1 → Pipeline.PCfg sig Λ₀ (Elt F) := fun _ => call T

abbrev table : Defs nD τ sig (Elt F) (Pipeline.Sig Λ₀ (Fin 1) fun p => (calls (F := F) T p).Adm) := Pipeline.defs (calls T) defs₀
/-- The host code, then the call. -/
abbrev prog : Dev nD → Prog (TpuEff nD τ sig (Elt F) (Pipeline.Sig Λ₀ (Fin 1) fun p => (calls (F := F) T p).Adm) .tc) PUnit := fun _ => Pipeline.chain
  [ StableHlo.seq hostOps0,
    Prog.lift (.customCall (Pipeline.entry 0) ()) ]

theorem cells (a : (p : Fin 1) → (calls (F := F) T p).Adm) :
    Function.Injective (Pipeline.cellOf (nD := nD) (τ := τ) (Pipeline.pin (calls (F := F) T) a)) :=
  Pipeline.cellOf_injective_of_table (Pipeline.pin (calls (F := F) T) a) semTab (fun | 0 => rfl | ⟨_ + 1, h⟩ => absurd h (Nat.not_lt.2 (Nat.le_add_left _ _))) semsDistinct semsDisjoint
theorem launch : Pipeline.PLaunchFacts (nD := nD) (τ := τ) (calls (F := F) T) 0 :=
  ⟨cells T, winFacts0, preFacts0, block_pos0, arr_whole0, stage_whole0⟩

/-! ### The arrays when the call starts -/

variable (m : (ℓ : Loc nD τ sig) → Buf (Elt F) ℓ) (ρ : Dev nD → PrngReg)

/-- The arrays after the host code. -/
abbrev V (c : Dev nD) (b : Ref sig .tc) : Buf (Elt F) ((c : Thread nD τ).loc b) := StableHlo.after hostOps0 (fun b => m (c, b)) b

theorem nofresh : (hostOps0 : List (HloOp τ sig (Elt F))).Forall fun op => op.fresh = ∅ := by
  simp only [List.Forall]; repeat' constructor

set_option maxHeartbeats 800000 in
theorem host : Pipeline.HMainP (Ix := Unit) (Name := ℕ) (U := UR sig nD τ) (Lvl := ℕ) (calls T) 0 defs₀ Variants.none m (prog (F := F) T) (V m) :=
  Pipeline.hmainP_prefix (calls T) 0 defs₀ Variants.none m (prog T) hostOps0 hostOps0_sub nofresh fun _ => rfl

/-- The host code writes none of the arguments. -/
theorem kept (b : Ref sig .tc) (hb : b ∈ [main_arg0, main_arg1, main_arg2, main_arg3, main_arg4, main_arg5]) (c : Dev nD) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    simp only [List.mem_cons, List.not_mem_nil, or_false] at hb
    rcases hb with rfl | rfl | rfl | rfl | rfl | rfl <;>
      (repeat' apply And.intro) <;> exact StableHlo.devRef_ne_of_ne (by decide)))

/-! ### The table of streams -/

def tbl : pre0.Contents (Elt F) := fun j => V m (0 : Dev nD) (pre0.ref j)
theorem tbl_eq (c : Dev nD) (j : Fin 1) : V m c (pre0.ref j) = tbl m j := by
  obtain rfl : c = 0 := Subsingleton.elim _ _; rfl
abbrev adm : (call (F := F) T).Adm := ⟨tbl m, trivial⟩
abbrev cfg : Pipeline.Cfg sig Λ₀ := (call (F := F) T).at (adm T m)

theorem held_table (c : Dev nD) : (Pipeline.ΦT pre0 (tbl m) c : sProp 𝕄) = iprop(tabHeld c tab (tbl m 0)) := by
  unfold Pipeline.ΦT Pipeline.prefHeld
  rw [show (Finset.univ : Finset (Fin 1)) = {(0 : Fin 1)} from by decide, bigSep_singleton]
  rfl

abbrev scr : Memref sig .tc .vmem S256x2048 .bf16 := Memref.whole cc0_scratch0
theorem held_rest (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- The stream of a chunk of 64 rows: two prompts of 64 chunks each, then eight samples of one chunk each. -/
def stream (n : ℕ) : ℕ := if n < 128 then n / 64 else n - 126

theorem stream_le (n : ℕ) (h : n < 136) : stream n < 10 := by unfold stream; split <;> omega

theorem entry_table (n : Fin 136) : (V m 0 main_v11 : IVec S136 32) (ix1 n) = BitVec.ofNat 32 (stream n.val) := by
  unfold V
  after_reads_simp
  pointwise
  unfold stream
  split
  · rfl
  · rename_i h
    show BitVec.ofNat 32 2 + BitVec.ofNat 32 (n.val - 128) = _
    rw [← BitVec.ofNat_add]
    exact congrArg (BitVec.ofNat 32) (by omega)

theorem offs (t : Fin grid0.N) : k0_off1 (grid0.coords t) 0 = 4 * t.val ∧ k0_off3 (grid0.coords t) 0 = 4 * t.val + 1
    ∧ k0_off5 (grid0.coords t) 0 = 4 * t.val + 2 ∧ k0_off7 (grid0.coords t) 0 = 4 * t.val + 3 :=
  (by decide +kernel : ∀ t : Fin grid0.N, k0_off1 (grid0.coords t) 0 = 4 * t.val ∧ k0_off3 (grid0.coords t) 0 = 4 * t.val + 1
    ∧ k0_off5 (grid0.coords t) 0 = 4 * t.val + 2 ∧ k0_off7 (grid0.coords t) 0 = 4 * t.val + 3) t

/-- A word that a step reads is the stream of its chunk. -/
theorem word_eq (c : Dev nD) (o : Fin 1 → ℕ) (h : ∀ a, o a + S1.size a ≤ S136.size a) (n : Fin 136) (hn : o 0 = n.val) :
    word c (tbl m 0) o h = BitVec.ofNat 32 (stream n.val) := by
  refine Eq.trans ?_ (entry_table m n)
  show (V m 0 main_v11 : IVec S136 32) ((Rect.unit (s := S136) o S1.size h).toLoadRect.idx _) = (V m 0 main_v11 : IVec S136 32) (ix1 n)
  refine congrArg (V m 0 main_v11 : IVec S136 32) (funext fun a => match a with | ⟨0, _⟩ => Fin.ext ?_)
  show o 0 + 1 * (Shape.Idx.first (numel1_S1.symm ▸ Nat.one_pos : 0 < S1.numel) 0).val = n.val
  have : (Shape.Idx.first (numel1_S1.symm ▸ Nat.one_pos : 0 < S1.numel) 0).val < 1 := (Shape.Idx.first _ 0).isLt
  omega

/-- So it names one of the ten rows of shifts and scales. -/
theorem chk (c : Dev nD) (i : grid0.Coords) (o : Fin 1 → ℕ) (h : ∀ a, o a + S1.size a ≤ S136.size a) (n : ℕ) (hn : o 0 = n) (hl : n < 136) : k0_chk1 i (word c (tbl m 0) o h) := by
  rw [word_eq m c o h ⟨n, hl⟩ hn]
  have hs := stream_le n hl
  intro _ a
  match a with
  | ⟨0, _⟩ => show (BitVec.ofNat 32 (stream n)).toNat + 1 ≤ 10; rw [BitVec.toNat_ofNat]; omega
  | ⟨1, _⟩ => show 0 + 2048 ≤ 2048; omega

/-- The rows are normed and modulated at every point: the grid's second axis has one point. -/
theorem first (t : Fin grid0.N) : k0_cond1 (grid0.coords t) = 1#1 :=
  (by decide +kernel : ∀ t : Fin grid0.N, k0_cond1 (grid0.coords t) = 1#1) t

/-! ### The blocks -/

def iblk (c : Dev nD) (w : Fin (cfg T m).W) (t : Fin (cfg T m).N) : (((cfg T m).win w).xblock ((cfg T m).grid.coords t)).Idx → Elt F ((cfg T m).win w).elt :=
  (((cfg T m).win w).blk t).view.read (Elt F) (V m c (Pipeline.arrRef spec0 w))

abbrev ms0 (t : Fin (cfg T m).N) : Memref sig .tc .vmem S256x2048 .f32 := spec0_0.stage ((cfg T m).slots t 0)
abbrev hs0 (t : Fin (cfg T m).N) : (ms0 T m t).IsWhole := hstage0_0 (((cfg T m).slots t 0).cast nbuf0_0)
abbrev ms1 (t : Fin (cfg T m).N) : Memref sig .tc .vmem S1x2048 .f32 := spec0_1.stage ((cfg T m).slots t 1)
abbrev hs1 (t : Fin (cfg T m).N) : (ms1 T m t).IsWhole := hstage0_1 (((cfg T m).slots t 1).cast nbuf0_1)
abbrev ms2 (t : Fin (cfg T m).N) : Memref sig .tc .vmem S10x2048 .f32 := spec0_2.stage ((cfg T m).slots t 2)
abbrev hs2 (t : Fin (cfg T m).N) : (ms2 T m t).IsWhole := hstage0_2 (((cfg T m).slots t 2).cast nbuf0_2)
abbrev ms3 (t : Fin (cfg T m).N) : Memref sig .tc .vmem S10x2048 .f32 := spec0_3.stage ((cfg T m).slots t 3)
abbrev hs3 (t : Fin (cfg T m).N) : (ms3 T m t).IsWhole := hstage0_3 (((cfg T m).slots t 3).cast nbuf0_3)
abbrev ms4 (t : Fin (cfg T m).N) : Memref sig .tc .vmem S2048x4096 .bf16 := spec0_4.stage ((cfg T m).slots t 4)
abbrev hs4 (t : Fin (cfg T m).N) : (ms4 T m t).IsWhole := hstage0_4 (((cfg T m).slots t 4).cast nbuf0_4)
abbrev ms5 (t : Fin (cfg T m).N) : Memref sig .tc .vmem S256x4096 .f32 := spec0_5.stage ((cfg T m).slots t 5)
abbrev hs5 (t : Fin (cfg T m).N) : (ms5 T m t).IsWhole := hstage0_5 (((cfg T m).slots t 5).cast nbuf0_5)

/-- The body's run at a point. -/
def runAt (c : Dev nD) (t : Fin (cfg T m).N) :=
  run c (grid0.coords t) (ms0 T m t) (hs0 T m t) (ms1 T m t) (hs1 T m t) (ms2 T m t) (hs2 T m t) (ms3 T m t) (hs3 T m t) (ms4 T m t) (hs4 T m t) (ms5 T m t) (hs5 T m t)
    scr (Memref.isWhole_whole _) (first t) (iblk T m c 0 t) (iblk T m c 1 t) (iblk T m c 2 t) (iblk T m c 3 t) (iblk T m c 4 t) (tbl m 0)
    (chk m c _ _ _ (4 * t.val) (offs t).1 (by have := lt_of_lt_of_eq t.isLt N_0; omega)) (chk m c _ _ _ (4 * t.val + 1) (offs t).2.1 (by have := lt_of_lt_of_eq t.isLt N_0; omega))
    (chk m c _ _ _ (4 * t.val + 2) (offs t).2.2.1 (by have := lt_of_lt_of_eq t.isLt N_0; omega)) (chk m c _ _ _ (4 * t.val + 3) (offs t).2.2.2 (by have := lt_of_lt_of_eq t.isLt N_0; omega))

/-- Its one store fills the result's block. -/
theorem cover (c : Dev nD) (t : Fin (cfg T m).N) (y : S256x4096.Idx) : ∃ pc ∈ (runAt T m c t).1, y ∈ pc.1.set :=
  View.cover_of_tiledL (runAt T m c t).1 S256x4096.size (by sl_kernel_rfl) y

/-- What a step leaves in the result's block. -/
def outs (c : Dev nD) (t : Fin (cfg T m).N) : Vec F S256x4096 .f32 := View.canon (runAt T m c t).1

end Cert.InQkIdeal.Cut

end
-- ==== Proof.InLaunch.lean ====
/- The run of a projection into the mixer: every execution ends, with the arguments as they were and the result's array
   filled block by block. -/
module

public import proofs.«01_k».proof.Proof.InFrame

@[expose] public section

set_option maxRecDepth 16384

noncomputable section

namespace Cert.InQkIdeal.Cut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InQkIdeal Cert.InQkIdeal.Gen Cert.InQkIdeal.Body

variable {F : FTy → Type} [FloatOps F] (T : Cut)

local notation "𝕄" => MT nD τ sig Unit (Elt F) ℕ (UR sig nD τ) ℕ

variable (m : (ℓ : Loc nD τ sig) → Buf (Elt F) ℓ) (ρ : Dev nD → PrngReg)

/-- Before a point: the arrays as the host code leaves them. After it: every input's block in place, the result's as stored. -/
def dats (_ : Fin 1) (c : Dev nD) : Dat τ (Elt F) Unit ℕ (UR sig nD τ) ℕ (cfg T m) c where
  A w := V m c (Pipeline.arrRef spec0 w)
  after w t := match w with
    | ⟨0, _⟩ => iblk T m c 0 t
    | ⟨1, _⟩ => iblk T m c 1 t
    | ⟨2, _⟩ => iblk T m c 2 t
    | ⟨3, _⟩ => iblk T m c 3 t
    | ⟨4, _⟩ => iblk T m c 4 t
    | ⟨5, _⟩ => outs T m c t
  Φ _ := iprop(Pipeline.ΦA spec0 c ∗ Pipeline.ΦT pre0 (tbl m) c)
  q _ := fullShare
  owed _ := 0

theorem arrays (c : Dev nD) (w : Fin (cfg T m).W) : (dats T m 0 c).A w = V m c (Pipeline.arrRef spec0 w) := by
  dsimp only [dats]
theorem after0 (c : Dev nD) (t : Fin (cfg T m).N) : (dats T m 0 c).after 0 t = iblk T m c 0 t := by dsimp only [dats]; try rfl
theorem after1 (c : Dev nD) (t : Fin (cfg T m).N) : (dats T m 0 c).after 1 t = iblk T m c 1 t := by dsimp only [dats]; try rfl
theorem after2 (c : Dev nD) (t : Fin (cfg T m).N) : (dats T m 0 c).after 2 t = iblk T m c 2 t := by dsimp only [dats]; try rfl
theorem after3 (c : Dev nD) (t : Fin (cfg T m).N) : (dats T m 0 c).after 3 t = iblk T m c 3 t := by dsimp only [dats]; try rfl
theorem after4 (c : Dev nD) (t : Fin (cfg T m).N) : (dats T m 0 c).after 4 t = iblk T m c 4 t := by dsimp only [dats]; try rfl
theorem after5 (c : Dev nD) (t : Fin (cfg T m).N) : (dats T m 0 c).after 5 t = outs T m c t := by dsimp only [dats]; try rfl

/-! An input whose block every step leaves in place is found there, fetched anew or not. -/

theorem before0 (c : Dev nD) (t : Fin (cfg T m).N) (d) : (dats T m 0 c).before 0 t d = iblk T m c 0 t :=
  ((dats T m 0 c).before_in_eq_fetched 0 rfl (fun _ => rfl) (fun _ _ _ => rfl) (fun t => by rw [after0]; unfold Dat.blockOf iblk; rw [arrays]; try rfl) t d).trans
    (by unfold Dat.fetched Dat.blockOf iblk; rw [arrays]; try rfl)
theorem before1 (c : Dev nD) (t : Fin (cfg T m).N) (d) : (dats T m 0 c).before 1 t d = iblk T m c 1 t :=
  ((dats T m 0 c).before_in_eq_fetched 1 rfl (fun _ => rfl) (fun _ _ _ => rfl) (fun t => by rw [after1]; unfold Dat.blockOf iblk; rw [arrays]; try rfl) t d).trans
    (by unfold Dat.fetched Dat.blockOf iblk; rw [arrays]; try rfl)
theorem before2 (c : Dev nD) (t : Fin (cfg T m).N) (d) : (dats T m 0 c).before 2 t d = iblk T m c 2 t :=
  ((dats T m 0 c).before_in_eq_fetched 2 rfl (fun _ => rfl) (fun _ _ _ => rfl) (fun t => by rw [after2]; unfold Dat.blockOf iblk; rw [arrays]; try rfl) t d).trans
    (by unfold Dat.fetched Dat.blockOf iblk; rw [arrays]; try rfl)
theorem before3 (c : Dev nD) (t : Fin (cfg T m).N) (d) : (dats T m 0 c).before 3 t d = iblk T m c 3 t :=
  ((dats T m 0 c).before_in_eq_fetched 3 rfl (fun _ => rfl) (fun _ _ _ => rfl) (fun t => by rw [after3]; unfold Dat.blockOf iblk; rw [arrays]; try rfl) t d).trans
    (by unfold Dat.fetched Dat.blockOf iblk; rw [arrays]; try rfl)
theorem before4 (c : Dev nD) (t : Fin (cfg T m).N) (d) : (dats T m 0 c).before 4 t d = iblk T m c 4 t :=
  ((dats T m 0 c).before_in_eq_fetched 4 rfl (fun _ => rfl) (fun _ _ _ => rfl) (fun t => by rw [after4]; unfold Dat.blockOf iblk; rw [arrays]; try rfl) t d).trans
    (by unfold Dat.fetched Dat.blockOf iblk; rw [arrays]; try rfl)

/-! ### The body at a point -/

/-- The kernel's function on the buffers of a point. -/
abbrev bodyAt (t : Fin (cfg T m).N) : Prog (TpuEff nD τ sig (Elt F) Λ₀ .tc) PUnit :=
  cc0_matmul (grid0.coords t) tab htab (ms0 T m t) (hs0 T m t) (ms1 T m t) (hs1 T m t) (ms2 T m t) (hs2 T m t) (ms3 T m t) (hs3 T m t) (ms4 T m t) (hs4 T m t) (ms5 T m t) (hs5 T m t) scr (Memref.isWhole_whole _)

def pre (c : Dev nD) (t : Fin (cfg T m).N) : sProp 𝕄 :=
  iprop((dats T m 0 c).Φ t.castSucc ∗ (dats T m 0 c).owesAt () t.castSucc
    ∗ (∃ d, owns (c : Thread nD τ) (ms0 T m t) fullShare ((dats T m 0 c).before 0 t d))
    ∗ (∃ d, owns (c : Thread nD τ) (ms1 T m t) fullShare ((dats T m 0 c).before 1 t d))
    ∗ (∃ d, owns (c : Thread nD τ) (ms2 T m t) fullShare ((dats T m 0 c).before 2 t d))
    ∗ (∃ d, owns (c : Thread nD τ) (ms3 T m t) fullShare ((dats T m 0 c).before 3 t d))
    ∗ (∃ d, owns (c : Thread nD τ) (ms4 T m t) fullShare ((dats T m 0 c).before 4 t d))
    ∗ (∃ d, owns (c : Thread nD τ) (ms5 T m t) fullShare ((dats T m 0 c).before 5 t d)))
def post (c : Dev nD) (t : Fin (cfg T m).N) : sProp 𝕄 :=
  iprop((dats T m 0 c).Φ t.succ ∗ (dats T m 0 c).owesAt () t.succ
    ∗ owns (c : Thread nD τ) (ms0 T m t) fullShare ((dats T m 0 c).after 0 t)
    ∗ owns (c : Thread nD τ) (ms1 T m t) fullShare ((dats T m 0 c).after 1 t)
    ∗ owns (c : Thread nD τ) (ms2 T m t) fullShare ((dats T m 0 c).after 2 t)
    ∗ owns (c : Thread nD τ) (ms3 T m t) fullShare ((dats T m 0 c).after 3 t)
    ∗ owns (c : Thread nD τ) (ms4 T m t) fullShare ((dats T m 0 c).after 4 t)
    ∗ owns (c : Thread nD τ) (ms5 T m t) fullShare ((dats T m 0 c).after 5 t))

theorem stored (c : Dev nD) (t : Fin (cfg T m).N) (f) :
    (ms5 T m t).view.read (Elt F) ((ms5 T m t).view.writes (Elt F) f (runAt T m c t).1) = outs T m c t := by
  unfold outs
  refine (View.read_writes_of_cover _ _ (ms5 T m t).view (ms5 T m t).view.junk _ (cover T m c t)).trans ?_
  exact View.read_writes_junk_eq_canon _ _

theorem step (c : Dev nD) (t : Fin (cfg T m).N) :
    pre T m c t ⊢ wp frame (wpE (defs₀ (F := F)) Variants.none c none) Set.univ (bodyAt T m t) (fun _ => post T m c t) := by
  unfold pre post bodyAt
  simp only [before0, before1, before2, before3, before4]
  rw [show (dats T m 0 c).Φ t.succ = (dats T m 0 c).Φ t.castSucc from rfl,
    show (dats T m 0 c).owesAt () t.succ = (dats T m 0 c).owesAt () t.castSucc from rfl,
    after0, after1, after2, after3, after4, after5]
  rw [show (dats T m 0 c).Φ t.castSucc = iprop(Pipeline.ΦA spec0 c ∗ Pipeline.ΦT pre0 (tbl m) c) from rfl, held_table, held_rest]
  iintro ⟨⟨⟨HS, Hg⟩, HT⟩, Ho, ⟨%d0, H0⟩, ⟨%d1, H1⟩, ⟨%d2, H2⟩, ⟨%d3, H3⟩, ⟨%d4, H4⟩, ⟨%d5, H5⟩⟩
  iapply ((runAt T m c t).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HT]; · iexact HT
  iintro ⟨H0, H1, H2, H3, H4, ⟨%e5, H5⟩, ⟨%es, HS⟩, HT⟩
  isplitl [HS Hg HT]
  · isplitl [HS Hg]
    · isplitl [HS]
      · iexists _; unfold owns; iexists _; isplitr
        swap; · iexact HS
        ipureintro; rfl
      iexact Hg
    iexact HT
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact stored T m c t e5

theorem row_eq (t : Fin (cfg T m).N) :
    defs₀ (F := F) .tc (cfg T m).body ((cfg T m).bodyArgs t ((cfg T m).slots t)) = bodyAt T m t := by
  unfold defs₀; rw [Defs.onTc_tc]

theorem obligation (c : Dev nD) : BodyObligation (dats (F := F) T m 0 c) (defs₀ (F := F)) Variants.none () Set.univ := fun t => by
  rw [bigSep_W0, bigSep_W0, row_eq T m]
  exact triple_restated (step T m c t) rfl .rfl fun _ => .rfl

/-! ### The run -/

set_option backward.isDefEq.respectTransparency.types false in
/-- Every execution ends, with every array of the call as the steps leave it, every other as the call found it, and every
    semaphore at zero. -/
theorem launched : θ_run (table (F := F) T) (onTc (τ := τ) (prog (F := F) T)) (s₀ m ρ)
    (fun r => (Pipeline.FramePost (Pipeline.pin (calls T) fun _ => adm T m) (dats T m) 0 (V m)) r ∧ r.2.sem = fun _ => 0) :=
  Pipeline.θ_run_frameP (Q' := _) (calls T) (fun _ => adm T m) (dats T m) (0 : Fin 1) (launch T) defs₀ Variants.none m ρ (prog T)
    (hbody := fun c => (obligation T m c).loose) (hshare := fun c => (dats T m 0 c).share_full fun _ => rfl)
    (howed := fun _ _ => rfl) (V := V m) (hmain := host T m) (hA := arrays T m) (hpf := tbl_eq m)
    (hΦ := fun _ _ => rfl)

/-- The arguments are kept. -/
theorem arguments {r} (h : (Pipeline.FramePost (Pipeline.pin (calls T) fun _ => adm T m) (dats T m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide : main_arg0 ∈ Pipeline.restRefs sig spec0)).trans (kept m main_arg0 (by decide) c),
    ((h c).2 main_arg1 (by decide : main_arg1 ∈ Pipeline.restRefs sig spec0)).trans (kept m main_arg1 (by decide) c),
    ((h c).2 main_arg2 (by decide : main_arg2 ∈ Pipeline.restRefs sig spec0)).trans (kept m main_arg2 (by decide) c),
    ((h c).1 2).trans (((dats T m 0 c).arrAt_in 2 rfl _).trans ((arrays T m c 2).trans (kept m main_arg3 (by decide) c))),
    ((h c).1 3).trans (((dats T m 0 c).arrAt_in 3 rfl _).trans ((arrays T m c 3).trans (kept m main_arg4 (by decide) c))),
    ((h c).2 main_arg5 (by decide : main_arg5 ∈ Pipeline.restRefs sig spec0)).trans (kept m main_arg5 (by decide) c)⟩

end Cert.InQkIdeal.Cut

end
-- ==== Proof.InBlock.lean ====
/- One step of a projection into the mixer: a block of 256 rows is normed and modulated, chunk by chunk with a row of scales and
   a row of shifts, and multiplied by a block of the weights. -/
module

public import proofs.«01_k».proof.Proof.InLaunch
public import proofs.«01_k».proof.Proof.Rows
public import Idealize.ShloMosaic.Lib.WholeRead

@[expose] public section

set_option maxRecDepth 16384

noncomputable section

namespace Cert.InQkIdeal.Block

open Idealize.ShloMosaic Idealize.ShloMosaic.TcCoe
open Cert.InQkIdeal Cert.InQkIdeal.Gen Cert.InQkIdeal.Body

/-- A row over its root mean square, times the gain, times one more than the scale, plus the shift. -/
def modulated (x g s b : Fin 2048 → EReal) (k : Fin 2048) : EReal :=
  x k * Ideal.rsqrt (Ideal.div (∑ i : Fin 2048, x i * x i) (Ideal.ofBits .f32 0x45000000#32) + Ideal.ofBits .f32 0x358637BD#32) * g k * (1 + s k) + b k

theorem modulated_congr {x x' g g' s s' b b' : Fin 2048 → EReal} (hx : ∀ k, x k = x' k) (hg : ∀ k, g k = g' k) (hs : ∀ k, s k = s' k) (hb : ∀ k, b k = b' k) (k : Fin 2048) :
    modulated x g s b k = modulated x' g' s' b' k := by
  rw [funext hx, funext hg, funext hs, funext hb]

/-- A row of a matrix. -/
abbrev rowOf {N : ℕ} (x : FVec Ideal ⟨2, ![N, 2048]⟩ .f32) (r : Fin N) (k : Fin 2048) : EReal := x (ix2 r k)

/-- The product, entry by entry. -/
theorem product (x : FVec Ideal S256x2048 .bf16) (w : FVec Ideal S2048x4096 .bf16) (r : Fin 256) (j : Fin 4096) :
    (k0_pay2 (F := Ideal) x w (ix2 r j) : EReal) = ∑ k : Fin 2048, (x (ix2 r k) : EReal) * w (ix2 k j) := by
  unfold k0_pay2
  pointwise [dot_S256x2048_S2048x4096_S256x4096_1_0_0_1_n_n]

section chunks
variable (x : FVec Ideal S64x2048 .f32) (g s b : FVec Ideal S1x2048 .f32) (u : Fin 64) (k : Fin 2048)

theorem chunk0 : (k0_pay3 (F := Ideal) x g s b (ix2 u k) : EReal) = modulated (rowOf x u) (rowOf g 0) (rowOf s 0) (rowOf b 0) k := by
  unfold k0_pay3 modulated
  pointwise
theorem chunk1 : (k0_pay6 (F := Ideal) (k0_pay4 x) (k0_pay5 g) s b (ix2 u k) : EReal) = modulated (rowOf x u) (rowOf g 0) (rowOf s 0) (rowOf b 0) k := by
  unfold k0_pay6 k0_pay4 k0_pay5 modulated
  pointwise
theorem chunk2 : (k0_pay10 (F := Ideal) (k0_pay7 x) (k0_pay8 g) (k0_pay9 x) s b (ix2 u k) : EReal) = modulated (rowOf x u) (rowOf g 0) (rowOf s 0) (rowOf b 0) k := by
  unfold k0_pay10 k0_pay9 k0_pay8 k0_pay7 modulated
  pointwise
theorem chunk3 : (k0_pay1 (F := Ideal) (k0_pay11 x g s) b (ix2 u k) : EReal) = modulated (rowOf x u) (rowOf g 0) (rowOf s 0) (rowOf b 0) k := by
  unfold k0_pay1 k0_pay11 modulated
  pointwise
end chunks

/-- A load of rows from a whole buffer. -/
theorem load {sp : Space} {e : EltTy} {N W k o : ℕ} {a : Memref sig .tc sp ⟨2, ![N, W]⟩ e} (h : a.IsWhole) (X : Vec Ideal ⟨2, ![N, W]⟩ e)
    {off : Fin 2 → ℕ} {hi} (ho : off 0 = o) (hz : off 1 = 0) (u : Fin k) (j : Fin W) (r : Fin N) (hr : r.val = o + u.val) :
    View.readAt (Elt Ideal) a.view (Rect.unit (s := ⟨2, ![N, W]⟩) off ![k, W] hi).toLoadRect (h.unread X) (ix2 u j) = X (ix2 r j) := by
  rw [Memref.IsWhole.readAt_unread]
  exact congrArg X (Rows.at2 (show off 0 + 1 * u.val = r.val by omega) (show off 1 + 1 * j.val = j.val by omega))

section entry
variable (c : Dev nD) (i : grid0.Coords) (arg3 : Memref sig .tc .vmem S256x2048 .f32) (harg3 : arg3.IsWhole) (arg4 : Memref sig .tc .vmem S1x2048 .f32) (harg4 : arg4.IsWhole)
    (arg5 : Memref sig .tc .vmem S10x2048 .f32) (harg5 : arg5.IsWhole) (arg6 : Memref sig .tc .vmem S10x2048 .f32) (harg6 : arg6.IsWhole)
    (arg7 : Memref sig .tc .vmem S2048x4096 .bf16) (harg7 : arg7.IsWhole) (arg8 : Memref sig .tc .vmem S256x4096 .f32) (harg8 : arg8.IsWhole)
    (arg9 : Memref sig .tc .vmem S256x2048 .bf16) (harg9 : arg9.IsWhole) (hc : k0_cond1 i = 1#1)
    (x0 : Vec Ideal S256x2048 .f32) (x1 : Vec Ideal S1x2048 .f32) (x2 x3 : Vec Ideal S10x2048 .f32) (x4 : Vec Ideal S2048x4096 .bf16) (xt : TabBuf (F := Ideal) c tab) (w1 w2 w3 w4)

theorem weights : View.readAt (Elt Ideal) arg7.view (Rect.unit (s := S2048x4096) ![0, 0] S2048x4096.size inb_S2048x4096_S2048x4096_0_0).toLoadRect (harg7.unread x4) = x4 := by
  funext y
  have hy : y = ix2 (y 0) (y 1) := Rows.at2 rfl rfl
  rw [hy]
  exact load (o := 0) harg7 x4 rfl rfl (y 0) (y 1) (y 0) (Nat.zero_add _).symm

/-- A row of the operand, given the rows of shifts and scales its four chunks take. -/
theorem operand (g : Fin 4 → Fin 10) (h0 : (word c xt (k0_off1 i) (k0_off1_inb i hc)).toNat = (g 0).val) (h1 : (word c xt (k0_off3 i) (k0_off3_inb i hc)).toNat = (g 1).val)
    (h2 : (word c xt (k0_off5 i) (k0_off5_inb i hc)).toNat = (g 2).val) (h3 : (word c xt (k0_off7 i) (k0_off7_inb i hc)).toNat = (g 3).val)
    (q : Fin 4) (u : Fin 64) (k : Fin 2048) (r : Fin 256) (hr : r.val = 64 * q.val + u.val) :
    (run.sl.v4 c i arg3 harg3 arg4 harg4 arg5 harg5 arg6 harg6 arg9 hc x0 x1 x2 x3 xt w1 w2 w3 w4 (ix2 r k) : EReal)
      = modulated (rowOf x0 r) (rowOf x1 0) (rowOf x3 (g q)) (rowOf x2 (g q)) k := by
  unfold run.sl.v4 View.readCov
  rw [View.readAt_writes_junk_eq_canon]
  refine (congrArg (View.canon _) (Rows.at2 (y := ix2 r k) (show 0 + 1 * r.val = r.val by omega) (show 0 + 1 * k.val = k.val by omega))).trans ?_
  unfold run.sl.HS_4
  have hu := u.isLt
  match q with
  | 3 =>
    have hr' : r.val = 192 + u.val := hr
    refine (Rows.canon_here _ _ _ r k u hr').trans ((chunk3 _ _ _ _ u k).trans ?_)
    exact modulated_congr (fun k => load harg3 x0 rfl rfl u k r hr') (fun k => load (o := 0) harg4 x1 rfl rfl 0 k 0 rfl)
      (fun k => load harg6 x3 h3 rfl 0 k (g 3) rfl) (fun k => load harg5 x2 h3 rfl 0 k (g 3) rfl) k
  | 2 =>
    have hr' : r.val = 128 + u.val := hr
    refine (Rows.canon_before _ _ _ r k (by omega)).trans (?_)
    refine (Rows.canon_here _ _ _ r k u hr').trans ((chunk2 _ _ _ _ u k).trans ?_)
    exact modulated_congr (fun k => load harg3 x0 rfl rfl u k r hr') (fun k => load (o := 0) harg4 x1 rfl rfl 0 k 0 rfl)
      (fun k => load harg6 x3 h2 rfl 0 k (g 2) rfl) (fun k => load harg5 x2 h2 rfl 0 k (g 2) rfl) k
  | 1 =>
    have hr' : r.val = 64 + u.val := hr
    refine (Rows.canon_before _ _ _ r k (by omega)).trans ((Rows.canon_before _ _ _ r k (by omega)).trans (?_))
    refine (Rows.canon_here _ _ _ r k u hr').trans ((chunk1 _ _ _ _ u k).trans ?_)
    exact modulated_congr (fun k => load harg3 x0 rfl rfl u k r hr') (fun k => load (o := 0) harg4 x1 rfl rfl 0 k 0 rfl)
      (fun k => load harg6 x3 h1 rfl 0 k (g 1) rfl) (fun k => load harg5 x2 h1 rfl 0 k (g 1) rfl) k
  | 0 =>
    have hr' : r.val = 0 + u.val := hr
    refine (Rows.canon_before _ _ _ r k (by omega)).trans ((Rows.canon_before _ _ _ r k (by omega)).trans ((Rows.canon_before _ _ _ r k (by omega)).trans (?_)))
    refine (Rows.canon_here _ _ _ r k u hr').trans ((chunk0 _ _ _ _ u k).trans ?_)
    exact modulated_congr (fun k => load harg3 x0 rfl rfl u k r hr') (fun k => load (o := 0) harg4 x1 rfl rfl 0 k 0 rfl)
      (fun k => load harg6 x3 h0 rfl 0 k (g 0) rfl) (fun k => load harg5 x2 h0 rfl 0 k (g 0) rfl) k

/-- An entry of what the step leaves in the result's block. -/
theorem entry (g : Fin 4 → Fin 10) (h0 : (word c xt (k0_off1 i) (k0_off1_inb i hc)).toNat = (g 0).val) (h1 : (word c xt (k0_off3 i) (k0_off3_inb i hc)).toNat = (g 1).val)
    (h2 : (word c xt (k0_off5 i) (k0_off5_inb i hc)).toNat = (g 2).val) (h3 : (word c xt (k0_off7 i) (k0_off7_inb i hc)).toNat = (g 3).val)
    (q : Fin 4) (u : Fin 64) (j : Fin 4096) (r : Fin 256) (hr : r.val = 64 * q.val + u.val) :
    (View.canon (run c i arg3 harg3 arg4 harg4 arg5 harg5 arg6 harg6 arg7 harg7 arg8 harg8 arg9 harg9 hc x0 x1 x2 x3 x4 xt w1 w2 w3 w4).1 (ix2 r j) : EReal)
      = ∑ k : Fin 2048, modulated (rowOf x0 r) (rowOf x1 0) (rowOf x3 (g q)) (rowOf x2 (g q)) k * x4 (ix2 k j) := by
  unfold run
  refine (Rows.canon_here (o := 0) _ _ _ r j r (Nat.zero_add _).symm).trans ((product _ _ r j).trans (Finset.sum_congr rfl fun k _ => ?_))
  exact congrArg₂ _ (operand c i arg3 harg3 arg4 harg4 arg5 harg5 arg6 harg6 arg9 hc x0 x1 x2 x3 xt w1 w2 w3 w4 g h0 h1 h2 h3 q u k r hr) (congrFun (weights arg7 harg7 x4) (ix2 k j))

end entry

end Cert.InQkIdeal.Block

end
-- ==== Proof.InRun.lean ====
/- A projection's run: what its result array holds. -/
module

public import proofs.«01_k».proof.Proof.InBlock

@[expose] public section

set_option maxRecDepth 16384

noncomputable section

namespace Cert.InQkIdeal.Results

open Idealize.ShloMosaic Idealize.ShloMosaic.TcCoe Idealize.SL.Sem
open Cert.InQkIdeal Cert.InQkIdeal.Gen Cert.InQkIdeal.Cut Cert.InQkIdeal.Block

variable (m : (ℓ : Loc nD τ sig) → Buf (Elt Ideal) ℓ) (ρ : Dev nD → PrngReg) (c : Dev nD)

/-- The arguments as launched. -/
abbrev a0 : FVec Ideal S2x4096x2048 .f32 := m ((c : Thread nD τ).loc main_arg0)
abbrev a1 : FVec Ideal S8x64x2048 .f32 := m ((c : Thread nD τ).loc main_arg1)
abbrev a2 : FVec Ideal S2048 .f32 := m ((c : Thread nD τ).loc main_arg2)
abbrev a3 : FVec Ideal S10x2048 .f32 := m ((c : Thread nD τ).loc main_arg3)
abbrev a4 : FVec Ideal S10x2048 .f32 := m ((c : Thread nD τ).loc main_arg4)
abbrev a5 : FVec Ideal S2048x12352 .f32 := m ((c : Thread nD τ).loc main_arg5)

/-- The residual stream, prompts then samples, by rows. -/
def resid (r : Fin 8704) (k : Fin 2048) : EReal :=
  if h : r.val < 8192 then a0 m c (ix3 ⟨r.val / 4096, by omega⟩ ⟨r.val % 4096, by omega⟩ k)
  else a1 m c (ix3 ⟨(r.val - 8192) / 64, by omega⟩ ⟨(r.val - 8192) % 64, by omega⟩ k)

/-- The stream a row belongs to. -/
abbrev streamOf (r : Fin 8704) : Fin 10 := ⟨stream (r.val / 64), stream_le _ (by omega)⟩

/-- What an entry of the result is: `n` says which third of the columns. -/
def value (n : Fin 3) (r : Fin 8704) (j : Fin 4096) : EReal :=
  ∑ k : Fin 2048, modulated (resid m c r) (fun k => a2 m c (ix1 k)) (rowOf (a4 m c) (streamOf r)) (rowOf (a3 m c) (streamOf r)) k
    * a5 m c (ix2 k ⟨4096 * n.val + j.val, by omega⟩)

theorem rows_v2 (r : Fin 8704) (j : Fin 2048) : (V m c main_v2 : FVec Ideal S8704x2048 .f32) (ix2 r j) = resid m c r j := by
  have e : V m c main_v2 = concatenate S8704x2048 0 [⟨S8192x2048, shapeCast S8192x2048 (a0 m c) shapeCasts_S2x4096x2048_S8192x2048⟩,
      ⟨S512x2048, shapeCast S512x2048 (a1 m c) shapeCasts_S8x64x2048_S512x2048⟩] concatenates_S8192x2048_S512x2048_S8704x2048_d0 := by
    unfold V
    after_results <;> rfl
  rw [e]
  unfold resid
  pointwise
theorem gain_v12 (k : Fin 2048) : (V m c main_v12 : FVec Ideal S1x2048 .f32) (ix2 0 k) = a2 m c (ix1 k) := by
  have e : V m c main_v12 = shapeCast S1x2048 (a2 m c) shapeCasts_S2048_S1x2048 := by
    unfold V
    after_results <;> rfl
  rw [e]
  pointwise
theorem weights_v14 (k : Fin 2048) (j : Fin 12288) : (V m c main_v14 : FVec Ideal S2048x12288 .bf16) (ix2 k j) = a5 m c (ix2 k ⟨j.val, by omega⟩) := by
  unfold V
  after_reads_simp
  pointwise

/-! ### The blocks -/

variable (T : Cut) (n : Fin 3) (hT : ∀ t : Fin grid0.N, T.ix (grid0.coords t) 0 = 0 ∧ T.ix (grid0.coords t) 1 = n.val)

abbrev cfgT := cfg (F := Ideal) T m
abbrev datT := dats T m 0 c

theorem ix_0 (t : Fin grid0.N) : cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0) t
theorem ix_1 (t : Fin grid0.N) : cc0_transform_1 (grid0.coords t) 0 = 0 ∧ cc0_transform_1 (grid0.coords t) 1 = 0 :=
  (by decide +kernel : ∀ t : Fin grid0.N, cc0_transform_1 (grid0.coords t) 0 = 0 ∧ cc0_transform_1 (grid0.coords t) 1 = 0) t
theorem ix_2 (t : Fin grid0.N) : cc0_transform_2 (grid0.coords t) 0 = 0 ∧ cc0_transform_2 (grid0.coords t) 1 = 0 :=
  (by decide +kernel : ∀ t : Fin grid0.N, cc0_transform_2 (grid0.coords t) 0 = 0 ∧ cc0_transform_2 (grid0.coords t) 1 = 0) t
theorem ix_3 (t : Fin grid0.N) : cc0_transform_3 (grid0.coords t) 0 = 0 ∧ cc0_transform_3 (grid0.coords t) 1 = 0 :=
  (by decide +kernel : ∀ t : Fin grid0.N, cc0_transform_3 (grid0.coords t) 0 = 0 ∧ cc0_transform_3 (grid0.coords t) 1 = 0) t
theorem ix_5 (t : Fin grid0.N) : cc0_transform_5 (grid0.coords t) 0 = t.val ∧ cc0_transform_5 (grid0.coords t) 1 = 0 :=
  (by decide +kernel : ∀ t : Fin grid0.N, cc0_transform_5 (grid0.coords t) 0 = t.val ∧ cc0_transform_5 (grid0.coords t) 1 = 0) t

/-- A row of a step's block in the whole array. -/
abbrev row (t : Fin grid0.N) (r : Fin 256) : Fin 8704 := ⟨256 * t.val + r.val, by have := lt_of_lt_of_eq t.isLt N_0; omega⟩

theorem blk_0 (t : Fin grid0.N) (r : Fin 256) (k : Fin 2048) : (iblk T m c 0 t : FVec Ideal S256x2048 .f32) (ix2 r k) = resid m c (row t r) k := by
  unfold iblk
  refine (View.read_apply ..).trans ?_
  refine Eq.trans ?_ (rows_v2 m c (row t r) k)
  show (V m c main_v2 : FVec Ideal S8704x2048 .f32) _ = _
  refine congrArg (V m c main_v2 : FVec Ideal S8704x2048 .f32) (Rows.at2 ?_ ?_)
  · show cc0_transform_0 (grid0.coords t) 0 * 256 + 1 * r.val = 256 * t.val + r.val; rw [(ix_0 t).1]; omega
  · show cc0_transform_0 (grid0.coords t) 1 * 2048 + 1 * k.val = k.val; rw [(ix_0 t).2]; omega
theorem blk_1 (t : Fin grid0.N) (k : Fin 2048) : (iblk T m c 1 t : FVec Ideal S1x2048 .f32) (ix2 0 k) = a2 m c (ix1 k) := by
  unfold iblk
  refine (View.read_apply ..).trans ?_
  refine Eq.trans ?_ (gain_v12 m c k)
  show (V m c main_v12 : FVec Ideal S1x2048 .f32) _ = _
  refine congrArg (V m c main_v12 : FVec Ideal S1x2048 .f32) (Rows.at2 ?_ ?_)
  · show cc0_transform_1 (grid0.coords t) 0 * 1 + 1 * 0 = 0; rw [(ix_1 t).1]
  · show cc0_transform_1 (grid0.coords t) 1 * 2048 + 1 * k.val = k.val; rw [(ix_1 t).2]; omega
theorem blk_2 (t : Fin grid0.N) (b : Fin 10) (j : Fin 2048) : (iblk T m c 2 t : FVec Ideal S10x2048 .f32) (ix2 b j) = a3 m c (ix2 b j) := by
  unfold iblk
  refine (View.read_apply ..).trans ?_
  show V m c main_arg3 _ = _
  rw [kept m main_arg3 (by simp)]
  refine congrArg (a3 m c) (Rows.at2 ?_ ?_)
  · show cc0_transform_2 (grid0.coords t) 0 * 10 + 1 * b.val = b.val; rw [(ix_2 t).1]; omega
  · show cc0_transform_2 (grid0.coords t) 1 * 2048 + 1 * j.val = j.val; rw [(ix_2 t).2]; omega
theorem blk_3 (t : Fin grid0.N) (b : Fin 10) (j : Fin 2048) : (iblk T m c 3 t : FVec Ideal S10x2048 .f32) (ix2 b j) = a4 m c (ix2 b j) := by
  unfold iblk
  refine (View.read_apply ..).trans ?_
  show V m c main_arg4 _ = _
  rw [kept m main_arg4 (by simp)]
  refine congrArg (a4 m c) (Rows.at2 ?_ ?_)
  · show cc0_transform_3 (grid0.coords t) 0 * 10 + 1 * b.val = b.val; rw [(ix_3 t).1]; omega
  · show cc0_transform_3 (grid0.coords t) 1 * 2048 + 1 * j.val = j.val; rw [(ix_3 t).2]; omega
include hT in
theorem blk_4 (t : Fin grid0.N) (k : Fin 2048) (j : Fin 4096) :
    (iblk T m c 4 t : FVec Ideal S2048x4096 .bf16) (ix2 k j) = a5 m c (ix2 k ⟨4096 * n.val + j.val, by omega⟩) := by
  unfold iblk
  refine (View.read_apply ..).trans ?_
  refine Eq.trans ?_ (weights_v14 m c k ⟨4096 * n.val + j.val, by omega⟩)
  show (V m c main_v14 : FVec Ideal S2048x12288 .bf16) _ = _
  refine congrArg (V m c main_v14 : FVec Ideal S2048x12288 .bf16) (Rows.at2 ?_ ?_)
  · show T.ix (grid0.coords t) 0 * 2048 + 1 * k.val = k.val; rw [(hT t).1]; omega
  · show T.ix (grid0.coords t) 1 * 4096 + 1 * j.val = 4096 * n.val + j.val; rw [(hT t).2]; omega

/-- The word a step reads for a chunk, as a number. -/
theorem named (o : Fin 1 → ℕ) (h : ∀ a, o a + S1.size a ≤ S136.size a) (q : ℕ) (hq : q < 136) (ho : o 0 = q) :
    (Body.word c (tbl m 0) o h).toNat = stream q := by
  rw [word_eq m c o h ⟨q, hq⟩ ho, BitVec.toNat_ofNat]
  have := stream_le q hq
  show stream q % 2 ^ 32 = stream q
  omega

include hT in
/-- What a step writes. -/
theorem written (t : Fin grid0.N) (r : Fin 256) (j : Fin 4096) : (outs T m c t : FVec Ideal S256x4096 .f32) (ix2 r j) = value m c n (row t r) j := by
  have ht : t.val < 34 := lt_of_lt_of_eq t.isLt N_0
  unfold outs runAt
  refine (Block.entry c (grid0.coords t) _ _ _ _ _ _ _ _ _ _ _ _ _ _ _ _ _ _ _ _ _ _ _ _ _ (fun q => ⟨stream (4 * t.val + q.val), stream_le _ (by omega)⟩)
    (named m c _ _ _ (by omega) (offs t).1) (named m c _ _ _ (by omega) (offs t).2.1) (named m c _ _ _ (by omega) (offs t).2.2.1) (named m c _ _ _ (by omega) (offs t).2.2.2)
    ⟨r.val / 64, by omega⟩ ⟨r.val % 64, by omega⟩ j r (show r.val = 64 * (r.val / 64) + r.val % 64 by omega)).trans ?_
  unfold value
  have es : (⟨stream (4 * t.val + r.val / 64), stream_le _ (by omega)⟩ : Fin 10) = streamOf (row t r) :=
    Fin.ext (congrArg stream (show 4 * t.val + r.val / 64 = (256 * t.val + r.val) / 64 by omega))
  refine Finset.sum_congr rfl fun k _ => congrArg₂ _ (modulated_congr (fun k => blk_0 m c T t r k) (fun k => blk_1 m c T t k) (fun k => ?_) (fun k => ?_) k) (blk_4 m c T n hT t k j)
  · exact (blk_3 m c T t _ k).trans (congrArg (fun b : Fin 10 => a4 m c (ix2 b k)) es)
  · exact (blk_2 m c T t _ k).trans (congrArg (fun b : Fin 10 => a3 m c (ix2 b k)) es)

include hT in
theorem flushed (t : Fin grid0.N) (r : Fin 256) (j : Fin 4096) :
    ((datT m c T).flushed 5 t : FVec Ideal S256x4096 .f32) (ix2 r j) = value m c n (row t r) j := by
  have e : (datT m c T).flushed 5 t = ((cfgT m T).win 5).cut (grid0.coords t) (outs T m c t) := by
    show ((cfgT m T).win 5).cut (grid0.coords t) ((datT m c T).after 5 t) = _
    rw [after5]
  rw [e]
  exact written m c T n hT t r j

theorem flush (t : Fin (cfgT m T).N) : ((cfgT m T).win 5).flush t = true :=
  (by decide +kernel : ∀ t : Fin grid0.N, Pipeline.Window.flushOf grid0 true cc0_transform_5 t = true) t

/-- Every block of the result is written once. -/
theorem disjoint (t t' : Fin grid0.N) (h : t ≠ t') : Disjoint (((cfgT m T).win 5).blk t).view.set (((cfgT m T).win 5).blk t').view.set := by
  refine ((cfgT m T).win 5).disjoint_blk fun e => h (Fin.ext ?_)
  have h1 : cc0_transform_5 (grid0.coords t) 0 = cc0_transform_5 (grid0.coords t') 0 := congrFun e (0 : Fin 2)
  rw [(ix_5 t).1, (ix_5 t').1] at h1
  exact h1

theorem blocks (t : Fin (cfgT m T).N) (hf : ((cfgT m T).win 5).flush t = true) :
    (((cfgT m T).win 5).blk t).view.read (Elt Ideal) ((datT m c T).arrAt 5 (cfgT m T).N) = (datT m c T).flushed 5 t :=
  (datT m c T).read_blk_arrAt_eq_flushed 5 (fun t t' _ _ h => disjoint m T t t' h) (cfgT m T).N t t.isLt hf

include hT in
theorem block_entry (t : Fin grid0.N) (u : Fin 256) (j : Fin 4096) :
    ((((cfgT m T).win 5).blk t).view.read (Elt Ideal) ((datT m c T).arrAt 5 (cfgT m T).N) : FVec Ideal S256x4096 .f32) (ix2 u j) = value m c n (row t u) j :=
  (congrFun (blocks m c T t (flush m T t)) (ix2 u j)).trans (flushed m c T n hT t u j)

theorem block_read (t : Fin grid0.N) (u : Fin 256) (j : Fin 4096) (A : FVec Ideal S8704x4096 .f32) :
    ((((cfgT m T).win 5).blk t).view.read (Elt Ideal) A : FVec Ideal S256x4096 .f32) (ix2 u j) = A (ix2 (row t u) j) := by
  refine (View.read_apply ..).trans ?_
  refine congrArg A (Rows.at2 ?_ ?_)
  · show cc0_transform_5 (grid0.coords t) 0 * 256 + 1 * u.val = 256 * t.val + u.val; rw [(ix_5 t).1]; omega
  · show cc0_transform_5 (grid0.coords t) 1 * 4096 + 1 * j.val = j.val; rw [(ix_5 t).2]; omega

/-- The result array after the run. -/
def result : FVec Ideal S8704x4096 .f32 := (datT m c T).arrAt 5 (cfgT m T).N

include hT in
theorem entry (r : Fin 8704) (j : Fin 4096) : result m c T (ix2 r j) = value m c n r j := by
  obtain ⟨t, u, h⟩ : ∃ (t : Fin grid0.N) (u : Fin 256), r = row t u :=
    ⟨⟨r.val / 256, lt_of_lt_of_eq (by omega : r.val / 256 < 34) N_0.symm⟩, ⟨r.val % 256, by omega⟩, Fin.ext (show r.val = 256 * (r.val / 256) + r.val % 256 by omega)⟩
  rw [h]
  exact (block_read m T t u j (result m c T)).symm.trans (block_entry m c T n hT t u j)

end Cert.InQkIdeal.Results

end
-- ==== Proof.InSame.lean ====
/- The three projections' claims: the programs run and keep their arguments, and a kernel's result is its reference's. -/
module

public import proofs.«01_k».proof.Defs
public import proofs.«01_k».proof.Proof.InRun
public import proofs.«01_k».proof.Proof.Gen.InQk
public import proofs.«01_k».proof.Proof.Gen.InV
public import proofs.«01_k».proof.Proof.Gen.InVIdeal
public import proofs.«01_k».proof.Proof.Gen.InZ
public import proofs.«01_k».proof.Proof.Gen.InZIdeal
public import proofs.«01_k».proof.Proof.Gen.InQkRefIdeal.Run
public import proofs.«01_k».proof.Proof.Gen.InQkRefIdeal.Read
public import proofs.«01_k».proof.Proof.Gen.InVRefIdeal.Run
public import proofs.«01_k».proof.Proof.Gen.InZRefIdeal.Run
public import Idealize.ShloMosaic.Adequacy

@[expose] public section

set_option maxRecDepth 16384

noncomputable section

namespace Cert.InSame

open Idealize.ShloMosaic Idealize.ShloMosaic.TcCoe Idealize.ShloMosaic.Tactic Idealize.SL.Sem

/-! ### The programs -/

section programs
open Cert.InQkIdeal Cert.InQkIdeal.Cut Cert.InQkIdeal.Results

/-- The first projection's weights: the columns of queries and keys. -/
def cutQk : Cut := ⟨Cert.InQkIdeal.cc0_transform_4, Cert.InQkIdeal.Gen.hreads0_4, Cert.InQkIdeal.Gen.hinb0_4, Cert.InQkIdeal.Gen.hwx0_4⟩
/-- The second's: the columns of values. -/
def cutV : Cut := ⟨Cert.InVIdeal.cc0_transform_4, Cert.InVIdeal.Gen.hreads0_4, Cert.InVIdeal.Gen.hinb0_4, Cert.InVIdeal.Gen.hwx0_4⟩
/-- The third's: the columns of output gates. -/
def cutZ : Cut := ⟨Cert.InZIdeal.cc0_transform_4, Cert.InZIdeal.Gen.hreads0_4, Cert.InZIdeal.Gen.hinb0_4, Cert.InZIdeal.Gen.hwx0_4⟩

theorem at_qk : ∀ t : Fin grid0.N, cutQk.ix (grid0.coords t) 0 = 0 ∧ cutQk.ix (grid0.coords t) 1 = (0 : Fin 3).val := by
  unfold cutQk; decide +kernel
theorem at_v : ∀ t : Fin grid0.N, cutV.ix (grid0.coords t) 0 = 0 ∧ cutV.ix (grid0.coords t) 1 = (1 : Fin 3).val := by
  unfold cutV; decide +kernel
theorem at_z : ∀ t : Fin grid0.N, cutZ.ix (grid0.coords t) 0 = 0 ∧ cutZ.ix (grid0.coords t) 1 = (2 : Fin 3).val := by
  unfold cutZ; decide +kernel

/-- The arguments end as they were. -/
abbrev Kept {F : FTy → Type} (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)

/-- A projection runs, keeps its arguments, and leaves every semaphore at zero. -/
abbrev Framed (F : FTy → Type) [FloatOps F] (T : Cut) : Prop := ∀ (m : (ℓ : Loc nD τ sig) → Buf (Elt F) ℓ) (ρ : Dev nD → PrngReg), True →
  θ_run (table (F := F) T) (onTc (τ := τ) (prog (F := F) T)) ⟨m, fun _ => 0, ρ⟩ (fun r => (∀ c : Dev nD, Kept m r.2.mem c) ∧ r.2.sem = fun _ => 0)

theorem framed {F : FTy → Type} [FloatOps F] (T : Cut) : Framed F T := fun m ρ _ =>
  (θ_run _ _ _).mono (fun _ h => ⟨fun c => arguments T m h.1 c, h.2⟩) (launched T m ρ)

/-- A projection's run: its result array and its arguments. -/
theorem run (T : Cut) (m : (ℓ : Loc nD τ sig) → Buf (Elt Ideal) ℓ) (ρ : Dev nD → PrngReg) :
    θ_run (table (F := Ideal) T) (onTc (τ := τ) (prog (F := Ideal) T)) ⟨m, fun _ => 0, ρ⟩ (fun r => ∀ c : Dev nD,
      r.2.mem ((c.tc : Thread nD τ).loc main_v15) = result m c T ∧ Kept m r.2.mem c) :=
  (θ_run _ _ _).mono (fun _ h c => ⟨(h.1 c).1 5, arguments T m h.1 c⟩) (launched T m ρ)
end programs

theorem frame_qk : @quiescent_InQk Cert.InQk.Gen.facts :=
  (by sl_kernel_rfl : Framed Bits cutQk = @quiescent_InQk Cert.InQk.Gen.facts).mp (framed cutQk)
theorem frame_qk_ideal : @quiescent_InQkIdeal Cert.InQkIdeal.Gen.facts :=
  (by sl_kernel_rfl : Framed Ideal cutQk = @quiescent_InQkIdeal Cert.InQkIdeal.Gen.facts).mp (framed cutQk)
theorem frame_v : @quiescent_InV Cert.InV.Gen.facts :=
  (by sl_kernel_rfl : Framed Bits cutV = @quiescent_InV Cert.InV.Gen.facts).mp (framed cutV)
theorem frame_v_ideal : @quiescent_InVIdeal Cert.InVIdeal.Gen.facts :=
  (by sl_kernel_rfl : Framed Ideal cutV = @quiescent_InVIdeal Cert.InVIdeal.Gen.facts).mp (framed cutV)
theorem frame_z : @quiescent_InZ Cert.InZ.Gen.facts :=
  (by sl_kernel_rfl : Framed Bits cutZ = @quiescent_InZ Cert.InZ.Gen.facts).mp (framed cutZ)
theorem frame_z_ideal : @quiescent_InZIdeal Cert.InZIdeal.Gen.facts :=
  (by sl_kernel_rfl : Framed Ideal cutZ = @quiescent_InZIdeal Cert.InZIdeal.Gen.facts).mp (framed cutZ)

theorem frame_qk_reference : @quiescent_InQkRefIdeal Cert.InQkRefIdeal.Gen.facts := fun m ρ _ =>
  (θ_run _ _ _).mono (fun r h => ⟨fun c => (h c).2, sem_eq_zero_of_no_sems rfl r.2⟩) (Cert.InQkRefIdeal.Value.run m ρ)
theorem frame_v_reference : @quiescent_InVRefIdeal Cert.InVRefIdeal.Gen.facts := fun m ρ _ =>
  (θ_run _ _ _).mono (fun r h => ⟨fun c => (h c).2, sem_eq_zero_of_no_sems rfl r.2⟩) (Cert.InVRefIdeal.Value.run m ρ)
theorem frame_z_reference : @quiescent_InZRefIdeal Cert.InZRefIdeal.Gen.facts := fun m ρ _ =>
  (θ_run _ _ _).mono (fun r h => ⟨fun c => (h c).2, sem_eq_zero_of_no_sems rfl r.2⟩) (Cert.InZRefIdeal.Value.run m ρ)

/-! ### The reference, entry by entry -/

section reference
open Cert.InQkRefIdeal Cert.InQkRefIdeal.Read
open Cert.InQkIdeal.Block (modulated rowOf)

variable (x0 : FVec Ideal S2x4096x2048 .f32) (x1 : FVec Ideal S8x64x2048 .f32) (x2 : FVec Ideal S2048 .f32) (x3 x4 : FVec Ideal S10x2048 .f32) (x5 : FVec Ideal S2048x12352 .f32)

theorem prompt_row (b : Fin 2) (s : Fin 4096) (k : Fin 2048) : (val_main_v22 (F := Ideal) x0 x2 x3 x4 (ix3 b s k) : EReal)
    = modulated (fun k => x0 (ix3 b s k)) (fun k => x2 (ix1 k)) (rowOf x4 ⟨b.val, by omega⟩) (rowOf x3 ⟨b.val, by omega⟩) k := by
  unfold val_main_v22 val_main_v21 val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0
    val_main_cst val_main_cst_0 val_main_cst_1 val_main_cst_2 modulated
  pointwise
theorem sample_row (b : Fin 8) (s : Fin 64) (k : Fin 2048) : (val_main_v46 (F := Ideal) x1 x2 x3 x4 (ix3 b s k) : EReal)
    = modulated (fun k => x1 (ix3 b s k)) (fun k => x2 (ix1 k)) (rowOf x4 ⟨2 + b.val, by omega⟩) (rowOf x3 ⟨2 + b.val, by omega⟩) k := by
  unfold val_main_v46 val_main_v45 val_main_v44 val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v25 val_main_v24
    val_main_cst_3 val_main_cst_4 val_main_cst_5 val_main_cst_6 modulated
  pointwise
theorem prompt (b : Fin 2) (s : Fin 4096) (j : Fin 12352) : (val_main_v23 (F := Ideal) x0 x2 x3 x4 x5 (ix3 b s j) : EReal)
    = ∑ k : Fin 2048, (val_main_v22 (F := Ideal) x0 x2 x3 x4 (ix3 b s k) : EReal) * x5 (ix2 k j) := by
  unfold val_main_v23
  pointwise [dot_S2x4096x2048_S2048x12352_S2x4096x12352_2_0_01_1_n_n]
theorem sample (b : Fin 8) (s : Fin 64) (j : Fin 12352) : (val_main_v47 (F := Ideal) x1 x2 x3 x4 x5 (ix3 b s j) : EReal)
    = ∑ k : Fin 2048, (val_main_v46 (F := Ideal) x1 x2 x3 x4 (ix3 b s k) : EReal) * x5 (ix2 k j) := by
  unfold val_main_v47
  pointwise [dot_S8x64x2048_S2048x12352_S8x64x12352_2_0_01_1_n_n]
theorem joined (r : Fin 8704) (j : Fin 12352) : (val_main_v50 (F := Ideal) x0 x1 x2 x3 x4 x5 (ix2 r j) : EReal)
    = if h : r.val < 8192 then val_main_v23 (F := Ideal) x0 x2 x3 x4 x5 (ix3 ⟨r.val / 4096, by omega⟩ ⟨r.val % 4096, by omega⟩ j)
      else val_main_v47 (F := Ideal) x1 x2 x3 x4 x5 (ix3 ⟨(r.val - 8192) / 64, by omega⟩ ⟨(r.val - 8192) % 64, by omega⟩ j) := by
  unfold val_main_v50 val_main_v49 val_main_v48
  pointwise

theorem third0 (r : Fin 8704) (j : Fin 4096) : val_main_v51 (F := Ideal) x0 x1 x2 x3 x4 x5 (ix2 r j) = val_main_v50 (F := Ideal) x0 x1 x2 x3 x4 x5 (ix2 r ⟨4096 * (0 : Fin 3).val + j.val, by show 4096 * 0 + j.val < 12352; omega⟩) := by
  unfold val_main_v51
  pointwise
theorem third1 (r : Fin 8704) (j : Fin 4096) : val_main_v52 (F := Ideal) x0 x1 x2 x3 x4 x5 (ix2 r j) = val_main_v50 (F := Ideal) x0 x1 x2 x3 x4 x5 (ix2 r ⟨4096 * (1 : Fin 3).val + j.val, by show 4096 * 1 + j.val < 12352; omega⟩) := by
  unfold val_main_v52
  pointwise
theorem third2 (r : Fin 8704) (j : Fin 4096) : val_main_v53 (F := Ideal) x0 x1 x2 x3 x4 x5 (ix2 r j) = val_main_v50 (F := Ideal) x0 x1 x2 x3 x4 x5 (ix2 r ⟨4096 * (2 : Fin 3).val + j.val, by show 4096 * 2 + j.val < 12352; omega⟩) := by
  unfold val_main_v53
  pointwise

open Cert.InQkIdeal.Results Cert.InQkIdeal.Cut

/-- The reference's entry is the kernel's. -/
theorem entry (m : (ℓ : Loc Cert.InQkIdeal.nD Cert.InQkIdeal.τ Cert.InQkIdeal.sig) → Buf (Elt Ideal) ℓ) (c : Dev Cert.InQkIdeal.nD) (n : Fin 3) (r : Fin 8704) (j : Fin 4096) :
    (val_main_v50 (F := Ideal) (a0 m c) (a1 m c) (a2 m c) (a3 m c) (a4 m c) (a5 m c) (ix2 r ⟨4096 * n.val + j.val, by omega⟩) : EReal) = value m c n r j := by
  have hr := r.isLt
  rw [joined]
  unfold value
  split
  · rename_i h
    rw [prompt]
    have e2 : (⟨r.val / 4096, by omega⟩ : Fin 10) = streamOf r :=
      Fin.ext (by show r.val / 4096 = stream (r.val / 64); unfold stream; rw [if_pos (by omega)]; omega)
    refine Finset.sum_congr rfl fun k _ => congrArg₂ _ ((prompt_row _ _ _ _ _ _ k).trans (Cert.InQkIdeal.Block.modulated_congr (fun k => ?_) (fun _ => rfl) (fun k => ?_) (fun k => ?_) k)) rfl
    · unfold resid; rw [dif_pos h]
    · exact congrArg (fun b : Fin 10 => a4 m c (ix2 b k)) e2
    · exact congrArg (fun b : Fin 10 => a3 m c (ix2 b k)) e2
  · rename_i h
    rw [sample]
    have e2 : (⟨2 + (r.val - 8192) / 64, by omega⟩ : Fin 10) = streamOf r :=
      Fin.ext (by show 2 + (r.val - 8192) / 64 = stream (r.val / 64); unfold stream; rw [if_neg (by omega)]; omega)
    refine Finset.sum_congr rfl fun k _ => congrArg₂ _ ((sample_row _ _ _ _ _ _ k).trans (Cert.InQkIdeal.Block.modulated_congr (fun k => ?_) (fun _ => rfl) (fun k => ?_) (fun k => ?_) k)) rfl
    · unfold resid; rw [dif_neg h]
    · exact congrArg (fun b : Fin 10 => a4 m c (ix2 b k)) e2
    · exact congrArg (fun b : Fin 10 => a3 m c (ix2 b k)) e2
end reference

/-! ### The claims of equal results -/

section same
open Cert.InQkRefIdeal.Read Cert.InQkIdeal.Results

/-- A memory of the kernels, and of the references. -/
abbrev MemK : Type := (ℓ : Loc Cert.InQkIdeal.nD Cert.InQkIdeal.τ Cert.InQkIdeal.sig) → Buf (Elt Ideal) ℓ
abbrev MemR : Type := (ℓ : Loc Cert.InQkRefIdeal.nD Cert.InQkRefIdeal.τ Cert.InQkRefIdeal.sig) → Buf (Elt Ideal) ℓ
/-- A function of the six arguments. -/
abbrev Val : Type := FVec Ideal Cert.InQkIdeal.S2x4096x2048 .f32 → FVec Ideal Cert.InQkIdeal.S8x64x2048 .f32 → FVec Ideal Cert.InQkIdeal.S2048 .f32 →
  FVec Ideal Cert.InQkIdeal.S10x2048 .f32 → FVec Ideal Cert.InQkIdeal.S10x2048 .f32 → FVec Ideal Cert.InQkIdeal.S2048x12352 .f32 → FVec Ideal Cert.InQkIdeal.S8704x4096 .f32

/-- An argument of a reference. -/
abbrev at_ (m : MemR) (c : Dev Cert.InQkRefIdeal.nD) (b : Ref Cert.InQkRefIdeal.sig .tc) : Buf (Elt Ideal) ((c.tc : Thread Cert.InQkRefIdeal.nD Cert.InQkRefIdeal.τ).loc b) :=
  m ((c.tc : Thread Cert.InQkRefIdeal.nD Cert.InQkRefIdeal.τ).loc b)

abbrev KeptR (m m' : MemR) (c : Dev Cert.InQkRefIdeal.nD) : Prop :=
  at_ m' c Cert.InQkRefIdeal.main_arg0 = at_ m c Cert.InQkRefIdeal.main_arg0
  ∧ at_ m' c Cert.InQkRefIdeal.main_arg1 = at_ m c Cert.InQkRefIdeal.main_arg1
  ∧ at_ m' c Cert.InQkRefIdeal.main_arg2 = at_ m c Cert.InQkRefIdeal.main_arg2
  ∧ at_ m' c Cert.InQkRefIdeal.main_arg3 = at_ m c Cert.InQkRefIdeal.main_arg3
  ∧ at_ m' c Cert.InQkRefIdeal.main_arg4 = at_ m c Cert.InQkRefIdeal.main_arg4
  ∧ at_ m' c Cert.InQkRefIdeal.main_arg5 = at_ m c Cert.InQkRefIdeal.main_arg5

/-- A reference and a kernel are given the same arguments. -/
abbrev Agree (m : MemK) (m' : MemR) (c : Dev Cert.InQkIdeal.nD) : Prop :=
  at_ m' c Cert.InQkRefIdeal.main_arg0 = a0 m c
  ∧ at_ m' c Cert.InQkRefIdeal.main_arg1 = a1 m c
  ∧ at_ m' c Cert.InQkRefIdeal.main_arg2 = a2 m c
  ∧ at_ m' c Cert.InQkRefIdeal.main_arg3 = a3 m c
  ∧ at_ m' c Cert.InQkRefIdeal.main_arg4 = a4 m c
  ∧ at_ m' c Cert.InQkRefIdeal.main_arg5 = a5 m c

/-- The reference's run, with `R` its result and `val` what that is of the arguments. -/
abbrev Ran (R : MemR → Dev Cert.InQkRefIdeal.nD → FVec Ideal Cert.InQkIdeal.S8704x4096 .f32) (val : Val) : Prop := ∀ (m : MemR) (ρ : Dev Cert.InQkRefIdeal.nD → PrngReg),
  θ_run (Cert.InQkRefIdeal.defs (F := Ideal)) (onTc (τ := Cert.InQkRefIdeal.τ) (Cert.InQkRefIdeal.main (F := Ideal))) ⟨m, fun _ => 0, ρ⟩ (fun r => ∀ c : Dev Cert.InQkRefIdeal.nD,
    R r.2.mem c = val (at_ m c Cert.InQkRefIdeal.main_arg0) (at_ m c Cert.InQkRefIdeal.main_arg1) (at_ m c Cert.InQkRefIdeal.main_arg2) (at_ m c Cert.InQkRefIdeal.main_arg3)
      (at_ m c Cert.InQkRefIdeal.main_arg4) (at_ m c Cert.InQkRefIdeal.main_arg5) ∧ KeptR m r.2.mem c)

/-- From equal arguments the kernel's result is the reference's result `R`. -/
abbrev Same (T : Cert.InQkIdeal.Cut.Cut) (R : MemR → Dev Cert.InQkRefIdeal.nD → FVec Ideal Cert.InQkIdeal.S8704x4096 .f32) : Prop :=
  ∀ (m : MemK) (ρ : Dev Cert.InQkIdeal.nD → PrngReg) (m' : MemR) (ρ' : Dev Cert.InQkRefIdeal.nD → PrngReg), True → (∀ c, Agree m m' c) →
    ∃ v : Dev Cert.InQkIdeal.nD → FVec Ideal Cert.InQkIdeal.S8704x4096 .f32,
      θ_run (Cert.InQkIdeal.Cut.table (F := Ideal) T) (onTc (τ := Cert.InQkIdeal.τ) (Cert.InQkIdeal.Cut.prog (F := Ideal) T)) ⟨m, fun _ => 0, ρ⟩ (fun r => ∀ c : Dev Cert.InQkIdeal.nD,
        r.2.mem ((c.tc : Thread Cert.InQkIdeal.nD Cert.InQkIdeal.τ).loc Cert.InQkIdeal.main_v15) = v c ∧ Kept m r.2.mem c)
      ∧ θ_run (Cert.InQkRefIdeal.defs (F := Ideal)) (onTc (τ := Cert.InQkRefIdeal.τ) (Cert.InQkRefIdeal.main (F := Ideal))) ⟨m', fun _ => 0, ρ'⟩ (fun r => ∀ c : Dev Cert.InQkRefIdeal.nD,
        R r.2.mem c = v c ∧ KeptR m' r.2.mem c)

theorem same_of (T : Cert.InQkIdeal.Cut.Cut) (n : Fin 3) (hT : ∀ t : Fin Cert.InQkIdeal.grid0.N, T.ix (Cert.InQkIdeal.grid0.coords t) 0 = 0 ∧ T.ix (Cert.InQkIdeal.grid0.coords t) 1 = n.val)
    {R : MemR → Dev Cert.InQkRefIdeal.nD → FVec Ideal Cert.InQkIdeal.S8704x4096 .f32} {val : Val} (hR : Ran R val)
    (hv : ∀ x0 x1 x2 x3 x4 x5 (r : Fin 8704) (j : Fin 4096), val x0 x1 x2 x3 x4 x5 (ix2 r j) = val_main_v50 (F := Ideal) x0 x1 x2 x3 x4 x5 (ix2 r ⟨4096 * n.val + j.val, by omega⟩)) :
    Same T R := by
  intro m ρ m' ρ' _ hm
  refine ⟨fun c => result m c T, run T m ρ, (θ_run _ _ _).mono (fun r h c => ⟨(h c).1.trans ?_, (h c).2⟩) (hR m' ρ')⟩
  obtain ⟨e0, e1, e2, e3, e4, e5⟩ := hm c
  rw [e0, e1, e2, e3, e4, e5]
  funext i
  obtain ⟨r, j, rfl⟩ : ∃ (r : Fin 8704) (j : Fin 4096), i = ix2 r j := ⟨i 0, i 1, Rows.at2 rfl rfl⟩
  exact (hv _ _ _ _ _ _ r j).trans ((entry m c n r j).trans (Cert.InQkIdeal.Results.entry m c T n hT r j).symm)

theorem ran_qk : Ran (fun m c => at_ m c Cert.InQkRefIdeal.main_v51) (val_main_v51 (F := Ideal)) :=
  Eq.mp (by sl_kernel_rfl) (@Cert.InQkRefIdeal.Value.run Ideal _)
theorem ran_v : Ran (fun m c => at_ m c Cert.InQkRefIdeal.main_v52) (val_main_v52 (F := Ideal)) :=
  Eq.mp (by sl_kernel_rfl) (@Cert.InVRefIdeal.Value.run Ideal _)
theorem ran_z : Ran (fun m c => at_ m c Cert.InQkRefIdeal.main_v53) (val_main_v53 (F := Ideal)) :=
  Eq.mp (by sl_kernel_rfl) (@Cert.InZRefIdeal.Value.run Ideal _)

/-- The queries and keys are the reference's. -/
theorem same_qk : @algebraic_InQkIdeal_InQkRefIdeal Cert.InQkIdeal.Gen.facts Cert.InQkRefIdeal.Gen.facts :=
  (by sl_kernel_rfl : Same cutQk (fun m c => at_ m c Cert.InQkRefIdeal.main_v51) = @algebraic_InQkIdeal_InQkRefIdeal Cert.InQkIdeal.Gen.facts Cert.InQkRefIdeal.Gen.facts).mp
    (same_of cutQk 0 at_qk ran_qk third0)
/-- The values are the reference's. -/
theorem same_v : @algebraic_InVIdeal_InVRefIdeal Cert.InVIdeal.Gen.facts Cert.InVRefIdeal.Gen.facts :=
  (by sl_kernel_rfl : Same cutV (fun m c => at_ m c Cert.InQkRefIdeal.main_v52) = @algebraic_InVIdeal_InVRefIdeal Cert.InVIdeal.Gen.facts Cert.InVRefIdeal.Gen.facts).mp
    (same_of cutV 1 at_v ran_v third1)
/-- The output gates are the reference's. -/
theorem same_z : @algebraic_InZIdeal_InZRefIdeal Cert.InZIdeal.Gen.facts Cert.InZRefIdeal.Gen.facts :=
  (by sl_kernel_rfl : Same cutZ (fun m c => at_ m c Cert.InQkRefIdeal.main_v53) = @algebraic_InZIdeal_InZRefIdeal Cert.InZIdeal.Gen.facts Cert.InZRefIdeal.Gen.facts).mp
    (same_of cutZ 2 at_z ran_z third2)
end same

end Cert.InSame

end
-- ==== Proof.DsaTable.lean ====
/- The stream table of the second output projection: which of the ten rows of gates a chunk of 64 rows takes. -/
module

public import proofs.«01_k».proof.Proof.Gen.DsaOutIdeal.Frame
public import proofs.«01_k».proof.Proof.OutTable
public import Idealize.ShloMosaic.Lib.StableHlo.RunRead
public import Idealize.ShloMosaic.Lib.Pointwise
public import Idealize.ShloMosaic.Lib.Pointwise.Tactic

@[expose] public section

set_option maxRecDepth 16384

noncomputable section

namespace Cert.DsaOutIdeal.Table

open Idealize.ShloMosaic Idealize.ShloMosaic.TcCoe
open Cert.DsaOutIdeal Cert.DsaOutIdeal.Gen
open Cert.GdnOutIdeal.Table (stream stream_le)

variable {F : FTy → Type} [FloatOps F] (m : (ℓ : Loc nD τ sig) → Buf (Elt F) ℓ)

/-- The table holds the streams. -/
theorem word (n : Fin 136) : (V m 0 main_v11 : IVec S136 32) (ix1 n) = BitVec.ofNat 32 (stream n.val) := by
  unfold V
  after_reads_simp
  pointwise
  unfold stream
  split
  · rfl
  · rename_i h
    show BitVec.ofNat 32 2 + BitVec.ofNat 32 (n.val - 128) = _
    rw [← BitVec.ofNat_add]
    exact congrArg (BitVec.ofNat 32) (by omega)

theorem chk (n : ℕ) (h : n < 136) : k0_chk1 (BitVec.ofNat 32 (stream n)) := by
  have hs := stream_le n h
  intro a
  match a with
  | ⟨0, _⟩ => show (BitVec.ofNat 32 (stream n)).toNat + 1 ≤ 10; rw [BitVec.toNat_ofNat]; omega
  | ⟨1, _⟩ => show 0 + 2048 ≤ 2048; omega

/-- The entries of the table that a step reads. -/
theorem off (t : Fin grid0.N) : k0_off1 (grid0.coords t) 0 = 8 * t.val ∧ k0_off3 (grid0.coords t) 0 = 8 * t.val + 1
    ∧ k0_off5 (grid0.coords t) 0 = 8 * t.val + 2 ∧ k0_off7 (grid0.coords t) 0 = 8 * t.val + 3 ∧ k0_off9 (grid0.coords t) 0 = 8 * t.val + 4
    ∧ k0_off11 (grid0.coords t) 0 = 8 * t.val + 5 ∧ k0_off13 (grid0.coords t) 0 = 8 * t.val + 6 ∧ k0_off15 (grid0.coords t) 0 = 8 * t.val + 7 :=
  (by decide +kernel : ∀ t : Fin grid0.N, k0_off1 (grid0.coords t) 0 = 8 * t.val ∧ k0_off3 (grid0.coords t) 0 = 8 * t.val + 1
    ∧ k0_off5 (grid0.coords t) 0 = 8 * t.val + 2 ∧ k0_off7 (grid0.coords t) 0 = 8 * t.val + 3 ∧ k0_off9 (grid0.coords t) 0 = 8 * t.val + 4
    ∧ k0_off11 (grid0.coords t) 0 = 8 * t.val + 5 ∧ k0_off13 (grid0.coords t) 0 = 8 * t.val + 6 ∧ k0_off15 (grid0.coords t) 0 = 8 * t.val + 7) t

theorem read (o : Fin 1 → ℕ) (h : ∀ a, o a + S1.size a ≤ S136.size a) (x : S1.Idx) (n : Fin 136) (hn : o 0 = n.val) :
    tbM0_0.view.readAt (Elt F) (Rect.unit (s := S136) o S1.size h).toLoadRect (tbl m 0) x = BitVec.ofNat 32 (stream n.val) := by
  refine Eq.trans ?_ (word m n)
  show (V m 0 main_v11 : IVec S136 32) ((Rect.unit (s := S136) o S1.size h).toLoadRect.idx x) = (V m 0 main_v11 : IVec S136 32) (ix1 n)
  refine congrArg (V m 0 main_v11 : IVec S136 32) (funext fun a => match a with | ⟨0, _⟩ => Fin.ext ?_)
  show o 0 + 1 * (x 0).val = n.val
  have : (x 0).val < 1 := (x 0).isLt
  omega

theorem ok : Ok m := trivial

/-- So an entry that a step reads is a row of the gates. -/
theorem names (o : Fin 1 → ℕ) (h : ∀ a, o a + S1.size a ≤ S136.size a) (x : S1.Idx) (n : ℕ) (hn : o 0 = n) (hl : n < 136) :
    k0_chk1 (tbM0_0.view.readAt (Elt F) (Rect.unit (s := S136) o S1.size h).toLoadRect (tbl m 0) x) := by
  rw [read m o h x ⟨n, hl⟩ hn]
  exact chk n hl

theorem hyps : Hyps m (ok m) := by
  refine Hyps.of (fun c t => names m _ _ _ _ (off t).1 ?_) (fun c t => names m _ _ _ _ (off t).2.1 ?_) (fun c t => names m _ _ _ _ (off t).2.2.1 ?_)
    (fun c t => names m _ _ _ _ (off t).2.2.2.1 ?_) (fun c t => names m _ _ _ _ (off t).2.2.2.2.1 ?_) (fun c t => names m _ _ _ _ (off t).2.2.2.2.2.1 ?_)
    (fun c t => names m _ _ _ _ (off t).2.2.2.2.2.2.1 ?_) (fun c t => names m _ _ _ _ (off t).2.2.2.2.2.2.2 ?_) <;>
    have ht : t.val < 17 := lt_of_lt_of_eq t.isLt N_0 <;> omega

end Cert.DsaOutIdeal.Table

end
-- ==== Proof.DsaBlock.lean ====
/- One step of the second output projection: a block of 512 rows is the block of the residual stream plus, chunk by chunk, a
   row of gates times the product of the block of attention outputs with the weights. -/
module

public import proofs.«01_k».proof.Proof.DsaTable
public import proofs.«01_k».proof.Proof.Rows
public import Idealize.ShloMosaic.Lib.WholeRead

@[expose] public section

set_option maxRecDepth 16384

noncomputable section

namespace Cert.DsaOutIdeal.Block

open Idealize.ShloMosaic Idealize.ShloMosaic.TcCoe
open Cert.DsaOutIdeal Cert.DsaOutIdeal.Gen

/-- The product, entry by entry. -/
theorem product (x : FVec Ideal S512x2048 .bf16) (w : FVec Ideal S2048x2048 .bf16) (r : Fin 512) (j : Fin 2048) :
    (k0_pay2 (F := Ideal) x w (ix2 r j) : EReal) = ∑ k : Fin 2048, (x (ix2 r k) : EReal) * w (ix2 k j) := by
  unfold k0_pay2
  pointwise [dot_S512x2048_S2048x2048_S512x2048_1_0_0_1_n_n]

theorem copied (x : FVec Ideal S512x2048 .bf16) : k0_pay1 x = x := by
  funext i
  have hi : i = ix2 (i 0) (i 1) := Rows.at2 rfl rfl
  rw [hi]
  unfold k0_pay1
  pointwise

/-- What a chunk stores: `pay` is the residual rows plus a row of gates times the rows of the product from the `q`-th 64 on. -/
abbrev Gated (q : ℕ) (pay : FVec Ideal S512x2048 .f32 → FVec Ideal S1x2048 .f32 → FVec Ideal S64x2048 .f32 → FVec Ideal S64x2048 .f32) : Prop :=
  ∀ v g y (u : Fin 64) (j : Fin 2048) (r : Fin 512), r.val = 64 * q + u.val → pay v g y (ix2 u j) = (y (ix2 u j) + g (ix2 0 j) * v (ix2 r j) : EReal)

theorem chunk0 (x : FVec Ideal S512x2048 .bf16) (w : FVec Ideal S2048x2048 .bf16) (g : FVec Ideal S1x2048 .f32) (y : FVec Ideal S64x2048 .f32) (u : Fin 64) (j : Fin 2048) (r : Fin 512)
    (hr : r.val = 64 * 0 + u.val) : k0_pay3 (F := Ideal) x w g y (ix2 u j) = (y (ix2 u j) + g (ix2 0 j) * k0_pay2 (F := Ideal) x w (ix2 r j) : EReal) := by
  rw [show r = ⟨u.val, by omega⟩ from Fin.ext (show r.val = u.val by omega)]
  unfold k0_pay3
  pointwise
theorem chunk1 (x : FVec Ideal S512x2048 .bf16) (w : FVec Ideal S2048x2048 .bf16) (g : FVec Ideal S1x2048 .f32) (y : FVec Ideal S64x2048 .f32) (u : Fin 64) (j : Fin 2048) (r : Fin 512)
    (hr : r.val = 64 * 1 + u.val) : k0_pay4 (F := Ideal) x w g y (ix2 u j) = (y (ix2 u j) + g (ix2 0 j) * k0_pay2 (F := Ideal) x w (ix2 r j) : EReal) := by
  rw [show r = ⟨64 + u.val, by omega⟩ from Fin.ext (by omega)]
  unfold k0_pay4
  pointwise
theorem chunk2 : Gated 2 (k0_pay5 (F := Ideal)) := fun v g y u j r hr => by
  rw [show r = ⟨128 + u.val, by omega⟩ from Fin.ext (by omega)]
  unfold k0_pay5
  pointwise
theorem chunk3 : Gated 3 (k0_pay6 (F := Ideal)) := fun v g y u j r hr => by
  rw [show r = ⟨192 + u.val, by omega⟩ from Fin.ext (by omega)]
  unfold k0_pay6
  pointwise
theorem chunk4 : Gated 4 (k0_pay7 (F := Ideal)) := fun v g y u j r hr => by
  rw [show r = ⟨256 + u.val, by omega⟩ from Fin.ext (by omega)]
  unfold k0_pay7
  pointwise
theorem chunk5 : Gated 5 (k0_pay8 (F := Ideal)) := fun v g y u j r hr => by
  rw [show r = ⟨320 + u.val, by omega⟩ from Fin.ext (by omega)]
  unfold k0_pay8
  pointwise
theorem chunk6 : Gated 6 (k0_pay9 (F := Ideal)) := fun v g y u j r hr => by
  rw [show r = ⟨384 + u.val, by omega⟩ from Fin.ext (by omega)]
  unfold k0_pay9
  pointwise
theorem chunk7 : Gated 7 (k0_pay10 (F := Ideal)) := fun v g y u j r hr => by
  rw [show r = ⟨448 + u.val, by omega⟩ from Fin.ext (by omega)]
  unfold k0_pay10
  pointwise

/-- A load of rows from a whole buffer. -/
theorem load {sp : Space} {e : EltTy} {N W k o : ℕ} {a : Memref sig .tc sp ⟨2, ![N, W]⟩ e} (h : a.IsWhole) (X : Vec Ideal ⟨2, ![N, W]⟩ e)
    {off : Fin 2 → ℕ} {hi} (ho : off 0 = o) (hz : off 1 = 0) (u : Fin k) (j : Fin W) (r : Fin N) (hr : r.val = o + u.val) :
    View.readAt (Elt Ideal) a.view (Rect.unit (s := ⟨2, ![N, W]⟩) off ![k, W] hi).toLoadRect (h.unread X) (ix2 u j) = X (ix2 r j) := by
  rw [Memref.IsWhole.readAt_unread]
  exact congrArg X (Rows.at2 (show off 0 + 1 * u.val = r.val by omega) (show off 1 + 1 * j.val = j.val by omega))

section entry
variable (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S10x2048 .f32) (harg6 : arg6.IsWhole) (arg7 : Memref sig .tc .vmem S512x2048 .f32) (harg7 : arg7.IsWhole) (arg8 : Memref sig .tc .vmem S512x2048 .bf16) (harg8 : arg8.IsWhole) (hc0 : cond0_0 i)
  (x0 : Vec Ideal S512x2048 .bf16) (x1 : Vec Ideal S2048x2048 .bf16) (x2 : Vec Ideal S512x2048 .f32) (x3 : Vec Ideal S10x2048 .f32) (xt0 : TbBuf0 (F := Ideal) c tbM0_0)
  (k0_hw1) (k0_hw2) (k0_hw3) (k0_hw4) (k0_hw5) (k0_hw6) (k0_hw7) (k0_hw8)

/-- The attention outputs, read back from the buffer they are copied to. -/
theorem operand : kernelRun0_A.sl.v4 c arg3 harg3 arg8 x0 = x0 := by
  funext y
  have hy : y = ix2 (y 0) (y 1) := Rows.at2 rfl rfl
  rw [hy]
  unfold kernelRun0_A.sl.v4 kernelRun0_A.sl.HS0_1 View.readCov
  rw [View.readAt_writes_junk_eq_canon]
  refine (congrArg (View.canon _) (Rows.at2 (y := ix2 (y 0) (y 1)) (show 0 + 1 * (y 0).val = (y 0).val by omega) (show 0 + 1 * (y 1).val = (y 1).val by omega))).trans ?_
  refine (Rows.canon_here _ _ _ (y 0) (y 1) (y 0) (by omega)).trans ?_
  rw [copied]
  exact load (o := 0) harg3 x0 rfl rfl (y 0) (y 1) (y 0) (Nat.zero_add _).symm

theorem weights : View.readAt (Elt Ideal) arg4.view (Rect.unit (s := S2048x2048) ![0, 0] S2048x2048.size inb_S2048x2048_S2048x2048_0_0).toLoadRect (harg4.unread x1) = x1 := by
  funext y
  have hy : y = ix2 (y 0) (y 1) := Rows.at2 rfl rfl
  rw [hy]
  exact load (o := 0) harg4 x1 rfl rfl (y 0) (y 1) (y 0) (Nat.zero_add _).symm

/-- The word of the table that a load reads. -/
abbrev word (o : Fin 1 → ℕ) (h : ∀ a, o a + S1.size a ≤ S136.size a) : BitVec 32 :=
  tbM0_0.view.readAt (Elt Ideal) (Rect.unit (s := S136) o S1.size h).toLoadRect xt0 (Shape.Idx.first (numel1_S1.symm ▸ Nat.one_pos))

/-- What an entry of the block is, the row of gates being `b`. -/
abbrev value (b : Fin 10) (r : Fin 512) (j : Fin 2048) : EReal :=
  x2 (ix2 r j) + x3 (ix2 b j) * ∑ k : Fin 2048, (x0 (ix2 r k) : EReal) * x1 (ix2 k j)

/-- A chunk's sum is that, whatever rectangles its two loads take. -/
theorem part {q : ℕ} {g : Fin 8 → Fin 10} {n : Fin 8} {j : Fin 2048} {r : Fin 512} {u : Fin 64} (hn : n.val = q) (hr : r.val = 64 * q + u.val)
    {y gate p : EReal} (hy : y = x2 (ix2 r j)) (hg : gate = x3 (ix2 (g n) j)) (hp : p = k0_pay2 (F := Ideal) x0 x1 (ix2 r j)) :
    y + gate * p = value x0 x1 x2 x3 (g ⟨r.val / 64, by omega⟩) r j := by
  rw [show (⟨r.val / 64, by omega⟩ : Fin 8) = n from Fin.ext (show r.val / 64 = n.val by have := u.isLt; omega), hy, hg, hp, product]

/-- The product as the later chunks read it. -/
theorem kept : kernelRun0_A.sl.r_2 c arg3 harg3 arg4 harg4 arg8 x0 x1 = k0_pay2 (F := Ideal) x0 x1 := by
  unfold kernelRun0_A.sl.r_2
  rw [operand, weights]

/-- An entry of the step's output, given the rows of gates its eight chunks take. -/
theorem entry (g : Fin 8 → Fin 10)
    (h0 : (word c xt0 (k0_off1 i) (k0_off1_inb i)).toNat = (g 0).val)
    (h1 : (word c xt0 (k0_off3 i) (k0_off3_inb i)).toNat = (g 1).val)
    (h2 : (word c xt0 (k0_off5 i) (k0_off5_inb i)).toNat = (g 2).val)
    (h3 : (word c xt0 (k0_off7 i) (k0_off7_inb i)).toNat = (g 3).val)
    (h4 : (word c xt0 (k0_off9 i) (k0_off9_inb i)).toNat = (g 4).val)
    (h5 : (word c xt0 (k0_off11 i) (k0_off11_inb i)).toNat = (g 5).val)
    (h6 : (word c xt0 (k0_off13 i) (k0_off13_inb i)).toNat = (g 6).val)
    (h7 : (word c xt0 (k0_off15 i) (k0_off15_inb i)).toNat = (g 7).val)
    (r : Fin 512) (j : Fin 2048) :
    (out0_A_4 c i arg3 harg3 arg4 harg4 arg5 harg5 arg6 harg6 arg7 harg7 arg8 harg8 hc0 x0 x1 x2 x3 xt0 k0_hw1 k0_hw2 k0_hw3 k0_hw4 k0_hw5 k0_hw6 k0_hw7 k0_hw8 (ix2 r j) : EReal)
      = value x0 x1 x2 x3 (g ⟨r.val / 64, by omega⟩) r j := by
  unfold out0_A_4
  refine (View.read_writes_junk_apply_eq_canon _ _ _).trans ?_
  unfold kernelRun0_A kernelRun0_A.sl.r_9
  refine Rows.eight _ _ _ _ _ _ _ _ r j _ ?_ ?_ ?_ ?_ ?_ ?_ ?_ ?_ <;> intro u hr
  · rw [operand, weights]
    exact (chunk0 _ _ _ _ u j r hr).trans (part x0 x1 x2 x3 (n := 0) rfl hr (load harg5 x2 rfl rfl u j r hr) (load harg6 x3 h0 rfl 0 j (g 0) rfl) rfl)
  · rw [operand, weights]
    exact (chunk1 _ _ _ _ u j r hr).trans (part x0 x1 x2 x3 (n := 1) rfl hr (load harg5 x2 rfl rfl u j r hr) (load harg6 x3 h1 rfl 0 j (g 1) rfl) rfl)
  all_goals rw [kept]
  · exact (chunk2 _ _ _ u j r hr).trans (part x0 x1 x2 x3 (n := 2) rfl hr (load harg5 x2 rfl rfl u j r hr) (load harg6 x3 h2 rfl 0 j (g 2) rfl) rfl)
  · exact (chunk3 _ _ _ u j r hr).trans (part x0 x1 x2 x3 (n := 3) rfl hr (load harg5 x2 rfl rfl u j r hr) (load harg6 x3 h3 rfl 0 j (g 3) rfl) rfl)
  · exact (chunk4 _ _ _ u j r hr).trans (part x0 x1 x2 x3 (n := 4) rfl hr (load harg5 x2 rfl rfl u j r hr) (load harg6 x3 h4 rfl 0 j (g 4) rfl) rfl)
  · exact (chunk5 _ _ _ u j r hr).trans (part x0 x1 x2 x3 (n := 5) rfl hr (load harg5 x2 rfl rfl u j r hr) (load harg6 x3 h5 rfl 0 j (g 5) rfl) rfl)
  · exact (chunk6 _ _ _ u j r hr).trans (part x0 x1 x2 x3 (n := 6) rfl hr (load harg5 x2 rfl rfl u j r hr) (load harg6 x3 h6 rfl 0 j (g 6) rfl) rfl)
  · exact (chunk7 _ _ _ u j r hr).trans (part x0 x1 x2 x3 (n := 7) rfl hr (load harg5 x2 rfl rfl u j r hr) (load harg6 x3 h7 rfl 0 j (g 7) rfl) rfl)

end entry

end Cert.DsaOutIdeal.Block

end
-- ==== Proof.DsaRun.lean ====
/- The second output projection's run: what its result array holds. -/
module

public import proofs.«01_k».proof.Proof.DsaBlock

@[expose] public section

set_option maxRecDepth 16384

noncomputable section

namespace Cert.DsaOutIdeal.Results

open Idealize.ShloMosaic Idealize.ShloMosaic.TcCoe Idealize.SL.Sem
open Cert.DsaOutIdeal Cert.DsaOutIdeal.Gen Cert.DsaOutIdeal.Table
open Cert.GdnOutIdeal.Table (stream stream_le)

variable (m : (ℓ : Loc nD τ sig) → Buf (Elt Ideal) ℓ) (ρ : Dev nD → PrngReg) (c : Dev nD)

/-- The arguments as launched. -/
abbrev a0 : FVec Ideal S8704x2048 .bf16 := m ((c : Thread nD τ).loc main_arg0)
abbrev a1 : FVec Ideal S2048x2048 .f32 := m ((c : Thread nD τ).loc main_arg1)
abbrev a2 : FVec Ideal S2x4096x2048 .f32 := m ((c : Thread nD τ).loc main_arg2)
abbrev a3 : FVec Ideal S8x64x2048 .f32 := m ((c : Thread nD τ).loc main_arg3)
abbrev a4 : FVec Ideal S10x2048 .f32 := m ((c : Thread nD τ).loc main_arg4)

/-- The residual stream, prompts then samples, by rows. -/
def resid (r : Fin 8704) (j : Fin 2048) : EReal :=
  if h : r.val < 8192 then a2 m c (ix3 ⟨r.val / 4096, by omega⟩ ⟨r.val % 4096, by omega⟩ j)
  else a3 m c (ix3 ⟨(r.val - 8192) / 64, by omega⟩ ⟨(r.val - 8192) % 64, by omega⟩ j)

/-- What an entry of the result is. -/
def value (r : Fin 8704) (j : Fin 2048) : EReal :=
  resid m c r j + a4 m c (ix2 ⟨stream (r.val / 64), stream_le _ (by omega)⟩ j) * ∑ k : Fin 2048, (a0 m c (ix2 r k) : EReal) * a1 m c (ix2 k j)

theorem rows_v2 (r : Fin 8704) (j : Fin 2048) : (V m c main_v2 : FVec Ideal S8704x2048 .f32) (ix2 r j) = resid m c r j := by
  have e : V m c main_v2 = concatenate S8704x2048 0 [⟨S8192x2048, shapeCast S8192x2048 (a2 m c) shapeCasts_S2x4096x2048_S8192x2048⟩,
      ⟨S512x2048, shapeCast S512x2048 (a3 m c) shapeCasts_S8x64x2048_S512x2048⟩] concatenates_S8192x2048_S512x2048_S8704x2048_d0 := by
    unfold V
    after_results <;> rfl
  rw [e]
  unfold resid
  pointwise
theorem weights_v12 (k : Fin 2048) (j : Fin 2048) : (V m c main_v12 : FVec Ideal S2048x2048 .bf16) (ix2 k j) = a1 m c (ix2 k j) := by
  unfold V
  after_reads_simp
  pointwise

abbrev cfgT := cfgM m (ok m)
abbrev datT := dats m (ok m) (hyps m) 0 c

/-! ### The blocks -/

theorem ix_0 (t : Fin grid0.N) : cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0) t
theorem ix_1 (t : Fin grid0.N) : cc0_transform_1 (grid0.coords t) 0 = 0 ∧ cc0_transform_1 (grid0.coords t) 1 = 0 :=
  (by decide +kernel : ∀ t : Fin grid0.N, cc0_transform_1 (grid0.coords t) 0 = 0 ∧ cc0_transform_1 (grid0.coords t) 1 = 0) t
theorem ix_2 (t : Fin grid0.N) : cc0_transform_2 (grid0.coords t) 0 = t.val ∧ cc0_transform_2 (grid0.coords t) 1 = 0 :=
  (by decide +kernel : ∀ t : Fin grid0.N, cc0_transform_2 (grid0.coords t) 0 = t.val ∧ cc0_transform_2 (grid0.coords t) 1 = 0) t
theorem ix_3 (t : Fin grid0.N) : cc0_transform_3 (grid0.coords t) 0 = 0 ∧ cc0_transform_3 (grid0.coords t) 1 = 0 :=
  (by decide +kernel : ∀ t : Fin grid0.N, cc0_transform_3 (grid0.coords t) 0 = 0 ∧ cc0_transform_3 (grid0.coords t) 1 = 0) t
theorem ix_4 (t : Fin grid0.N) : cc0_transform_4 (grid0.coords t) 0 = t.val ∧ cc0_transform_4 (grid0.coords t) 1 = 0 :=
  (by decide +kernel : ∀ t : Fin grid0.N, cc0_transform_4 (grid0.coords t) 0 = t.val ∧ cc0_transform_4 (grid0.coords t) 1 = 0) t

/-- A row of a step's block in the whole array. -/
abbrev row (t : Fin grid0.N) (r : Fin 512) : Fin 8704 := ⟨512 * t.val + r.val, by have := lt_of_lt_of_eq t.isLt N_0; omega⟩

theorem blk_0 (t : Fin grid0.N) (r : Fin 512) (k : Fin 2048) : (iblk m (ok m) c 0 t : FVec Ideal S512x2048 .bf16) (ix2 r k) = a0 m c (ix2 (row t r) k) := by
  unfold iblk
  refine (View.read_apply ..).trans ?_
  show V m c main_arg0 _ = _
  rw [V_main_arg0]
  refine congrArg (a0 m c) (Rows.at2 ?_ ?_)
  · show cc0_transform_0 (grid0.coords t) 0 * 512 + 1 * r.val = 512 * t.val + r.val; rw [(ix_0 t).1]; omega
  · show cc0_transform_0 (grid0.coords t) 1 * 2048 + 1 * k.val = k.val; rw [(ix_0 t).2]; omega
theorem blk_1 (t : Fin grid0.N) (k : Fin 2048) (j : Fin 2048) : (iblk m (ok m) c 1 t : FVec Ideal S2048x2048 .bf16) (ix2 k j) = a1 m c (ix2 k j) := by
  unfold iblk
  refine (View.read_apply ..).trans ?_
  refine Eq.trans ?_ (weights_v12 m c k j)
  show (V m c main_v12 : FVec Ideal S2048x2048 .bf16) _ = _
  refine congrArg (V m c main_v12 : FVec Ideal S2048x2048 .bf16) (Rows.at2 ?_ ?_)
  · show cc0_transform_1 (grid0.coords t) 0 * 2048 + 1 * k.val = k.val; rw [(ix_1 t).1]; omega
  · show cc0_transform_1 (grid0.coords t) 1 * 2048 + 1 * j.val = j.val; rw [(ix_1 t).2]; omega
theorem blk_2 (t : Fin grid0.N) (r : Fin 512) (j : Fin 2048) : (iblk m (ok m) c 2 t : FVec Ideal S512x2048 .f32) (ix2 r j) = resid m c (row t r) j := by
  unfold iblk
  refine (View.read_apply ..).trans ?_
  refine Eq.trans ?_ (rows_v2 m c (row t r) j)
  show (V m c main_v2 : FVec Ideal S8704x2048 .f32) _ = _
  refine congrArg (V m c main_v2 : FVec Ideal S8704x2048 .f32) (Rows.at2 ?_ ?_)
  · show cc0_transform_2 (grid0.coords t) 0 * 512 + 1 * r.val = 512 * t.val + r.val; rw [(ix_2 t).1]; omega
  · show cc0_transform_2 (grid0.coords t) 1 * 2048 + 1 * j.val = j.val; rw [(ix_2 t).2]; omega
theorem blk_3 (t : Fin grid0.N) (b : Fin 10) (j : Fin 2048) : (iblk m (ok m) c 3 t : FVec Ideal S10x2048 .f32) (ix2 b j) = a4 m c (ix2 b j) := by
  unfold iblk
  refine (View.read_apply ..).trans ?_
  show V m c main_arg4 _ = _
  rw [V_main_arg4]
  refine congrArg (a4 m c) (Rows.at2 ?_ ?_)
  · show cc0_transform_3 (grid0.coords t) 0 * 10 + 1 * b.val = b.val; rw [(ix_3 t).1]; omega
  · show cc0_transform_3 (grid0.coords t) 1 * 2048 + 1 * j.val = j.val; rw [(ix_3 t).2]; omega

/-- The word a step reads for a chunk, as a number. -/
theorem named (o : Fin 1 → ℕ) (h : ∀ a, o a + S1.size a ≤ S136.size a) (q : ℕ) (hq : q < 136) (ho : o 0 = q) :
    (Block.word c (tbl m 0) o h).toNat = stream q := by
  refine (congrArg BitVec.toNat (Table.read m o h _ ⟨q, hq⟩ ho)).trans ?_
  rw [BitVec.toNat_ofNat]
  have := stream_le q hq
  show stream q % 2 ^ 32 = stream q
  omega

/-- What a step writes. -/
theorem flushed (t : Fin grid0.N) (r : Fin 512) (j : Fin 2048) :
    ((datT m c).flushed 4 t : FVec Ideal S512x2048 .f32) (ix2 r j) = value m c (row t r) j := by
  have ht : t.val < 17 := lt_of_lt_of_eq t.isLt N_0
  have e : (datT m c).flushed 4 t = ((cfgT m).win 4).cut (grid0.coords t) (outsAt0 m (ok m) (hyps m) c t) := by
    show ((cfgT m).win 4).cut (grid0.coords t) ((datT m c).after 4 t) = _
    rw [after0_4]
  rw [e]
  show (outsAt0 m (ok m) (hyps m) c t : FVec Ideal S512x2048 .f32) (ix2 r j) = _
  unfold outsAt0
  refine (Block.entry c (grid0.coords t) _ _ _ _ _ _ _ _ _ _ _ _ _ _ _ _ _ _ _ _ _ _ _ _ _ _ (fun q => ⟨stream (8 * t.val + q.val), stream_le _ (by omega)⟩)
    (named m c _ _ _ (by omega) (off t).1) (named m c _ _ _ (by omega) (off t).2.1) (named m c _ _ _ (by omega) (off t).2.2.1) (named m c _ _ _ (by omega) (off t).2.2.2.1)
    (named m c _ _ _ (by omega) (off t).2.2.2.2.1) (named m c _ _ _ (by omega) (off t).2.2.2.2.2.1) (named m c _ _ _ (by omega) (off t).2.2.2.2.2.2.1)
    (named m c _ _ _ (by omega) (off t).2.2.2.2.2.2.2) r j).trans ?_
  unfold Block.value value
  rw [blk_2, blk_3]
  have es : (⟨stream (8 * t.val + r.val / 64), stream_le _ (by omega)⟩ : Fin 10) = ⟨stream ((row t r).val / 64), stream_le _ (by omega)⟩ :=
    Fin.ext (congrArg stream (show 8 * t.val + r.val / 64 = (512 * t.val + r.val) / 64 by omega))
  rw [← es]
  refine congrArg₂ _ rfl (congrArg₂ _ rfl (Finset.sum_congr rfl fun k _ => ?_))
  rw [blk_0, blk_1]

/-- Every block of the result is written once. -/
theorem disjoint (t t' : Fin grid0.N) (h : t ≠ t') : Disjoint (((cfgT m).win 4).blk t).view.set (((cfgT m).win 4).blk t').view.set := by
  refine ((cfgT m).win 4).disjoint_blk fun e => h (Fin.ext ?_)
  have h1 : cc0_transform_4 (grid0.coords t) 0 = cc0_transform_4 (grid0.coords t') 0 := congrFun e (0 : Fin 2)
  rw [(ix_4 t).1, (ix_4 t').1] at h1
  exact h1

theorem blocks (t : Fin (cfgT m).N) (hf : ((cfgT m).win 4).flush t = true) :
    (((cfgT m).win 4).blk t).view.read (Elt Ideal) ((datT m c).arrAt 4 (cfgT m).N) = (datT m c).flushed 4 t :=
  (datT m c).read_blk_arrAt_eq_flushed 4 (fun t t' _ _ h => disjoint m t t' h) (cfgT m).N t t.isLt hf

theorem block_entry (t : Fin grid0.N) (u : Fin 512) (j : Fin 2048) :
    ((((cfgT m).win 4).blk t).view.read (Elt Ideal) ((datT m c).arrAt 4 (cfgT m).N) : FVec Ideal S512x2048 .f32) (ix2 u j) = value m c (row t u) j :=
  (congrFun (blocks m c t (flush0_4 _ t)) (ix2 u j)).trans (flushed m c t u j)

theorem block_read (t : Fin grid0.N) (u : Fin 512) (j : Fin 2048) (A : FVec Ideal S8704x2048 .f32) :
    ((((cfgT m).win 4).blk t).view.read (Elt Ideal) A : FVec Ideal S512x2048 .f32) (ix2 u j) = A (ix2 (row t u) j) := by
  refine (View.read_apply ..).trans ?_
  refine congrArg A (Rows.at2 ?_ ?_)
  · show cc0_transform_4 (grid0.coords t) 0 * 512 + 1 * u.val = 512 * t.val + u.val; rw [(ix_4 t).1]; omega
  · show cc0_transform_4 (grid0.coords t) 1 * 2048 + 1 * j.val = j.val; rw [(ix_4 t).2]; omega

/-- The result array after the run. -/
def result : FVec Ideal S8704x2048 .f32 := (datT m c).arrAt 4 (cfgT m).N

theorem entry (r : Fin 8704) (j : Fin 2048) : result m c (ix2 r j) = value m c r j := by
  obtain ⟨t, u, h⟩ : ∃ (t : Fin grid0.N) (u : Fin 512), r = row t u :=
    ⟨⟨r.val / 512, lt_of_lt_of_eq (by omega : r.val / 512 < 17) N_0.symm⟩, ⟨r.val % 512, by omega⟩, Fin.ext (show r.val = 512 * (r.val / 512) + r.val % 512 by omega)⟩
  rw [h]
  exact (block_read m t u j (result m c)).symm.trans (block_entry m c t u j)

end Cert.DsaOutIdeal.Results

end
-- ==== Proof.DsaSame.lean ====
/- The second output projection's claims: both programs run and keep their arguments, and the kernel's result is the reference's. -/
module

public import proofs.«01_k».proof.Defs
public import proofs.«01_k».proof.Proof.DsaRun
public import proofs.«01_k».proof.Proof.Gen.DsaOut.Frame
public import proofs.«01_k».proof.Proof.Gen.DsaOutRefIdeal.Run
public import proofs.«01_k».proof.Proof.Gen.DsaOutRefIdeal.Read
public import Idealize.ShloMosaic.Adequacy

@[expose] public section

set_option maxRecDepth 16384

noncomputable section

namespace Cert.DsaSame

open Idealize.ShloMosaic Idealize.ShloMosaic.TcCoe Idealize.SL.Sem

section kernel
open Cert.DsaOutIdeal Cert.DsaOutIdeal.Gen Cert.DsaOutIdeal.Table Cert.DsaOutIdeal.Results

/-- The kernel's run: its result array and its arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 4, h.2 c⟩)
    (θ_run_and (run_main m ρ (ok m) (hyps m)) (unchanged m ρ (ok m) (hyps m)))
end kernel

theorem frame : @quiescent_DsaOut Cert.DsaOut.Gen.facts :=
  fun m ρ _ => Cert.DsaOut.Gen.frame m ρ trivial (Cert.DsaOutIdeal.Table.hyps m)
theorem frame_ideal : @quiescent_DsaOutIdeal Cert.DsaOutIdeal.Gen.facts :=
  fun m ρ _ => Cert.DsaOutIdeal.Gen.frame m ρ (Cert.DsaOutIdeal.Table.ok m) (Cert.DsaOutIdeal.Table.hyps m)
theorem frame_reference : @quiescent_DsaOutRefIdeal Cert.DsaOutRefIdeal.Gen.facts := fun m ρ _ =>
  (θ_run _ _ _).mono (fun r h => ⟨fun c => (h c).2, sem_eq_zero_of_no_sems rfl r.2⟩) (Cert.DsaOutRefIdeal.Value.run m ρ)

section reference
open Cert.DsaOutRefIdeal Cert.DsaOutRefIdeal.Read

variable (x0 : FVec Ideal S8704x2048 .bf16) (x1 : FVec Ideal S2048x2048 .f32) (x2 : FVec Ideal S2x4096x2048 .f32) (x3 : FVec Ideal S8x64x2048 .f32) (x4 : FVec Ideal S10x2048 .f32)

theorem prompt (b : Fin 2) (s : Fin 4096) (j : Fin 2048) : (val_main_v11 (F := Ideal) x0 x1 x2 x4 (ix3 b s j) : EReal)
    = x2 (ix3 b s j) + x4 (ix2 ⟨b.val, by omega⟩ j) * ∑ k : Fin 2048, (x0 (ix2 ⟨b.val * 4096 + s.val, by omega⟩ k) : EReal) * x1 (ix2 k j) := by
  unfold val_main_v11 val_main_v10 val_main_v9 val_main_v8 val_main_v7 val_main_v6 val_main_v2 val_main_v1 val_main_v0
  pointwise [dot_S2x4096x2048_S2048x2048_S2x4096x2048_2_0_01_1_n_n]
theorem sample (b : Fin 8) (s : Fin 64) (j : Fin 2048) : (val_main_v17 (F := Ideal) x0 x1 x3 x4 (ix3 b s j) : EReal)
    = x3 (ix3 b s j) + x4 (ix2 ⟨2 + b.val, by omega⟩ j) * ∑ k : Fin 2048, (x0 (ix2 ⟨8192 + (b.val * 64 + s.val), by omega⟩ k) : EReal) * x1 (ix2 k j) := by
  unfold val_main_v17 val_main_v16 val_main_v15 val_main_v14 val_main_v13 val_main_v12 val_main_v5 val_main_v4 val_main_v3
  pointwise [dot_S8x64x2048_S2048x2048_S8x64x2048_2_0_01_1_n_n]
theorem joined (r : Fin 8704) (j : Fin 2048) : (val_main_v20 (F := Ideal) x0 x1 x2 x3 x4 (ix2 r j) : EReal)
    = if h : r.val < 8192 then val_main_v11 (F := Ideal) x0 x1 x2 x4 (ix3 ⟨r.val / 4096, by omega⟩ ⟨r.val % 4096, by omega⟩ j)
      else val_main_v17 (F := Ideal) x0 x1 x3 x4 (ix3 ⟨(r.val - 8192) / 64, by omega⟩ ⟨(r.val - 8192) % 64, by omega⟩ j) := by
  unfold val_main_v20 val_main_v19 val_main_v18
  pointwise

/-- The reference's entry is the kernel's. -/
theorem entry (m : (ℓ : Loc Cert.DsaOutIdeal.nD Cert.DsaOutIdeal.τ Cert.DsaOutIdeal.sig) → Buf (Elt Ideal) ℓ) (c : Dev Cert.DsaOutIdeal.nD) (r : Fin 8704) (j : Fin 2048) :
    (val_main_v20 (F := Ideal) (DsaOutIdeal.Results.a0 m c) (DsaOutIdeal.Results.a1 m c) (DsaOutIdeal.Results.a2 m c) (DsaOutIdeal.Results.a3 m c) (DsaOutIdeal.Results.a4 m c) (ix2 r j) : EReal)
      = DsaOutIdeal.Results.value m c r j := by
  have hr := r.isLt
  rw [joined]
  unfold DsaOutIdeal.Results.value DsaOutIdeal.Results.resid
  split
  · rename_i h
    rw [prompt]
    have e1 : (⟨r.val / 4096 * 4096 + r.val % 4096, by omega⟩ : Fin 8704) = r := Fin.ext (show r.val / 4096 * 4096 + r.val % 4096 = r.val by omega)
    have e2 : (⟨r.val / 4096, by omega⟩ : Fin 10) = ⟨GdnOutIdeal.Table.stream (r.val / 64), GdnOutIdeal.Table.stream_le _ (by omega)⟩ :=
      Fin.ext (by show r.val / 4096 = GdnOutIdeal.Table.stream (r.val / 64); unfold GdnOutIdeal.Table.stream; rw [if_pos (by omega)]; omega)
    refine congrArg₂ _ rfl (congrArg₂ _ (congrArg (fun b : Fin 10 => DsaOutIdeal.Results.a4 m c (ix2 b j)) e2) (Finset.sum_congr rfl fun k _ => ?_))
    exact congrArg₂ _ (congrArg (fun q : Fin 8704 => DsaOutIdeal.Results.a0 m c (ix2 q k)) e1) rfl
  · rename_i h
    rw [sample]
    have e1 : (⟨8192 + ((r.val - 8192) / 64 * 64 + (r.val - 8192) % 64), by omega⟩ : Fin 8704) = r :=
      Fin.ext (show 8192 + ((r.val - 8192) / 64 * 64 + (r.val - 8192) % 64) = r.val by omega)
    have e2 : (⟨2 + (r.val - 8192) / 64, by omega⟩ : Fin 10) = ⟨GdnOutIdeal.Table.stream (r.val / 64), GdnOutIdeal.Table.stream_le _ (by omega)⟩ :=
      Fin.ext (by show 2 + (r.val - 8192) / 64 = GdnOutIdeal.Table.stream (r.val / 64); unfold GdnOutIdeal.Table.stream; rw [if_neg (by omega)]; omega)
    refine congrArg₂ _ rfl (congrArg₂ _ (congrArg (fun b : Fin 10 => DsaOutIdeal.Results.a4 m c (ix2 b j)) e2) (Finset.sum_congr rfl fun k _ => ?_))
    exact congrArg₂ _ (congrArg (fun q : Fin 8704 => DsaOutIdeal.Results.a0 m c (ix2 q k)) e1) rfl
end reference

/-- The kernel's result is the reference's. -/
theorem same : @algebraic_DsaOutIdeal_DsaOutRefIdeal Cert.DsaOutIdeal.Gen.facts Cert.DsaOutRefIdeal.Gen.facts := by
  intro m ρ m' ρ' _ hm
  refine ⟨DsaOutIdeal.Results.result m, run m ρ, ?_⟩
  refine (θ_run _ _ _).mono (fun r h c => ⟨(h c).1.trans ?_, (h c).2⟩) (Cert.DsaOutRefIdeal.Value.run m' ρ')
  obtain ⟨e0, e1, e2, e3, e4⟩ := hm c
  refine (Cert.DsaOutRefIdeal.Read.val_main_v20_eq _ _ _ _ _).trans ?_
  rw [e0, e1, e2, e3, e4]
  funext i
  obtain ⟨r, j, rfl⟩ : ∃ (r : Fin 8704) (j : Fin 2048), i = ix2 r j := ⟨i 0, i 1, Rows.at2 rfl rfl⟩
  exact (entry m c r j).trans (DsaOutIdeal.Results.entry m c r j).symm

end Cert.DsaSame

end
-- ==== Proof.QueryBody.lean ====
/- One step of the query projection, as a program: on whole buffers it runs, keeps what it reads, and leaves its stores. -/
module

public import proofs.«01_k».proof.Proof.Gen.PeerQIdeal.Launch
public import proofs.«01_k».proof.Proof.Gen.PeerQIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.PeerQIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PeerQIdeal Cert.PeerQIdeal.Gen

variable {F : FTy → Type} [FloatOps F]

local notation "𝕄" => MT nD τ sig Unit (Elt F) ℕ (UR sig nD τ) ℕ

/-- The table of streams as the body is handed it. -/
abbrev tab : Memref sig .tc .smem S136 .i32 := Memref.whole main_v11
abbrev htab : tab.IsWhole := Memref.isWhole_whole _
abbrev TabBuf (c : Dev nD) {S : Shape} {e : EltTy} (M : Memref sig .tc .smem S e) : Type := Buf (Elt F) (M.view.loc (c : Thread nD τ))
/-- The table held for reading: the pipeline keeps the other half. -/
abbrev tabHeld (c : Dev nD) {S : Shape} {e : EltTy} (M : Memref sig .tc .smem S e) (f : TabBuf (F := F) c M) : sProp 𝕄 :=
  M.view.loc (c : Thread nD τ) ↦{fullShare.right} f

/-- The word of the table that a load reads. -/
abbrev word (c : Dev nD) (xt : TabBuf (F := F) c tab) (o : Fin 1 → ℕ) (h : ∀ a, o a + S1.size a ≤ S136.size a) : BitVec 32 :=
  tab.view.readAt (Elt F) (Rect.unit (s := S136) o S1.size h).toLoadRect xt (Shape.Idx.first (numel1_S1.symm ▸ Nat.one_pos))

set_option maxHeartbeats 16000000 in
/-- The body's run at a point where it norms and modulates the rows, with what it stores in the result's buffer and in the
    buffer of the normed rows. -/
def run (c : Dev nD) (i : grid0.Coords) (arg3 : Memref sig .tc .vmem S512x2048 .f32) (harg3 : arg3.IsWhole) (arg4 : Memref sig .tc .vmem S1x2048 .f32) (harg4 : arg4.IsWhole)
    (arg5 : Memref sig .tc .vmem S10x2048 .f32) (harg5 : arg5.IsWhole) (arg6 : Memref sig .tc .vmem S10x2048 .f32) (harg6 : arg6.IsWhole)
    (arg7 : Memref sig .tc .vmem S2048x2048 .bf16) (harg7 : arg7.IsWhole) (arg8 : Memref sig .tc .vmem S512x2048 .f32) (harg8 : arg8.IsWhole)
    (arg9 : Memref sig .tc .vmem S512x2048 .bf16) (harg9 : arg9.IsWhole) (hc : k0_cond1 i = 1#1)
    (x0 : Vec F S512x2048 .f32) (x1 : Vec F S1x2048 .f32) (x2 x3 : Vec F S10x2048 .f32) (x4 : Vec F S2048x2048 .bf16) (xt : TabBuf (F := F) c tab)
    (w1 : k0_chk1 i (word c xt (k0_off1 i) (k0_off1_inb i hc)))
    (w2 : k0_chk2 i (word c xt (k0_off3 i) (k0_off3_inb i hc)))
    (w3 : k0_chk3 i (word c xt (k0_off5 i) (k0_off5_inb i hc)))
    (w4 : k0_chk4 i (word c xt (k0_off7 i) (k0_off7_inb i hc)))
    (w5 : k0_chk5 i (word c xt (k0_off9 i) (k0_off9_inb i hc)))
    (w6 : k0_chk6 i (word c xt (k0_off11 i) (k0_off11_inb i hc)))
    (w7 : k0_chk7 i (word c xt (k0_off13 i) (k0_off13_inb i hc)))
    (w8 : k0_chk8 i (word c xt (k0_off15 i) (k0_off15_inb i hc))) :
    Σ' (L : List (View.Piece (Elt F) S512x2048 .f32)), { LS : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ (∃ d, owns (c : Thread nD τ) arg8 fullShare d) ∗ (∃ d, owns (c : Thread nD τ) arg9 fullShare d) ∗ tabHeld c tab xt
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare x4 ∗ (∃ f, arg8.view.loc (c : Thread nD τ) ↦[arg8.view.set]{fullShare} arg8.view.writes (Elt F) f L)
                ∗ (∃ f, arg9.view.loc (c : Thread nD τ) ↦[arg9.view.set]{fullShare} arg9.view.writes (Elt F) f LS) ∗ tabHeld c tab xt) -∗ K ⟨⟩))
          ⊢ wp frame (wpE (defs₀ (F := F)) Variants.none c none) E (cc0_matmul i tab htab arg3 harg3 arg4 harg4 arg5 harg5 arg6 harg6 arg7 harg7 arg8 harg8 arg9 harg9) K } := by
  refine ⟨?_, ?_, fun E K => ?body⟩
  case body =>
    simp only [cc0_matmul_eq_skeleton]; unfold cc0_matmul_skel
    simp only [k0_part1_eq_skeleton, k0_part2_eq_skeleton, k0_part3_eq_skeleton, k0_part4_eq_skeleton, k0_part5_eq_skeleton, k0_part6_eq_skeleton]
    unfold owns
    iintro ⟨⟨%f0, %h0, H0⟩, ⟨%f1, %h1, H1⟩, ⟨%f2, %h2, H2⟩, ⟨%f3, %h3, H3⟩, ⟨%f4, %h4, H4⟩, ⟨%d5, %f5, -, H5⟩, ⟨%ds, %fs, -, HS⟩, HT, Hk⟩
    obtain rfl := harg3.eq_unread h0; obtain rfl := harg4.eq_unread h1; obtain rfl := harg5.eq_unread h2
    obtain rfl := harg6.eq_unread h3; obtain rfl := harg7.eq_unread h4
    sl_exec (disch := first | sl_exact hc | sl_exact w1 | sl_exact w2 | sl_exact w3 | sl_exact w4 | sl_exact w5 | sl_exact w6 | sl_exact w7 | sl_exact w8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS]; · iexists _; iexact HS
    iexact HT

end Cert.PeerQIdeal.Body

end
-- ==== Proof.QueryFrame.lean ====
/- The query projection's call: its arrays when it starts, its table of streams, and what a step leaves. -/
module

public import proofs.«01_k».proof.Proof.QueryBody
public import proofs.«01_k».proof.Proof.InFrame
public import Idealize.ShloMosaic.Lib.Claim
public import Idealize.ShloMosaic.Lib.StableHlo.RunRead
public import Idealize.ShloMosaic.Lib.Pointwise
public import Idealize.ShloMosaic.Lib.Pointwise.Tactic

@[expose] public section

set_option maxRecDepth 16384

noncomputable section

namespace Cert.PeerQIdeal.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PeerQIdeal Cert.PeerQIdeal.Gen Cert.PeerQIdeal.Body
open Cert.InQkIdeal.Cut (stream stream_le)

variable {F : FTy → Type} [FloatOps F]

local notation "𝕄" => MT nD τ sig Unit (Elt F) ℕ (UR sig nD τ) ℕ

/-- The host code, then the call. -/
abbrev prog : Dev nD → Prog (TpuEff nD τ sig (Elt F) (Pipeline.Sig Λ₀ (Fin 1) fun p => (pcfgs (F := F) p).Adm) .tc) PUnit := fun _ => Pipeline.chain
  [ StableHlo.seq hostOps0,
    Prog.lift (.customCall (Pipeline.entry 0) ()) ]

/-! ### The arrays when the call starts -/

variable (m : (ℓ : Loc nD τ sig) → Buf (Elt F) ℓ) (ρ : Dev nD → PrngReg)

/-- The arrays after the host code. -/
abbrev V (c : Dev nD) (b : Ref sig .tc) : Buf (Elt F) ((c : Thread nD τ).loc b) := StableHlo.after hostOps0 (fun b => m (c, b)) b

theorem nofresh : (hostOps0 : List (HloOp τ sig (Elt F))).Forall fun op => op.fresh = ∅ := by
  simp only [List.Forall]; repeat' constructor

set_option maxHeartbeats 800000 in
theorem host : Pipeline.HMainP (Ix := Unit) (Name := ℕ) (U := UR sig nD τ) (Lvl := ℕ) pcfgs 0 defs₀ Variants.none m (prog (F := F)) (V m) :=
  Pipeline.hmainP_prefix pcfgs 0 defs₀ Variants.none m prog hostOps0 hostOps0_sub nofresh fun _ => rfl

/-- The host code writes none of the arguments. -/
theorem kept (b : Ref sig .tc) (hb : b ∈ [main_arg0, main_arg1, main_arg2, main_arg3, main_arg4, main_arg5]) (c : Dev nD) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    simp only [List.mem_cons, List.not_mem_nil, or_false] at hb
    rcases hb with rfl | rfl | rfl | rfl | rfl | rfl <;>
      (repeat' apply And.intro) <;> exact StableHlo.devRef_ne_of_ne (by decide)))

/-! ### The table of streams -/

def tbl : pre0.Contents (Elt F) := fun j => V m (0 : Dev nD) (pre0.ref j)
theorem tbl_eq (c : Dev nD) (j : Fin 1) : V m c (pre0.ref j) = tbl m j := by
  obtain rfl : c = 0 := Subsingleton.elim _ _; rfl
abbrev adm : (pcfg0 (F := F)).Adm := ⟨tbl m, trivial⟩
abbrev cfg : Pipeline.Cfg sig Λ₀ := (pcfg0 (F := F)).at (adm m)

theorem held_table (c : Dev nD) : (Pipeline.ΦT pre0 (tbl m) c : sProp 𝕄) = iprop(tabHeld c tab (tbl m 0)) := by
  unfold Pipeline.ΦT Pipeline.prefHeld
  rw [show (Finset.univ : Finset (Fin 1)) = {(0 : Fin 1)} from by decide, bigSep_singleton]
  rfl

abbrev scr : Memref sig .tc .vmem S512x2048 .bf16 := Memref.whole cc0_scratch0
theorem held_rest (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

theorem entry_table (n : Fin 136) : (V m 0 main_v11 : IVec S136 32) (ix1 n) = BitVec.ofNat 32 (stream n.val) := by
  unfold V
  after_reads_simp
  pointwise
  unfold stream
  split
  · rfl
  · rename_i h
    show BitVec.ofNat 32 2 + BitVec.ofNat 32 (n.val - 128) = _
    rw [← BitVec.ofNat_add]
    exact congrArg (BitVec.ofNat 32) (by omega)

theorem offs (t : Fin grid0.N) : k0_off1 (grid0.coords t) 0 = 8 * t.val ∧ k0_off3 (grid0.coords t) 0 = 8 * t.val + 1
    ∧ k0_off5 (grid0.coords t) 0 = 8 * t.val + 2 ∧ k0_off7 (grid0.coords t) 0 = 8 * t.val + 3 ∧ k0_off9 (grid0.coords t) 0 = 8 * t.val + 4
    ∧ k0_off11 (grid0.coords t) 0 = 8 * t.val + 5 ∧ k0_off13 (grid0.coords t) 0 = 8 * t.val + 6 ∧ k0_off15 (grid0.coords t) 0 = 8 * t.val + 7 :=
  (by decide +kernel : ∀ t : Fin grid0.N, k0_off1 (grid0.coords t) 0 = 8 * t.val ∧ k0_off3 (grid0.coords t) 0 = 8 * t.val + 1
    ∧ k0_off5 (grid0.coords t) 0 = 8 * t.val + 2 ∧ k0_off7 (grid0.coords t) 0 = 8 * t.val + 3 ∧ k0_off9 (grid0.coords t) 0 = 8 * t.val + 4
    ∧ k0_off11 (grid0.coords t) 0 = 8 * t.val + 5 ∧ k0_off13 (grid0.coords t) 0 = 8 * t.val + 6 ∧ k0_off15 (grid0.coords t) 0 = 8 * t.val + 7) t

/-- A word that a step reads is the stream of its chunk. -/
theorem word_eq (c : Dev nD) (o : Fin 1 → ℕ) (h : ∀ a, o a + S1.size a ≤ S136.size a) (n : Fin 136) (hn : o 0 = n.val) :
    word c (tbl m 0) o h = BitVec.ofNat 32 (stream n.val) := by
  refine Eq.trans ?_ (entry_table m n)
  show (V m 0 main_v11 : IVec S136 32) ((Rect.unit (s := S136) o S1.size h).toLoadRect.idx _) = (V m 0 main_v11 : IVec S136 32) (ix1 n)
  refine congrArg (V m 0 main_v11 : IVec S136 32) (funext fun a => match a with | ⟨0, _⟩ => Fin.ext ?_)
  show o 0 + 1 * (Shape.Idx.first (numel1_S1.symm ▸ Nat.one_pos : 0 < S1.numel) 0).val = n.val
  have : (Shape.Idx.first (numel1_S1.symm ▸ Nat.one_pos : 0 < S1.numel) 0).val < 1 := (Shape.Idx.first _ 0).isLt
  omega

/-- So it names one of the ten rows of shifts and scales. -/
theorem chk (c : Dev nD) (i : grid0.Coords) (o : Fin 1 → ℕ) (h : ∀ a, o a + S1.size a ≤ S136.size a) (n : ℕ) (hn : o 0 = n) (hl : n < 136) : k0_chk1 i (word c (tbl m 0) o h) := by
  rw [word_eq m c o h ⟨n, hl⟩ hn]
  have hs := stream_le n hl
  intro _ a
  match a with
  | ⟨0, _⟩ => show (BitVec.ofNat 32 (stream n)).toNat + 1 ≤ 10; rw [BitVec.toNat_ofNat]; omega
  | ⟨1, _⟩ => show 0 + 2048 ≤ 2048; omega

/-- The rows are normed and modulated at every point: the grid's second axis has one point. -/
theorem first (t : Fin grid0.N) : k0_cond1 (grid0.coords t) = 1#1 :=
  (by decide +kernel : ∀ t : Fin grid0.N, k0_cond1 (grid0.coords t) = 1#1) t

/-! ### The blocks -/

def iblk (c : Dev nD) (w : Fin (cfg m).W) (t : Fin (cfg m).N) : (((cfg m).win w).xblock ((cfg m).grid.coords t)).Idx → Elt F ((cfg m).win w).elt :=
  (((cfg m).win w).blk t).view.read (Elt F) (V m c (Pipeline.arrRef spec0 w))

abbrev ms0 (t : Fin (cfg m).N) : Memref sig .tc .vmem S512x2048 .f32 := spec0_0.stage ((cfg m).slots t 0)
abbrev hs0 (t : Fin (cfg m).N) : (ms0 m t).IsWhole := hstage0_0 (((cfg m).slots t 0).cast nbuf0_0)
abbrev ms1 (t : Fin (cfg m).N) : Memref sig .tc .vmem S1x2048 .f32 := spec0_1.stage ((cfg m).slots t 1)
abbrev hs1 (t : Fin (cfg m).N) : (ms1 m t).IsWhole := hstage0_1 (((cfg m).slots t 1).cast nbuf0_1)
abbrev ms2 (t : Fin (cfg m).N) : Memref sig .tc .vmem S10x2048 .f32 := spec0_2.stage ((cfg m).slots t 2)
abbrev hs2 (t : Fin (cfg m).N) : (ms2 m t).IsWhole := hstage0_2 (((cfg m).slots t 2).cast nbuf0_2)
abbrev ms3 (t : Fin (cfg m).N) : Memref sig .tc .vmem S10x2048 .f32 := spec0_3.stage ((cfg m).slots t 3)
abbrev hs3 (t : Fin (cfg m).N) : (ms3 m t).IsWhole := hstage0_3 (((cfg m).slots t 3).cast nbuf0_3)
abbrev ms4 (t : Fin (cfg m).N) : Memref sig .tc .vmem S2048x2048 .bf16 := spec0_4.stage ((cfg m).slots t 4)
abbrev hs4 (t : Fin (cfg m).N) : (ms4 m t).IsWhole := hstage0_4 (((cfg m).slots t 4).cast nbuf0_4)
abbrev ms5 (t : Fin (cfg m).N) : Memref sig .tc .vmem S512x2048 .f32 := spec0_5.stage ((cfg m).slots t 5)
abbrev hs5 (t : Fin (cfg m).N) : (ms5 m t).IsWhole := hstage0_5 (((cfg m).slots t 5).cast nbuf0_5)

/-- The body's run at a point. -/
def runAt (c : Dev nD) (t : Fin (cfg m).N) :=
  run c (grid0.coords t) (ms0 m t) (hs0 m t) (ms1 m t) (hs1 m t) (ms2 m t) (hs2 m t) (ms3 m t) (hs3 m t) (ms4 m t) (hs4 m t) (ms5 m t) (hs5 m t)
    scr (Memref.isWhole_whole _) (first t) (iblk m c 0 t) (iblk m c 1 t) (iblk m c 2 t) (iblk m c 3 t) (iblk m c 4 t) (tbl m 0)
    (chk m c _ _ _ (8 * t.val) (offs t).1 (by have := lt_of_lt_of_eq t.isLt N_0; omega))
    (chk m c _ _ _ (8 * t.val + 1) (offs t).2.1 (by have := lt_of_lt_of_eq t.isLt N_0; omega))
    (chk m c _ _ _ (8 * t.val + 2) (offs t).2.2.1 (by have := lt_of_lt_of_eq t.isLt N_0; omega))
    (chk m c _ _ _ (8 * t.val + 3) (offs t).2.2.2.1 (by have := lt_of_lt_of_eq t.isLt N_0; omega))
    (chk m c _ _ _ (8 * t.val + 4) (offs t).2.2.2.2.1 (by have := lt_of_lt_of_eq t.isLt N_0; omega))
    (chk m c _ _ _ (8 * t.val + 5) (offs t).2.2.2.2.2.1 (by have := lt_of_lt_of_eq t.isLt N_0; omega))
    (chk m c _ _ _ (8 * t.val + 6) (offs t).2.2.2.2.2.2.1 (by have := lt_of_lt_of_eq t.isLt N_0; omega))
    (chk m c _ _ _ (8 * t.val + 7) (offs t).2.2.2.2.2.2.2 (by have := lt_of_lt_of_eq t.isLt N_0; omega))

/-- Its one store fills the result's block. -/
theorem cover (c : Dev nD) (t : Fin (cfg m).N) (y : S512x2048.Idx) : ∃ pc ∈ (runAt m c t).1, y ∈ pc.1.set :=
  View.cover_of_tiledL (runAt m c t).1 S512x2048.size (by sl_kernel_rfl) y

/-- What a step leaves in the result's block. -/
def outs (c : Dev nD) (t : Fin (cfg m).N) : Vec F S512x2048 .f32 := View.canon (runAt m c t).1

end Cert.PeerQIdeal.Call

end
-- ==== Proof.QueryLaunch.lean ====
/- The run of the query projection: every execution ends, with the arguments as they were and the result's array
   filled block by block. -/
module

public import proofs.«01_k».proof.Proof.QueryFrame

@[expose] public section

set_option maxRecDepth 16384

noncomputable section

namespace Cert.PeerQIdeal.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PeerQIdeal Cert.PeerQIdeal.Gen Cert.PeerQIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before a point: the arrays as the host code leaves them. After it: every input's block in place, the result's as stored. -/
def dats (_ : Fin 1) (c : Dev nD) : Dat τ (Elt F) Unit ℕ (UR sig nD τ) ℕ (cfg m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs m c t
  Φ _ := iprop(Pipeline.ΦA spec0 c ∗ Pipeline.ΦT pre0 (tbl m) c)
  q _ := fullShare
  owed _ := 0

theorem arrays (c : Dev nD) (w : Fin (cfg m).W) : (dats m 0 c).A w = V m c (Pipeline.arrRef spec0 w) := by
  dsimp only [dats]
theorem after0 (c : Dev nD) (t : Fin (cfg m).N) : (dats m 0 c).after 0 t = iblk m c 0 t := by dsimp only [dats]; try rfl
theorem after1 (c : Dev nD) (t : Fin (cfg m).N) : (dats m 0 c).after 1 t = iblk m c 1 t := by dsimp only [dats]; try rfl
theorem after2 (c : Dev nD) (t : Fin (cfg m).N) : (dats m 0 c).after 2 t = iblk m c 2 t := by dsimp only [dats]; try rfl
theorem after3 (c : Dev nD) (t : Fin (cfg m).N) : (dats m 0 c).after 3 t = iblk m c 3 t := by dsimp only [dats]; try rfl
theorem after4 (c : Dev nD) (t : Fin (cfg m).N) : (dats m 0 c).after 4 t = iblk m c 4 t := by dsimp only [dats]; try rfl
theorem after5 (c : Dev nD) (t : Fin (cfg m).N) : (dats m 0 c).after 5 t = outs m c t := by dsimp only [dats]; try rfl

/-! An input whose block every step leaves in place is found there, fetched anew or not. -/

theorem before0 (c : Dev nD) (t : Fin (cfg m).N) (d) : (dats m 0 c).before 0 t d = iblk m c 0 t :=
  ((dats m 0 c).before_in_eq_fetched 0 rfl (fun _ => rfl) (fun _ _ _ => rfl) (fun t => by rw [after0]; unfold Dat.blockOf iblk; rw [arrays]; try rfl) t d).trans
    (by unfold Dat.fetched Dat.blockOf iblk; rw [arrays]; try rfl)
theorem before1 (c : Dev nD) (t : Fin (cfg m).N) (d) : (dats m 0 c).before 1 t d = iblk m c 1 t :=
  ((dats m 0 c).before_in_eq_fetched 1 rfl (fun _ => rfl) (fun _ _ _ => rfl) (fun t => by rw [after1]; unfold Dat.blockOf iblk; rw [arrays]; try rfl) t d).trans
    (by unfold Dat.fetched Dat.blockOf iblk; rw [arrays]; try rfl)
theorem before2 (c : Dev nD) (t : Fin (cfg m).N) (d) : (dats m 0 c).before 2 t d = iblk m c 2 t :=
  ((dats m 0 c).before_in_eq_fetched 2 rfl (fun _ => rfl) (fun _ _ _ => rfl) (fun t => by rw [after2]; unfold Dat.blockOf iblk; rw [arrays]; try rfl) t d).trans
    (by unfold Dat.fetched Dat.blockOf iblk; rw [arrays]; try rfl)
theorem before3 (c : Dev nD) (t : Fin (cfg m).N) (d) : (dats m 0 c).before 3 t d = iblk m c 3 t :=
  ((dats m 0 c).before_in_eq_fetched 3 rfl (fun _ => rfl) (fun _ _ _ => rfl) (fun t => by rw [after3]; unfold Dat.blockOf iblk; rw [arrays]; try rfl) t d).trans
    (by unfold Dat.fetched Dat.blockOf iblk; rw [arrays]; try rfl)
theorem before4 (c : Dev nD) (t : Fin (cfg m).N) (d) : (dats m 0 c).before 4 t d = iblk m c 4 t :=
  ((dats m 0 c).before_in_eq_fetched 4 rfl (fun _ => rfl) (fun _ _ _ => rfl) (fun t => by rw [after4]; unfold Dat.blockOf iblk; rw [arrays]; try rfl) t d).trans
    (by unfold Dat.fetched Dat.blockOf iblk; rw [arrays]; try rfl)

/-! ### The body at a point -/

/-- The kernel's function on the buffers of a point. -/
abbrev bodyAt (t : Fin (cfg m).N) : Prog (TpuEff nD τ sig (Elt F) Λ₀ .tc) PUnit :=
  cc0_matmul (grid0.coords t) tab htab (ms0 m t) (hs0 m t) (ms1 m t) (hs1 m t) (ms2 m t) (hs2 m t) (ms3 m t) (hs3 m t) (ms4 m t) (hs4 m t) (ms5 m t) (hs5 m t) scr (Memref.isWhole_whole _)

def pre (c : Dev nD) (t : Fin (cfg m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))
def post (c : Dev nD) (t : Fin (cfg m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

theorem stored (c : Dev nD) (t : Fin (cfg m).N) (f) :
    (ms5 m t).view.read (Elt F) ((ms5 m t).view.writes (Elt F) f (runAt m c t).1) = outs m c t := by
  unfold outs
  refine (View.read_writes_of_cover _ _ (ms5 m t).view (ms5 m t).view.junk _ (cover m c t)).trans ?_
  exact View.read_writes_junk_eq_canon _ _

theorem step (c : Dev nD) (t : Fin (cfg m).N) :
    pre m c t ⊢ wp frame (wpE (defs₀ (F := F)) Variants.none c none) Set.univ (bodyAt m t) (fun _ => post m c t) := by
  unfold pre post bodyAt
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = iprop(Pipeline.ΦA spec0 c ∗ Pipeline.ΦT pre0 (tbl m) c) from rfl, held_table, held_rest]
  iintro ⟨⟨⟨HS, Hg⟩, HT⟩, Ho, ⟨%d0, H0⟩, ⟨%d1, H1⟩, ⟨%d2, H2⟩, ⟨%d3, H3⟩, ⟨%d4, H4⟩, ⟨%d5, H5⟩⟩
  iapply ((runAt m c t).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HT]; · iexact HT
  iintro ⟨H0, H1, H2, H3, H4, ⟨%e5, H5⟩, ⟨%es, HS⟩, HT⟩
  isplitl [HS Hg HT]
  · isplitl [HS Hg]
    · isplitl [HS]
      · iexists _; unfold owns; iexists _; isplitr
        swap; · iexact HS
        ipureintro; rfl
      iexact Hg
    iexact HT
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact stored m c t e5

theorem row_eq (t : Fin (cfg m).N) :
    defs₀ (F := F) .tc (cfg m).body ((cfg m).bodyArgs t ((cfg m).slots t)) = bodyAt m t := by
  unfold defs₀; rw [Defs.onTc_tc]

theorem obligation (c : Dev nD) : BodyObligation (dats (F := F) m 0 c) (defs₀ (F := F)) Variants.none () Set.univ := fun t => by
  rw [bigSep_W0, bigSep_W0, row_eq m]
  exact triple_restated (step m c t) rfl .rfl fun _ => .rfl

/-! ### The run -/

set_option backward.isDefEq.respectTransparency.types false in
/-- Every execution ends, with every array of the call as the steps leave it, every other as the call found it, and every
    semaphore at zero. -/
theorem launched : θ_run defs (onTc (τ := τ) (prog (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ prog
    (hbody := fun c => (obligation m c).loose) (hshare := fun c => (dats m 0 c).share_full fun _ => rfl)
    (howed := fun _ _ => rfl) (V := V m) (hmain := host m) (hA := arrays m) (hpf := tbl_eq m)
    (hΦ := fun _ _ => rfl)

/-- The arguments are kept. -/
theorem arguments {r} (h : (Pipeline.FramePost (Pipeline.pin pcfgs fun _ => adm m) (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide : main_arg0 ∈ Pipeline.restRefs sig spec0)).trans (kept m main_arg0 (by decide) c),
    ((h c).2 main_arg1 (by decide : main_arg1 ∈ Pipeline.restRefs sig spec0)).trans (kept m main_arg1 (by decide) c),
    ((h c).2 main_arg2 (by decide : main_arg2 ∈ Pipeline.restRefs sig spec0)).trans (kept m main_arg2 (by decide) c),
    ((h c).1 2).trans (((dats m 0 c).arrAt_in 2 rfl _).trans ((arrays m c 2).trans (kept m main_arg3 (by decide) c))),
    ((h c).1 3).trans (((dats m 0 c).arrAt_in 3 rfl _).trans ((arrays m c 3).trans (kept m main_arg4 (by decide) c))),
    ((h c).2 main_arg5 (by decide : main_arg5 ∈ Pipeline.restRefs sig spec0)).trans (kept m main_arg5 (by decide) c)⟩

end Cert.PeerQIdeal.Call

end
-- ==== Proof.QueryBlock.lean ====
/- One step of the query projection: a block of 512 rows is normed and modulated, chunk by chunk with a row of scales and
   a row of shifts, and multiplied by the weights. -/
module

public import proofs.«01_k».proof.Proof.QueryLaunch
public import proofs.«01_k».proof.Proof.InBlock
public import proofs.«01_k».proof.Proof.Rows
public import Idealize.ShloMosaic.Lib.WholeRead

@[expose] public section

set_option maxRecDepth 16384

noncomputable section

namespace Cert.PeerQIdeal.Block

open Idealize.ShloMosaic Idealize.ShloMosaic.TcCoe
open Cert.PeerQIdeal Cert.PeerQIdeal.Gen Cert.PeerQIdeal.Body
open Cert.InQkIdeal.Block (modulated modulated_congr rowOf)

/-- The product, entry by entry. -/
theorem product (x : FVec Ideal S512x2048 .bf16) (w : FVec Ideal S2048x2048 .bf16) (r : Fin 512) (j : Fin 2048) :
    (k0_pay2 (F := Ideal) x w (ix2 r j) : EReal) = ∑ k : Fin 2048, (x (ix2 r k) : EReal) * w (ix2 k j) := by
  unfold k0_pay2
  pointwise [dot_S512x2048_S2048x2048_S512x2048_1_0_0_1_n_n]

section chunks
variable (x : FVec Ideal S64x2048 .f32) (g s b : FVec Ideal S1x2048 .f32)

/-- What every chunk stores. -/
abbrev Modulates (p : FVec Ideal S64x2048 .bf16) : Prop := ∀ (u : Fin 64) (k : Fin 2048), (p (ix2 u k) : EReal) = modulated (rowOf x u) (rowOf g 0) (rowOf s 0) (rowOf b 0) k

theorem chunk0 : Modulates x g s b (k0_pay3 (F := Ideal) x g s b) := fun u k => by
  unfold k0_pay3 modulated
  pointwise
theorem chunk1 : Modulates x g s b (k0_pay6 (F := Ideal) (k0_pay4 x) (k0_pay5 g) s b) := fun u k => by
  unfold k0_pay6 k0_pay4 k0_pay5 modulated
  pointwise
theorem chunk2 : Modulates x g s b (k0_pay10 (F := Ideal) (k0_pay7 x) (k0_pay8 g) (k0_pay9 x) s b) := fun u k => by
  unfold k0_pay10 k0_pay9 k0_pay8 k0_pay7 modulated
  pointwise
theorem chunk3 : Modulates x g s b (k0_pay12 (F := Ideal) (k0_pay11 x g s) b) := fun u k => by
  unfold k0_pay12 k0_pay11 modulated
  pointwise
theorem chunk4 : Modulates x g s b (k0_pay13 (F := Ideal) x g s b) := fun u k => by
  unfold k0_pay13 modulated
  pointwise
theorem chunk5 : Modulates x g s b (k0_pay14 (F := Ideal) x g s b) := fun u k => by
  unfold k0_pay14 modulated
  pointwise
theorem chunk6 : Modulates x g s b (k0_pay17 (F := Ideal) (k0_pay15 x) (k0_pay16 g) s b) := fun u k => by
  unfold k0_pay17 k0_pay16 k0_pay15 modulated
  pointwise
theorem chunk7 : Modulates x g s b (k0_pay1 (F := Ideal) (k0_pay18 x) (k0_pay19 g) (k0_pay20 x) s b) := fun u k => by
  unfold k0_pay1 k0_pay20 k0_pay19 k0_pay18 modulated
  pointwise
end chunks

/-- A load of rows from a whole buffer. -/
theorem load {sp : Space} {e : EltTy} {N W k o : ℕ} {a : Memref sig .tc sp ⟨2, ![N, W]⟩ e} (h : a.IsWhole) (X : Vec Ideal ⟨2, ![N, W]⟩ e)
    {off : Fin 2 → ℕ} {hi} (ho : off 0 = o) (hz : off 1 = 0) (u : Fin k) (j : Fin W) (r : Fin N) (hr : r.val = o + u.val) :
    View.readAt (Elt Ideal) a.view (Rect.unit (s := ⟨2, ![N, W]⟩) off ![k, W] hi).toLoadRect (h.unread X) (ix2 u j) = X (ix2 r j) := by
  rw [Memref.IsWhole.readAt_unread]
  exact congrArg X (Rows.at2 (show off 0 + 1 * u.val = r.val by omega) (show off 1 + 1 * j.val = j.val by omega))

section entry
variable (c : Dev nD) (i : grid0.Coords) (arg3 : Memref sig .tc .vmem S512x2048 .f32) (harg3 : arg3.IsWhole) (arg4 : Memref sig .tc .vmem S1x2048 .f32) (harg4 : arg4.IsWhole)
    (arg5 : Memref sig .tc .vmem S10x2048 .f32) (harg5 : arg5.IsWhole) (arg6 : Memref sig .tc .vmem S10x2048 .f32) (harg6 : arg6.IsWhole)
    (arg7 : Memref sig .tc .vmem S2048x2048 .bf16) (harg7 : arg7.IsWhole) (arg8 : Memref sig .tc .vmem S512x2048 .f32) (harg8 : arg8.IsWhole)
    (arg9 : Memref sig .tc .vmem S512x2048 .bf16) (harg9 : arg9.IsWhole) (hc : k0_cond1 i = 1#1)
    (x0 : Vec Ideal S512x2048 .f32) (x1 : Vec Ideal S1x2048 .f32) (x2 x3 : Vec Ideal S10x2048 .f32) (x4 : Vec Ideal S2048x2048 .bf16) (xt : TabBuf (F := Ideal) c tab)
    (w1 w2 w3 w4 w5 w6 w7 w8)

theorem weights : View.readAt (Elt Ideal) arg7.view (Rect.unit (s := S2048x2048) ![0, 0] S2048x2048.size inb_S2048x2048_S2048x2048_0_0).toLoadRect (harg7.unread x4) = x4 := by
  funext y
  have hy : y = ix2 (y 0) (y 1) := Rows.at2 rfl rfl
  rw [hy]
  exact load (o := 0) harg7 x4 rfl rfl (y 0) (y 1) (y 0) (Nat.zero_add _).symm

/-- A chunk's row is the block's, whatever rectangles its loads take. -/
theorem part {q : ℕ} {g : Fin 8 → Fin 10} {n : Fin 8} {r : Fin 512} {u : Fin 64} (hn : n.val = q) (hr : r.val = 64 * q + u.val)
    {x gain scale shift : Fin 2048 → EReal} (hx : ∀ k, x k = rowOf x0 r k) (hg : ∀ k, gain k = rowOf x1 0 k) (hs : ∀ k, scale k = rowOf x3 (g n) k) (hb : ∀ k, shift k = rowOf x2 (g n) k) (k : Fin 2048) :
    modulated x gain scale shift k = modulated (rowOf x0 r) (rowOf x1 0) (rowOf x3 (g ⟨r.val / 64, by omega⟩)) (rowOf x2 (g ⟨r.val / 64, by omega⟩)) k := by
  rw [show (⟨r.val / 64, by omega⟩ : Fin 8) = n from Fin.ext (show r.val / 64 = n.val by have := u.isLt; omega)]
  exact modulated_congr hx hg hs hb k

/-- A row of the operand, given the rows of shifts and scales its eight chunks take. -/
theorem operand (g : Fin 8 → Fin 10)
    (h0 : (word c xt (k0_off1 i) (k0_off1_inb i hc)).toNat = (g 0).val)
    (h1 : (word c xt (k0_off3 i) (k0_off3_inb i hc)).toNat = (g 1).val)
    (h2 : (word c xt (k0_off5 i) (k0_off5_inb i hc)).toNat = (g 2).val)
    (h3 : (word c xt (k0_off7 i) (k0_off7_inb i hc)).toNat = (g 3).val)
    (h4 : (word c xt (k0_off9 i) (k0_off9_inb i hc)).toNat = (g 4).val)
    (h5 : (word c xt (k0_off11 i) (k0_off11_inb i hc)).toNat = (g 5).val)
    (h6 : (word c xt (k0_off13 i) (k0_off13_inb i hc)).toNat = (g 6).val)
    (h7 : (word c xt (k0_off15 i) (k0_off15_inb i hc)).toNat = (g 7).val)
    (r : Fin 512) (k : Fin 2048) :
    (run.sl.v4 c i arg3 harg3 arg4 harg4 arg5 harg5 arg6 harg6 arg9 hc x0 x1 x2 x3 xt w1 w2 w3 w4 w5 w6 w7 w8 (ix2 r k) : EReal)
      = modulated (rowOf x0 r) (rowOf x1 0) (rowOf x3 (g ⟨r.val / 64, by omega⟩)) (rowOf x2 (g ⟨r.val / 64, by omega⟩)) k := by
  unfold run.sl.v4 View.readCov
  rw [View.readAt_writes_junk_eq_canon]
  refine (congrArg (View.canon _) (Rows.at2 (y := ix2 r k) (show 0 + 1 * r.val = r.val by omega) (show 0 + 1 * k.val = k.val by omega))).trans ?_
  unfold run.sl.HS_8
  refine Rows.eight _ _ _ _ _ _ _ _ r k _ ?_ ?_ ?_ ?_ ?_ ?_ ?_ ?_ <;> intro u hr
  · exact (chunk0 _ _ _ _ u k).trans (part x0 x1 x2 x3 (n := 0) rfl hr (fun k => load harg3 x0 rfl rfl u k r hr) (fun k => load (o := 0) harg4 x1 rfl rfl 0 k 0 rfl)
      (fun k => load harg6 x3 h0 rfl 0 k (g 0) rfl) (fun k => load harg5 x2 h0 rfl 0 k (g 0) rfl) k)
  · exact (chunk1 _ _ _ _ u k).trans (part x0 x1 x2 x3 (n := 1) rfl hr (fun k => load harg3 x0 rfl rfl u k r hr) (fun k => load (o := 0) harg4 x1 rfl rfl 0 k 0 rfl)
      (fun k => load harg6 x3 h1 rfl 0 k (g 1) rfl) (fun k => load harg5 x2 h1 rfl 0 k (g 1) rfl) k)
  · exact (chunk2 _ _ _ _ u k).trans (part x0 x1 x2 x3 (n := 2) rfl hr (fun k => load harg3 x0 rfl rfl u k r hr) (fun k => load (o := 0) harg4 x1 rfl rfl 0 k 0 rfl)
      (fun k => load harg6 x3 h2 rfl 0 k (g 2) rfl) (fun k => load harg5 x2 h2 rfl 0 k (g 2) rfl) k)
  · exact (chunk3 _ _ _ _ u k).trans (part x0 x1 x2 x3 (n := 3) rfl hr (fun k => load harg3 x0 rfl rfl u k r hr) (fun k => load (o := 0) harg4 x1 rfl rfl 0 k 0 rfl)
      (fun k => load harg6 x3 h3 rfl 0 k (g 3) rfl) (fun k => load harg5 x2 h3 rfl 0 k (g 3) rfl) k)
  · exact (chunk4 _ _ _ _ u k).trans (part x0 x1 x2 x3 (n := 4) rfl hr (fun k => load harg3 x0 rfl rfl u k r hr) (fun k => load (o := 0) harg4 x1 rfl rfl 0 k 0 rfl)
      (fun k => load harg6 x3 h4 rfl 0 k (g 4) rfl) (fun k => load harg5 x2 h4 rfl 0 k (g 4) rfl) k)
  · exact (chunk5 _ _ _ _ u k).trans (part x0 x1 x2 x3 (n := 5) rfl hr (fun k => load harg3 x0 rfl rfl u k r hr) (fun k => load (o := 0) harg4 x1 rfl rfl 0 k 0 rfl)
      (fun k => load harg6 x3 h5 rfl 0 k (g 5) rfl) (fun k => load harg5 x2 h5 rfl 0 k (g 5) rfl) k)
  · exact (chunk6 _ _ _ _ u k).trans (part x0 x1 x2 x3 (n := 6) rfl hr (fun k => load harg3 x0 rfl rfl u k r hr) (fun k => load (o := 0) harg4 x1 rfl rfl 0 k 0 rfl)
      (fun k => load harg6 x3 h6 rfl 0 k (g 6) rfl) (fun k => load harg5 x2 h6 rfl 0 k (g 6) rfl) k)
  · exact (chunk7 _ _ _ _ u k).trans (part x0 x1 x2 x3 (n := 7) rfl hr (fun k => load harg3 x0 rfl rfl u k r hr) (fun k => load (o := 0) harg4 x1 rfl rfl 0 k 0 rfl)
      (fun k => load harg6 x3 h7 rfl 0 k (g 7) rfl) (fun k => load harg5 x2 h7 rfl 0 k (g 7) rfl) k)

/-- An entry of what the step leaves in the result's block. -/
theorem entry (g : Fin 8 → Fin 10)
    (h0 : (word c xt (k0_off1 i) (k0_off1_inb i hc)).toNat = (g 0).val)
    (h1 : (word c xt (k0_off3 i) (k0_off3_inb i hc)).toNat = (g 1).val)
    (h2 : (word c xt (k0_off5 i) (k0_off5_inb i hc)).toNat = (g 2).val)
    (h3 : (word c xt (k0_off7 i) (k0_off7_inb i hc)).toNat = (g 3).val)
    (h4 : (word c xt (k0_off9 i) (k0_off9_inb i hc)).toNat = (g 4).val)
    (h5 : (word c xt (k0_off11 i) (k0_off11_inb i hc)).toNat = (g 5).val)
    (h6 : (word c xt (k0_off13 i) (k0_off13_inb i hc)).toNat = (g 6).val)
    (h7 : (word c xt (k0_off15 i) (k0_off15_inb i hc)).toNat = (g 7).val)
    (r : Fin 512) (j : Fin 2048) :
    (View.canon (run c i arg3 harg3 arg4 harg4 arg5 harg5 arg6 harg6 arg7 harg7 arg8 harg8 arg9 harg9 hc x0 x1 x2 x3 x4 xt w1 w2 w3 w4 w5 w6 w7 w8).1 (ix2 r j) : EReal)
      = ∑ k : Fin 2048, modulated (rowOf x0 r) (rowOf x1 0) (rowOf x3 (g ⟨r.val / 64, by omega⟩)) (rowOf x2 (g ⟨r.val / 64, by omega⟩)) k * x4 (ix2 k j) := by
  unfold run
  refine (Rows.canon_here (o := 0) _ _ _ r j r (Nat.zero_add _).symm).trans ((product _ _ r j).trans (Finset.sum_congr rfl fun k _ => ?_))
  exact congrArg₂ _ (operand c i arg3 harg3 arg4 harg4 arg5 harg5 arg6 harg6 arg9 hc x0 x1 x2 x3 xt w1 w2 w3 w4 w5 w6 w7 w8 g h0 h1 h2 h3 h4 h5 h6 h7 r k) (congrFun (weights arg7 harg7 x4) (ix2 k j))

end entry

end Cert.PeerQIdeal.Block

end
-- ==== Proof.QueryRun.lean ====
/- The query projection's run: what its result array holds. -/
module

public import proofs.«01_k».proof.Proof.QueryBlock

@[expose] public section

set_option maxRecDepth 16384

noncomputable section

namespace Cert.PeerQIdeal.Results

open Idealize.ShloMosaic Idealize.ShloMosaic.TcCoe Idealize.SL.Sem
open Cert.InQkIdeal.Cut (stream stream_le)
open Cert.InQkIdeal.Block (modulated modulated_congr rowOf)
open Cert.PeerQIdeal Cert.PeerQIdeal.Gen Cert.PeerQIdeal.Call Cert.PeerQIdeal.Block

variable (m : (ℓ : Loc nD τ sig) → Buf (Elt Ideal) ℓ) (ρ : Dev nD → PrngReg) (c : Dev nD)

/-- The arguments as launched. -/
abbrev a0 : FVec Ideal S2x4096x2048 .f32 := m ((c : Thread nD τ).loc main_arg0)
abbrev a1 : FVec Ideal S8x64x2048 .f32 := m ((c : Thread nD τ).loc main_arg1)
abbrev a2 : FVec Ideal S2048 .f32 := m ((c : Thread nD τ).loc main_arg2)
abbrev a3 : FVec Ideal S10x2048 .f32 := m ((c : Thread nD τ).loc main_arg3)
abbrev a4 : FVec Ideal S10x2048 .f32 := m ((c : Thread nD τ).loc main_arg4)
abbrev a5 : FVec Ideal S2048x2048 .f32 := m ((c : Thread nD τ).loc main_arg5)

/-- The residual stream, prompts then samples, by rows. -/
def resid (r : Fin 8704) (k : Fin 2048) : EReal :=
  if h : r.val < 8192 then a0 m c (ix3 ⟨r.val / 4096, by omega⟩ ⟨r.val % 4096, by omega⟩ k)
  else a1 m c (ix3 ⟨(r.val - 8192) / 64, by omega⟩ ⟨(r.val - 8192) % 64, by omega⟩ k)

/-- The stream a row belongs to. -/
abbrev streamOf (r : Fin 8704) : Fin 10 := ⟨stream (r.val / 64), stream_le _ (by omega)⟩

/-- What an entry of the result is. -/
def value (r : Fin 8704) (j : Fin 2048) : EReal :=
  ∑ k : Fin 2048, modulated (resid m c r) (fun k => a2 m c (ix1 k)) (rowOf (a4 m c) (streamOf r)) (rowOf (a3 m c) (streamOf r)) k
    * a5 m c (ix2 k j)

theorem rows_v2 (r : Fin 8704) (j : Fin 2048) : (V m c main_v2 : FVec Ideal S8704x2048 .f32) (ix2 r j) = resid m c r j := by
  have e : V m c main_v2 = concatenate S8704x2048 0 [⟨S8192x2048, shapeCast S8192x2048 (a0 m c) shapeCasts_S2x4096x2048_S8192x2048⟩,
      ⟨S512x2048, shapeCast S512x2048 (a1 m c) shapeCasts_S8x64x2048_S512x2048⟩] concatenates_S8192x2048_S512x2048_S8704x2048_d0 := by
    unfold V
    after_results <;> rfl
  rw [e]
  unfold resid
  pointwise
theorem gain_v12 (k : Fin 2048) : (V m c main_v12 : FVec Ideal S1x2048 .f32) (ix2 0 k) = a2 m c (ix1 k) := by
  have e : V m c main_v12 = shapeCast S1x2048 (a2 m c) shapeCasts_S2048_S1x2048 := by
    unfold V
    after_results <;> rfl
  rw [e]
  pointwise
theorem weights_v14 (k : Fin 2048) (j : Fin 2048) : (V m c main_v13 : FVec Ideal S2048x2048 .bf16) (ix2 k j) = a5 m c (ix2 k j) := by
  unfold V
  after_reads_simp
  pointwise

/-! ### The blocks -/

abbrev cfgT := cfg (F := Ideal) m
abbrev datT := dats m 0 c

theorem ix_0 (t : Fin grid0.N) : cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0) t
theorem ix_1 (t : Fin grid0.N) : cc0_transform_1 (grid0.coords t) 0 = 0 ∧ cc0_transform_1 (grid0.coords t) 1 = 0 :=
  (by decide +kernel : ∀ t : Fin grid0.N, cc0_transform_1 (grid0.coords t) 0 = 0 ∧ cc0_transform_1 (grid0.coords t) 1 = 0) t
theorem ix_2 (t : Fin grid0.N) : cc0_transform_2 (grid0.coords t) 0 = 0 ∧ cc0_transform_2 (grid0.coords t) 1 = 0 :=
  (by decide +kernel : ∀ t : Fin grid0.N, cc0_transform_2 (grid0.coords t) 0 = 0 ∧ cc0_transform_2 (grid0.coords t) 1 = 0) t
theorem ix_3 (t : Fin grid0.N) : cc0_transform_3 (grid0.coords t) 0 = 0 ∧ cc0_transform_3 (grid0.coords t) 1 = 0 :=
  (by decide +kernel : ∀ t : Fin grid0.N, cc0_transform_3 (grid0.coords t) 0 = 0 ∧ cc0_transform_3 (grid0.coords t) 1 = 0) t
theorem ix_4 (t : Fin grid0.N) : cc0_transform_4 (grid0.coords t) 0 = 0 ∧ cc0_transform_4 (grid0.coords t) 1 = 0 :=
  (by decide +kernel : ∀ t : Fin grid0.N, cc0_transform_4 (grid0.coords t) 0 = 0 ∧ cc0_transform_4 (grid0.coords t) 1 = 0) t
theorem ix_5 (t : Fin grid0.N) : cc0_transform_5 (grid0.coords t) 0 = t.val ∧ cc0_transform_5 (grid0.coords t) 1 = 0 :=
  (by decide +kernel : ∀ t : Fin grid0.N, cc0_transform_5 (grid0.coords t) 0 = t.val ∧ cc0_transform_5 (grid0.coords t) 1 = 0) t

/-- A row of a step's block in the whole array. -/
abbrev row (t : Fin grid0.N) (r : Fin 512) : Fin 8704 := ⟨512 * t.val + r.val, by have := lt_of_lt_of_eq t.isLt N_0; omega⟩

theorem blk_0 (t : Fin grid0.N) (r : Fin 512) (k : Fin 2048) : (iblk m c 0 t : FVec Ideal S512x2048 .f32) (ix2 r k) = resid m c (row t r) k := by
  unfold iblk
  refine (View.read_apply ..).trans ?_
  refine Eq.trans ?_ (rows_v2 m c (row t r) k)
  show (V m c main_v2 : FVec Ideal S8704x2048 .f32) _ = _
  refine congrArg (V m c main_v2 : FVec Ideal S8704x2048 .f32) (Rows.at2 ?_ ?_)
  · show cc0_transform_0 (grid0.coords t) 0 * 512 + 1 * r.val = 512 * t.val + r.val; rw [(ix_0 t).1]; omega
  · show cc0_transform_0 (grid0.coords t) 1 * 2048 + 1 * k.val = k.val; rw [(ix_0 t).2]; omega
theorem blk_1 (t : Fin grid0.N) (k : Fin 2048) : (iblk m c 1 t : FVec Ideal S1x2048 .f32) (ix2 0 k) = a2 m c (ix1 k) := by
  unfold iblk
  refine (View.read_apply ..).trans ?_
  refine Eq.trans ?_ (gain_v12 m c k)
  show (V m c main_v12 : FVec Ideal S1x2048 .f32) _ = _
  refine congrArg (V m c main_v12 : FVec Ideal S1x2048 .f32) (Rows.at2 ?_ ?_)
  · show cc0_transform_1 (grid0.coords t) 0 * 1 + 1 * 0 = 0; rw [(ix_1 t).1]
  · show cc0_transform_1 (grid0.coords t) 1 * 2048 + 1 * k.val = k.val; rw [(ix_1 t).2]; omega
theorem blk_2 (t : Fin grid0.N) (b : Fin 10) (j : Fin 2048) : (iblk m c 2 t : FVec Ideal S10x2048 .f32) (ix2 b j) = a3 m c (ix2 b j) := by
  unfold iblk
  refine (View.read_apply ..).trans ?_
  show V m c main_arg3 _ = _
  rw [kept m main_arg3 (by simp)]
  refine congrArg (a3 m c) (Rows.at2 ?_ ?_)
  · show cc0_transform_2 (grid0.coords t) 0 * 10 + 1 * b.val = b.val; rw [(ix_2 t).1]; omega
  · show cc0_transform_2 (grid0.coords t) 1 * 2048 + 1 * j.val = j.val; rw [(ix_2 t).2]; omega
theorem blk_3 (t : Fin grid0.N) (b : Fin 10) (j : Fin 2048) : (iblk m c 3 t : FVec Ideal S10x2048 .f32) (ix2 b j) = a4 m c (ix2 b j) := by
  unfold iblk
  refine (View.read_apply ..).trans ?_
  show V m c main_arg4 _ = _
  rw [kept m main_arg4 (by simp)]
  refine congrArg (a4 m c) (Rows.at2 ?_ ?_)
  · show cc0_transform_3 (grid0.coords t) 0 * 10 + 1 * b.val = b.val; rw [(ix_3 t).1]; omega
  · show cc0_transform_3 (grid0.coords t) 1 * 2048 + 1 * j.val = j.val; rw [(ix_3 t).2]; omega
theorem blk_4 (t : Fin grid0.N) (k : Fin 2048) (j : Fin 2048) :
    (iblk m c 4 t : FVec Ideal S2048x2048 .bf16) (ix2 k j) = a5 m c (ix2 k j) := by
  unfold iblk
  refine (View.read_apply ..).trans ?_
  refine Eq.trans ?_ (weights_v14 m c k j)
  show (V m c main_v13 : FVec Ideal S2048x2048 .bf16) _ = _
  refine congrArg (V m c main_v13 : FVec Ideal S2048x2048 .bf16) (Rows.at2 ?_ ?_)
  · show cc0_transform_4 (grid0.coords t) 0 * 2048 + 1 * k.val = k.val; rw [(ix_4 t).1]; omega
  · show cc0_transform_4 (grid0.coords t) 1 * 2048 + 1 * j.val = j.val; rw [(ix_4 t).2]; omega

/-- The word a step reads for a chunk, as a number. -/
theorem named (o : Fin 1 → ℕ) (h : ∀ a, o a + S1.size a ≤ S136.size a) (q : ℕ) (hq : q < 136) (ho : o 0 = q) :
    (Body.word c (tbl m 0) o h).toNat = stream q := by
  rw [word_eq m c o h ⟨q, hq⟩ ho, BitVec.toNat_ofNat]
  have := stream_le q hq
  show stream q % 2 ^ 32 = stream q
  omega

/-- What a step writes. -/
theorem written (t : Fin grid0.N) (r : Fin 512) (j : Fin 2048) : (outs m c t : FVec Ideal S512x2048 .f32) (ix2 r j) = value m c (row t r) j := by
  have ht : t.val < 17 := lt_of_lt_of_eq t.isLt N_0
  unfold outs runAt
  refine (Block.entry c (grid0.coords t) _ _ _ _ _ _ _ _ _ _ _ _ _ _ _ _ _ _ _ _ _ _ _ _ _ _ _ _ _ (fun q => ⟨stream (8 * t.val + q.val), stream_le _ (by omega)⟩)
    (named m c _ _ _ (by omega) (offs t).1) (named m c _ _ _ (by omega) (offs t).2.1) (named m c _ _ _ (by omega) (offs t).2.2.1) (named m c _ _ _ (by omega) (offs t).2.2.2.1)
    (named m c _ _ _ (by omega) (offs t).2.2.2.2.1) (named m c _ _ _ (by omega) (offs t).2.2.2.2.2.1) (named m c _ _ _ (by omega) (offs t).2.2.2.2.2.2.1) (named m c _ _ _ (by omega) (offs t).2.2.2.2.2.2.2) r j).trans ?_
  unfold value
  have es : (⟨stream (8 * t.val + r.val / 64), stream_le _ (by omega)⟩ : Fin 10) = streamOf (row t r) :=
    Fin.ext (congrArg stream (show 8 * t.val + r.val / 64 = (512 * t.val + r.val) / 64 by omega))
  refine Finset.sum_congr rfl fun k _ => congrArg₂ _ (modulated_congr (fun k => blk_0 m c t r k) (fun k => blk_1 m c t k) (fun k => ?_) (fun k => ?_) k) (blk_4 m c t k j)
  · exact (blk_3 m c t _ k).trans (congrArg (fun b : Fin 10 => a4 m c (ix2 b k)) es)
  · exact (blk_2 m c t _ k).trans (congrArg (fun b : Fin 10 => a3 m c (ix2 b k)) es)

theorem flushed (t : Fin grid0.N) (r : Fin 512) (j : Fin 2048) :
    ((datT m c).flushed 5 t : FVec Ideal S512x2048 .f32) (ix2 r j) = value m c (row t r) j := by
  have e : (datT m c).flushed 5 t = ((cfgT m).win 5).cut (grid0.coords t) (outs m c t) := by
    show ((cfgT m).win 5).cut (grid0.coords t) ((datT m c).after 5 t) = _
    rw [after5]
  rw [e]
  exact written m c t r j

theorem flush (t : Fin (cfgT m).N) : ((cfgT m).win 5).flush t = true :=
  (by decide +kernel : ∀ t : Fin grid0.N, Pipeline.Window.flushOf grid0 true cc0_transform_5 t = true) t

/-- Every block of the result is written once. -/
theorem disjoint (t t' : Fin grid0.N) (h : t ≠ t') : Disjoint (((cfgT m).win 5).blk t).view.set (((cfgT m).win 5).blk t').view.set := by
  refine ((cfgT m).win 5).disjoint_blk fun e => h (Fin.ext ?_)
  have h1 : cc0_transform_5 (grid0.coords t) 0 = cc0_transform_5 (grid0.coords t') 0 := congrFun e (0 : Fin 2)
  rw [(ix_5 t).1, (ix_5 t').1] at h1
  exact h1

theorem blocks (t : Fin (cfgT m).N) (hf : ((cfgT m).win 5).flush t = true) :
    (((cfgT m).win 5).blk t).view.read (Elt Ideal) ((datT m c).arrAt 5 (cfgT m).N) = (datT m c).flushed 5 t :=
  (datT m c).read_blk_arrAt_eq_flushed 5 (fun t t' _ _ h => disjoint m t t' h) (cfgT m).N t t.isLt hf

theorem block_entry (t : Fin grid0.N) (u : Fin 512) (j : Fin 2048) :
    ((((cfgT m).win 5).blk t).view.read (Elt Ideal) ((datT m c).arrAt 5 (cfgT m).N) : FVec Ideal S512x2048 .f32) (ix2 u j) = value m c (row t u) j :=
  (congrFun (blocks m c t (flush m t)) (ix2 u j)).trans (flushed m c t u j)

theorem block_read (t : Fin grid0.N) (u : Fin 512) (j : Fin 2048) (A : FVec Ideal S8704x2048 .f32) :
    ((((cfgT m).win 5).blk t).view.read (Elt Ideal) A : FVec Ideal S512x2048 .f32) (ix2 u j) = A (ix2 (row t u) j) := by
  refine (View.read_apply ..).trans ?_
  refine congrArg A (Rows.at2 ?_ ?_)
  · show cc0_transform_5 (grid0.coords t) 0 * 512 + 1 * u.val = 512 * t.val + u.val; rw [(ix_5 t).1]; omega
  · show cc0_transform_5 (grid0.coords t) 1 * 2048 + 1 * j.val = j.val; rw [(ix_5 t).2]; omega

/-- The result array after the run. -/
def result : FVec Ideal S8704x2048 .f32 := (datT m c).arrAt 5 (cfgT m).N

theorem entry (r : Fin 8704) (j : Fin 2048) : result m c (ix2 r j) = value m c r j := by
  obtain ⟨t, u, h⟩ : ∃ (t : Fin grid0.N) (u : Fin 512), r = row t u :=
    ⟨⟨r.val / 512, lt_of_lt_of_eq (by omega : r.val / 512 < 17) N_0.symm⟩, ⟨r.val % 512, by omega⟩, Fin.ext (show r.val = 512 * (r.val / 512) + r.val % 512 by omega)⟩
  rw [h]
  exact (block_read m t u j (result m c)).symm.trans (block_entry m c t u j)

end Cert.PeerQIdeal.Results

end
-- ==== Proof.QuerySame.lean ====
/- The query projection's claims: both programs run and keep their arguments, and the kernel's result is the reference's. -/
module

public import proofs.«01_k».proof.Defs
public import proofs.«01_k».proof.Proof.QueryRun
public import proofs.«01_k».proof.Proof.Gen.PeerQ
public import proofs.«01_k».proof.Proof.Gen.PeerQRefIdeal.Run
public import proofs.«01_k».proof.Proof.Gen.PeerQRefIdeal.Read
public import Idealize.ShloMosaic.Adequacy

@[expose] public section

set_option maxRecDepth 16384

noncomputable section

namespace Cert.QuerySame

open Idealize.ShloMosaic Idealize.ShloMosaic.TcCoe Idealize.ShloMosaic.Tactic Idealize.SL.Sem

section kernel
open Cert.PeerQIdeal Cert.PeerQIdeal.Call Cert.PeerQIdeal.Results

/-- The arguments end as they were. -/
abbrev Kept {F : FTy → Type} (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)

/-- The projection runs, keeps its arguments, and leaves every semaphore at zero. -/
abbrev Framed (F : FTy → Type) [FloatOps F] : Prop := ∀ (m : (ℓ : Loc nD τ sig) → Buf (Elt F) ℓ) (ρ : Dev nD → PrngReg), True →
  θ_run (defs (F := F)) (onTc (τ := τ) (main (F := F))) ⟨m, fun _ => 0, ρ⟩ (fun r => (∀ c : Dev nD, Kept m r.2.mem c) ∧ r.2.sem = fun _ => 0)

/-- The program is its host code, then its call. -/
theorem program {F : FTy → Type} [FloatOps F] : main (F := F) = prog (F := F) := funext fun c => Cert.PeerQIdeal.Gen.main_chain c

theorem framed {F : FTy → Type} [FloatOps F] : Framed F := fun m ρ _ => by
  rw [program]
  exact (θ_run _ _ _).mono (fun _ h => ⟨fun c => arguments m h.1 c, h.2⟩) (launched m ρ)

/-- Its run: its result array and its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = result m c ∧ Kept m r.2.mem c) := by
  rw [program]
  exact (θ_run _ _ _).mono (fun _ h c => ⟨(h.1 c).1 5, arguments m h.1 c⟩) (launched m ρ)
end kernel

theorem frame : @quiescent_PeerQ Cert.PeerQ.Gen.facts :=
  (by sl_kernel_rfl : Framed Bits = @quiescent_PeerQ Cert.PeerQ.Gen.facts).mp framed
theorem frame_ideal : @quiescent_PeerQIdeal Cert.PeerQIdeal.Gen.facts := framed
theorem frame_reference : @quiescent_PeerQRefIdeal Cert.PeerQRefIdeal.Gen.facts := fun m ρ _ =>
  (θ_run _ _ _).mono (fun r h => ⟨fun c => (h c).2, sem_eq_zero_of_no_sems rfl r.2⟩) (Cert.PeerQRefIdeal.Value.run m ρ)

/-! ### The reference, entry by entry -/

section reference
open Cert.PeerQRefIdeal Cert.PeerQRefIdeal.Read
open Cert.InQkIdeal.Block (modulated modulated_congr rowOf)

variable (x0 : FVec Ideal S2x4096x2048 .f32) (x1 : FVec Ideal S8x64x2048 .f32) (x2 : FVec Ideal S2048 .f32) (x3 x4 : FVec Ideal S10x2048 .f32) (x5 : FVec Ideal S2048x2048 .f32)

theorem prompt_row (b : Fin 2) (s : Fin 4096) (k : Fin 2048) : (val_main_v22 (F := Ideal) x0 x2 x3 x4 (ix3 b s k) : EReal)
    = modulated (fun k => x0 (ix3 b s k)) (fun k => x2 (ix1 k)) (rowOf x4 ⟨b.val, by omega⟩) (rowOf x3 ⟨b.val, by omega⟩) k := by
  unfold val_main_v22 val_main_v21 val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0
    val_main_cst val_main_cst_0 val_main_cst_1 val_main_cst_2 modulated
  pointwise
theorem sample_row (b : Fin 8) (s : Fin 64) (k : Fin 2048) : (val_main_v46 (F := Ideal) x1 x2 x3 x4 (ix3 b s k) : EReal)
    = modulated (fun k => x1 (ix3 b s k)) (fun k => x2 (ix1 k)) (rowOf x4 ⟨2 + b.val, by omega⟩) (rowOf x3 ⟨2 + b.val, by omega⟩) k := by
  unfold val_main_v46 val_main_v45 val_main_v44 val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v25 val_main_v24
    val_main_cst_3 val_main_cst_4 val_main_cst_5 val_main_cst_6 modulated
  pointwise
theorem prompt (b : Fin 2) (s : Fin 4096) (j : Fin 2048) : (val_main_v23 (F := Ideal) x0 x2 x3 x4 x5 (ix3 b s j) : EReal)
    = ∑ k : Fin 2048, (val_main_v22 (F := Ideal) x0 x2 x3 x4 (ix3 b s k) : EReal) * x5 (ix2 k j) := by
  unfold val_main_v23
  pointwise [dot_S2x4096x2048_S2048x2048_S2x4096x2048_2_0_01_1_n_n]
theorem sample (b : Fin 8) (s : Fin 64) (j : Fin 2048) : (val_main_v47 (F := Ideal) x1 x2 x3 x4 x5 (ix3 b s j) : EReal)
    = ∑ k : Fin 2048, (val_main_v46 (F := Ideal) x1 x2 x3 x4 (ix3 b s k) : EReal) * x5 (ix2 k j) := by
  unfold val_main_v47
  pointwise [dot_S8x64x2048_S2048x2048_S8x64x2048_2_0_01_1_n_n]
theorem joined (r : Fin 8704) (j : Fin 2048) : (val_main_v50 (F := Ideal) x0 x1 x2 x3 x4 x5 (ix2 r j) : EReal)
    = if h : r.val < 8192 then val_main_v23 (F := Ideal) x0 x2 x3 x4 x5 (ix3 ⟨r.val / 4096, by omega⟩ ⟨r.val % 4096, by omega⟩ j)
      else val_main_v47 (F := Ideal) x1 x2 x3 x4 x5 (ix3 ⟨(r.val - 8192) / 64, by omega⟩ ⟨(r.val - 8192) % 64, by omega⟩ j) := by
  unfold val_main_v50 val_main_v49 val_main_v48
  pointwise

open Cert.PeerQIdeal.Results
open Cert.InQkIdeal.Cut (stream stream_le)

/-- The reference's entry is the kernel's. -/
theorem entry (m : (ℓ : Loc Cert.PeerQIdeal.nD Cert.PeerQIdeal.τ Cert.PeerQIdeal.sig) → Buf (Elt Ideal) ℓ) (c : Dev Cert.PeerQIdeal.nD) (r : Fin 8704) (j : Fin 2048) :
    (val_main_v50 (F := Ideal) (a0 m c) (a1 m c) (a2 m c) (a3 m c) (a4 m c) (a5 m c) (ix2 r j) : EReal) = value m c r j := by
  have hr := r.isLt
  rw [joined]
  unfold value
  split
  · rename_i h
    rw [prompt]
    have e2 : (⟨r.val / 4096, by omega⟩ : Fin 10) = streamOf r :=
      Fin.ext (by show r.val / 4096 = stream (r.val / 64); unfold stream; rw [if_pos (by omega)]; omega)
    refine Finset.sum_congr rfl fun k _ => congrArg₂ _ ((prompt_row _ _ _ _ _ _ k).trans (modulated_congr (fun k => ?_) (fun _ => rfl) (fun k => ?_) (fun k => ?_) k)) rfl
    · unfold resid; rw [dif_pos h]
    · exact congrArg (fun b : Fin 10 => a4 m c (ix2 b k)) e2
    · exact congrArg (fun b : Fin 10 => a3 m c (ix2 b k)) e2
  · rename_i h
    rw [sample]
    have e2 : (⟨2 + (r.val - 8192) / 64, by omega⟩ : Fin 10) = streamOf r :=
      Fin.ext (by show 2 + (r.val - 8192) / 64 = stream (r.val / 64); unfold stream; rw [if_neg (by omega)]; omega)
    refine Finset.sum_congr rfl fun k _ => congrArg₂ _ ((sample_row _ _ _ _ _ _ k).trans (modulated_congr (fun k => ?_) (fun _ => rfl) (fun k => ?_) (fun k => ?_) k)) rfl
    · unfold resid; rw [dif_neg h]
    · exact congrArg (fun b : Fin 10 => a4 m c (ix2 b k)) e2
    · exact congrArg (fun b : Fin 10 => a3 m c (ix2 b k)) e2
end reference

/-- The kernel's result is the reference's. -/
theorem same : @algebraic_PeerQIdeal_PeerQRefIdeal Cert.PeerQIdeal.Gen.facts Cert.PeerQRefIdeal.Gen.facts := by
  intro m ρ m' ρ' _ hm
  refine ⟨PeerQIdeal.Results.result m, run m ρ, ?_⟩
  refine (θ_run _ _ _).mono (fun r h c => ⟨(h c).1.trans ?_, (h c).2⟩) (Cert.PeerQRefIdeal.Value.run m' ρ')
  obtain ⟨e0, e1, e2, e3, e4, e5⟩ := hm c
  refine (Cert.PeerQRefIdeal.Read.val_main_v50_eq _ _ _ _ _ _).trans ?_
  rw [e0, e1, e2, e3, e4, e5]
  funext i
  obtain ⟨r, j, rfl⟩ : ∃ (r : Fin 8704) (j : Fin 2048), i = ix2 r j := ⟨i 0, i 1, Rows.at2 rfl rfl⟩
  exact (entry m c r j).trans (PeerQIdeal.Results.entry m c r j).symm

end Cert.QuerySame

end
-- ==== Proof.KeptSame.lean ====
/- The rows that the convolution keeps: the last three rows of every stream, the same in the kernel's host code and in the reference. -/
module

public import proofs.«01_k».proof.Defs
public import proofs.«01_k».proof.Proof.Rows
public import proofs.«01_k».proof.Proof.Gen.KeptRows.Run
public import proofs.«01_k».proof.Proof.Gen.KeptRowsIdeal.Run
public import proofs.«01_k».proof.Proof.Gen.KeptRowsIdeal.Read
public import proofs.«01_k».proof.Proof.Gen.KeptRowsRefIdeal.Run
public import proofs.«01_k».proof.Proof.Gen.KeptRowsRefIdeal.Read
public import Idealize.ShloMosaic.Adequacy

@[expose] public section

set_option maxRecDepth 16384

noncomputable section

namespace Cert.KeptSame

open Idealize.ShloMosaic Idealize.ShloMosaic.TcCoe Idealize.ShloMosaic.Tactic Idealize.SL.Sem

/-- The projected rows of q, k and v. -/
abbrev Projected := Cert.KeptRowsIdeal.S8704x4096.Idx → EReal

/-- Row `r` of q and k and of v, side by side. -/
def row (qk v : Projected) (r : Fin 8704) (k : Fin 8192) : EReal :=
  if h : k.val < 4096 then qk (ix2 r ⟨k.val, h⟩) else v (ix2 r ⟨k.val - 4096, by omega⟩)

/-- An entry of q and k is one of the left columns. -/
theorem row_left (qk v : Projected) (r r' : Fin 8704) (k : Fin 8192) (k' : Fin 4096) (hr : r'.val = r.val) (hk : k'.val = k.val) :
    qk (ix2 r' k') = row qk v r k := by
  obtain rfl : r' = r := Fin.ext hr
  unfold row
  rw [dif_pos (by omega)]
  exact congrArg (fun u => qk (ix2 r' u)) (Fin.ext hk)

/-- An entry of v is one of the right columns. -/
theorem row_right (qk v : Projected) (r r' : Fin 8704) (k : Fin 8192) (k' : Fin 4096) (hr : r'.val = r.val) (hk : k'.val + 4096 = k.val) :
    v (ix2 r' k') = row qk v r k := by
  obtain rfl : r' = r := Fin.ext hr
  unfold row
  rw [dif_neg (by omega)]
  exact congrArg (fun u => v (ix2 r' u)) (Fin.ext (show k'.val = k.val - 4096 by omega))

section reference
open Cert.KeptRowsRefIdeal Cert.KeptRowsRefIdeal.Read

variable (x0 x1 : Projected) (x2 : S8x3x8192.Idx → EReal)

/-- The reference keeps rows 4093, 4094 and 4095 of a prompt. -/
theorem reference_prompt (b : Fin 2) (j : Fin 3) (k : Fin 8192) :
    val_main_v8 (F := Ideal) x0 x1 (ix3 b j k) = row x0 x1 ⟨4096 * b.val + 4093 + j.val, by omega⟩ k := by
  unfold val_main_v8 val_main_v6 val_main_v5 val_main_cst val_main_v2 val_main_v1 val_main_v0
  pointwise
  rw [dif_neg (by omega)]
  split
  · exact row_left x0 x1 _ _ k _ (by dsimp only; omega) rfl
  · exact row_right x0 x1 _ _ k _ (by dsimp only; omega) (by dsimp only; omega)

/-- The reference keeps rows 61, 62 and 63 of a sample. -/
theorem reference_sample (b : Fin 8) (j : Fin 3) (k : Fin 8192) :
    val_main_v9 (F := Ideal) x0 x1 x2 (ix3 b j k) = row x0 x1 ⟨8192 + 64 * b.val + 61 + j.val, by omega⟩ k := by
  unfold val_main_v9 val_main_v7 val_main_v4 val_main_v3 val_main_v0
  pointwise
  rw [dif_neg (by omega)]
  split
  · exact row_left x0 x1 _ _ k _ (by dsimp only; omega) rfl
  · exact row_right x0 x1 _ _ k _ (by dsimp only; omega) (by dsimp only; omega)

end reference

section kernel
open Cert.KeptRowsIdeal Cert.KeptRowsIdeal.Read

variable (x0 x1 : Projected) (x2 : S8x3x8192.Idx → EReal)

/-- The host code keeps the same rows of a prompt. -/
theorem kernel_prompt (b : Fin 2) (j : Fin 3) (k : Fin 8192) :
    val_main_v11 (F := Ideal) x0 x1 (ix3 b j k) = row x0 x1 ⟨4096 * b.val + 4093 + j.val, by omega⟩ k := by
  unfold val_main_v11 val_main_v10 val_main_v9 val_main_v8 val_main_v7 val_main_v6 val_main_v5 val_main_v4 val_main_v3 val_main_v2 val_main_v1
    val_main_v0 val_main_cst
  pointwise
  repeat' split
  all_goals first
    | exact row_left x0 x1 _ _ k _ (by dsimp only; omega) rfl
    | exact row_right x0 x1 _ _ k _ (by dsimp only; omega) (by dsimp only; omega)

/-- The host code keeps the same rows of a sample. -/
theorem kernel_sample (b : Fin 8) (j : Fin 3) (k : Fin 8192) :
    val_main_v46 (F := Ideal) x0 x1 x2 (ix3 b j k) = row x0 x1 ⟨8192 + 64 * b.val + 61 + j.val, by omega⟩ k := by
  unfold val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12
  pointwise
  repeat' split
  all_goals first
    | exact row_left x0 x1 _ _ k _ (by dsimp only; omega) rfl
    | exact row_right x0 x1 _ _ k _ (by dsimp only; omega) (by dsimp only; omega)

end kernel
/-! ### The claims -/

theorem frame : @quiescent_KeptRows Cert.KeptRows.Gen.facts := fun m ρ _ =>
  (θ_run _ _ _).mono (fun r h => ⟨fun c => (h c).2.2, sem_eq_zero_of_no_sems rfl r.2⟩) (Cert.KeptRows.Value.run m ρ)
theorem frame_ideal : @quiescent_KeptRowsIdeal Cert.KeptRowsIdeal.Gen.facts := fun m ρ _ =>
  (θ_run _ _ _).mono (fun r h => ⟨fun c => (h c).2.2, sem_eq_zero_of_no_sems rfl r.2⟩) (Cert.KeptRowsIdeal.Value.run m ρ)
theorem frame_reference : @quiescent_KeptRowsRefIdeal Cert.KeptRowsRefIdeal.Gen.facts := fun m ρ _ =>
  (θ_run _ _ _).mono (fun r h => ⟨fun c => (h c).2.2, sem_eq_zero_of_no_sems rfl r.2⟩) (Cert.KeptRowsRefIdeal.Value.run m ρ)

/-- The rows kept are the reference's, of prompts and of samples. -/
theorem same : @algebraic_KeptRowsIdeal_KeptRowsRefIdeal Cert.KeptRowsIdeal.Gen.facts Cert.KeptRowsRefIdeal.Gen.facts := by
  intro m ρ m' ρ' _ hm
  refine ⟨_, _, Cert.KeptRowsIdeal.Value.run m ρ, ?_⟩
  refine (θ_run _ _ _).mono (fun r h c => ⟨(h c).1.trans ?_, (h c).2.1.trans ?_, (h c).2.2⟩) (Cert.KeptRowsRefIdeal.Value.run m' ρ')
  all_goals obtain ⟨e0, e1, e2⟩ := hm c
  · refine (Cert.KeptRowsRefIdeal.Read.val_main_v8_eq _ _).trans (Eq.trans ?_ (Cert.KeptRowsIdeal.Read.val_main_v11_eq (F := Ideal) (m ((c.tc : Thread _ _).loc Cert.KeptRowsIdeal.main_arg0)) (m ((c.tc : Thread _ _).loc Cert.KeptRowsIdeal.main_arg1))).symm)
    rw [e0, e1]
    funext i
    obtain ⟨b, j, k, rfl⟩ : ∃ (b : Fin 2) (j : Fin 3) (k : Fin 8192), i = ix3 b j k := ⟨i 0, i 1, i 2, (ix3_eta i).symm⟩
    exact (reference_prompt _ _ b j k).trans (kernel_prompt _ _ b j k).symm
  · refine (Cert.KeptRowsRefIdeal.Read.val_main_v9_eq _ _ _).trans (Eq.trans ?_ (Cert.KeptRowsIdeal.Read.val_main_v46_eq (F := Ideal) (m ((c.tc : Thread _ _).loc Cert.KeptRowsIdeal.main_arg0)) (m ((c.tc : Thread _ _).loc Cert.KeptRowsIdeal.main_arg1))
      (m ((c.tc : Thread _ _).loc Cert.KeptRowsIdeal.main_arg2))).symm)
    rw [e0, e1, e2]
    funext i
    obtain ⟨b, j, k, rfl⟩ : ∃ (b : Fin 8) (j : Fin 3) (k : Fin 8192), i = ix3 b j k := ⟨i 0, i 1, i 2, (ix3_eta i).symm⟩
    exact (reference_sample _ _ _ b j k).trans (kernel_sample _ _ _ b j k).symm

end Cert.KeptSame

end
-- ==== Proof.Heads.lean ====
/- Rows of four heads: which of four stores an entry comes from, what loads of columns and of planes read, the turn of a
   row by three tables of cosines and sines, and the stores of turned and of copied heads, for blocks of any number of rows. -/
module

public import proofs.«01_k».proof.Proof.Rows
public import Idealize.ShloMosaic.Lib.WholeRead

@[expose] public section

noncomputable section

namespace Cert.Heads

open Idealize.ShloMosaic

/-- Two indices of a rank-four array with the same coordinates. -/
theorem at4 {n0 n1 n2 n3 : ℕ} {x y : (⟨4, ![n0, n1, n2, n3]⟩ : Shape).Idx} (h0 : (x 0).val = (y 0).val) (h1 : (x 1).val = (y 1).val)
    (h2 : (x 2).val = (y 2).val) (h3 : (x 3).val = (y 3).val) : x = y :=
  funext fun a => match a with | ⟨0, _⟩ => Fin.ext h0 | ⟨1, _⟩ => Fin.ext h1 | ⟨2, _⟩ => Fin.ext h2 | ⟨3, _⟩ => Fin.ext h3

/-- Two indices of a rank-three array with the same coordinates. -/
theorem at3 {n0 n1 n2 : ℕ} {x y : (⟨3, ![n0, n1, n2]⟩ : Shape).Idx} (h0 : (x 0).val = (y 0).val) (h1 : (x 1).val = (y 1).val)
    (h2 : (x 2).val = (y 2).val) : x = y :=
  funext fun a => match a with | ⟨0, _⟩ => Fin.ext h0 | ⟨1, _⟩ => Fin.ext h1 | ⟨2, _⟩ => Fin.ext h2

variable {F : FTy → Type} [FloatOps F] {e : EltTy} {N : ℕ}

/-- Four stores of one head each: an entry is in the store of its head. -/
theorem four {h0 h1 h2 h3} (w0 w1 w2 w3 : (⟨4, ![1, N, 1, 128]⟩ : Shape).Idx → Elt F e) (r : Fin N) (n : Fin 4) (d : Fin 128) (v : Elt F e)
    (e0 : n.val = 0 → w0 (ix4 0 r 0 d) = v) (e1 : n.val = 1 → w1 (ix4 0 r 0 d) = v)
    (e2 : n.val = 2 → w2 (ix4 0 r 0 d) = v) (e3 : n.val = 3 → w3 (ix4 0 r 0 d) = v) :
    View.canon [⟨Rect.unit (s := ⟨4, ![1, N, 4, 128]⟩) ![0, 0, 3, 0] ![1, N, 1, 128] h3, w3⟩, ⟨Rect.unit (s := ⟨4, ![1, N, 4, 128]⟩) ![0, 0, 2, 0] ![1, N, 1, 128] h2, w2⟩,
      ⟨Rect.unit (s := ⟨4, ![1, N, 4, 128]⟩) ![0, 0, 1, 0] ![1, N, 1, 128] h1, w1⟩, ⟨Rect.unit (s := ⟨4, ![1, N, 4, 128]⟩) ![0, 0, 0, 0] ![1, N, 1, 128] h0, w0⟩] (ix4 0 r n d) = v := by
  have key : ∀ {o : ℕ} {hi} {w : (⟨4, ![1, N, 1, 128]⟩ : Shape).Idx → Elt F e} {L : List (View.Piece (Elt F) (⟨4, ![1, N, 4, 128]⟩ : Shape) e)},
      (n.val = o → w (ix4 0 r 0 d) = v) → (n.val ≠ o → View.canon L (ix4 0 r n d) = v) →
      View.canon (⟨Rect.unit (s := ⟨4, ![1, N, 4, 128]⟩) ![0, 0, o, 0] ![1, N, 1, 128] hi, w⟩ :: L) (ix4 0 r n d) = v := fun {o} {hi} w L hw hL => by
    by_cases ho : n.val = o
    · refine Eq.trans ?_ ((View.canon_cons_emb (Val := Elt F) (e := e) (Rect.unit (s := ⟨4, ![1, N, 4, 128]⟩) ![0, 0, o, 0] ![1, N, 1, 128] hi) w L (ix4 0 r 0 d)).trans (hw ho))
      exact congrArg _ (at4 (show 0 = 0 + 1 * 0 from rfl) (show r.val = 0 + 1 * r.val by omega) (show n.val = o + 1 * 0 by omega) (show d.val = 0 + 1 * d.val by omega))
    · refine (View.canon_cons_of_not_mem _ _ fun hm => ?_).trans (hL ho)
      have := (Rect.mem_set_unit (s := ⟨4, ![1, N, 4, 128]⟩) (inb := hi)).1 hm 2
      have h1 : o ≤ n.val := this.1
      have h2 : n.val < o + 1 := this.2
      omega
  exact key e3 fun _ => key e2 fun _ => key e1 fun _ => key e0 fun _ => by omega

/-- One store of a whole plane. -/
theorem one {W : ℕ} {h0} (w : (⟨3, ![1, N, W]⟩ : Shape).Idx → Elt F e) (r : Fin N) (d : Fin W) :
    View.canon [⟨Rect.unit (s := ⟨3, ![1, N, W]⟩) ![0, 0, 0] ![1, N, W] h0, w⟩] (ix3 0 r d) = w (ix3 0 r d) := by
  refine Eq.trans ?_ (View.canon_cons_emb (Val := Elt F) (e := e) (Rect.unit (s := ⟨3, ![1, N, W]⟩) ![0, 0, 0] ![1, N, W] h0) w [] (ix3 0 r d))
  exact congrArg _ (at3 (show 0 = 0 + 1 * 0 from rfl) (show r.val = 0 + 1 * r.val by omega) (show d.val = 0 + 1 * d.val by omega))

/-- A load of columns from a whole buffer. -/
theorem load {sig : RefSig} {sp : Space} {M W k o : ℕ} {a : Memref sig .tc sp ⟨2, ![M, W]⟩ .f32} (h : a.IsWhole) (X : Vec Ideal ⟨2, ![M, W]⟩ .f32)
    {off : Fin 2 → ℕ} {hi} (hz : off 0 = 0) (ho : off 1 = o) (r : Fin M) (d : Fin k) (j : Fin W) (hj : j.val = o + d.val) :
    View.readAt (Elt Ideal) a.view (Rect.unit (s := ⟨2, ![M, W]⟩) off ![M, k] hi).toLoadRect (h.unread X) (ix2 r d) = X (ix2 r j) := by
  rw [Memref.IsWhole.readAt_unread]
  exact congrArg X (Rows.at2 (show off 0 + 1 * r.val = r.val by omega) (show off 1 + 1 * d.val = j.val by omega))

/-- A load of one plane from a whole buffer. -/
theorem plane {sig : RefSig} {sp : Space} {M W k : ℕ} {a : Memref sig .tc sp ⟨3, ![k, M, W]⟩ .f32} (h : a.IsWhole) (X : Vec Ideal ⟨3, ![k, M, W]⟩ .f32)
    {o : ℕ} {hi} (p : Fin k) (h0 : p.val = o) (r : Fin M) (d : Fin W) :
    View.readAt (Elt Ideal) a.view (Rect.unit (s := ⟨3, ![k, M, W]⟩) ![o, 0, 0] ![1, M, W] hi).toLoadRect (h.unread X) (ix3 0 r d) = X (ix3 p r d) := by
  rw [Memref.IsWhole.readAt_unread]
  exact congrArg X (at3 (show o + 1 * 0 = p.val by omega) (show 0 + 1 * r.val = r.val by omega) (show 0 + 1 * d.val = d.val by omega))

/-- The lane `k` lanes before, around the end. -/
abbrev back (k : ℕ) (d : Fin 128) : Fin 128 := ⟨(d.val + 128 - k) % 128, Nat.mod_lt _ (by omega)⟩

/-- A row `x` turned by the tables `t`: three terms, of the row itself, of the row from `k` lanes before and from `l` lanes before. -/
abbrev turn (k l : ℕ) (x : Fin 128 → EReal) (t : Fin 3 → EReal) (d : Fin 128) : EReal := x d * t 0 + x (back k d) * t 1 + x (back l d) * t 2

/-- What a store of a head's keys holds: the rows turned. -/
abbrev Turned (N : ℕ) (pay : FVec Ideal ⟨2, ![N, 128]⟩ .f32 → FVec Ideal ⟨3, ![1, N, 128]⟩ .f32 → FVec Ideal ⟨3, ![1, N, 128]⟩ .f32 → FVec Ideal ⟨3, ![1, N, 128]⟩ .f32 →
    FVec Ideal ⟨4, ![1, N, 1, 128]⟩ .f32) : Prop :=
  ∀ v a b c (r : Fin N) (d : Fin 128),
    pay v a b c (ix4 0 r 0 d) = (v (ix2 r d) * a (ix3 0 r d) + v (ix2 r (back 112 d)) * b (ix3 0 r d) + v (ix2 r (back 16 d)) * c (ix3 0 r d) : EReal)

/-- What a store of a head's values holds: the rows as loaded. -/
abbrev Copied (N : ℕ) (pay : FVec Ideal ⟨2, ![N, 128]⟩ .f32 → FVec Ideal ⟨4, ![1, N, 1, 128]⟩ .f32) : Prop :=
  ∀ v (r : Fin N) (d : Fin 128), pay v (ix4 0 r 0 d) = v (ix2 r d)

/-- The column of a head's lane, the heads' columns starting at `o`. -/
abbrev col (o : ℕ) (n : Fin 4) (d : Fin 128) (ho : o ≤ 512) : Fin 1024 := ⟨o + (128 * n.val + d.val), by omega⟩

/-- The indexer's key lane among its columns. -/
abbrev lane (d : Fin 128) : Fin 640 := ⟨512 + d.val, by omega⟩

/-- The loaded columns `v` of a row are those from `o` on. -/
abbrev From (X : Vec Ideal ⟨2, ![N, 1024]⟩ .f32) (r : Fin N) (o : ℕ) (v : FVec Ideal ⟨2, ![N, 128]⟩ .f32) : Prop :=
  ∀ (l : Fin 128) (j : Fin 1024), j.val = o + l.val → v (ix2 r l) = X (ix2 r j)

/-- Four stores of turned heads, from four loads of columns and three planes of tables. -/
theorem keys {h0 h1 h2 h3} {p0 p1 p2 p3} (q0 : Turned N p0) (q1 : Turned N p1) (q2 : Turned N p2) (q3 : Turned N p3) {v0 v1 v2 v3 a b c}
    (X : Vec Ideal ⟨2, ![N, 1024]⟩ .f32) (T : Vec Ideal ⟨3, ![3, N, 128]⟩ .f32) (r : Fin N) (n : Fin 4) (d : Fin 128)
    (u0 : From X r 0 v0) (u1 : From X r 128 v1) (u2 : From X r 256 v2) (u3 : From X r 384 v3)
    (ha : a (ix3 0 r d) = T (ix3 0 r d)) (hb : b (ix3 0 r d) = T (ix3 1 r d)) (hc : c (ix3 0 r d) = T (ix3 2 r d)) :
    (View.canon (Val := Elt Ideal) (e := .f32) [⟨Rect.unit (s := ⟨4, ![1, N, 4, 128]⟩) ![0, 0, 3, 0] ![1, N, 1, 128] h3, p3 v3 a b c⟩,
      ⟨Rect.unit (s := ⟨4, ![1, N, 4, 128]⟩) ![0, 0, 2, 0] ![1, N, 1, 128] h2, p2 v2 a b c⟩,
      ⟨Rect.unit (s := ⟨4, ![1, N, 4, 128]⟩) ![0, 0, 1, 0] ![1, N, 1, 128] h1, p1 v1 a b c⟩,
      ⟨Rect.unit (s := ⟨4, ![1, N, 4, 128]⟩) ![0, 0, 0, 0] ![1, N, 1, 128] h0, p0 v0 a b c⟩] (ix4 0 r n d) : EReal)
      = turn 112 16 (fun e => X (ix2 r (col 0 n e (by omega)))) (fun p => T (ix3 p r d)) d := by
  have key : ∀ {o p v}, Turned N p → From X r o v → o = 128 * n.val →
      p v a b c (ix4 0 r 0 d) = turn 112 16 (fun e => X (ix2 r (col 0 n e (by omega)))) (fun p => T (ix3 p r d)) d := fun {o p v} hp hv ho => by
    have hv' : ∀ l, v (ix2 r l) = X (ix2 r (col 0 n l (by omega))) := fun l => hv l _ (show 0 + (128 * n.val + l.val) = o + l.val by omega)
    rw [hp, hv', hv', hv', ha, hb, hc]
  refine four _ _ _ _ r n d _ ?_ ?_ ?_ ?_ <;> intro hn
  · exact key q0 u0 (by omega)
  · exact key q1 u1 (by omega)
  · exact key q2 u2 (by omega)
  · exact key q3 u3 (by omega)

/-- Four stores of copied heads, from four loads of columns. -/
theorem values {h0 h1 h2 h3} {p0 p1 p2 p3} (q0 : Copied N p0) (q1 : Copied N p1) (q2 : Copied N p2) (q3 : Copied N p3) {v0 v1 v2 v3}
    (X : Vec Ideal ⟨2, ![N, 1024]⟩ .f32) (r : Fin N) (n : Fin 4) (d : Fin 128)
    (u0 : From X r 512 v0) (u1 : From X r 640 v1) (u2 : From X r 768 v2) (u3 : From X r 896 v3) :
    (View.canon (Val := Elt Ideal) (e := .f32) [⟨Rect.unit (s := ⟨4, ![1, N, 4, 128]⟩) ![0, 0, 3, 0] ![1, N, 1, 128] h3, p3 v3⟩,
      ⟨Rect.unit (s := ⟨4, ![1, N, 4, 128]⟩) ![0, 0, 2, 0] ![1, N, 1, 128] h2, p2 v2⟩,
      ⟨Rect.unit (s := ⟨4, ![1, N, 4, 128]⟩) ![0, 0, 1, 0] ![1, N, 1, 128] h1, p1 v1⟩,
      ⟨Rect.unit (s := ⟨4, ![1, N, 4, 128]⟩) ![0, 0, 0, 0] ![1, N, 1, 128] h0, p0 v0⟩] (ix4 0 r n d) : EReal)
      = X (ix2 r (col 512 n d (by omega))) := by
  refine four _ _ _ _ r n d _ ?_ ?_ ?_ ?_ <;> intro hn
  · exact (q0 _ r d).trans (u0 d _ (show 512 + (128 * n.val + d.val) = 512 + d.val by omega))
  · exact (q1 _ r d).trans (u1 d _ (show 512 + (128 * n.val + d.val) = 640 + d.val by omega))
  · exact (q2 _ r d).trans (u2 d _ (show 512 + (128 * n.val + d.val) = 768 + d.val by omega))
  · exact (q3 _ r d).trans (u3 d _ (show 512 + (128 * n.val + d.val) = 896 + d.val by omega))

/-- The angle of position `p` for frequency `k` of `w` many: `p` times 500000 to the power of `-k / w`. -/
def angle (w p : BitVec 32) (k : ℕ) : EReal :=
  (FloatOps.sitofp (F := Ideal) .f32 p : EReal) * Ideal.pow (Ideal.ofBits .f32 1223959552#32) (Ideal.div (-(FloatOps.sitofp (F := Ideal) .f32 (BitVec.ofNat 32 k) : EReal)) (Ideal.ofBits .f32 w))

/-- The three tables of a position, `l` being how many frequencies there are: cosines twice and then ones; negated sines and then zeros;
   zeros, sines and then zeros. -/
def table (l : ℕ) (w p : BitVec 32) (q : Fin 3) (d : ℕ) : EReal :=
  match q with
  | 0 => if d < l then Ideal.cos (angle w p d) else if d - l < l then Ideal.cos (angle w p (d - l)) else 1
  | 1 => if d < l then -Ideal.sin (angle w p d) else 0
  | 2 => if d < l then 0 else if d - l < l then Ideal.sin (angle w p (d - l)) else 0

/-- A row rotated: its first `l` lanes and its next `l` lanes in pairs, by the angles of position `p`, the other lanes kept. -/
def rotated (k l : ℕ) (w p : BitVec 32) (x : Fin 128 → EReal) (d : Fin 128) : EReal :=
  if d.val < l then x d * Ideal.cos (angle w p d.val) - x (back k d) * Ideal.sin (angle w p d.val)
  else if d.val - l < l then x d * Ideal.cos (angle w p (d.val - l)) + x (back l d) * Ideal.sin (angle w p (d.val - l))
  else x d

/-- Turned by its position's tables, a row is rotated. -/
theorem turn_table (k l : ℕ) (w p : BitVec 32) (x : Fin 128 → EReal) (d : Fin 128) :
    turn k l x (fun q => table l w p q d.val) d = rotated k l w p x d := by
  show x d * table l w p 0 d.val + x (back k d) * table l w p 1 d.val + x (back l d) * table l w p 2 d.val = _
  unfold table rotated
  dsimp only
  split
  · rw [mul_zero, add_zero, mul_neg, ← sub_eq_add_neg]
  · split
    · rw [mul_zero, add_zero]
    · rw [mul_zero, mul_zero, add_zero, add_zero, mul_one]

end Cert.Heads

end
-- ==== Proof.PrepSBlock.lean ====
/- One step of the cached columns' call: its block of new keys is the block of key columns turned by the tables, its block of new
   values the value columns, its block of new indexer keys the indexer's key columns turned by their tables. -/
module

public import proofs.«01_k».proof.Proof.Gen.PrepSIdeal.Value
public import proofs.«01_k».proof.Proof.Heads

@[expose] public section

set_option maxRecDepth 16384

noncomputable section

namespace Cert.PrepSIdeal.Block

open Idealize.ShloMosaic Idealize.ShloMosaic.TcCoe
open Cert.PrepSIdeal Cert.PrepSIdeal.Gen
open Cert.Heads (turn back Turned Copied col lane)

/-! The stores of the four heads' keys. -/

theorem head0 : Turned 64 (k0_pay36 (F := Ideal)) := fun v a b c r d => by
  unfold k0_pay36 k0_pay35
  pointwise
theorem head1 : Turned 64 (k0_pay40 (F := Ideal)) := fun v a b c r d => by
  unfold k0_pay40 k0_pay39
  pointwise
theorem head2 : Turned 64 (k0_pay44 (F := Ideal)) := fun v a b c r d => by
  unfold k0_pay44 k0_pay43
  pointwise
theorem head3 : Turned 64 (k0_pay48 (F := Ideal)) := fun v a b c r d => by
  unfold k0_pay48 k0_pay47
  pointwise

/-! The stores of the four heads' values. -/

theorem copy0 : Copied 64 (k0_pay38 (F := Ideal)) := fun v r d => by
  unfold k0_pay38
  pointwise
theorem copy1 : Copied 64 (k0_pay42 (F := Ideal)) := fun v r d => by
  unfold k0_pay42
  pointwise
theorem copy2 : Copied 64 (k0_pay46 (F := Ideal)) := fun v r d => by
  unfold k0_pay46
  pointwise
theorem copy3 : Copied 64 (k0_pay50 (F := Ideal)) := fun v r d => by
  unfold k0_pay50
  pointwise

/-- The first 64 lanes of the turned indexer rows. -/
theorem index (v : FVec Ideal S64x128 .f32) (a b c : FVec Ideal S1x64x128 .f32) (r : Fin 64) (d : Fin 64) (l : Fin 128) (hl : l.val = d.val) :
    k0_pay74 (F := Ideal) k0_pay3 v a b c (ix3 0 r d)
      = (v (ix2 r l) * a (ix3 0 r l) + v (ix2 r (back 120 l)) * b (ix3 0 r l) + v (ix2 r (back 8 l)) * c (ix3 0 r l) : EReal) := by
  rw [show l = ⟨d.val, by omega⟩ from Fin.ext hl]
  unfold k0_pay74 k0_pay73 k0_pay3
  pointwise
  rw [(by decide : ∀ d : Fin 64, IntOp.cmpi .slt (BitVec.ofNat 32 d.val) 64#32 = 1#1) d]
  exact if_pos rfl

section entry
variable (c : Dev nD) (i : grid0.Coords) (a0 h0 a1 h1 a2 h2 a3 h3 a4 h4 a5 h5 a6 h6 a7 h7 a8 h8 a9 h9 a10 h10 a11 h11 a12 h12 a13 h13)
  (x0 : Vec Ideal S64x2048 .f32) (x1 : Vec Ideal S64x1024 .f32) (x2 : Vec Ideal S64x640 .f32) (x3 x4 : Vec Ideal S3x64x128 .f32)

/-- New keys. -/
theorem keys (r : Fin 64) (n : Fin 4) (d : Fin 128) :
    (out0_A_6 (F := Ideal) c i a0 h0 a1 h1 a2 h2 a3 h3 a4 h4 a5 h5 a6 h6 a7 h7 a8 h8 a9 h9 a10 h10 a11 h11 a12 h12 a13 h13 x0 x1 x2 x3 x4 (ix4 0 r n d) : EReal)
      = turn 112 16 (fun e => x1 (ix2 r (col 0 n e (by omega)))) (fun p => x3 (ix3 p r d)) d := by
  unfold out0_A_6
  refine (View.read_writes_junk_apply_eq_canon _ _ _).trans ?_
  unfold kernelRun0_A
  exact Heads.keys head0 head1 head2 head3 x1 x3 r n d (fun l _ hj => Heads.load h1 x1 rfl rfl r l _ hj) (fun l _ hj => Heads.load h1 x1 rfl rfl r l _ hj)
    (fun l _ hj => Heads.load h1 x1 rfl rfl r l _ hj) (fun l _ hj => Heads.load h1 x1 rfl rfl r l _ hj)
    (Heads.plane h3 x3 0 rfl r d) (Heads.plane h3 x3 1 rfl r d) (Heads.plane h3 x3 2 rfl r d)

/-- New values. -/
theorem values (r : Fin 64) (n : Fin 4) (d : Fin 128) :
    (out0_A_7 (F := Ideal) c i a0 h0 a1 h1 a2 h2 a3 h3 a4 h4 a5 h5 a6 h6 a7 h7 a8 h8 a9 h9 a10 h10 a11 h11 a12 h12 a13 h13 x0 x1 x2 x3 x4 (ix4 0 r n d) : EReal)
      = x1 (ix2 r (col 512 n d (by omega))) := by
  unfold out0_A_7
  refine (View.read_writes_junk_apply_eq_canon _ _ _).trans ?_
  unfold kernelRun0_A kernelRun0_A.sl.r_18
  exact Heads.values copy0 copy1 copy2 copy3 x1 r n d (fun l _ hj => Heads.load h1 x1 rfl rfl r l _ hj) (fun l _ hj => Heads.load h1 x1 rfl rfl r l _ hj)
    (fun l _ hj => Heads.load h1 x1 rfl rfl r l _ hj) (fun l _ hj => Heads.load h1 x1 rfl rfl r l _ hj)

/-- New indexer keys. -/
theorem indexes (r : Fin 64) (d : Fin 64) :
    (out0_A_8 (F := Ideal) c i a0 h0 a1 h1 a2 h2 a3 h3 a4 h4 a5 h5 a6 h6 a7 h7 a8 h8 a9 h9 a10 h10 a11 h11 a12 h12 a13 h13 x0 x1 x2 x3 x4 (ix3 0 r d) : EReal)
      = turn 120 8 (fun e => x2 (ix2 r (lane e))) (fun p => x4 (ix3 p r ⟨d.val, by omega⟩)) ⟨d.val, by omega⟩ := by
  unfold out0_A_8
  refine (View.read_writes_junk_apply_eq_canon _ _ _).trans ?_
  unfold kernelRun0_A kernelRun0_A.sl.r_23
  refine (Heads.one _ r d).trans ?_
  refine (index _ _ _ _ r d ⟨d.val, by omega⟩ rfl).trans ?_
  have hv : ∀ l : Fin 128, View.readAt (Elt Ideal) a2.view (Rect.unit (s := S64x640) ![0, 512] ![64, 128] inb_S64x640_S64x128_0_512).toLoadRect (h2.unread x2) (ix2 r l) = x2 (ix2 r (lane l)) :=
    fun l => Heads.load (o := 512) h2 x2 rfl rfl r l _ rfl
  exact congrArg₂ (· + ·) (congrArg₂ (· + ·) (congrArg₂ (· * ·) (hv _) (Heads.plane h4 x4 0 rfl r _)) (congrArg₂ (· * ·) (hv _) (Heads.plane h4 x4 1 rfl r _)))
    (congrArg₂ (· * ·) (hv _) (Heads.plane h4 x4 2 rfl r _))

end entry

end Cert.PrepSIdeal.Block

end
-- ==== Proof.PrepSRun.lean ====
/- The cached columns' call for the samples: what its result arrays hold after the run. -/
module

public import proofs.«01_k».proof.Proof.PrepSBlock
public import Idealize.ShloMosaic.Lib.StableHlo.RunRead
public import Idealize.ShloMosaic.Lib.Pointwise.Tactic

@[expose] public section

set_option maxRecDepth 16384

noncomputable section

namespace Cert.PrepSIdeal.Results

open Idealize.ShloMosaic Idealize.ShloMosaic.TcCoe Idealize.SL.Sem
open Cert.PrepSIdeal Cert.PrepSIdeal.Gen
open Cert.Heads (table rotated back turn turn_table)

variable (m : (ℓ : Loc nD τ sig) → Buf (Elt Ideal) ℓ) (ρ : Dev nD → PrngReg) (c : Dev nD)

/-- The arguments as launched. -/
abbrev a0 : FVec Ideal S8704x3072 .f32 := m ((c : Thread nD τ).loc main_arg0)
abbrev a1 : FVec Ideal S8704x640 .f32 := m ((c : Thread nD τ).loc main_arg1)

/-- The position of a sample's row. -/
abbrev pos (r : Fin 64) : BitVec 32 := IntOp.addi 4096#32 (BitVec.ofNat 32 r.val)

/-! ### The tables -/

theorem table_16 (q : Fin 3) (r : Fin 64) (d : Fin 128) : (V m c main_v37 : FVec Ideal S3x64x128 .f32) (ix3 q r d) = table 16 1098907648#32 (pos r) q d.val := by
  match q with
  | 0 | 1 | 2 =>
    unfold V table Heads.angle
    dsimp only
    after_reads_simp
    dsimp only [Matrix.cons_val]
    after_reads_simp
    dsimp only [Matrix.cons_val]
    pointwise
    repeat' split
    all_goals first
      | omega
      | (after_reads_simp; pointwise)

set_option maxHeartbeats 1600000 in
/-- Of the indexer's tables the first 64 lanes. -/
theorem table_8 (q : Fin 3) (r : Fin 64) (d : Fin 128) (hd : d.val < 64) : (V m c main_v72 : FVec Ideal S3x64x128 .f32) (ix3 q r d) = table 8 1090519040#32 (pos r) q d.val := by
  have hm : d.val % 64 = d.val := Nat.mod_eq_of_lt hd
  match q with
  | 0 | 1 | 2 =>
    unfold V table Heads.angle
    dsimp only
    after_reads_simp
    dsimp only [Matrix.cons_val]
    after_reads_simp
    dsimp only [Matrix.cons_val]
    pointwise
    simp only [hm]
    repeat' split
    all_goals first
      | omega
      | (after_reads_simp; pointwise)

/-! ### The blocks -/

theorem ix_1 (t : Fin grid0.N) : cc0_transform_1 (grid0.coords t) 0 = 128 + t.val ∧ cc0_transform_1 (grid0.coords t) 1 = 2 :=
  (by decide +kernel : ∀ t : Fin grid0.N, cc0_transform_1 (grid0.coords t) 0 = 128 + t.val ∧ cc0_transform_1 (grid0.coords t) 1 = 2) t
theorem ix_2 (t : Fin grid0.N) : cc0_transform_2 (grid0.coords t) 0 = 128 + t.val ∧ cc0_transform_2 (grid0.coords t) 1 = 0 :=
  (by decide +kernel : ∀ t : Fin grid0.N, cc0_transform_2 (grid0.coords t) 0 = 128 + t.val ∧ cc0_transform_2 (grid0.coords t) 1 = 0) t
theorem ix_3 (t : Fin grid0.N) : cc0_transform_3 (grid0.coords t) 0 = 0 ∧ cc0_transform_3 (grid0.coords t) 1 = 0 ∧ cc0_transform_3 (grid0.coords t) 2 = 0 :=
  (by decide +kernel : ∀ t : Fin grid0.N, cc0_transform_3 (grid0.coords t) 0 = 0 ∧ cc0_transform_3 (grid0.coords t) 1 = 0 ∧ cc0_transform_3 (grid0.coords t) 2 = 0) t
theorem ix_4 (t : Fin grid0.N) : cc0_transform_4 (grid0.coords t) 0 = 0 ∧ cc0_transform_4 (grid0.coords t) 1 = 0 ∧ cc0_transform_4 (grid0.coords t) 2 = 0 :=
  (by decide +kernel : ∀ t : Fin grid0.N, cc0_transform_4 (grid0.coords t) 0 = 0 ∧ cc0_transform_4 (grid0.coords t) 1 = 0 ∧ cc0_transform_4 (grid0.coords t) 2 = 0) t
theorem ix_6 (t : Fin grid0.N) : cc0_transform_6 (grid0.coords t) 0 = t.val ∧ cc0_transform_6 (grid0.coords t) 1 = 0 ∧ cc0_transform_6 (grid0.coords t) 2 = 0 ∧ cc0_transform_6 (grid0.coords t) 3 = 0 :=
  (by decide +kernel : ∀ t : Fin grid0.N, cc0_transform_6 (grid0.coords t) 0 = t.val ∧ cc0_transform_6 (grid0.coords t) 1 = 0 ∧ cc0_transform_6 (grid0.coords t) 2 = 0 ∧ cc0_transform_6 (grid0.coords t) 3 = 0) t
theorem ix_7 (t : Fin grid0.N) : cc0_transform_7 (grid0.coords t) 0 = t.val ∧ cc0_transform_7 (grid0.coords t) 1 = 0 ∧ cc0_transform_7 (grid0.coords t) 2 = 0 ∧ cc0_transform_7 (grid0.coords t) 3 = 0 :=
  (by decide +kernel : ∀ t : Fin grid0.N, cc0_transform_7 (grid0.coords t) 0 = t.val ∧ cc0_transform_7 (grid0.coords t) 1 = 0 ∧ cc0_transform_7 (grid0.coords t) 2 = 0 ∧ cc0_transform_7 (grid0.coords t) 3 = 0) t
theorem ix_8 (t : Fin grid0.N) : cc0_transform_8 (grid0.coords t) 0 = t.val ∧ cc0_transform_8 (grid0.coords t) 1 = 0 ∧ cc0_transform_8 (grid0.coords t) 2 = 0 :=
  (by decide +kernel : ∀ t : Fin grid0.N, cc0_transform_8 (grid0.coords t) 0 = t.val ∧ cc0_transform_8 (grid0.coords t) 1 = 0 ∧ cc0_transform_8 (grid0.coords t) 2 = 0) t

/-- The stream of a step, a row of its block within the stream, and that row in the whole arrays. -/
abbrev stream (t : Fin grid0.N) : Fin 8 := ⟨t.val, lt_of_lt_of_eq t.isLt N_0⟩
abbrev at_ (t : Fin grid0.N) (r : Fin 64) : Fin 64 := r
abbrev row (b : Fin 8) (s : Fin 64) : Fin 8704 := ⟨8192 + (64 * b.val + s.val), by omega⟩

theorem blk_1 (t : Fin grid0.N) (r : Fin 64) (j : Fin 1024) : (iblk m c 1 t : FVec Ideal S64x1024 .f32) (ix2 r j) = a0 m c (ix2 (row (stream t) (at_ t r)) ⟨2048 + j.val, by omega⟩) := by
  unfold iblk
  refine (View.read_apply ..).trans ?_
  show V m c main_arg0 _ = _
  rw [V_main_arg0]
  refine congrArg (a0 m c) (Rows.at2 ?_ ?_)
  · show cc0_transform_1 (grid0.coords t) 0 * 64 + 1 * r.val = 8192 + (64 * t.val + r.val); rw [(ix_1 t).1]; omega
  · show cc0_transform_1 (grid0.coords t) 1 * 1024 + 1 * j.val = 2048 + j.val; rw [(ix_1 t).2]; omega
theorem blk_2 (t : Fin grid0.N) (r : Fin 64) (j : Fin 640) : (iblk m c 2 t : FVec Ideal S64x640 .f32) (ix2 r j) = a1 m c (ix2 (row (stream t) (at_ t r)) j) := by
  unfold iblk
  refine (View.read_apply ..).trans ?_
  show V m c main_arg1 _ = _
  rw [V_main_arg1]
  refine congrArg (a1 m c) (Rows.at2 ?_ ?_)
  · show cc0_transform_2 (grid0.coords t) 0 * 64 + 1 * r.val = 8192 + (64 * t.val + r.val); rw [(ix_2 t).1]; omega
  · show cc0_transform_2 (grid0.coords t) 1 * 640 + 1 * j.val = j.val; rw [(ix_2 t).2]; omega
theorem blk_3 (t : Fin grid0.N) (q : Fin 3) (r : Fin 64) (d : Fin 128) : (iblk m c 3 t : FVec Ideal S3x64x128 .f32) (ix3 q r d) = table 16 1098907648#32 (pos (at_ t r)) q d.val := by
  unfold iblk
  refine (View.read_apply ..).trans (Eq.trans ?_ (table_16 m c q (at_ t r) d))
  show (V m c main_v37 : FVec Ideal S3x64x128 .f32) _ = _
  refine congrArg (V m c main_v37 : FVec Ideal S3x64x128 .f32) (Heads.at3 ?_ ?_ ?_)
  · show cc0_transform_3 (grid0.coords t) 0 * 3 + 1 * q.val = q.val; rw [(ix_3 t).1]; omega
  · show cc0_transform_3 (grid0.coords t) 1 * 64 + 1 * r.val = r.val; rw [(ix_3 t).2.1]; omega
  · show cc0_transform_3 (grid0.coords t) 2 * 128 + 1 * d.val = d.val; rw [(ix_3 t).2.2]; omega
theorem blk_4 (t : Fin grid0.N) (q : Fin 3) (r : Fin 64) (d : Fin 128) (hd : d.val < 64) : (iblk m c 4 t : FVec Ideal S3x64x128 .f32) (ix3 q r d) = table 8 1090519040#32 (pos (at_ t r)) q d.val := by
  unfold iblk
  refine (View.read_apply ..).trans (Eq.trans ?_ (table_8 m c q (at_ t r) d hd))
  show (V m c main_v72 : FVec Ideal S3x64x128 .f32) _ = _
  refine congrArg (V m c main_v72 : FVec Ideal S3x64x128 .f32) (Heads.at3 ?_ ?_ ?_)
  · show cc0_transform_4 (grid0.coords t) 0 * 3 + 1 * q.val = q.val; rw [(ix_4 t).1]; omega
  · show cc0_transform_4 (grid0.coords t) 1 * 64 + 1 * r.val = r.val; rw [(ix_4 t).2.1]; omega
  · show cc0_transform_4 (grid0.coords t) 2 * 128 + 1 * d.val = d.val; rw [(ix_4 t).2.2]; omega

/-! ### The results -/

/-- New keys, new values and new indexer keys of a stream's row. -/
def key (b : Fin 8) (s : Fin 64) (n : Fin 4) (d : Fin 128) : EReal :=
  rotated 112 16 1098907648#32 (pos s) (fun e => a0 m c (ix2 (row b s) ⟨2048 + (128 * n.val + e.val), by omega⟩)) d
def val (b : Fin 8) (s : Fin 64) (n : Fin 4) (d : Fin 128) : EReal := a0 m c (ix2 (row b s) ⟨2560 + (128 * n.val + d.val), by omega⟩)
def idx (b : Fin 8) (s : Fin 64) (d : Fin 64) : EReal :=
  rotated 120 8 1090519040#32 (pos s) (fun e => a1 m c (ix2 (row b s) ⟨512 + e.val, by omega⟩)) ⟨d.val, by omega⟩

theorem flushed_key (t : Fin grid0.N) (r : Fin 64) (n : Fin 4) (d : Fin 128) :
    ((dats m 0 c).flushed 6 t : FVec Ideal S1x64x4x128 .f32) (ix4 0 r n d) = key m c (stream t) (at_ t r) n d := by
  rw [Value.flushed6_A]
  refine (Block.keys c (grid0.coords t) _ _ _ _ _ _ _ _ _ _ _ _ _ _ _ _ _ _ _ _ _ _ _ _ _ _ _ _ _ _ _ _ _ r n d).trans ?_
  refine Eq.trans ?_ (turn_table ..)
  have hv : ∀ e, (iblk m c 1 t : FVec Ideal S64x1024 .f32) (ix2 r (Heads.col 0 n e (by omega))) = a0 m c (ix2 (row (stream t) (at_ t r)) ⟨2048 + (128 * n.val + e.val), by omega⟩) := fun e =>
    (blk_1 m c t r _).trans (congrArg (a0 m c) (Rows.at2 rfl (show 2048 + (0 + (128 * n.val + e.val)) = 2048 + (128 * n.val + e.val) by omega)))
  exact congrArg₂ (fun x y => turn 112 16 x y d) (funext hv) (funext fun q => blk_3 m c t q r d)
theorem flushed_val (t : Fin grid0.N) (r : Fin 64) (n : Fin 4) (d : Fin 128) :
    ((dats m 0 c).flushed 7 t : FVec Ideal S1x64x4x128 .f32) (ix4 0 r n d) = val m c (stream t) (at_ t r) n d := by
  rw [Value.flushed7_A]
  refine (Block.values c (grid0.coords t) _ _ _ _ _ _ _ _ _ _ _ _ _ _ _ _ _ _ _ _ _ _ _ _ _ _ _ _ _ _ _ _ _ r n d).trans ?_
  exact (blk_1 m c t r _).trans (congrArg (a0 m c) (Rows.at2 rfl (show 2048 + (512 + (128 * n.val + d.val)) = 2560 + (128 * n.val + d.val) by omega)))
theorem flushed_idx (t : Fin grid0.N) (r : Fin 64) (d : Fin 64) :
    ((dats m 0 c).flushed 8 t : FVec Ideal S1x64x64 .f32) (ix3 0 r d) = idx m c (stream t) (at_ t r) d := by
  rw [Value.flushed8_A]
  refine (Block.indexes c (grid0.coords t) _ _ _ _ _ _ _ _ _ _ _ _ _ _ _ _ _ _ _ _ _ _ _ _ _ _ _ _ _ _ _ _ _ r d).trans ?_
  refine Eq.trans ?_ (turn_table ..)
  exact congrArg₂ (fun x y => turn 120 8 x y ⟨d.val, by omega⟩) (funext fun e => blk_2 m c t r (Heads.lane e)) (funext fun q => blk_4 m c t q r ⟨d.val, by omega⟩ d.isLt)

/-- A row of a stream is in one step's block. -/
theorem step (b : Fin 8) (s : Fin 64) : ∃ (t : Fin grid0.N) (r : Fin 64), stream t = b ∧ at_ t r = s :=
  ⟨⟨b.val, lt_of_lt_of_eq b.isLt N_0.symm⟩, s, rfl, rfl⟩

/-- The result arrays after the run. -/
def keys : FVec Ideal S8x64x4x128 .f32 := (dats m 0 c).arrAt 6 cfg0.N
def vals : FVec Ideal S8x64x4x128 .f32 := (dats m 0 c).arrAt 7 cfg0.N
def idxs : FVec Ideal S8x64x64 .f32 := (dats m 0 c).arrAt 8 cfg0.N

theorem keys_entry (b : Fin 8) (s : Fin 64) (n : Fin 4) (d : Fin 128) : keys m c (ix4 b s n d) = key m c b s n d := by
  obtain ⟨t, r, rfl, rfl⟩ := step b s
  have e : (((cfg0.win 6).blk t).view.read (Elt Ideal) (keys m c) : FVec Ideal S1x64x4x128 .f32) (ix4 0 r n d) = keys m c (ix4 (stream t) (at_ t r) n d) := by
    refine (View.read_apply ..).trans ?_
    refine congrArg (keys m c) (Heads.at4 ?_ ?_ ?_ ?_)
    · show cc0_transform_6 (grid0.coords t) 0 * 1 + 1 * 0 = t.val; rw [(ix_6 t).1]; omega
    · show cc0_transform_6 (grid0.coords t) 1 * 64 + 1 * r.val = r.val; rw [(ix_6 t).2.1]; omega
    · show cc0_transform_6 (grid0.coords t) 2 * 4 + 1 * n.val = n.val; rw [(ix_6 t).2.2.1]; omega
    · show cc0_transform_6 (grid0.coords t) 3 * 128 + 1 * d.val = d.val; rw [(ix_6 t).2.2.2]; omega
  exact e.symm.trans ((congrFun (Value.blocks6 m c t (flush0_6 t)) (ix4 0 r n d)).trans (flushed_key m c t r n d))
theorem vals_entry (b : Fin 8) (s : Fin 64) (n : Fin 4) (d : Fin 128) : vals m c (ix4 b s n d) = val m c b s n d := by
  obtain ⟨t, r, rfl, rfl⟩ := step b s
  have e : (((cfg0.win 7).blk t).view.read (Elt Ideal) (vals m c) : FVec Ideal S1x64x4x128 .f32) (ix4 0 r n d) = vals m c (ix4 (stream t) (at_ t r) n d) := by
    refine (View.read_apply ..).trans ?_
    refine congrArg (vals m c) (Heads.at4 ?_ ?_ ?_ ?_)
    · show cc0_transform_7 (grid0.coords t) 0 * 1 + 1 * 0 = t.val; rw [(ix_7 t).1]; omega
    · show cc0_transform_7 (grid0.coords t) 1 * 64 + 1 * r.val = r.val; rw [(ix_7 t).2.1]; omega
    · show cc0_transform_7 (grid0.coords t) 2 * 4 + 1 * n.val = n.val; rw [(ix_7 t).2.2.1]; omega
    · show cc0_transform_7 (grid0.coords t) 3 * 128 + 1 * d.val = d.val; rw [(ix_7 t).2.2.2]; omega
  exact e.symm.trans ((congrFun (Value.blocks7 m c t (flush0_7 t)) (ix4 0 r n d)).trans (flushed_val m c t r n d))
theorem idxs_entry (b : Fin 8) (s : Fin 64) (d : Fin 64) : idxs m c (ix3 b s d) = idx m c b s d := by
  obtain ⟨t, r, rfl, rfl⟩ := step b s
  have e : (((cfg0.win 8).blk t).view.read (Elt Ideal) (idxs m c) : FVec Ideal S1x64x64 .f32) (ix3 0 r d) = idxs m c (ix3 (stream t) (at_ t r) d) := by
    refine (View.read_apply ..).trans ?_
    refine congrArg (idxs m c) (Heads.at3 ?_ ?_ ?_)
    · show cc0_transform_8 (grid0.coords t) 0 * 1 + 1 * 0 = t.val; rw [(ix_8 t).1]; omega
    · show cc0_transform_8 (grid0.coords t) 1 * 64 + 1 * r.val = r.val; rw [(ix_8 t).2.1]; omega
    · show cc0_transform_8 (grid0.coords t) 2 * 64 + 1 * d.val = d.val; rw [(ix_8 t).2.2]; omega
  exact e.symm.trans ((congrFun (Value.blocks8 m c t (flush0_8 t)) (ix3 0 r d)).trans (flushed_idx m c t r d))
end Cert.PrepSIdeal.Results

end
-- ==== Proof.PrepSSame.lean ====
/- The cached columns of the samples: new keys, values and indexer keys, the same in the kernel's call and in the reference. -/
module

public import proofs.«01_k».proof.Defs
public import proofs.«01_k».proof.Proof.PrepSRun
public import proofs.«01_k».proof.Proof.Gen.PrepS.Frame
public import proofs.«01_k».proof.Proof.Gen.PrepSRefIdeal.Run
public import proofs.«01_k».proof.Proof.Gen.PrepSRefIdeal.Read
public import Idealize.ShloMosaic.Adequacy

@[expose] public section

set_option maxRecDepth 16384

noncomputable section

namespace Cert.PrepSSame

open Idealize.ShloMosaic Idealize.ShloMosaic.TcCoe Idealize.ShloMosaic.Tactic Idealize.SL.Sem
open Cert.PrepSIdeal.Results (pos row key val idx)

section reference
open Cert.PrepSRefIdeal Cert.PrepSRefIdeal.Read
open Cert.Heads (rotated)

variable (x0 : S8704x3072.Idx → EReal) (x1 : S8704x640.Idx → EReal)

/-- The reference rotates the key columns. -/
theorem reference_key (b : Fin 8) (s : Fin 64) (n : Fin 4) (d : Fin 128) :
    val_main_v38 (F := Ideal) x0 (ix4 b s n d) = rotated 112 16 1098907648#32 (pos s) (fun e => x0 (ix2 (row b s) ⟨2048 + (128 * n.val + e.val), by omega⟩)) d := by
  have at_ : ∀ {u v : Fin 8704} {j k : Fin 3072}, u.val = v.val → j.val = k.val → x0 (ix2 u j) = x0 (ix2 v k) := fun hu hj => congrArg x0 (Rows.at2 hu hj)
  unfold val_main_v38 val_main_v37 val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_cst_0 val_main_v8 val_main_v7
    val_main_cst val_main_v6 val_main_v5 val_main_v4 val_main_v3 val_main_v2 val_main_v1 val_main_c val_main_v0
  unfold rotated Heads.angle
  pointwise
  repeat' split
  all_goals first
    | omega
    | exact congrArg₂ _ (congrArg₂ _ (at_ (by first | rfl | (dsimp only; omega)) (by first | rfl | (dsimp only; omega))) rfl) (congrArg₂ _ (at_ (by first | rfl | (dsimp only; omega)) (by first | rfl | (dsimp only; omega))) rfl)
    | exact at_ (by first | rfl | (dsimp only; omega)) (by first | rfl | (dsimp only; omega))

/-- The reference takes the value columns. -/
theorem reference_val (b : Fin 8) (s : Fin 64) (n : Fin 4) (d : Fin 128) :
    val_main_v40 (F := Ideal) x0 (ix4 b s n d) = x0 (ix2 (row b s) ⟨2560 + (128 * n.val + d.val), by omega⟩) := by
  unfold val_main_v40 val_main_v39
  pointwise
  exact congrArg x0 (Rows.at2 (show 8192 + (b.val * 64 + s.val) = 8192 + (64 * b.val + s.val) by omega) (show 2560 + (n.val * 128 + d.val) = 2560 + (128 * n.val + d.val) by omega))

/-- The reference rotates the indexer's key columns. -/
theorem reference_idx (b : Fin 8) (s : Fin 64) (d : Fin 64) :
    val_main_v77 (F := Ideal) x1 (ix3 b s d) = rotated 120 8 1090519040#32 (pos s) (fun e => x1 (ix2 (row b s) ⟨512 + e.val, by omega⟩)) ⟨d.val, by omega⟩ := by
  have at_ : ∀ {u v : Fin 8704} {j k : Fin 640}, u.val = v.val → j.val = k.val → x1 (ix2 u j) = x1 (ix2 v k) := fun hu hj => congrArg x1 (Rows.at2 hu hj)
  unfold val_main_v77 val_main_v76 val_main_v75 val_main_v74 val_main_v73 val_main_v72 val_main_v71 val_main_v70 val_main_v69 val_main_v68 val_main_v67
    val_main_v66 val_main_v65 val_main_v64 val_main_v63 val_main_v62 val_main_v61 val_main_v60 val_main_v59 val_main_v58 val_main_v57 val_main_v56
    val_main_v55 val_main_v54 val_main_v53 val_main_v52 val_main_v51 val_main_v50 val_main_v49 val_main_v48 val_main_v47 val_main_cst_2 val_main_v46
    val_main_v45 val_main_cst_1 val_main_v44 val_main_v43 val_main_v42 val_main_v41 val_main_v2 val_main_v1 val_main_c val_main_v0
  unfold rotated Heads.angle
  pointwise
  repeat' split
  all_goals first
    | omega
    | exact congrArg₂ _ (congrArg₂ _ (at_ (by first | rfl | (dsimp only; omega)) (by first | rfl | (dsimp only; omega))) rfl) (congrArg₂ _ (at_ (by first | rfl | (dsimp only; omega)) (by first | rfl | (dsimp only; omega))) rfl)
    | exact at_ (by first | rfl | (dsimp only; omega)) (by first | rfl | (dsimp only; omega))

end reference

/-! ### The claims -/

theorem frame_reference : @quiescent_PrepSRefIdeal Cert.PrepSRefIdeal.Gen.facts := fun m ρ _ =>
  (θ_run _ _ _).mono (fun r h => ⟨fun c => (h c).2.2.2, sem_eq_zero_of_no_sems rfl r.2⟩) (Cert.PrepSRefIdeal.Value.run m ρ)

/-- New keys, new values and new indexer keys are the reference's. -/
theorem same : @algebraic_PrepSIdeal_PrepSRefIdeal Cert.PrepSIdeal.Gen.facts Cert.PrepSRefIdeal.Gen.facts := by
  intro m ρ m' ρ' _ hm
  refine ⟨fun c => Cert.PrepSIdeal.Results.keys m c, fun c => Cert.PrepSIdeal.Results.vals m c, fun c => Cert.PrepSIdeal.Results.idxs m c,
    (θ_run _ _ _).mono (fun r h c => ⟨(h c).2.1, (h c).2.2.1, (h c).2.2.2.1, (h c).2.2.2.2.2.2.2.2.2⟩) (Cert.PrepSIdeal.Value.run_blocks m ρ), ?_⟩
  refine (θ_run _ _ _).mono (fun r h c => ⟨(h c).1.trans ?_, (h c).2.1.trans ?_, (h c).2.2.1.trans ?_, (h c).2.2.2⟩) (Cert.PrepSRefIdeal.Value.run m' ρ')
  all_goals obtain ⟨e0, e1⟩ := hm c
  · refine (Cert.PrepSRefIdeal.Read.val_main_v38_eq _ _).trans ?_
    rw [e0]
    funext i
    obtain ⟨b, s, n, d, rfl⟩ : ∃ (b : Fin 8) (s : Fin 64) (n : Fin 4) (d : Fin 128), i = ix4 b s n d := ⟨i 0, i 1, i 2, i 3, Heads.at4 rfl rfl rfl rfl⟩
    exact (reference_key _ b s n d).trans (Cert.PrepSIdeal.Results.keys_entry m c b s n d).symm
  · refine (Cert.PrepSRefIdeal.Read.val_main_v40_eq _).trans ?_
    rw [e0]
    funext i
    obtain ⟨b, s, n, d, rfl⟩ : ∃ (b : Fin 8) (s : Fin 64) (n : Fin 4) (d : Fin 128), i = ix4 b s n d := ⟨i 0, i 1, i 2, i 3, Heads.at4 rfl rfl rfl rfl⟩
    exact (reference_val _ b s n d).trans (Cert.PrepSIdeal.Results.vals_entry m c b s n d).symm
  · refine (Cert.PrepSRefIdeal.Read.val_main_v77_eq _ _).trans ?_
    rw [e1]
    funext i
    obtain ⟨b, s, d, rfl⟩ : ∃ (b : Fin 8) (s : Fin 64) (d : Fin 64), i = ix3 b s d := ⟨i 0, i 1, i 2, Heads.at3 rfl rfl rfl⟩
    exact (reference_idx _ b s d).trans (Cert.PrepSIdeal.Results.idxs_entry m c b s d).symm

end Cert.PrepSSame

end
-- ==== Proof.PrepPBlock.lean ====
/- One step of the cached columns' call: its block of new keys is the block of key columns turned by the tables, its block of new
   values the value columns, its block of new indexer keys the indexer's key columns turned by their tables. -/
module

public import proofs.«01_k».proof.Proof.Gen.PrepPIdeal.Value
public import proofs.«01_k».proof.Proof.Heads

@[expose] public section

set_option maxRecDepth 16384

noncomputable section

namespace Cert.PrepPIdeal.Block

open Idealize.ShloMosaic Idealize.ShloMosaic.TcCoe
open Cert.PrepPIdeal Cert.PrepPIdeal.Gen
open Cert.Heads (turn back Turned Copied col lane)

/-! The stores of the four heads' keys. -/

theorem head0 : Turned 256 (k0_pay36 (F := Ideal)) := fun v a b c r d => by
  unfold k0_pay36 k0_pay35
  pointwise
theorem head1 : Turned 256 (k0_pay40 (F := Ideal)) := fun v a b c r d => by
  unfold k0_pay40 k0_pay39
  pointwise
theorem head2 : Turned 256 (k0_pay44 (F := Ideal)) := fun v a b c r d => by
  unfold k0_pay44 k0_pay43
  pointwise
theorem head3 : Turned 256 (k0_pay48 (F := Ideal)) := fun v a b c r d => by
  unfold k0_pay48 k0_pay47
  pointwise

/-! The stores of the four heads' values. -/

theorem copy0 : Copied 256 (k0_pay38 (F := Ideal)) := fun v r d => by
  unfold k0_pay38
  pointwise
theorem copy1 : Copied 256 (k0_pay42 (F := Ideal)) := fun v r d => by
  unfold k0_pay42
  pointwise
theorem copy2 : Copied 256 (k0_pay46 (F := Ideal)) := fun v r d => by
  unfold k0_pay46
  pointwise
theorem copy3 : Copied 256 (k0_pay50 (F := Ideal)) := fun v r d => by
  unfold k0_pay50
  pointwise

/-- The first 64 lanes of the turned indexer rows. -/
theorem index (v : FVec Ideal S256x128 .f32) (a b c : FVec Ideal S1x256x128 .f32) (r : Fin 256) (d : Fin 64) (l : Fin 128) (hl : l.val = d.val) :
    k0_pay74 (F := Ideal) k0_pay3 v a b c (ix3 0 r d)
      = (v (ix2 r l) * a (ix3 0 r l) + v (ix2 r (back 120 l)) * b (ix3 0 r l) + v (ix2 r (back 8 l)) * c (ix3 0 r l) : EReal) := by
  rw [show l = ⟨d.val, by omega⟩ from Fin.ext hl]
  unfold k0_pay74 k0_pay73 k0_pay3
  pointwise
  rw [(by decide : ∀ d : Fin 64, IntOp.cmpi .slt (BitVec.ofNat 32 d.val) 64#32 = 1#1) d]
  exact if_pos rfl

section entry
variable (c : Dev nD) (i : grid0.Coords) (a0 h0 a1 h1 a2 h2 a3 h3 a4 h4 a5 h5 a6 h6 a7 h7 a8 h8 a9 h9 a10 h10 a11 h11 a12 h12 a13 h13)
  (x0 : Vec Ideal S256x2048 .f32) (x1 : Vec Ideal S256x1024 .f32) (x2 : Vec Ideal S256x640 .f32) (x3 x4 : Vec Ideal S3x256x128 .f32)

/-- New keys. -/
theorem keys (r : Fin 256) (n : Fin 4) (d : Fin 128) :
    (out0_A_6 (F := Ideal) c i a0 h0 a1 h1 a2 h2 a3 h3 a4 h4 a5 h5 a6 h6 a7 h7 a8 h8 a9 h9 a10 h10 a11 h11 a12 h12 a13 h13 x0 x1 x2 x3 x4 (ix4 0 r n d) : EReal)
      = turn 112 16 (fun e => x1 (ix2 r (col 0 n e (by omega)))) (fun p => x3 (ix3 p r d)) d := by
  unfold out0_A_6
  refine (View.read_writes_junk_apply_eq_canon _ _ _).trans ?_
  unfold kernelRun0_A
  exact Heads.keys head0 head1 head2 head3 x1 x3 r n d (fun l _ hj => Heads.load h1 x1 rfl rfl r l _ hj) (fun l _ hj => Heads.load h1 x1 rfl rfl r l _ hj)
    (fun l _ hj => Heads.load h1 x1 rfl rfl r l _ hj) (fun l _ hj => Heads.load h1 x1 rfl rfl r l _ hj)
    (Heads.plane h3 x3 0 rfl r d) (Heads.plane h3 x3 1 rfl r d) (Heads.plane h3 x3 2 rfl r d)

/-- New values. -/
theorem values (r : Fin 256) (n : Fin 4) (d : Fin 128) :
    (out0_A_7 (F := Ideal) c i a0 h0 a1 h1 a2 h2 a3 h3 a4 h4 a5 h5 a6 h6 a7 h7 a8 h8 a9 h9 a10 h10 a11 h11 a12 h12 a13 h13 x0 x1 x2 x3 x4 (ix4 0 r n d) : EReal)
      = x1 (ix2 r (col 512 n d (by omega))) := by
  unfold out0_A_7
  refine (View.read_writes_junk_apply_eq_canon _ _ _).trans ?_
  unfold kernelRun0_A kernelRun0_A.sl.r_18
  exact Heads.values copy0 copy1 copy2 copy3 x1 r n d (fun l _ hj => Heads.load h1 x1 rfl rfl r l _ hj) (fun l _ hj => Heads.load h1 x1 rfl rfl r l _ hj)
    (fun l _ hj => Heads.load h1 x1 rfl rfl r l _ hj) (fun l _ hj => Heads.load h1 x1 rfl rfl r l _ hj)

/-- New indexer keys. -/
theorem indexes (r : Fin 256) (d : Fin 64) :
    (out0_A_8 (F := Ideal) c i a0 h0 a1 h1 a2 h2 a3 h3 a4 h4 a5 h5 a6 h6 a7 h7 a8 h8 a9 h9 a10 h10 a11 h11 a12 h12 a13 h13 x0 x1 x2 x3 x4 (ix3 0 r d) : EReal)
      = turn 120 8 (fun e => x2 (ix2 r (lane e))) (fun p => x4 (ix3 p r ⟨d.val, by omega⟩)) ⟨d.val, by omega⟩ := by
  unfold out0_A_8
  refine (View.read_writes_junk_apply_eq_canon _ _ _).trans ?_
  unfold kernelRun0_A kernelRun0_A.sl.r_23
  refine (Heads.one _ r d).trans ?_
  refine (index _ _ _ _ r d ⟨d.val, by omega⟩ rfl).trans ?_
  have hv : ∀ l : Fin 128, View.readAt (Elt Ideal) a2.view (Rect.unit (s := S256x640) ![0, 512] ![256, 128] inb_S256x640_S256x128_0_512).toLoadRect (h2.unread x2) (ix2 r l) = x2 (ix2 r (lane l)) :=
    fun l => Heads.load (o := 512) h2 x2 rfl rfl r l _ rfl
  exact congrArg₂ (· + ·) (congrArg₂ (· + ·) (congrArg₂ (· * ·) (hv _) (Heads.plane h4 x4 0 rfl r _)) (congrArg₂ (· * ·) (hv _) (Heads.plane h4 x4 1 rfl r _)))
    (congrArg₂ (· * ·) (hv _) (Heads.plane h4 x4 2 rfl r _))

end entry

end Cert.PrepPIdeal.Block

end
-- ==== Proof.PrepPRun.lean ====
/- The cached columns' call for the prompts: what its result arrays hold after the run. -/
module

public import proofs.«01_k».proof.Proof.PrepPBlock
public import Idealize.ShloMosaic.Lib.StableHlo.RunRead
public import Idealize.ShloMosaic.Lib.Pointwise.Tactic

@[expose] public section

set_option maxRecDepth 16384

noncomputable section

namespace Cert.PrepPIdeal.Results

open Idealize.ShloMosaic Idealize.ShloMosaic.TcCoe Idealize.SL.Sem
open Cert.PrepPIdeal Cert.PrepPIdeal.Gen
open Cert.Heads (table rotated back turn turn_table)

variable (m : (ℓ : Loc nD τ sig) → Buf (Elt Ideal) ℓ) (ρ : Dev nD → PrngReg) (c : Dev nD)

/-- The arguments as launched. -/
abbrev a0 : FVec Ideal S8704x3072 .f32 := m ((c : Thread nD τ).loc main_arg0)
abbrev a1 : FVec Ideal S8704x640 .f32 := m ((c : Thread nD τ).loc main_arg1)

/-- The position of a prompt's row. -/
abbrev pos (r : Fin 4096) : BitVec 32 := IntOp.addi 0#32 (BitVec.ofNat 32 r.val)

/-! ### The tables -/

set_option maxHeartbeats 1600000 in
theorem table_16 (q : Fin 3) (r : Fin 4096) (d : Fin 128) : (V m c main_v37 : FVec Ideal S3x4096x128 .f32) (ix3 q r d) = table 16 1098907648#32 (pos r) q d.val := by
  match q with
  | 0 | 1 | 2 =>
    unfold V table Heads.angle
    dsimp only
    after_reads_simp
    dsimp only [Matrix.cons_val]
    after_reads_simp
    dsimp only [Matrix.cons_val]
    pointwise
    repeat' split
    all_goals first
      | omega
      | (after_reads_simp; pointwise)

set_option maxHeartbeats 1600000 in
/-- Of the indexer's tables the first 64 lanes. -/
theorem table_8 (q : Fin 3) (r : Fin 4096) (d : Fin 128) (hd : d.val < 64) : (V m c main_v72 : FVec Ideal S3x4096x128 .f32) (ix3 q r d) = table 8 1090519040#32 (pos r) q d.val := by
  have hm : d.val % 64 = d.val := Nat.mod_eq_of_lt hd
  match q with
  | 0 | 1 | 2 =>
    unfold V table Heads.angle
    dsimp only
    after_reads_simp
    dsimp only [Matrix.cons_val]
    after_reads_simp
    dsimp only [Matrix.cons_val]
    pointwise
    simp only [hm]
    repeat' split
    all_goals first
      | omega
      | (after_reads_simp; pointwise)

/-! ### The blocks -/

theorem ix_1 (t : Fin grid0.N) : cc0_transform_1 (grid0.coords t) 0 = t.val ∧ cc0_transform_1 (grid0.coords t) 1 = 2 :=
  (by decide +kernel : ∀ t : Fin grid0.N, cc0_transform_1 (grid0.coords t) 0 = t.val ∧ cc0_transform_1 (grid0.coords t) 1 = 2) t
theorem ix_2 (t : Fin grid0.N) : cc0_transform_2 (grid0.coords t) 0 = t.val ∧ cc0_transform_2 (grid0.coords t) 1 = 0 :=
  (by decide +kernel : ∀ t : Fin grid0.N, cc0_transform_2 (grid0.coords t) 0 = t.val ∧ cc0_transform_2 (grid0.coords t) 1 = 0) t
theorem ix_3 (t : Fin grid0.N) : cc0_transform_3 (grid0.coords t) 0 = 0 ∧ cc0_transform_3 (grid0.coords t) 1 = t.val % 16 ∧ cc0_transform_3 (grid0.coords t) 2 = 0 :=
  (by decide +kernel : ∀ t : Fin grid0.N, cc0_transform_3 (grid0.coords t) 0 = 0 ∧ cc0_transform_3 (grid0.coords t) 1 = t.val % 16 ∧ cc0_transform_3 (grid0.coords t) 2 = 0) t
theorem ix_4 (t : Fin grid0.N) : cc0_transform_4 (grid0.coords t) 0 = 0 ∧ cc0_transform_4 (grid0.coords t) 1 = t.val % 16 ∧ cc0_transform_4 (grid0.coords t) 2 = 0 :=
  (by decide +kernel : ∀ t : Fin grid0.N, cc0_transform_4 (grid0.coords t) 0 = 0 ∧ cc0_transform_4 (grid0.coords t) 1 = t.val % 16 ∧ cc0_transform_4 (grid0.coords t) 2 = 0) t
theorem ix_6 (t : Fin grid0.N) : cc0_transform_6 (grid0.coords t) 0 = t.val / 16 ∧ cc0_transform_6 (grid0.coords t) 1 = t.val % 16 ∧ cc0_transform_6 (grid0.coords t) 2 = 0 ∧ cc0_transform_6 (grid0.coords t) 3 = 0 :=
  (by decide +kernel : ∀ t : Fin grid0.N, cc0_transform_6 (grid0.coords t) 0 = t.val / 16 ∧ cc0_transform_6 (grid0.coords t) 1 = t.val % 16 ∧ cc0_transform_6 (grid0.coords t) 2 = 0 ∧ cc0_transform_6 (grid0.coords t) 3 = 0) t
theorem ix_7 (t : Fin grid0.N) : cc0_transform_7 (grid0.coords t) 0 = t.val / 16 ∧ cc0_transform_7 (grid0.coords t) 1 = t.val % 16 ∧ cc0_transform_7 (grid0.coords t) 2 = 0 ∧ cc0_transform_7 (grid0.coords t) 3 = 0 :=
  (by decide +kernel : ∀ t : Fin grid0.N, cc0_transform_7 (grid0.coords t) 0 = t.val / 16 ∧ cc0_transform_7 (grid0.coords t) 1 = t.val % 16 ∧ cc0_transform_7 (grid0.coords t) 2 = 0 ∧ cc0_transform_7 (grid0.coords t) 3 = 0) t
theorem ix_8 (t : Fin grid0.N) : cc0_transform_8 (grid0.coords t) 0 = t.val / 16 ∧ cc0_transform_8 (grid0.coords t) 1 = t.val % 16 ∧ cc0_transform_8 (grid0.coords t) 2 = 0 :=
  (by decide +kernel : ∀ t : Fin grid0.N, cc0_transform_8 (grid0.coords t) 0 = t.val / 16 ∧ cc0_transform_8 (grid0.coords t) 1 = t.val % 16 ∧ cc0_transform_8 (grid0.coords t) 2 = 0) t

/-- The stream of a step, a row of its block within the stream, and that row in the whole arrays. -/
abbrev stream (t : Fin grid0.N) : Fin 2 := ⟨t.val / 16, by have := lt_of_lt_of_eq t.isLt N_0; omega⟩
abbrev at_ (t : Fin grid0.N) (r : Fin 256) : Fin 4096 := ⟨256 * (t.val % 16) + r.val, by omega⟩
abbrev row (b : Fin 2) (s : Fin 4096) : Fin 8704 := ⟨4096 * b.val + s.val, by omega⟩

theorem blk_1 (t : Fin grid0.N) (r : Fin 256) (j : Fin 1024) : (iblk m c 1 t : FVec Ideal S256x1024 .f32) (ix2 r j) = a0 m c (ix2 (row (stream t) (at_ t r)) ⟨2048 + j.val, by omega⟩) := by
  unfold iblk
  refine (View.read_apply ..).trans ?_
  show V m c main_arg0 _ = _
  rw [V_main_arg0]
  refine congrArg (a0 m c) (Rows.at2 ?_ ?_)
  · show cc0_transform_1 (grid0.coords t) 0 * 256 + 1 * r.val = 4096 * (t.val / 16) + (256 * (t.val % 16) + r.val); rw [(ix_1 t).1]; omega
  · show cc0_transform_1 (grid0.coords t) 1 * 1024 + 1 * j.val = 2048 + j.val; rw [(ix_1 t).2]; omega
theorem blk_2 (t : Fin grid0.N) (r : Fin 256) (j : Fin 640) : (iblk m c 2 t : FVec Ideal S256x640 .f32) (ix2 r j) = a1 m c (ix2 (row (stream t) (at_ t r)) j) := by
  unfold iblk
  refine (View.read_apply ..).trans ?_
  show V m c main_arg1 _ = _
  rw [V_main_arg1]
  refine congrArg (a1 m c) (Rows.at2 ?_ ?_)
  · show cc0_transform_2 (grid0.coords t) 0 * 256 + 1 * r.val = 4096 * (t.val / 16) + (256 * (t.val % 16) + r.val); rw [(ix_2 t).1]; omega
  · show cc0_transform_2 (grid0.coords t) 1 * 640 + 1 * j.val = j.val; rw [(ix_2 t).2]; omega
theorem blk_3 (t : Fin grid0.N) (q : Fin 3) (r : Fin 256) (d : Fin 128) : (iblk m c 3 t : FVec Ideal S3x256x128 .f32) (ix3 q r d) = table 16 1098907648#32 (pos (at_ t r)) q d.val := by
  unfold iblk
  refine (View.read_apply ..).trans (Eq.trans ?_ (table_16 m c q (at_ t r) d))
  show (V m c main_v37 : FVec Ideal S3x4096x128 .f32) _ = _
  refine congrArg (V m c main_v37 : FVec Ideal S3x4096x128 .f32) (Heads.at3 ?_ ?_ ?_)
  · show cc0_transform_3 (grid0.coords t) 0 * 3 + 1 * q.val = q.val; rw [(ix_3 t).1]; omega
  · show cc0_transform_3 (grid0.coords t) 1 * 256 + 1 * r.val = 256 * (t.val % 16) + r.val; rw [(ix_3 t).2.1]; omega
  · show cc0_transform_3 (grid0.coords t) 2 * 128 + 1 * d.val = d.val; rw [(ix_3 t).2.2]; omega
theorem blk_4 (t : Fin grid0.N) (q : Fin 3) (r : Fin 256) (d : Fin 128) (hd : d.val < 64) : (iblk m c 4 t : FVec Ideal S3x256x128 .f32) (ix3 q r d) = table 8 1090519040#32 (pos (at_ t r)) q d.val := by
  unfold iblk
  refine (View.read_apply ..).trans (Eq.trans ?_ (table_8 m c q (at_ t r) d hd))
  show (V m c main_v72 : FVec Ideal S3x4096x128 .f32) _ = _
  refine congrArg (V m c main_v72 : FVec Ideal S3x4096x128 .f32) (Heads.at3 ?_ ?_ ?_)
  · show cc0_transform_4 (grid0.coords t) 0 * 3 + 1 * q.val = q.val; rw [(ix_4 t).1]; omega
  · show cc0_transform_4 (grid0.coords t) 1 * 256 + 1 * r.val = 256 * (t.val % 16) + r.val; rw [(ix_4 t).2.1]; omega
  · show cc0_transform_4 (grid0.coords t) 2 * 128 + 1 * d.val = d.val; rw [(ix_4 t).2.2]; omega

/-! ### The results -/

/-- New keys, new values and new indexer keys of a stream's row. -/
def key (b : Fin 2) (s : Fin 4096) (n : Fin 4) (d : Fin 128) : EReal :=
  rotated 112 16 1098907648#32 (pos s) (fun e => a0 m c (ix2 (row b s) ⟨2048 + (128 * n.val + e.val), by omega⟩)) d
def val (b : Fin 2) (s : Fin 4096) (n : Fin 4) (d : Fin 128) : EReal := a0 m c (ix2 (row b s) ⟨2560 + (128 * n.val + d.val), by omega⟩)
def idx (b : Fin 2) (s : Fin 4096) (d : Fin 64) : EReal :=
  rotated 120 8 1090519040#32 (pos s) (fun e => a1 m c (ix2 (row b s) ⟨512 + e.val, by omega⟩)) ⟨d.val, by omega⟩

theorem flushed_key (t : Fin grid0.N) (r : Fin 256) (n : Fin 4) (d : Fin 128) :
    ((dats m 0 c).flushed 6 t : FVec Ideal S1x256x4x128 .f32) (ix4 0 r n d) = key m c (stream t) (at_ t r) n d := by
  rw [Value.flushed6_A]
  refine (Block.keys c (grid0.coords t) _ _ _ _ _ _ _ _ _ _ _ _ _ _ _ _ _ _ _ _ _ _ _ _ _ _ _ _ _ _ _ _ _ r n d).trans ?_
  refine Eq.trans ?_ (turn_table ..)
  have hv : ∀ e, (iblk m c 1 t : FVec Ideal S256x1024 .f32) (ix2 r (Heads.col 0 n e (by omega))) = a0 m c (ix2 (row (stream t) (at_ t r)) ⟨2048 + (128 * n.val + e.val), by omega⟩) := fun e =>
    (blk_1 m c t r _).trans (congrArg (a0 m c) (Rows.at2 rfl (show 2048 + (0 + (128 * n.val + e.val)) = 2048 + (128 * n.val + e.val) by omega)))
  exact congrArg₂ (fun x y => turn 112 16 x y d) (funext hv) (funext fun q => blk_3 m c t q r d)
theorem flushed_val (t : Fin grid0.N) (r : Fin 256) (n : Fin 4) (d : Fin 128) :
    ((dats m 0 c).flushed 7 t : FVec Ideal S1x256x4x128 .f32) (ix4 0 r n d) = val m c (stream t) (at_ t r) n d := by
  rw [Value.flushed7_A]
  refine (Block.values c (grid0.coords t) _ _ _ _ _ _ _ _ _ _ _ _ _ _ _ _ _ _ _ _ _ _ _ _ _ _ _ _ _ _ _ _ _ r n d).trans ?_
  exact (blk_1 m c t r _).trans (congrArg (a0 m c) (Rows.at2 rfl (show 2048 + (512 + (128 * n.val + d.val)) = 2560 + (128 * n.val + d.val) by omega)))
theorem flushed_idx (t : Fin grid0.N) (r : Fin 256) (d : Fin 64) :
    ((dats m 0 c).flushed 8 t : FVec Ideal S1x256x64 .f32) (ix3 0 r d) = idx m c (stream t) (at_ t r) d := by
  rw [Value.flushed8_A]
  refine (Block.indexes c (grid0.coords t) _ _ _ _ _ _ _ _ _ _ _ _ _ _ _ _ _ _ _ _ _ _ _ _ _ _ _ _ _ _ _ _ _ r d).trans ?_
  refine Eq.trans ?_ (turn_table ..)
  exact congrArg₂ (fun x y => turn 120 8 x y ⟨d.val, by omega⟩) (funext fun e => blk_2 m c t r (Heads.lane e)) (funext fun q => blk_4 m c t q r ⟨d.val, by omega⟩ d.isLt)

/-- A row of a stream is in one step's block. -/
theorem step (b : Fin 2) (s : Fin 4096) : ∃ (t : Fin grid0.N) (r : Fin 256), stream t = b ∧ at_ t r = s :=
  ⟨⟨16 * b.val + s.val / 256, lt_of_lt_of_eq (by omega : 16 * b.val + s.val / 256 < 32) N_0.symm⟩, ⟨s.val % 256, by omega⟩,
    Fin.ext (show (16 * b.val + s.val / 256) / 16 = b.val by omega), Fin.ext (show 256 * ((16 * b.val + s.val / 256) % 16) + s.val % 256 = s.val by omega)⟩

/-- The result arrays after the run. -/
def keys : FVec Ideal S2x4096x4x128 .f32 := (dats m 0 c).arrAt 6 cfg0.N
def vals : FVec Ideal S2x4096x4x128 .f32 := (dats m 0 c).arrAt 7 cfg0.N
def idxs : FVec Ideal S2x4096x64 .f32 := (dats m 0 c).arrAt 8 cfg0.N

theorem keys_entry (b : Fin 2) (s : Fin 4096) (n : Fin 4) (d : Fin 128) : keys m c (ix4 b s n d) = key m c b s n d := by
  obtain ⟨t, r, rfl, rfl⟩ := step b s
  have e : (((cfg0.win 6).blk t).view.read (Elt Ideal) (keys m c) : FVec Ideal S1x256x4x128 .f32) (ix4 0 r n d) = keys m c (ix4 (stream t) (at_ t r) n d) := by
    refine (View.read_apply ..).trans ?_
    refine congrArg (keys m c) (Heads.at4 ?_ ?_ ?_ ?_)
    · show cc0_transform_6 (grid0.coords t) 0 * 1 + 1 * 0 = t.val / 16; rw [(ix_6 t).1]; omega
    · show cc0_transform_6 (grid0.coords t) 1 * 256 + 1 * r.val = 256 * (t.val % 16) + r.val; rw [(ix_6 t).2.1]; omega
    · show cc0_transform_6 (grid0.coords t) 2 * 4 + 1 * n.val = n.val; rw [(ix_6 t).2.2.1]; omega
    · show cc0_transform_6 (grid0.coords t) 3 * 128 + 1 * d.val = d.val; rw [(ix_6 t).2.2.2]; omega
  exact e.symm.trans ((congrFun (Value.blocks6 m c t (flush0_6 t)) (ix4 0 r n d)).trans (flushed_key m c t r n d))
theorem vals_entry (b : Fin 2) (s : Fin 4096) (n : Fin 4) (d : Fin 128) : vals m c (ix4 b s n d) = val m c b s n d := by
  obtain ⟨t, r, rfl, rfl⟩ := step b s
  have e : (((cfg0.win 7).blk t).view.read (Elt Ideal) (vals m c) : FVec Ideal S1x256x4x128 .f32) (ix4 0 r n d) = vals m c (ix4 (stream t) (at_ t r) n d) := by
    refine (View.read_apply ..).trans ?_
    refine congrArg (vals m c) (Heads.at4 ?_ ?_ ?_ ?_)
    · show cc0_transform_7 (grid0.coords t) 0 * 1 + 1 * 0 = t.val / 16; rw [(ix_7 t).1]; omega
    · show cc0_transform_7 (grid0.coords t) 1 * 256 + 1 * r.val = 256 * (t.val % 16) + r.val; rw [(ix_7 t).2.1]; omega
    · show cc0_transform_7 (grid0.coords t) 2 * 4 + 1 * n.val = n.val; rw [(ix_7 t).2.2.1]; omega
    · show cc0_transform_7 (grid0.coords t) 3 * 128 + 1 * d.val = d.val; rw [(ix_7 t).2.2.2]; omega
  exact e.symm.trans ((congrFun (Value.blocks7 m c t (flush0_7 t)) (ix4 0 r n d)).trans (flushed_val m c t r n d))
theorem idxs_entry (b : Fin 2) (s : Fin 4096) (d : Fin 64) : idxs m c (ix3 b s d) = idx m c b s d := by
  obtain ⟨t, r, rfl, rfl⟩ := step b s
  have e : (((cfg0.win 8).blk t).view.read (Elt Ideal) (idxs m c) : FVec Ideal S1x256x64 .f32) (ix3 0 r d) = idxs m c (ix3 (stream t) (at_ t r) d) := by
    refine (View.read_apply ..).trans ?_
    refine congrArg (idxs m c) (Heads.at3 ?_ ?_ ?_)
    · show cc0_transform_8 (grid0.coords t) 0 * 1 + 1 * 0 = t.val / 16; rw [(ix_8 t).1]; omega
    · show cc0_transform_8 (grid0.coords t) 1 * 256 + 1 * r.val = 256 * (t.val % 16) + r.val; rw [(ix_8 t).2.1]; omega
    · show cc0_transform_8 (grid0.coords t) 2 * 64 + 1 * d.val = d.val; rw [(ix_8 t).2.2]; omega
  exact e.symm.trans ((congrFun (Value.blocks8 m c t (flush0_8 t)) (ix3 0 r d)).trans (flushed_idx m c t r d))
end Cert.PrepPIdeal.Results

end
-- ==== Proof.PrepPSame.lean ====
/- The cached columns of the prompts: new keys, values and indexer keys, the same in the kernel's call and in the reference. -/
module

public import proofs.«01_k».proof.Defs
public import proofs.«01_k».proof.Proof.PrepPRun
public import proofs.«01_k».proof.Proof.Gen.PrepP.Frame
public import proofs.«01_k».proof.Proof.Gen.PrepPRefIdeal.Run
public import proofs.«01_k».proof.Proof.Gen.PrepPRefIdeal.Read
public import Idealize.ShloMosaic.Adequacy

@[expose] public section

set_option maxRecDepth 16384

noncomputable section

namespace Cert.PrepPSame

open Idealize.ShloMosaic Idealize.ShloMosaic.TcCoe Idealize.ShloMosaic.Tactic Idealize.SL.Sem
open Cert.PrepPIdeal.Results (pos row key val idx)

section reference
open Cert.PrepPRefIdeal Cert.PrepPRefIdeal.Read
open Cert.Heads (rotated)

variable (x0 : S8704x3072.Idx → EReal) (x1 : S8704x640.Idx → EReal)

/-- The reference rotates the key columns. -/
theorem reference_key (b : Fin 2) (s : Fin 4096) (n : Fin 4) (d : Fin 128) :
    val_main_v38 (F := Ideal) x0 (ix4 b s n d) = rotated 112 16 1098907648#32 (pos s) (fun e => x0 (ix2 (row b s) ⟨2048 + (128 * n.val + e.val), by omega⟩)) d := by
  have at_ : ∀ {u v : Fin 8704} {j k : Fin 3072}, u.val = v.val → j.val = k.val → x0 (ix2 u j) = x0 (ix2 v k) := fun hu hj => congrArg x0 (Rows.at2 hu hj)
  unfold val_main_v38 val_main_v37 val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_cst_0 val_main_v8 val_main_v7
    val_main_cst val_main_v6 val_main_v5 val_main_v4 val_main_v3 val_main_v2 val_main_v1 val_main_c val_main_v0
  unfold rotated Heads.angle
  pointwise
  repeat' split
  all_goals first
    | omega
    | exact congrArg₂ _ (congrArg₂ _ (at_ (by first | rfl | (dsimp only; omega)) (by first | rfl | (dsimp only; omega))) rfl) (congrArg₂ _ (at_ (by first | rfl | (dsimp only; omega)) (by first | rfl | (dsimp only; omega))) rfl)
    | exact at_ (by first | rfl | (dsimp only; omega)) (by first | rfl | (dsimp only; omega))

/-- The reference takes the value columns. -/
theorem reference_val (b : Fin 2) (s : Fin 4096) (n : Fin 4) (d : Fin 128) :
    val_main_v40 (F := Ideal) x0 (ix4 b s n d) = x0 (ix2 (row b s) ⟨2560 + (128 * n.val + d.val), by omega⟩) := by
  unfold val_main_v40 val_main_v39
  pointwise
  exact congrArg x0 (Rows.at2 (show b.val * 4096 + s.val = 4096 * b.val + s.val by omega) (show 2560 + (n.val * 128 + d.val) = 2560 + (128 * n.val + d.val) by omega))

/-- The reference rotates the indexer's key columns. -/
theorem reference_idx (b : Fin 2) (s : Fin 4096) (d : Fin 64) :
    val_main_v77 (F := Ideal) x1 (ix3 b s d) = rotated 120 8 1090519040#32 (pos s) (fun e => x1 (ix2 (row b s) ⟨512 + e.val, by omega⟩)) ⟨d.val, by omega⟩ := by
  have at_ : ∀ {u v : Fin 8704} {j k : Fin 640}, u.val = v.val → j.val = k.val → x1 (ix2 u j) = x1 (ix2 v k) := fun hu hj => congrArg x1 (Rows.at2 hu hj)
  unfold val_main_v77 val_main_v76 val_main_v75 val_main_v74 val_main_v73 val_main_v72 val_main_v71 val_main_v70 val_main_v69 val_main_v68 val_main_v67
    val_main_v66 val_main_v65 val_main_v64 val_main_v63 val_main_v62 val_main_v61 val_main_v60 val_main_v59 val_main_v58 val_main_v57 val_main_v56
    val_main_v55 val_main_v54 val_main_v53 val_main_v52 val_main_v51 val_main_v50 val_main_v49 val_main_v48 val_main_v47 val_main_cst_2 val_main_v46
    val_main_v45 val_main_cst_1 val_main_v44 val_main_v43 val_main_v42 val_main_v41 val_main_v2 val_main_v1 val_main_c val_main_v0
  unfold rotated Heads.angle
  pointwise
  repeat' split
  all_goals first
    | omega
    | exact congrArg₂ _ (congrArg₂ _ (at_ (by first | rfl | (dsimp only; omega)) (by first | rfl | (dsimp only; omega))) rfl) (congrArg₂ _ (at_ (by first | rfl | (dsimp only; omega)) (by first | rfl | (dsimp only; omega))) rfl)
    | exact at_ (by first | rfl | (dsimp only; omega)) (by first | rfl | (dsimp only; omega))

end reference

/-! ### The claims -/

theorem frame_reference : @quiescent_PrepPRefIdeal Cert.PrepPRefIdeal.Gen.facts := fun m ρ _ =>
  (θ_run _ _ _).mono (fun r h => ⟨fun c => (h c).2.2.2, sem_eq_zero_of_no_sems rfl r.2⟩) (Cert.PrepPRefIdeal.Value.run m ρ)

/-- New keys, new values and new indexer keys are the reference's. -/
theorem same : @algebraic_PrepPIdeal_PrepPRefIdeal Cert.PrepPIdeal.Gen.facts Cert.PrepPRefIdeal.Gen.facts := by
  intro m ρ m' ρ' _ hm
  refine ⟨fun c => Cert.PrepPIdeal.Results.keys m c, fun c => Cert.PrepPIdeal.Results.vals m c, fun c => Cert.PrepPIdeal.Results.idxs m c,
    (θ_run _ _ _).mono (fun r h c => ⟨(h c).2.1, (h c).2.2.1, (h c).2.2.2.1, (h c).2.2.2.2.2.2.2.2.2⟩) (Cert.PrepPIdeal.Value.run_blocks m ρ), ?_⟩
  refine (θ_run _ _ _).mono (fun r h c => ⟨(h c).1.trans ?_, (h c).2.1.trans ?_, (h c).2.2.1.trans ?_, (h c).2.2.2⟩) (Cert.PrepPRefIdeal.Value.run m' ρ')
  all_goals obtain ⟨e0, e1⟩ := hm c
  · refine (Cert.PrepPRefIdeal.Read.val_main_v38_eq _ _).trans ?_
    rw [e0]
    funext i
    obtain ⟨b, s, n, d, rfl⟩ : ∃ (b : Fin 2) (s : Fin 4096) (n : Fin 4) (d : Fin 128), i = ix4 b s n d := ⟨i 0, i 1, i 2, i 3, Heads.at4 rfl rfl rfl rfl⟩
    exact (reference_key _ b s n d).trans (Cert.PrepPIdeal.Results.keys_entry m c b s n d).symm
  · refine (Cert.PrepPRefIdeal.Read.val_main_v40_eq _).trans ?_
    rw [e0]
    funext i
    obtain ⟨b, s, n, d, rfl⟩ : ∃ (b : Fin 2) (s : Fin 4096) (n : Fin 4) (d : Fin 128), i = ix4 b s n d := ⟨i 0, i 1, i 2, i 3, Heads.at4 rfl rfl rfl rfl⟩
    exact (reference_val _ b s n d).trans (Cert.PrepPIdeal.Results.vals_entry m c b s n d).symm
  · refine (Cert.PrepPRefIdeal.Read.val_main_v77_eq _ _).trans ?_
    rw [e1]
    funext i
    obtain ⟨b, s, d, rfl⟩ : ∃ (b : Fin 2) (s : Fin 4096) (d : Fin 64), i = ix3 b s d := ⟨i 0, i 1, i 2, Heads.at3 rfl rfl rfl⟩
    exact (reference_idx _ b s d).trans (Cert.PrepPIdeal.Results.idxs_entry m c b s d).symm

end Cert.PrepPSame

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Pre_finite_inputs
public import proofs.«01_k».proof.Proof.Gen.GdnOut
public import proofs.«01_k».proof.Proof.Gen.GdnOut.Frame
public import proofs.«01_k».proof.Proof.Gen.GdnOutIdeal
public import proofs.«01_k».proof.Proof.Gen.GdnOutIdeal.Frame
public import proofs.«01_k».proof.Proof.Gen.GdnOutRefIdeal
public import proofs.«01_k».proof.Proof.Gen.GdnOutRefIdeal.Run
public import proofs.«01_k».proof.Proof.Gen.GdnOutRefIdeal.Read
public import proofs.«01_k».proof.Proof.Gen.InQkIdeal
public import proofs.«01_k».proof.Proof.Gen.InQkIdeal.Launch
public import proofs.«01_k».proof.Proof.Gen.InQkIdeal.Skeleton
public import proofs.«01_k».proof.Proof.Gen.InQk
public import proofs.«01_k».proof.Proof.Gen.InV
public import proofs.«01_k».proof.Proof.Gen.InVIdeal
public import proofs.«01_k».proof.Proof.Gen.InZ
public import proofs.«01_k».proof.Proof.Gen.InZIdeal
public import proofs.«01_k».proof.Proof.Gen.InQkRefIdeal
public import proofs.«01_k».proof.Proof.Gen.InQkRefIdeal.Run
public import proofs.«01_k».proof.Proof.Gen.InQkRefIdeal.Read
public import proofs.«01_k».proof.Proof.Gen.InVRefIdeal
public import proofs.«01_k».proof.Proof.Gen.InVRefIdeal.Run
public import proofs.«01_k».proof.Proof.Gen.InVRefIdeal.Read
public import proofs.«01_k».proof.Proof.Gen.InZRefIdeal
public import proofs.«01_k».proof.Proof.Gen.InZRefIdeal.Run
public import proofs.«01_k».proof.Proof.Gen.InZRefIdeal.Read
public import proofs.«01_k».proof.Proof.Gen.DsaOut
public import proofs.«01_k».proof.Proof.Gen.DsaOut.Frame
public import proofs.«01_k».proof.Proof.Gen.DsaOutIdeal
public import proofs.«01_k».proof.Proof.Gen.DsaOutIdeal.Frame
public import proofs.«01_k».proof.Proof.Gen.DsaOutRefIdeal
public import proofs.«01_k».proof.Proof.Gen.DsaOutRefIdeal.Run
public import proofs.«01_k».proof.Proof.Gen.DsaOutRefIdeal.Read
public import proofs.«01_k».proof.Proof.Gen.PeerQ
public import proofs.«01_k».proof.Proof.Gen.PeerQIdeal
public import proofs.«01_k».proof.Proof.Gen.PeerQIdeal.Launch
public import proofs.«01_k».proof.Proof.Gen.PeerQIdeal.Skeleton
public import proofs.«01_k».proof.Proof.Gen.PeerQRefIdeal
public import proofs.«01_k».proof.Proof.Gen.PeerQRefIdeal.Run
public import proofs.«01_k».proof.Proof.Gen.PeerQRefIdeal.Read
public import proofs.«01_k».proof.Proof.Gen.KeptRows
public import proofs.«01_k».proof.Proof.Gen.KeptRows.Run
public import proofs.«01_k».proof.Proof.Gen.KeptRowsIdeal
public import proofs.«01_k».proof.Proof.Gen.KeptRowsIdeal.Run
public import proofs.«01_k».proof.Proof.Gen.KeptRowsIdeal.Read
public import proofs.«01_k».proof.Proof.Gen.KeptRowsRefIdeal
public import proofs.«01_k».proof.Proof.Gen.KeptRowsRefIdeal.Run
public import proofs.«01_k».proof.Proof.Gen.KeptRowsRefIdeal.Read
public import proofs.«01_k».proof.Proof.Gen.PrepS
public import proofs.«01_k».proof.Proof.Gen.PrepS.Frame
public import proofs.«01_k».proof.Proof.Gen.PrepSIdeal
public import proofs.«01_k».proof.Proof.Gen.PrepSIdeal.Frame
public import proofs.«01_k».proof.Proof.Gen.PrepSIdeal.Value
public import proofs.«01_k».proof.Proof.Gen.PrepSRefIdeal
public import proofs.«01_k».proof.Proof.Gen.PrepSRefIdeal.Run
public import proofs.«01_k».proof.Proof.Gen.PrepSRefIdeal.Read
public import proofs.«01_k».proof.Proof.Gen.PrepP
public import proofs.«01_k».proof.Proof.Gen.PrepP.Frame
public import proofs.«01_k».proof.Proof.Gen.PrepPIdeal
public import proofs.«01_k».proof.Proof.Gen.PrepPIdeal.Frame
public import proofs.«01_k».proof.Proof.Gen.PrepPIdeal.Value
public import proofs.«01_k».proof.Proof.Gen.PrepPRefIdeal
public import proofs.«01_k».proof.Proof.Gen.PrepPRefIdeal.Run
public import proofs.«01_k».proof.Proof.Gen.PrepPRefIdeal.Read
public import proofs.«01_k».proof.Proof.Finite
public import proofs.«01_k».proof.Proof.Same
public import proofs.«01_k».proof.Proof.OutSame
public import proofs.«01_k».proof.Proof.InSame
public import proofs.«01_k».proof.Proof.DsaSame
public import proofs.«01_k».proof.Proof.QuerySame
public import proofs.«01_k».proof.Proof.KeptSame
public import proofs.«01_k».proof.Proof.PrepSSame
public import proofs.«01_k».proof.Proof.PrepPSame
public import Idealize.ShloMosaic.Adequacy
public import Idealize.ShloMosaic.Init

@[expose] public section

noncomputable section

namespace Cert.Proof

open Idealize.ShloMosaic Idealize.SL.Sem Cert.Kernel

/-- The reference keeps its arguments, and has no semaphore. -/
theorem frame_reference : quiescent_ReferenceIdeal := fun m ρ _ =>
  (θ_run _ _ _).mono
    (fun r h => ⟨fun c => (h c).2.2, sem_eq_zero_of_no_sems rfl r.2⟩)
    (Cert.ReferenceIdeal.StepRun.run_iter m ρ (fun c n => Nat.rec (Cert.ReferenceIdeal.StepRun.initState m c) (fun n s => Cert.ReferenceIdeal.Step.step n s) n)
      (fun _ => rfl) (fun _ _ => rfl))

/-- The kernel's results are the reference's. -/
theorem same : algebraic_KernelIdeal_ReferenceIdeal_pre_finite_inputs := by
  intro m ρ m' ρ' hpre hm
  have H := fun c => Cert.Pre_finite_inputs.Read.finite m hpre c
  refine ⟨fun c => (Cert.KernelIdeal.Gen.dats m 0 c).arrAt 15 Cert.KernelIdeal.cfg0.N, fun c => (Cert.KernelIdeal.Gen.dats m 0 c).arrAt 16 Cert.KernelIdeal.cfg0.N,
    Cert.KernelIdeal.Value.run_blocks m ρ, ?_⟩
  refine (θ_run _ _ _).mono (fun r h c => ?_)
    (Cert.ReferenceIdeal.StepRun.run_iter m' ρ' (fun c => Cert.ReferenceIdeal.Read.iter (Cert.KernelIdeal.Results.args m c)) (fun c => ?_) (fun c n => rfl))
  · obtain ⟨-, -, e2, -, -, -, -, -, -, e9, -, e11⟩ := hm c
    refine ⟨(h c).1.trans ?_, (h c).2.1.trans (Cert.Same.states m c (H c)), (h c).2.2⟩
    rw [e2, e9, e11]
    exact Cert.Same.rows m c (H c)
  · obtain ⟨e0, e1, -, e3, e4, e5, e6, e7, e8, -, e10, -⟩ := hm c
    unfold Cert.ReferenceIdeal.StepRun.initState
    rw [e0, e1, e3, e4, e5, e6, e7, e8, e10]
    rfl

theorem claim : Cert.Claim := ⟨Cert.Kernel.Gen.facts, Cert.KernelIdeal.Gen.facts, Cert.ReferenceIdeal.Gen.facts,
  Cert.GdnOut.Gen.facts, Cert.GdnOutIdeal.Gen.facts, Cert.GdnOutRefIdeal.Gen.facts,
  Cert.InQk.Gen.facts, Cert.InQkIdeal.Gen.facts, Cert.InQkRefIdeal.Gen.facts, Cert.InV.Gen.facts, Cert.InVIdeal.Gen.facts, Cert.InVRefIdeal.Gen.facts,
  Cert.InZ.Gen.facts, Cert.InZIdeal.Gen.facts, Cert.InZRefIdeal.Gen.facts,
  Cert.DsaOut.Gen.facts, Cert.DsaOutIdeal.Gen.facts, Cert.DsaOutRefIdeal.Gen.facts, Cert.PeerQ.Gen.facts, Cert.PeerQIdeal.Gen.facts, Cert.PeerQRefIdeal.Gen.facts,
  Cert.KeptRows.Gen.facts, Cert.KeptRowsIdeal.Gen.facts, Cert.KeptRowsRefIdeal.Gen.facts,
  Cert.PrepS.Gen.facts, Cert.PrepSIdeal.Gen.facts, Cert.PrepSRefIdeal.Gen.facts, Cert.PrepP.Gen.facts, Cert.PrepPIdeal.Gen.facts, Cert.PrepPRefIdeal.Gen.facts, Cert.Pre_finite_inputs.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  Cert.OutSame.frame,
  Cert.OutSame.frame_ideal,
  Cert.OutSame.frame_reference,
  Cert.InSame.frame_qk,
  Cert.InSame.frame_qk_ideal,
  Cert.InSame.frame_qk_reference,
  Cert.InSame.frame_v,
  Cert.InSame.frame_v_ideal,
  Cert.InSame.frame_v_reference,
  Cert.InSame.frame_z,
  Cert.InSame.frame_z_ideal,
  Cert.InSame.frame_z_reference,
  Cert.DsaSame.frame,
  Cert.DsaSame.frame_ideal,
  Cert.DsaSame.frame_reference,
  Cert.QuerySame.frame,
  Cert.QuerySame.frame_ideal,
  Cert.QuerySame.frame_reference,
  Cert.KeptSame.frame,
  Cert.KeptSame.frame_ideal,
  Cert.KeptSame.frame_reference,
  fun m ρ _ => Cert.PrepS.Gen.frame m ρ,
  fun m ρ _ => Cert.PrepSIdeal.Gen.frame m ρ,
  Cert.PrepSSame.frame_reference,
  fun m ρ _ => Cert.PrepP.Gen.frame m ρ,
  fun m ρ _ => Cert.PrepPIdeal.Gen.frame m ρ,
  Cert.PrepPSame.frame_reference,
  trivial,
  same,
  trivial,
  Cert.OutSame.same,
  trivial,
  Cert.InSame.same_qk,
  trivial,
  Cert.InSame.same_v,
  trivial,
  Cert.InSame.same_z,
  trivial,
  Cert.DsaSame.same,
  trivial,
  Cert.QuerySame.same,
  trivial,
  Cert.KeptSame.same,
  trivial,
  Cert.PrepSSame.same,
  trivial,
  Cert.PrepPSame.same⟩

end Cert.Proof

end
